-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_LoDx (m : (ℓ : Loc Cert.LoDx.nD Cert.LoDx.τ Cert.LoDx.sig) → Buf (Elt Bits) ℓ) : Prop :=
  True

def Pre_LoDxIdeal (m : (ℓ : Loc Cert.LoDxIdeal.nD Cert.LoDxIdeal.τ Cert.LoDxIdeal.sig) → Buf (Elt Ideal) ℓ) : Prop :=
  True

def Pre_LoDxRefIdeal (m : (ℓ : Loc Cert.LoDxRefIdeal.nD Cert.LoDxRefIdeal.τ Cert.LoDxRefIdeal.sig) → Buf (Elt Ideal) ℓ) : Prop :=
  True

def Pre_HiDx (m : (ℓ : Loc Cert.HiDx.nD Cert.HiDx.τ Cert.HiDx.sig) → Buf (Elt Bits) ℓ) : Prop :=
  True

def Pre_HiDxIdeal (m : (ℓ : Loc Cert.HiDxIdeal.nD Cert.HiDxIdeal.τ Cert.HiDxIdeal.sig) → Buf (Elt Ideal) ℓ) : Prop :=
  True

def Pre_HiDxRefIdeal (m : (ℓ : Loc Cert.HiDxRefIdeal.nD Cert.HiDxRefIdeal.τ Cert.HiDxRefIdeal.sig) → Buf (Elt Ideal) ℓ) : Prop :=
  True

def Pre_LoDw (m : (ℓ : Loc Cert.LoDw.nD Cert.LoDw.τ Cert.LoDw.sig) → Buf (Elt Bits) ℓ) : Prop :=
  True

def Pre_LoDwIdeal (m : (ℓ : Loc Cert.LoDwIdeal.nD Cert.LoDwIdeal.τ Cert.LoDwIdeal.sig) → Buf (Elt Ideal) ℓ) : Prop :=
  True

def Pre_LoDwRefIdeal (m : (ℓ : Loc Cert.LoDwRefIdeal.nD Cert.LoDwRefIdeal.τ Cert.LoDwRefIdeal.sig) → Buf (Elt Ideal) ℓ) : Prop :=
  True

def Pre_HiDw (m : (ℓ : Loc Cert.HiDw.nD Cert.HiDw.τ Cert.HiDw.sig) → Buf (Elt Bits) ℓ) : Prop :=
  True

def Pre_HiDwIdeal (m : (ℓ : Loc Cert.HiDwIdeal.nD Cert.HiDwIdeal.τ Cert.HiDwIdeal.sig) → Buf (Elt Ideal) ℓ) : Prop :=
  True

def Pre_HiDwRefIdeal (m : (ℓ : Loc Cert.HiDwRefIdeal.nD Cert.HiDwRefIdeal.τ Cert.HiDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_DilDx (m : (ℓ : Loc Cert.DilDx.nD Cert.DilDx.τ Cert.DilDx.sig) → Buf (Elt Bits) ℓ) : Prop :=
  True

def Pre_DilDxIdeal (m : (ℓ : Loc Cert.DilDxIdeal.nD Cert.DilDxIdeal.τ Cert.DilDxIdeal.sig) → Buf (Elt Ideal) ℓ) : Prop :=
  True

def Pre_DilDxRefIdeal (m : (ℓ : Loc Cert.DilDxRefIdeal.nD Cert.DilDxRefIdeal.τ Cert.DilDxRefIdeal.sig) → Buf (Elt Ideal) ℓ) : Prop :=
  True

def Pre_DilDw (m : (ℓ : Loc Cert.DilDw.nD Cert.DilDw.τ Cert.DilDw.sig) → Buf (Elt Bits) ℓ) : Prop :=
  True

def Pre_DilDwIdeal (m : (ℓ : Loc Cert.DilDwIdeal.nD Cert.DilDwIdeal.τ Cert.DilDwIdeal.sig) → Buf (Elt Ideal) ℓ) : Prop :=
  True

def Pre_DilDwRefIdeal (m : (ℓ : Loc Cert.DilDwRefIdeal.nD Cert.DilDwRefIdeal.τ Cert.DilDwRefIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxRefIdeal (m : (ℓ : Loc Cert.MixDxRefIdeal.nD Cert.MixDxRefIdeal.τ Cert.MixDxRefIdeal.sig) → Buf (Elt Ideal) ℓ) : Prop :=
  True

def Pre_StickDw (m : (ℓ : Loc Cert.StickDw.nD Cert.StickDw.τ Cert.StickDw.sig) → Buf (Elt Bits) ℓ) : Prop :=
  True

def Pre_StickDwIdeal (m : (ℓ : Loc Cert.StickDwIdeal.nD Cert.StickDwIdeal.τ Cert.StickDwIdeal.sig) → Buf (Elt Ideal) ℓ) : Prop :=
  True

def Pre_StickDwRefIdeal (m : (ℓ : Loc Cert.StickDwRefIdeal.nD Cert.StickDwRefIdeal.τ Cert.StickDwRefIdeal.sig) → Buf (Elt Ideal) ℓ) : Prop :=
  True

def Pre_RetDw (m : (ℓ : Loc Cert.RetDw.nD Cert.RetDw.τ Cert.RetDw.sig) → Buf (Elt Bits) ℓ) : Prop :=
  True

def Pre_RetDwIdeal (m : (ℓ : Loc Cert.RetDwIdeal.nD Cert.RetDwIdeal.τ Cert.RetDwIdeal.sig) → Buf (Elt Ideal) ℓ) : Prop :=
  True

def Pre_RetDwRefIdeal (m : (ℓ : Loc Cert.RetDwRefIdeal.nD Cert.RetDwRefIdeal.τ Cert.RetDwRefIdeal.sig) → Buf (Elt Ideal) ℓ) : Prop :=
  True

def Pre_Lo (m : (ℓ : Loc Cert.Lo.nD Cert.Lo.τ Cert.Lo.sig) → Buf (Elt Bits) ℓ) : Prop :=
  True

def Pre_LoIdeal (m : (ℓ : Loc Cert.LoIdeal.nD Cert.LoIdeal.τ Cert.LoIdeal.sig) → Buf (Elt Ideal) ℓ) : Prop :=
  True

def Pre_LoRefIdeal (m : (ℓ : Loc Cert.LoRefIdeal.nD Cert.LoRefIdeal.τ Cert.LoRefIdeal.sig) → Buf (Elt Ideal) ℓ) : Prop :=
  True

def Pre_Hi (m : (ℓ : Loc Cert.Hi.nD Cert.Hi.τ Cert.Hi.sig) → Buf (Elt Bits) ℓ) : Prop :=
  True

def Pre_HiIdeal (m : (ℓ : Loc Cert.HiIdeal.nD Cert.HiIdeal.τ Cert.HiIdeal.sig) → Buf (Elt Ideal) ℓ) : Prop :=
  True

def Pre_HiRefIdeal (m : (ℓ : Loc Cert.HiRefIdeal.nD Cert.HiRefIdeal.τ Cert.HiRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def Pre_DilRefIdeal (m : (ℓ : Loc Cert.DilRefIdeal.nD Cert.DilRefIdeal.τ Cert.DilRefIdeal.sig) → Buf (Elt Ideal) ℓ) : Prop :=
  True

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickRefIdeal (m : (ℓ : Loc Cert.StickRefIdeal.nD Cert.StickRefIdeal.τ Cert.StickRefIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Sbf (m : (ℓ : Loc Cert.Sbf.nD Cert.Sbf.τ Cert.Sbf.sig) → Buf (Elt Bits) ℓ) : Prop :=
  True

def Pre_SbfIdeal (m : (ℓ : Loc Cert.SbfIdeal.nD Cert.SbfIdeal.τ Cert.SbfIdeal.sig) → Buf (Elt Ideal) ℓ) : Prop :=
  True

def Pre_SbfRefIdeal (m : (ℓ : Loc Cert.SbfRefIdeal.nD Cert.SbfRefIdeal.τ Cert.SbfRefIdeal.sig) → Buf (Elt Ideal) ℓ) : Prop :=
  True

def Pre_AdRel (m : (ℓ : Loc Cert.AdRel.nD Cert.AdRel.τ Cert.AdRel.sig) → Buf (Elt Bits) ℓ) : Prop :=
  True

def Pre_AdRelIdeal (m : (ℓ : Loc Cert.AdRelIdeal.nD Cert.AdRelIdeal.τ Cert.AdRelIdeal.sig) → Buf (Elt Ideal) ℓ) : Prop :=
  True

def Pre_AdRelRefIdeal (m : (ℓ : Loc Cert.AdRelRefIdeal.nD Cert.AdRelRefIdeal.τ Cert.AdRelRefIdeal.sig) → Buf (Elt Ideal) ℓ) : Prop :=
  True

def Pre_AdNorm (m : (ℓ : Loc Cert.AdNorm.nD Cert.AdNorm.τ Cert.AdNorm.sig) → Buf (Elt Bits) ℓ) : Prop :=
  True

def Pre_AdNormIdeal (m : (ℓ : Loc Cert.AdNormIdeal.nD Cert.AdNormIdeal.τ Cert.AdNormIdeal.sig) → Buf (Elt Ideal) ℓ) : Prop :=
  True

def Pre_AdNormRefIdeal (m : (ℓ : Loc Cert.AdNormRefIdeal.nD Cert.AdNormRefIdeal.τ Cert.AdNormRefIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_AdInRefIdeal (m : (ℓ : Loc Cert.AdInRefIdeal.nD Cert.AdInRefIdeal.τ Cert.AdInRefIdeal.sig) → Buf (Elt Ideal) ℓ) : Prop :=
  True

def Pre_AdGate (m : (ℓ : Loc Cert.AdGate.nD Cert.AdGate.τ Cert.AdGate.sig) → Buf (Elt Bits) ℓ) : Prop :=
  True

def Pre_AdGateIdeal (m : (ℓ : Loc Cert.AdGateIdeal.nD Cert.AdGateIdeal.τ Cert.AdGateIdeal.sig) → Buf (Elt Ideal) ℓ) : Prop :=
  True

def Pre_AdGateRefIdeal (m : (ℓ : Loc Cert.AdGateRefIdeal.nD Cert.AdGateRefIdeal.τ Cert.AdGateRefIdeal.sig) → Buf (Elt Ideal) ℓ) : Prop :=
  True

def Pre_AdRet (m : (ℓ : Loc Cert.AdRet.nD Cert.AdRet.τ Cert.AdRet.sig) → Buf (Elt Bits) ℓ) : Prop :=
  True

def Pre_AdRetIdeal (m : (ℓ : Loc Cert.AdRetIdeal.nD Cert.AdRetIdeal.τ Cert.AdRetIdeal.sig) → Buf (Elt Ideal) ℓ) : Prop :=
  True

def Pre_AdRetRefIdeal (m : (ℓ : Loc Cert.AdRetRefIdeal.nD Cert.AdRetRefIdeal.τ Cert.AdRetRefIdeal.sig) → Buf (Elt Ideal) ℓ) : Prop :=
  True

def Pre_AdDil (m : (ℓ : Loc Cert.AdDil.nD Cert.AdDil.τ Cert.AdDil.sig) → Buf (Elt Bits) ℓ) : Prop :=
  True

def Pre_AdDilIdeal (m : (ℓ : Loc Cert.AdDilIdeal.nD Cert.AdDilIdeal.τ Cert.AdDilIdeal.sig) → Buf (Elt Ideal) ℓ) : Prop :=
  True

def Pre_AdDilRefIdeal (m : (ℓ : Loc Cert.AdDilRefIdeal.nD Cert.AdDilRefIdeal.τ Cert.AdDilRefIdeal.sig) → Buf (Elt Ideal) ℓ) : Prop :=
  True

def Pre_AdMix (m : (ℓ : Loc Cert.AdMix.nD Cert.AdMix.τ Cert.AdMix.sig) → Buf (Elt Bits) ℓ) : Prop :=
  True

def Pre_AdMixIdeal (m : (ℓ : Loc Cert.AdMixIdeal.nD Cert.AdMixIdeal.τ Cert.AdMixIdeal.sig) → Buf (Elt Ideal) ℓ) : Prop :=
  True

def Pre_AdMixRefIdeal (m : (ℓ : Loc Cert.AdMixRefIdeal.nD Cert.AdMixRefIdeal.τ Cert.AdMixRefIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_AdOutRefIdeal (m : (ℓ : Loc Cert.AdOutRefIdeal.nD Cert.AdOutRefIdeal.τ Cert.AdOutRefIdeal.sig) → Buf (Elt Ideal) ℓ) : Prop :=
  True

def Pre_AdUp (m : (ℓ : Loc Cert.AdUp.nD Cert.AdUp.τ Cert.AdUp.sig) → Buf (Elt Bits) ℓ) : Prop :=
  True

def Pre_AdUpIdeal (m : (ℓ : Loc Cert.AdUpIdeal.nD Cert.AdUpIdeal.τ Cert.AdUpIdeal.sig) → Buf (Elt Ideal) ℓ) : Prop :=
  True

def Pre_AdUpRefIdeal (m : (ℓ : Loc Cert.AdUpRefIdeal.nD Cert.AdUpRefIdeal.τ Cert.AdUpRefIdeal.sig) → Buf (Elt Ideal) ℓ) : Prop :=
  True

def Pre_AdTaps (m : (ℓ : Loc Cert.AdTaps.nD Cert.AdTaps.τ Cert.AdTaps.sig) → Buf (Elt Bits) ℓ) : Prop :=
  True

def Pre_AdTapsIdeal (m : (ℓ : Loc Cert.AdTapsIdeal.nD Cert.AdTapsIdeal.τ Cert.AdTapsIdeal.sig) → Buf (Elt Ideal) ℓ) : Prop :=
  True

def Pre_AdTapsRefIdeal (m : (ℓ : Loc Cert.AdTapsRefIdeal.nD Cert.AdTapsRefIdeal.τ Cert.AdTapsRefIdeal.sig) → Buf (Elt Ideal) ℓ) : Prop :=
  True

def Pre_AdConv (m : (ℓ : Loc Cert.AdConv.nD Cert.AdConv.τ Cert.AdConv.sig) → Buf (Elt Bits) ℓ) : Prop :=
  True

def Pre_AdConvIdeal (m : (ℓ : Loc Cert.AdConvIdeal.nD Cert.AdConvIdeal.τ Cert.AdConvIdeal.sig) → Buf (Elt Ideal) ℓ) : Prop :=
  True

def Pre_AdConvRefIdeal (m : (ℓ : Loc Cert.AdConvRefIdeal.nD Cert.AdConvRefIdeal.τ Cert.AdConvRefIdeal.sig) → Buf (Elt Ideal) ℓ) : Prop :=
  True

def Pre_AdDown (m : (ℓ : Loc Cert.AdDown.nD Cert.AdDown.τ Cert.AdDown.sig) → Buf (Elt Bits) ℓ) : Prop :=
  True

def Pre_AdDownIdeal (m : (ℓ : Loc Cert.AdDownIdeal.nD Cert.AdDownIdeal.τ Cert.AdDownIdeal.sig) → Buf (Elt Ideal) ℓ) : Prop :=
  True

def Pre_AdDownRefIdeal (m : (ℓ : Loc Cert.AdDownRefIdeal.nD Cert.AdDownRefIdeal.τ Cert.AdDownRefIdeal.sig) → Buf (Elt Ideal) ℓ) : Prop :=
  True

def Pre_AdFinal (m : (ℓ : Loc Cert.AdFinal.nD Cert.AdFinal.τ Cert.AdFinal.sig) → Buf (Elt Bits) ℓ) : Prop :=
  True

def Pre_AdFinalIdeal (m : (ℓ : Loc Cert.AdFinalIdeal.nD Cert.AdFinalIdeal.τ Cert.AdFinalIdeal.sig) → Buf (Elt Ideal) ℓ) : Prop :=
  True

def Pre_AdFinalRefIdeal (m : (ℓ : Loc Cert.AdFinalRefIdeal.nD Cert.AdFinalRefIdeal.τ Cert.AdFinalRefIdeal.sig) → Buf (Elt Ideal) ℓ) : Prop :=
  True

def Pre_SumBig (m : (ℓ : Loc Cert.SumBig.nD Cert.SumBig.τ Cert.SumBig.sig) → Buf (Elt Bits) ℓ) : Prop :=
  True

def Pre_SumBigIdeal (m : (ℓ : Loc Cert.SumBigIdeal.nD Cert.SumBigIdeal.τ Cert.SumBigIdeal.sig) → Buf (Elt Ideal) ℓ) : Prop :=
  True

def Pre_SumBigRefIdeal (m : (ℓ : Loc Cert.SumBigRefIdeal.nD Cert.SumBigRefIdeal.τ Cert.SumBigRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_ConvDx (m : (ℓ : Loc Cert.ConvDx.nD Cert.ConvDx.τ Cert.ConvDx.sig) → Buf (Elt Bits) ℓ) : Prop :=
  True

def Pre_ConvDxIdeal (m : (ℓ : Loc Cert.ConvDxIdeal.nD Cert.ConvDxIdeal.τ Cert.ConvDxIdeal.sig) → Buf (Elt Ideal) ℓ) : Prop :=
  True

def Pre_ConvDxRefIdeal (m : (ℓ : Loc Cert.ConvDxRefIdeal.nD Cert.ConvDxRefIdeal.τ Cert.ConvDxRefIdeal.sig) → Buf (Elt Ideal) ℓ) : Prop :=
  True

def Pre_FfnBack (m : (ℓ : Loc Cert.FfnBack.nD Cert.FfnBack.τ Cert.FfnBack.sig) → Buf (Elt Bits) ℓ) : Prop :=
  True

def Pre_FfnBackIdeal (m : (ℓ : Loc Cert.FfnBackIdeal.nD Cert.FfnBackIdeal.τ Cert.FfnBackIdeal.sig) → Buf (Elt Ideal) ℓ) : Prop :=
  True

def Pre_FfnBackRefIdeal (m : (ℓ : Loc Cert.FfnBackRefIdeal.nD Cert.FfnBackRefIdeal.τ Cert.FfnBackRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1)
      ∧ r.2.mem ((c.tc : Thread Cert.GateDx.nD Cert.GateDx.τ).loc Cert.GateDx.main_arg2) = m ((c.tc : Thread Cert.GateDx.nD Cert.GateDx.τ).loc Cert.GateDx.main_arg2))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
      ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1)
      ∧ r.2.mem ((c.tc : Thread Cert.GateDxRefIdeal.nD Cert.GateDxRefIdeal.τ).loc Cert.GateDxRefIdeal.main_arg2) = m ((c.tc : Thread Cert.GateDxRefIdeal.nD Cert.GateDxRefIdeal.τ).loc Cert.GateDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_LoDx [hLoDx : Cert.LoDx.Facts] : Prop :=
  ∀ (m : (ℓ : Loc Cert.LoDx.nD Cert.LoDx.τ Cert.LoDx.sig) → Buf (Elt Bits) ℓ) (g : Dev Cert.LoDx.nD → PrngReg), Pre_LoDx m →
    θ_run (Cert.LoDx.defs (F := Bits)) (onTc (τ := Cert.LoDx.τ) (Cert.LoDx.main (F := Bits))) ⟨m, fun _ => 0, g⟩ (fun r => (∀ c : Dev Cert.LoDx.nD,
      r.2.mem ((c.tc : Thread Cert.LoDx.nD Cert.LoDx.τ).loc Cert.LoDx.main_arg0) = m ((c.tc : Thread Cert.LoDx.nD Cert.LoDx.τ).loc Cert.LoDx.main_arg0)
      ∧ r.2.mem ((c.tc : Thread Cert.LoDx.nD Cert.LoDx.τ).loc Cert.LoDx.main_arg1) = m ((c.tc : Thread Cert.LoDx.nD Cert.LoDx.τ).loc Cert.LoDx.main_arg1))
      ∧ r.2.sem = fun _ => 0)

def quiescent_LoDxIdeal [hLoDxIdeal : Cert.LoDxIdeal.Facts] : Prop :=
  ∀ (m : (ℓ : Loc Cert.LoDxIdeal.nD Cert.LoDxIdeal.τ Cert.LoDxIdeal.sig) → Buf (Elt Ideal) ℓ) (g : Dev Cert.LoDxIdeal.nD → PrngReg), Pre_LoDxIdeal m →
    θ_run (Cert.LoDxIdeal.defs (F := Ideal)) (onTc (τ := Cert.LoDxIdeal.τ) (Cert.LoDxIdeal.main (F := Ideal))) ⟨m, fun _ => 0, g⟩ (fun r => (∀ c : Dev Cert.LoDxIdeal.nD,
      r.2.mem ((c.tc : Thread Cert.LoDxIdeal.nD Cert.LoDxIdeal.τ).loc Cert.LoDxIdeal.main_arg0) = m ((c.tc : Thread Cert.LoDxIdeal.nD Cert.LoDxIdeal.τ).loc Cert.LoDxIdeal.main_arg0)
      ∧ r.2.mem ((c.tc : Thread Cert.LoDxIdeal.nD Cert.LoDxIdeal.τ).loc Cert.LoDxIdeal.main_arg1) = m ((c.tc : Thread Cert.LoDxIdeal.nD Cert.LoDxIdeal.τ).loc Cert.LoDxIdeal.main_arg1))
      ∧ r.2.sem = fun _ => 0)

def quiescent_LoDxRefIdeal [hLoDxRefIdeal : Cert.LoDxRefIdeal.Facts] : Prop :=
  ∀ (m : (ℓ : Loc Cert.LoDxRefIdeal.nD Cert.LoDxRefIdeal.τ Cert.LoDxRefIdeal.sig) → Buf (Elt Ideal) ℓ) (g : Dev Cert.LoDxRefIdeal.nD → PrngReg), Pre_LoDxRefIdeal m →
    θ_run (Cert.LoDxRefIdeal.defs (F := Ideal)) (onTc (τ := Cert.LoDxRefIdeal.τ) (Cert.LoDxRefIdeal.main (F := Ideal))) ⟨m, fun _ => 0, g⟩ (fun r => (∀ c : Dev Cert.LoDxRefIdeal.nD,
      r.2.mem ((c.tc : Thread Cert.LoDxRefIdeal.nD Cert.LoDxRefIdeal.τ).loc Cert.LoDxRefIdeal.main_arg0) = m ((c.tc : Thread Cert.LoDxRefIdeal.nD Cert.LoDxRefIdeal.τ).loc Cert.LoDxRefIdeal.main_arg0)
      ∧ r.2.mem ((c.tc : Thread Cert.LoDxRefIdeal.nD Cert.LoDxRefIdeal.τ).loc Cert.LoDxRefIdeal.main_arg1) = m ((c.tc : Thread Cert.LoDxRefIdeal.nD Cert.LoDxRefIdeal.τ).loc Cert.LoDxRefIdeal.main_arg1))
      ∧ r.2.sem = fun _ => 0)

def quiescent_HiDx [hHiDx : Cert.HiDx.Facts] : Prop :=
  ∀ (m : (ℓ : Loc Cert.HiDx.nD Cert.HiDx.τ Cert.HiDx.sig) → Buf (Elt Bits) ℓ) (g : Dev Cert.HiDx.nD → PrngReg), Pre_HiDx m →
    θ_run (Cert.HiDx.defs (F := Bits)) (onTc (τ := Cert.HiDx.τ) (Cert.HiDx.main (F := Bits))) ⟨m, fun _ => 0, g⟩ (fun r => (∀ c : Dev Cert.HiDx.nD,
      r.2.mem ((c.tc : Thread Cert.HiDx.nD Cert.HiDx.τ).loc Cert.HiDx.main_arg0) = m ((c.tc : Thread Cert.HiDx.nD Cert.HiDx.τ).loc Cert.HiDx.main_arg0)
      ∧ r.2.mem ((c.tc : Thread Cert.HiDx.nD Cert.HiDx.τ).loc Cert.HiDx.main_arg1) = m ((c.tc : Thread Cert.HiDx.nD Cert.HiDx.τ).loc Cert.HiDx.main_arg1)
      ∧ r.2.mem ((c.tc : Thread Cert.HiDx.nD Cert.HiDx.τ).loc Cert.HiDx.main_arg2) = m ((c.tc : Thread Cert.HiDx.nD Cert.HiDx.τ).loc Cert.HiDx.main_arg2))
      ∧ r.2.sem = fun _ => 0)

def quiescent_HiDxIdeal [hHiDxIdeal : Cert.HiDxIdeal.Facts] : Prop :=
  ∀ (m : (ℓ : Loc Cert.HiDxIdeal.nD Cert.HiDxIdeal.τ Cert.HiDxIdeal.sig) → Buf (Elt Ideal) ℓ) (g : Dev Cert.HiDxIdeal.nD → PrngReg), Pre_HiDxIdeal m →
    θ_run (Cert.HiDxIdeal.defs (F := Ideal)) (onTc (τ := Cert.HiDxIdeal.τ) (Cert.HiDxIdeal.main (F := Ideal))) ⟨m, fun _ => 0, g⟩ (fun r => (∀ c : Dev Cert.HiDxIdeal.nD,
      r.2.mem ((c.tc : Thread Cert.HiDxIdeal.nD Cert.HiDxIdeal.τ).loc Cert.HiDxIdeal.main_arg0) = m ((c.tc : Thread Cert.HiDxIdeal.nD Cert.HiDxIdeal.τ).loc Cert.HiDxIdeal.main_arg0)
      ∧ r.2.mem ((c.tc : Thread Cert.HiDxIdeal.nD Cert.HiDxIdeal.τ).loc Cert.HiDxIdeal.main_arg1) = m ((c.tc : Thread Cert.HiDxIdeal.nD Cert.HiDxIdeal.τ).loc Cert.HiDxIdeal.main_arg1)
      ∧ r.2.mem ((c.tc : Thread Cert.HiDxIdeal.nD Cert.HiDxIdeal.τ).loc Cert.HiDxIdeal.main_arg2) = m ((c.tc : Thread Cert.HiDxIdeal.nD Cert.HiDxIdeal.τ).loc Cert.HiDxIdeal.main_arg2))
      ∧ r.2.sem = fun _ => 0)

def quiescent_HiDxRefIdeal [hHiDxRefIdeal : Cert.HiDxRefIdeal.Facts] : Prop :=
  ∀ (m : (ℓ : Loc Cert.HiDxRefIdeal.nD Cert.HiDxRefIdeal.τ Cert.HiDxRefIdeal.sig) → Buf (Elt Ideal) ℓ) (g : Dev Cert.HiDxRefIdeal.nD → PrngReg), Pre_HiDxRefIdeal m →
    θ_run (Cert.HiDxRefIdeal.defs (F := Ideal)) (onTc (τ := Cert.HiDxRefIdeal.τ) (Cert.HiDxRefIdeal.main (F := Ideal))) ⟨m, fun _ => 0, g⟩ (fun r => (∀ c : Dev Cert.HiDxRefIdeal.nD,
      r.2.mem ((c.tc : Thread Cert.HiDxRefIdeal.nD Cert.HiDxRefIdeal.τ).loc Cert.HiDxRefIdeal.main_arg0) = m ((c.tc : Thread Cert.HiDxRefIdeal.nD Cert.HiDxRefIdeal.τ).loc Cert.HiDxRefIdeal.main_arg0)
      ∧ r.2.mem ((c.tc : Thread Cert.HiDxRefIdeal.nD Cert.HiDxRefIdeal.τ).loc Cert.HiDxRefIdeal.main_arg1) = m ((c.tc : Thread Cert.HiDxRefIdeal.nD Cert.HiDxRefIdeal.τ).loc Cert.HiDxRefIdeal.main_arg1)
      ∧ r.2.mem ((c.tc : Thread Cert.HiDxRefIdeal.nD Cert.HiDxRefIdeal.τ).loc Cert.HiDxRefIdeal.main_arg2) = m ((c.tc : Thread Cert.HiDxRefIdeal.nD Cert.HiDxRefIdeal.τ).loc Cert.HiDxRefIdeal.main_arg2))
      ∧ r.2.sem = fun _ => 0)

def quiescent_LoDw [hLoDw : Cert.LoDw.Facts] : Prop :=
  ∀ (m : (ℓ : Loc Cert.LoDw.nD Cert.LoDw.τ Cert.LoDw.sig) → Buf (Elt Bits) ℓ) (g : Dev Cert.LoDw.nD → PrngReg), Pre_LoDw m →
    θ_run (Cert.LoDw.defs (F := Bits)) (onTc (τ := Cert.LoDw.τ) (Cert.LoDw.main (F := Bits))) ⟨m, fun _ => 0, g⟩ (fun r => (∀ c : Dev Cert.LoDw.nD,
      r.2.mem ((c.tc : Thread Cert.LoDw.nD Cert.LoDw.τ).loc Cert.LoDw.main_arg0) = m ((c.tc : Thread Cert.LoDw.nD Cert.LoDw.τ).loc Cert.LoDw.main_arg0)
      ∧ r.2.mem ((c.tc : Thread Cert.LoDw.nD Cert.LoDw.τ).loc Cert.LoDw.main_arg1) = m ((c.tc : Thread Cert.LoDw.nD Cert.LoDw.τ).loc Cert.LoDw.main_arg1))
      ∧ r.2.sem = fun _ => 0)

def quiescent_LoDwIdeal [hLoDwIdeal : Cert.LoDwIdeal.Facts] : Prop :=
  ∀ (m : (ℓ : Loc Cert.LoDwIdeal.nD Cert.LoDwIdeal.τ Cert.LoDwIdeal.sig) → Buf (Elt Ideal) ℓ) (g : Dev Cert.LoDwIdeal.nD → PrngReg), Pre_LoDwIdeal m →
    θ_run (Cert.LoDwIdeal.defs (F := Ideal)) (onTc (τ := Cert.LoDwIdeal.τ) (Cert.LoDwIdeal.main (F := Ideal))) ⟨m, fun _ => 0, g⟩ (fun r => (∀ c : Dev Cert.LoDwIdeal.nD,
      r.2.mem ((c.tc : Thread Cert.LoDwIdeal.nD Cert.LoDwIdeal.τ).loc Cert.LoDwIdeal.main_arg0) = m ((c.tc : Thread Cert.LoDwIdeal.nD Cert.LoDwIdeal.τ).loc Cert.LoDwIdeal.main_arg0)
      ∧ r.2.mem ((c.tc : Thread Cert.LoDwIdeal.nD Cert.LoDwIdeal.τ).loc Cert.LoDwIdeal.main_arg1) = m ((c.tc : Thread Cert.LoDwIdeal.nD Cert.LoDwIdeal.τ).loc Cert.LoDwIdeal.main_arg1))
      ∧ r.2.sem = fun _ => 0)

def quiescent_LoDwRefIdeal [hLoDwRefIdeal : Cert.LoDwRefIdeal.Facts] : Prop :=
  ∀ (m : (ℓ : Loc Cert.LoDwRefIdeal.nD Cert.LoDwRefIdeal.τ Cert.LoDwRefIdeal.sig) → Buf (Elt Ideal) ℓ) (g : Dev Cert.LoDwRefIdeal.nD → PrngReg), Pre_LoDwRefIdeal m →
    θ_run (Cert.LoDwRefIdeal.defs (F := Ideal)) (onTc (τ := Cert.LoDwRefIdeal.τ) (Cert.LoDwRefIdeal.main (F := Ideal))) ⟨m, fun _ => 0, g⟩ (fun r => (∀ c : Dev Cert.LoDwRefIdeal.nD,
      r.2.mem ((c.tc : Thread Cert.LoDwRefIdeal.nD Cert.LoDwRefIdeal.τ).loc Cert.LoDwRefIdeal.main_arg0) = m ((c.tc : Thread Cert.LoDwRefIdeal.nD Cert.LoDwRefIdeal.τ).loc Cert.LoDwRefIdeal.main_arg0)
      ∧ r.2.mem ((c.tc : Thread Cert.LoDwRefIdeal.nD Cert.LoDwRefIdeal.τ).loc Cert.LoDwRefIdeal.main_arg1) = m ((c.tc : Thread Cert.LoDwRefIdeal.nD Cert.LoDwRefIdeal.τ).loc Cert.LoDwRefIdeal.main_arg1))
      ∧ r.2.sem = fun _ => 0)

def quiescent_HiDw [hHiDw : Cert.HiDw.Facts] : Prop :=
  ∀ (m : (ℓ : Loc Cert.HiDw.nD Cert.HiDw.τ Cert.HiDw.sig) → Buf (Elt Bits) ℓ) (g : Dev Cert.HiDw.nD → PrngReg), Pre_HiDw m →
    θ_run (Cert.HiDw.defs (F := Bits)) (onTc (τ := Cert.HiDw.τ) (Cert.HiDw.main (F := Bits))) ⟨m, fun _ => 0, g⟩ (fun r => (∀ c : Dev Cert.HiDw.nD,
      r.2.mem ((c.tc : Thread Cert.HiDw.nD Cert.HiDw.τ).loc Cert.HiDw.main_arg0) = m ((c.tc : Thread Cert.HiDw.nD Cert.HiDw.τ).loc Cert.HiDw.main_arg0)
      ∧ r.2.mem ((c.tc : Thread Cert.HiDw.nD Cert.HiDw.τ).loc Cert.HiDw.main_arg1) = m ((c.tc : Thread Cert.HiDw.nD Cert.HiDw.τ).loc Cert.HiDw.main_arg1))
      ∧ r.2.sem = fun _ => 0)

def quiescent_HiDwIdeal [hHiDwIdeal : Cert.HiDwIdeal.Facts] : Prop :=
  ∀ (m : (ℓ : Loc Cert.HiDwIdeal.nD Cert.HiDwIdeal.τ Cert.HiDwIdeal.sig) → Buf (Elt Ideal) ℓ) (g : Dev Cert.HiDwIdeal.nD → PrngReg), Pre_HiDwIdeal m →
    θ_run (Cert.HiDwIdeal.defs (F := Ideal)) (onTc (τ := Cert.HiDwIdeal.τ) (Cert.HiDwIdeal.main (F := Ideal))) ⟨m, fun _ => 0, g⟩ (fun r => (∀ c : Dev Cert.HiDwIdeal.nD,
      r.2.mem ((c.tc : Thread Cert.HiDwIdeal.nD Cert.HiDwIdeal.τ).loc Cert.HiDwIdeal.main_arg0) = m ((c.tc : Thread Cert.HiDwIdeal.nD Cert.HiDwIdeal.τ).loc Cert.HiDwIdeal.main_arg0)
      ∧ r.2.mem ((c.tc : Thread Cert.HiDwIdeal.nD Cert.HiDwIdeal.τ).loc Cert.HiDwIdeal.main_arg1) = m ((c.tc : Thread Cert.HiDwIdeal.nD Cert.HiDwIdeal.τ).loc Cert.HiDwIdeal.main_arg1))
      ∧ r.2.sem = fun _ => 0)

def quiescent_HiDwRefIdeal [hHiDwRefIdeal : Cert.HiDwRefIdeal.Facts] : Prop :=
  ∀ (m : (ℓ : Loc Cert.HiDwRefIdeal.nD Cert.HiDwRefIdeal.τ Cert.HiDwRefIdeal.sig) → Buf (Elt Ideal) ℓ) (g : Dev Cert.HiDwRefIdeal.nD → PrngReg), Pre_HiDwRefIdeal m →
    θ_run (Cert.HiDwRefIdeal.defs (F := Ideal)) (onTc (τ := Cert.HiDwRefIdeal.τ) (Cert.HiDwRefIdeal.main (F := Ideal))) ⟨m, fun _ => 0, g⟩ (fun r => (∀ c : Dev Cert.HiDwRefIdeal.nD,
      r.2.mem ((c.tc : Thread Cert.HiDwRefIdeal.nD Cert.HiDwRefIdeal.τ).loc Cert.HiDwRefIdeal.main_arg0) = m ((c.tc : Thread Cert.HiDwRefIdeal.nD Cert.HiDwRefIdeal.τ).loc Cert.HiDwRefIdeal.main_arg0)
      ∧ r.2.mem ((c.tc : Thread Cert.HiDwRefIdeal.nD Cert.HiDwRefIdeal.τ).loc Cert.HiDwRefIdeal.main_arg1) = m ((c.tc : Thread Cert.HiDwRefIdeal.nD Cert.HiDwRefIdeal.τ).loc Cert.HiDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_DilDx [hDilDx : Cert.DilDx.Facts] : Prop :=
  ∀ (m : (ℓ : Loc Cert.DilDx.nD Cert.DilDx.τ Cert.DilDx.sig) → Buf (Elt Bits) ℓ) (g : Dev Cert.DilDx.nD → PrngReg), Pre_DilDx m →
    θ_run (Cert.DilDx.defs (F := Bits)) (onTc (τ := Cert.DilDx.τ) (Cert.DilDx.main (F := Bits))) ⟨m, fun _ => 0, g⟩ (fun r => (∀ c : Dev Cert.DilDx.nD,
      r.2.mem ((c.tc : Thread Cert.DilDx.nD Cert.DilDx.τ).loc Cert.DilDx.main_arg0) = m ((c.tc : Thread Cert.DilDx.nD Cert.DilDx.τ).loc Cert.DilDx.main_arg0)
      ∧ r.2.mem ((c.tc : Thread Cert.DilDx.nD Cert.DilDx.τ).loc Cert.DilDx.main_arg1) = m ((c.tc : Thread Cert.DilDx.nD Cert.DilDx.τ).loc Cert.DilDx.main_arg1))
      ∧ r.2.sem = fun _ => 0)

def quiescent_DilDxIdeal [hDilDxIdeal : Cert.DilDxIdeal.Facts] : Prop :=
  ∀ (m : (ℓ : Loc Cert.DilDxIdeal.nD Cert.DilDxIdeal.τ Cert.DilDxIdeal.sig) → Buf (Elt Ideal) ℓ) (g : Dev Cert.DilDxIdeal.nD → PrngReg), Pre_DilDxIdeal m →
    θ_run (Cert.DilDxIdeal.defs (F := Ideal)) (onTc (τ := Cert.DilDxIdeal.τ) (Cert.DilDxIdeal.main (F := Ideal))) ⟨m, fun _ => 0, g⟩ (fun r => (∀ c : Dev Cert.DilDxIdeal.nD,
      r.2.mem ((c.tc : Thread Cert.DilDxIdeal.nD Cert.DilDxIdeal.τ).loc Cert.DilDxIdeal.main_arg0) = m ((c.tc : Thread Cert.DilDxIdeal.nD Cert.DilDxIdeal.τ).loc Cert.DilDxIdeal.main_arg0)
      ∧ r.2.mem ((c.tc : Thread Cert.DilDxIdeal.nD Cert.DilDxIdeal.τ).loc Cert.DilDxIdeal.main_arg1) = m ((c.tc : Thread Cert.DilDxIdeal.nD Cert.DilDxIdeal.τ).loc Cert.DilDxIdeal.main_arg1))
      ∧ r.2.sem = fun _ => 0)

def quiescent_DilDxRefIdeal [hDilDxRefIdeal : Cert.DilDxRefIdeal.Facts] : Prop :=
  ∀ (m : (ℓ : Loc Cert.DilDxRefIdeal.nD Cert.DilDxRefIdeal.τ Cert.DilDxRefIdeal.sig) → Buf (Elt Ideal) ℓ) (g : Dev Cert.DilDxRefIdeal.nD → PrngReg), Pre_DilDxRefIdeal m →
    θ_run (Cert.DilDxRefIdeal.defs (F := Ideal)) (onTc (τ := Cert.DilDxRefIdeal.τ) (Cert.DilDxRefIdeal.main (F := Ideal))) ⟨m, fun _ => 0, g⟩ (fun r => (∀ c : Dev Cert.DilDxRefIdeal.nD,
      r.2.mem ((c.tc : Thread Cert.DilDxRefIdeal.nD Cert.DilDxRefIdeal.τ).loc Cert.DilDxRefIdeal.main_arg0) = m ((c.tc : Thread Cert.DilDxRefIdeal.nD Cert.DilDxRefIdeal.τ).loc Cert.DilDxRefIdeal.main_arg0)
      ∧ r.2.mem ((c.tc : Thread Cert.DilDxRefIdeal.nD Cert.DilDxRefIdeal.τ).loc Cert.DilDxRefIdeal.main_arg1) = m ((c.tc : Thread Cert.DilDxRefIdeal.nD Cert.DilDxRefIdeal.τ).loc Cert.DilDxRefIdeal.main_arg1))
      ∧ r.2.sem = fun _ => 0)

def quiescent_DilDw [hDilDw : Cert.DilDw.Facts] : Prop :=
  ∀ (m : (ℓ : Loc Cert.DilDw.nD Cert.DilDw.τ Cert.DilDw.sig) → Buf (Elt Bits) ℓ) (g : Dev Cert.DilDw.nD → PrngReg), Pre_DilDw m →
    θ_run (Cert.DilDw.defs (F := Bits)) (onTc (τ := Cert.DilDw.τ) (Cert.DilDw.main (F := Bits))) ⟨m, fun _ => 0, g⟩ (fun r => (∀ c : Dev Cert.DilDw.nD,
      r.2.mem ((c.tc : Thread Cert.DilDw.nD Cert.DilDw.τ).loc Cert.DilDw.main_arg0) = m ((c.tc : Thread Cert.DilDw.nD Cert.DilDw.τ).loc Cert.DilDw.main_arg0)
      ∧ r.2.mem ((c.tc : Thread Cert.DilDw.nD Cert.DilDw.τ).loc Cert.DilDw.main_arg1) = m ((c.tc : Thread Cert.DilDw.nD Cert.DilDw.τ).loc Cert.DilDw.main_arg1))
      ∧ r.2.sem = fun _ => 0)

def quiescent_DilDwIdeal [hDilDwIdeal : Cert.DilDwIdeal.Facts] : Prop :=
  ∀ (m : (ℓ : Loc Cert.DilDwIdeal.nD Cert.DilDwIdeal.τ Cert.DilDwIdeal.sig) → Buf (Elt Ideal) ℓ) (g : Dev Cert.DilDwIdeal.nD → PrngReg), Pre_DilDwIdeal m →
    θ_run (Cert.DilDwIdeal.defs (F := Ideal)) (onTc (τ := Cert.DilDwIdeal.τ) (Cert.DilDwIdeal.main (F := Ideal))) ⟨m, fun _ => 0, g⟩ (fun r => (∀ c : Dev Cert.DilDwIdeal.nD,
      r.2.mem ((c.tc : Thread Cert.DilDwIdeal.nD Cert.DilDwIdeal.τ).loc Cert.DilDwIdeal.main_arg0) = m ((c.tc : Thread Cert.DilDwIdeal.nD Cert.DilDwIdeal.τ).loc Cert.DilDwIdeal.main_arg0)
      ∧ r.2.mem ((c.tc : Thread Cert.DilDwIdeal.nD Cert.DilDwIdeal.τ).loc Cert.DilDwIdeal.main_arg1) = m ((c.tc : Thread Cert.DilDwIdeal.nD Cert.DilDwIdeal.τ).loc Cert.DilDwIdeal.main_arg1))
      ∧ r.2.sem = fun _ => 0)

def quiescent_DilDwRefIdeal [hDilDwRefIdeal : Cert.DilDwRefIdeal.Facts] : Prop :=
  ∀ (m : (ℓ : Loc Cert.DilDwRefIdeal.nD Cert.DilDwRefIdeal.τ Cert.DilDwRefIdeal.sig) → Buf (Elt Ideal) ℓ) (g : Dev Cert.DilDwRefIdeal.nD → PrngReg), Pre_DilDwRefIdeal m →
    θ_run (Cert.DilDwRefIdeal.defs (F := Ideal)) (onTc (τ := Cert.DilDwRefIdeal.τ) (Cert.DilDwRefIdeal.main (F := Ideal))) ⟨m, fun _ => 0, g⟩ (fun r => (∀ c : Dev Cert.DilDwRefIdeal.nD,
      r.2.mem ((c.tc : Thread Cert.DilDwRefIdeal.nD Cert.DilDwRefIdeal.τ).loc Cert.DilDwRefIdeal.main_arg0) = m ((c.tc : Thread Cert.DilDwRefIdeal.nD Cert.DilDwRefIdeal.τ).loc Cert.DilDwRefIdeal.main_arg0)
      ∧ r.2.mem ((c.tc : Thread Cert.DilDwRefIdeal.nD Cert.DilDwRefIdeal.τ).loc Cert.DilDwRefIdeal.main_arg1) = m ((c.tc : Thread Cert.DilDwRefIdeal.nD Cert.DilDwRefIdeal.τ).loc Cert.DilDwRefIdeal.main_arg1))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1))
      ∧ r.2.sem = fun _ => 0)

def quiescent_StickDw [hStickDw : Cert.StickDw.Facts] : Prop :=
  ∀ (m : (ℓ : Loc Cert.StickDw.nD Cert.StickDw.τ Cert.StickDw.sig) → Buf (Elt Bits) ℓ) (g : Dev Cert.StickDw.nD → PrngReg), Pre_StickDw m →
    θ_run (Cert.StickDw.defs (F := Bits)) (onTc (τ := Cert.StickDw.τ) (Cert.StickDw.main (F := Bits))) ⟨m, fun _ => 0, g⟩ (fun r => (∀ c : Dev Cert.StickDw.nD,
      r.2.mem ((c.tc : Thread Cert.StickDw.nD Cert.StickDw.τ).loc Cert.StickDw.main_arg0) = m ((c.tc : Thread Cert.StickDw.nD Cert.StickDw.τ).loc Cert.StickDw.main_arg0)
      ∧ r.2.mem ((c.tc : Thread Cert.StickDw.nD Cert.StickDw.τ).loc Cert.StickDw.main_arg1) = m ((c.tc : Thread Cert.StickDw.nD Cert.StickDw.τ).loc Cert.StickDw.main_arg1))
      ∧ r.2.sem = fun _ => 0)

def quiescent_StickDwIdeal [hStickDwIdeal : Cert.StickDwIdeal.Facts] : Prop :=
  ∀ (m : (ℓ : Loc Cert.StickDwIdeal.nD Cert.StickDwIdeal.τ Cert.StickDwIdeal.sig) → Buf (Elt Ideal) ℓ) (g : Dev Cert.StickDwIdeal.nD → PrngReg), Pre_StickDwIdeal m →
    θ_run (Cert.StickDwIdeal.defs (F := Ideal)) (onTc (τ := Cert.StickDwIdeal.τ) (Cert.StickDwIdeal.main (F := Ideal))) ⟨m, fun _ => 0, g⟩ (fun r => (∀ c : Dev Cert.StickDwIdeal.nD,
      r.2.mem ((c.tc : Thread Cert.StickDwIdeal.nD Cert.StickDwIdeal.τ).loc Cert.StickDwIdeal.main_arg0) = m ((c.tc : Thread Cert.StickDwIdeal.nD Cert.StickDwIdeal.τ).loc Cert.StickDwIdeal.main_arg0)
      ∧ r.2.mem ((c.tc : Thread Cert.StickDwIdeal.nD Cert.StickDwIdeal.τ).loc Cert.StickDwIdeal.main_arg1) = m ((c.tc : Thread Cert.StickDwIdeal.nD Cert.StickDwIdeal.τ).loc Cert.StickDwIdeal.main_arg1))
      ∧ r.2.sem = fun _ => 0)

def quiescent_StickDwRefIdeal [hStickDwRefIdeal : Cert.StickDwRefIdeal.Facts] : Prop :=
  ∀ (m : (ℓ : Loc Cert.StickDwRefIdeal.nD Cert.StickDwRefIdeal.τ Cert.StickDwRefIdeal.sig) → Buf (Elt Ideal) ℓ) (g : Dev Cert.StickDwRefIdeal.nD → PrngReg), Pre_StickDwRefIdeal m →
    θ_run (Cert.StickDwRefIdeal.defs (F := Ideal)) (onTc (τ := Cert.StickDwRefIdeal.τ) (Cert.StickDwRefIdeal.main (F := Ideal))) ⟨m, fun _ => 0, g⟩ (fun r => (∀ c : Dev Cert.StickDwRefIdeal.nD,
      r.2.mem ((c.tc : Thread Cert.StickDwRefIdeal.nD Cert.StickDwRefIdeal.τ).loc Cert.StickDwRefIdeal.main_arg0) = m ((c.tc : Thread Cert.StickDwRefIdeal.nD Cert.StickDwRefIdeal.τ).loc Cert.StickDwRefIdeal.main_arg0)
      ∧ r.2.mem ((c.tc : Thread Cert.StickDwRefIdeal.nD Cert.StickDwRefIdeal.τ).loc Cert.StickDwRefIdeal.main_arg1) = m ((c.tc : Thread Cert.StickDwRefIdeal.nD Cert.StickDwRefIdeal.τ).loc Cert.StickDwRefIdeal.main_arg1))
      ∧ r.2.sem = fun _ => 0)

def quiescent_RetDw [hRetDw : Cert.RetDw.Facts] : Prop :=
  ∀ (m : (ℓ : Loc Cert.RetDw.nD Cert.RetDw.τ Cert.RetDw.sig) → Buf (Elt Bits) ℓ) (g : Dev Cert.RetDw.nD → PrngReg), Pre_RetDw m →
    θ_run (Cert.RetDw.defs (F := Bits)) (onTc (τ := Cert.RetDw.τ) (Cert.RetDw.main (F := Bits))) ⟨m, fun _ => 0, g⟩ (fun r => (∀ c : Dev Cert.RetDw.nD,
      r.2.mem ((c.tc : Thread Cert.RetDw.nD Cert.RetDw.τ).loc Cert.RetDw.main_arg0) = m ((c.tc : Thread Cert.RetDw.nD Cert.RetDw.τ).loc Cert.RetDw.main_arg0)
      ∧ r.2.mem ((c.tc : Thread Cert.RetDw.nD Cert.RetDw.τ).loc Cert.RetDw.main_arg1) = m ((c.tc : Thread Cert.RetDw.nD Cert.RetDw.τ).loc Cert.RetDw.main_arg1))
      ∧ r.2.sem = fun _ => 0)

def quiescent_RetDwIdeal [hRetDwIdeal : Cert.RetDwIdeal.Facts] : Prop :=
  ∀ (m : (ℓ : Loc Cert.RetDwIdeal.nD Cert.RetDwIdeal.τ Cert.RetDwIdeal.sig) → Buf (Elt Ideal) ℓ) (g : Dev Cert.RetDwIdeal.nD → PrngReg), Pre_RetDwIdeal m →
    θ_run (Cert.RetDwIdeal.defs (F := Ideal)) (onTc (τ := Cert.RetDwIdeal.τ) (Cert.RetDwIdeal.main (F := Ideal))) ⟨m, fun _ => 0, g⟩ (fun r => (∀ c : Dev Cert.RetDwIdeal.nD,
      r.2.mem ((c.tc : Thread Cert.RetDwIdeal.nD Cert.RetDwIdeal.τ).loc Cert.RetDwIdeal.main_arg0) = m ((c.tc : Thread Cert.RetDwIdeal.nD Cert.RetDwIdeal.τ).loc Cert.RetDwIdeal.main_arg0)
      ∧ r.2.mem ((c.tc : Thread Cert.RetDwIdeal.nD Cert.RetDwIdeal.τ).loc Cert.RetDwIdeal.main_arg1) = m ((c.tc : Thread Cert.RetDwIdeal.nD Cert.RetDwIdeal.τ).loc Cert.RetDwIdeal.main_arg1))
      ∧ r.2.sem = fun _ => 0)

def quiescent_RetDwRefIdeal [hRetDwRefIdeal : Cert.RetDwRefIdeal.Facts] : Prop :=
  ∀ (m : (ℓ : Loc Cert.RetDwRefIdeal.nD Cert.RetDwRefIdeal.τ Cert.RetDwRefIdeal.sig) → Buf (Elt Ideal) ℓ) (g : Dev Cert.RetDwRefIdeal.nD → PrngReg), Pre_RetDwRefIdeal m →
    θ_run (Cert.RetDwRefIdeal.defs (F := Ideal)) (onTc (τ := Cert.RetDwRefIdeal.τ) (Cert.RetDwRefIdeal.main (F := Ideal))) ⟨m, fun _ => 0, g⟩ (fun r => (∀ c : Dev Cert.RetDwRefIdeal.nD,
      r.2.mem ((c.tc : Thread Cert.RetDwRefIdeal.nD Cert.RetDwRefIdeal.τ).loc Cert.RetDwRefIdeal.main_arg0) = m ((c.tc : Thread Cert.RetDwRefIdeal.nD Cert.RetDwRefIdeal.τ).loc Cert.RetDwRefIdeal.main_arg0)
      ∧ r.2.mem ((c.tc : Thread Cert.RetDwRefIdeal.nD Cert.RetDwRefIdeal.τ).loc Cert.RetDwRefIdeal.main_arg1) = m ((c.tc : Thread Cert.RetDwRefIdeal.nD Cert.RetDwRefIdeal.τ).loc Cert.RetDwRefIdeal.main_arg1))
      ∧ r.2.sem = fun _ => 0)

def quiescent_Lo [hLo : Cert.Lo.Facts] : Prop :=
  ∀ (m : (ℓ : Loc Cert.Lo.nD Cert.Lo.τ Cert.Lo.sig) → Buf (Elt Bits) ℓ) (g : Dev Cert.Lo.nD → PrngReg), Pre_Lo m →
    θ_run (Cert.Lo.defs (F := Bits)) (onTc (τ := Cert.Lo.τ) (Cert.Lo.main (F := Bits))) ⟨m, fun _ => 0, g⟩ (fun r => (∀ c : Dev Cert.Lo.nD,
      r.2.mem ((c.tc : Thread Cert.Lo.nD Cert.Lo.τ).loc Cert.Lo.main_arg0) = m ((c.tc : Thread Cert.Lo.nD Cert.Lo.τ).loc Cert.Lo.main_arg0)
      ∧ r.2.mem ((c.tc : Thread Cert.Lo.nD Cert.Lo.τ).loc Cert.Lo.main_arg1) = m ((c.tc : Thread Cert.Lo.nD Cert.Lo.τ).loc Cert.Lo.main_arg1))
      ∧ r.2.sem = fun _ => 0)

def quiescent_LoIdeal [hLoIdeal : Cert.LoIdeal.Facts] : Prop :=
  ∀ (m : (ℓ : Loc Cert.LoIdeal.nD Cert.LoIdeal.τ Cert.LoIdeal.sig) → Buf (Elt Ideal) ℓ) (g : Dev Cert.LoIdeal.nD → PrngReg), Pre_LoIdeal m →
    θ_run (Cert.LoIdeal.defs (F := Ideal)) (onTc (τ := Cert.LoIdeal.τ) (Cert.LoIdeal.main (F := Ideal))) ⟨m, fun _ => 0, g⟩ (fun r => (∀ c : Dev Cert.LoIdeal.nD,
      r.2.mem ((c.tc : Thread Cert.LoIdeal.nD Cert.LoIdeal.τ).loc Cert.LoIdeal.main_arg0) = m ((c.tc : Thread Cert.LoIdeal.nD Cert.LoIdeal.τ).loc Cert.LoIdeal.main_arg0)
      ∧ r.2.mem ((c.tc : Thread Cert.LoIdeal.nD Cert.LoIdeal.τ).loc Cert.LoIdeal.main_arg1) = m ((c.tc : Thread Cert.LoIdeal.nD Cert.LoIdeal.τ).loc Cert.LoIdeal.main_arg1))
      ∧ r.2.sem = fun _ => 0)

def quiescent_LoRefIdeal [hLoRefIdeal : Cert.LoRefIdeal.Facts] : Prop :=
  ∀ (m : (ℓ : Loc Cert.LoRefIdeal.nD Cert.LoRefIdeal.τ Cert.LoRefIdeal.sig) → Buf (Elt Ideal) ℓ) (g : Dev Cert.LoRefIdeal.nD → PrngReg), Pre_LoRefIdeal m →
    θ_run (Cert.LoRefIdeal.defs (F := Ideal)) (onTc (τ := Cert.LoRefIdeal.τ) (Cert.LoRefIdeal.main (F := Ideal))) ⟨m, fun _ => 0, g⟩ (fun r => (∀ c : Dev Cert.LoRefIdeal.nD,
      r.2.mem ((c.tc : Thread Cert.LoRefIdeal.nD Cert.LoRefIdeal.τ).loc Cert.LoRefIdeal.main_arg0) = m ((c.tc : Thread Cert.LoRefIdeal.nD Cert.LoRefIdeal.τ).loc Cert.LoRefIdeal.main_arg0)
      ∧ r.2.mem ((c.tc : Thread Cert.LoRefIdeal.nD Cert.LoRefIdeal.τ).loc Cert.LoRefIdeal.main_arg1) = m ((c.tc : Thread Cert.LoRefIdeal.nD Cert.LoRefIdeal.τ).loc Cert.LoRefIdeal.main_arg1))
      ∧ r.2.sem = fun _ => 0)

def quiescent_Hi [hHi : Cert.Hi.Facts] : Prop :=
  ∀ (m : (ℓ : Loc Cert.Hi.nD Cert.Hi.τ Cert.Hi.sig) → Buf (Elt Bits) ℓ) (g : Dev Cert.Hi.nD → PrngReg), Pre_Hi m →
    θ_run (Cert.Hi.defs (F := Bits)) (onTc (τ := Cert.Hi.τ) (Cert.Hi.main (F := Bits))) ⟨m, fun _ => 0, g⟩ (fun r => (∀ c : Dev Cert.Hi.nD,
      r.2.mem ((c.tc : Thread Cert.Hi.nD Cert.Hi.τ).loc Cert.Hi.main_arg0) = m ((c.tc : Thread Cert.Hi.nD Cert.Hi.τ).loc Cert.Hi.main_arg0)
      ∧ r.2.mem ((c.tc : Thread Cert.Hi.nD Cert.Hi.τ).loc Cert.Hi.main_arg1) = m ((c.tc : Thread Cert.Hi.nD Cert.Hi.τ).loc Cert.Hi.main_arg1))
      ∧ r.2.sem = fun _ => 0)

def quiescent_HiIdeal [hHiIdeal : Cert.HiIdeal.Facts] : Prop :=
  ∀ (m : (ℓ : Loc Cert.HiIdeal.nD Cert.HiIdeal.τ Cert.HiIdeal.sig) → Buf (Elt Ideal) ℓ) (g : Dev Cert.HiIdeal.nD → PrngReg), Pre_HiIdeal m →
    θ_run (Cert.HiIdeal.defs (F := Ideal)) (onTc (τ := Cert.HiIdeal.τ) (Cert.HiIdeal.main (F := Ideal))) ⟨m, fun _ => 0, g⟩ (fun r => (∀ c : Dev Cert.HiIdeal.nD,
      r.2.mem ((c.tc : Thread Cert.HiIdeal.nD Cert.HiIdeal.τ).loc Cert.HiIdeal.main_arg0) = m ((c.tc : Thread Cert.HiIdeal.nD Cert.HiIdeal.τ).loc Cert.HiIdeal.main_arg0)
      ∧ r.2.mem ((c.tc : Thread Cert.HiIdeal.nD Cert.HiIdeal.τ).loc Cert.HiIdeal.main_arg1) = m ((c.tc : Thread Cert.HiIdeal.nD Cert.HiIdeal.τ).loc Cert.HiIdeal.main_arg1))
      ∧ r.2.sem = fun _ => 0)

def quiescent_HiRefIdeal [hHiRefIdeal : Cert.HiRefIdeal.Facts] : Prop :=
  ∀ (m : (ℓ : Loc Cert.HiRefIdeal.nD Cert.HiRefIdeal.τ Cert.HiRefIdeal.sig) → Buf (Elt Ideal) ℓ) (g : Dev Cert.HiRefIdeal.nD → PrngReg), Pre_HiRefIdeal m →
    θ_run (Cert.HiRefIdeal.defs (F := Ideal)) (onTc (τ := Cert.HiRefIdeal.τ) (Cert.HiRefIdeal.main (F := Ideal))) ⟨m, fun _ => 0, g⟩ (fun r => (∀ c : Dev Cert.HiRefIdeal.nD,
      r.2.mem ((c.tc : Thread Cert.HiRefIdeal.nD Cert.HiRefIdeal.τ).loc Cert.HiRefIdeal.main_arg0) = m ((c.tc : Thread Cert.HiRefIdeal.nD Cert.HiRefIdeal.τ).loc Cert.HiRefIdeal.main_arg0)
      ∧ r.2.mem ((c.tc : Thread Cert.HiRefIdeal.nD Cert.HiRefIdeal.τ).loc Cert.HiRefIdeal.main_arg1) = m ((c.tc : Thread Cert.HiRefIdeal.nD Cert.HiRefIdeal.τ).loc Cert.HiRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0)
      ∧ r.2.mem ((c.tc : Thread Cert.Dil.nD Cert.Dil.τ).loc Cert.Dil.main_arg1) = m ((c.tc : Thread Cert.Dil.nD Cert.Dil.τ).loc Cert.Dil.main_arg1))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1))
      ∧ r.2.sem = fun _ => 0)

def quiescent_DilRefIdeal [hDilRefIdeal : Cert.DilRefIdeal.Facts] : Prop :=
  ∀ (m : (ℓ : Loc Cert.DilRefIdeal.nD Cert.DilRefIdeal.τ Cert.DilRefIdeal.sig) → Buf (Elt Ideal) ℓ) (g : Dev Cert.DilRefIdeal.nD → PrngReg), Pre_DilRefIdeal m →
    θ_run (Cert.DilRefIdeal.defs (F := Ideal)) (onTc (τ := Cert.DilRefIdeal.τ) (Cert.DilRefIdeal.main (F := Ideal))) ⟨m, fun _ => 0, g⟩ (fun r => (∀ c : Dev Cert.DilRefIdeal.nD,
      r.2.mem ((c.tc : Thread Cert.DilRefIdeal.nD Cert.DilRefIdeal.τ).loc Cert.DilRefIdeal.main_arg0) = m ((c.tc : Thread Cert.DilRefIdeal.nD Cert.DilRefIdeal.τ).loc Cert.DilRefIdeal.main_arg0)
      ∧ r.2.mem ((c.tc : Thread Cert.DilRefIdeal.nD Cert.DilRefIdeal.τ).loc Cert.DilRefIdeal.main_arg1) = m ((c.tc : Thread Cert.DilRefIdeal.nD Cert.DilRefIdeal.τ).loc Cert.DilRefIdeal.main_arg1))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_Sbf [hSbf : Cert.Sbf.Facts] : Prop :=
  ∀ (m : (ℓ : Loc Cert.Sbf.nD Cert.Sbf.τ Cert.Sbf.sig) → Buf (Elt Bits) ℓ) (g : Dev Cert.Sbf.nD → PrngReg), Pre_Sbf m →
    θ_run (Cert.Sbf.defs (F := Bits)) (onTc (τ := Cert.Sbf.τ) (Cert.Sbf.main (F := Bits))) ⟨m, fun _ => 0, g⟩ (fun r => (∀ c : Dev Cert.Sbf.nD,
      r.2.mem ((c.tc : Thread Cert.Sbf.nD Cert.Sbf.τ).loc Cert.Sbf.main_arg0) = m ((c.tc : Thread Cert.Sbf.nD Cert.Sbf.τ).loc Cert.Sbf.main_arg0))
      ∧ r.2.sem = fun _ => 0)

def quiescent_SbfIdeal [hSbfIdeal : Cert.SbfIdeal.Facts] : Prop :=
  ∀ (m : (ℓ : Loc Cert.SbfIdeal.nD Cert.SbfIdeal.τ Cert.SbfIdeal.sig) → Buf (Elt Ideal) ℓ) (g : Dev Cert.SbfIdeal.nD → PrngReg), Pre_SbfIdeal m →
    θ_run (Cert.SbfIdeal.defs (F := Ideal)) (onTc (τ := Cert.SbfIdeal.τ) (Cert.SbfIdeal.main (F := Ideal))) ⟨m, fun _ => 0, g⟩ (fun r => (∀ c : Dev Cert.SbfIdeal.nD,
      r.2.mem ((c.tc : Thread Cert.SbfIdeal.nD Cert.SbfIdeal.τ).loc Cert.SbfIdeal.main_arg0) = m ((c.tc : Thread Cert.SbfIdeal.nD Cert.SbfIdeal.τ).loc Cert.SbfIdeal.main_arg0))
      ∧ r.2.sem = fun _ => 0)

def quiescent_SbfRefIdeal [hSbfRefIdeal : Cert.SbfRefIdeal.Facts] : Prop :=
  ∀ (m : (ℓ : Loc Cert.SbfRefIdeal.nD Cert.SbfRefIdeal.τ Cert.SbfRefIdeal.sig) → Buf (Elt Ideal) ℓ) (g : Dev Cert.SbfRefIdeal.nD → PrngReg), Pre_SbfRefIdeal m →
    θ_run (Cert.SbfRefIdeal.defs (F := Ideal)) (onTc (τ := Cert.SbfRefIdeal.τ) (Cert.SbfRefIdeal.main (F := Ideal))) ⟨m, fun _ => 0, g⟩ (fun r => (∀ c : Dev Cert.SbfRefIdeal.nD,
      r.2.mem ((c.tc : Thread Cert.SbfRefIdeal.nD Cert.SbfRefIdeal.τ).loc Cert.SbfRefIdeal.main_arg0) = m ((c.tc : Thread Cert.SbfRefIdeal.nD Cert.SbfRefIdeal.τ).loc Cert.SbfRefIdeal.main_arg0))
      ∧ r.2.sem = fun _ => 0)

def quiescent_AdRel [hAdRel : Cert.AdRel.Facts] : Prop :=
  ∀ (m : (ℓ : Loc Cert.AdRel.nD Cert.AdRel.τ Cert.AdRel.sig) → Buf (Elt Bits) ℓ) (g : Dev Cert.AdRel.nD → PrngReg), Pre_AdRel m →
    θ_run (Cert.AdRel.defs (F := Bits)) (onTc (τ := Cert.AdRel.τ) (Cert.AdRel.main (F := Bits))) ⟨m, fun _ => 0, g⟩ (fun r => (∀ c : Dev Cert.AdRel.nD,
      r.2.mem ((c.tc : Thread Cert.AdRel.nD Cert.AdRel.τ).loc Cert.AdRel.main_arg0) = m ((c.tc : Thread Cert.AdRel.nD Cert.AdRel.τ).loc Cert.AdRel.main_arg0)
      ∧ r.2.mem ((c.tc : Thread Cert.AdRel.nD Cert.AdRel.τ).loc Cert.AdRel.main_arg1) = m ((c.tc : Thread Cert.AdRel.nD Cert.AdRel.τ).loc Cert.AdRel.main_arg1)
      ∧ r.2.mem ((c.tc : Thread Cert.AdRel.nD Cert.AdRel.τ).loc Cert.AdRel.main_arg2) = m ((c.tc : Thread Cert.AdRel.nD Cert.AdRel.τ).loc Cert.AdRel.main_arg2)
      ∧ r.2.mem ((c.tc : Thread Cert.AdRel.nD Cert.AdRel.τ).loc Cert.AdRel.main_arg3) = m ((c.tc : Thread Cert.AdRel.nD Cert.AdRel.τ).loc Cert.AdRel.main_arg3))
      ∧ r.2.sem = fun _ => 0)

def quiescent_AdRelIdeal [hAdRelIdeal : Cert.AdRelIdeal.Facts] : Prop :=
  ∀ (m : (ℓ : Loc Cert.AdRelIdeal.nD Cert.AdRelIdeal.τ Cert.AdRelIdeal.sig) → Buf (Elt Ideal) ℓ) (g : Dev Cert.AdRelIdeal.nD → PrngReg), Pre_AdRelIdeal m →
    θ_run (Cert.AdRelIdeal.defs (F := Ideal)) (onTc (τ := Cert.AdRelIdeal.τ) (Cert.AdRelIdeal.main (F := Ideal))) ⟨m, fun _ => 0, g⟩ (fun r => (∀ c : Dev Cert.AdRelIdeal.nD,
      r.2.mem ((c.tc : Thread Cert.AdRelIdeal.nD Cert.AdRelIdeal.τ).loc Cert.AdRelIdeal.main_arg0) = m ((c.tc : Thread Cert.AdRelIdeal.nD Cert.AdRelIdeal.τ).loc Cert.AdRelIdeal.main_arg0)
      ∧ r.2.mem ((c.tc : Thread Cert.AdRelIdeal.nD Cert.AdRelIdeal.τ).loc Cert.AdRelIdeal.main_arg1) = m ((c.tc : Thread Cert.AdRelIdeal.nD Cert.AdRelIdeal.τ).loc Cert.AdRelIdeal.main_arg1)
      ∧ r.2.mem ((c.tc : Thread Cert.AdRelIdeal.nD Cert.AdRelIdeal.τ).loc Cert.AdRelIdeal.main_arg2) = m ((c.tc : Thread Cert.AdRelIdeal.nD Cert.AdRelIdeal.τ).loc Cert.AdRelIdeal.main_arg2)
      ∧ r.2.mem ((c.tc : Thread Cert.AdRelIdeal.nD Cert.AdRelIdeal.τ).loc Cert.AdRelIdeal.main_arg3) = m ((c.tc : Thread Cert.AdRelIdeal.nD Cert.AdRelIdeal.τ).loc Cert.AdRelIdeal.main_arg3))
      ∧ r.2.sem = fun _ => 0)

def quiescent_AdRelRefIdeal [hAdRelRefIdeal : Cert.AdRelRefIdeal.Facts] : Prop :=
  ∀ (m : (ℓ : Loc Cert.AdRelRefIdeal.nD Cert.AdRelRefIdeal.τ Cert.AdRelRefIdeal.sig) → Buf (Elt Ideal) ℓ) (g : Dev Cert.AdRelRefIdeal.nD → PrngReg), Pre_AdRelRefIdeal m →
    θ_run (Cert.AdRelRefIdeal.defs (F := Ideal)) (onTc (τ := Cert.AdRelRefIdeal.τ) (Cert.AdRelRefIdeal.main (F := Ideal))) ⟨m, fun _ => 0, g⟩ (fun r => (∀ c : Dev Cert.AdRelRefIdeal.nD,
      r.2.mem ((c.tc : Thread Cert.AdRelRefIdeal.nD Cert.AdRelRefIdeal.τ).loc Cert.AdRelRefIdeal.main_arg0) = m ((c.tc : Thread Cert.AdRelRefIdeal.nD Cert.AdRelRefIdeal.τ).loc Cert.AdRelRefIdeal.main_arg0)
      ∧ r.2.mem ((c.tc : Thread Cert.AdRelRefIdeal.nD Cert.AdRelRefIdeal.τ).loc Cert.AdRelRefIdeal.main_arg1) = m ((c.tc : Thread Cert.AdRelRefIdeal.nD Cert.AdRelRefIdeal.τ).loc Cert.AdRelRefIdeal.main_arg1)
      ∧ r.2.mem ((c.tc : Thread Cert.AdRelRefIdeal.nD Cert.AdRelRefIdeal.τ).loc Cert.AdRelRefIdeal.main_arg2) = m ((c.tc : Thread Cert.AdRelRefIdeal.nD Cert.AdRelRefIdeal.τ).loc Cert.AdRelRefIdeal.main_arg2)
      ∧ r.2.mem ((c.tc : Thread Cert.AdRelRefIdeal.nD Cert.AdRelRefIdeal.τ).loc Cert.AdRelRefIdeal.main_arg3) = m ((c.tc : Thread Cert.AdRelRefIdeal.nD Cert.AdRelRefIdeal.τ).loc Cert.AdRelRefIdeal.main_arg3))
      ∧ r.2.sem = fun _ => 0)

def quiescent_AdNorm [hAdNorm : Cert.AdNorm.Facts] : Prop :=
  ∀ (m : (ℓ : Loc Cert.AdNorm.nD Cert.AdNorm.τ Cert.AdNorm.sig) → Buf (Elt Bits) ℓ) (g : Dev Cert.AdNorm.nD → PrngReg), Pre_AdNorm m →
    θ_run (Cert.AdNorm.defs (F := Bits)) (onTc (τ := Cert.AdNorm.τ) (Cert.AdNorm.main (F := Bits))) ⟨m, fun _ => 0, g⟩ (fun r => (∀ c : Dev Cert.AdNorm.nD,
      r.2.mem ((c.tc : Thread Cert.AdNorm.nD Cert.AdNorm.τ).loc Cert.AdNorm.main_arg0) = m ((c.tc : Thread Cert.AdNorm.nD Cert.AdNorm.τ).loc Cert.AdNorm.main_arg0)
      ∧ r.2.mem ((c.tc : Thread Cert.AdNorm.nD Cert.AdNorm.τ).loc Cert.AdNorm.main_arg1) = m ((c.tc : Thread Cert.AdNorm.nD Cert.AdNorm.τ).loc Cert.AdNorm.main_arg1)
      ∧ r.2.mem ((c.tc : Thread Cert.AdNorm.nD Cert.AdNorm.τ).loc Cert.AdNorm.main_arg2) = m ((c.tc : Thread Cert.AdNorm.nD Cert.AdNorm.τ).loc Cert.AdNorm.main_arg2)
      ∧ r.2.mem ((c.tc : Thread Cert.AdNorm.nD Cert.AdNorm.τ).loc Cert.AdNorm.main_arg3) = m ((c.tc : Thread Cert.AdNorm.nD Cert.AdNorm.τ).loc Cert.AdNorm.main_arg3))
      ∧ r.2.sem = fun _ => 0)

def quiescent_AdNormIdeal [hAdNormIdeal : Cert.AdNormIdeal.Facts] : Prop :=
  ∀ (m : (ℓ : Loc Cert.AdNormIdeal.nD Cert.AdNormIdeal.τ Cert.AdNormIdeal.sig) → Buf (Elt Ideal) ℓ) (g : Dev Cert.AdNormIdeal.nD → PrngReg), Pre_AdNormIdeal m →
    θ_run (Cert.AdNormIdeal.defs (F := Ideal)) (onTc (τ := Cert.AdNormIdeal.τ) (Cert.AdNormIdeal.main (F := Ideal))) ⟨m, fun _ => 0, g⟩ (fun r => (∀ c : Dev Cert.AdNormIdeal.nD,
      r.2.mem ((c.tc : Thread Cert.AdNormIdeal.nD Cert.AdNormIdeal.τ).loc Cert.AdNormIdeal.main_arg0) = m ((c.tc : Thread Cert.AdNormIdeal.nD Cert.AdNormIdeal.τ).loc Cert.AdNormIdeal.main_arg0)
      ∧ r.2.mem ((c.tc : Thread Cert.AdNormIdeal.nD Cert.AdNormIdeal.τ).loc Cert.AdNormIdeal.main_arg1) = m ((c.tc : Thread Cert.AdNormIdeal.nD Cert.AdNormIdeal.τ).loc Cert.AdNormIdeal.main_arg1)
      ∧ r.2.mem ((c.tc : Thread Cert.AdNormIdeal.nD Cert.AdNormIdeal.τ).loc Cert.AdNormIdeal.main_arg2) = m ((c.tc : Thread Cert.AdNormIdeal.nD Cert.AdNormIdeal.τ).loc Cert.AdNormIdeal.main_arg2)
      ∧ r.2.mem ((c.tc : Thread Cert.AdNormIdeal.nD Cert.AdNormIdeal.τ).loc Cert.AdNormIdeal.main_arg3) = m ((c.tc : Thread Cert.AdNormIdeal.nD Cert.AdNormIdeal.τ).loc Cert.AdNormIdeal.main_arg3))
      ∧ r.2.sem = fun _ => 0)

def quiescent_AdNormRefIdeal [hAdNormRefIdeal : Cert.AdNormRefIdeal.Facts] : Prop :=
  ∀ (m : (ℓ : Loc Cert.AdNormRefIdeal.nD Cert.AdNormRefIdeal.τ Cert.AdNormRefIdeal.sig) → Buf (Elt Ideal) ℓ) (g : Dev Cert.AdNormRefIdeal.nD → PrngReg), Pre_AdNormRefIdeal m →
    θ_run (Cert.AdNormRefIdeal.defs (F := Ideal)) (onTc (τ := Cert.AdNormRefIdeal.τ) (Cert.AdNormRefIdeal.main (F := Ideal))) ⟨m, fun _ => 0, g⟩ (fun r => (∀ c : Dev Cert.AdNormRefIdeal.nD,
      r.2.mem ((c.tc : Thread Cert.AdNormRefIdeal.nD Cert.AdNormRefIdeal.τ).loc Cert.AdNormRefIdeal.main_arg0) = m ((c.tc : Thread Cert.AdNormRefIdeal.nD Cert.AdNormRefIdeal.τ).loc Cert.AdNormRefIdeal.main_arg0)
      ∧ r.2.mem ((c.tc : Thread Cert.AdNormRefIdeal.nD Cert.AdNormRefIdeal.τ).loc Cert.AdNormRefIdeal.main_arg1) = m ((c.tc : Thread Cert.AdNormRefIdeal.nD Cert.AdNormRefIdeal.τ).loc Cert.AdNormRefIdeal.main_arg1)
      ∧ r.2.mem ((c.tc : Thread Cert.AdNormRefIdeal.nD Cert.AdNormRefIdeal.τ).loc Cert.AdNormRefIdeal.main_arg2) = m ((c.tc : Thread Cert.AdNormRefIdeal.nD Cert.AdNormRefIdeal.τ).loc Cert.AdNormRefIdeal.main_arg2)
      ∧ r.2.mem ((c.tc : Thread Cert.AdNormRefIdeal.nD Cert.AdNormRefIdeal.τ).loc Cert.AdNormRefIdeal.main_arg3) = m ((c.tc : Thread Cert.AdNormRefIdeal.nD Cert.AdNormRefIdeal.τ).loc Cert.AdNormRefIdeal.main_arg3))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ r.2.sem = fun _ => 0)

def quiescent_AdInRefIdeal [hAdInRefIdeal : Cert.AdInRefIdeal.Facts] : Prop :=
  ∀ (m : (ℓ : Loc Cert.AdInRefIdeal.nD Cert.AdInRefIdeal.τ Cert.AdInRefIdeal.sig) → Buf (Elt Ideal) ℓ) (g : Dev Cert.AdInRefIdeal.nD → PrngReg), Pre_AdInRefIdeal m →
    θ_run (Cert.AdInRefIdeal.defs (F := Ideal)) (onTc (τ := Cert.AdInRefIdeal.τ) (Cert.AdInRefIdeal.main (F := Ideal))) ⟨m, fun _ => 0, g⟩ (fun r => (∀ c : Dev Cert.AdInRefIdeal.nD,
      r.2.mem ((c.tc : Thread Cert.AdInRefIdeal.nD Cert.AdInRefIdeal.τ).loc Cert.AdInRefIdeal.main_arg0) = m ((c.tc : Thread Cert.AdInRefIdeal.nD Cert.AdInRefIdeal.τ).loc Cert.AdInRefIdeal.main_arg0)
      ∧ r.2.mem ((c.tc : Thread Cert.AdInRefIdeal.nD Cert.AdInRefIdeal.τ).loc Cert.AdInRefIdeal.main_arg1) = m ((c.tc : Thread Cert.AdInRefIdeal.nD Cert.AdInRefIdeal.τ).loc Cert.AdInRefIdeal.main_arg1)
      ∧ r.2.mem ((c.tc : Thread Cert.AdInRefIdeal.nD Cert.AdInRefIdeal.τ).loc Cert.AdInRefIdeal.main_arg2) = m ((c.tc : Thread Cert.AdInRefIdeal.nD Cert.AdInRefIdeal.τ).loc Cert.AdInRefIdeal.main_arg2)
      ∧ r.2.mem ((c.tc : Thread Cert.AdInRefIdeal.nD Cert.AdInRefIdeal.τ).loc Cert.AdInRefIdeal.main_arg3) = m ((c.tc : Thread Cert.AdInRefIdeal.nD Cert.AdInRefIdeal.τ).loc Cert.AdInRefIdeal.main_arg3))
      ∧ r.2.sem = fun _ => 0)

def quiescent_AdGate [hAdGate : Cert.AdGate.Facts] : Prop :=
  ∀ (m : (ℓ : Loc Cert.AdGate.nD Cert.AdGate.τ Cert.AdGate.sig) → Buf (Elt Bits) ℓ) (g : Dev Cert.AdGate.nD → PrngReg), Pre_AdGate m →
    θ_run (Cert.AdGate.defs (F := Bits)) (onTc (τ := Cert.AdGate.τ) (Cert.AdGate.main (F := Bits))) ⟨m, fun _ => 0, g⟩ (fun r => (∀ c : Dev Cert.AdGate.nD,
      r.2.mem ((c.tc : Thread Cert.AdGate.nD Cert.AdGate.τ).loc Cert.AdGate.main_arg0) = m ((c.tc : Thread Cert.AdGate.nD Cert.AdGate.τ).loc Cert.AdGate.main_arg0)
      ∧ r.2.mem ((c.tc : Thread Cert.AdGate.nD Cert.AdGate.τ).loc Cert.AdGate.main_arg1) = m ((c.tc : Thread Cert.AdGate.nD Cert.AdGate.τ).loc Cert.AdGate.main_arg1)
      ∧ r.2.mem ((c.tc : Thread Cert.AdGate.nD Cert.AdGate.τ).loc Cert.AdGate.main_arg2) = m ((c.tc : Thread Cert.AdGate.nD Cert.AdGate.τ).loc Cert.AdGate.main_arg2)
      ∧ r.2.mem ((c.tc : Thread Cert.AdGate.nD Cert.AdGate.τ).loc Cert.AdGate.main_arg3) = m ((c.tc : Thread Cert.AdGate.nD Cert.AdGate.τ).loc Cert.AdGate.main_arg3))
      ∧ r.2.sem = fun _ => 0)

def quiescent_AdGateIdeal [hAdGateIdeal : Cert.AdGateIdeal.Facts] : Prop :=
  ∀ (m : (ℓ : Loc Cert.AdGateIdeal.nD Cert.AdGateIdeal.τ Cert.AdGateIdeal.sig) → Buf (Elt Ideal) ℓ) (g : Dev Cert.AdGateIdeal.nD → PrngReg), Pre_AdGateIdeal m →
    θ_run (Cert.AdGateIdeal.defs (F := Ideal)) (onTc (τ := Cert.AdGateIdeal.τ) (Cert.AdGateIdeal.main (F := Ideal))) ⟨m, fun _ => 0, g⟩ (fun r => (∀ c : Dev Cert.AdGateIdeal.nD,
      r.2.mem ((c.tc : Thread Cert.AdGateIdeal.nD Cert.AdGateIdeal.τ).loc Cert.AdGateIdeal.main_arg0) = m ((c.tc : Thread Cert.AdGateIdeal.nD Cert.AdGateIdeal.τ).loc Cert.AdGateIdeal.main_arg0)
      ∧ r.2.mem ((c.tc : Thread Cert.AdGateIdeal.nD Cert.AdGateIdeal.τ).loc Cert.AdGateIdeal.main_arg1) = m ((c.tc : Thread Cert.AdGateIdeal.nD Cert.AdGateIdeal.τ).loc Cert.AdGateIdeal.main_arg1)
      ∧ r.2.mem ((c.tc : Thread Cert.AdGateIdeal.nD Cert.AdGateIdeal.τ).loc Cert.AdGateIdeal.main_arg2) = m ((c.tc : Thread Cert.AdGateIdeal.nD Cert.AdGateIdeal.τ).loc Cert.AdGateIdeal.main_arg2)
      ∧ r.2.mem ((c.tc : Thread Cert.AdGateIdeal.nD Cert.AdGateIdeal.τ).loc Cert.AdGateIdeal.main_arg3) = m ((c.tc : Thread Cert.AdGateIdeal.nD Cert.AdGateIdeal.τ).loc Cert.AdGateIdeal.main_arg3))
      ∧ r.2.sem = fun _ => 0)

def quiescent_AdGateRefIdeal [hAdGateRefIdeal : Cert.AdGateRefIdeal.Facts] : Prop :=
  ∀ (m : (ℓ : Loc Cert.AdGateRefIdeal.nD Cert.AdGateRefIdeal.τ Cert.AdGateRefIdeal.sig) → Buf (Elt Ideal) ℓ) (g : Dev Cert.AdGateRefIdeal.nD → PrngReg), Pre_AdGateRefIdeal m →
    θ_run (Cert.AdGateRefIdeal.defs (F := Ideal)) (onTc (τ := Cert.AdGateRefIdeal.τ) (Cert.AdGateRefIdeal.main (F := Ideal))) ⟨m, fun _ => 0, g⟩ (fun r => (∀ c : Dev Cert.AdGateRefIdeal.nD,
      r.2.mem ((c.tc : Thread Cert.AdGateRefIdeal.nD Cert.AdGateRefIdeal.τ).loc Cert.AdGateRefIdeal.main_arg0) = m ((c.tc : Thread Cert.AdGateRefIdeal.nD Cert.AdGateRefIdeal.τ).loc Cert.AdGateRefIdeal.main_arg0)
      ∧ r.2.mem ((c.tc : Thread Cert.AdGateRefIdeal.nD Cert.AdGateRefIdeal.τ).loc Cert.AdGateRefIdeal.main_arg1) = m ((c.tc : Thread Cert.AdGateRefIdeal.nD Cert.AdGateRefIdeal.τ).loc Cert.AdGateRefIdeal.main_arg1)
      ∧ r.2.mem ((c.tc : Thread Cert.AdGateRefIdeal.nD Cert.AdGateRefIdeal.τ).loc Cert.AdGateRefIdeal.main_arg2) = m ((c.tc : Thread Cert.AdGateRefIdeal.nD Cert.AdGateRefIdeal.τ).loc Cert.AdGateRefIdeal.main_arg2)
      ∧ r.2.mem ((c.tc : Thread Cert.AdGateRefIdeal.nD Cert.AdGateRefIdeal.τ).loc Cert.AdGateRefIdeal.main_arg3) = m ((c.tc : Thread Cert.AdGateRefIdeal.nD Cert.AdGateRefIdeal.τ).loc Cert.AdGateRefIdeal.main_arg3))
      ∧ r.2.sem = fun _ => 0)

def quiescent_AdRet [hAdRet : Cert.AdRet.Facts] : Prop :=
  ∀ (m : (ℓ : Loc Cert.AdRet.nD Cert.AdRet.τ Cert.AdRet.sig) → Buf (Elt Bits) ℓ) (g : Dev Cert.AdRet.nD → PrngReg), Pre_AdRet m →
    θ_run (Cert.AdRet.defs (F := Bits)) (onTc (τ := Cert.AdRet.τ) (Cert.AdRet.main (F := Bits))) ⟨m, fun _ => 0, g⟩ (fun r => (∀ c : Dev Cert.AdRet.nD,
      r.2.mem ((c.tc : Thread Cert.AdRet.nD Cert.AdRet.τ).loc Cert.AdRet.main_arg0) = m ((c.tc : Thread Cert.AdRet.nD Cert.AdRet.τ).loc Cert.AdRet.main_arg0)
      ∧ r.2.mem ((c.tc : Thread Cert.AdRet.nD Cert.AdRet.τ).loc Cert.AdRet.main_arg1) = m ((c.tc : Thread Cert.AdRet.nD Cert.AdRet.τ).loc Cert.AdRet.main_arg1)
      ∧ r.2.mem ((c.tc : Thread Cert.AdRet.nD Cert.AdRet.τ).loc Cert.AdRet.main_arg2) = m ((c.tc : Thread Cert.AdRet.nD Cert.AdRet.τ).loc Cert.AdRet.main_arg2)
      ∧ r.2.mem ((c.tc : Thread Cert.AdRet.nD Cert.AdRet.τ).loc Cert.AdRet.main_arg3) = m ((c.tc : Thread Cert.AdRet.nD Cert.AdRet.τ).loc Cert.AdRet.main_arg3))
      ∧ r.2.sem = fun _ => 0)

def quiescent_AdRetIdeal [hAdRetIdeal : Cert.AdRetIdeal.Facts] : Prop :=
  ∀ (m : (ℓ : Loc Cert.AdRetIdeal.nD Cert.AdRetIdeal.τ Cert.AdRetIdeal.sig) → Buf (Elt Ideal) ℓ) (g : Dev Cert.AdRetIdeal.nD → PrngReg), Pre_AdRetIdeal m →
    θ_run (Cert.AdRetIdeal.defs (F := Ideal)) (onTc (τ := Cert.AdRetIdeal.τ) (Cert.AdRetIdeal.main (F := Ideal))) ⟨m, fun _ => 0, g⟩ (fun r => (∀ c : Dev Cert.AdRetIdeal.nD,
      r.2.mem ((c.tc : Thread Cert.AdRetIdeal.nD Cert.AdRetIdeal.τ).loc Cert.AdRetIdeal.main_arg0) = m ((c.tc : Thread Cert.AdRetIdeal.nD Cert.AdRetIdeal.τ).loc Cert.AdRetIdeal.main_arg0)
      ∧ r.2.mem ((c.tc : Thread Cert.AdRetIdeal.nD Cert.AdRetIdeal.τ).loc Cert.AdRetIdeal.main_arg1) = m ((c.tc : Thread Cert.AdRetIdeal.nD Cert.AdRetIdeal.τ).loc Cert.AdRetIdeal.main_arg1)
      ∧ r.2.mem ((c.tc : Thread Cert.AdRetIdeal.nD Cert.AdRetIdeal.τ).loc Cert.AdRetIdeal.main_arg2) = m ((c.tc : Thread Cert.AdRetIdeal.nD Cert.AdRetIdeal.τ).loc Cert.AdRetIdeal.main_arg2)
      ∧ r.2.mem ((c.tc : Thread Cert.AdRetIdeal.nD Cert.AdRetIdeal.τ).loc Cert.AdRetIdeal.main_arg3) = m ((c.tc : Thread Cert.AdRetIdeal.nD Cert.AdRetIdeal.τ).loc Cert.AdRetIdeal.main_arg3))
      ∧ r.2.sem = fun _ => 0)

def quiescent_AdRetRefIdeal [hAdRetRefIdeal : Cert.AdRetRefIdeal.Facts] : Prop :=
  ∀ (m : (ℓ : Loc Cert.AdRetRefIdeal.nD Cert.AdRetRefIdeal.τ Cert.AdRetRefIdeal.sig) → Buf (Elt Ideal) ℓ) (g : Dev Cert.AdRetRefIdeal.nD → PrngReg), Pre_AdRetRefIdeal m →
    θ_run (Cert.AdRetRefIdeal.defs (F := Ideal)) (onTc (τ := Cert.AdRetRefIdeal.τ) (Cert.AdRetRefIdeal.main (F := Ideal))) ⟨m, fun _ => 0, g⟩ (fun r => (∀ c : Dev Cert.AdRetRefIdeal.nD,
      r.2.mem ((c.tc : Thread Cert.AdRetRefIdeal.nD Cert.AdRetRefIdeal.τ).loc Cert.AdRetRefIdeal.main_arg0) = m ((c.tc : Thread Cert.AdRetRefIdeal.nD Cert.AdRetRefIdeal.τ).loc Cert.AdRetRefIdeal.main_arg0)
      ∧ r.2.mem ((c.tc : Thread Cert.AdRetRefIdeal.nD Cert.AdRetRefIdeal.τ).loc Cert.AdRetRefIdeal.main_arg1) = m ((c.tc : Thread Cert.AdRetRefIdeal.nD Cert.AdRetRefIdeal.τ).loc Cert.AdRetRefIdeal.main_arg1)
      ∧ r.2.mem ((c.tc : Thread Cert.AdRetRefIdeal.nD Cert.AdRetRefIdeal.τ).loc Cert.AdRetRefIdeal.main_arg2) = m ((c.tc : Thread Cert.AdRetRefIdeal.nD Cert.AdRetRefIdeal.τ).loc Cert.AdRetRefIdeal.main_arg2)
      ∧ r.2.mem ((c.tc : Thread Cert.AdRetRefIdeal.nD Cert.AdRetRefIdeal.τ).loc Cert.AdRetRefIdeal.main_arg3) = m ((c.tc : Thread Cert.AdRetRefIdeal.nD Cert.AdRetRefIdeal.τ).loc Cert.AdRetRefIdeal.main_arg3))
      ∧ r.2.sem = fun _ => 0)

def quiescent_AdDil [hAdDil : Cert.AdDil.Facts] : Prop :=
  ∀ (m : (ℓ : Loc Cert.AdDil.nD Cert.AdDil.τ Cert.AdDil.sig) → Buf (Elt Bits) ℓ) (g : Dev Cert.AdDil.nD → PrngReg), Pre_AdDil m →
    θ_run (Cert.AdDil.defs (F := Bits)) (onTc (τ := Cert.AdDil.τ) (Cert.AdDil.main (F := Bits))) ⟨m, fun _ => 0, g⟩ (fun r => (∀ c : Dev Cert.AdDil.nD,
      r.2.mem ((c.tc : Thread Cert.AdDil.nD Cert.AdDil.τ).loc Cert.AdDil.main_arg0) = m ((c.tc : Thread Cert.AdDil.nD Cert.AdDil.τ).loc Cert.AdDil.main_arg0)
      ∧ r.2.mem ((c.tc : Thread Cert.AdDil.nD Cert.AdDil.τ).loc Cert.AdDil.main_arg1) = m ((c.tc : Thread Cert.AdDil.nD Cert.AdDil.τ).loc Cert.AdDil.main_arg1)
      ∧ r.2.mem ((c.tc : Thread Cert.AdDil.nD Cert.AdDil.τ).loc Cert.AdDil.main_arg2) = m ((c.tc : Thread Cert.AdDil.nD Cert.AdDil.τ).loc Cert.AdDil.main_arg2)
      ∧ r.2.mem ((c.tc : Thread Cert.AdDil.nD Cert.AdDil.τ).loc Cert.AdDil.main_arg3) = m ((c.tc : Thread Cert.AdDil.nD Cert.AdDil.τ).loc Cert.AdDil.main_arg3))
      ∧ r.2.sem = fun _ => 0)

def quiescent_AdDilIdeal [hAdDilIdeal : Cert.AdDilIdeal.Facts] : Prop :=
  ∀ (m : (ℓ : Loc Cert.AdDilIdeal.nD Cert.AdDilIdeal.τ Cert.AdDilIdeal.sig) → Buf (Elt Ideal) ℓ) (g : Dev Cert.AdDilIdeal.nD → PrngReg), Pre_AdDilIdeal m →
    θ_run (Cert.AdDilIdeal.defs (F := Ideal)) (onTc (τ := Cert.AdDilIdeal.τ) (Cert.AdDilIdeal.main (F := Ideal))) ⟨m, fun _ => 0, g⟩ (fun r => (∀ c : Dev Cert.AdDilIdeal.nD,
      r.2.mem ((c.tc : Thread Cert.AdDilIdeal.nD Cert.AdDilIdeal.τ).loc Cert.AdDilIdeal.main_arg0) = m ((c.tc : Thread Cert.AdDilIdeal.nD Cert.AdDilIdeal.τ).loc Cert.AdDilIdeal.main_arg0)
      ∧ r.2.mem ((c.tc : Thread Cert.AdDilIdeal.nD Cert.AdDilIdeal.τ).loc Cert.AdDilIdeal.main_arg1) = m ((c.tc : Thread Cert.AdDilIdeal.nD Cert.AdDilIdeal.τ).loc Cert.AdDilIdeal.main_arg1)
      ∧ r.2.mem ((c.tc : Thread Cert.AdDilIdeal.nD Cert.AdDilIdeal.τ).loc Cert.AdDilIdeal.main_arg2) = m ((c.tc : Thread Cert.AdDilIdeal.nD Cert.AdDilIdeal.τ).loc Cert.AdDilIdeal.main_arg2)
      ∧ r.2.mem ((c.tc : Thread Cert.AdDilIdeal.nD Cert.AdDilIdeal.τ).loc Cert.AdDilIdeal.main_arg3) = m ((c.tc : Thread Cert.AdDilIdeal.nD Cert.AdDilIdeal.τ).loc Cert.AdDilIdeal.main_arg3))
      ∧ r.2.sem = fun _ => 0)

def quiescent_AdDilRefIdeal [hAdDilRefIdeal : Cert.AdDilRefIdeal.Facts] : Prop :=
  ∀ (m : (ℓ : Loc Cert.AdDilRefIdeal.nD Cert.AdDilRefIdeal.τ Cert.AdDilRefIdeal.sig) → Buf (Elt Ideal) ℓ) (g : Dev Cert.AdDilRefIdeal.nD → PrngReg), Pre_AdDilRefIdeal m →
    θ_run (Cert.AdDilRefIdeal.defs (F := Ideal)) (onTc (τ := Cert.AdDilRefIdeal.τ) (Cert.AdDilRefIdeal.main (F := Ideal))) ⟨m, fun _ => 0, g⟩ (fun r => (∀ c : Dev Cert.AdDilRefIdeal.nD,
      r.2.mem ((c.tc : Thread Cert.AdDilRefIdeal.nD Cert.AdDilRefIdeal.τ).loc Cert.AdDilRefIdeal.main_arg0) = m ((c.tc : Thread Cert.AdDilRefIdeal.nD Cert.AdDilRefIdeal.τ).loc Cert.AdDilRefIdeal.main_arg0)
      ∧ r.2.mem ((c.tc : Thread Cert.AdDilRefIdeal.nD Cert.AdDilRefIdeal.τ).loc Cert.AdDilRefIdeal.main_arg1) = m ((c.tc : Thread Cert.AdDilRefIdeal.nD Cert.AdDilRefIdeal.τ).loc Cert.AdDilRefIdeal.main_arg1)
      ∧ r.2.mem ((c.tc : Thread Cert.AdDilRefIdeal.nD Cert.AdDilRefIdeal.τ).loc Cert.AdDilRefIdeal.main_arg2) = m ((c.tc : Thread Cert.AdDilRefIdeal.nD Cert.AdDilRefIdeal.τ).loc Cert.AdDilRefIdeal.main_arg2)
      ∧ r.2.mem ((c.tc : Thread Cert.AdDilRefIdeal.nD Cert.AdDilRefIdeal.τ).loc Cert.AdDilRefIdeal.main_arg3) = m ((c.tc : Thread Cert.AdDilRefIdeal.nD Cert.AdDilRefIdeal.τ).loc Cert.AdDilRefIdeal.main_arg3))
      ∧ r.2.sem = fun _ => 0)

def quiescent_AdMix [hAdMix : Cert.AdMix.Facts] : Prop :=
  ∀ (m : (ℓ : Loc Cert.AdMix.nD Cert.AdMix.τ Cert.AdMix.sig) → Buf (Elt Bits) ℓ) (g : Dev Cert.AdMix.nD → PrngReg), Pre_AdMix m →
    θ_run (Cert.AdMix.defs (F := Bits)) (onTc (τ := Cert.AdMix.τ) (Cert.AdMix.main (F := Bits))) ⟨m, fun _ => 0, g⟩ (fun r => (∀ c : Dev Cert.AdMix.nD,
      r.2.mem ((c.tc : Thread Cert.AdMix.nD Cert.AdMix.τ).loc Cert.AdMix.main_arg0) = m ((c.tc : Thread Cert.AdMix.nD Cert.AdMix.τ).loc Cert.AdMix.main_arg0)
      ∧ r.2.mem ((c.tc : Thread Cert.AdMix.nD Cert.AdMix.τ).loc Cert.AdMix.main_arg1) = m ((c.tc : Thread Cert.AdMix.nD Cert.AdMix.τ).loc Cert.AdMix.main_arg1)
      ∧ r.2.mem ((c.tc : Thread Cert.AdMix.nD Cert.AdMix.τ).loc Cert.AdMix.main_arg2) = m ((c.tc : Thread Cert.AdMix.nD Cert.AdMix.τ).loc Cert.AdMix.main_arg2)
      ∧ r.2.mem ((c.tc : Thread Cert.AdMix.nD Cert.AdMix.τ).loc Cert.AdMix.main_arg3) = m ((c.tc : Thread Cert.AdMix.nD Cert.AdMix.τ).loc Cert.AdMix.main_arg3))
      ∧ r.2.sem = fun _ => 0)

def quiescent_AdMixIdeal [hAdMixIdeal : Cert.AdMixIdeal.Facts] : Prop :=
  ∀ (m : (ℓ : Loc Cert.AdMixIdeal.nD Cert.AdMixIdeal.τ Cert.AdMixIdeal.sig) → Buf (Elt Ideal) ℓ) (g : Dev Cert.AdMixIdeal.nD → PrngReg), Pre_AdMixIdeal m →
    θ_run (Cert.AdMixIdeal.defs (F := Ideal)) (onTc (τ := Cert.AdMixIdeal.τ) (Cert.AdMixIdeal.main (F := Ideal))) ⟨m, fun _ => 0, g⟩ (fun r => (∀ c : Dev Cert.AdMixIdeal.nD,
      r.2.mem ((c.tc : Thread Cert.AdMixIdeal.nD Cert.AdMixIdeal.τ).loc Cert.AdMixIdeal.main_arg0) = m ((c.tc : Thread Cert.AdMixIdeal.nD Cert.AdMixIdeal.τ).loc Cert.AdMixIdeal.main_arg0)
      ∧ r.2.mem ((c.tc : Thread Cert.AdMixIdeal.nD Cert.AdMixIdeal.τ).loc Cert.AdMixIdeal.main_arg1) = m ((c.tc : Thread Cert.AdMixIdeal.nD Cert.AdMixIdeal.τ).loc Cert.AdMixIdeal.main_arg1)
      ∧ r.2.mem ((c.tc : Thread Cert.AdMixIdeal.nD Cert.AdMixIdeal.τ).loc Cert.AdMixIdeal.main_arg2) = m ((c.tc : Thread Cert.AdMixIdeal.nD Cert.AdMixIdeal.τ).loc Cert.AdMixIdeal.main_arg2)
      ∧ r.2.mem ((c.tc : Thread Cert.AdMixIdeal.nD Cert.AdMixIdeal.τ).loc Cert.AdMixIdeal.main_arg3) = m ((c.tc : Thread Cert.AdMixIdeal.nD Cert.AdMixIdeal.τ).loc Cert.AdMixIdeal.main_arg3))
      ∧ r.2.sem = fun _ => 0)

def quiescent_AdMixRefIdeal [hAdMixRefIdeal : Cert.AdMixRefIdeal.Facts] : Prop :=
  ∀ (m : (ℓ : Loc Cert.AdMixRefIdeal.nD Cert.AdMixRefIdeal.τ Cert.AdMixRefIdeal.sig) → Buf (Elt Ideal) ℓ) (g : Dev Cert.AdMixRefIdeal.nD → PrngReg), Pre_AdMixRefIdeal m →
    θ_run (Cert.AdMixRefIdeal.defs (F := Ideal)) (onTc (τ := Cert.AdMixRefIdeal.τ) (Cert.AdMixRefIdeal.main (F := Ideal))) ⟨m, fun _ => 0, g⟩ (fun r => (∀ c : Dev Cert.AdMixRefIdeal.nD,
      r.2.mem ((c.tc : Thread Cert.AdMixRefIdeal.nD Cert.AdMixRefIdeal.τ).loc Cert.AdMixRefIdeal.main_arg0) = m ((c.tc : Thread Cert.AdMixRefIdeal.nD Cert.AdMixRefIdeal.τ).loc Cert.AdMixRefIdeal.main_arg0)
      ∧ r.2.mem ((c.tc : Thread Cert.AdMixRefIdeal.nD Cert.AdMixRefIdeal.τ).loc Cert.AdMixRefIdeal.main_arg1) = m ((c.tc : Thread Cert.AdMixRefIdeal.nD Cert.AdMixRefIdeal.τ).loc Cert.AdMixRefIdeal.main_arg1)
      ∧ r.2.mem ((c.tc : Thread Cert.AdMixRefIdeal.nD Cert.AdMixRefIdeal.τ).loc Cert.AdMixRefIdeal.main_arg2) = m ((c.tc : Thread Cert.AdMixRefIdeal.nD Cert.AdMixRefIdeal.τ).loc Cert.AdMixRefIdeal.main_arg2)
      ∧ r.2.mem ((c.tc : Thread Cert.AdMixRefIdeal.nD Cert.AdMixRefIdeal.τ).loc Cert.AdMixRefIdeal.main_arg3) = m ((c.tc : Thread Cert.AdMixRefIdeal.nD Cert.AdMixRefIdeal.τ).loc Cert.AdMixRefIdeal.main_arg3))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ r.2.sem = fun _ => 0)

def quiescent_AdOutRefIdeal [hAdOutRefIdeal : Cert.AdOutRefIdeal.Facts] : Prop :=
  ∀ (m : (ℓ : Loc Cert.AdOutRefIdeal.nD Cert.AdOutRefIdeal.τ Cert.AdOutRefIdeal.sig) → Buf (Elt Ideal) ℓ) (g : Dev Cert.AdOutRefIdeal.nD → PrngReg), Pre_AdOutRefIdeal m →
    θ_run (Cert.AdOutRefIdeal.defs (F := Ideal)) (onTc (τ := Cert.AdOutRefIdeal.τ) (Cert.AdOutRefIdeal.main (F := Ideal))) ⟨m, fun _ => 0, g⟩ (fun r => (∀ c : Dev Cert.AdOutRefIdeal.nD,
      r.2.mem ((c.tc : Thread Cert.AdOutRefIdeal.nD Cert.AdOutRefIdeal.τ).loc Cert.AdOutRefIdeal.main_arg0) = m ((c.tc : Thread Cert.AdOutRefIdeal.nD Cert.AdOutRefIdeal.τ).loc Cert.AdOutRefIdeal.main_arg0)
      ∧ r.2.mem ((c.tc : Thread Cert.AdOutRefIdeal.nD Cert.AdOutRefIdeal.τ).loc Cert.AdOutRefIdeal.main_arg1) = m ((c.tc : Thread Cert.AdOutRefIdeal.nD Cert.AdOutRefIdeal.τ).loc Cert.AdOutRefIdeal.main_arg1)
      ∧ r.2.mem ((c.tc : Thread Cert.AdOutRefIdeal.nD Cert.AdOutRefIdeal.τ).loc Cert.AdOutRefIdeal.main_arg2) = m ((c.tc : Thread Cert.AdOutRefIdeal.nD Cert.AdOutRefIdeal.τ).loc Cert.AdOutRefIdeal.main_arg2)
      ∧ r.2.mem ((c.tc : Thread Cert.AdOutRefIdeal.nD Cert.AdOutRefIdeal.τ).loc Cert.AdOutRefIdeal.main_arg3) = m ((c.tc : Thread Cert.AdOutRefIdeal.nD Cert.AdOutRefIdeal.τ).loc Cert.AdOutRefIdeal.main_arg3))
      ∧ r.2.sem = fun _ => 0)

def quiescent_AdUp [hAdUp : Cert.AdUp.Facts] : Prop :=
  ∀ (m : (ℓ : Loc Cert.AdUp.nD Cert.AdUp.τ Cert.AdUp.sig) → Buf (Elt Bits) ℓ) (g : Dev Cert.AdUp.nD → PrngReg), Pre_AdUp m →
    θ_run (Cert.AdUp.defs (F := Bits)) (onTc (τ := Cert.AdUp.τ) (Cert.AdUp.main (F := Bits))) ⟨m, fun _ => 0, g⟩ (fun r => (∀ c : Dev Cert.AdUp.nD,
      r.2.mem ((c.tc : Thread Cert.AdUp.nD Cert.AdUp.τ).loc Cert.AdUp.main_arg0) = m ((c.tc : Thread Cert.AdUp.nD Cert.AdUp.τ).loc Cert.AdUp.main_arg0)
      ∧ r.2.mem ((c.tc : Thread Cert.AdUp.nD Cert.AdUp.τ).loc Cert.AdUp.main_arg1) = m ((c.tc : Thread Cert.AdUp.nD Cert.AdUp.τ).loc Cert.AdUp.main_arg1)
      ∧ r.2.mem ((c.tc : Thread Cert.AdUp.nD Cert.AdUp.τ).loc Cert.AdUp.main_arg2) = m ((c.tc : Thread Cert.AdUp.nD Cert.AdUp.τ).loc Cert.AdUp.main_arg2)
      ∧ r.2.mem ((c.tc : Thread Cert.AdUp.nD Cert.AdUp.τ).loc Cert.AdUp.main_arg3) = m ((c.tc : Thread Cert.AdUp.nD Cert.AdUp.τ).loc Cert.AdUp.main_arg3))
      ∧ r.2.sem = fun _ => 0)

def quiescent_AdUpIdeal [hAdUpIdeal : Cert.AdUpIdeal.Facts] : Prop :=
  ∀ (m : (ℓ : Loc Cert.AdUpIdeal.nD Cert.AdUpIdeal.τ Cert.AdUpIdeal.sig) → Buf (Elt Ideal) ℓ) (g : Dev Cert.AdUpIdeal.nD → PrngReg), Pre_AdUpIdeal m →
    θ_run (Cert.AdUpIdeal.defs (F := Ideal)) (onTc (τ := Cert.AdUpIdeal.τ) (Cert.AdUpIdeal.main (F := Ideal))) ⟨m, fun _ => 0, g⟩ (fun r => (∀ c : Dev Cert.AdUpIdeal.nD,
      r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
      ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
      ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
      ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3))
      ∧ r.2.sem = fun _ => 0)

def quiescent_AdUpRefIdeal [hAdUpRefIdeal : Cert.AdUpRefIdeal.Facts] : Prop :=
  ∀ (m : (ℓ : Loc Cert.AdUpRefIdeal.nD Cert.AdUpRefIdeal.τ Cert.AdUpRefIdeal.sig) → Buf (Elt Ideal) ℓ) (g : Dev Cert.AdUpRefIdeal.nD → PrngReg), Pre_AdUpRefIdeal m →
    θ_run (Cert.AdUpRefIdeal.defs (F := Ideal)) (onTc (τ := Cert.AdUpRefIdeal.τ) (Cert.AdUpRefIdeal.main (F := Ideal))) ⟨m, fun _ => 0, g⟩ (fun r => (∀ c : Dev Cert.AdUpRefIdeal.nD,
      r.2.mem ((c.tc : Thread Cert.AdUpRefIdeal.nD Cert.AdUpRefIdeal.τ).loc Cert.AdUpRefIdeal.main_arg0) = m ((c.tc : Thread Cert.AdUpRefIdeal.nD Cert.AdUpRefIdeal.τ).loc Cert.AdUpRefIdeal.main_arg0)
      ∧ r.2.mem ((c.tc : Thread Cert.AdUpRefIdeal.nD Cert.AdUpRefIdeal.τ).loc Cert.AdUpRefIdeal.main_arg1) = m ((c.tc : Thread Cert.AdUpRefIdeal.nD Cert.AdUpRefIdeal.τ).loc Cert.AdUpRefIdeal.main_arg1)
      ∧ r.2.mem ((c.tc : Thread Cert.AdUpRefIdeal.nD Cert.AdUpRefIdeal.τ).loc Cert.AdUpRefIdeal.main_arg2) = m ((c.tc : Thread Cert.AdUpRefIdeal.nD Cert.AdUpRefIdeal.τ).loc Cert.AdUpRefIdeal.main_arg2)
      ∧ r.2.mem ((c.tc : Thread Cert.AdUpRefIdeal.nD Cert.AdUpRefIdeal.τ).loc Cert.AdUpRefIdeal.main_arg3) = m ((c.tc : Thread Cert.AdUpRefIdeal.nD Cert.AdUpRefIdeal.τ).loc Cert.AdUpRefIdeal.main_arg3))
      ∧ r.2.sem = fun _ => 0)

def quiescent_AdTaps [hAdTaps : Cert.AdTaps.Facts] : Prop :=
  ∀ (m : (ℓ : Loc Cert.AdTaps.nD Cert.AdTaps.τ Cert.AdTaps.sig) → Buf (Elt Bits) ℓ) (g : Dev Cert.AdTaps.nD → PrngReg), Pre_AdTaps m →
    θ_run (Cert.AdTaps.defs (F := Bits)) (onTc (τ := Cert.AdTaps.τ) (Cert.AdTaps.main (F := Bits))) ⟨m, fun _ => 0, g⟩ (fun r => (∀ c : Dev Cert.AdTaps.nD,
      r.2.mem ((c.tc : Thread Cert.AdTaps.nD Cert.AdTaps.τ).loc Cert.AdTaps.main_arg0) = m ((c.tc : Thread Cert.AdTaps.nD Cert.AdTaps.τ).loc Cert.AdTaps.main_arg0)
      ∧ r.2.mem ((c.tc : Thread Cert.AdTaps.nD Cert.AdTaps.τ).loc Cert.AdTaps.main_arg1) = m ((c.tc : Thread Cert.AdTaps.nD Cert.AdTaps.τ).loc Cert.AdTaps.main_arg1)
      ∧ r.2.mem ((c.tc : Thread Cert.AdTaps.nD Cert.AdTaps.τ).loc Cert.AdTaps.main_arg2) = m ((c.tc : Thread Cert.AdTaps.nD Cert.AdTaps.τ).loc Cert.AdTaps.main_arg2)
      ∧ r.2.mem ((c.tc : Thread Cert.AdTaps.nD Cert.AdTaps.τ).loc Cert.AdTaps.main_arg3) = m ((c.tc : Thread Cert.AdTaps.nD Cert.AdTaps.τ).loc Cert.AdTaps.main_arg3))
      ∧ r.2.sem = fun _ => 0)

def quiescent_AdTapsIdeal [hAdTapsIdeal : Cert.AdTapsIdeal.Facts] : Prop :=
  ∀ (m : (ℓ : Loc Cert.AdTapsIdeal.nD Cert.AdTapsIdeal.τ Cert.AdTapsIdeal.sig) → Buf (Elt Ideal) ℓ) (g : Dev Cert.AdTapsIdeal.nD → PrngReg), Pre_AdTapsIdeal m →
    θ_run (Cert.AdTapsIdeal.defs (F := Ideal)) (onTc (τ := Cert.AdTapsIdeal.τ) (Cert.AdTapsIdeal.main (F := Ideal))) ⟨m, fun _ => 0, g⟩ (fun r => (∀ c : Dev Cert.AdTapsIdeal.nD,
      r.2.mem ((c.tc : Thread Cert.AdTapsIdeal.nD Cert.AdTapsIdeal.τ).loc Cert.AdTapsIdeal.main_arg0) = m ((c.tc : Thread Cert.AdTapsIdeal.nD Cert.AdTapsIdeal.τ).loc Cert.AdTapsIdeal.main_arg0)
      ∧ r.2.mem ((c.tc : Thread Cert.AdTapsIdeal.nD Cert.AdTapsIdeal.τ).loc Cert.AdTapsIdeal.main_arg1) = m ((c.tc : Thread Cert.AdTapsIdeal.nD Cert.AdTapsIdeal.τ).loc Cert.AdTapsIdeal.main_arg1)
      ∧ r.2.mem ((c.tc : Thread Cert.AdTapsIdeal.nD Cert.AdTapsIdeal.τ).loc Cert.AdTapsIdeal.main_arg2) = m ((c.tc : Thread Cert.AdTapsIdeal.nD Cert.AdTapsIdeal.τ).loc Cert.AdTapsIdeal.main_arg2)
      ∧ r.2.mem ((c.tc : Thread Cert.AdTapsIdeal.nD Cert.AdTapsIdeal.τ).loc Cert.AdTapsIdeal.main_arg3) = m ((c.tc : Thread Cert.AdTapsIdeal.nD Cert.AdTapsIdeal.τ).loc Cert.AdTapsIdeal.main_arg3))
      ∧ r.2.sem = fun _ => 0)

def quiescent_AdTapsRefIdeal [hAdTapsRefIdeal : Cert.AdTapsRefIdeal.Facts] : Prop :=
  ∀ (m : (ℓ : Loc Cert.AdTapsRefIdeal.nD Cert.AdTapsRefIdeal.τ Cert.AdTapsRefIdeal.sig) → Buf (Elt Ideal) ℓ) (g : Dev Cert.AdTapsRefIdeal.nD → PrngReg), Pre_AdTapsRefIdeal m →
    θ_run (Cert.AdTapsRefIdeal.defs (F := Ideal)) (onTc (τ := Cert.AdTapsRefIdeal.τ) (Cert.AdTapsRefIdeal.main (F := Ideal))) ⟨m, fun _ => 0, g⟩ (fun r => (∀ c : Dev Cert.AdTapsRefIdeal.nD,
      r.2.mem ((c.tc : Thread Cert.AdTapsRefIdeal.nD Cert.AdTapsRefIdeal.τ).loc Cert.AdTapsRefIdeal.main_arg0) = m ((c.tc : Thread Cert.AdTapsRefIdeal.nD Cert.AdTapsRefIdeal.τ).loc Cert.AdTapsRefIdeal.main_arg0)
      ∧ r.2.mem ((c.tc : Thread Cert.AdTapsRefIdeal.nD Cert.AdTapsRefIdeal.τ).loc Cert.AdTapsRefIdeal.main_arg1) = m ((c.tc : Thread Cert.AdTapsRefIdeal.nD Cert.AdTapsRefIdeal.τ).loc Cert.AdTapsRefIdeal.main_arg1)
      ∧ r.2.mem ((c.tc : Thread Cert.AdTapsRefIdeal.nD Cert.AdTapsRefIdeal.τ).loc Cert.AdTapsRefIdeal.main_arg2) = m ((c.tc : Thread Cert.AdTapsRefIdeal.nD Cert.AdTapsRefIdeal.τ).loc Cert.AdTapsRefIdeal.main_arg2)
      ∧ r.2.mem ((c.tc : Thread Cert.AdTapsRefIdeal.nD Cert.AdTapsRefIdeal.τ).loc Cert.AdTapsRefIdeal.main_arg3) = m ((c.tc : Thread Cert.AdTapsRefIdeal.nD Cert.AdTapsRefIdeal.τ).loc Cert.AdTapsRefIdeal.main_arg3))
      ∧ r.2.sem = fun _ => 0)

def quiescent_AdConv [hAdConv : Cert.AdConv.Facts] : Prop :=
  ∀ (m : (ℓ : Loc Cert.AdConv.nD Cert.AdConv.τ Cert.AdConv.sig) → Buf (Elt Bits) ℓ) (g : Dev Cert.AdConv.nD → PrngReg), Pre_AdConv m →
    θ_run (Cert.AdConv.defs (F := Bits)) (onTc (τ := Cert.AdConv.τ) (Cert.AdConv.main (F := Bits))) ⟨m, fun _ => 0, g⟩ (fun r => (∀ c : Dev Cert.AdConv.nD,
      r.2.mem ((c.tc : Thread Cert.AdConv.nD Cert.AdConv.τ).loc Cert.AdConv.main_arg0) = m ((c.tc : Thread Cert.AdConv.nD Cert.AdConv.τ).loc Cert.AdConv.main_arg0)
      ∧ r.2.mem ((c.tc : Thread Cert.AdConv.nD Cert.AdConv.τ).loc Cert.AdConv.main_arg1) = m ((c.tc : Thread Cert.AdConv.nD Cert.AdConv.τ).loc Cert.AdConv.main_arg1)
      ∧ r.2.mem ((c.tc : Thread Cert.AdConv.nD Cert.AdConv.τ).loc Cert.AdConv.main_arg2) = m ((c.tc : Thread Cert.AdConv.nD Cert.AdConv.τ).loc Cert.AdConv.main_arg2)
      ∧ r.2.mem ((c.tc : Thread Cert.AdConv.nD Cert.AdConv.τ).loc Cert.AdConv.main_arg3) = m ((c.tc : Thread Cert.AdConv.nD Cert.AdConv.τ).loc Cert.AdConv.main_arg3))
      ∧ r.2.sem = fun _ => 0)

def quiescent_AdConvIdeal [hAdConvIdeal : Cert.AdConvIdeal.Facts] : Prop :=
  ∀ (m : (ℓ : Loc Cert.AdConvIdeal.nD Cert.AdConvIdeal.τ Cert.AdConvIdeal.sig) → Buf (Elt Ideal) ℓ) (g : Dev Cert.AdConvIdeal.nD → PrngReg), Pre_AdConvIdeal m →
    θ_run (Cert.AdConvIdeal.defs (F := Ideal)) (onTc (τ := Cert.AdConvIdeal.τ) (Cert.AdConvIdeal.main (F := Ideal))) ⟨m, fun _ => 0, g⟩ (fun r => (∀ c : Dev Cert.AdConvIdeal.nD,
      r.2.mem ((c.tc : Thread Cert.AdConvIdeal.nD Cert.AdConvIdeal.τ).loc Cert.AdConvIdeal.main_arg0) = m ((c.tc : Thread Cert.AdConvIdeal.nD Cert.AdConvIdeal.τ).loc Cert.AdConvIdeal.main_arg0)
      ∧ r.2.mem ((c.tc : Thread Cert.AdConvIdeal.nD Cert.AdConvIdeal.τ).loc Cert.AdConvIdeal.main_arg1) = m ((c.tc : Thread Cert.AdConvIdeal.nD Cert.AdConvIdeal.τ).loc Cert.AdConvIdeal.main_arg1)
      ∧ r.2.mem ((c.tc : Thread Cert.AdConvIdeal.nD Cert.AdConvIdeal.τ).loc Cert.AdConvIdeal.main_arg2) = m ((c.tc : Thread Cert.AdConvIdeal.nD Cert.AdConvIdeal.τ).loc Cert.AdConvIdeal.main_arg2)
      ∧ r.2.mem ((c.tc : Thread Cert.AdConvIdeal.nD Cert.AdConvIdeal.τ).loc Cert.AdConvIdeal.main_arg3) = m ((c.tc : Thread Cert.AdConvIdeal.nD Cert.AdConvIdeal.τ).loc Cert.AdConvIdeal.main_arg3))
      ∧ r.2.sem = fun _ => 0)

def quiescent_AdConvRefIdeal [hAdConvRefIdeal : Cert.AdConvRefIdeal.Facts] : Prop :=
  ∀ (m : (ℓ : Loc Cert.AdConvRefIdeal.nD Cert.AdConvRefIdeal.τ Cert.AdConvRefIdeal.sig) → Buf (Elt Ideal) ℓ) (g : Dev Cert.AdConvRefIdeal.nD → PrngReg), Pre_AdConvRefIdeal m →
    θ_run (Cert.AdConvRefIdeal.defs (F := Ideal)) (onTc (τ := Cert.AdConvRefIdeal.τ) (Cert.AdConvRefIdeal.main (F := Ideal))) ⟨m, fun _ => 0, g⟩ (fun r => (∀ c : Dev Cert.AdConvRefIdeal.nD,
      r.2.mem ((c.tc : Thread Cert.AdConvRefIdeal.nD Cert.AdConvRefIdeal.τ).loc Cert.AdConvRefIdeal.main_arg0) = m ((c.tc : Thread Cert.AdConvRefIdeal.nD Cert.AdConvRefIdeal.τ).loc Cert.AdConvRefIdeal.main_arg0)
      ∧ r.2.mem ((c.tc : Thread Cert.AdConvRefIdeal.nD Cert.AdConvRefIdeal.τ).loc Cert.AdConvRefIdeal.main_arg1) = m ((c.tc : Thread Cert.AdConvRefIdeal.nD Cert.AdConvRefIdeal.τ).loc Cert.AdConvRefIdeal.main_arg1)
      ∧ r.2.mem ((c.tc : Thread Cert.AdConvRefIdeal.nD Cert.AdConvRefIdeal.τ).loc Cert.AdConvRefIdeal.main_arg2) = m ((c.tc : Thread Cert.AdConvRefIdeal.nD Cert.AdConvRefIdeal.τ).loc Cert.AdConvRefIdeal.main_arg2)
      ∧ r.2.mem ((c.tc : Thread Cert.AdConvRefIdeal.nD Cert.AdConvRefIdeal.τ).loc Cert.AdConvRefIdeal.main_arg3) = m ((c.tc : Thread Cert.AdConvRefIdeal.nD Cert.AdConvRefIdeal.τ).loc Cert.AdConvRefIdeal.main_arg3))
      ∧ r.2.sem = fun _ => 0)

def quiescent_AdDown [hAdDown : Cert.AdDown.Facts] : Prop :=
  ∀ (m : (ℓ : Loc Cert.AdDown.nD Cert.AdDown.τ Cert.AdDown.sig) → Buf (Elt Bits) ℓ) (g : Dev Cert.AdDown.nD → PrngReg), Pre_AdDown m →
    θ_run (Cert.AdDown.defs (F := Bits)) (onTc (τ := Cert.AdDown.τ) (Cert.AdDown.main (F := Bits))) ⟨m, fun _ => 0, g⟩ (fun r => (∀ c : Dev Cert.AdDown.nD,
      r.2.mem ((c.tc : Thread Cert.AdDown.nD Cert.AdDown.τ).loc Cert.AdDown.main_arg0) = m ((c.tc : Thread Cert.AdDown.nD Cert.AdDown.τ).loc Cert.AdDown.main_arg0)
      ∧ r.2.mem ((c.tc : Thread Cert.AdDown.nD Cert.AdDown.τ).loc Cert.AdDown.main_arg1) = m ((c.tc : Thread Cert.AdDown.nD Cert.AdDown.τ).loc Cert.AdDown.main_arg1)
      ∧ r.2.mem ((c.tc : Thread Cert.AdDown.nD Cert.AdDown.τ).loc Cert.AdDown.main_arg2) = m ((c.tc : Thread Cert.AdDown.nD Cert.AdDown.τ).loc Cert.AdDown.main_arg2)
      ∧ r.2.mem ((c.tc : Thread Cert.AdDown.nD Cert.AdDown.τ).loc Cert.AdDown.main_arg3) = m ((c.tc : Thread Cert.AdDown.nD Cert.AdDown.τ).loc Cert.AdDown.main_arg3))
      ∧ r.2.sem = fun _ => 0)

def quiescent_AdDownIdeal [hAdDownIdeal : Cert.AdDownIdeal.Facts] : Prop :=
  ∀ (m : (ℓ : Loc Cert.AdDownIdeal.nD Cert.AdDownIdeal.τ Cert.AdDownIdeal.sig) → Buf (Elt Ideal) ℓ) (g : Dev Cert.AdDownIdeal.nD → PrngReg), Pre_AdDownIdeal m →
    θ_run (Cert.AdDownIdeal.defs (F := Ideal)) (onTc (τ := Cert.AdDownIdeal.τ) (Cert.AdDownIdeal.main (F := Ideal))) ⟨m, fun _ => 0, g⟩ (fun r => (∀ c : Dev Cert.AdDownIdeal.nD,
      r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
      ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
      ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
      ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3))
      ∧ r.2.sem = fun _ => 0)

def quiescent_AdDownRefIdeal [hAdDownRefIdeal : Cert.AdDownRefIdeal.Facts] : Prop :=
  ∀ (m : (ℓ : Loc Cert.AdDownRefIdeal.nD Cert.AdDownRefIdeal.τ Cert.AdDownRefIdeal.sig) → Buf (Elt Ideal) ℓ) (g : Dev Cert.AdDownRefIdeal.nD → PrngReg), Pre_AdDownRefIdeal m →
    θ_run (Cert.AdDownRefIdeal.defs (F := Ideal)) (onTc (τ := Cert.AdDownRefIdeal.τ) (Cert.AdDownRefIdeal.main (F := Ideal))) ⟨m, fun _ => 0, g⟩ (fun r => (∀ c : Dev Cert.AdDownRefIdeal.nD,
      r.2.mem ((c.tc : Thread Cert.AdDownRefIdeal.nD Cert.AdDownRefIdeal.τ).loc Cert.AdDownRefIdeal.main_arg0) = m ((c.tc : Thread Cert.AdDownRefIdeal.nD Cert.AdDownRefIdeal.τ).loc Cert.AdDownRefIdeal.main_arg0)
      ∧ r.2.mem ((c.tc : Thread Cert.AdDownRefIdeal.nD Cert.AdDownRefIdeal.τ).loc Cert.AdDownRefIdeal.main_arg1) = m ((c.tc : Thread Cert.AdDownRefIdeal.nD Cert.AdDownRefIdeal.τ).loc Cert.AdDownRefIdeal.main_arg1)
      ∧ r.2.mem ((c.tc : Thread Cert.AdDownRefIdeal.nD Cert.AdDownRefIdeal.τ).loc Cert.AdDownRefIdeal.main_arg2) = m ((c.tc : Thread Cert.AdDownRefIdeal.nD Cert.AdDownRefIdeal.τ).loc Cert.AdDownRefIdeal.main_arg2)
      ∧ r.2.mem ((c.tc : Thread Cert.AdDownRefIdeal.nD Cert.AdDownRefIdeal.τ).loc Cert.AdDownRefIdeal.main_arg3) = m ((c.tc : Thread Cert.AdDownRefIdeal.nD Cert.AdDownRefIdeal.τ).loc Cert.AdDownRefIdeal.main_arg3))
      ∧ r.2.sem = fun _ => 0)

def quiescent_AdFinal [hAdFinal : Cert.AdFinal.Facts] : Prop :=
  ∀ (m : (ℓ : Loc Cert.AdFinal.nD Cert.AdFinal.τ Cert.AdFinal.sig) → Buf (Elt Bits) ℓ) (g : Dev Cert.AdFinal.nD → PrngReg), Pre_AdFinal m →
    θ_run (Cert.AdFinal.defs (F := Bits)) (onTc (τ := Cert.AdFinal.τ) (Cert.AdFinal.main (F := Bits))) ⟨m, fun _ => 0, g⟩ (fun r => (∀ c : Dev Cert.AdFinal.nD,
      r.2.mem ((c.tc : Thread Cert.AdFinal.nD Cert.AdFinal.τ).loc Cert.AdFinal.main_arg0) = m ((c.tc : Thread Cert.AdFinal.nD Cert.AdFinal.τ).loc Cert.AdFinal.main_arg0)
      ∧ r.2.mem ((c.tc : Thread Cert.AdFinal.nD Cert.AdFinal.τ).loc Cert.AdFinal.main_arg1) = m ((c.tc : Thread Cert.AdFinal.nD Cert.AdFinal.τ).loc Cert.AdFinal.main_arg1)
      ∧ r.2.mem ((c.tc : Thread Cert.AdFinal.nD Cert.AdFinal.τ).loc Cert.AdFinal.main_arg2) = m ((c.tc : Thread Cert.AdFinal.nD Cert.AdFinal.τ).loc Cert.AdFinal.main_arg2)
      ∧ r.2.mem ((c.tc : Thread Cert.AdFinal.nD Cert.AdFinal.τ).loc Cert.AdFinal.main_arg3) = m ((c.tc : Thread Cert.AdFinal.nD Cert.AdFinal.τ).loc Cert.AdFinal.main_arg3))
      ∧ r.2.sem = fun _ => 0)

def quiescent_AdFinalIdeal [hAdFinalIdeal : Cert.AdFinalIdeal.Facts] : Prop :=
  ∀ (m : (ℓ : Loc Cert.AdFinalIdeal.nD Cert.AdFinalIdeal.τ Cert.AdFinalIdeal.sig) → Buf (Elt Ideal) ℓ) (g : Dev Cert.AdFinalIdeal.nD → PrngReg), Pre_AdFinalIdeal m →
    θ_run (Cert.AdFinalIdeal.defs (F := Ideal)) (onTc (τ := Cert.AdFinalIdeal.τ) (Cert.AdFinalIdeal.main (F := Ideal))) ⟨m, fun _ => 0, g⟩ (fun r => (∀ c : Dev Cert.AdFinalIdeal.nD,
      r.2.mem ((c.tc : Thread Cert.AdFinalIdeal.nD Cert.AdFinalIdeal.τ).loc Cert.AdFinalIdeal.main_arg0) = m ((c.tc : Thread Cert.AdFinalIdeal.nD Cert.AdFinalIdeal.τ).loc Cert.AdFinalIdeal.main_arg0)
      ∧ r.2.mem ((c.tc : Thread Cert.AdFinalIdeal.nD Cert.AdFinalIdeal.τ).loc Cert.AdFinalIdeal.main_arg1) = m ((c.tc : Thread Cert.AdFinalIdeal.nD Cert.AdFinalIdeal.τ).loc Cert.AdFinalIdeal.main_arg1)
      ∧ r.2.mem ((c.tc : Thread Cert.AdFinalIdeal.nD Cert.AdFinalIdeal.τ).loc Cert.AdFinalIdeal.main_arg2) = m ((c.tc : Thread Cert.AdFinalIdeal.nD Cert.AdFinalIdeal.τ).loc Cert.AdFinalIdeal.main_arg2)
      ∧ r.2.mem ((c.tc : Thread Cert.AdFinalIdeal.nD Cert.AdFinalIdeal.τ).loc Cert.AdFinalIdeal.main_arg3) = m ((c.tc : Thread Cert.AdFinalIdeal.nD Cert.AdFinalIdeal.τ).loc Cert.AdFinalIdeal.main_arg3))
      ∧ r.2.sem = fun _ => 0)

def quiescent_AdFinalRefIdeal [hAdFinalRefIdeal : Cert.AdFinalRefIdeal.Facts] : Prop :=
  ∀ (m : (ℓ : Loc Cert.AdFinalRefIdeal.nD Cert.AdFinalRefIdeal.τ Cert.AdFinalRefIdeal.sig) → Buf (Elt Ideal) ℓ) (g : Dev Cert.AdFinalRefIdeal.nD → PrngReg), Pre_AdFinalRefIdeal m →
    θ_run (Cert.AdFinalRefIdeal.defs (F := Ideal)) (onTc (τ := Cert.AdFinalRefIdeal.τ) (Cert.AdFinalRefIdeal.main (F := Ideal))) ⟨m, fun _ => 0, g⟩ (fun r => (∀ c : Dev Cert.AdFinalRefIdeal.nD,
      r.2.mem ((c.tc : Thread Cert.AdFinalRefIdeal.nD Cert.AdFinalRefIdeal.τ).loc Cert.AdFinalRefIdeal.main_arg0) = m ((c.tc : Thread Cert.AdFinalRefIdeal.nD Cert.AdFinalRefIdeal.τ).loc Cert.AdFinalRefIdeal.main_arg0)
      ∧ r.2.mem ((c.tc : Thread Cert.AdFinalRefIdeal.nD Cert.AdFinalRefIdeal.τ).loc Cert.AdFinalRefIdeal.main_arg1) = m ((c.tc : Thread Cert.AdFinalRefIdeal.nD Cert.AdFinalRefIdeal.τ).loc Cert.AdFinalRefIdeal.main_arg1)
      ∧ r.2.mem ((c.tc : Thread Cert.AdFinalRefIdeal.nD Cert.AdFinalRefIdeal.τ).loc Cert.AdFinalRefIdeal.main_arg2) = m ((c.tc : Thread Cert.AdFinalRefIdeal.nD Cert.AdFinalRefIdeal.τ).loc Cert.AdFinalRefIdeal.main_arg2)
      ∧ r.2.mem ((c.tc : Thread Cert.AdFinalRefIdeal.nD Cert.AdFinalRefIdeal.τ).loc Cert.AdFinalRefIdeal.main_arg3) = m ((c.tc : Thread Cert.AdFinalRefIdeal.nD Cert.AdFinalRefIdeal.τ).loc Cert.AdFinalRefIdeal.main_arg3))
      ∧ r.2.sem = fun _ => 0)

def quiescent_SumBig [hSumBig : Cert.SumBig.Facts] : Prop :=
  ∀ (m : (ℓ : Loc Cert.SumBig.nD Cert.SumBig.τ Cert.SumBig.sig) → Buf (Elt Bits) ℓ) (g : Dev Cert.SumBig.nD → PrngReg), Pre_SumBig m →
    θ_run (Cert.SumBig.defs (F := Bits)) (onTc (τ := Cert.SumBig.τ) (Cert.SumBig.main (F := Bits))) ⟨m, fun _ => 0, g⟩ (fun r => (∀ c : Dev Cert.SumBig.nD,
      r.2.mem ((c.tc : Thread Cert.SumBig.nD Cert.SumBig.τ).loc Cert.SumBig.main_arg0) = m ((c.tc : Thread Cert.SumBig.nD Cert.SumBig.τ).loc Cert.SumBig.main_arg0))
      ∧ r.2.sem = fun _ => 0)

def quiescent_SumBigIdeal [hSumBigIdeal : Cert.SumBigIdeal.Facts] : Prop :=
  ∀ (m : (ℓ : Loc Cert.SumBigIdeal.nD Cert.SumBigIdeal.τ Cert.SumBigIdeal.sig) → Buf (Elt Ideal) ℓ) (g : Dev Cert.SumBigIdeal.nD → PrngReg), Pre_SumBigIdeal m →
    θ_run (Cert.SumBigIdeal.defs (F := Ideal)) (onTc (τ := Cert.SumBigIdeal.τ) (Cert.SumBigIdeal.main (F := Ideal))) ⟨m, fun _ => 0, g⟩ (fun r => (∀ c : Dev Cert.SumBigIdeal.nD,
      r.2.mem ((c.tc : Thread Cert.SumBigIdeal.nD Cert.SumBigIdeal.τ).loc Cert.SumBigIdeal.main_arg0) = m ((c.tc : Thread Cert.SumBigIdeal.nD Cert.SumBigIdeal.τ).loc Cert.SumBigIdeal.main_arg0))
      ∧ r.2.sem = fun _ => 0)

def quiescent_SumBigRefIdeal [hSumBigRefIdeal : Cert.SumBigRefIdeal.Facts] : Prop :=
  ∀ (m : (ℓ : Loc Cert.SumBigRefIdeal.nD Cert.SumBigRefIdeal.τ Cert.SumBigRefIdeal.sig) → Buf (Elt Ideal) ℓ) (g : Dev Cert.SumBigRefIdeal.nD → PrngReg), Pre_SumBigRefIdeal m →
    θ_run (Cert.SumBigRefIdeal.defs (F := Ideal)) (onTc (τ := Cert.SumBigRefIdeal.τ) (Cert.SumBigRefIdeal.main (F := Ideal))) ⟨m, fun _ => 0, g⟩ (fun r => (∀ c : Dev Cert.SumBigRefIdeal.nD,
      r.2.mem ((c.tc : Thread Cert.SumBigRefIdeal.nD Cert.SumBigRefIdeal.τ).loc Cert.SumBigRefIdeal.main_arg0) = m ((c.tc : Thread Cert.SumBigRefIdeal.nD Cert.SumBigRefIdeal.τ).loc Cert.SumBigRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3)
      ∧ r.2.mem ((c.tc : Thread Cert.GateFwdRefIdeal.nD Cert.GateFwdRefIdeal.τ).loc Cert.GateFwdRefIdeal.main_arg4) = m ((c.tc : Thread Cert.GateFwdRefIdeal.nD Cert.GateFwdRefIdeal.τ).loc Cert.GateFwdRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_ConvDx [hConvDx : Cert.ConvDx.Facts] : Prop :=
  ∀ (m : (ℓ : Loc Cert.ConvDx.nD Cert.ConvDx.τ Cert.ConvDx.sig) → Buf (Elt Bits) ℓ) (g : Dev Cert.ConvDx.nD → PrngReg), Pre_ConvDx m →
    θ_run (Cert.ConvDx.defs (F := Bits)) (onTc (τ := Cert.ConvDx.τ) (Cert.ConvDx.main (F := Bits))) ⟨m, fun _ => 0, g⟩ (fun r => (∀ c : Dev Cert.ConvDx.nD,
      r.2.mem ((c.tc : Thread Cert.ConvDx.nD Cert.ConvDx.τ).loc Cert.ConvDx.main_arg0) = m ((c.tc : Thread Cert.ConvDx.nD Cert.ConvDx.τ).loc Cert.ConvDx.main_arg0)
      ∧ r.2.mem ((c.tc : Thread Cert.ConvDx.nD Cert.ConvDx.τ).loc Cert.ConvDx.main_arg1) = m ((c.tc : Thread Cert.ConvDx.nD Cert.ConvDx.τ).loc Cert.ConvDx.main_arg1))
      ∧ r.2.sem = fun _ => 0)

def quiescent_ConvDxIdeal [hConvDxIdeal : Cert.ConvDxIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg), Pre_ConvDxIdeal m →
    θ_run (Cert.ConvDxIdeal.defs (F := Ideal)) (onTc (τ := Cert.ConvDxIdeal.τ) (Cert.ConvDxIdeal.main (F := Ideal))) ⟨m, fun _ => 0, g⟩ (fun r => (∀ c : Dev Cert.ConvDxIdeal.nD,
      r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
      ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1))
      ∧ r.2.sem = fun _ => 0)

def quiescent_ConvDxRefIdeal [hConvDxRefIdeal : Cert.ConvDxRefIdeal.Facts] : Prop :=
  ∀ (m : (ℓ : Loc Cert.ConvDxRefIdeal.nD Cert.ConvDxRefIdeal.τ Cert.ConvDxRefIdeal.sig) → Buf (Elt Ideal) ℓ) (g : Dev Cert.ConvDxRefIdeal.nD → PrngReg), Pre_ConvDxRefIdeal m →
    θ_run (Cert.ConvDxRefIdeal.defs (F := Ideal)) (onTc (τ := Cert.ConvDxRefIdeal.τ) (Cert.ConvDxRefIdeal.main (F := Ideal))) ⟨m, fun _ => 0, g⟩ (fun r => (∀ c : Dev Cert.ConvDxRefIdeal.nD,
      r.2.mem ((c.tc : Thread Cert.ConvDxRefIdeal.nD Cert.ConvDxRefIdeal.τ).loc Cert.ConvDxRefIdeal.main_arg0) = m ((c.tc : Thread Cert.ConvDxRefIdeal.nD Cert.ConvDxRefIdeal.τ).loc Cert.ConvDxRefIdeal.main_arg0)
      ∧ r.2.mem ((c.tc : Thread Cert.ConvDxRefIdeal.nD Cert.ConvDxRefIdeal.τ).loc Cert.ConvDxRefIdeal.main_arg1) = m ((c.tc : Thread Cert.ConvDxRefIdeal.nD Cert.ConvDxRefIdeal.τ).loc Cert.ConvDxRefIdeal.main_arg1))
      ∧ r.2.sem = fun _ => 0)

def quiescent_FfnBack [hFfnBack : Cert.FfnBack.Facts] : Prop :=
  ∀ (m : (ℓ : Loc Cert.FfnBack.nD Cert.FfnBack.τ Cert.FfnBack.sig) → Buf (Elt Bits) ℓ) (g : Dev Cert.FfnBack.nD → PrngReg), Pre_FfnBack m →
    θ_run (Cert.FfnBack.defs (F := Bits)) (onTc (τ := Cert.FfnBack.τ) (Cert.FfnBack.main (F := Bits))) ⟨m, fun _ => 0, g⟩ (fun r => (∀ c : Dev Cert.FfnBack.nD,
      r.2.mem ((c.tc : Thread Cert.FfnBack.nD Cert.FfnBack.τ).loc Cert.FfnBack.main_arg0) = m ((c.tc : Thread Cert.FfnBack.nD Cert.FfnBack.τ).loc Cert.FfnBack.main_arg0)
      ∧ r.2.mem ((c.tc : Thread Cert.FfnBack.nD Cert.FfnBack.τ).loc Cert.FfnBack.main_arg1) = m ((c.tc : Thread Cert.FfnBack.nD Cert.FfnBack.τ).loc Cert.FfnBack.main_arg1)
      ∧ r.2.mem ((c.tc : Thread Cert.FfnBack.nD Cert.FfnBack.τ).loc Cert.FfnBack.main_arg2) = m ((c.tc : Thread Cert.FfnBack.nD Cert.FfnBack.τ).loc Cert.FfnBack.main_arg2)
      ∧ r.2.mem ((c.tc : Thread Cert.FfnBack.nD Cert.FfnBack.τ).loc Cert.FfnBack.main_arg3) = m ((c.tc : Thread Cert.FfnBack.nD Cert.FfnBack.τ).loc Cert.FfnBack.main_arg3)
      ∧ r.2.mem ((c.tc : Thread Cert.FfnBack.nD Cert.FfnBack.τ).loc Cert.FfnBack.main_arg4) = m ((c.tc : Thread Cert.FfnBack.nD Cert.FfnBack.τ).loc Cert.FfnBack.main_arg4))
      ∧ r.2.sem = fun _ => 0)

def quiescent_FfnBackIdeal [hFfnBackIdeal : Cert.FfnBackIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
      ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
      ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4))
      ∧ r.2.sem = fun _ => 0)

def quiescent_FfnBackRefIdeal [hFfnBackRefIdeal : Cert.FfnBackRefIdeal.Facts] : Prop :=
  ∀ (m : (ℓ : Loc Cert.FfnBackRefIdeal.nD Cert.FfnBackRefIdeal.τ Cert.FfnBackRefIdeal.sig) → Buf (Elt Ideal) ℓ) (g : Dev Cert.FfnBackRefIdeal.nD → PrngReg), Pre_FfnBackRefIdeal m →
    θ_run (Cert.FfnBackRefIdeal.defs (F := Ideal)) (onTc (τ := Cert.FfnBackRefIdeal.τ) (Cert.FfnBackRefIdeal.main (F := Ideal))) ⟨m, fun _ => 0, g⟩ (fun r => (∀ c : Dev Cert.FfnBackRefIdeal.nD,
      r.2.mem ((c.tc : Thread Cert.FfnBackRefIdeal.nD Cert.FfnBackRefIdeal.τ).loc Cert.FfnBackRefIdeal.main_arg0) = m ((c.tc : Thread Cert.FfnBackRefIdeal.nD Cert.FfnBackRefIdeal.τ).loc Cert.FfnBackRefIdeal.main_arg0)
      ∧ r.2.mem ((c.tc : Thread Cert.FfnBackRefIdeal.nD Cert.FfnBackRefIdeal.τ).loc Cert.FfnBackRefIdeal.main_arg1) = m ((c.tc : Thread Cert.FfnBackRefIdeal.nD Cert.FfnBackRefIdeal.τ).loc Cert.FfnBackRefIdeal.main_arg1)
      ∧ r.2.mem ((c.tc : Thread Cert.FfnBackRefIdeal.nD Cert.FfnBackRefIdeal.τ).loc Cert.FfnBackRefIdeal.main_arg2) = m ((c.tc : Thread Cert.FfnBackRefIdeal.nD Cert.FfnBackRefIdeal.τ).loc Cert.FfnBackRefIdeal.main_arg2)
      ∧ r.2.mem ((c.tc : Thread Cert.FfnBackRefIdeal.nD Cert.FfnBackRefIdeal.τ).loc Cert.FfnBackRefIdeal.main_arg3) = m ((c.tc : Thread Cert.FfnBackRefIdeal.nD Cert.FfnBackRefIdeal.τ).loc Cert.FfnBackRefIdeal.main_arg3)
      ∧ r.2.mem ((c.tc : Thread Cert.FfnBackRefIdeal.nD Cert.FfnBackRefIdeal.τ).loc Cert.FfnBackRefIdeal.main_arg4) = m ((c.tc : Thread Cert.FfnBackRefIdeal.nD Cert.FfnBackRefIdeal.τ).loc Cert.FfnBackRefIdeal.main_arg4))
      ∧ r.2.sem = fun _ => 0)

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)) (v3 : (c : Dev Cert.GateIdeal.nD) → Buf (Elt Ideal) ((c.tc : Thread Cert.GateIdeal.nD Cert.GateIdeal.τ).loc Cert.GateIdeal.main_v0_3)) (v4 : (c : Dev Cert.GateIdeal.nD) → Buf (Elt Ideal) ((c.tc : Thread Cert.GateIdeal.nD Cert.GateIdeal.τ).loc Cert.GateIdeal.main_v0_4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_v0_3) = v3 c
          ∧ r.2.mem ((c.tc : Thread Cert.GateIdeal.nD Cert.GateIdeal.τ).loc Cert.GateIdeal.main_v0_4) = v4 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v46) = v0 c
          ∧ r.2.mem ((c.tc : Thread Cert.GateRefIdeal.nD Cert.GateRefIdeal.τ).loc Cert.GateRefIdeal.main_v44) = v1 c
          ∧ r.2.mem ((c.tc : Thread Cert.GateRefIdeal.nD Cert.GateRefIdeal.τ).loc Cert.GateRefIdeal.main_v47) = v2 c
          ∧ r.2.mem ((c.tc : Thread Cert.GateRefIdeal.nD Cert.GateRefIdeal.τ).loc Cert.GateRefIdeal.main_v48) = v3 c
          ∧ r.2.mem ((c.tc : Thread Cert.GateRefIdeal.nD Cert.GateRefIdeal.τ).loc Cert.GateRefIdeal.main_v49) = v4 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v3) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v5) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)
      ∧ m' ((c.tc : Thread Cert.GateDxRefIdeal.nD Cert.GateDxRefIdeal.τ).loc Cert.GateDxRefIdeal.main_arg2) = m ((c.tc : Thread Cert.GateDxIdeal.nD Cert.GateDxIdeal.τ).loc Cert.GateDxIdeal.main_arg2)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
          ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v6) = v0 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1)
          ∧ r.2.mem ((c.tc : Thread Cert.GateDxRefIdeal.nD Cert.GateDxRefIdeal.τ).loc Cert.GateDxRefIdeal.main_arg2) = m' ((c.tc : Thread Cert.GateDxRefIdeal.nD Cert.GateDxRefIdeal.τ).loc Cert.GateDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v7) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_LoDx_LoDxIdeal : Prop :=
  True

def algebraic_LoDxIdeal_LoDxRefIdeal [hLoDxIdeal : Cert.LoDxIdeal.Facts] [hLoDxRefIdeal : Cert.LoDxRefIdeal.Facts] : Prop :=
  ∀ (m : (ℓ : Loc Cert.LoDxIdeal.nD Cert.LoDxIdeal.τ Cert.LoDxIdeal.sig) → Buf (Elt Ideal) ℓ) (g : Dev Cert.LoDxIdeal.nD → PrngReg)
    (m' : (ℓ : Loc Cert.LoDxRefIdeal.nD Cert.LoDxRefIdeal.τ Cert.LoDxRefIdeal.sig) → Buf (Elt Ideal) ℓ) (g' : Dev Cert.LoDxRefIdeal.nD → PrngReg), Pre_LoDxIdeal m →
    (∀ c : Dev Cert.LoDxIdeal.nD,
      m' ((c.tc : Thread Cert.LoDxRefIdeal.nD Cert.LoDxRefIdeal.τ).loc Cert.LoDxRefIdeal.main_arg0) = m ((c.tc : Thread Cert.LoDxIdeal.nD Cert.LoDxIdeal.τ).loc Cert.LoDxIdeal.main_arg0)
      ∧ m' ((c.tc : Thread Cert.LoDxRefIdeal.nD Cert.LoDxRefIdeal.τ).loc Cert.LoDxRefIdeal.main_arg1) = m ((c.tc : Thread Cert.LoDxIdeal.nD Cert.LoDxIdeal.τ).loc Cert.LoDxIdeal.main_arg1)) →
    ∃ (v0 : (c : Dev Cert.LoDxIdeal.nD) → Buf (Elt Ideal) ((c.tc : Thread Cert.LoDxIdeal.nD Cert.LoDxIdeal.τ).loc Cert.LoDxIdeal.main_v0)),
      θ_run (Cert.LoDxIdeal.defs (F := Ideal)) (onTc (τ := Cert.LoDxIdeal.τ) (Cert.LoDxIdeal.main (F := Ideal))) ⟨m, fun _ => 0, g⟩ (fun r => ∀ c : Dev Cert.LoDxIdeal.nD,
          r.2.mem ((c.tc : Thread Cert.LoDxIdeal.nD Cert.LoDxIdeal.τ).loc Cert.LoDxIdeal.main_v0) = v0 c
          ∧ r.2.mem ((c.tc : Thread Cert.LoDxIdeal.nD Cert.LoDxIdeal.τ).loc Cert.LoDxIdeal.main_arg0) = m ((c.tc : Thread Cert.LoDxIdeal.nD Cert.LoDxIdeal.τ).loc Cert.LoDxIdeal.main_arg0)
          ∧ r.2.mem ((c.tc : Thread Cert.LoDxIdeal.nD Cert.LoDxIdeal.τ).loc Cert.LoDxIdeal.main_arg1) = m ((c.tc : Thread Cert.LoDxIdeal.nD Cert.LoDxIdeal.τ).loc Cert.LoDxIdeal.main_arg1))
      ∧ θ_run (Cert.LoDxRefIdeal.defs (F := Ideal)) (onTc (τ := Cert.LoDxRefIdeal.τ) (Cert.LoDxRefIdeal.main (F := Ideal))) ⟨m', fun _ => 0, g'⟩ (fun r => ∀ c : Dev Cert.LoDxRefIdeal.nD,
          r.2.mem ((c.tc : Thread Cert.LoDxRefIdeal.nD Cert.LoDxRefIdeal.τ).loc Cert.LoDxRefIdeal.main_v5) = v0 c
          ∧ r.2.mem ((c.tc : Thread Cert.LoDxRefIdeal.nD Cert.LoDxRefIdeal.τ).loc Cert.LoDxRefIdeal.main_arg0) = m' ((c.tc : Thread Cert.LoDxRefIdeal.nD Cert.LoDxRefIdeal.τ).loc Cert.LoDxRefIdeal.main_arg0)
          ∧ r.2.mem ((c.tc : Thread Cert.LoDxRefIdeal.nD Cert.LoDxRefIdeal.τ).loc Cert.LoDxRefIdeal.main_arg1) = m' ((c.tc : Thread Cert.LoDxRefIdeal.nD Cert.LoDxRefIdeal.τ).loc Cert.LoDxRefIdeal.main_arg1))

def preserves_HiDx_HiDxIdeal : Prop :=
  True

def algebraic_HiDxIdeal_HiDxRefIdeal [hHiDxIdeal : Cert.HiDxIdeal.Facts] [hHiDxRefIdeal : Cert.HiDxRefIdeal.Facts] : Prop :=
  ∀ (m : (ℓ : Loc Cert.HiDxIdeal.nD Cert.HiDxIdeal.τ Cert.HiDxIdeal.sig) → Buf (Elt Ideal) ℓ) (g : Dev Cert.HiDxIdeal.nD → PrngReg)
    (m' : (ℓ : Loc Cert.HiDxRefIdeal.nD Cert.HiDxRefIdeal.τ Cert.HiDxRefIdeal.sig) → Buf (Elt Ideal) ℓ) (g' : Dev Cert.HiDxRefIdeal.nD → PrngReg), Pre_HiDxIdeal m →
    (∀ c : Dev Cert.HiDxIdeal.nD,
      m' ((c.tc : Thread Cert.HiDxRefIdeal.nD Cert.HiDxRefIdeal.τ).loc Cert.HiDxRefIdeal.main_arg0) = m ((c.tc : Thread Cert.HiDxIdeal.nD Cert.HiDxIdeal.τ).loc Cert.HiDxIdeal.main_arg0)
      ∧ m' ((c.tc : Thread Cert.HiDxRefIdeal.nD Cert.HiDxRefIdeal.τ).loc Cert.HiDxRefIdeal.main_arg1) = m ((c.tc : Thread Cert.HiDxIdeal.nD Cert.HiDxIdeal.τ).loc Cert.HiDxIdeal.main_arg1)
      ∧ m' ((c.tc : Thread Cert.HiDxRefIdeal.nD Cert.HiDxRefIdeal.τ).loc Cert.HiDxRefIdeal.main_arg2) = m ((c.tc : Thread Cert.HiDxIdeal.nD Cert.HiDxIdeal.τ).loc Cert.HiDxIdeal.main_arg2)) →
    ∃ (v0 : (c : Dev Cert.HiDxIdeal.nD) → Buf (Elt Ideal) ((c.tc : Thread Cert.HiDxIdeal.nD Cert.HiDxIdeal.τ).loc Cert.HiDxIdeal.main_v0)),
      θ_run (Cert.HiDxIdeal.defs (F := Ideal)) (onTc (τ := Cert.HiDxIdeal.τ) (Cert.HiDxIdeal.main (F := Ideal))) ⟨m, fun _ => 0, g⟩ (fun r => ∀ c : Dev Cert.HiDxIdeal.nD,
          r.2.mem ((c.tc : Thread Cert.HiDxIdeal.nD Cert.HiDxIdeal.τ).loc Cert.HiDxIdeal.main_v0) = v0 c
          ∧ r.2.mem ((c.tc : Thread Cert.HiDxIdeal.nD Cert.HiDxIdeal.τ).loc Cert.HiDxIdeal.main_arg0) = m ((c.tc : Thread Cert.HiDxIdeal.nD Cert.HiDxIdeal.τ).loc Cert.HiDxIdeal.main_arg0)
          ∧ r.2.mem ((c.tc : Thread Cert.HiDxIdeal.nD Cert.HiDxIdeal.τ).loc Cert.HiDxIdeal.main_arg1) = m ((c.tc : Thread Cert.HiDxIdeal.nD Cert.HiDxIdeal.τ).loc Cert.HiDxIdeal.main_arg1)
          ∧ r.2.mem ((c.tc : Thread Cert.HiDxIdeal.nD Cert.HiDxIdeal.τ).loc Cert.HiDxIdeal.main_arg2) = m ((c.tc : Thread Cert.HiDxIdeal.nD Cert.HiDxIdeal.τ).loc Cert.HiDxIdeal.main_arg2))
      ∧ θ_run (Cert.HiDxRefIdeal.defs (F := Ideal)) (onTc (τ := Cert.HiDxRefIdeal.τ) (Cert.HiDxRefIdeal.main (F := Ideal))) ⟨m', fun _ => 0, g'⟩ (fun r => ∀ c : Dev Cert.HiDxRefIdeal.nD,
          r.2.mem ((c.tc : Thread Cert.HiDxRefIdeal.nD Cert.HiDxRefIdeal.τ).loc Cert.HiDxRefIdeal.main_v6) = v0 c
          ∧ r.2.mem ((c.tc : Thread Cert.HiDxRefIdeal.nD Cert.HiDxRefIdeal.τ).loc Cert.HiDxRefIdeal.main_arg0) = m' ((c.tc : Thread Cert.HiDxRefIdeal.nD Cert.HiDxRefIdeal.τ).loc Cert.HiDxRefIdeal.main_arg0)
          ∧ r.2.mem ((c.tc : Thread Cert.HiDxRefIdeal.nD Cert.HiDxRefIdeal.τ).loc Cert.HiDxRefIdeal.main_arg1) = m' ((c.tc : Thread Cert.HiDxRefIdeal.nD Cert.HiDxRefIdeal.τ).loc Cert.HiDxRefIdeal.main_arg1)
          ∧ r.2.mem ((c.tc : Thread Cert.HiDxRefIdeal.nD Cert.HiDxRefIdeal.τ).loc Cert.HiDxRefIdeal.main_arg2) = m' ((c.tc : Thread Cert.HiDxRefIdeal.nD Cert.HiDxRefIdeal.τ).loc Cert.HiDxRefIdeal.main_arg2))

def preserves_LoDw_LoDwIdeal : Prop :=
  True

def algebraic_LoDwIdeal_LoDwRefIdeal [hLoDwIdeal : Cert.LoDwIdeal.Facts] [hLoDwRefIdeal : Cert.LoDwRefIdeal.Facts] : Prop :=
  ∀ (m : (ℓ : Loc Cert.LoDwIdeal.nD Cert.LoDwIdeal.τ Cert.LoDwIdeal.sig) → Buf (Elt Ideal) ℓ) (g : Dev Cert.LoDwIdeal.nD → PrngReg)
    (m' : (ℓ : Loc Cert.LoDwRefIdeal.nD Cert.LoDwRefIdeal.τ Cert.LoDwRefIdeal.sig) → Buf (Elt Ideal) ℓ) (g' : Dev Cert.LoDwRefIdeal.nD → PrngReg), Pre_LoDwIdeal m →
    (∀ c : Dev Cert.LoDwIdeal.nD,
      m' ((c.tc : Thread Cert.LoDwRefIdeal.nD Cert.LoDwRefIdeal.τ).loc Cert.LoDwRefIdeal.main_arg0) = m ((c.tc : Thread Cert.LoDwIdeal.nD Cert.LoDwIdeal.τ).loc Cert.LoDwIdeal.main_arg0)
      ∧ m' ((c.tc : Thread Cert.LoDwRefIdeal.nD Cert.LoDwRefIdeal.τ).loc Cert.LoDwRefIdeal.main_arg1) = m ((c.tc : Thread Cert.LoDwIdeal.nD Cert.LoDwIdeal.τ).loc Cert.LoDwIdeal.main_arg1)) →
    ∃ (v0 : (c : Dev Cert.LoDwIdeal.nD) → Buf (Elt Ideal) ((c.tc : Thread Cert.LoDwIdeal.nD Cert.LoDwIdeal.τ).loc Cert.LoDwIdeal.main_v0)),
      θ_run (Cert.LoDwIdeal.defs (F := Ideal)) (onTc (τ := Cert.LoDwIdeal.τ) (Cert.LoDwIdeal.main (F := Ideal))) ⟨m, fun _ => 0, g⟩ (fun r => ∀ c : Dev Cert.LoDwIdeal.nD,
          r.2.mem ((c.tc : Thread Cert.LoDwIdeal.nD Cert.LoDwIdeal.τ).loc Cert.LoDwIdeal.main_v0) = v0 c
          ∧ r.2.mem ((c.tc : Thread Cert.LoDwIdeal.nD Cert.LoDwIdeal.τ).loc Cert.LoDwIdeal.main_arg0) = m ((c.tc : Thread Cert.LoDwIdeal.nD Cert.LoDwIdeal.τ).loc Cert.LoDwIdeal.main_arg0)
          ∧ r.2.mem ((c.tc : Thread Cert.LoDwIdeal.nD Cert.LoDwIdeal.τ).loc Cert.LoDwIdeal.main_arg1) = m ((c.tc : Thread Cert.LoDwIdeal.nD Cert.LoDwIdeal.τ).loc Cert.LoDwIdeal.main_arg1))
      ∧ θ_run (Cert.LoDwRefIdeal.defs (F := Ideal)) (onTc (τ := Cert.LoDwRefIdeal.τ) (Cert.LoDwRefIdeal.main (F := Ideal))) ⟨m', fun _ => 0, g'⟩ (fun r => ∀ c : Dev Cert.LoDwRefIdeal.nD,
          r.2.mem ((c.tc : Thread Cert.LoDwRefIdeal.nD Cert.LoDwRefIdeal.τ).loc Cert.LoDwRefIdeal.main_v7) = v0 c
          ∧ r.2.mem ((c.tc : Thread Cert.LoDwRefIdeal.nD Cert.LoDwRefIdeal.τ).loc Cert.LoDwRefIdeal.main_arg0) = m' ((c.tc : Thread Cert.LoDwRefIdeal.nD Cert.LoDwRefIdeal.τ).loc Cert.LoDwRefIdeal.main_arg0)
          ∧ r.2.mem ((c.tc : Thread Cert.LoDwRefIdeal.nD Cert.LoDwRefIdeal.τ).loc Cert.LoDwRefIdeal.main_arg1) = m' ((c.tc : Thread Cert.LoDwRefIdeal.nD Cert.LoDwRefIdeal.τ).loc Cert.LoDwRefIdeal.main_arg1))

def preserves_HiDw_HiDwIdeal : Prop :=
  True

def algebraic_HiDwIdeal_HiDwRefIdeal [hHiDwIdeal : Cert.HiDwIdeal.Facts] [hHiDwRefIdeal : Cert.HiDwRefIdeal.Facts] : Prop :=
  ∀ (m : (ℓ : Loc Cert.HiDwIdeal.nD Cert.HiDwIdeal.τ Cert.HiDwIdeal.sig) → Buf (Elt Ideal) ℓ) (g : Dev Cert.HiDwIdeal.nD → PrngReg)
    (m' : (ℓ : Loc Cert.HiDwRefIdeal.nD Cert.HiDwRefIdeal.τ Cert.HiDwRefIdeal.sig) → Buf (Elt Ideal) ℓ) (g' : Dev Cert.HiDwRefIdeal.nD → PrngReg), Pre_HiDwIdeal m →
    (∀ c : Dev Cert.HiDwIdeal.nD,
      m' ((c.tc : Thread Cert.HiDwRefIdeal.nD Cert.HiDwRefIdeal.τ).loc Cert.HiDwRefIdeal.main_arg0) = m ((c.tc : Thread Cert.HiDwIdeal.nD Cert.HiDwIdeal.τ).loc Cert.HiDwIdeal.main_arg0)
      ∧ m' ((c.tc : Thread Cert.HiDwRefIdeal.nD Cert.HiDwRefIdeal.τ).loc Cert.HiDwRefIdeal.main_arg1) = m ((c.tc : Thread Cert.HiDwIdeal.nD Cert.HiDwIdeal.τ).loc Cert.HiDwIdeal.main_arg1)) →
    ∃ (v0 : (c : Dev Cert.HiDwIdeal.nD) → Buf (Elt Ideal) ((c.tc : Thread Cert.HiDwIdeal.nD Cert.HiDwIdeal.τ).loc Cert.HiDwIdeal.main_v0)),
      θ_run (Cert.HiDwIdeal.defs (F := Ideal)) (onTc (τ := Cert.HiDwIdeal.τ) (Cert.HiDwIdeal.main (F := Ideal))) ⟨m, fun _ => 0, g⟩ (fun r => ∀ c : Dev Cert.HiDwIdeal.nD,
          r.2.mem ((c.tc : Thread Cert.HiDwIdeal.nD Cert.HiDwIdeal.τ).loc Cert.HiDwIdeal.main_v0) = v0 c
          ∧ r.2.mem ((c.tc : Thread Cert.HiDwIdeal.nD Cert.HiDwIdeal.τ).loc Cert.HiDwIdeal.main_arg0) = m ((c.tc : Thread Cert.HiDwIdeal.nD Cert.HiDwIdeal.τ).loc Cert.HiDwIdeal.main_arg0)
          ∧ r.2.mem ((c.tc : Thread Cert.HiDwIdeal.nD Cert.HiDwIdeal.τ).loc Cert.HiDwIdeal.main_arg1) = m ((c.tc : Thread Cert.HiDwIdeal.nD Cert.HiDwIdeal.τ).loc Cert.HiDwIdeal.main_arg1))
      ∧ θ_run (Cert.HiDwRefIdeal.defs (F := Ideal)) (onTc (τ := Cert.HiDwRefIdeal.τ) (Cert.HiDwRefIdeal.main (F := Ideal))) ⟨m', fun _ => 0, g'⟩ (fun r => ∀ c : Dev Cert.HiDwRefIdeal.nD,
          r.2.mem ((c.tc : Thread Cert.HiDwRefIdeal.nD Cert.HiDwRefIdeal.τ).loc Cert.HiDwRefIdeal.main_v7) = v0 c
          ∧ r.2.mem ((c.tc : Thread Cert.HiDwRefIdeal.nD Cert.HiDwRefIdeal.τ).loc Cert.HiDwRefIdeal.main_arg0) = m' ((c.tc : Thread Cert.HiDwRefIdeal.nD Cert.HiDwRefIdeal.τ).loc Cert.HiDwRefIdeal.main_arg0)
          ∧ r.2.mem ((c.tc : Thread Cert.HiDwRefIdeal.nD Cert.HiDwRefIdeal.τ).loc Cert.HiDwRefIdeal.main_arg1) = m' ((c.tc : Thread Cert.HiDwRefIdeal.nD Cert.HiDwRefIdeal.τ).loc Cert.HiDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_DilDx_DilDxIdeal : Prop :=
  True

def algebraic_DilDxIdeal_DilDxRefIdeal [hDilDxIdeal : Cert.DilDxIdeal.Facts] [hDilDxRefIdeal : Cert.DilDxRefIdeal.Facts] : Prop :=
  ∀ (m : (ℓ : Loc Cert.DilDxIdeal.nD Cert.DilDxIdeal.τ Cert.DilDxIdeal.sig) → Buf (Elt Ideal) ℓ) (g : Dev Cert.DilDxIdeal.nD → PrngReg)
    (m' : (ℓ : Loc Cert.DilDxRefIdeal.nD Cert.DilDxRefIdeal.τ Cert.DilDxRefIdeal.sig) → Buf (Elt Ideal) ℓ) (g' : Dev Cert.DilDxRefIdeal.nD → PrngReg), Pre_DilDxIdeal m →
    (∀ c : Dev Cert.DilDxIdeal.nD,
      m' ((c.tc : Thread Cert.DilDxRefIdeal.nD Cert.DilDxRefIdeal.τ).loc Cert.DilDxRefIdeal.main_arg0) = m ((c.tc : Thread Cert.DilDxIdeal.nD Cert.DilDxIdeal.τ).loc Cert.DilDxIdeal.main_arg0)
      ∧ m' ((c.tc : Thread Cert.DilDxRefIdeal.nD Cert.DilDxRefIdeal.τ).loc Cert.DilDxRefIdeal.main_arg1) = m ((c.tc : Thread Cert.DilDxIdeal.nD Cert.DilDxIdeal.τ).loc Cert.DilDxIdeal.main_arg1)) →
    ∃ (v0 : (c : Dev Cert.DilDxIdeal.nD) → Buf (Elt Ideal) ((c.tc : Thread Cert.DilDxIdeal.nD Cert.DilDxIdeal.τ).loc Cert.DilDxIdeal.main_v0)),
      θ_run (Cert.DilDxIdeal.defs (F := Ideal)) (onTc (τ := Cert.DilDxIdeal.τ) (Cert.DilDxIdeal.main (F := Ideal))) ⟨m, fun _ => 0, g⟩ (fun r => ∀ c : Dev Cert.DilDxIdeal.nD,
          r.2.mem ((c.tc : Thread Cert.DilDxIdeal.nD Cert.DilDxIdeal.τ).loc Cert.DilDxIdeal.main_v0) = v0 c
          ∧ r.2.mem ((c.tc : Thread Cert.DilDxIdeal.nD Cert.DilDxIdeal.τ).loc Cert.DilDxIdeal.main_arg0) = m ((c.tc : Thread Cert.DilDxIdeal.nD Cert.DilDxIdeal.τ).loc Cert.DilDxIdeal.main_arg0)
          ∧ r.2.mem ((c.tc : Thread Cert.DilDxIdeal.nD Cert.DilDxIdeal.τ).loc Cert.DilDxIdeal.main_arg1) = m ((c.tc : Thread Cert.DilDxIdeal.nD Cert.DilDxIdeal.τ).loc Cert.DilDxIdeal.main_arg1))
      ∧ θ_run (Cert.DilDxRefIdeal.defs (F := Ideal)) (onTc (τ := Cert.DilDxRefIdeal.τ) (Cert.DilDxRefIdeal.main (F := Ideal))) ⟨m', fun _ => 0, g'⟩ (fun r => ∀ c : Dev Cert.DilDxRefIdeal.nD,
          r.2.mem ((c.tc : Thread Cert.DilDxRefIdeal.nD Cert.DilDxRefIdeal.τ).loc Cert.DilDxRefIdeal.main_v5) = v0 c
          ∧ r.2.mem ((c.tc : Thread Cert.DilDxRefIdeal.nD Cert.DilDxRefIdeal.τ).loc Cert.DilDxRefIdeal.main_arg0) = m' ((c.tc : Thread Cert.DilDxRefIdeal.nD Cert.DilDxRefIdeal.τ).loc Cert.DilDxRefIdeal.main_arg0)
          ∧ r.2.mem ((c.tc : Thread Cert.DilDxRefIdeal.nD Cert.DilDxRefIdeal.τ).loc Cert.DilDxRefIdeal.main_arg1) = m' ((c.tc : Thread Cert.DilDxRefIdeal.nD Cert.DilDxRefIdeal.τ).loc Cert.DilDxRefIdeal.main_arg1))

def preserves_DilDw_DilDwIdeal : Prop :=
  True

def algebraic_DilDwIdeal_DilDwRefIdeal [hDilDwIdeal : Cert.DilDwIdeal.Facts] [hDilDwRefIdeal : Cert.DilDwRefIdeal.Facts] : Prop :=
  ∀ (m : (ℓ : Loc Cert.DilDwIdeal.nD Cert.DilDwIdeal.τ Cert.DilDwIdeal.sig) → Buf (Elt Ideal) ℓ) (g : Dev Cert.DilDwIdeal.nD → PrngReg)
    (m' : (ℓ : Loc Cert.DilDwRefIdeal.nD Cert.DilDwRefIdeal.τ Cert.DilDwRefIdeal.sig) → Buf (Elt Ideal) ℓ) (g' : Dev Cert.DilDwRefIdeal.nD → PrngReg), Pre_DilDwIdeal m →
    (∀ c : Dev Cert.DilDwIdeal.nD,
      m' ((c.tc : Thread Cert.DilDwRefIdeal.nD Cert.DilDwRefIdeal.τ).loc Cert.DilDwRefIdeal.main_arg0) = m ((c.tc : Thread Cert.DilDwIdeal.nD Cert.DilDwIdeal.τ).loc Cert.DilDwIdeal.main_arg0)
      ∧ m' ((c.tc : Thread Cert.DilDwRefIdeal.nD Cert.DilDwRefIdeal.τ).loc Cert.DilDwRefIdeal.main_arg1) = m ((c.tc : Thread Cert.DilDwIdeal.nD Cert.DilDwIdeal.τ).loc Cert.DilDwIdeal.main_arg1)) →
    ∃ (v0 : (c : Dev Cert.DilDwIdeal.nD) → Buf (Elt Ideal) ((c.tc : Thread Cert.DilDwIdeal.nD Cert.DilDwIdeal.τ).loc Cert.DilDwIdeal.main_v0)),
      θ_run (Cert.DilDwIdeal.defs (F := Ideal)) (onTc (τ := Cert.DilDwIdeal.τ) (Cert.DilDwIdeal.main (F := Ideal))) ⟨m, fun _ => 0, g⟩ (fun r => ∀ c : Dev Cert.DilDwIdeal.nD,
          r.2.mem ((c.tc : Thread Cert.DilDwIdeal.nD Cert.DilDwIdeal.τ).loc Cert.DilDwIdeal.main_v0) = v0 c
          ∧ r.2.mem ((c.tc : Thread Cert.DilDwIdeal.nD Cert.DilDwIdeal.τ).loc Cert.DilDwIdeal.main_arg0) = m ((c.tc : Thread Cert.DilDwIdeal.nD Cert.DilDwIdeal.τ).loc Cert.DilDwIdeal.main_arg0)
          ∧ r.2.mem ((c.tc : Thread Cert.DilDwIdeal.nD Cert.DilDwIdeal.τ).loc Cert.DilDwIdeal.main_arg1) = m ((c.tc : Thread Cert.DilDwIdeal.nD Cert.DilDwIdeal.τ).loc Cert.DilDwIdeal.main_arg1))
      ∧ θ_run (Cert.DilDwRefIdeal.defs (F := Ideal)) (onTc (τ := Cert.DilDwRefIdeal.τ) (Cert.DilDwRefIdeal.main (F := Ideal))) ⟨m', fun _ => 0, g'⟩ (fun r => ∀ c : Dev Cert.DilDwRefIdeal.nD,
          r.2.mem ((c.tc : Thread Cert.DilDwRefIdeal.nD Cert.DilDwRefIdeal.τ).loc Cert.DilDwRefIdeal.main_v7) = v0 c
          ∧ r.2.mem ((c.tc : Thread Cert.DilDwRefIdeal.nD Cert.DilDwRefIdeal.τ).loc Cert.DilDwRefIdeal.main_arg0) = m' ((c.tc : Thread Cert.DilDwRefIdeal.nD Cert.DilDwRefIdeal.τ).loc Cert.DilDwRefIdeal.main_arg0)
          ∧ r.2.mem ((c.tc : Thread Cert.DilDwRefIdeal.nD Cert.DilDwRefIdeal.τ).loc Cert.DilDwRefIdeal.main_arg1) = m' ((c.tc : Thread Cert.DilDwRefIdeal.nD Cert.DilDwRefIdeal.τ).loc Cert.DilDwRefIdeal.main_arg1))

def preserves_MixDx_MixDxIdeal : Prop :=
  True

def algebraic_MixDxIdeal_MixDxRefIdeal [hMixDxIdeal : Cert.MixDxIdeal.Facts] [hMixDxRefIdeal : Cert.MixDxRefIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)) →
    ∃ (v0 : (c : Dev Cert.MixDxIdeal.nD) → Buf (Elt Ideal) ((c.tc : Thread Cert.MixDxIdeal.nD Cert.MixDxIdeal.τ).loc Cert.MixDxIdeal.main_v0)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v0) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v5) = v0 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1))

def preserves_StickDw_StickDwIdeal : Prop :=
  True

def algebraic_StickDwIdeal_StickDwRefIdeal [hStickDwIdeal : Cert.StickDwIdeal.Facts] [hStickDwRefIdeal : Cert.StickDwRefIdeal.Facts] : Prop :=
  ∀ (m : (ℓ : Loc Cert.StickDwIdeal.nD Cert.StickDwIdeal.τ Cert.StickDwIdeal.sig) → Buf (Elt Ideal) ℓ) (g : Dev Cert.StickDwIdeal.nD → PrngReg)
    (m' : (ℓ : Loc Cert.StickDwRefIdeal.nD Cert.StickDwRefIdeal.τ Cert.StickDwRefIdeal.sig) → Buf (Elt Ideal) ℓ) (g' : Dev Cert.StickDwRefIdeal.nD → PrngReg), Pre_StickDwIdeal m →
    (∀ c : Dev Cert.StickDwIdeal.nD,
      m' ((c.tc : Thread Cert.StickDwRefIdeal.nD Cert.StickDwRefIdeal.τ).loc Cert.StickDwRefIdeal.main_arg0) = m ((c.tc : Thread Cert.StickDwIdeal.nD Cert.StickDwIdeal.τ).loc Cert.StickDwIdeal.main_arg0)
      ∧ m' ((c.tc : Thread Cert.StickDwRefIdeal.nD Cert.StickDwRefIdeal.τ).loc Cert.StickDwRefIdeal.main_arg1) = m ((c.tc : Thread Cert.StickDwIdeal.nD Cert.StickDwIdeal.τ).loc Cert.StickDwIdeal.main_arg1)) →
    ∃ (v0 : (c : Dev Cert.StickDwIdeal.nD) → Buf (Elt Ideal) ((c.tc : Thread Cert.StickDwIdeal.nD Cert.StickDwIdeal.τ).loc Cert.StickDwIdeal.main_v0)),
      θ_run (Cert.StickDwIdeal.defs (F := Ideal)) (onTc (τ := Cert.StickDwIdeal.τ) (Cert.StickDwIdeal.main (F := Ideal))) ⟨m, fun _ => 0, g⟩ (fun r => ∀ c : Dev Cert.StickDwIdeal.nD,
          r.2.mem ((c.tc : Thread Cert.StickDwIdeal.nD Cert.StickDwIdeal.τ).loc Cert.StickDwIdeal.main_v0) = v0 c
          ∧ r.2.mem ((c.tc : Thread Cert.StickDwIdeal.nD Cert.StickDwIdeal.τ).loc Cert.StickDwIdeal.main_arg0) = m ((c.tc : Thread Cert.StickDwIdeal.nD Cert.StickDwIdeal.τ).loc Cert.StickDwIdeal.main_arg0)
          ∧ r.2.mem ((c.tc : Thread Cert.StickDwIdeal.nD Cert.StickDwIdeal.τ).loc Cert.StickDwIdeal.main_arg1) = m ((c.tc : Thread Cert.StickDwIdeal.nD Cert.StickDwIdeal.τ).loc Cert.StickDwIdeal.main_arg1))
      ∧ θ_run (Cert.StickDwRefIdeal.defs (F := Ideal)) (onTc (τ := Cert.StickDwRefIdeal.τ) (Cert.StickDwRefIdeal.main (F := Ideal))) ⟨m', fun _ => 0, g'⟩ (fun r => ∀ c : Dev Cert.StickDwRefIdeal.nD,
          r.2.mem ((c.tc : Thread Cert.StickDwRefIdeal.nD Cert.StickDwRefIdeal.τ).loc Cert.StickDwRefIdeal.main_v6) = v0 c
          ∧ r.2.mem ((c.tc : Thread Cert.StickDwRefIdeal.nD Cert.StickDwRefIdeal.τ).loc Cert.StickDwRefIdeal.main_arg0) = m' ((c.tc : Thread Cert.StickDwRefIdeal.nD Cert.StickDwRefIdeal.τ).loc Cert.StickDwRefIdeal.main_arg0)
          ∧ r.2.mem ((c.tc : Thread Cert.StickDwRefIdeal.nD Cert.StickDwRefIdeal.τ).loc Cert.StickDwRefIdeal.main_arg1) = m' ((c.tc : Thread Cert.StickDwRefIdeal.nD Cert.StickDwRefIdeal.τ).loc Cert.StickDwRefIdeal.main_arg1))

def preserves_RetDw_RetDwIdeal : Prop :=
  True

def algebraic_RetDwIdeal_RetDwRefIdeal [hRetDwIdeal : Cert.RetDwIdeal.Facts] [hRetDwRefIdeal : Cert.RetDwRefIdeal.Facts] : Prop :=
  ∀ (m : (ℓ : Loc Cert.RetDwIdeal.nD Cert.RetDwIdeal.τ Cert.RetDwIdeal.sig) → Buf (Elt Ideal) ℓ) (g : Dev Cert.RetDwIdeal.nD → PrngReg)
    (m' : (ℓ : Loc Cert.RetDwRefIdeal.nD Cert.RetDwRefIdeal.τ Cert.RetDwRefIdeal.sig) → Buf (Elt Ideal) ℓ) (g' : Dev Cert.RetDwRefIdeal.nD → PrngReg), Pre_RetDwIdeal m →
    (∀ c : Dev Cert.RetDwIdeal.nD,
      m' ((c.tc : Thread Cert.RetDwRefIdeal.nD Cert.RetDwRefIdeal.τ).loc Cert.RetDwRefIdeal.main_arg0) = m ((c.tc : Thread Cert.RetDwIdeal.nD Cert.RetDwIdeal.τ).loc Cert.RetDwIdeal.main_arg0)
      ∧ m' ((c.tc : Thread Cert.RetDwRefIdeal.nD Cert.RetDwRefIdeal.τ).loc Cert.RetDwRefIdeal.main_arg1) = m ((c.tc : Thread Cert.RetDwIdeal.nD Cert.RetDwIdeal.τ).loc Cert.RetDwIdeal.main_arg1)) →
    ∃ (v0 : (c : Dev Cert.RetDwIdeal.nD) → Buf (Elt Ideal) ((c.tc : Thread Cert.RetDwIdeal.nD Cert.RetDwIdeal.τ).loc Cert.RetDwIdeal.main_v0)),
      θ_run (Cert.RetDwIdeal.defs (F := Ideal)) (onTc (τ := Cert.RetDwIdeal.τ) (Cert.RetDwIdeal.main (F := Ideal))) ⟨m, fun _ => 0, g⟩ (fun r => ∀ c : Dev Cert.RetDwIdeal.nD,
          r.2.mem ((c.tc : Thread Cert.RetDwIdeal.nD Cert.RetDwIdeal.τ).loc Cert.RetDwIdeal.main_v0) = v0 c
          ∧ r.2.mem ((c.tc : Thread Cert.RetDwIdeal.nD Cert.RetDwIdeal.τ).loc Cert.RetDwIdeal.main_arg0) = m ((c.tc : Thread Cert.RetDwIdeal.nD Cert.RetDwIdeal.τ).loc Cert.RetDwIdeal.main_arg0)
          ∧ r.2.mem ((c.tc : Thread Cert.RetDwIdeal.nD Cert.RetDwIdeal.τ).loc Cert.RetDwIdeal.main_arg1) = m ((c.tc : Thread Cert.RetDwIdeal.nD Cert.RetDwIdeal.τ).loc Cert.RetDwIdeal.main_arg1))
      ∧ θ_run (Cert.RetDwRefIdeal.defs (F := Ideal)) (onTc (τ := Cert.RetDwRefIdeal.τ) (Cert.RetDwRefIdeal.main (F := Ideal))) ⟨m', fun _ => 0, g'⟩ (fun r => ∀ c : Dev Cert.RetDwRefIdeal.nD,
          r.2.mem ((c.tc : Thread Cert.RetDwRefIdeal.nD Cert.RetDwRefIdeal.τ).loc Cert.RetDwRefIdeal.main_v7) = v0 c
          ∧ r.2.mem ((c.tc : Thread Cert.RetDwRefIdeal.nD Cert.RetDwRefIdeal.τ).loc Cert.RetDwRefIdeal.main_arg0) = m' ((c.tc : Thread Cert.RetDwRefIdeal.nD Cert.RetDwRefIdeal.τ).loc Cert.RetDwRefIdeal.main_arg0)
          ∧ r.2.mem ((c.tc : Thread Cert.RetDwRefIdeal.nD Cert.RetDwRefIdeal.τ).loc Cert.RetDwRefIdeal.main_arg1) = m' ((c.tc : Thread Cert.RetDwRefIdeal.nD Cert.RetDwRefIdeal.τ).loc Cert.RetDwRefIdeal.main_arg1))

def preserves_Lo_LoIdeal : Prop :=
  True

def algebraic_LoIdeal_LoRefIdeal [hLoIdeal : Cert.LoIdeal.Facts] [hLoRefIdeal : Cert.LoRefIdeal.Facts] : Prop :=
  ∀ (m : (ℓ : Loc Cert.LoIdeal.nD Cert.LoIdeal.τ Cert.LoIdeal.sig) → Buf (Elt Ideal) ℓ) (g : Dev Cert.LoIdeal.nD → PrngReg)
    (m' : (ℓ : Loc Cert.LoRefIdeal.nD Cert.LoRefIdeal.τ Cert.LoRefIdeal.sig) → Buf (Elt Ideal) ℓ) (g' : Dev Cert.LoRefIdeal.nD → PrngReg), Pre_LoIdeal m →
    (∀ c : Dev Cert.LoIdeal.nD,
      m' ((c.tc : Thread Cert.LoRefIdeal.nD Cert.LoRefIdeal.τ).loc Cert.LoRefIdeal.main_arg0) = m ((c.tc : Thread Cert.LoIdeal.nD Cert.LoIdeal.τ).loc Cert.LoIdeal.main_arg0)
      ∧ m' ((c.tc : Thread Cert.LoRefIdeal.nD Cert.LoRefIdeal.τ).loc Cert.LoRefIdeal.main_arg1) = m ((c.tc : Thread Cert.LoIdeal.nD Cert.LoIdeal.τ).loc Cert.LoIdeal.main_arg1)) →
    ∃ (v0 : (c : Dev Cert.LoIdeal.nD) → Buf (Elt Ideal) ((c.tc : Thread Cert.LoIdeal.nD Cert.LoIdeal.τ).loc Cert.LoIdeal.main_v0)),
      θ_run (Cert.LoIdeal.defs (F := Ideal)) (onTc (τ := Cert.LoIdeal.τ) (Cert.LoIdeal.main (F := Ideal))) ⟨m, fun _ => 0, g⟩ (fun r => ∀ c : Dev Cert.LoIdeal.nD,
          r.2.mem ((c.tc : Thread Cert.LoIdeal.nD Cert.LoIdeal.τ).loc Cert.LoIdeal.main_v0) = v0 c
          ∧ r.2.mem ((c.tc : Thread Cert.LoIdeal.nD Cert.LoIdeal.τ).loc Cert.LoIdeal.main_arg0) = m ((c.tc : Thread Cert.LoIdeal.nD Cert.LoIdeal.τ).loc Cert.LoIdeal.main_arg0)
          ∧ r.2.mem ((c.tc : Thread Cert.LoIdeal.nD Cert.LoIdeal.τ).loc Cert.LoIdeal.main_arg1) = m ((c.tc : Thread Cert.LoIdeal.nD Cert.LoIdeal.τ).loc Cert.LoIdeal.main_arg1))
      ∧ θ_run (Cert.LoRefIdeal.defs (F := Ideal)) (onTc (τ := Cert.LoRefIdeal.τ) (Cert.LoRefIdeal.main (F := Ideal))) ⟨m', fun _ => 0, g'⟩ (fun r => ∀ c : Dev Cert.LoRefIdeal.nD,
          r.2.mem ((c.tc : Thread Cert.LoRefIdeal.nD Cert.LoRefIdeal.τ).loc Cert.LoRefIdeal.main_v4) = v0 c
          ∧ r.2.mem ((c.tc : Thread Cert.LoRefIdeal.nD Cert.LoRefIdeal.τ).loc Cert.LoRefIdeal.main_arg0) = m' ((c.tc : Thread Cert.LoRefIdeal.nD Cert.LoRefIdeal.τ).loc Cert.LoRefIdeal.main_arg0)
          ∧ r.2.mem ((c.tc : Thread Cert.LoRefIdeal.nD Cert.LoRefIdeal.τ).loc Cert.LoRefIdeal.main_arg1) = m' ((c.tc : Thread Cert.LoRefIdeal.nD Cert.LoRefIdeal.τ).loc Cert.LoRefIdeal.main_arg1))

def preserves_Hi_HiIdeal : Prop :=
  True

def algebraic_HiIdeal_HiRefIdeal [hHiIdeal : Cert.HiIdeal.Facts] [hHiRefIdeal : Cert.HiRefIdeal.Facts] : Prop :=
  ∀ (m : (ℓ : Loc Cert.HiIdeal.nD Cert.HiIdeal.τ Cert.HiIdeal.sig) → Buf (Elt Ideal) ℓ) (g : Dev Cert.HiIdeal.nD → PrngReg)
    (m' : (ℓ : Loc Cert.HiRefIdeal.nD Cert.HiRefIdeal.τ Cert.HiRefIdeal.sig) → Buf (Elt Ideal) ℓ) (g' : Dev Cert.HiRefIdeal.nD → PrngReg), Pre_HiIdeal m →
    (∀ c : Dev Cert.HiIdeal.nD,
      m' ((c.tc : Thread Cert.HiRefIdeal.nD Cert.HiRefIdeal.τ).loc Cert.HiRefIdeal.main_arg0) = m ((c.tc : Thread Cert.HiIdeal.nD Cert.HiIdeal.τ).loc Cert.HiIdeal.main_arg0)
      ∧ m' ((c.tc : Thread Cert.HiRefIdeal.nD Cert.HiRefIdeal.τ).loc Cert.HiRefIdeal.main_arg1) = m ((c.tc : Thread Cert.HiIdeal.nD Cert.HiIdeal.τ).loc Cert.HiIdeal.main_arg1)) →
    ∃ (v0 : (c : Dev Cert.HiIdeal.nD) → Buf (Elt Ideal) ((c.tc : Thread Cert.HiIdeal.nD Cert.HiIdeal.τ).loc Cert.HiIdeal.main_v0)),
      θ_run (Cert.HiIdeal.defs (F := Ideal)) (onTc (τ := Cert.HiIdeal.τ) (Cert.HiIdeal.main (F := Ideal))) ⟨m, fun _ => 0, g⟩ (fun r => ∀ c : Dev Cert.HiIdeal.nD,
          r.2.mem ((c.tc : Thread Cert.HiIdeal.nD Cert.HiIdeal.τ).loc Cert.HiIdeal.main_v0) = v0 c
          ∧ r.2.mem ((c.tc : Thread Cert.HiIdeal.nD Cert.HiIdeal.τ).loc Cert.HiIdeal.main_arg0) = m ((c.tc : Thread Cert.HiIdeal.nD Cert.HiIdeal.τ).loc Cert.HiIdeal.main_arg0)
          ∧ r.2.mem ((c.tc : Thread Cert.HiIdeal.nD Cert.HiIdeal.τ).loc Cert.HiIdeal.main_arg1) = m ((c.tc : Thread Cert.HiIdeal.nD Cert.HiIdeal.τ).loc Cert.HiIdeal.main_arg1))
      ∧ θ_run (Cert.HiRefIdeal.defs (F := Ideal)) (onTc (τ := Cert.HiRefIdeal.τ) (Cert.HiRefIdeal.main (F := Ideal))) ⟨m', fun _ => 0, g'⟩ (fun r => ∀ c : Dev Cert.HiRefIdeal.nD,
          r.2.mem ((c.tc : Thread Cert.HiRefIdeal.nD Cert.HiRefIdeal.τ).loc Cert.HiRefIdeal.main_v3) = v0 c
          ∧ r.2.mem ((c.tc : Thread Cert.HiRefIdeal.nD Cert.HiRefIdeal.τ).loc Cert.HiRefIdeal.main_arg0) = m' ((c.tc : Thread Cert.HiRefIdeal.nD Cert.HiRefIdeal.τ).loc Cert.HiRefIdeal.main_arg0)
          ∧ r.2.mem ((c.tc : Thread Cert.HiRefIdeal.nD Cert.HiRefIdeal.τ).loc Cert.HiRefIdeal.main_arg1) = m' ((c.tc : Thread Cert.HiRefIdeal.nD Cert.HiRefIdeal.τ).loc Cert.HiRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Dil_DilIdeal : Prop :=
  True

def algebraic_DilIdeal_DilRefIdeal [hDilIdeal : Cert.DilIdeal.Facts] [hDilRefIdeal : Cert.DilRefIdeal.Facts] : Prop :=
  ∀ (m : (ℓ : Loc Cert.DilIdeal.nD Cert.DilIdeal.τ Cert.DilIdeal.sig) → Buf (Elt Ideal) ℓ) (g : Dev Cert.DilIdeal.nD → PrngReg)
    (m' : (ℓ : Loc Cert.DilRefIdeal.nD Cert.DilRefIdeal.τ Cert.DilRefIdeal.sig) → Buf (Elt Ideal) ℓ) (g' : Dev Cert.DilRefIdeal.nD → PrngReg), Pre_DilIdeal m →
    (∀ c : Dev Cert.DilIdeal.nD,
      m' ((c.tc : Thread Cert.DilRefIdeal.nD Cert.DilRefIdeal.τ).loc Cert.DilRefIdeal.main_arg0) = m ((c.tc : Thread Cert.DilIdeal.nD Cert.DilIdeal.τ).loc Cert.DilIdeal.main_arg0)
      ∧ m' ((c.tc : Thread Cert.DilRefIdeal.nD Cert.DilRefIdeal.τ).loc Cert.DilRefIdeal.main_arg1) = m ((c.tc : Thread Cert.DilIdeal.nD Cert.DilIdeal.τ).loc Cert.DilIdeal.main_arg1)) →
    ∃ (v0 : (c : Dev Cert.DilIdeal.nD) → Buf (Elt Ideal) ((c.tc : Thread Cert.DilIdeal.nD Cert.DilIdeal.τ).loc Cert.DilIdeal.main_v0)),
      θ_run (Cert.DilIdeal.defs (F := Ideal)) (onTc (τ := Cert.DilIdeal.τ) (Cert.DilIdeal.main (F := Ideal))) ⟨m, fun _ => 0, g⟩ (fun r => ∀ c : Dev Cert.DilIdeal.nD,
          r.2.mem ((c.tc : Thread Cert.DilIdeal.nD Cert.DilIdeal.τ).loc Cert.DilIdeal.main_v0) = v0 c
          ∧ r.2.mem ((c.tc : Thread Cert.DilIdeal.nD Cert.DilIdeal.τ).loc Cert.DilIdeal.main_arg0) = m ((c.tc : Thread Cert.DilIdeal.nD Cert.DilIdeal.τ).loc Cert.DilIdeal.main_arg0)
          ∧ r.2.mem ((c.tc : Thread Cert.DilIdeal.nD Cert.DilIdeal.τ).loc Cert.DilIdeal.main_arg1) = m ((c.tc : Thread Cert.DilIdeal.nD Cert.DilIdeal.τ).loc Cert.DilIdeal.main_arg1))
      ∧ θ_run (Cert.DilRefIdeal.defs (F := Ideal)) (onTc (τ := Cert.DilRefIdeal.τ) (Cert.DilRefIdeal.main (F := Ideal))) ⟨m', fun _ => 0, g'⟩ (fun r => ∀ c : Dev Cert.DilRefIdeal.nD,
          r.2.mem ((c.tc : Thread Cert.DilRefIdeal.nD Cert.DilRefIdeal.τ).loc Cert.DilRefIdeal.main_v3) = v0 c
          ∧ r.2.mem ((c.tc : Thread Cert.DilRefIdeal.nD Cert.DilRefIdeal.τ).loc Cert.DilRefIdeal.main_arg0) = m' ((c.tc : Thread Cert.DilRefIdeal.nD Cert.DilRefIdeal.τ).loc Cert.DilRefIdeal.main_arg0)
          ∧ r.2.mem ((c.tc : Thread Cert.DilRefIdeal.nD Cert.DilRefIdeal.τ).loc Cert.DilRefIdeal.main_arg1) = m' ((c.tc : Thread Cert.DilRefIdeal.nD Cert.DilRefIdeal.τ).loc Cert.DilRefIdeal.main_arg1))

def preserves_Stick_StickIdeal : Prop :=
  True

def algebraic_StickIdeal_StickRefIdeal [hStickIdeal : Cert.StickIdeal.Facts] [hStickRefIdeal : Cert.StickRefIdeal.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)
      ∧ m' ((c.tc : Thread Cert.StickRefIdeal.nD Cert.StickRefIdeal.τ).loc Cert.StickRefIdeal.main_arg1) = m ((c.tc : Thread Cert.StickIdeal.nD Cert.StickIdeal.τ).loc Cert.StickIdeal.main_arg1)) →
    ∃ (v0 : (c : Dev Cert.StickIdeal.nD) → Buf (Elt Ideal) ((c.tc : Thread Cert.StickIdeal.nD Cert.StickIdeal.τ).loc Cert.StickIdeal.main_v0)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v0) = v0 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v2) = v0 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0)
          ∧ r.2.mem ((c.tc : Thread Cert.StickRefIdeal.nD Cert.StickRefIdeal.τ).loc Cert.StickRefIdeal.main_arg1) = m' ((c.tc : Thread Cert.StickRefIdeal.nD Cert.StickRefIdeal.τ).loc Cert.StickRefIdeal.main_arg1))

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)) →
    ∃ (v0 : (c : Dev Cert.RetIdeal.nD) → Buf (Elt Ideal) ((c.tc : Thread Cert.RetIdeal.nD Cert.RetIdeal.τ).loc Cert.RetIdeal.main_v0)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v0) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v3) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1))

def preserves_Sbf_SbfIdeal : Prop :=
  IdealRules.named_const.Statement Cert.SbfIdeal.κ "scale2" .f32 0xBE0293EE#32 ((-((11863283 / 134217728) * (Real.log 2)⁻¹) : ℝ) : EReal)

def algebraic_SbfIdeal_SbfRefIdeal [hSbfIdeal : Cert.SbfIdeal.Facts] [hSbfRefIdeal : Cert.SbfRefIdeal.Facts] : Prop :=
  ∀ (m : (ℓ : Loc Cert.SbfIdeal.nD Cert.SbfIdeal.τ Cert.SbfIdeal.sig) → Buf (Elt Ideal) ℓ) (g : Dev Cert.SbfIdeal.nD → PrngReg)
    (m' : (ℓ : Loc Cert.SbfRefIdeal.nD Cert.SbfRefIdeal.τ Cert.SbfRefIdeal.sig) → Buf (Elt Ideal) ℓ) (g' : Dev Cert.SbfRefIdeal.nD → PrngReg), Pre_SbfIdeal m →
    (∀ c : Dev Cert.SbfIdeal.nD,
      m' ((c.tc : Thread Cert.SbfRefIdeal.nD Cert.SbfRefIdeal.τ).loc Cert.SbfRefIdeal.main_arg0) = m ((c.tc : Thread Cert.SbfIdeal.nD Cert.SbfIdeal.τ).loc Cert.SbfIdeal.main_arg0)) →
    ∃ (v0 : (c : Dev Cert.SbfIdeal.nD) → Buf (Elt Ideal) ((c.tc : Thread Cert.SbfIdeal.nD Cert.SbfIdeal.τ).loc Cert.SbfIdeal.main_v5_0)) (v1 : (c : Dev Cert.SbfIdeal.nD) → Buf (Elt Ideal) ((c.tc : Thread Cert.SbfIdeal.nD Cert.SbfIdeal.τ).loc Cert.SbfIdeal.main_v5_1)),
      θ_run (Cert.SbfIdeal.defs (F := Ideal)) (onTc (τ := Cert.SbfIdeal.τ) (Cert.SbfIdeal.main (F := Ideal))) ⟨m, fun _ => 0, g⟩ (fun r => ∀ c : Dev Cert.SbfIdeal.nD,
          r.2.mem ((c.tc : Thread Cert.SbfIdeal.nD Cert.SbfIdeal.τ).loc Cert.SbfIdeal.main_v5_0) = v0 c
          ∧ r.2.mem ((c.tc : Thread Cert.SbfIdeal.nD Cert.SbfIdeal.τ).loc Cert.SbfIdeal.main_v5_1) = v1 c
          ∧ r.2.mem ((c.tc : Thread Cert.SbfIdeal.nD Cert.SbfIdeal.τ).loc Cert.SbfIdeal.main_arg0) = m ((c.tc : Thread Cert.SbfIdeal.nD Cert.SbfIdeal.τ).loc Cert.SbfIdeal.main_arg0))
      ∧ θ_run (Cert.SbfRefIdeal.defs (F := Ideal)) (onTc (τ := Cert.SbfRefIdeal.τ) (Cert.SbfRefIdeal.main (F := Ideal))) ⟨m', fun _ => 0, g'⟩ (fun r => ∀ c : Dev Cert.SbfRefIdeal.nD,
          r.2.mem ((c.tc : Thread Cert.SbfRefIdeal.nD Cert.SbfRefIdeal.τ).loc Cert.SbfRefIdeal.main_v29) = v0 c
          ∧ r.2.mem ((c.tc : Thread Cert.SbfRefIdeal.nD Cert.SbfRefIdeal.τ).loc Cert.SbfRefIdeal.main_v34) = v1 c
          ∧ r.2.mem ((c.tc : Thread Cert.SbfRefIdeal.nD Cert.SbfRefIdeal.τ).loc Cert.SbfRefIdeal.main_arg0) = m' ((c.tc : Thread Cert.SbfRefIdeal.nD Cert.SbfRefIdeal.τ).loc Cert.SbfRefIdeal.main_arg0))

def preserves_AdRel_AdRelIdeal : Prop :=
  True

def algebraic_AdRelIdeal_AdRelRefIdeal [hAdRelIdeal : Cert.AdRelIdeal.Facts] [hAdRelRefIdeal : Cert.AdRelRefIdeal.Facts] : Prop :=
  ∀ (m : (ℓ : Loc Cert.AdRelIdeal.nD Cert.AdRelIdeal.τ Cert.AdRelIdeal.sig) → Buf (Elt Ideal) ℓ) (g : Dev Cert.AdRelIdeal.nD → PrngReg)
    (m' : (ℓ : Loc Cert.AdRelRefIdeal.nD Cert.AdRelRefIdeal.τ Cert.AdRelRefIdeal.sig) → Buf (Elt Ideal) ℓ) (g' : Dev Cert.AdRelRefIdeal.nD → PrngReg), Pre_AdRelIdeal m →
    (∀ c : Dev Cert.AdRelIdeal.nD,
      m' ((c.tc : Thread Cert.AdRelRefIdeal.nD Cert.AdRelRefIdeal.τ).loc Cert.AdRelRefIdeal.main_arg0) = m ((c.tc : Thread Cert.AdRelIdeal.nD Cert.AdRelIdeal.τ).loc Cert.AdRelIdeal.main_arg0)
      ∧ m' ((c.tc : Thread Cert.AdRelRefIdeal.nD Cert.AdRelRefIdeal.τ).loc Cert.AdRelRefIdeal.main_arg1) = m ((c.tc : Thread Cert.AdRelIdeal.nD Cert.AdRelIdeal.τ).loc Cert.AdRelIdeal.main_arg1)
      ∧ m' ((c.tc : Thread Cert.AdRelRefIdeal.nD Cert.AdRelRefIdeal.τ).loc Cert.AdRelRefIdeal.main_arg2) = m ((c.tc : Thread Cert.AdRelIdeal.nD Cert.AdRelIdeal.τ).loc Cert.AdRelIdeal.main_arg2)
      ∧ m' ((c.tc : Thread Cert.AdRelRefIdeal.nD Cert.AdRelRefIdeal.τ).loc Cert.AdRelRefIdeal.main_arg3) = m ((c.tc : Thread Cert.AdRelIdeal.nD Cert.AdRelIdeal.τ).loc Cert.AdRelIdeal.main_arg3)) →
    ∃ (v0 : (c : Dev Cert.AdRelIdeal.nD) → Buf (Elt Ideal) ((c.tc : Thread Cert.AdRelIdeal.nD Cert.AdRelIdeal.τ).loc Cert.AdRelIdeal.main_v0_0)) (v1 : (c : Dev Cert.AdRelIdeal.nD) → Buf (Elt Ideal) ((c.tc : Thread Cert.AdRelIdeal.nD Cert.AdRelIdeal.τ).loc Cert.AdRelIdeal.main_v0_1)) (v2 : (c : Dev Cert.AdRelIdeal.nD) → Buf (Elt Ideal) ((c.tc : Thread Cert.AdRelIdeal.nD Cert.AdRelIdeal.τ).loc Cert.AdRelIdeal.main_v0_2)),
      θ_run (Cert.AdRelIdeal.defs (F := Ideal)) (onTc (τ := Cert.AdRelIdeal.τ) (Cert.AdRelIdeal.main (F := Ideal))) ⟨m, fun _ => 0, g⟩ (fun r => ∀ c : Dev Cert.AdRelIdeal.nD,
          r.2.mem ((c.tc : Thread Cert.AdRelIdeal.nD Cert.AdRelIdeal.τ).loc Cert.AdRelIdeal.main_v0_0) = v0 c
          ∧ r.2.mem ((c.tc : Thread Cert.AdRelIdeal.nD Cert.AdRelIdeal.τ).loc Cert.AdRelIdeal.main_v0_1) = v1 c
          ∧ r.2.mem ((c.tc : Thread Cert.AdRelIdeal.nD Cert.AdRelIdeal.τ).loc Cert.AdRelIdeal.main_v0_2) = v2 c
          ∧ r.2.mem ((c.tc : Thread Cert.AdRelIdeal.nD Cert.AdRelIdeal.τ).loc Cert.AdRelIdeal.main_arg0) = m ((c.tc : Thread Cert.AdRelIdeal.nD Cert.AdRelIdeal.τ).loc Cert.AdRelIdeal.main_arg0)
          ∧ r.2.mem ((c.tc : Thread Cert.AdRelIdeal.nD Cert.AdRelIdeal.τ).loc Cert.AdRelIdeal.main_arg1) = m ((c.tc : Thread Cert.AdRelIdeal.nD Cert.AdRelIdeal.τ).loc Cert.AdRelIdeal.main_arg1)
          ∧ r.2.mem ((c.tc : Thread Cert.AdRelIdeal.nD Cert.AdRelIdeal.τ).loc Cert.AdRelIdeal.main_arg2) = m ((c.tc : Thread Cert.AdRelIdeal.nD Cert.AdRelIdeal.τ).loc Cert.AdRelIdeal.main_arg2)
          ∧ r.2.mem ((c.tc : Thread Cert.AdRelIdeal.nD Cert.AdRelIdeal.τ).loc Cert.AdRelIdeal.main_arg3) = m ((c.tc : Thread Cert.AdRelIdeal.nD Cert.AdRelIdeal.τ).loc Cert.AdRelIdeal.main_arg3))
      ∧ θ_run (Cert.AdRelRefIdeal.defs (F := Ideal)) (onTc (τ := Cert.AdRelRefIdeal.τ) (Cert.AdRelRefIdeal.main (F := Ideal))) ⟨m', fun _ => 0, g'⟩ (fun r => ∀ c : Dev Cert.AdRelRefIdeal.nD,
          r.2.mem ((c.tc : Thread Cert.AdRelRefIdeal.nD Cert.AdRelRefIdeal.τ).loc Cert.AdRelRefIdeal.main_v23) = v0 c
          ∧ r.2.mem ((c.tc : Thread Cert.AdRelRefIdeal.nD Cert.AdRelRefIdeal.τ).loc Cert.AdRelRefIdeal.main_v4) = v1 c
          ∧ r.2.mem ((c.tc : Thread Cert.AdRelRefIdeal.nD Cert.AdRelRefIdeal.τ).loc Cert.AdRelRefIdeal.main_v10) = v2 c
          ∧ r.2.mem ((c.tc : Thread Cert.AdRelRefIdeal.nD Cert.AdRelRefIdeal.τ).loc Cert.AdRelRefIdeal.main_arg0) = m' ((c.tc : Thread Cert.AdRelRefIdeal.nD Cert.AdRelRefIdeal.τ).loc Cert.AdRelRefIdeal.main_arg0)
          ∧ r.2.mem ((c.tc : Thread Cert.AdRelRefIdeal.nD Cert.AdRelRefIdeal.τ).loc Cert.AdRelRefIdeal.main_arg1) = m' ((c.tc : Thread Cert.AdRelRefIdeal.nD Cert.AdRelRefIdeal.τ).loc Cert.AdRelRefIdeal.main_arg1)
          ∧ r.2.mem ((c.tc : Thread Cert.AdRelRefIdeal.nD Cert.AdRelRefIdeal.τ).loc Cert.AdRelRefIdeal.main_arg2) = m' ((c.tc : Thread Cert.AdRelRefIdeal.nD Cert.AdRelRefIdeal.τ).loc Cert.AdRelRefIdeal.main_arg2)
          ∧ r.2.mem ((c.tc : Thread Cert.AdRelRefIdeal.nD Cert.AdRelRefIdeal.τ).loc Cert.AdRelRefIdeal.main_arg3) = m' ((c.tc : Thread Cert.AdRelRefIdeal.nD Cert.AdRelRefIdeal.τ).loc Cert.AdRelRefIdeal.main_arg3))

def preserves_AdNorm_AdNormIdeal : Prop :=
  True

def algebraic_AdNormIdeal_AdNormRefIdeal [hAdNormIdeal : Cert.AdNormIdeal.Facts] [hAdNormRefIdeal : Cert.AdNormRefIdeal.Facts] : Prop :=
  ∀ (m : (ℓ : Loc Cert.AdNormIdeal.nD Cert.AdNormIdeal.τ Cert.AdNormIdeal.sig) → Buf (Elt Ideal) ℓ) (g : Dev Cert.AdNormIdeal.nD → PrngReg)
    (m' : (ℓ : Loc Cert.AdNormRefIdeal.nD Cert.AdNormRefIdeal.τ Cert.AdNormRefIdeal.sig) → Buf (Elt Ideal) ℓ) (g' : Dev Cert.AdNormRefIdeal.nD → PrngReg), Pre_AdNormIdeal m →
    (∀ c : Dev Cert.AdNormIdeal.nD,
      m' ((c.tc : Thread Cert.AdNormRefIdeal.nD Cert.AdNormRefIdeal.τ).loc Cert.AdNormRefIdeal.main_arg0) = m ((c.tc : Thread Cert.AdNormIdeal.nD Cert.AdNormIdeal.τ).loc Cert.AdNormIdeal.main_arg0)
      ∧ m' ((c.tc : Thread Cert.AdNormRefIdeal.nD Cert.AdNormRefIdeal.τ).loc Cert.AdNormRefIdeal.main_arg1) = m ((c.tc : Thread Cert.AdNormIdeal.nD Cert.AdNormIdeal.τ).loc Cert.AdNormIdeal.main_arg1)
      ∧ m' ((c.tc : Thread Cert.AdNormRefIdeal.nD Cert.AdNormRefIdeal.τ).loc Cert.AdNormRefIdeal.main_arg2) = m ((c.tc : Thread Cert.AdNormIdeal.nD Cert.AdNormIdeal.τ).loc Cert.AdNormIdeal.main_arg2)
      ∧ m' ((c.tc : Thread Cert.AdNormRefIdeal.nD Cert.AdNormRefIdeal.τ).loc Cert.AdNormRefIdeal.main_arg3) = m ((c.tc : Thread Cert.AdNormIdeal.nD Cert.AdNormIdeal.τ).loc Cert.AdNormIdeal.main_arg3)) →
    ∃ (v0 : (c : Dev Cert.AdNormIdeal.nD) → Buf (Elt Ideal) ((c.tc : Thread Cert.AdNormIdeal.nD Cert.AdNormIdeal.τ).loc Cert.AdNormIdeal.main_v0_0)) (v1 : (c : Dev Cert.AdNormIdeal.nD) → Buf (Elt Ideal) ((c.tc : Thread Cert.AdNormIdeal.nD Cert.AdNormIdeal.τ).loc Cert.AdNormIdeal.main_v0_1)) (v2 : (c : Dev Cert.AdNormIdeal.nD) → Buf (Elt Ideal) ((c.tc : Thread Cert.AdNormIdeal.nD Cert.AdNormIdeal.τ).loc Cert.AdNormIdeal.main_v0_2)),
      θ_run (Cert.AdNormIdeal.defs (F := Ideal)) (onTc (τ := Cert.AdNormIdeal.τ) (Cert.AdNormIdeal.main (F := Ideal))) ⟨m, fun _ => 0, g⟩ (fun r => ∀ c : Dev Cert.AdNormIdeal.nD,
          r.2.mem ((c.tc : Thread Cert.AdNormIdeal.nD Cert.AdNormIdeal.τ).loc Cert.AdNormIdeal.main_v0_0) = v0 c
          ∧ r.2.mem ((c.tc : Thread Cert.AdNormIdeal.nD Cert.AdNormIdeal.τ).loc Cert.AdNormIdeal.main_v0_1) = v1 c
          ∧ r.2.mem ((c.tc : Thread Cert.AdNormIdeal.nD Cert.AdNormIdeal.τ).loc Cert.AdNormIdeal.main_v0_2) = v2 c
          ∧ r.2.mem ((c.tc : Thread Cert.AdNormIdeal.nD Cert.AdNormIdeal.τ).loc Cert.AdNormIdeal.main_arg0) = m ((c.tc : Thread Cert.AdNormIdeal.nD Cert.AdNormIdeal.τ).loc Cert.AdNormIdeal.main_arg0)
          ∧ r.2.mem ((c.tc : Thread Cert.AdNormIdeal.nD Cert.AdNormIdeal.τ).loc Cert.AdNormIdeal.main_arg1) = m ((c.tc : Thread Cert.AdNormIdeal.nD Cert.AdNormIdeal.τ).loc Cert.AdNormIdeal.main_arg1)
          ∧ r.2.mem ((c.tc : Thread Cert.AdNormIdeal.nD Cert.AdNormIdeal.τ).loc Cert.AdNormIdeal.main_arg2) = m ((c.tc : Thread Cert.AdNormIdeal.nD Cert.AdNormIdeal.τ).loc Cert.AdNormIdeal.main_arg2)
          ∧ r.2.mem ((c.tc : Thread Cert.AdNormIdeal.nD Cert.AdNormIdeal.τ).loc Cert.AdNormIdeal.main_arg3) = m ((c.tc : Thread Cert.AdNormIdeal.nD Cert.AdNormIdeal.τ).loc Cert.AdNormIdeal.main_arg3))
      ∧ θ_run (Cert.AdNormRefIdeal.defs (F := Ideal)) (onTc (τ := Cert.AdNormRefIdeal.τ) (Cert.AdNormRefIdeal.main (F := Ideal))) ⟨m', fun _ => 0, g'⟩ (fun r => ∀ c : Dev Cert.AdNormRefIdeal.nD,
          r.2.mem ((c.tc : Thread Cert.AdNormRefIdeal.nD Cert.AdNormRefIdeal.τ).loc Cert.AdNormRefIdeal.main_v23) = v0 c
          ∧ r.2.mem ((c.tc : Thread Cert.AdNormRefIdeal.nD Cert.AdNormRefIdeal.τ).loc Cert.AdNormRefIdeal.main_v4) = v1 c
          ∧ r.2.mem ((c.tc : Thread Cert.AdNormRefIdeal.nD Cert.AdNormRefIdeal.τ).loc Cert.AdNormRefIdeal.main_v10) = v2 c
          ∧ r.2.mem ((c.tc : Thread Cert.AdNormRefIdeal.nD Cert.AdNormRefIdeal.τ).loc Cert.AdNormRefIdeal.main_arg0) = m' ((c.tc : Thread Cert.AdNormRefIdeal.nD Cert.AdNormRefIdeal.τ).loc Cert.AdNormRefIdeal.main_arg0)
          ∧ r.2.mem ((c.tc : Thread Cert.AdNormRefIdeal.nD Cert.AdNormRefIdeal.τ).loc Cert.AdNormRefIdeal.main_arg1) = m' ((c.tc : Thread Cert.AdNormRefIdeal.nD Cert.AdNormRefIdeal.τ).loc Cert.AdNormRefIdeal.main_arg1)
          ∧ r.2.mem ((c.tc : Thread Cert.AdNormRefIdeal.nD Cert.AdNormRefIdeal.τ).loc Cert.AdNormRefIdeal.main_arg2) = m' ((c.tc : Thread Cert.AdNormRefIdeal.nD Cert.AdNormRefIdeal.τ).loc Cert.AdNormRefIdeal.main_arg2)
          ∧ r.2.mem ((c.tc : Thread Cert.AdNormRefIdeal.nD Cert.AdNormRefIdeal.τ).loc Cert.AdNormRefIdeal.main_arg3) = m' ((c.tc : Thread Cert.AdNormRefIdeal.nD Cert.AdNormRefIdeal.τ).loc Cert.AdNormRefIdeal.main_arg3))

def preserves_AdIn_AdInIdeal : Prop :=
  True

def algebraic_AdInIdeal_AdInRefIdeal [hAdInIdeal : Cert.AdInIdeal.Facts] [hAdInRefIdeal : Cert.AdInRefIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.AdInRefIdeal.nD Cert.AdInRefIdeal.τ Cert.AdInRefIdeal.sig) → Buf (Elt Ideal) ℓ) (g' : Dev Cert.AdInRefIdeal.nD → PrngReg), Pre_AdInIdeal m →
    (∀ c : Dev Cert.AdInIdeal.nD,
      m' ((c.tc : Thread Cert.AdInRefIdeal.nD Cert.AdInRefIdeal.τ).loc Cert.AdInRefIdeal.main_arg0) = m ((c.tc : Thread Cert.AdInIdeal.nD Cert.AdInIdeal.τ).loc Cert.AdInIdeal.main_arg0)
      ∧ m' ((c.tc : Thread Cert.AdInRefIdeal.nD Cert.AdInRefIdeal.τ).loc Cert.AdInRefIdeal.main_arg1) = m ((c.tc : Thread Cert.AdInIdeal.nD Cert.AdInIdeal.τ).loc Cert.AdInIdeal.main_arg1)
      ∧ m' ((c.tc : Thread Cert.AdInRefIdeal.nD Cert.AdInRefIdeal.τ).loc Cert.AdInRefIdeal.main_arg2) = m ((c.tc : Thread Cert.AdInIdeal.nD Cert.AdInIdeal.τ).loc Cert.AdInIdeal.main_arg2)
      ∧ m' ((c.tc : Thread Cert.AdInRefIdeal.nD Cert.AdInRefIdeal.τ).loc Cert.AdInRefIdeal.main_arg3) = m ((c.tc : Thread Cert.AdInIdeal.nD Cert.AdInIdeal.τ).loc Cert.AdInIdeal.main_arg3)) →
    ∃ (v0 : (c : Dev Cert.AdInIdeal.nD) → Buf (Elt Ideal) ((c.tc : Thread Cert.AdInIdeal.nD Cert.AdInIdeal.τ).loc Cert.AdInIdeal.main_v0_0)) (v1 : (c : Dev Cert.AdInIdeal.nD) → Buf (Elt Ideal) ((c.tc : Thread Cert.AdInIdeal.nD Cert.AdInIdeal.τ).loc Cert.AdInIdeal.main_v0_1)) (v2 : (c : Dev Cert.AdInIdeal.nD) → Buf (Elt Ideal) ((c.tc : Thread Cert.AdInIdeal.nD Cert.AdInIdeal.τ).loc Cert.AdInIdeal.main_v0_2)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v0_0) = v0 c
          ∧ r.2.mem ((c.tc : Thread Cert.AdInIdeal.nD Cert.AdInIdeal.τ).loc Cert.AdInIdeal.main_v0_1) = v1 c
          ∧ r.2.mem ((c.tc : Thread Cert.AdInIdeal.nD Cert.AdInIdeal.τ).loc Cert.AdInIdeal.main_v0_2) = v2 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ θ_run (Cert.AdInRefIdeal.defs (F := Ideal)) (onTc (τ := Cert.AdInRefIdeal.τ) (Cert.AdInRefIdeal.main (F := Ideal))) ⟨m', fun _ => 0, g'⟩ (fun r => ∀ c : Dev Cert.AdInRefIdeal.nD,
          r.2.mem ((c.tc : Thread Cert.AdInRefIdeal.nD Cert.AdInRefIdeal.τ).loc Cert.AdInRefIdeal.main_v23) = v0 c
          ∧ r.2.mem ((c.tc : Thread Cert.AdInRefIdeal.nD Cert.AdInRefIdeal.τ).loc Cert.AdInRefIdeal.main_v4) = v1 c
          ∧ r.2.mem ((c.tc : Thread Cert.AdInRefIdeal.nD Cert.AdInRefIdeal.τ).loc Cert.AdInRefIdeal.main_v10) = v2 c
          ∧ r.2.mem ((c.tc : Thread Cert.AdInRefIdeal.nD Cert.AdInRefIdeal.τ).loc Cert.AdInRefIdeal.main_arg0) = m' ((c.tc : Thread Cert.AdInRefIdeal.nD Cert.AdInRefIdeal.τ).loc Cert.AdInRefIdeal.main_arg0)
          ∧ r.2.mem ((c.tc : Thread Cert.AdInRefIdeal.nD Cert.AdInRefIdeal.τ).loc Cert.AdInRefIdeal.main_arg1) = m' ((c.tc : Thread Cert.AdInRefIdeal.nD Cert.AdInRefIdeal.τ).loc Cert.AdInRefIdeal.main_arg1)
          ∧ r.2.mem ((c.tc : Thread Cert.AdInRefIdeal.nD Cert.AdInRefIdeal.τ).loc Cert.AdInRefIdeal.main_arg2) = m' ((c.tc : Thread Cert.AdInRefIdeal.nD Cert.AdInRefIdeal.τ).loc Cert.AdInRefIdeal.main_arg2)
          ∧ r.2.mem ((c.tc : Thread Cert.AdInRefIdeal.nD Cert.AdInRefIdeal.τ).loc Cert.AdInRefIdeal.main_arg3) = m' ((c.tc : Thread Cert.AdInRefIdeal.nD Cert.AdInRefIdeal.τ).loc Cert.AdInRefIdeal.main_arg3))

def preserves_AdGate_AdGateIdeal : Prop :=
  True

def algebraic_AdGateIdeal_AdGateRefIdeal [hAdGateIdeal : Cert.AdGateIdeal.Facts] [hAdGateRefIdeal : Cert.AdGateRefIdeal.Facts] : Prop :=
  ∀ (m : (ℓ : Loc Cert.AdGateIdeal.nD Cert.AdGateIdeal.τ Cert.AdGateIdeal.sig) → Buf (Elt Ideal) ℓ) (g : Dev Cert.AdGateIdeal.nD → PrngReg)
    (m' : (ℓ : Loc Cert.AdGateRefIdeal.nD Cert.AdGateRefIdeal.τ Cert.AdGateRefIdeal.sig) → Buf (Elt Ideal) ℓ) (g' : Dev Cert.AdGateRefIdeal.nD → PrngReg), Pre_AdGateIdeal m →
    (∀ c : Dev Cert.AdGateIdeal.nD,
      m' ((c.tc : Thread Cert.AdGateRefIdeal.nD Cert.AdGateRefIdeal.τ).loc Cert.AdGateRefIdeal.main_arg0) = m ((c.tc : Thread Cert.AdGateIdeal.nD Cert.AdGateIdeal.τ).loc Cert.AdGateIdeal.main_arg0)
      ∧ m' ((c.tc : Thread Cert.AdGateRefIdeal.nD Cert.AdGateRefIdeal.τ).loc Cert.AdGateRefIdeal.main_arg1) = m ((c.tc : Thread Cert.AdGateIdeal.nD Cert.AdGateIdeal.τ).loc Cert.AdGateIdeal.main_arg1)
      ∧ m' ((c.tc : Thread Cert.AdGateRefIdeal.nD Cert.AdGateRefIdeal.τ).loc Cert.AdGateRefIdeal.main_arg2) = m ((c.tc : Thread Cert.AdGateIdeal.nD Cert.AdGateIdeal.τ).loc Cert.AdGateIdeal.main_arg2)
      ∧ m' ((c.tc : Thread Cert.AdGateRefIdeal.nD Cert.AdGateRefIdeal.τ).loc Cert.AdGateRefIdeal.main_arg3) = m ((c.tc : Thread Cert.AdGateIdeal.nD Cert.AdGateIdeal.τ).loc Cert.AdGateIdeal.main_arg3)) →
    ∃ (v0 : (c : Dev Cert.AdGateIdeal.nD) → Buf (Elt Ideal) ((c.tc : Thread Cert.AdGateIdeal.nD Cert.AdGateIdeal.τ).loc Cert.AdGateIdeal.main_v0_0)) (v1 : (c : Dev Cert.AdGateIdeal.nD) → Buf (Elt Ideal) ((c.tc : Thread Cert.AdGateIdeal.nD Cert.AdGateIdeal.τ).loc Cert.AdGateIdeal.main_v0_1)) (v2 : (c : Dev Cert.AdGateIdeal.nD) → Buf (Elt Ideal) ((c.tc : Thread Cert.AdGateIdeal.nD Cert.AdGateIdeal.τ).loc Cert.AdGateIdeal.main_v0_2)),
      θ_run (Cert.AdGateIdeal.defs (F := Ideal)) (onTc (τ := Cert.AdGateIdeal.τ) (Cert.AdGateIdeal.main (F := Ideal))) ⟨m, fun _ => 0, g⟩ (fun r => ∀ c : Dev Cert.AdGateIdeal.nD,
          r.2.mem ((c.tc : Thread Cert.AdGateIdeal.nD Cert.AdGateIdeal.τ).loc Cert.AdGateIdeal.main_v0_0) = v0 c
          ∧ r.2.mem ((c.tc : Thread Cert.AdGateIdeal.nD Cert.AdGateIdeal.τ).loc Cert.AdGateIdeal.main_v0_1) = v1 c
          ∧ r.2.mem ((c.tc : Thread Cert.AdGateIdeal.nD Cert.AdGateIdeal.τ).loc Cert.AdGateIdeal.main_v0_2) = v2 c
          ∧ r.2.mem ((c.tc : Thread Cert.AdGateIdeal.nD Cert.AdGateIdeal.τ).loc Cert.AdGateIdeal.main_arg0) = m ((c.tc : Thread Cert.AdGateIdeal.nD Cert.AdGateIdeal.τ).loc Cert.AdGateIdeal.main_arg0)
          ∧ r.2.mem ((c.tc : Thread Cert.AdGateIdeal.nD Cert.AdGateIdeal.τ).loc Cert.AdGateIdeal.main_arg1) = m ((c.tc : Thread Cert.AdGateIdeal.nD Cert.AdGateIdeal.τ).loc Cert.AdGateIdeal.main_arg1)
          ∧ r.2.mem ((c.tc : Thread Cert.AdGateIdeal.nD Cert.AdGateIdeal.τ).loc Cert.AdGateIdeal.main_arg2) = m ((c.tc : Thread Cert.AdGateIdeal.nD Cert.AdGateIdeal.τ).loc Cert.AdGateIdeal.main_arg2)
          ∧ r.2.mem ((c.tc : Thread Cert.AdGateIdeal.nD Cert.AdGateIdeal.τ).loc Cert.AdGateIdeal.main_arg3) = m ((c.tc : Thread Cert.AdGateIdeal.nD Cert.AdGateIdeal.τ).loc Cert.AdGateIdeal.main_arg3))
      ∧ θ_run (Cert.AdGateRefIdeal.defs (F := Ideal)) (onTc (τ := Cert.AdGateRefIdeal.τ) (Cert.AdGateRefIdeal.main (F := Ideal))) ⟨m', fun _ => 0, g'⟩ (fun r => ∀ c : Dev Cert.AdGateRefIdeal.nD,
          r.2.mem ((c.tc : Thread Cert.AdGateRefIdeal.nD Cert.AdGateRefIdeal.τ).loc Cert.AdGateRefIdeal.main_v23) = v0 c
          ∧ r.2.mem ((c.tc : Thread Cert.AdGateRefIdeal.nD Cert.AdGateRefIdeal.τ).loc Cert.AdGateRefIdeal.main_v4) = v1 c
          ∧ r.2.mem ((c.tc : Thread Cert.AdGateRefIdeal.nD Cert.AdGateRefIdeal.τ).loc Cert.AdGateRefIdeal.main_v10) = v2 c
          ∧ r.2.mem ((c.tc : Thread Cert.AdGateRefIdeal.nD Cert.AdGateRefIdeal.τ).loc Cert.AdGateRefIdeal.main_arg0) = m' ((c.tc : Thread Cert.AdGateRefIdeal.nD Cert.AdGateRefIdeal.τ).loc Cert.AdGateRefIdeal.main_arg0)
          ∧ r.2.mem ((c.tc : Thread Cert.AdGateRefIdeal.nD Cert.AdGateRefIdeal.τ).loc Cert.AdGateRefIdeal.main_arg1) = m' ((c.tc : Thread Cert.AdGateRefIdeal.nD Cert.AdGateRefIdeal.τ).loc Cert.AdGateRefIdeal.main_arg1)
          ∧ r.2.mem ((c.tc : Thread Cert.AdGateRefIdeal.nD Cert.AdGateRefIdeal.τ).loc Cert.AdGateRefIdeal.main_arg2) = m' ((c.tc : Thread Cert.AdGateRefIdeal.nD Cert.AdGateRefIdeal.τ).loc Cert.AdGateRefIdeal.main_arg2)
          ∧ r.2.mem ((c.tc : Thread Cert.AdGateRefIdeal.nD Cert.AdGateRefIdeal.τ).loc Cert.AdGateRefIdeal.main_arg3) = m' ((c.tc : Thread Cert.AdGateRefIdeal.nD Cert.AdGateRefIdeal.τ).loc Cert.AdGateRefIdeal.main_arg3))

def preserves_AdRet_AdRetIdeal : Prop :=
  True

def algebraic_AdRetIdeal_AdRetRefIdeal [hAdRetIdeal : Cert.AdRetIdeal.Facts] [hAdRetRefIdeal : Cert.AdRetRefIdeal.Facts] : Prop :=
  ∀ (m : (ℓ : Loc Cert.AdRetIdeal.nD Cert.AdRetIdeal.τ Cert.AdRetIdeal.sig) → Buf (Elt Ideal) ℓ) (g : Dev Cert.AdRetIdeal.nD → PrngReg)
    (m' : (ℓ : Loc Cert.AdRetRefIdeal.nD Cert.AdRetRefIdeal.τ Cert.AdRetRefIdeal.sig) → Buf (Elt Ideal) ℓ) (g' : Dev Cert.AdRetRefIdeal.nD → PrngReg), Pre_AdRetIdeal m →
    (∀ c : Dev Cert.AdRetIdeal.nD,
      m' ((c.tc : Thread Cert.AdRetRefIdeal.nD Cert.AdRetRefIdeal.τ).loc Cert.AdRetRefIdeal.main_arg0) = m ((c.tc : Thread Cert.AdRetIdeal.nD Cert.AdRetIdeal.τ).loc Cert.AdRetIdeal.main_arg0)
      ∧ m' ((c.tc : Thread Cert.AdRetRefIdeal.nD Cert.AdRetRefIdeal.τ).loc Cert.AdRetRefIdeal.main_arg1) = m ((c.tc : Thread Cert.AdRetIdeal.nD Cert.AdRetIdeal.τ).loc Cert.AdRetIdeal.main_arg1)
      ∧ m' ((c.tc : Thread Cert.AdRetRefIdeal.nD Cert.AdRetRefIdeal.τ).loc Cert.AdRetRefIdeal.main_arg2) = m ((c.tc : Thread Cert.AdRetIdeal.nD Cert.AdRetIdeal.τ).loc Cert.AdRetIdeal.main_arg2)
      ∧ m' ((c.tc : Thread Cert.AdRetRefIdeal.nD Cert.AdRetRefIdeal.τ).loc Cert.AdRetRefIdeal.main_arg3) = m ((c.tc : Thread Cert.AdRetIdeal.nD Cert.AdRetIdeal.τ).loc Cert.AdRetIdeal.main_arg3)) →
    ∃ (v0 : (c : Dev Cert.AdRetIdeal.nD) → Buf (Elt Ideal) ((c.tc : Thread Cert.AdRetIdeal.nD Cert.AdRetIdeal.τ).loc Cert.AdRetIdeal.main_v0_0)) (v1 : (c : Dev Cert.AdRetIdeal.nD) → Buf (Elt Ideal) ((c.tc : Thread Cert.AdRetIdeal.nD Cert.AdRetIdeal.τ).loc Cert.AdRetIdeal.main_v0_1)) (v2 : (c : Dev Cert.AdRetIdeal.nD) → Buf (Elt Ideal) ((c.tc : Thread Cert.AdRetIdeal.nD Cert.AdRetIdeal.τ).loc Cert.AdRetIdeal.main_v0_2)),
      θ_run (Cert.AdRetIdeal.defs (F := Ideal)) (onTc (τ := Cert.AdRetIdeal.τ) (Cert.AdRetIdeal.main (F := Ideal))) ⟨m, fun _ => 0, g⟩ (fun r => ∀ c : Dev Cert.AdRetIdeal.nD,
          r.2.mem ((c.tc : Thread Cert.AdRetIdeal.nD Cert.AdRetIdeal.τ).loc Cert.AdRetIdeal.main_v0_0) = v0 c
          ∧ r.2.mem ((c.tc : Thread Cert.AdRetIdeal.nD Cert.AdRetIdeal.τ).loc Cert.AdRetIdeal.main_v0_1) = v1 c
          ∧ r.2.mem ((c.tc : Thread Cert.AdRetIdeal.nD Cert.AdRetIdeal.τ).loc Cert.AdRetIdeal.main_v0_2) = v2 c
          ∧ r.2.mem ((c.tc : Thread Cert.AdRetIdeal.nD Cert.AdRetIdeal.τ).loc Cert.AdRetIdeal.main_arg0) = m ((c.tc : Thread Cert.AdRetIdeal.nD Cert.AdRetIdeal.τ).loc Cert.AdRetIdeal.main_arg0)
          ∧ r.2.mem ((c.tc : Thread Cert.AdRetIdeal.nD Cert.AdRetIdeal.τ).loc Cert.AdRetIdeal.main_arg1) = m ((c.tc : Thread Cert.AdRetIdeal.nD Cert.AdRetIdeal.τ).loc Cert.AdRetIdeal.main_arg1)
          ∧ r.2.mem ((c.tc : Thread Cert.AdRetIdeal.nD Cert.AdRetIdeal.τ).loc Cert.AdRetIdeal.main_arg2) = m ((c.tc : Thread Cert.AdRetIdeal.nD Cert.AdRetIdeal.τ).loc Cert.AdRetIdeal.main_arg2)
          ∧ r.2.mem ((c.tc : Thread Cert.AdRetIdeal.nD Cert.AdRetIdeal.τ).loc Cert.AdRetIdeal.main_arg3) = m ((c.tc : Thread Cert.AdRetIdeal.nD Cert.AdRetIdeal.τ).loc Cert.AdRetIdeal.main_arg3))
      ∧ θ_run (Cert.AdRetRefIdeal.defs (F := Ideal)) (onTc (τ := Cert.AdRetRefIdeal.τ) (Cert.AdRetRefIdeal.main (F := Ideal))) ⟨m', fun _ => 0, g'⟩ (fun r => ∀ c : Dev Cert.AdRetRefIdeal.nD,
          r.2.mem ((c.tc : Thread Cert.AdRetRefIdeal.nD Cert.AdRetRefIdeal.τ).loc Cert.AdRetRefIdeal.main_v23) = v0 c
          ∧ r.2.mem ((c.tc : Thread Cert.AdRetRefIdeal.nD Cert.AdRetRefIdeal.τ).loc Cert.AdRetRefIdeal.main_v4) = v1 c
          ∧ r.2.mem ((c.tc : Thread Cert.AdRetRefIdeal.nD Cert.AdRetRefIdeal.τ).loc Cert.AdRetRefIdeal.main_v10) = v2 c
          ∧ r.2.mem ((c.tc : Thread Cert.AdRetRefIdeal.nD Cert.AdRetRefIdeal.τ).loc Cert.AdRetRefIdeal.main_arg0) = m' ((c.tc : Thread Cert.AdRetRefIdeal.nD Cert.AdRetRefIdeal.τ).loc Cert.AdRetRefIdeal.main_arg0)
          ∧ r.2.mem ((c.tc : Thread Cert.AdRetRefIdeal.nD Cert.AdRetRefIdeal.τ).loc Cert.AdRetRefIdeal.main_arg1) = m' ((c.tc : Thread Cert.AdRetRefIdeal.nD Cert.AdRetRefIdeal.τ).loc Cert.AdRetRefIdeal.main_arg1)
          ∧ r.2.mem ((c.tc : Thread Cert.AdRetRefIdeal.nD Cert.AdRetRefIdeal.τ).loc Cert.AdRetRefIdeal.main_arg2) = m' ((c.tc : Thread Cert.AdRetRefIdeal.nD Cert.AdRetRefIdeal.τ).loc Cert.AdRetRefIdeal.main_arg2)
          ∧ r.2.mem ((c.tc : Thread Cert.AdRetRefIdeal.nD Cert.AdRetRefIdeal.τ).loc Cert.AdRetRefIdeal.main_arg3) = m' ((c.tc : Thread Cert.AdRetRefIdeal.nD Cert.AdRetRefIdeal.τ).loc Cert.AdRetRefIdeal.main_arg3))

def preserves_AdDil_AdDilIdeal : Prop :=
  True

def algebraic_AdDilIdeal_AdDilRefIdeal [hAdDilIdeal : Cert.AdDilIdeal.Facts] [hAdDilRefIdeal : Cert.AdDilRefIdeal.Facts] : Prop :=
  ∀ (m : (ℓ : Loc Cert.AdDilIdeal.nD Cert.AdDilIdeal.τ Cert.AdDilIdeal.sig) → Buf (Elt Ideal) ℓ) (g : Dev Cert.AdDilIdeal.nD → PrngReg)
    (m' : (ℓ : Loc Cert.AdDilRefIdeal.nD Cert.AdDilRefIdeal.τ Cert.AdDilRefIdeal.sig) → Buf (Elt Ideal) ℓ) (g' : Dev Cert.AdDilRefIdeal.nD → PrngReg), Pre_AdDilIdeal m →
    (∀ c : Dev Cert.AdDilIdeal.nD,
      m' ((c.tc : Thread Cert.AdDilRefIdeal.nD Cert.AdDilRefIdeal.τ).loc Cert.AdDilRefIdeal.main_arg0) = m ((c.tc : Thread Cert.AdDilIdeal.nD Cert.AdDilIdeal.τ).loc Cert.AdDilIdeal.main_arg0)
      ∧ m' ((c.tc : Thread Cert.AdDilRefIdeal.nD Cert.AdDilRefIdeal.τ).loc Cert.AdDilRefIdeal.main_arg1) = m ((c.tc : Thread Cert.AdDilIdeal.nD Cert.AdDilIdeal.τ).loc Cert.AdDilIdeal.main_arg1)
      ∧ m' ((c.tc : Thread Cert.AdDilRefIdeal.nD Cert.AdDilRefIdeal.τ).loc Cert.AdDilRefIdeal.main_arg2) = m ((c.tc : Thread Cert.AdDilIdeal.nD Cert.AdDilIdeal.τ).loc Cert.AdDilIdeal.main_arg2)
      ∧ m' ((c.tc : Thread Cert.AdDilRefIdeal.nD Cert.AdDilRefIdeal.τ).loc Cert.AdDilRefIdeal.main_arg3) = m ((c.tc : Thread Cert.AdDilIdeal.nD Cert.AdDilIdeal.τ).loc Cert.AdDilIdeal.main_arg3)) →
    ∃ (v0 : (c : Dev Cert.AdDilIdeal.nD) → Buf (Elt Ideal) ((c.tc : Thread Cert.AdDilIdeal.nD Cert.AdDilIdeal.τ).loc Cert.AdDilIdeal.main_v0_0)) (v1 : (c : Dev Cert.AdDilIdeal.nD) → Buf (Elt Ideal) ((c.tc : Thread Cert.AdDilIdeal.nD Cert.AdDilIdeal.τ).loc Cert.AdDilIdeal.main_v0_1)) (v2 : (c : Dev Cert.AdDilIdeal.nD) → Buf (Elt Ideal) ((c.tc : Thread Cert.AdDilIdeal.nD Cert.AdDilIdeal.τ).loc Cert.AdDilIdeal.main_v0_2)),
      θ_run (Cert.AdDilIdeal.defs (F := Ideal)) (onTc (τ := Cert.AdDilIdeal.τ) (Cert.AdDilIdeal.main (F := Ideal))) ⟨m, fun _ => 0, g⟩ (fun r => ∀ c : Dev Cert.AdDilIdeal.nD,
          r.2.mem ((c.tc : Thread Cert.AdDilIdeal.nD Cert.AdDilIdeal.τ).loc Cert.AdDilIdeal.main_v0_0) = v0 c
          ∧ r.2.mem ((c.tc : Thread Cert.AdDilIdeal.nD Cert.AdDilIdeal.τ).loc Cert.AdDilIdeal.main_v0_1) = v1 c
          ∧ r.2.mem ((c.tc : Thread Cert.AdDilIdeal.nD Cert.AdDilIdeal.τ).loc Cert.AdDilIdeal.main_v0_2) = v2 c
          ∧ r.2.mem ((c.tc : Thread Cert.AdDilIdeal.nD Cert.AdDilIdeal.τ).loc Cert.AdDilIdeal.main_arg0) = m ((c.tc : Thread Cert.AdDilIdeal.nD Cert.AdDilIdeal.τ).loc Cert.AdDilIdeal.main_arg0)
          ∧ r.2.mem ((c.tc : Thread Cert.AdDilIdeal.nD Cert.AdDilIdeal.τ).loc Cert.AdDilIdeal.main_arg1) = m ((c.tc : Thread Cert.AdDilIdeal.nD Cert.AdDilIdeal.τ).loc Cert.AdDilIdeal.main_arg1)
          ∧ r.2.mem ((c.tc : Thread Cert.AdDilIdeal.nD Cert.AdDilIdeal.τ).loc Cert.AdDilIdeal.main_arg2) = m ((c.tc : Thread Cert.AdDilIdeal.nD Cert.AdDilIdeal.τ).loc Cert.AdDilIdeal.main_arg2)
          ∧ r.2.mem ((c.tc : Thread Cert.AdDilIdeal.nD Cert.AdDilIdeal.τ).loc Cert.AdDilIdeal.main_arg3) = m ((c.tc : Thread Cert.AdDilIdeal.nD Cert.AdDilIdeal.τ).loc Cert.AdDilIdeal.main_arg3))
      ∧ θ_run (Cert.AdDilRefIdeal.defs (F := Ideal)) (onTc (τ := Cert.AdDilRefIdeal.τ) (Cert.AdDilRefIdeal.main (F := Ideal))) ⟨m', fun _ => 0, g'⟩ (fun r => ∀ c : Dev Cert.AdDilRefIdeal.nD,
          r.2.mem ((c.tc : Thread Cert.AdDilRefIdeal.nD Cert.AdDilRefIdeal.τ).loc Cert.AdDilRefIdeal.main_v23) = v0 c
          ∧ r.2.mem ((c.tc : Thread Cert.AdDilRefIdeal.nD Cert.AdDilRefIdeal.τ).loc Cert.AdDilRefIdeal.main_v4) = v1 c
          ∧ r.2.mem ((c.tc : Thread Cert.AdDilRefIdeal.nD Cert.AdDilRefIdeal.τ).loc Cert.AdDilRefIdeal.main_v10) = v2 c
          ∧ r.2.mem ((c.tc : Thread Cert.AdDilRefIdeal.nD Cert.AdDilRefIdeal.τ).loc Cert.AdDilRefIdeal.main_arg0) = m' ((c.tc : Thread Cert.AdDilRefIdeal.nD Cert.AdDilRefIdeal.τ).loc Cert.AdDilRefIdeal.main_arg0)
          ∧ r.2.mem ((c.tc : Thread Cert.AdDilRefIdeal.nD Cert.AdDilRefIdeal.τ).loc Cert.AdDilRefIdeal.main_arg1) = m' ((c.tc : Thread Cert.AdDilRefIdeal.nD Cert.AdDilRefIdeal.τ).loc Cert.AdDilRefIdeal.main_arg1)
          ∧ r.2.mem ((c.tc : Thread Cert.AdDilRefIdeal.nD Cert.AdDilRefIdeal.τ).loc Cert.AdDilRefIdeal.main_arg2) = m' ((c.tc : Thread Cert.AdDilRefIdeal.nD Cert.AdDilRefIdeal.τ).loc Cert.AdDilRefIdeal.main_arg2)
          ∧ r.2.mem ((c.tc : Thread Cert.AdDilRefIdeal.nD Cert.AdDilRefIdeal.τ).loc Cert.AdDilRefIdeal.main_arg3) = m' ((c.tc : Thread Cert.AdDilRefIdeal.nD Cert.AdDilRefIdeal.τ).loc Cert.AdDilRefIdeal.main_arg3))

def preserves_AdMix_AdMixIdeal : Prop :=
  True

def algebraic_AdMixIdeal_AdMixRefIdeal [hAdMixIdeal : Cert.AdMixIdeal.Facts] [hAdMixRefIdeal : Cert.AdMixRefIdeal.Facts] : Prop :=
  ∀ (m : (ℓ : Loc Cert.AdMixIdeal.nD Cert.AdMixIdeal.τ Cert.AdMixIdeal.sig) → Buf (Elt Ideal) ℓ) (g : Dev Cert.AdMixIdeal.nD → PrngReg)
    (m' : (ℓ : Loc Cert.AdMixRefIdeal.nD Cert.AdMixRefIdeal.τ Cert.AdMixRefIdeal.sig) → Buf (Elt Ideal) ℓ) (g' : Dev Cert.AdMixRefIdeal.nD → PrngReg), Pre_AdMixIdeal m →
    (∀ c : Dev Cert.AdMixIdeal.nD,
      m' ((c.tc : Thread Cert.AdMixRefIdeal.nD Cert.AdMixRefIdeal.τ).loc Cert.AdMixRefIdeal.main_arg0) = m ((c.tc : Thread Cert.AdMixIdeal.nD Cert.AdMixIdeal.τ).loc Cert.AdMixIdeal.main_arg0)
      ∧ m' ((c.tc : Thread Cert.AdMixRefIdeal.nD Cert.AdMixRefIdeal.τ).loc Cert.AdMixRefIdeal.main_arg1) = m ((c.tc : Thread Cert.AdMixIdeal.nD Cert.AdMixIdeal.τ).loc Cert.AdMixIdeal.main_arg1)
      ∧ m' ((c.tc : Thread Cert.AdMixRefIdeal.nD Cert.AdMixRefIdeal.τ).loc Cert.AdMixRefIdeal.main_arg2) = m ((c.tc : Thread Cert.AdMixIdeal.nD Cert.AdMixIdeal.τ).loc Cert.AdMixIdeal.main_arg2)
      ∧ m' ((c.tc : Thread Cert.AdMixRefIdeal.nD Cert.AdMixRefIdeal.τ).loc Cert.AdMixRefIdeal.main_arg3) = m ((c.tc : Thread Cert.AdMixIdeal.nD Cert.AdMixIdeal.τ).loc Cert.AdMixIdeal.main_arg3)) →
    ∃ (v0 : (c : Dev Cert.AdMixIdeal.nD) → Buf (Elt Ideal) ((c.tc : Thread Cert.AdMixIdeal.nD Cert.AdMixIdeal.τ).loc Cert.AdMixIdeal.main_v0_0)) (v1 : (c : Dev Cert.AdMixIdeal.nD) → Buf (Elt Ideal) ((c.tc : Thread Cert.AdMixIdeal.nD Cert.AdMixIdeal.τ).loc Cert.AdMixIdeal.main_v0_1)) (v2 : (c : Dev Cert.AdMixIdeal.nD) → Buf (Elt Ideal) ((c.tc : Thread Cert.AdMixIdeal.nD Cert.AdMixIdeal.τ).loc Cert.AdMixIdeal.main_v0_2)),
      θ_run (Cert.AdMixIdeal.defs (F := Ideal)) (onTc (τ := Cert.AdMixIdeal.τ) (Cert.AdMixIdeal.main (F := Ideal))) ⟨m, fun _ => 0, g⟩ (fun r => ∀ c : Dev Cert.AdMixIdeal.nD,
          r.2.mem ((c.tc : Thread Cert.AdMixIdeal.nD Cert.AdMixIdeal.τ).loc Cert.AdMixIdeal.main_v0_0) = v0 c
          ∧ r.2.mem ((c.tc : Thread Cert.AdMixIdeal.nD Cert.AdMixIdeal.τ).loc Cert.AdMixIdeal.main_v0_1) = v1 c
          ∧ r.2.mem ((c.tc : Thread Cert.AdMixIdeal.nD Cert.AdMixIdeal.τ).loc Cert.AdMixIdeal.main_v0_2) = v2 c
          ∧ r.2.mem ((c.tc : Thread Cert.AdMixIdeal.nD Cert.AdMixIdeal.τ).loc Cert.AdMixIdeal.main_arg0) = m ((c.tc : Thread Cert.AdMixIdeal.nD Cert.AdMixIdeal.τ).loc Cert.AdMixIdeal.main_arg0)
          ∧ r.2.mem ((c.tc : Thread Cert.AdMixIdeal.nD Cert.AdMixIdeal.τ).loc Cert.AdMixIdeal.main_arg1) = m ((c.tc : Thread Cert.AdMixIdeal.nD Cert.AdMixIdeal.τ).loc Cert.AdMixIdeal.main_arg1)
          ∧ r.2.mem ((c.tc : Thread Cert.AdMixIdeal.nD Cert.AdMixIdeal.τ).loc Cert.AdMixIdeal.main_arg2) = m ((c.tc : Thread Cert.AdMixIdeal.nD Cert.AdMixIdeal.τ).loc Cert.AdMixIdeal.main_arg2)
          ∧ r.2.mem ((c.tc : Thread Cert.AdMixIdeal.nD Cert.AdMixIdeal.τ).loc Cert.AdMixIdeal.main_arg3) = m ((c.tc : Thread Cert.AdMixIdeal.nD Cert.AdMixIdeal.τ).loc Cert.AdMixIdeal.main_arg3))
      ∧ θ_run (Cert.AdMixRefIdeal.defs (F := Ideal)) (onTc (τ := Cert.AdMixRefIdeal.τ) (Cert.AdMixRefIdeal.main (F := Ideal))) ⟨m', fun _ => 0, g'⟩ (fun r => ∀ c : Dev Cert.AdMixRefIdeal.nD,
          r.2.mem ((c.tc : Thread Cert.AdMixRefIdeal.nD Cert.AdMixRefIdeal.τ).loc Cert.AdMixRefIdeal.main_v23) = v0 c
          ∧ r.2.mem ((c.tc : Thread Cert.AdMixRefIdeal.nD Cert.AdMixRefIdeal.τ).loc Cert.AdMixRefIdeal.main_v4) = v1 c
          ∧ r.2.mem ((c.tc : Thread Cert.AdMixRefIdeal.nD Cert.AdMixRefIdeal.τ).loc Cert.AdMixRefIdeal.main_v10) = v2 c
          ∧ r.2.mem ((c.tc : Thread Cert.AdMixRefIdeal.nD Cert.AdMixRefIdeal.τ).loc Cert.AdMixRefIdeal.main_arg0) = m' ((c.tc : Thread Cert.AdMixRefIdeal.nD Cert.AdMixRefIdeal.τ).loc Cert.AdMixRefIdeal.main_arg0)
          ∧ r.2.mem ((c.tc : Thread Cert.AdMixRefIdeal.nD Cert.AdMixRefIdeal.τ).loc Cert.AdMixRefIdeal.main_arg1) = m' ((c.tc : Thread Cert.AdMixRefIdeal.nD Cert.AdMixRefIdeal.τ).loc Cert.AdMixRefIdeal.main_arg1)
          ∧ r.2.mem ((c.tc : Thread Cert.AdMixRefIdeal.nD Cert.AdMixRefIdeal.τ).loc Cert.AdMixRefIdeal.main_arg2) = m' ((c.tc : Thread Cert.AdMixRefIdeal.nD Cert.AdMixRefIdeal.τ).loc Cert.AdMixRefIdeal.main_arg2)
          ∧ r.2.mem ((c.tc : Thread Cert.AdMixRefIdeal.nD Cert.AdMixRefIdeal.τ).loc Cert.AdMixRefIdeal.main_arg3) = m' ((c.tc : Thread Cert.AdMixRefIdeal.nD Cert.AdMixRefIdeal.τ).loc Cert.AdMixRefIdeal.main_arg3))

def preserves_AdOut_AdOutIdeal : Prop :=
  True

def algebraic_AdOutIdeal_AdOutRefIdeal [hAdOutIdeal : Cert.AdOutIdeal.Facts] [hAdOutRefIdeal : Cert.AdOutRefIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.AdOutRefIdeal.nD Cert.AdOutRefIdeal.τ Cert.AdOutRefIdeal.sig) → Buf (Elt Ideal) ℓ) (g' : Dev Cert.AdOutRefIdeal.nD → PrngReg), Pre_AdOutIdeal m →
    (∀ c : Dev Cert.AdOutIdeal.nD,
      m' ((c.tc : Thread Cert.AdOutRefIdeal.nD Cert.AdOutRefIdeal.τ).loc Cert.AdOutRefIdeal.main_arg0) = m ((c.tc : Thread Cert.AdOutIdeal.nD Cert.AdOutIdeal.τ).loc Cert.AdOutIdeal.main_arg0)
      ∧ m' ((c.tc : Thread Cert.AdOutRefIdeal.nD Cert.AdOutRefIdeal.τ).loc Cert.AdOutRefIdeal.main_arg1) = m ((c.tc : Thread Cert.AdOutIdeal.nD Cert.AdOutIdeal.τ).loc Cert.AdOutIdeal.main_arg1)
      ∧ m' ((c.tc : Thread Cert.AdOutRefIdeal.nD Cert.AdOutRefIdeal.τ).loc Cert.AdOutRefIdeal.main_arg2) = m ((c.tc : Thread Cert.AdOutIdeal.nD Cert.AdOutIdeal.τ).loc Cert.AdOutIdeal.main_arg2)
      ∧ m' ((c.tc : Thread Cert.AdOutRefIdeal.nD Cert.AdOutRefIdeal.τ).loc Cert.AdOutRefIdeal.main_arg3) = m ((c.tc : Thread Cert.AdOutIdeal.nD Cert.AdOutIdeal.τ).loc Cert.AdOutIdeal.main_arg3)) →
    ∃ (v0 : (c : Dev Cert.AdOutIdeal.nD) → Buf (Elt Ideal) ((c.tc : Thread Cert.AdOutIdeal.nD Cert.AdOutIdeal.τ).loc Cert.AdOutIdeal.main_v0_0)) (v1 : (c : Dev Cert.AdOutIdeal.nD) → Buf (Elt Ideal) ((c.tc : Thread Cert.AdOutIdeal.nD Cert.AdOutIdeal.τ).loc Cert.AdOutIdeal.main_v0_1)) (v2 : (c : Dev Cert.AdOutIdeal.nD) → Buf (Elt Ideal) ((c.tc : Thread Cert.AdOutIdeal.nD Cert.AdOutIdeal.τ).loc Cert.AdOutIdeal.main_v0_2)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v0_0) = v0 c
          ∧ r.2.mem ((c.tc : Thread Cert.AdOutIdeal.nD Cert.AdOutIdeal.τ).loc Cert.AdOutIdeal.main_v0_1) = v1 c
          ∧ r.2.mem ((c.tc : Thread Cert.AdOutIdeal.nD Cert.AdOutIdeal.τ).loc Cert.AdOutIdeal.main_v0_2) = v2 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ θ_run (Cert.AdOutRefIdeal.defs (F := Ideal)) (onTc (τ := Cert.AdOutRefIdeal.τ) (Cert.AdOutRefIdeal.main (F := Ideal))) ⟨m', fun _ => 0, g'⟩ (fun r => ∀ c : Dev Cert.AdOutRefIdeal.nD,
          r.2.mem ((c.tc : Thread Cert.AdOutRefIdeal.nD Cert.AdOutRefIdeal.τ).loc Cert.AdOutRefIdeal.main_v23) = v0 c
          ∧ r.2.mem ((c.tc : Thread Cert.AdOutRefIdeal.nD Cert.AdOutRefIdeal.τ).loc Cert.AdOutRefIdeal.main_v4) = v1 c
          ∧ r.2.mem ((c.tc : Thread Cert.AdOutRefIdeal.nD Cert.AdOutRefIdeal.τ).loc Cert.AdOutRefIdeal.main_v10) = v2 c
          ∧ r.2.mem ((c.tc : Thread Cert.AdOutRefIdeal.nD Cert.AdOutRefIdeal.τ).loc Cert.AdOutRefIdeal.main_arg0) = m' ((c.tc : Thread Cert.AdOutRefIdeal.nD Cert.AdOutRefIdeal.τ).loc Cert.AdOutRefIdeal.main_arg0)
          ∧ r.2.mem ((c.tc : Thread Cert.AdOutRefIdeal.nD Cert.AdOutRefIdeal.τ).loc Cert.AdOutRefIdeal.main_arg1) = m' ((c.tc : Thread Cert.AdOutRefIdeal.nD Cert.AdOutRefIdeal.τ).loc Cert.AdOutRefIdeal.main_arg1)
          ∧ r.2.mem ((c.tc : Thread Cert.AdOutRefIdeal.nD Cert.AdOutRefIdeal.τ).loc Cert.AdOutRefIdeal.main_arg2) = m' ((c.tc : Thread Cert.AdOutRefIdeal.nD Cert.AdOutRefIdeal.τ).loc Cert.AdOutRefIdeal.main_arg2)
          ∧ r.2.mem ((c.tc : Thread Cert.AdOutRefIdeal.nD Cert.AdOutRefIdeal.τ).loc Cert.AdOutRefIdeal.main_arg3) = m' ((c.tc : Thread Cert.AdOutRefIdeal.nD Cert.AdOutRefIdeal.τ).loc Cert.AdOutRefIdeal.main_arg3))

def preserves_AdUp_AdUpIdeal : Prop :=
  True

def algebraic_AdUpIdeal_AdUpRefIdeal [hAdUpIdeal : Cert.AdUpIdeal.Facts] [hAdUpRefIdeal : Cert.AdUpRefIdeal.Facts] : Prop :=
  ∀ (m : (ℓ : Loc Cert.AdUpIdeal.nD Cert.AdUpIdeal.τ Cert.AdUpIdeal.sig) → Buf (Elt Ideal) ℓ) (g : Dev Cert.AdUpIdeal.nD → PrngReg)
    (m' : (ℓ : Loc Cert.AdUpRefIdeal.nD Cert.AdUpRefIdeal.τ Cert.AdUpRefIdeal.sig) → Buf (Elt Ideal) ℓ) (g' : Dev Cert.AdUpRefIdeal.nD → PrngReg), Pre_AdUpIdeal m →
    (∀ c : Dev Cert.AdUpIdeal.nD,
      m' ((c.tc : Thread Cert.AdUpRefIdeal.nD Cert.AdUpRefIdeal.τ).loc Cert.AdUpRefIdeal.main_arg0) = m ((c.tc : Thread Cert.AdUpIdeal.nD Cert.AdUpIdeal.τ).loc Cert.AdUpIdeal.main_arg0)
      ∧ m' ((c.tc : Thread Cert.AdUpRefIdeal.nD Cert.AdUpRefIdeal.τ).loc Cert.AdUpRefIdeal.main_arg1) = m ((c.tc : Thread Cert.AdUpIdeal.nD Cert.AdUpIdeal.τ).loc Cert.AdUpIdeal.main_arg1)
      ∧ m' ((c.tc : Thread Cert.AdUpRefIdeal.nD Cert.AdUpRefIdeal.τ).loc Cert.AdUpRefIdeal.main_arg2) = m ((c.tc : Thread Cert.AdUpIdeal.nD Cert.AdUpIdeal.τ).loc Cert.AdUpIdeal.main_arg2)
      ∧ m' ((c.tc : Thread Cert.AdUpRefIdeal.nD Cert.AdUpRefIdeal.τ).loc Cert.AdUpRefIdeal.main_arg3) = m ((c.tc : Thread Cert.AdUpIdeal.nD Cert.AdUpIdeal.τ).loc Cert.AdUpIdeal.main_arg3)) →
    ∃ (v0 : (c : Dev Cert.AdUpIdeal.nD) → Buf (Elt Ideal) ((c.tc : Thread Cert.AdUpIdeal.nD Cert.AdUpIdeal.τ).loc Cert.AdUpIdeal.main_v0_0)) (v1 : (c : Dev Cert.AdUpIdeal.nD) → Buf (Elt Ideal) ((c.tc : Thread Cert.AdUpIdeal.nD Cert.AdUpIdeal.τ).loc Cert.AdUpIdeal.main_v0_1)) (v2 : (c : Dev Cert.AdUpIdeal.nD) → Buf (Elt Ideal) ((c.tc : Thread Cert.AdUpIdeal.nD Cert.AdUpIdeal.τ).loc Cert.AdUpIdeal.main_v0_2)),
      θ_run (Cert.AdUpIdeal.defs (F := Ideal)) (onTc (τ := Cert.AdUpIdeal.τ) (Cert.AdUpIdeal.main (F := Ideal))) ⟨m, fun _ => 0, g⟩ (fun r => ∀ c : Dev Cert.AdUpIdeal.nD,
          r.2.mem ((c.tc : Thread Cert.AdUpIdeal.nD Cert.AdUpIdeal.τ).loc Cert.AdUpIdeal.main_v0_0) = v0 c
          ∧ r.2.mem ((c.tc : Thread Cert.AdUpIdeal.nD Cert.AdUpIdeal.τ).loc Cert.AdUpIdeal.main_v0_1) = v1 c
          ∧ r.2.mem ((c.tc : Thread Cert.AdUpIdeal.nD Cert.AdUpIdeal.τ).loc Cert.AdUpIdeal.main_v0_2) = v2 c
          ∧ r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
          ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
          ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
          ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3))
      ∧ θ_run (Cert.AdUpRefIdeal.defs (F := Ideal)) (onTc (τ := Cert.AdUpRefIdeal.τ) (Cert.AdUpRefIdeal.main (F := Ideal))) ⟨m', fun _ => 0, g'⟩ (fun r => ∀ c : Dev Cert.AdUpRefIdeal.nD,
          r.2.mem ((c.tc : Thread Cert.AdUpRefIdeal.nD Cert.AdUpRefIdeal.τ).loc Cert.AdUpRefIdeal.main_v23) = v0 c
          ∧ r.2.mem ((c.tc : Thread Cert.AdUpRefIdeal.nD Cert.AdUpRefIdeal.τ).loc Cert.AdUpRefIdeal.main_v4) = v1 c
          ∧ r.2.mem ((c.tc : Thread Cert.AdUpRefIdeal.nD Cert.AdUpRefIdeal.τ).loc Cert.AdUpRefIdeal.main_v10) = v2 c
          ∧ r.2.mem ((c.tc : Thread Cert.AdUpRefIdeal.nD Cert.AdUpRefIdeal.τ).loc Cert.AdUpRefIdeal.main_arg0) = m' ((c.tc : Thread Cert.AdUpRefIdeal.nD Cert.AdUpRefIdeal.τ).loc Cert.AdUpRefIdeal.main_arg0)
          ∧ r.2.mem ((c.tc : Thread Cert.AdUpRefIdeal.nD Cert.AdUpRefIdeal.τ).loc Cert.AdUpRefIdeal.main_arg1) = m' ((c.tc : Thread Cert.AdUpRefIdeal.nD Cert.AdUpRefIdeal.τ).loc Cert.AdUpRefIdeal.main_arg1)
          ∧ r.2.mem ((c.tc : Thread Cert.AdUpRefIdeal.nD Cert.AdUpRefIdeal.τ).loc Cert.AdUpRefIdeal.main_arg2) = m' ((c.tc : Thread Cert.AdUpRefIdeal.nD Cert.AdUpRefIdeal.τ).loc Cert.AdUpRefIdeal.main_arg2)
          ∧ r.2.mem ((c.tc : Thread Cert.AdUpRefIdeal.nD Cert.AdUpRefIdeal.τ).loc Cert.AdUpRefIdeal.main_arg3) = m' ((c.tc : Thread Cert.AdUpRefIdeal.nD Cert.AdUpRefIdeal.τ).loc Cert.AdUpRefIdeal.main_arg3))

def preserves_AdTaps_AdTapsIdeal : Prop :=
  True

def algebraic_AdTapsIdeal_AdTapsRefIdeal [hAdTapsIdeal : Cert.AdTapsIdeal.Facts] [hAdTapsRefIdeal : Cert.AdTapsRefIdeal.Facts] : Prop :=
  ∀ (m : (ℓ : Loc Cert.AdTapsIdeal.nD Cert.AdTapsIdeal.τ Cert.AdTapsIdeal.sig) → Buf (Elt Ideal) ℓ) (g : Dev Cert.AdTapsIdeal.nD → PrngReg)
    (m' : (ℓ : Loc Cert.AdTapsRefIdeal.nD Cert.AdTapsRefIdeal.τ Cert.AdTapsRefIdeal.sig) → Buf (Elt Ideal) ℓ) (g' : Dev Cert.AdTapsRefIdeal.nD → PrngReg), Pre_AdTapsIdeal m →
    (∀ c : Dev Cert.AdTapsIdeal.nD,
      m' ((c.tc : Thread Cert.AdTapsRefIdeal.nD Cert.AdTapsRefIdeal.τ).loc Cert.AdTapsRefIdeal.main_arg0) = m ((c.tc : Thread Cert.AdTapsIdeal.nD Cert.AdTapsIdeal.τ).loc Cert.AdTapsIdeal.main_arg0)
      ∧ m' ((c.tc : Thread Cert.AdTapsRefIdeal.nD Cert.AdTapsRefIdeal.τ).loc Cert.AdTapsRefIdeal.main_arg1) = m ((c.tc : Thread Cert.AdTapsIdeal.nD Cert.AdTapsIdeal.τ).loc Cert.AdTapsIdeal.main_arg1)
      ∧ m' ((c.tc : Thread Cert.AdTapsRefIdeal.nD Cert.AdTapsRefIdeal.τ).loc Cert.AdTapsRefIdeal.main_arg2) = m ((c.tc : Thread Cert.AdTapsIdeal.nD Cert.AdTapsIdeal.τ).loc Cert.AdTapsIdeal.main_arg2)
      ∧ m' ((c.tc : Thread Cert.AdTapsRefIdeal.nD Cert.AdTapsRefIdeal.τ).loc Cert.AdTapsRefIdeal.main_arg3) = m ((c.tc : Thread Cert.AdTapsIdeal.nD Cert.AdTapsIdeal.τ).loc Cert.AdTapsIdeal.main_arg3)) →
    ∃ (v0 : (c : Dev Cert.AdTapsIdeal.nD) → Buf (Elt Ideal) ((c.tc : Thread Cert.AdTapsIdeal.nD Cert.AdTapsIdeal.τ).loc Cert.AdTapsIdeal.main_v0_0)) (v1 : (c : Dev Cert.AdTapsIdeal.nD) → Buf (Elt Ideal) ((c.tc : Thread Cert.AdTapsIdeal.nD Cert.AdTapsIdeal.τ).loc Cert.AdTapsIdeal.main_v0_1)) (v2 : (c : Dev Cert.AdTapsIdeal.nD) → Buf (Elt Ideal) ((c.tc : Thread Cert.AdTapsIdeal.nD Cert.AdTapsIdeal.τ).loc Cert.AdTapsIdeal.main_v0_2)),
      θ_run (Cert.AdTapsIdeal.defs (F := Ideal)) (onTc (τ := Cert.AdTapsIdeal.τ) (Cert.AdTapsIdeal.main (F := Ideal))) ⟨m, fun _ => 0, g⟩ (fun r => ∀ c : Dev Cert.AdTapsIdeal.nD,
          r.2.mem ((c.tc : Thread Cert.AdTapsIdeal.nD Cert.AdTapsIdeal.τ).loc Cert.AdTapsIdeal.main_v0_0) = v0 c
          ∧ r.2.mem ((c.tc : Thread Cert.AdTapsIdeal.nD Cert.AdTapsIdeal.τ).loc Cert.AdTapsIdeal.main_v0_1) = v1 c
          ∧ r.2.mem ((c.tc : Thread Cert.AdTapsIdeal.nD Cert.AdTapsIdeal.τ).loc Cert.AdTapsIdeal.main_v0_2) = v2 c
          ∧ r.2.mem ((c.tc : Thread Cert.AdTapsIdeal.nD Cert.AdTapsIdeal.τ).loc Cert.AdTapsIdeal.main_arg0) = m ((c.tc : Thread Cert.AdTapsIdeal.nD Cert.AdTapsIdeal.τ).loc Cert.AdTapsIdeal.main_arg0)
          ∧ r.2.mem ((c.tc : Thread Cert.AdTapsIdeal.nD Cert.AdTapsIdeal.τ).loc Cert.AdTapsIdeal.main_arg1) = m ((c.tc : Thread Cert.AdTapsIdeal.nD Cert.AdTapsIdeal.τ).loc Cert.AdTapsIdeal.main_arg1)
          ∧ r.2.mem ((c.tc : Thread Cert.AdTapsIdeal.nD Cert.AdTapsIdeal.τ).loc Cert.AdTapsIdeal.main_arg2) = m ((c.tc : Thread Cert.AdTapsIdeal.nD Cert.AdTapsIdeal.τ).loc Cert.AdTapsIdeal.main_arg2)
          ∧ r.2.mem ((c.tc : Thread Cert.AdTapsIdeal.nD Cert.AdTapsIdeal.τ).loc Cert.AdTapsIdeal.main_arg3) = m ((c.tc : Thread Cert.AdTapsIdeal.nD Cert.AdTapsIdeal.τ).loc Cert.AdTapsIdeal.main_arg3))
      ∧ θ_run (Cert.AdTapsRefIdeal.defs (F := Ideal)) (onTc (τ := Cert.AdTapsRefIdeal.τ) (Cert.AdTapsRefIdeal.main (F := Ideal))) ⟨m', fun _ => 0, g'⟩ (fun r => ∀ c : Dev Cert.AdTapsRefIdeal.nD,
          r.2.mem ((c.tc : Thread Cert.AdTapsRefIdeal.nD Cert.AdTapsRefIdeal.τ).loc Cert.AdTapsRefIdeal.main_v23) = v0 c
          ∧ r.2.mem ((c.tc : Thread Cert.AdTapsRefIdeal.nD Cert.AdTapsRefIdeal.τ).loc Cert.AdTapsRefIdeal.main_v4) = v1 c
          ∧ r.2.mem ((c.tc : Thread Cert.AdTapsRefIdeal.nD Cert.AdTapsRefIdeal.τ).loc Cert.AdTapsRefIdeal.main_v10) = v2 c
          ∧ r.2.mem ((c.tc : Thread Cert.AdTapsRefIdeal.nD Cert.AdTapsRefIdeal.τ).loc Cert.AdTapsRefIdeal.main_arg0) = m' ((c.tc : Thread Cert.AdTapsRefIdeal.nD Cert.AdTapsRefIdeal.τ).loc Cert.AdTapsRefIdeal.main_arg0)
          ∧ r.2.mem ((c.tc : Thread Cert.AdTapsRefIdeal.nD Cert.AdTapsRefIdeal.τ).loc Cert.AdTapsRefIdeal.main_arg1) = m' ((c.tc : Thread Cert.AdTapsRefIdeal.nD Cert.AdTapsRefIdeal.τ).loc Cert.AdTapsRefIdeal.main_arg1)
          ∧ r.2.mem ((c.tc : Thread Cert.AdTapsRefIdeal.nD Cert.AdTapsRefIdeal.τ).loc Cert.AdTapsRefIdeal.main_arg2) = m' ((c.tc : Thread Cert.AdTapsRefIdeal.nD Cert.AdTapsRefIdeal.τ).loc Cert.AdTapsRefIdeal.main_arg2)
          ∧ r.2.mem ((c.tc : Thread Cert.AdTapsRefIdeal.nD Cert.AdTapsRefIdeal.τ).loc Cert.AdTapsRefIdeal.main_arg3) = m' ((c.tc : Thread Cert.AdTapsRefIdeal.nD Cert.AdTapsRefIdeal.τ).loc Cert.AdTapsRefIdeal.main_arg3))

def preserves_AdConv_AdConvIdeal : Prop :=
  True

def algebraic_AdConvIdeal_AdConvRefIdeal [hAdConvIdeal : Cert.AdConvIdeal.Facts] [hAdConvRefIdeal : Cert.AdConvRefIdeal.Facts] : Prop :=
  ∀ (m : (ℓ : Loc Cert.AdConvIdeal.nD Cert.AdConvIdeal.τ Cert.AdConvIdeal.sig) → Buf (Elt Ideal) ℓ) (g : Dev Cert.AdConvIdeal.nD → PrngReg)
    (m' : (ℓ : Loc Cert.AdConvRefIdeal.nD Cert.AdConvRefIdeal.τ Cert.AdConvRefIdeal.sig) → Buf (Elt Ideal) ℓ) (g' : Dev Cert.AdConvRefIdeal.nD → PrngReg), Pre_AdConvIdeal m →
    (∀ c : Dev Cert.AdConvIdeal.nD,
      m' ((c.tc : Thread Cert.AdConvRefIdeal.nD Cert.AdConvRefIdeal.τ).loc Cert.AdConvRefIdeal.main_arg0) = m ((c.tc : Thread Cert.AdConvIdeal.nD Cert.AdConvIdeal.τ).loc Cert.AdConvIdeal.main_arg0)
      ∧ m' ((c.tc : Thread Cert.AdConvRefIdeal.nD Cert.AdConvRefIdeal.τ).loc Cert.AdConvRefIdeal.main_arg1) = m ((c.tc : Thread Cert.AdConvIdeal.nD Cert.AdConvIdeal.τ).loc Cert.AdConvIdeal.main_arg1)
      ∧ m' ((c.tc : Thread Cert.AdConvRefIdeal.nD Cert.AdConvRefIdeal.τ).loc Cert.AdConvRefIdeal.main_arg2) = m ((c.tc : Thread Cert.AdConvIdeal.nD Cert.AdConvIdeal.τ).loc Cert.AdConvIdeal.main_arg2)
      ∧ m' ((c.tc : Thread Cert.AdConvRefIdeal.nD Cert.AdConvRefIdeal.τ).loc Cert.AdConvRefIdeal.main_arg3) = m ((c.tc : Thread Cert.AdConvIdeal.nD Cert.AdConvIdeal.τ).loc Cert.AdConvIdeal.main_arg3)) →
    ∃ (v0 : (c : Dev Cert.AdConvIdeal.nD) → Buf (Elt Ideal) ((c.tc : Thread Cert.AdConvIdeal.nD Cert.AdConvIdeal.τ).loc Cert.AdConvIdeal.main_v0_0)) (v1 : (c : Dev Cert.AdConvIdeal.nD) → Buf (Elt Ideal) ((c.tc : Thread Cert.AdConvIdeal.nD Cert.AdConvIdeal.τ).loc Cert.AdConvIdeal.main_v0_1)) (v2 : (c : Dev Cert.AdConvIdeal.nD) → Buf (Elt Ideal) ((c.tc : Thread Cert.AdConvIdeal.nD Cert.AdConvIdeal.τ).loc Cert.AdConvIdeal.main_v0_2)),
      θ_run (Cert.AdConvIdeal.defs (F := Ideal)) (onTc (τ := Cert.AdConvIdeal.τ) (Cert.AdConvIdeal.main (F := Ideal))) ⟨m, fun _ => 0, g⟩ (fun r => ∀ c : Dev Cert.AdConvIdeal.nD,
          r.2.mem ((c.tc : Thread Cert.AdConvIdeal.nD Cert.AdConvIdeal.τ).loc Cert.AdConvIdeal.main_v0_0) = v0 c
          ∧ r.2.mem ((c.tc : Thread Cert.AdConvIdeal.nD Cert.AdConvIdeal.τ).loc Cert.AdConvIdeal.main_v0_1) = v1 c
          ∧ r.2.mem ((c.tc : Thread Cert.AdConvIdeal.nD Cert.AdConvIdeal.τ).loc Cert.AdConvIdeal.main_v0_2) = v2 c
          ∧ r.2.mem ((c.tc : Thread Cert.AdConvIdeal.nD Cert.AdConvIdeal.τ).loc Cert.AdConvIdeal.main_arg0) = m ((c.tc : Thread Cert.AdConvIdeal.nD Cert.AdConvIdeal.τ).loc Cert.AdConvIdeal.main_arg0)
          ∧ r.2.mem ((c.tc : Thread Cert.AdConvIdeal.nD Cert.AdConvIdeal.τ).loc Cert.AdConvIdeal.main_arg1) = m ((c.tc : Thread Cert.AdConvIdeal.nD Cert.AdConvIdeal.τ).loc Cert.AdConvIdeal.main_arg1)
          ∧ r.2.mem ((c.tc : Thread Cert.AdConvIdeal.nD Cert.AdConvIdeal.τ).loc Cert.AdConvIdeal.main_arg2) = m ((c.tc : Thread Cert.AdConvIdeal.nD Cert.AdConvIdeal.τ).loc Cert.AdConvIdeal.main_arg2)
          ∧ r.2.mem ((c.tc : Thread Cert.AdConvIdeal.nD Cert.AdConvIdeal.τ).loc Cert.AdConvIdeal.main_arg3) = m ((c.tc : Thread Cert.AdConvIdeal.nD Cert.AdConvIdeal.τ).loc Cert.AdConvIdeal.main_arg3))
      ∧ θ_run (Cert.AdConvRefIdeal.defs (F := Ideal)) (onTc (τ := Cert.AdConvRefIdeal.τ) (Cert.AdConvRefIdeal.main (F := Ideal))) ⟨m', fun _ => 0, g'⟩ (fun r => ∀ c : Dev Cert.AdConvRefIdeal.nD,
          r.2.mem ((c.tc : Thread Cert.AdConvRefIdeal.nD Cert.AdConvRefIdeal.τ).loc Cert.AdConvRefIdeal.main_v23) = v0 c
          ∧ r.2.mem ((c.tc : Thread Cert.AdConvRefIdeal.nD Cert.AdConvRefIdeal.τ).loc Cert.AdConvRefIdeal.main_v4) = v1 c
          ∧ r.2.mem ((c.tc : Thread Cert.AdConvRefIdeal.nD Cert.AdConvRefIdeal.τ).loc Cert.AdConvRefIdeal.main_v10) = v2 c
          ∧ r.2.mem ((c.tc : Thread Cert.AdConvRefIdeal.nD Cert.AdConvRefIdeal.τ).loc Cert.AdConvRefIdeal.main_arg0) = m' ((c.tc : Thread Cert.AdConvRefIdeal.nD Cert.AdConvRefIdeal.τ).loc Cert.AdConvRefIdeal.main_arg0)
          ∧ r.2.mem ((c.tc : Thread Cert.AdConvRefIdeal.nD Cert.AdConvRefIdeal.τ).loc Cert.AdConvRefIdeal.main_arg1) = m' ((c.tc : Thread Cert.AdConvRefIdeal.nD Cert.AdConvRefIdeal.τ).loc Cert.AdConvRefIdeal.main_arg1)
          ∧ r.2.mem ((c.tc : Thread Cert.AdConvRefIdeal.nD Cert.AdConvRefIdeal.τ).loc Cert.AdConvRefIdeal.main_arg2) = m' ((c.tc : Thread Cert.AdConvRefIdeal.nD Cert.AdConvRefIdeal.τ).loc Cert.AdConvRefIdeal.main_arg2)
          ∧ r.2.mem ((c.tc : Thread Cert.AdConvRefIdeal.nD Cert.AdConvRefIdeal.τ).loc Cert.AdConvRefIdeal.main_arg3) = m' ((c.tc : Thread Cert.AdConvRefIdeal.nD Cert.AdConvRefIdeal.τ).loc Cert.AdConvRefIdeal.main_arg3))

def preserves_AdDown_AdDownIdeal : Prop :=
  True

def algebraic_AdDownIdeal_AdDownRefIdeal [hAdDownIdeal : Cert.AdDownIdeal.Facts] [hAdDownRefIdeal : Cert.AdDownRefIdeal.Facts] : Prop :=
  ∀ (m : (ℓ : Loc Cert.AdDownIdeal.nD Cert.AdDownIdeal.τ Cert.AdDownIdeal.sig) → Buf (Elt Ideal) ℓ) (g : Dev Cert.AdDownIdeal.nD → PrngReg)
    (m' : (ℓ : Loc Cert.AdDownRefIdeal.nD Cert.AdDownRefIdeal.τ Cert.AdDownRefIdeal.sig) → Buf (Elt Ideal) ℓ) (g' : Dev Cert.AdDownRefIdeal.nD → PrngReg), Pre_AdDownIdeal m →
    (∀ c : Dev Cert.AdDownIdeal.nD,
      m' ((c.tc : Thread Cert.AdDownRefIdeal.nD Cert.AdDownRefIdeal.τ).loc Cert.AdDownRefIdeal.main_arg0) = m ((c.tc : Thread Cert.AdDownIdeal.nD Cert.AdDownIdeal.τ).loc Cert.AdDownIdeal.main_arg0)
      ∧ m' ((c.tc : Thread Cert.AdDownRefIdeal.nD Cert.AdDownRefIdeal.τ).loc Cert.AdDownRefIdeal.main_arg1) = m ((c.tc : Thread Cert.AdDownIdeal.nD Cert.AdDownIdeal.τ).loc Cert.AdDownIdeal.main_arg1)
      ∧ m' ((c.tc : Thread Cert.AdDownRefIdeal.nD Cert.AdDownRefIdeal.τ).loc Cert.AdDownRefIdeal.main_arg2) = m ((c.tc : Thread Cert.AdDownIdeal.nD Cert.AdDownIdeal.τ).loc Cert.AdDownIdeal.main_arg2)
      ∧ m' ((c.tc : Thread Cert.AdDownRefIdeal.nD Cert.AdDownRefIdeal.τ).loc Cert.AdDownRefIdeal.main_arg3) = m ((c.tc : Thread Cert.AdDownIdeal.nD Cert.AdDownIdeal.τ).loc Cert.AdDownIdeal.main_arg3)) →
    ∃ (v0 : (c : Dev Cert.AdDownIdeal.nD) → Buf (Elt Ideal) ((c.tc : Thread Cert.AdDownIdeal.nD Cert.AdDownIdeal.τ).loc Cert.AdDownIdeal.main_v0_0)) (v1 : (c : Dev Cert.AdDownIdeal.nD) → Buf (Elt Ideal) ((c.tc : Thread Cert.AdDownIdeal.nD Cert.AdDownIdeal.τ).loc Cert.AdDownIdeal.main_v0_1)) (v2 : (c : Dev Cert.AdDownIdeal.nD) → Buf (Elt Ideal) ((c.tc : Thread Cert.AdDownIdeal.nD Cert.AdDownIdeal.τ).loc Cert.AdDownIdeal.main_v0_2)),
      θ_run (Cert.AdDownIdeal.defs (F := Ideal)) (onTc (τ := Cert.AdDownIdeal.τ) (Cert.AdDownIdeal.main (F := Ideal))) ⟨m, fun _ => 0, g⟩ (fun r => ∀ c : Dev Cert.AdDownIdeal.nD,
          r.2.mem ((c.tc : Thread Cert.AdDownIdeal.nD Cert.AdDownIdeal.τ).loc Cert.AdDownIdeal.main_v0_0) = v0 c
          ∧ r.2.mem ((c.tc : Thread Cert.AdDownIdeal.nD Cert.AdDownIdeal.τ).loc Cert.AdDownIdeal.main_v0_1) = v1 c
          ∧ r.2.mem ((c.tc : Thread Cert.AdDownIdeal.nD Cert.AdDownIdeal.τ).loc Cert.AdDownIdeal.main_v0_2) = v2 c
          ∧ r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
          ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
          ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
          ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3))
      ∧ θ_run (Cert.AdDownRefIdeal.defs (F := Ideal)) (onTc (τ := Cert.AdDownRefIdeal.τ) (Cert.AdDownRefIdeal.main (F := Ideal))) ⟨m', fun _ => 0, g'⟩ (fun r => ∀ c : Dev Cert.AdDownRefIdeal.nD,
          r.2.mem ((c.tc : Thread Cert.AdDownRefIdeal.nD Cert.AdDownRefIdeal.τ).loc Cert.AdDownRefIdeal.main_v23) = v0 c
          ∧ r.2.mem ((c.tc : Thread Cert.AdDownRefIdeal.nD Cert.AdDownRefIdeal.τ).loc Cert.AdDownRefIdeal.main_v4) = v1 c
          ∧ r.2.mem ((c.tc : Thread Cert.AdDownRefIdeal.nD Cert.AdDownRefIdeal.τ).loc Cert.AdDownRefIdeal.main_v10) = v2 c
          ∧ r.2.mem ((c.tc : Thread Cert.AdDownRefIdeal.nD Cert.AdDownRefIdeal.τ).loc Cert.AdDownRefIdeal.main_arg0) = m' ((c.tc : Thread Cert.AdDownRefIdeal.nD Cert.AdDownRefIdeal.τ).loc Cert.AdDownRefIdeal.main_arg0)
          ∧ r.2.mem ((c.tc : Thread Cert.AdDownRefIdeal.nD Cert.AdDownRefIdeal.τ).loc Cert.AdDownRefIdeal.main_arg1) = m' ((c.tc : Thread Cert.AdDownRefIdeal.nD Cert.AdDownRefIdeal.τ).loc Cert.AdDownRefIdeal.main_arg1)
          ∧ r.2.mem ((c.tc : Thread Cert.AdDownRefIdeal.nD Cert.AdDownRefIdeal.τ).loc Cert.AdDownRefIdeal.main_arg2) = m' ((c.tc : Thread Cert.AdDownRefIdeal.nD Cert.AdDownRefIdeal.τ).loc Cert.AdDownRefIdeal.main_arg2)
          ∧ r.2.mem ((c.tc : Thread Cert.AdDownRefIdeal.nD Cert.AdDownRefIdeal.τ).loc Cert.AdDownRefIdeal.main_arg3) = m' ((c.tc : Thread Cert.AdDownRefIdeal.nD Cert.AdDownRefIdeal.τ).loc Cert.AdDownRefIdeal.main_arg3))

def preserves_AdFinal_AdFinalIdeal : Prop :=
  True

def algebraic_AdFinalIdeal_AdFinalRefIdeal [hAdFinalIdeal : Cert.AdFinalIdeal.Facts] [hAdFinalRefIdeal : Cert.AdFinalRefIdeal.Facts] : Prop :=
  ∀ (m : (ℓ : Loc Cert.AdFinalIdeal.nD Cert.AdFinalIdeal.τ Cert.AdFinalIdeal.sig) → Buf (Elt Ideal) ℓ) (g : Dev Cert.AdFinalIdeal.nD → PrngReg)
    (m' : (ℓ : Loc Cert.AdFinalRefIdeal.nD Cert.AdFinalRefIdeal.τ Cert.AdFinalRefIdeal.sig) → Buf (Elt Ideal) ℓ) (g' : Dev Cert.AdFinalRefIdeal.nD → PrngReg), Pre_AdFinalIdeal m →
    (∀ c : Dev Cert.AdFinalIdeal.nD,
      m' ((c.tc : Thread Cert.AdFinalRefIdeal.nD Cert.AdFinalRefIdeal.τ).loc Cert.AdFinalRefIdeal.main_arg0) = m ((c.tc : Thread Cert.AdFinalIdeal.nD Cert.AdFinalIdeal.τ).loc Cert.AdFinalIdeal.main_arg0)
      ∧ m' ((c.tc : Thread Cert.AdFinalRefIdeal.nD Cert.AdFinalRefIdeal.τ).loc Cert.AdFinalRefIdeal.main_arg1) = m ((c.tc : Thread Cert.AdFinalIdeal.nD Cert.AdFinalIdeal.τ).loc Cert.AdFinalIdeal.main_arg1)
      ∧ m' ((c.tc : Thread Cert.AdFinalRefIdeal.nD Cert.AdFinalRefIdeal.τ).loc Cert.AdFinalRefIdeal.main_arg2) = m ((c.tc : Thread Cert.AdFinalIdeal.nD Cert.AdFinalIdeal.τ).loc Cert.AdFinalIdeal.main_arg2)
      ∧ m' ((c.tc : Thread Cert.AdFinalRefIdeal.nD Cert.AdFinalRefIdeal.τ).loc Cert.AdFinalRefIdeal.main_arg3) = m ((c.tc : Thread Cert.AdFinalIdeal.nD Cert.AdFinalIdeal.τ).loc Cert.AdFinalIdeal.main_arg3)) →
    ∃ (v0 : (c : Dev Cert.AdFinalIdeal.nD) → Buf (Elt Ideal) ((c.tc : Thread Cert.AdFinalIdeal.nD Cert.AdFinalIdeal.τ).loc Cert.AdFinalIdeal.main_v0_0)) (v1 : (c : Dev Cert.AdFinalIdeal.nD) → Buf (Elt Ideal) ((c.tc : Thread Cert.AdFinalIdeal.nD Cert.AdFinalIdeal.τ).loc Cert.AdFinalIdeal.main_v0_1)) (v2 : (c : Dev Cert.AdFinalIdeal.nD) → Buf (Elt Ideal) ((c.tc : Thread Cert.AdFinalIdeal.nD Cert.AdFinalIdeal.τ).loc Cert.AdFinalIdeal.main_v0_2)),
      θ_run (Cert.AdFinalIdeal.defs (F := Ideal)) (onTc (τ := Cert.AdFinalIdeal.τ) (Cert.AdFinalIdeal.main (F := Ideal))) ⟨m, fun _ => 0, g⟩ (fun r => ∀ c : Dev Cert.AdFinalIdeal.nD,
          r.2.mem ((c.tc : Thread Cert.AdFinalIdeal.nD Cert.AdFinalIdeal.τ).loc Cert.AdFinalIdeal.main_v0_0) = v0 c
          ∧ r.2.mem ((c.tc : Thread Cert.AdFinalIdeal.nD Cert.AdFinalIdeal.τ).loc Cert.AdFinalIdeal.main_v0_1) = v1 c
          ∧ r.2.mem ((c.tc : Thread Cert.AdFinalIdeal.nD Cert.AdFinalIdeal.τ).loc Cert.AdFinalIdeal.main_v0_2) = v2 c
          ∧ r.2.mem ((c.tc : Thread Cert.AdFinalIdeal.nD Cert.AdFinalIdeal.τ).loc Cert.AdFinalIdeal.main_arg0) = m ((c.tc : Thread Cert.AdFinalIdeal.nD Cert.AdFinalIdeal.τ).loc Cert.AdFinalIdeal.main_arg0)
          ∧ r.2.mem ((c.tc : Thread Cert.AdFinalIdeal.nD Cert.AdFinalIdeal.τ).loc Cert.AdFinalIdeal.main_arg1) = m ((c.tc : Thread Cert.AdFinalIdeal.nD Cert.AdFinalIdeal.τ).loc Cert.AdFinalIdeal.main_arg1)
          ∧ r.2.mem ((c.tc : Thread Cert.AdFinalIdeal.nD Cert.AdFinalIdeal.τ).loc Cert.AdFinalIdeal.main_arg2) = m ((c.tc : Thread Cert.AdFinalIdeal.nD Cert.AdFinalIdeal.τ).loc Cert.AdFinalIdeal.main_arg2)
          ∧ r.2.mem ((c.tc : Thread Cert.AdFinalIdeal.nD Cert.AdFinalIdeal.τ).loc Cert.AdFinalIdeal.main_arg3) = m ((c.tc : Thread Cert.AdFinalIdeal.nD Cert.AdFinalIdeal.τ).loc Cert.AdFinalIdeal.main_arg3))
      ∧ θ_run (Cert.AdFinalRefIdeal.defs (F := Ideal)) (onTc (τ := Cert.AdFinalRefIdeal.τ) (Cert.AdFinalRefIdeal.main (F := Ideal))) ⟨m', fun _ => 0, g'⟩ (fun r => ∀ c : Dev Cert.AdFinalRefIdeal.nD,
          r.2.mem ((c.tc : Thread Cert.AdFinalRefIdeal.nD Cert.AdFinalRefIdeal.τ).loc Cert.AdFinalRefIdeal.main_v23) = v0 c
          ∧ r.2.mem ((c.tc : Thread Cert.AdFinalRefIdeal.nD Cert.AdFinalRefIdeal.τ).loc Cert.AdFinalRefIdeal.main_v4) = v1 c
          ∧ r.2.mem ((c.tc : Thread Cert.AdFinalRefIdeal.nD Cert.AdFinalRefIdeal.τ).loc Cert.AdFinalRefIdeal.main_v10) = v2 c
          ∧ r.2.mem ((c.tc : Thread Cert.AdFinalRefIdeal.nD Cert.AdFinalRefIdeal.τ).loc Cert.AdFinalRefIdeal.main_arg0) = m' ((c.tc : Thread Cert.AdFinalRefIdeal.nD Cert.AdFinalRefIdeal.τ).loc Cert.AdFinalRefIdeal.main_arg0)
          ∧ r.2.mem ((c.tc : Thread Cert.AdFinalRefIdeal.nD Cert.AdFinalRefIdeal.τ).loc Cert.AdFinalRefIdeal.main_arg1) = m' ((c.tc : Thread Cert.AdFinalRefIdeal.nD Cert.AdFinalRefIdeal.τ).loc Cert.AdFinalRefIdeal.main_arg1)
          ∧ r.2.mem ((c.tc : Thread Cert.AdFinalRefIdeal.nD Cert.AdFinalRefIdeal.τ).loc Cert.AdFinalRefIdeal.main_arg2) = m' ((c.tc : Thread Cert.AdFinalRefIdeal.nD Cert.AdFinalRefIdeal.τ).loc Cert.AdFinalRefIdeal.main_arg2)
          ∧ r.2.mem ((c.tc : Thread Cert.AdFinalRefIdeal.nD Cert.AdFinalRefIdeal.τ).loc Cert.AdFinalRefIdeal.main_arg3) = m' ((c.tc : Thread Cert.AdFinalRefIdeal.nD Cert.AdFinalRefIdeal.τ).loc Cert.AdFinalRefIdeal.main_arg3))

def preserves_SumBig_SumBigIdeal : Prop :=
  True

def algebraic_SumBigIdeal_SumBigRefIdeal [hSumBigIdeal : Cert.SumBigIdeal.Facts] [hSumBigRefIdeal : Cert.SumBigRefIdeal.Facts] : Prop :=
  ∀ (m : (ℓ : Loc Cert.SumBigIdeal.nD Cert.SumBigIdeal.τ Cert.SumBigIdeal.sig) → Buf (Elt Ideal) ℓ) (g : Dev Cert.SumBigIdeal.nD → PrngReg)
    (m' : (ℓ : Loc Cert.SumBigRefIdeal.nD Cert.SumBigRefIdeal.τ Cert.SumBigRefIdeal.sig) → Buf (Elt Ideal) ℓ) (g' : Dev Cert.SumBigRefIdeal.nD → PrngReg), Pre_SumBigIdeal m →
    (∀ c : Dev Cert.SumBigIdeal.nD,
      m' ((c.tc : Thread Cert.SumBigRefIdeal.nD Cert.SumBigRefIdeal.τ).loc Cert.SumBigRefIdeal.main_arg0) = m ((c.tc : Thread Cert.SumBigIdeal.nD Cert.SumBigIdeal.τ).loc Cert.SumBigIdeal.main_arg0)) →
    ∃ (v0 : (c : Dev Cert.SumBigIdeal.nD) → Buf (Elt Ideal) ((c.tc : Thread Cert.SumBigIdeal.nD Cert.SumBigIdeal.τ).loc Cert.SumBigIdeal.main_v0)),
      θ_run (Cert.SumBigIdeal.defs (F := Ideal)) (onTc (τ := Cert.SumBigIdeal.τ) (Cert.SumBigIdeal.main (F := Ideal))) ⟨m, fun _ => 0, g⟩ (fun r => ∀ c : Dev Cert.SumBigIdeal.nD,
          r.2.mem ((c.tc : Thread Cert.SumBigIdeal.nD Cert.SumBigIdeal.τ).loc Cert.SumBigIdeal.main_v0) = v0 c
          ∧ r.2.mem ((c.tc : Thread Cert.SumBigIdeal.nD Cert.SumBigIdeal.τ).loc Cert.SumBigIdeal.main_arg0) = m ((c.tc : Thread Cert.SumBigIdeal.nD Cert.SumBigIdeal.τ).loc Cert.SumBigIdeal.main_arg0))
      ∧ θ_run (Cert.SumBigRefIdeal.defs (F := Ideal)) (onTc (τ := Cert.SumBigRefIdeal.τ) (Cert.SumBigRefIdeal.main (F := Ideal))) ⟨m', fun _ => 0, g'⟩ (fun r => ∀ c : Dev Cert.SumBigRefIdeal.nD,
          r.2.mem ((c.tc : Thread Cert.SumBigRefIdeal.nD Cert.SumBigRefIdeal.τ).loc Cert.SumBigRefIdeal.main_v1) = v0 c
          ∧ r.2.mem ((c.tc : Thread Cert.SumBigRefIdeal.nD Cert.SumBigRefIdeal.τ).loc Cert.SumBigRefIdeal.main_arg0) = m' ((c.tc : Thread Cert.SumBigRefIdeal.nD Cert.SumBigRefIdeal.τ).loc Cert.SumBigRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v1_0)) (v1 : (c : Dev Cert.RmsIdeal.nD) → Buf (Elt Ideal) ((c.tc : Thread Cert.RmsIdeal.nD Cert.RmsIdeal.τ).loc Cert.RmsIdeal.main_v1_1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1_0) = v0 c
          ∧ r.2.mem ((c.tc : Thread Cert.RmsIdeal.nD Cert.RmsIdeal.τ).loc Cert.RmsIdeal.main_v1_1) = v1 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v36) = v0 c
          ∧ r.2.mem ((c.tc : Thread Cert.RmsRefIdeal.nD Cert.RmsRefIdeal.τ).loc Cert.RmsRefIdeal.main_v37) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)
      ∧ m' ((c.tc : Thread Cert.GateFwdRefIdeal.nD Cert.GateFwdRefIdeal.τ).loc Cert.GateFwdRefIdeal.main_arg4) = m ((c.tc : Thread Cert.GateFwdIdeal.nD Cert.GateFwdIdeal.τ).loc Cert.GateFwdIdeal.main_arg4)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v22) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3)
          ∧ r.2.mem ((c.tc : Thread Cert.GateFwdRefIdeal.nD Cert.GateFwdRefIdeal.τ).loc Cert.GateFwdRefIdeal.main_arg4) = m' ((c.tc : Thread Cert.GateFwdRefIdeal.nD Cert.GateFwdRefIdeal.τ).loc Cert.GateFwdRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v40) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_ConvDx_ConvDxIdeal : Prop :=
  True

def algebraic_ConvDxIdeal_ConvDxRefIdeal [hConvDxIdeal : Cert.ConvDxIdeal.Facts] [hConvDxRefIdeal : Cert.ConvDxRefIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg)
    (m' : (ℓ : Loc Cert.ConvDxRefIdeal.nD Cert.ConvDxRefIdeal.τ Cert.ConvDxRefIdeal.sig) → Buf (Elt Ideal) ℓ) (g' : Dev Cert.ConvDxRefIdeal.nD → PrngReg), Pre_ConvDxIdeal m →
    (∀ c : Dev Cert.ConvDxIdeal.nD,
      m' ((c.tc : Thread Cert.ConvDxRefIdeal.nD Cert.ConvDxRefIdeal.τ).loc Cert.ConvDxRefIdeal.main_arg0) = m ((c.tc : Thread Cert.ConvDxIdeal.nD Cert.ConvDxIdeal.τ).loc Cert.ConvDxIdeal.main_arg0)
      ∧ m' ((c.tc : Thread Cert.ConvDxRefIdeal.nD Cert.ConvDxRefIdeal.τ).loc Cert.ConvDxRefIdeal.main_arg1) = m ((c.tc : Thread Cert.ConvDxIdeal.nD Cert.ConvDxIdeal.τ).loc Cert.ConvDxIdeal.main_arg1)) →
    ∃ (v0 : (c : Dev Cert.ConvDxIdeal.nD) → Buf (Elt Ideal) ((c.tc : Thread Cert.ConvDxIdeal.nD Cert.ConvDxIdeal.τ).loc Cert.ConvDxIdeal.main_v0)),
      θ_run (Cert.ConvDxIdeal.defs (F := Ideal)) (onTc (τ := Cert.ConvDxIdeal.τ) (Cert.ConvDxIdeal.main (F := Ideal))) ⟨m, fun _ => 0, g⟩ (fun r => ∀ c : Dev Cert.ConvDxIdeal.nD,
          r.2.mem ((c.tc : Thread Cert.ConvDxIdeal.nD Cert.ConvDxIdeal.τ).loc Cert.ConvDxIdeal.main_v0) = v0 c
          ∧ r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
          ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1))
      ∧ θ_run (Cert.ConvDxRefIdeal.defs (F := Ideal)) (onTc (τ := Cert.ConvDxRefIdeal.τ) (Cert.ConvDxRefIdeal.main (F := Ideal))) ⟨m', fun _ => 0, g'⟩ (fun r => ∀ c : Dev Cert.ConvDxRefIdeal.nD,
          r.2.mem ((c.tc : Thread Cert.ConvDxRefIdeal.nD Cert.ConvDxRefIdeal.τ).loc Cert.ConvDxRefIdeal.main_v42) = v0 c
          ∧ r.2.mem ((c.tc : Thread Cert.ConvDxRefIdeal.nD Cert.ConvDxRefIdeal.τ).loc Cert.ConvDxRefIdeal.main_arg0) = m' ((c.tc : Thread Cert.ConvDxRefIdeal.nD Cert.ConvDxRefIdeal.τ).loc Cert.ConvDxRefIdeal.main_arg0)
          ∧ r.2.mem ((c.tc : Thread Cert.ConvDxRefIdeal.nD Cert.ConvDxRefIdeal.τ).loc Cert.ConvDxRefIdeal.main_arg1) = m' ((c.tc : Thread Cert.ConvDxRefIdeal.nD Cert.ConvDxRefIdeal.τ).loc Cert.ConvDxRefIdeal.main_arg1))

def preserves_FfnBack_FfnBackIdeal : Prop :=
  True

def algebraic_FfnBackIdeal_FfnBackRefIdeal [hFfnBackIdeal : Cert.FfnBackIdeal.Facts] [hFfnBackRefIdeal : Cert.FfnBackRefIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg)
    (m' : (ℓ : Loc Cert.FfnBackRefIdeal.nD Cert.FfnBackRefIdeal.τ Cert.FfnBackRefIdeal.sig) → Buf (Elt Ideal) ℓ) (g' : Dev Cert.FfnBackRefIdeal.nD → PrngReg), Pre_FfnBackIdeal m →
    (∀ c : Dev Cert.FfnBackIdeal.nD,
      m' ((c.tc : Thread Cert.FfnBackRefIdeal.nD Cert.FfnBackRefIdeal.τ).loc Cert.FfnBackRefIdeal.main_arg0) = m ((c.tc : Thread Cert.FfnBackIdeal.nD Cert.FfnBackIdeal.τ).loc Cert.FfnBackIdeal.main_arg0)
      ∧ m' ((c.tc : Thread Cert.FfnBackRefIdeal.nD Cert.FfnBackRefIdeal.τ).loc Cert.FfnBackRefIdeal.main_arg1) = m ((c.tc : Thread Cert.FfnBackIdeal.nD Cert.FfnBackIdeal.τ).loc Cert.FfnBackIdeal.main_arg1)
      ∧ m' ((c.tc : Thread Cert.FfnBackRefIdeal.nD Cert.FfnBackRefIdeal.τ).loc Cert.FfnBackRefIdeal.main_arg2) = m ((c.tc : Thread Cert.FfnBackIdeal.nD Cert.FfnBackIdeal.τ).loc Cert.FfnBackIdeal.main_arg2)
      ∧ m' ((c.tc : Thread Cert.FfnBackRefIdeal.nD Cert.FfnBackRefIdeal.τ).loc Cert.FfnBackRefIdeal.main_arg3) = m ((c.tc : Thread Cert.FfnBackIdeal.nD Cert.FfnBackIdeal.τ).loc Cert.FfnBackIdeal.main_arg3)
      ∧ m' ((c.tc : Thread Cert.FfnBackRefIdeal.nD Cert.FfnBackRefIdeal.τ).loc Cert.FfnBackRefIdeal.main_arg4) = m ((c.tc : Thread Cert.FfnBackIdeal.nD Cert.FfnBackIdeal.τ).loc Cert.FfnBackIdeal.main_arg4)) →
    ∃ (v0 : (c : Dev Cert.FfnBackIdeal.nD) → Buf (Elt Ideal) ((c.tc : Thread Cert.FfnBackIdeal.nD Cert.FfnBackIdeal.τ).loc Cert.FfnBackIdeal.main_v1_0)) (v1 : (c : Dev Cert.FfnBackIdeal.nD) → Buf (Elt Ideal) ((c.tc : Thread Cert.FfnBackIdeal.nD Cert.FfnBackIdeal.τ).loc Cert.FfnBackIdeal.main_v1_1)) (v2 : (c : Dev Cert.FfnBackIdeal.nD) → Buf (Elt Ideal) ((c.tc : Thread Cert.FfnBackIdeal.nD Cert.FfnBackIdeal.τ).loc Cert.FfnBackIdeal.main_v1_2)) (v3 : (c : Dev Cert.FfnBackIdeal.nD) → Buf (Elt Ideal) ((c.tc : Thread Cert.FfnBackIdeal.nD Cert.FfnBackIdeal.τ).loc Cert.FfnBackIdeal.main_v1_3)),
      θ_run (Cert.FfnBackIdeal.defs (F := Ideal)) (onTc (τ := Cert.FfnBackIdeal.τ) (Cert.FfnBackIdeal.main (F := Ideal))) ⟨m, fun _ => 0, g⟩ (fun r => ∀ c : Dev Cert.FfnBackIdeal.nD,
          r.2.mem ((c.tc : Thread Cert.FfnBackIdeal.nD Cert.FfnBackIdeal.τ).loc Cert.FfnBackIdeal.main_v1_0) = v0 c
          ∧ r.2.mem ((c.tc : Thread Cert.FfnBackIdeal.nD Cert.FfnBackIdeal.τ).loc Cert.FfnBackIdeal.main_v1_1) = v1 c
          ∧ r.2.mem ((c.tc : Thread Cert.FfnBackIdeal.nD Cert.FfnBackIdeal.τ).loc Cert.FfnBackIdeal.main_v1_2) = v2 c
          ∧ r.2.mem ((c.tc : Thread Cert.FfnBackIdeal.nD Cert.FfnBackIdeal.τ).loc Cert.FfnBackIdeal.main_v1_3) = v3 c
          ∧ r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
          ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
          ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
          ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
          ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4))
      ∧ θ_run (Cert.FfnBackRefIdeal.defs (F := Ideal)) (onTc (τ := Cert.FfnBackRefIdeal.τ) (Cert.FfnBackRefIdeal.main (F := Ideal))) ⟨m', fun _ => 0, g'⟩ (fun r => ∀ c : Dev Cert.FfnBackRefIdeal.nD,
          r.2.mem ((c.tc : Thread Cert.FfnBackRefIdeal.nD Cert.FfnBackRefIdeal.τ).loc Cert.FfnBackRefIdeal.main_v61) = v0 c
          ∧ r.2.mem ((c.tc : Thread Cert.FfnBackRefIdeal.nD Cert.FfnBackRefIdeal.τ).loc Cert.FfnBackRefIdeal.main_v85) = v1 c
          ∧ r.2.mem ((c.tc : Thread Cert.FfnBackRefIdeal.nD Cert.FfnBackRefIdeal.τ).loc Cert.FfnBackRefIdeal.main_v84) = v2 c
          ∧ r.2.mem ((c.tc : Thread Cert.FfnBackRefIdeal.nD Cert.FfnBackRefIdeal.τ).loc Cert.FfnBackRefIdeal.main_v86) = v3 c
          ∧ r.2.mem ((c.tc : Thread Cert.FfnBackRefIdeal.nD Cert.FfnBackRefIdeal.τ).loc Cert.FfnBackRefIdeal.main_arg0) = m' ((c.tc : Thread Cert.FfnBackRefIdeal.nD Cert.FfnBackRefIdeal.τ).loc Cert.FfnBackRefIdeal.main_arg0)
          ∧ r.2.mem ((c.tc : Thread Cert.FfnBackRefIdeal.nD Cert.FfnBackRefIdeal.τ).loc Cert.FfnBackRefIdeal.main_arg1) = m' ((c.tc : Thread Cert.FfnBackRefIdeal.nD Cert.FfnBackRefIdeal.τ).loc Cert.FfnBackRefIdeal.main_arg1)
          ∧ r.2.mem ((c.tc : Thread Cert.FfnBackRefIdeal.nD Cert.FfnBackRefIdeal.τ).loc Cert.FfnBackRefIdeal.main_arg2) = m' ((c.tc : Thread Cert.FfnBackRefIdeal.nD Cert.FfnBackRefIdeal.τ).loc Cert.FfnBackRefIdeal.main_arg2)
          ∧ r.2.mem ((c.tc : Thread Cert.FfnBackRefIdeal.nD Cert.FfnBackRefIdeal.τ).loc Cert.FfnBackRefIdeal.main_arg3) = m' ((c.tc : Thread Cert.FfnBackRefIdeal.nD Cert.FfnBackRefIdeal.τ).loc Cert.FfnBackRefIdeal.main_arg3)
          ∧ r.2.mem ((c.tc : Thread Cert.FfnBackRefIdeal.nD Cert.FfnBackRefIdeal.τ).loc Cert.FfnBackRefIdeal.main_arg4) = m' ((c.tc : Thread Cert.FfnBackRefIdeal.nD Cert.FfnBackRefIdeal.τ).loc Cert.FfnBackRefIdeal.main_arg4))

def Claim : Prop :=
  ∃ (hGate : Cert.Gate.Facts) (hGateIdeal : Cert.GateIdeal.Facts) (hGateRefIdeal : Cert.GateRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hGateDx : Cert.GateDx.Facts) (hGateDxIdeal : Cert.GateDxIdeal.Facts) (hGateDxRefIdeal : Cert.GateDxRefIdeal.Facts) (hUpDw : Cert.UpDw.Facts) (hUpDwIdeal : Cert.UpDwIdeal.Facts) (hUpDwRefIdeal : Cert.UpDwRefIdeal.Facts) (hLoDx : Cert.LoDx.Facts) (hLoDxIdeal : Cert.LoDxIdeal.Facts) (hLoDxRefIdeal : Cert.LoDxRefIdeal.Facts) (hHiDx : Cert.HiDx.Facts) (hHiDxIdeal : Cert.HiDxIdeal.Facts) (hHiDxRefIdeal : Cert.HiDxRefIdeal.Facts) (hLoDw : Cert.LoDw.Facts) (hLoDwIdeal : Cert.LoDwIdeal.Facts) (hLoDwRefIdeal : Cert.LoDwRefIdeal.Facts) (hHiDw : Cert.HiDw.Facts) (hHiDwIdeal : Cert.HiDwIdeal.Facts) (hHiDwRefIdeal : Cert.HiDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hDilDx : Cert.DilDx.Facts) (hDilDxIdeal : Cert.DilDxIdeal.Facts) (hDilDxRefIdeal : Cert.DilDxRefIdeal.Facts) (hDilDw : Cert.DilDw.Facts) (hDilDwIdeal : Cert.DilDwIdeal.Facts) (hDilDwRefIdeal : Cert.DilDwRefIdeal.Facts) (hMixDx : Cert.MixDx.Facts) (hMixDxIdeal : Cert.MixDxIdeal.Facts) (hMixDxRefIdeal : Cert.MixDxRefIdeal.Facts) (hStickDw : Cert.StickDw.Facts) (hStickDwIdeal : Cert.StickDwIdeal.Facts) (hStickDwRefIdeal : Cert.StickDwRefIdeal.Facts) (hRetDw : Cert.RetDw.Facts) (hRetDwIdeal : Cert.RetDwIdeal.Facts) (hRetDwRefIdeal : Cert.RetDwRefIdeal.Facts) (hLo : Cert.Lo.Facts) (hLoIdeal : Cert.LoIdeal.Facts) (hLoRefIdeal : Cert.LoRefIdeal.Facts) (hHi : Cert.Hi.Facts) (hHiIdeal : Cert.HiIdeal.Facts) (hHiRefIdeal : Cert.HiRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hDil : Cert.Dil.Facts) (hDilIdeal : Cert.DilIdeal.Facts) (hDilRefIdeal : Cert.DilRefIdeal.Facts) (hStick : Cert.Stick.Facts) (hStickIdeal : Cert.StickIdeal.Facts) (hStickRefIdeal : Cert.StickRefIdeal.Facts) (hRet : Cert.Ret.Facts) (hRetIdeal : Cert.RetIdeal.Facts) (hRetRefIdeal : Cert.RetRefIdeal.Facts) (hSbf : Cert.Sbf.Facts) (hSbfIdeal : Cert.SbfIdeal.Facts) (hSbfRefIdeal : Cert.SbfRefIdeal.Facts) (hAdRel : Cert.AdRel.Facts) (hAdRelIdeal : Cert.AdRelIdeal.Facts) (hAdRelRefIdeal : Cert.AdRelRefIdeal.Facts) (hAdNorm : Cert.AdNorm.Facts) (hAdNormIdeal : Cert.AdNormIdeal.Facts) (hAdNormRefIdeal : Cert.AdNormRefIdeal.Facts) (hAdIn : Cert.AdIn.Facts) (hAdInIdeal : Cert.AdInIdeal.Facts) (hAdInRefIdeal : Cert.AdInRefIdeal.Facts) (hAdGate : Cert.AdGate.Facts) (hAdGateIdeal : Cert.AdGateIdeal.Facts) (hAdGateRefIdeal : Cert.AdGateRefIdeal.Facts) (hAdRet : Cert.AdRet.Facts) (hAdRetIdeal : Cert.AdRetIdeal.Facts) (hAdRetRefIdeal : Cert.AdRetRefIdeal.Facts) (hAdDil : Cert.AdDil.Facts) (hAdDilIdeal : Cert.AdDilIdeal.Facts) (hAdDilRefIdeal : Cert.AdDilRefIdeal.Facts) (hAdMix : Cert.AdMix.Facts) (hAdMixIdeal : Cert.AdMixIdeal.Facts) (hAdMixRefIdeal : Cert.AdMixRefIdeal.Facts) (hAdOut : Cert.AdOut.Facts) (hAdOutIdeal : Cert.AdOutIdeal.Facts) (hAdOutRefIdeal : Cert.AdOutRefIdeal.Facts) (hAdUp : Cert.AdUp.Facts) (hAdUpIdeal : Cert.AdUpIdeal.Facts) (hAdUpRefIdeal : Cert.AdUpRefIdeal.Facts) (hAdTaps : Cert.AdTaps.Facts) (hAdTapsIdeal : Cert.AdTapsIdeal.Facts) (hAdTapsRefIdeal : Cert.AdTapsRefIdeal.Facts) (hAdConv : Cert.AdConv.Facts) (hAdConvIdeal : Cert.AdConvIdeal.Facts) (hAdConvRefIdeal : Cert.AdConvRefIdeal.Facts) (hAdDown : Cert.AdDown.Facts) (hAdDownIdeal : Cert.AdDownIdeal.Facts) (hAdDownRefIdeal : Cert.AdDownRefIdeal.Facts) (hAdFinal : Cert.AdFinal.Facts) (hAdFinalIdeal : Cert.AdFinalIdeal.Facts) (hAdFinalRefIdeal : Cert.AdFinalRefIdeal.Facts) (hSumBig : Cert.SumBig.Facts) (hSumBigIdeal : Cert.SumBigIdeal.Facts) (hSumBigRefIdeal : Cert.SumBigRefIdeal.Facts) (hSumSmall : Cert.SumSmall.Facts) (hSumSmallIdeal : Cert.SumSmallIdeal.Facts) (hSumSmallRefIdeal : Cert.SumSmallRefIdeal.Facts) (hRms : Cert.Rms.Facts) (hRmsIdeal : Cert.RmsIdeal.Facts) (hRmsRefIdeal : Cert.RmsRefIdeal.Facts) (hLoss : Cert.Loss.Facts) (hLossIdeal : Cert.LossIdeal.Facts) (hLossRefIdeal : Cert.LossRefIdeal.Facts) (hRmsFwd : Cert.RmsFwd.Facts) (hRmsFwdIdeal : Cert.RmsFwdIdeal.Facts) (hRmsFwdRefIdeal : Cert.RmsFwdRefIdeal.Facts) (hGateFwd : Cert.GateFwd.Facts) (hGateFwdIdeal : Cert.GateFwdIdeal.Facts) (hGateFwdRefIdeal : Cert.GateFwdRefIdeal.Facts) (hFfn : Cert.Ffn.Facts) (hFfnIdeal : Cert.FfnIdeal.Facts) (hFfnRefIdeal : Cert.FfnRefIdeal.Facts) (hConvDx : Cert.ConvDx.Facts) (hConvDxIdeal : Cert.ConvDxIdeal.Facts) (hConvDxRefIdeal : Cert.ConvDxRefIdeal.Facts) (hFfnBack : Cert.FfnBack.Facts) (hFfnBackIdeal : Cert.FfnBackIdeal.Facts) (hFfnBackRefIdeal : Cert.FfnBackRefIdeal.Facts),
    quiescent_Gate (hGate := hGate)
    ∧ quiescent_GateIdeal (hGateIdeal := hGateIdeal)
    ∧ quiescent_GateRefIdeal (hGateRefIdeal := hGateRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_LoDx (hLoDx := hLoDx)
    ∧ quiescent_LoDxIdeal (hLoDxIdeal := hLoDxIdeal)
    ∧ quiescent_LoDxRefIdeal (hLoDxRefIdeal := hLoDxRefIdeal)
    ∧ quiescent_HiDx (hHiDx := hHiDx)
    ∧ quiescent_HiDxIdeal (hHiDxIdeal := hHiDxIdeal)
    ∧ quiescent_HiDxRefIdeal (hHiDxRefIdeal := hHiDxRefIdeal)
    ∧ quiescent_LoDw (hLoDw := hLoDw)
    ∧ quiescent_LoDwIdeal (hLoDwIdeal := hLoDwIdeal)
    ∧ quiescent_LoDwRefIdeal (hLoDwRefIdeal := hLoDwRefIdeal)
    ∧ quiescent_HiDw (hHiDw := hHiDw)
    ∧ quiescent_HiDwIdeal (hHiDwIdeal := hHiDwIdeal)
    ∧ quiescent_HiDwRefIdeal (hHiDwRefIdeal := hHiDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_DilDx (hDilDx := hDilDx)
    ∧ quiescent_DilDxIdeal (hDilDxIdeal := hDilDxIdeal)
    ∧ quiescent_DilDxRefIdeal (hDilDxRefIdeal := hDilDxRefIdeal)
    ∧ quiescent_DilDw (hDilDw := hDilDw)
    ∧ quiescent_DilDwIdeal (hDilDwIdeal := hDilDwIdeal)
    ∧ quiescent_DilDwRefIdeal (hDilDwRefIdeal := hDilDwRefIdeal)
    ∧ quiescent_MixDx (hMixDx := hMixDx)
    ∧ quiescent_MixDxIdeal (hMixDxIdeal := hMixDxIdeal)
    ∧ quiescent_MixDxRefIdeal (hMixDxRefIdeal := hMixDxRefIdeal)
    ∧ quiescent_StickDw (hStickDw := hStickDw)
    ∧ quiescent_StickDwIdeal (hStickDwIdeal := hStickDwIdeal)
    ∧ quiescent_StickDwRefIdeal (hStickDwRefIdeal := hStickDwRefIdeal)
    ∧ quiescent_RetDw (hRetDw := hRetDw)
    ∧ quiescent_RetDwIdeal (hRetDwIdeal := hRetDwIdeal)
    ∧ quiescent_RetDwRefIdeal (hRetDwRefIdeal := hRetDwRefIdeal)
    ∧ quiescent_Lo (hLo := hLo)
    ∧ quiescent_LoIdeal (hLoIdeal := hLoIdeal)
    ∧ quiescent_LoRefIdeal (hLoRefIdeal := hLoRefIdeal)
    ∧ quiescent_Hi (hHi := hHi)
    ∧ quiescent_HiIdeal (hHiIdeal := hHiIdeal)
    ∧ quiescent_HiRefIdeal (hHiRefIdeal := hHiRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Dil (hDil := hDil)
    ∧ quiescent_DilIdeal (hDilIdeal := hDilIdeal)
    ∧ quiescent_DilRefIdeal (hDilRefIdeal := hDilRefIdeal)
    ∧ quiescent_Stick (hStick := hStick)
    ∧ quiescent_StickIdeal (hStickIdeal := hStickIdeal)
    ∧ quiescent_StickRefIdeal (hStickRefIdeal := hStickRefIdeal)
    ∧ quiescent_Ret (hRet := hRet)
    ∧ quiescent_RetIdeal (hRetIdeal := hRetIdeal)
    ∧ quiescent_RetRefIdeal (hRetRefIdeal := hRetRefIdeal)
    ∧ quiescent_Sbf (hSbf := hSbf)
    ∧ quiescent_SbfIdeal (hSbfIdeal := hSbfIdeal)
    ∧ quiescent_SbfRefIdeal (hSbfRefIdeal := hSbfRefIdeal)
    ∧ quiescent_AdRel (hAdRel := hAdRel)
    ∧ quiescent_AdRelIdeal (hAdRelIdeal := hAdRelIdeal)
    ∧ quiescent_AdRelRefIdeal (hAdRelRefIdeal := hAdRelRefIdeal)
    ∧ quiescent_AdNorm (hAdNorm := hAdNorm)
    ∧ quiescent_AdNormIdeal (hAdNormIdeal := hAdNormIdeal)
    ∧ quiescent_AdNormRefIdeal (hAdNormRefIdeal := hAdNormRefIdeal)
    ∧ quiescent_AdIn (hAdIn := hAdIn)
    ∧ quiescent_AdInIdeal (hAdInIdeal := hAdInIdeal)
    ∧ quiescent_AdInRefIdeal (hAdInRefIdeal := hAdInRefIdeal)
    ∧ quiescent_AdGate (hAdGate := hAdGate)
    ∧ quiescent_AdGateIdeal (hAdGateIdeal := hAdGateIdeal)
    ∧ quiescent_AdGateRefIdeal (hAdGateRefIdeal := hAdGateRefIdeal)
    ∧ quiescent_AdRet (hAdRet := hAdRet)
    ∧ quiescent_AdRetIdeal (hAdRetIdeal := hAdRetIdeal)
    ∧ quiescent_AdRetRefIdeal (hAdRetRefIdeal := hAdRetRefIdeal)
    ∧ quiescent_AdDil (hAdDil := hAdDil)
    ∧ quiescent_AdDilIdeal (hAdDilIdeal := hAdDilIdeal)
    ∧ quiescent_AdDilRefIdeal (hAdDilRefIdeal := hAdDilRefIdeal)
    ∧ quiescent_AdMix (hAdMix := hAdMix)
    ∧ quiescent_AdMixIdeal (hAdMixIdeal := hAdMixIdeal)
    ∧ quiescent_AdMixRefIdeal (hAdMixRefIdeal := hAdMixRefIdeal)
    ∧ quiescent_AdOut (hAdOut := hAdOut)
    ∧ quiescent_AdOutIdeal (hAdOutIdeal := hAdOutIdeal)
    ∧ quiescent_AdOutRefIdeal (hAdOutRefIdeal := hAdOutRefIdeal)
    ∧ quiescent_AdUp (hAdUp := hAdUp)
    ∧ quiescent_AdUpIdeal (hAdUpIdeal := hAdUpIdeal)
    ∧ quiescent_AdUpRefIdeal (hAdUpRefIdeal := hAdUpRefIdeal)
    ∧ quiescent_AdTaps (hAdTaps := hAdTaps)
    ∧ quiescent_AdTapsIdeal (hAdTapsIdeal := hAdTapsIdeal)
    ∧ quiescent_AdTapsRefIdeal (hAdTapsRefIdeal := hAdTapsRefIdeal)
    ∧ quiescent_AdConv (hAdConv := hAdConv)
    ∧ quiescent_AdConvIdeal (hAdConvIdeal := hAdConvIdeal)
    ∧ quiescent_AdConvRefIdeal (hAdConvRefIdeal := hAdConvRefIdeal)
    ∧ quiescent_AdDown (hAdDown := hAdDown)
    ∧ quiescent_AdDownIdeal (hAdDownIdeal := hAdDownIdeal)
    ∧ quiescent_AdDownRefIdeal (hAdDownRefIdeal := hAdDownRefIdeal)
    ∧ quiescent_AdFinal (hAdFinal := hAdFinal)
    ∧ quiescent_AdFinalIdeal (hAdFinalIdeal := hAdFinalIdeal)
    ∧ quiescent_AdFinalRefIdeal (hAdFinalRefIdeal := hAdFinalRefIdeal)
    ∧ quiescent_SumBig (hSumBig := hSumBig)
    ∧ quiescent_SumBigIdeal (hSumBigIdeal := hSumBigIdeal)
    ∧ quiescent_SumBigRefIdeal (hSumBigRefIdeal := hSumBigRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_Rms (hRms := hRms)
    ∧ quiescent_RmsIdeal (hRmsIdeal := hRmsIdeal)
    ∧ quiescent_RmsRefIdeal (hRmsRefIdeal := hRmsRefIdeal)
    ∧ quiescent_Loss (hLoss := hLoss)
    ∧ quiescent_LossIdeal (hLossIdeal := hLossIdeal)
    ∧ quiescent_LossRefIdeal (hLossRefIdeal := hLossRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_Ffn (hFfn := hFfn)
    ∧ quiescent_FfnIdeal (hFfnIdeal := hFfnIdeal)
    ∧ quiescent_FfnRefIdeal (hFfnRefIdeal := hFfnRefIdeal)
    ∧ quiescent_ConvDx (hConvDx := hConvDx)
    ∧ quiescent_ConvDxIdeal (hConvDxIdeal := hConvDxIdeal)
    ∧ quiescent_ConvDxRefIdeal (hConvDxRefIdeal := hConvDxRefIdeal)
    ∧ quiescent_FfnBack (hFfnBack := hFfnBack)
    ∧ quiescent_FfnBackIdeal (hFfnBackIdeal := hFfnBackIdeal)
    ∧ quiescent_FfnBackRefIdeal (hFfnBackRefIdeal := hFfnBackRefIdeal)
    ∧ preserves_Gate_GateIdeal
    ∧ algebraic_GateIdeal_GateRefIdeal (hGateIdeal := hGateIdeal) (hGateRefIdeal := hGateRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_GateDx_GateDxIdeal
    ∧ algebraic_GateDxIdeal_GateDxRefIdeal (hGateDxIdeal := hGateDxIdeal) (hGateDxRefIdeal := hGateDxRefIdeal)
    ∧ preserves_UpDw_UpDwIdeal
    ∧ algebraic_UpDwIdeal_UpDwRefIdeal (hUpDwIdeal := hUpDwIdeal) (hUpDwRefIdeal := hUpDwRefIdeal)
    ∧ preserves_LoDx_LoDxIdeal
    ∧ algebraic_LoDxIdeal_LoDxRefIdeal (hLoDxIdeal := hLoDxIdeal) (hLoDxRefIdeal := hLoDxRefIdeal)
    ∧ preserves_HiDx_HiDxIdeal
    ∧ algebraic_HiDxIdeal_HiDxRefIdeal (hHiDxIdeal := hHiDxIdeal) (hHiDxRefIdeal := hHiDxRefIdeal)
    ∧ preserves_LoDw_LoDwIdeal
    ∧ algebraic_LoDwIdeal_LoDwRefIdeal (hLoDwIdeal := hLoDwIdeal) (hLoDwRefIdeal := hLoDwRefIdeal)
    ∧ preserves_HiDw_HiDwIdeal
    ∧ algebraic_HiDwIdeal_HiDwRefIdeal (hHiDwIdeal := hHiDwIdeal) (hHiDwRefIdeal := hHiDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_DilDx_DilDxIdeal
    ∧ algebraic_DilDxIdeal_DilDxRefIdeal (hDilDxIdeal := hDilDxIdeal) (hDilDxRefIdeal := hDilDxRefIdeal)
    ∧ preserves_DilDw_DilDwIdeal
    ∧ algebraic_DilDwIdeal_DilDwRefIdeal (hDilDwIdeal := hDilDwIdeal) (hDilDwRefIdeal := hDilDwRefIdeal)
    ∧ preserves_MixDx_MixDxIdeal
    ∧ algebraic_MixDxIdeal_MixDxRefIdeal (hMixDxIdeal := hMixDxIdeal) (hMixDxRefIdeal := hMixDxRefIdeal)
    ∧ preserves_StickDw_StickDwIdeal
    ∧ algebraic_StickDwIdeal_StickDwRefIdeal (hStickDwIdeal := hStickDwIdeal) (hStickDwRefIdeal := hStickDwRefIdeal)
    ∧ preserves_RetDw_RetDwIdeal
    ∧ algebraic_RetDwIdeal_RetDwRefIdeal (hRetDwIdeal := hRetDwIdeal) (hRetDwRefIdeal := hRetDwRefIdeal)
    ∧ preserves_Lo_LoIdeal
    ∧ algebraic_LoIdeal_LoRefIdeal (hLoIdeal := hLoIdeal) (hLoRefIdeal := hLoRefIdeal)
    ∧ preserves_Hi_HiIdeal
    ∧ algebraic_HiIdeal_HiRefIdeal (hHiIdeal := hHiIdeal) (hHiRefIdeal := hHiRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Dil_DilIdeal
    ∧ algebraic_DilIdeal_DilRefIdeal (hDilIdeal := hDilIdeal) (hDilRefIdeal := hDilRefIdeal)
    ∧ preserves_Stick_StickIdeal
    ∧ algebraic_StickIdeal_StickRefIdeal (hStickIdeal := hStickIdeal) (hStickRefIdeal := hStickRefIdeal)
    ∧ preserves_Ret_RetIdeal
    ∧ algebraic_RetIdeal_RetRefIdeal (hRetIdeal := hRetIdeal) (hRetRefIdeal := hRetRefIdeal)
    ∧ preserves_Sbf_SbfIdeal
    ∧ algebraic_SbfIdeal_SbfRefIdeal (hSbfIdeal := hSbfIdeal) (hSbfRefIdeal := hSbfRefIdeal)
    ∧ preserves_AdRel_AdRelIdeal
    ∧ algebraic_AdRelIdeal_AdRelRefIdeal (hAdRelIdeal := hAdRelIdeal) (hAdRelRefIdeal := hAdRelRefIdeal)
    ∧ preserves_AdNorm_AdNormIdeal
    ∧ algebraic_AdNormIdeal_AdNormRefIdeal (hAdNormIdeal := hAdNormIdeal) (hAdNormRefIdeal := hAdNormRefIdeal)
    ∧ preserves_AdIn_AdInIdeal
    ∧ algebraic_AdInIdeal_AdInRefIdeal (hAdInIdeal := hAdInIdeal) (hAdInRefIdeal := hAdInRefIdeal)
    ∧ preserves_AdGate_AdGateIdeal
    ∧ algebraic_AdGateIdeal_AdGateRefIdeal (hAdGateIdeal := hAdGateIdeal) (hAdGateRefIdeal := hAdGateRefIdeal)
    ∧ preserves_AdRet_AdRetIdeal
    ∧ algebraic_AdRetIdeal_AdRetRefIdeal (hAdRetIdeal := hAdRetIdeal) (hAdRetRefIdeal := hAdRetRefIdeal)
    ∧ preserves_AdDil_AdDilIdeal
    ∧ algebraic_AdDilIdeal_AdDilRefIdeal (hAdDilIdeal := hAdDilIdeal) (hAdDilRefIdeal := hAdDilRefIdeal)
    ∧ preserves_AdMix_AdMixIdeal
    ∧ algebraic_AdMixIdeal_AdMixRefIdeal (hAdMixIdeal := hAdMixIdeal) (hAdMixRefIdeal := hAdMixRefIdeal)
    ∧ preserves_AdOut_AdOutIdeal
    ∧ algebraic_AdOutIdeal_AdOutRefIdeal (hAdOutIdeal := hAdOutIdeal) (hAdOutRefIdeal := hAdOutRefIdeal)
    ∧ preserves_AdUp_AdUpIdeal
    ∧ algebraic_AdUpIdeal_AdUpRefIdeal (hAdUpIdeal := hAdUpIdeal) (hAdUpRefIdeal := hAdUpRefIdeal)
    ∧ preserves_AdTaps_AdTapsIdeal
    ∧ algebraic_AdTapsIdeal_AdTapsRefIdeal (hAdTapsIdeal := hAdTapsIdeal) (hAdTapsRefIdeal := hAdTapsRefIdeal)
    ∧ preserves_AdConv_AdConvIdeal
    ∧ algebraic_AdConvIdeal_AdConvRefIdeal (hAdConvIdeal := hAdConvIdeal) (hAdConvRefIdeal := hAdConvRefIdeal)
    ∧ preserves_AdDown_AdDownIdeal
    ∧ algebraic_AdDownIdeal_AdDownRefIdeal (hAdDownIdeal := hAdDownIdeal) (hAdDownRefIdeal := hAdDownRefIdeal)
    ∧ preserves_AdFinal_AdFinalIdeal
    ∧ algebraic_AdFinalIdeal_AdFinalRefIdeal (hAdFinalIdeal := hAdFinalIdeal) (hAdFinalRefIdeal := hAdFinalRefIdeal)
    ∧ preserves_SumBig_SumBigIdeal
    ∧ algebraic_SumBigIdeal_SumBigRefIdeal (hSumBigIdeal := hSumBigIdeal) (hSumBigRefIdeal := hSumBigRefIdeal)
    ∧ preserves_SumSmall_SumSmallIdeal
    ∧ algebraic_SumSmallIdeal_SumSmallRefIdeal (hSumSmallIdeal := hSumSmallIdeal) (hSumSmallRefIdeal := hSumSmallRefIdeal)
    ∧ preserves_Rms_RmsIdeal
    ∧ algebraic_RmsIdeal_RmsRefIdeal (hRmsIdeal := hRmsIdeal) (hRmsRefIdeal := hRmsRefIdeal)
    ∧ preserves_Loss_LossIdeal
    ∧ algebraic_LossIdeal_LossRefIdeal (hLossIdeal := hLossIdeal) (hLossRefIdeal := hLossRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_GateFwd_GateFwdIdeal
    ∧ algebraic_GateFwdIdeal_GateFwdRefIdeal (hGateFwdIdeal := hGateFwdIdeal) (hGateFwdRefIdeal := hGateFwdRefIdeal)
    ∧ preserves_Ffn_FfnIdeal
    ∧ algebraic_FfnIdeal_FfnRefIdeal (hFfnIdeal := hFfnIdeal) (hFfnRefIdeal := hFfnRefIdeal)
    ∧ preserves_ConvDx_ConvDxIdeal
    ∧ algebraic_ConvDxIdeal_ConvDxRefIdeal (hConvDxIdeal := hConvDxIdeal) (hConvDxRefIdeal := hConvDxRefIdeal)
    ∧ preserves_FfnBack_FfnBackIdeal
    ∧ algebraic_FfnBackIdeal_FfnBackRefIdeal (hFfnBackIdeal := hFfnBackIdeal) (hFfnBackRefIdeal := hFfnBackRefIdeal)
-- ==== Gate.lean ====
abbrev S16384x4608 : Shape := ⟨2, ![16384, 4608]⟩
abbrev S3x1024 : Shape := ⟨2, ![3, 1024]⟩
abbrev S16384x1024 : Shape := ⟨2, ![16384, 1024]⟩
abbrev S16384x3072 : Shape := ⟨2, ![16384, 3072]⟩
abbrev S256x512 : Shape := ⟨2, ![256, 512]⟩
abbrev S256x1024 : Shape := ⟨2, ![256, 1024]⟩
abbrev S256x3072 : Shape := ⟨2, ![256, 3072]⟩
abbrev S1x1024 : Shape := ⟨2, ![1, 1024]⟩
abbrev S1024 : Shape := ⟨1, ![1024]⟩

abbrev nBuf : Space → Nat
  | .hbm => 11
  | .vmem => 30
  | .smem => 0
  | _ => 0

abbrev bufTy : (tb : Table) → Fin (tcTables nBuf tb) → BufTy
  | .hbm, ⟨0, _⟩ => ⟨S16384x4608, .f32⟩
  | .hbm, ⟨1, _⟩ => ⟨S3x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x3072, .bf16⟩
  | .hbm, ⟨7, _⟩ => ⟨S3x1024, .f32⟩
  | .hbm, ⟨8, _⟩ => ⟨S16384x1024, .bf16⟩
  | .hbm, ⟨9, _⟩ => ⟨S16384x1024, .bf16⟩
  | .hbm, ⟨10, _⟩ => ⟨S16384x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S3x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x3072, .bf16⟩
  | .local _ .vmem, ⟨22, _⟩ => ⟨S256x3072, .bf16⟩
  | .local _ .vmem, ⟨23, _⟩ => ⟨S3x1024, .f32⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | _, _ => ⟨S16384x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== GateRefIdeal.lean ====
abbrev S16384x4608 : Shape := ⟨2, ![16384, 4608]⟩
abbrev S3x1024 : Shape := ⟨2, ![3, 1024]⟩
abbrev S16384x1024 : Shape := ⟨2, ![16384, 1024]⟩
abbrev S16384x3072 : Shape := ⟨2, ![16384, 3072]⟩
abbrev S16384x3x1024 : Shape := ⟨3, ![16384, 3, 1024]⟩
abbrev S1x3x1024 : Shape := ⟨3, ![1, 3, 1024]⟩
abbrev S_ : Shape := ⟨0, ![]⟩
abbrev S16384x1x1024 : Shape := ⟨3, ![16384, 1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S16384x4608, .f32⟩
  | .hbm, ⟨1, _⟩ => ⟨S3x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x3072, .f32⟩
  | .hbm, ⟨7, _⟩ => ⟨S16384x3x1024, .f32⟩
  | .hbm, ⟨8, _⟩ => ⟨S1x3x1024, .f32⟩
  | .hbm, ⟨9, _⟩ => ⟨S16384x3x1024, .f32⟩
  | .hbm, ⟨10, _⟩ => ⟨S16384x3x1024, .f32⟩
  | .hbm, ⟨11, _⟩ => ⟨S16384x3x1024, .f32⟩
  | .hbm, ⟨12, _⟩ => ⟨S16384x3x1024, .f32⟩
  | .hbm, ⟨13, _⟩ => ⟨S_, .f32⟩
  | .hbm, ⟨14, _⟩ => ⟨S16384x3x1024, .f32⟩
  | .hbm, ⟨15, _⟩ => ⟨S16384x3x1024, .f32⟩
  | .hbm, ⟨16, _⟩ => ⟨S_, .f32⟩
  | .hbm, ⟨17, _⟩ => ⟨S16384x3x1024, .f32⟩
  | .hbm, ⟨18, _⟩ => ⟨S16384x3x1024, .f32⟩
  | .hbm, ⟨19, _⟩ => ⟨S_, .f32⟩
  | .hbm, ⟨20, _⟩ => ⟨S16384x3x1024, .f32⟩
  | .hbm, ⟨21, _⟩ => ⟨S16384x3x1024, .f32⟩
  | .hbm, ⟨22, _⟩ => ⟨S16384x3x1024, .f32⟩
  | .hbm, ⟨23, _⟩ => ⟨S16384x1x1024, .f32⟩
  | .hbm, ⟨24, _⟩ => ⟨S16384x1024, .f32⟩
  | .hbm, ⟨25, _⟩ => ⟨S16384x1024, .f32⟩
  | .hbm, ⟨26, _⟩ => ⟨S16384x1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1x1024, .f32⟩
  | .hbm, ⟨39, _⟩ => ⟨S_, .f32⟩
  | .hbm, ⟨40, _⟩ => ⟨S16384x3x1024, .f32⟩
  | .hbm, ⟨41, _⟩ => ⟨S16384x1024, .f32⟩
  | .hbm, ⟨42, _⟩ => ⟨S16384x1024, .f32⟩
  | .hbm, ⟨43, _⟩ => ⟨S16384x1x1024, .f32⟩
  | .hbm, ⟨44, _⟩ => ⟨S_, .f32⟩
  | .hbm, ⟨45, _⟩ => ⟨S16384x3x1024, .f32⟩
  | .hbm, ⟨46, _⟩ => ⟨S16384x3x1024, .f32⟩
  | .hbm, ⟨47, _⟩ => ⟨S16384x1024, .f32⟩
  | .hbm, ⟨48, _⟩ => ⟨S16384x1024, .f32⟩
  | .hbm, ⟨49, _⟩ => ⟨S16384x1x1024, .f32⟩
  | .hbm, ⟨50, _⟩ => ⟨S_, .f32⟩
  | .hbm, ⟨51, _⟩ => ⟨S16384x3x1024, .f32⟩
  | .hbm, ⟨52, _⟩ => ⟨S16384x3x1024, .f32⟩
  | .hbm, ⟨53, _⟩ => ⟨S16384x3x1024, .f32⟩
  | .hbm, ⟨54, _⟩ => ⟨S_, .f32⟩
  | .hbm, ⟨55, _⟩ => ⟨S3x1024, .f32⟩
  | .hbm, ⟨56, _⟩ => ⟨S1x3x1024, .f32⟩
  | .hbm, ⟨57, _⟩ => ⟨S_, .f32⟩
  | .hbm, ⟨58, _⟩ => ⟨S3x1024, .f32⟩
  | .hbm, ⟨59, _⟩ => ⟨S16384x3072, .f32⟩
  | .hbm, ⟨60, _⟩ => ⟨S16384x3072, .bf16⟩
  | .hbm, ⟨61, _⟩ => ⟨S16384x1024, .bf16⟩
  | .hbm, ⟨62, _⟩ => ⟨S16384x1024, .bf16⟩
  | .hbm, ⟨63, _⟩ => ⟨S16384x1024, .bf16⟩
  | _, _ => ⟨S16384x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== DownDx.lean ====
abbrev S16384x1024 : Shape := ⟨2, ![16384, 1024]⟩
abbrev S2816x1024 : Shape := ⟨2, ![2816, 1024]⟩
abbrev S16384x2816 : Shape := ⟨2, ![16384, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S16384x2816, .f32⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxIdeal.lean ====
abbrev S16384x1024 : Shape := ⟨2, ![16384, 1024]⟩
abbrev S2816x1024 : Shape := ⟨2, ![2816, 1024]⟩
abbrev S16384x2816 : Shape := ⟨2, ![16384, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S16384x2816, .f32⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S16384x1024 : Shape := ⟨2, ![16384, 1024]⟩
abbrev S2816x1024 : Shape := ⟨2, ![2816, 1024]⟩
abbrev S_ : Shape := ⟨0, ![]⟩
abbrev S16384x2816 : Shape := ⟨2, ![16384, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S_, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDw.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDx.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxIdeal.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S16384x2816 : Shape := ⟨2, ![16384, 2816]⟩
abbrev S2816x1024 : Shape := ⟨2, ![2816, 1024]⟩
abbrev S1024x2816 : Shape := ⟨2, ![1024, 2816]⟩
abbrev S_ : Shape := ⟨0, ![]⟩
abbrev S16384x1024 : Shape := ⟨2, ![16384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S1024x2816, .bf16⟩
  | .hbm, ⟨3, _⟩ => ⟨S_, .f32⟩
  | .hbm, ⟨4, _⟩ => ⟨S16384x1024, .f32⟩
  | .hbm, ⟨5, _⟩ => ⟨S1024x2816, .f32⟩
  | .hbm, ⟨6, _⟩ => ⟨S16384x2816, .f32⟩
  | .hbm, ⟨7, _⟩ => ⟨S16384x2816, .f32⟩
  | .hbm, ⟨8, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateDx.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateDxIdeal.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateDxRefIdeal.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1024x2816, .bf16⟩
  | .hbm, ⟨4, _⟩ => ⟨S_, .f32⟩
  | .hbm, ⟨5, _⟩ => ⟨S16384x1024, .f32⟩
  | .hbm, ⟨6, _⟩ => ⟨S1024x2816, .f32⟩
  | .hbm, ⟨7, _⟩ => ⟨S16384x2816, .f32⟩
  | .hbm, ⟨8, _⟩ => ⟨S16384x2816, .f32⟩
  | .hbm, ⟨9, _⟩ => ⟨S16384x1024, .f32⟩
  | .hbm, ⟨10, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== UpDw.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S16384x2816 : Shape := ⟨2, ![16384, 2816]⟩
abbrev S16384x1024 : Shape := ⟨2, ![16384, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S1024x2816, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | .hbm, ⟨10, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== LoDx.lean ====
abbrev S16384x3840 : Shape := ⟨2, ![16384, 3840]⟩
abbrev S3840x1024 : Shape := ⟨2, ![3840, 1024]⟩
abbrev S16384x1024 : Shape := ⟨2, ![16384, 1024]⟩
abbrev S512x3840 : Shape := ⟨2, ![512, 3840]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x3840, .bf16⟩
  | .hbm, ⟨1, _⟩ => ⟨S3840x1024, .bf16⟩
  | .hbm, ⟨2, _⟩ => ⟨S16384x1024, .f32⟩
  | .local _ .vmem, ⟨0, _⟩ => ⟨S512x3840, .bf16⟩
  | .local _ .vmem, ⟨1, _⟩ => ⟨S512x3840, .bf16⟩
  | .local _ .vmem, ⟨2, _⟩ => ⟨S3840x1024, .bf16⟩
  | .local _ .vmem, ⟨3, _⟩ => ⟨S512x1024, .f32⟩
  | .local _ .vmem, ⟨4, _⟩ => ⟨S512x1024, .f32⟩
  | _, _ => ⟨S16384x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S3840x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LoDxIdeal.lean ====
abbrev S16384x3840 : Shape := ⟨2, ![16384, 3840]⟩
abbrev S3840x1024 : Shape := ⟨2, ![3840, 1024]⟩
abbrev S16384x1024 : Shape := ⟨2, ![16384, 1024]⟩
abbrev S512x3840 : Shape := ⟨2, ![512, 3840]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x3840, .bf16⟩
  | .hbm, ⟨1, _⟩ => ⟨S3840x1024, .bf16⟩
  | .hbm, ⟨2, _⟩ => ⟨S16384x1024, .f32⟩
  | .local _ .vmem, ⟨0, _⟩ => ⟨S512x3840, .bf16⟩
  | .local _ .vmem, ⟨1, _⟩ => ⟨S512x3840, .bf16⟩
  | .local _ .vmem, ⟨2, _⟩ => ⟨S3840x1024, .bf16⟩
  | .local _ .vmem, ⟨3, _⟩ => ⟨S512x1024, .f32⟩
  | .local _ .vmem, ⟨4, _⟩ => ⟨S512x1024, .f32⟩
  | _, _ => ⟨S16384x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S3840x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LoDxRefIdeal.lean ====
abbrev S16384x3840 : Shape := ⟨2, ![16384, 3840]⟩
abbrev S3840x1024 : Shape := ⟨2, ![3840, 1024]⟩
abbrev S1024x3840 : Shape := ⟨2, ![1024, 3840]⟩
abbrev S_ : Shape := ⟨0, ![]⟩
abbrev S16384x1024 : Shape := ⟨2, ![16384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x3840, .bf16⟩
  | .hbm, ⟨1, _⟩ => ⟨S3840x1024, .bf16⟩
  | .hbm, ⟨2, _⟩ => ⟨S1024x3840, .bf16⟩
  | .hbm, ⟨3, _⟩ => ⟨S_, .f32⟩
  | .hbm, ⟨4, _⟩ => ⟨S16384x1024, .f32⟩
  | .hbm, ⟨5, _⟩ => ⟨S1024x3840, .f32⟩
  | .hbm, ⟨6, _⟩ => ⟨S16384x3840, .f32⟩
  | .hbm, ⟨7, _⟩ => ⟨S16384x3840, .f32⟩
  | .hbm, ⟨8, _⟩ => ⟨S16384x1024, .f32⟩
  | _, _ => ⟨S16384x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== HiDx.lean ====
abbrev S16384x4608 : Shape := ⟨2, ![16384, 4608]⟩
abbrev S4608x1024 : Shape := ⟨2, ![4608, 1024]⟩
abbrev S16384x1024 : Shape := ⟨2, ![16384, 1024]⟩
abbrev S512x4608 : Shape := ⟨2, ![512, 4608]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x4608, .bf16⟩
  | .hbm, ⟨1, _⟩ => ⟨S4608x1024, .bf16⟩
  | .hbm, ⟨2, _⟩ => ⟨S16384x1024, .f32⟩
  | .hbm, ⟨3, _⟩ => ⟨S16384x1024, .f32⟩
  | .local _ .vmem, ⟨0, _⟩ => ⟨S512x4608, .bf16⟩
  | .local _ .vmem, ⟨1, _⟩ => ⟨S512x4608, .bf16⟩
  | .local _ .vmem, ⟨2, _⟩ => ⟨S4608x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HiDxIdeal.lean ====
abbrev S16384x4608 : Shape := ⟨2, ![16384, 4608]⟩
abbrev S4608x1024 : Shape := ⟨2, ![4608, 1024]⟩
abbrev S16384x1024 : Shape := ⟨2, ![16384, 1024]⟩
abbrev S512x4608 : Shape := ⟨2, ![512, 4608]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x4608, .bf16⟩
  | .hbm, ⟨1, _⟩ => ⟨S4608x1024, .bf16⟩
  | .hbm, ⟨2, _⟩ => ⟨S16384x1024, .f32⟩
  | .hbm, ⟨3, _⟩ => ⟨S16384x1024, .f32⟩
  | .local _ .vmem, ⟨0, _⟩ => ⟨S512x4608, .bf16⟩
  | .local _ .vmem, ⟨1, _⟩ => ⟨S512x4608, .bf16⟩
  | .local _ .vmem, ⟨2, _⟩ => ⟨S4608x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HiDxRefIdeal.lean ====
abbrev S16384x4608 : Shape := ⟨2, ![16384, 4608]⟩
abbrev S4608x1024 : Shape := ⟨2, ![4608, 1024]⟩
abbrev S16384x1024 : Shape := ⟨2, ![16384, 1024]⟩
abbrev S1024x4608 : Shape := ⟨2, ![1024, 4608]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x4608, .bf16⟩
  | .hbm, ⟨1, _⟩ => ⟨S4608x1024, .bf16⟩
  | .hbm, ⟨2, _⟩ => ⟨S16384x1024, .f32⟩
  | .hbm, ⟨3, _⟩ => ⟨S1024x4608, .bf16⟩
  | .hbm, ⟨4, _⟩ => ⟨S_, .f32⟩
  | .hbm, ⟨5, _⟩ => ⟨S16384x1024, .f32⟩
  | .hbm, ⟨6, _⟩ => ⟨S1024x4608, .f32⟩
  | .hbm, ⟨7, _⟩ => ⟨S16384x4608, .f32⟩
  | .hbm, ⟨8, _⟩ => ⟨S16384x4608, .f32⟩
  | .hbm, ⟨9, _⟩ => ⟨S16384x1024, .f32⟩
  | .hbm, ⟨10, _⟩ => ⟨S16384x1024, .f32⟩
  | _, _ => ⟨S16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== LoDw.lean ====
abbrev S16384x3840 : Shape := ⟨2, ![16384, 3840]⟩
abbrev S16384x1024 : Shape := ⟨2, ![16384, 1024]⟩
abbrev S3840x1024 : Shape := ⟨2, ![3840, 1024]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x3840, .bf16⟩
  | .hbm, ⟨1, _⟩ => ⟨S16384x1024, .bf16⟩
  | .hbm, ⟨2, _⟩ => ⟨S3840x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | _, _ => ⟨S16384x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LoDwIdeal.lean ====
abbrev S16384x3840 : Shape := ⟨2, ![16384, 3840]⟩
abbrev S16384x1024 : Shape := ⟨2, ![16384, 1024]⟩
abbrev S3840x1024 : Shape := ⟨2, ![3840, 1024]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x3840, .bf16⟩
  | .hbm, ⟨1, _⟩ => ⟨S16384x1024, .bf16⟩
  | .hbm, ⟨2, _⟩ => ⟨S3840x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | _, _ => ⟨S16384x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LoDwRefIdeal.lean ====
abbrev S16384x3840 : Shape := ⟨2, ![16384, 3840]⟩
abbrev S16384x1024 : Shape := ⟨2, ![16384, 1024]⟩
abbrev S_ : Shape := ⟨0, ![]⟩
abbrev S1024x3840 : Shape := ⟨2, ![1024, 3840]⟩
abbrev S3840x1024 : Shape := ⟨2, ![3840, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x3840, .bf16⟩
  | .hbm, ⟨1, _⟩ => ⟨S16384x1024, .bf16⟩
  | .hbm, ⟨2, _⟩ => ⟨S_, .f32⟩
  | .hbm, ⟨3, _⟩ => ⟨S1024x3840, .f32⟩
  | .hbm, ⟨4, _⟩ => ⟨S16384x1024, .f32⟩
  | .hbm, ⟨5, _⟩ => ⟨S16384x3840, .f32⟩
  | .hbm, ⟨6, _⟩ => ⟨S16384x3840, .f32⟩
  | .hbm, ⟨7, _⟩ => ⟨S3840x1024, .f32⟩
  | .hbm, ⟨8, _⟩ => ⟨S1024x3840, .f32⟩
  | .hbm, ⟨9, _⟩ => ⟨S1024x3840, .bf16⟩
  | .hbm, ⟨10, _⟩ => ⟨S3840x1024, .bf16⟩
  | _, _ => ⟨S16384x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== HiDw.lean ====
abbrev S16384x4608 : Shape := ⟨2, ![16384, 4608]⟩
abbrev S16384x1024 : Shape := ⟨2, ![16384, 1024]⟩
abbrev S4608x1024 : Shape := ⟨2, ![4608, 1024]⟩
abbrev S1024x1536 : Shape := ⟨2, ![1024, 1536]⟩
abbrev S1024x1024 : Shape := ⟨2, ![1024, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x4608, .bf16⟩
  | .hbm, ⟨1, _⟩ => ⟨S16384x1024, .bf16⟩
  | .hbm, ⟨2, _⟩ => ⟨S4608x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HiDwIdeal.lean ====
abbrev S16384x4608 : Shape := ⟨2, ![16384, 4608]⟩
abbrev S16384x1024 : Shape := ⟨2, ![16384, 1024]⟩
abbrev S4608x1024 : Shape := ⟨2, ![4608, 1024]⟩
abbrev S1024x1536 : Shape := ⟨2, ![1024, 1536]⟩
abbrev S1024x1024 : Shape := ⟨2, ![1024, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x4608, .bf16⟩
  | .hbm, ⟨1, _⟩ => ⟨S16384x1024, .bf16⟩
  | .hbm, ⟨2, _⟩ => ⟨S4608x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HiDwRefIdeal.lean ====
abbrev S16384x4608 : Shape := ⟨2, ![16384, 4608]⟩
abbrev S16384x1024 : Shape := ⟨2, ![16384, 1024]⟩
abbrev S_ : Shape := ⟨0, ![]⟩
abbrev S1024x4608 : Shape := ⟨2, ![1024, 4608]⟩
abbrev S4608x1024 : Shape := ⟨2, ![4608, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x4608, .bf16⟩
  | .hbm, ⟨1, _⟩ => ⟨S16384x1024, .bf16⟩
  | .hbm, ⟨2, _⟩ => ⟨S_, .f32⟩
  | .hbm, ⟨3, _⟩ => ⟨S1024x4608, .f32⟩
  | .hbm, ⟨4, _⟩ => ⟨S16384x1024, .f32⟩
  | .hbm, ⟨5, _⟩ => ⟨S16384x4608, .f32⟩
  | .hbm, ⟨6, _⟩ => ⟨S16384x4608, .f32⟩
  | .hbm, ⟨7, _⟩ => ⟨S4608x1024, .f32⟩
  | .hbm, ⟨8, _⟩ => ⟨S1024x4608, .f32⟩
  | .hbm, ⟨9, _⟩ => ⟨S1024x4608, .bf16⟩
  | .hbm, ⟨10, _⟩ => ⟨S4608x1024, .bf16⟩
  | _, _ => ⟨S16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutDx.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxIdeal.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S_, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwIdeal.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DilDx.lean ====
abbrev S16384x1024 : Shape := ⟨2, ![16384, 1024]⟩
abbrev S1024x256 : Shape := ⟨2, ![1024, 256]⟩
abbrev S16384x256 : Shape := ⟨2, ![16384, 256]⟩
abbrev S512x1024 : Shape := ⟨2, ![512, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x256, .bf16⟩
  | .hbm, ⟨2, _⟩ => ⟨S16384x256, .f32⟩
  | .local _ .vmem, ⟨0, _⟩ => ⟨S512x1024, .bf16⟩
  | .local _ .vmem, ⟨1, _⟩ => ⟨S512x1024, .bf16⟩
  | .local _ .vmem, ⟨2, _⟩ => ⟨S1024x256, .bf16⟩
  | .local _ .vmem, ⟨3, _⟩ => ⟨S512x256, .f32⟩
  | .local _ .vmem, ⟨4, _⟩ => ⟨S512x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilDxIdeal.lean ====
abbrev S16384x1024 : Shape := ⟨2, ![16384, 1024]⟩
abbrev S1024x256 : Shape := ⟨2, ![1024, 256]⟩
abbrev S16384x256 : Shape := ⟨2, ![16384, 256]⟩
abbrev S512x1024 : Shape := ⟨2, ![512, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x256, .bf16⟩
  | .hbm, ⟨2, _⟩ => ⟨S16384x256, .f32⟩
  | .local _ .vmem, ⟨0, _⟩ => ⟨S512x1024, .bf16⟩
  | .local _ .vmem, ⟨1, _⟩ => ⟨S512x1024, .bf16⟩
  | .local _ .vmem, ⟨2, _⟩ => ⟨S1024x256, .bf16⟩
  | .local _ .vmem, ⟨3, _⟩ => ⟨S512x256, .f32⟩
  | .local _ .vmem, ⟨4, _⟩ => ⟨S512x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilDxRefIdeal.lean ====
abbrev S16384x1024 : Shape := ⟨2, ![16384, 1024]⟩
abbrev S1024x256 : Shape := ⟨2, ![1024, 256]⟩
abbrev S256x1024 : Shape := ⟨2, ![256, 1024]⟩
abbrev S_ : Shape := ⟨0, ![]⟩
abbrev S16384x256 : Shape := ⟨2, ![16384, 256]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x256, .bf16⟩
  | .hbm, ⟨2, _⟩ => ⟨S256x1024, .bf16⟩
  | .hbm, ⟨3, _⟩ => ⟨S_, .f32⟩
  | .hbm, ⟨4, _⟩ => ⟨S16384x256, .f32⟩
  | .hbm, ⟨5, _⟩ => ⟨S256x1024, .f32⟩
  | .hbm, ⟨6, _⟩ => ⟨S16384x1024, .f32⟩
  | .hbm, ⟨7, _⟩ => ⟨S16384x1024, .f32⟩
  | .hbm, ⟨8, _⟩ => ⟨S16384x256, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DilDw.lean ====
abbrev S16384x1024 : Shape := ⟨2, ![16384, 1024]⟩
abbrev S16384x256 : Shape := ⟨2, ![16384, 256]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DilDwIdeal.lean ====
abbrev S16384x1024 : Shape := ⟨2, ![16384, 1024]⟩
abbrev S16384x256 : Shape := ⟨2, ![16384, 256]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DilDwRefIdeal.lean ====
abbrev S16384x1024 : Shape := ⟨2, ![16384, 1024]⟩
abbrev S16384x256 : Shape := ⟨2, ![16384, 256]⟩
abbrev S_ : Shape := ⟨0, ![]⟩
abbrev S256x1024 : Shape := ⟨2, ![256, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S_, .f32⟩
  | .hbm, ⟨3, _⟩ => ⟨S256x1024, .f32⟩
  | .hbm, ⟨4, _⟩ => ⟨S16384x256, .f32⟩
  | .hbm, ⟨5, _⟩ => ⟨S16384x1024, .f32⟩
  | .hbm, ⟨6, _⟩ => ⟨S16384x1024, .f32⟩
  | .hbm, ⟨7, _⟩ => ⟨S1024x256, .f32⟩
  | .hbm, ⟨8, _⟩ => ⟨S256x1024, .f32⟩
  | .hbm, ⟨9, _⟩ => ⟨S256x1024, .bf16⟩
  | .hbm, ⟨10, _⟩ => ⟨S1024x256, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixDx.lean ====
abbrev S16384x1024 : Shape := ⟨2, ![16384, 1024]⟩
abbrev S1024x512 : Shape := ⟨2, ![1024, 512]⟩
abbrev S16384x512 : Shape := ⟨2, ![16384, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x512, .bf16⟩
  | .hbm, ⟨2, _⟩ => ⟨S16384x512, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDxIdeal.lean ====
abbrev S16384x1024 : Shape := ⟨2, ![16384, 1024]⟩
abbrev S1024x512 : Shape := ⟨2, ![1024, 512]⟩
abbrev S16384x512 : Shape := ⟨2, ![16384, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x512, .bf16⟩
  | .hbm, ⟨2, _⟩ => ⟨S16384x512, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDxRefIdeal.lean ====
abbrev S16384x1024 : Shape := ⟨2, ![16384, 1024]⟩
abbrev S1024x512 : Shape := ⟨2, ![1024, 512]⟩
abbrev S512x1024 : Shape := ⟨2, ![512, 1024]⟩
abbrev S_ : Shape := ⟨0, ![]⟩
abbrev S16384x512 : Shape := ⟨2, ![16384, 512]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x512, .bf16⟩
  | .hbm, ⟨2, _⟩ => ⟨S512x1024, .bf16⟩
  | .hbm, ⟨3, _⟩ => ⟨S_, .f32⟩
  | .hbm, ⟨4, _⟩ => ⟨S16384x512, .f32⟩
  | .hbm, ⟨5, _⟩ => ⟨S512x1024, .f32⟩
  | .hbm, ⟨6, _⟩ => ⟨S16384x1024, .f32⟩
  | .hbm, ⟨7, _⟩ => ⟨S16384x1024, .f32⟩
  | .hbm, ⟨8, _⟩ => ⟨S16384x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== StickDw.lean ====
abbrev S16384x1024 : Shape := ⟨2, ![16384, 1024]⟩
abbrev S16384x512 : Shape := ⟨2, ![16384, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x512, .f32⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== StickDwIdeal.lean ====
abbrev S16384x1024 : Shape := ⟨2, ![16384, 1024]⟩
abbrev S16384x512 : Shape := ⟨2, ![16384, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x512, .f32⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== StickDwRefIdeal.lean ====
abbrev S16384x1024 : Shape := ⟨2, ![16384, 1024]⟩
abbrev S16384x512 : Shape := ⟨2, ![16384, 512]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .f32⟩
  | .hbm, ⟨2, _⟩ => ⟨S_, .f32⟩
  | .hbm, ⟨3, _⟩ => ⟨S512x1024, .f32⟩
  | .hbm, ⟨4, _⟩ => ⟨S16384x1024, .f32⟩
  | .hbm, ⟨5, _⟩ => ⟨S16384x1024, .f32⟩
  | .hbm, ⟨6, _⟩ => ⟨S1024x512, .f32⟩
  | .hbm, ⟨7, _⟩ => ⟨S512x1024, .f32⟩
  | .hbm, ⟨8, _⟩ => ⟨S512x1024, .bf16⟩
  | .hbm, ⟨9, _⟩ => ⟨S1024x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== RetDw.lean ====
abbrev S16384x1024 : Shape := ⟨2, ![16384, 1024]⟩
abbrev S16384x512 : Shape := ⟨2, ![16384, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RetDwIdeal.lean ====
abbrev S16384x1024 : Shape := ⟨2, ![16384, 1024]⟩
abbrev S16384x512 : Shape := ⟨2, ![16384, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RetDwRefIdeal.lean ====
abbrev S16384x1024 : Shape := ⟨2, ![16384, 1024]⟩
abbrev S16384x512 : Shape := ⟨2, ![16384, 512]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S_, .f32⟩
  | .hbm, ⟨3, _⟩ => ⟨S512x1024, .f32⟩
  | .hbm, ⟨4, _⟩ => ⟨S16384x512, .f32⟩
  | .hbm, ⟨5, _⟩ => ⟨S16384x1024, .f32⟩
  | .hbm, ⟨6, _⟩ => ⟨S16384x1024, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S1024x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Lo.lean ====
abbrev S16384x1024 : Shape := ⟨2, ![16384, 1024]⟩
abbrev S3840x1024 : Shape := ⟨2, ![3840, 1024]⟩
abbrev S16384x3840 : Shape := ⟨2, ![16384, 3840]⟩
abbrev S512x1024 : Shape := ⟨2, ![512, 1024]⟩
abbrev S1280x1024 : Shape := ⟨2, ![1280, 1024]⟩
abbrev S512x1280 : Shape := ⟨2, ![512, 1280]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S3840x1024, .bf16⟩
  | .hbm, ⟨2, _⟩ => ⟨S16384x3840, .bf16⟩
  | .local _ .vmem, ⟨0, _⟩ => ⟨S512x1024, .bf16⟩
  | .local _ .vmem, ⟨1, _⟩ => ⟨S512x1024, .bf16⟩
  | .local _ .vmem, ⟨2, _⟩ => ⟨S1280x1024, .bf16⟩
  | .local _ .vmem, ⟨3, _⟩ => ⟨S1280x1024, .bf16⟩
  | .local _ .vmem, ⟨4, _⟩ => ⟨S512x1280, .bf16⟩
  | .local _ .vmem, ⟨5, _⟩ => ⟨S512x1280, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LoIdeal.lean ====
abbrev S16384x1024 : Shape := ⟨2, ![16384, 1024]⟩
abbrev S3840x1024 : Shape := ⟨2, ![3840, 1024]⟩
abbrev S16384x3840 : Shape := ⟨2, ![16384, 3840]⟩
abbrev S512x1024 : Shape := ⟨2, ![512, 1024]⟩
abbrev S1280x1024 : Shape := ⟨2, ![1280, 1024]⟩
abbrev S512x1280 : Shape := ⟨2, ![512, 1280]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S3840x1024, .bf16⟩
  | .hbm, ⟨2, _⟩ => ⟨S16384x3840, .bf16⟩
  | .local _ .vmem, ⟨0, _⟩ => ⟨S512x1024, .bf16⟩
  | .local _ .vmem, ⟨1, _⟩ => ⟨S512x1024, .bf16⟩
  | .local _ .vmem, ⟨2, _⟩ => ⟨S1280x1024, .bf16⟩
  | .local _ .vmem, ⟨3, _⟩ => ⟨S1280x1024, .bf16⟩
  | .local _ .vmem, ⟨4, _⟩ => ⟨S512x1280, .bf16⟩
  | .local _ .vmem, ⟨5, _⟩ => ⟨S512x1280, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LoRefIdeal.lean ====
abbrev S16384x1024 : Shape := ⟨2, ![16384, 1024]⟩
abbrev S3840x1024 : Shape := ⟨2, ![3840, 1024]⟩
abbrev S1024x3840 : Shape := ⟨2, ![1024, 3840]⟩
abbrev S16384x3840 : Shape := ⟨2, ![16384, 3840]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S3840x1024, .bf16⟩
  | .hbm, ⟨2, _⟩ => ⟨S1024x3840, .bf16⟩
  | .hbm, ⟨3, _⟩ => ⟨S16384x1024, .f32⟩
  | .hbm, ⟨4, _⟩ => ⟨S1024x3840, .f32⟩
  | .hbm, ⟨5, _⟩ => ⟨S16384x3840, .f32⟩
  | .hbm, ⟨6, _⟩ => ⟨S16384x3840, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Hi.lean ====
abbrev S16384x1024 : Shape := ⟨2, ![16384, 1024]⟩
abbrev S4608x1024 : Shape := ⟨2, ![4608, 1024]⟩
abbrev S16384x4608 : Shape := ⟨2, ![16384, 4608]⟩
abbrev S512x1024 : Shape := ⟨2, ![512, 1024]⟩
abbrev S1536x1024 : Shape := ⟨2, ![1536, 1024]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S4608x1024, .bf16⟩
  | .hbm, ⟨2, _⟩ => ⟨S16384x4608, .f32⟩
  | .local _ .vmem, ⟨0, _⟩ => ⟨S512x1024, .bf16⟩
  | .local _ .vmem, ⟨1, _⟩ => ⟨S512x1024, .bf16⟩
  | .local _ .vmem, ⟨2, _⟩ => ⟨S1536x1024, .bf16⟩
  | .local _ .vmem, ⟨3, _⟩ => ⟨S1536x1024, .bf16⟩
  | .local _ .vmem, ⟨4, _⟩ => ⟨S512x1536, .f32⟩
  | .local _ .vmem, ⟨5, _⟩ => ⟨S512x1536, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HiIdeal.lean ====
abbrev S16384x1024 : Shape := ⟨2, ![16384, 1024]⟩
abbrev S4608x1024 : Shape := ⟨2, ![4608, 1024]⟩
abbrev S16384x4608 : Shape := ⟨2, ![16384, 4608]⟩
abbrev S512x1024 : Shape := ⟨2, ![512, 1024]⟩
abbrev S1536x1024 : Shape := ⟨2, ![1536, 1024]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S4608x1024, .bf16⟩
  | .hbm, ⟨2, _⟩ => ⟨S16384x4608, .f32⟩
  | .local _ .vmem, ⟨0, _⟩ => ⟨S512x1024, .bf16⟩
  | .local _ .vmem, ⟨1, _⟩ => ⟨S512x1024, .bf16⟩
  | .local _ .vmem, ⟨2, _⟩ => ⟨S1536x1024, .bf16⟩
  | .local _ .vmem, ⟨3, _⟩ => ⟨S1536x1024, .bf16⟩
  | .local _ .vmem, ⟨4, _⟩ => ⟨S512x1536, .f32⟩
  | .local _ .vmem, ⟨5, _⟩ => ⟨S512x1536, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HiRefIdeal.lean ====
abbrev S16384x1024 : Shape := ⟨2, ![16384, 1024]⟩
abbrev S4608x1024 : Shape := ⟨2, ![4608, 1024]⟩
abbrev S1024x4608 : Shape := ⟨2, ![1024, 4608]⟩
abbrev S16384x4608 : Shape := ⟨2, ![16384, 4608]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4608x1024, .bf16⟩
  | .hbm, ⟨2, _⟩ => ⟨S1024x4608, .bf16⟩
  | .hbm, ⟨3, _⟩ => ⟨S16384x1024, .f32⟩
  | .hbm, ⟨4, _⟩ => ⟨S1024x4608, .f32⟩
  | .hbm, ⟨5, _⟩ => ⟨S16384x4608, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Up.lean ====
abbrev S16384x1024 : Shape := ⟨2, ![16384, 1024]⟩
abbrev S2816x1024 : Shape := ⟨2, ![2816, 1024]⟩
abbrev S16384x2816 : Shape := ⟨2, ![16384, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpIdeal.lean ====
abbrev S16384x1024 : Shape := ⟨2, ![16384, 1024]⟩
abbrev S2816x1024 : Shape := ⟨2, ![2816, 1024]⟩
abbrev S16384x2816 : Shape := ⟨2, ![16384, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S16384x1024 : Shape := ⟨2, ![16384, 1024]⟩
abbrev S2816x1024 : Shape := ⟨2, ![2816, 1024]⟩
abbrev S1024x2816 : Shape := ⟨2, ![1024, 2816]⟩
abbrev S16384x2816 : Shape := ⟨2, ![16384, 2816]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S1024x2816, .bf16⟩
  | .hbm, ⟨3, _⟩ => ⟨S16384x1024, .f32⟩
  | .hbm, ⟨4, _⟩ => ⟨S1024x2816, .f32⟩
  | .hbm, ⟨5, _⟩ => ⟨S16384x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownIdeal.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutIdeal.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dil.lean ====
abbrev S16384x256 : Shape := ⟨2, ![16384, 256]⟩
abbrev S1024x256 : Shape := ⟨2, ![1024, 256]⟩
abbrev S16384x1024 : Shape := ⟨2, ![16384, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .bf16⟩
  | .hbm, ⟨1, _⟩ => ⟨S1024x256, .bf16⟩
  | .hbm, ⟨2, _⟩ => ⟨S16384x1024, .f32⟩
  | .local _ .vmem, ⟨0, _⟩ => ⟨S512x256, .bf16⟩
  | .local _ .vmem, ⟨1, _⟩ => ⟨S512x256, .bf16⟩
  | .local _ .vmem, ⟨2, _⟩ => ⟨S1024x256, .bf16⟩
  | .local _ .vmem, ⟨3, _⟩ => ⟨S512x1024, .f32⟩
  | .local _ .vmem, ⟨4, _⟩ => ⟨S512x1024, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilIdeal.lean ====
abbrev S16384x256 : Shape := ⟨2, ![16384, 256]⟩
abbrev S1024x256 : Shape := ⟨2, ![1024, 256]⟩
abbrev S16384x1024 : Shape := ⟨2, ![16384, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .bf16⟩
  | .hbm, ⟨1, _⟩ => ⟨S1024x256, .bf16⟩
  | .hbm, ⟨2, _⟩ => ⟨S16384x1024, .f32⟩
  | .local _ .vmem, ⟨0, _⟩ => ⟨S512x256, .bf16⟩
  | .local _ .vmem, ⟨1, _⟩ => ⟨S512x256, .bf16⟩
  | .local _ .vmem, ⟨2, _⟩ => ⟨S1024x256, .bf16⟩
  | .local _ .vmem, ⟨3, _⟩ => ⟨S512x1024, .f32⟩
  | .local _ .vmem, ⟨4, _⟩ => ⟨S512x1024, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilRefIdeal.lean ====
abbrev S16384x256 : Shape := ⟨2, ![16384, 256]⟩
abbrev S1024x256 : Shape := ⟨2, ![1024, 256]⟩
abbrev S256x1024 : Shape := ⟨2, ![256, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S1024x256, .bf16⟩
  | .hbm, ⟨2, _⟩ => ⟨S256x1024, .bf16⟩
  | .hbm, ⟨3, _⟩ => ⟨S16384x256, .f32⟩
  | .hbm, ⟨4, _⟩ => ⟨S256x1024, .f32⟩
  | .hbm, ⟨5, _⟩ => ⟨S16384x1024, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Stick.lean ====
abbrev S16384x512 : Shape := ⟨2, ![16384, 512]⟩
abbrev S1024x512 : Shape := ⟨2, ![1024, 512]⟩
abbrev S16384x1024 : Shape := ⟨2, ![16384, 1024]⟩
abbrev S512x512 : Shape := ⟨2, ![512, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S1024x512, .bf16⟩
  | .hbm, ⟨2, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S1024x512, .bf16⟩
  | .local _ .vmem, ⟨3, _⟩ => ⟨S512x1024, .f32⟩
  | .local _ .vmem, ⟨4, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StickIdeal.lean ====
abbrev S16384x512 : Shape := ⟨2, ![16384, 512]⟩
abbrev S1024x512 : Shape := ⟨2, ![1024, 512]⟩
abbrev S16384x1024 : Shape := ⟨2, ![16384, 1024]⟩
abbrev S512x512 : Shape := ⟨2, ![512, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S1024x512, .bf16⟩
  | .hbm, ⟨2, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S1024x512, .bf16⟩
  | .local _ .vmem, ⟨3, _⟩ => ⟨S512x1024, .f32⟩
  | .local _ .vmem, ⟨4, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StickRefIdeal.lean ====
abbrev S16384x512 : Shape := ⟨2, ![16384, 512]⟩
abbrev S1024x512 : Shape := ⟨2, ![1024, 512]⟩
abbrev S512x1024 : Shape := ⟨2, ![512, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1024x512, .bf16⟩
  | .hbm, ⟨2, _⟩ => ⟨S512x1024, .bf16⟩
  | .hbm, ⟨3, _⟩ => ⟨S512x1024, .f32⟩
  | .hbm, ⟨4, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ret.lean ====
abbrev S16384x512 : Shape := ⟨2, ![16384, 512]⟩
abbrev S1024x512 : Shape := ⟨2, ![1024, 512]⟩
abbrev S16384x1024 : Shape := ⟨2, ![16384, 1024]⟩
abbrev S512x512 : Shape := ⟨2, ![512, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S1024x512, .bf16⟩
  | .hbm, ⟨2, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S512x1024, .f32⟩
  | .local _ .vmem, ⟨4, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetIdeal.lean ====
abbrev S16384x512 : Shape := ⟨2, ![16384, 512]⟩
abbrev S1024x512 : Shape := ⟨2, ![1024, 512]⟩
abbrev S16384x1024 : Shape := ⟨2, ![16384, 1024]⟩
abbrev S512x512 : Shape := ⟨2, ![512, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S1024x512, .bf16⟩
  | .hbm, ⟨2, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S512x1024, .f32⟩
  | .local _ .vmem, ⟨4, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetRefIdeal.lean ====
abbrev S16384x512 : Shape := ⟨2, ![16384, 512]⟩
abbrev S1024x512 : Shape := ⟨2, ![1024, 512]⟩
abbrev S512x1024 : Shape := ⟨2, ![512, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S1024x512, .bf16⟩
  | .hbm, ⟨2, _⟩ => ⟨S512x1024, .bf16⟩
  | .hbm, ⟨3, _⟩ => ⟨S16384x512, .f32⟩
  | .hbm, ⟨4, _⟩ => ⟨S512x1024, .f32⟩
  | .hbm, ⟨5, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Sbf.lean ====
abbrev S16384x3840 : Shape := ⟨2, ![16384, 3840]⟩
abbrev S256x256 : Shape := ⟨2, ![256, 256]⟩
abbrev S16384x512 : Shape := ⟨2, ![16384, 512]⟩
abbrev S512x128 : Shape := ⟨2, ![512, 128]⟩
abbrev S16384x128 : Shape := ⟨2, ![16384, 128]⟩
abbrev S512x256 : Shape := ⟨2, ![512, 256]⟩
abbrev S256x128 : Shape := ⟨2, ![256, 128]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S16384x3840, .bf16⟩
  | .hbm, ⟨1, _⟩ => ⟨S256x256, .i32⟩
  | .hbm, ⟨2, _⟩ => ⟨S256x256, .i32⟩
  | .hbm, ⟨3, _⟩ => ⟨S256x256, .i1⟩
  | .hbm, ⟨4, _⟩ => ⟨S256x256, .f32⟩
  | .hbm, ⟨5, _⟩ => ⟨S256x256, .bf16⟩
  | .hbm, ⟨6, _⟩ => ⟨S16384x512, .f32⟩
  | .hbm, ⟨7, _⟩ => ⟨S16384x512, .f32⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x256, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | _, _ => ⟨S16384x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5_0 : Ref sig .tc := ⟨.hbm, 6, rfl⟩
abbrev main_v5_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c2_i32 : BitVec 32 := 2#32
  let v10 : BitVec 32 := Scalar.muli arg1 c2_i32
  let c1_i32 : BitVec 32 := 1#32
  let v11 : BitVec 32 := Scalar.addi v10 c1_i32
  let c256_i32 : BitVec 32 := 256#32
  let v12 : BitVec 32 := Scalar.muli v11 c256_i32
  v12
def k0_off1 (i : grid0.Coords) (c1_i32 : BitVec 32) : Fin 2 → Nat :=
  let arg1 : BitVec 32 := BitVec.ofNat 32 (i 1).val
  let c2_i32 : BitVec 32 := 2#32
  let v10 : BitVec 32 := Scalar.muli arg1 c2_i32
  let v11 : BitVec 32 := Scalar.addi v10 c1_i32
  let c256_i32 : BitVec 32 := 256#32
  let v12 : BitVec 32 := Scalar.muli v11 c256_i32
  let v13 : BitVec 32 := v12
  let v14 : Index := Scalar.indexCast v13
  let c0_4 : Index := 0#32
  ![v14.toNat, 0]
def k0_mult2 (i : grid0.Coords) : BitVec 32 :=
  let arg1 : BitVec 32 := BitVec.ofNat 32 (i 1).val
  let c2_i32_17 : BitVec 32 := 2#32
  let v53 : BitVec 32 := Scalar.muli arg1 c2_i32_17
  let c0_i32 : BitVec 32 := 0#32
  let v54 : BitVec 32 := Scalar.addi v53 c0_i32
  let c256_i32_18 : BitVec 32 := 256#32
  let v55 : BitVec 32 := Scalar.muli v54 c256_i32_18
  v55
def k0_cond1 (i : grid0.Coords) : BitVec 1 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let c0_i32_42 : BitVec 32 := 0#32
  let v113 : BitVec 1 := Scalar.cmpi .ne v112 c0_i32_42
  let v114 : BitVec 32 := Scalar.extui v113
  let c0_i32_43 : BitVec 32 := 0#32
  let v115 : BitVec 1 := Scalar.cmpi .ne v114 c0_i32_43
  v115

def k0_mult3 (i : grid0.Coords) : BitVec 32 :=
  let arg1 : BitVec 32 := BitVec.ofNat 32 (i 1).val
  let c2_i32_36 : BitVec 32 := 2#32
  let v102 : BitVec 32 := Scalar.muli arg1 c2_i32_36
  let c1_i32_64 : BitVec 32 := 1#32
  let v142 : BitVec 32 := Scalar.subi v102 c1_i32_64
  let c0_i32_68 : BitVec 32 := 0#32
  let v145 : BitVec 32 := Scalar.subi v142 c0_i32_68
  let c256_i32_69 : BitVec 32 := 256#32
  let v146 : BitVec 32 := Scalar.muli v145 c256_i32_69
  v146
def k0_off2 (i : grid0.Coords) (c0_i32_68 : BitVec 32) : Fin 2 → Nat :=
  let arg1 : BitVec 32 := BitVec.ofNat 32 (i 1).val
  let c2_i32_36 : BitVec 32 := 2#32
  let v102 : BitVec 32 := Scalar.muli arg1 c2_i32_36
  let c1_i32_64 : BitVec 32 := 1#32
  let v142 : BitVec 32 := Scalar.subi v102 c1_i32_64
  let v145 : BitVec 32 := Scalar.subi v142 c0_i32_68
  let c256_i32_69 : BitVec 32 := 256#32
  let v146 : BitVec 32 := Scalar.muli v145 c256_i32_69
  let v147 : BitVec 32 := v146
  let v148 : Index := Scalar.indexCast v147
  let c0_70 : Index := 0#32
  ![v148.toNat, 0]
def k0_mult4 (i : grid0.Coords) : BitVec 32 :=
  let arg1 : BitVec 32 := BitVec.ofNat 32 (i 1).val
  let c2_i32_36 : BitVec 32 := 2#32
  let v102 : BitVec 32 := Scalar.muli arg1 c2_i32_36
  let c1_i32_64 : BitVec 32 := 1#32
  let v142 : BitVec 32 := Scalar.subi v102 c1_i32_64
  let c1_i32_80 : BitVec 32 := 1#32
  let v179 : BitVec 32 := Scalar.subi v142 c1_i32_80
  let c256_i32_81 : BitVec 32 := 256#32
  let v180 : BitVec 32 := Scalar.muli v179 c256_i32_81
  v180
@[reducible] def k0_t1_loop (i : grid0.Coords) : Scf.Loop 32 :=
  let c0_i32_52 : BitVec 32 := 0#32
  let arg1 : BitVec 32 := BitVec.ofNat 32 (i 1).val
  let c2_i32_36 : BitVec 32 := 2#32
  let v102 : BitVec 32 := Scalar.muli arg1 c2_i32_36
  let c0_i32_45 : BitVec 32 := 0#32
  let v117 : BitVec 1 := Scalar.cmpi .sgt v102 c0_i32_45
  let v118 : BitVec 32 := Scalar.extui v117
  let c0_i32_46 : BitVec 32 := 0#32
  let v119 : BitVec 1 := Scalar.cmpi .slt v102 c0_i32_46
  let v120 : BitVec 32 := Scalar.extui v119
  let v121 : BitVec 32 := Scalar.subi v118 v120
  let c4_i32_44 : BitVec 32 := 4#32
  let c0_i32_47 : BitVec 32 := 0#32
  let v122 : BitVec 1 := Scalar.cmpi .sgt c4_i32_44 c0_i32_47
  let v123 : BitVec 32 := Scalar.extui v122
  let c0_i32_48 : BitVec 32 := 0#32
  let v124 : BitVec 1 := Scalar.cmpi .slt c4_i32_44 c0_i32_48
  let v125 : BitVec 32 := Scalar.extui v124
  let v126 : BitVec 32 := Scalar.subi v123 v125
  let v127 : BitVec 1 := Scalar.cmpi .ne v121 v126
  let v128 : BitVec 32 := Scalar.remsi v102 c4_i32_44
  let c0_i32_49 : BitVec 32 := 0#32
  let v129 : BitVec 1 := Scalar.cmpi .ne v128 c0_i32_49
  let v130 : BitVec 1 := Scalar.andi v127 v129
  let v116 : BitVec 32 := Scalar.divsi v102 c4_i32_44
  let c1_i32_50 : BitVec 32 := 1#32
  let v131 : BitVec 32 := Scalar.subi v116 c1_i32_50
  let v132 : BitVec 32 := Scalar.select v130 v131 v116
  let v133 : BitVec 32 := Scalar.subi v132 c0_i32_52
  let c1_i32_53 : BitVec 32 := 1#32
  let v135 : BitVec 32 := Scalar.divsi v133 c1_i32_53
  let v136 : BitVec 32 := Scalar.muli v135 c1_i32_53
  let v137 : BitVec 32 := Scalar.addi c0_i32_52 v136
  let c1_i32_54 : BitVec 32 := 1#32
  ⟨c0_i32_52, v137, c1_i32_54⟩
def k0_mult5 (i : grid0.Coords) (k0_t1 : Fin (k0_t1_loop i).trips) : BitVec 32 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c1_i32_54 : BitVec 32 := 1#32
  let arg10 : BitVec 32 := Scf.iv c0_i32_52 c1_i32_54 k0_t1
  let c4_i32_65 : BitVec 32 := 4#32
  let v144 : BitVec 32 := Scalar.muli arg10 c4_i32_65
  let v145 : BitVec 32 := Scalar.subi v143 v144
  let c0_i32_69 : BitVec 32 := 0#32
  let v148 : BitVec 32 := Scalar.subi v145 c0_i32_69
  let c256_i32_70 : BitVec 32 := 256#32
  let v149 : BitVec 32 := Scalar.muli v148 c256_i32_70
  v149
def k0_off3 (i : grid0.Coords) (k0_t1 : Fin (k0_t1_loop i).trips) (c0_i32_69 : BitVec 32) : Fin 2 → Nat :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c1_i32_54 : BitVec 32 := 1#32
  let arg10 : BitVec 32 := Scf.iv c0_i32_52 c1_i32_54 k0_t1
  let c4_i32_65 : BitVec 32 := 4#32
  let v144 : BitVec 32 := Scalar.muli arg10 c4_i32_65
  let v145 : BitVec 32 := Scalar.subi v143 v144
  let v148 : BitVec 32 := Scalar.subi v145 c0_i32_69
  let c256_i32_70 : BitVec 32 := 256#32
  let v149 : BitVec 32 := Scalar.muli v148 c256_i32_70
  let v150 : BitVec 32 := v149
  let v151 : Index := Scalar.indexCast v150
  let c0_71 : Index := 0#32
  ![v151.toNat, 0]
def k0_mult6 (i : grid0.Coords) (k0_t1 : Fin (k0_t1_loop i).trips) : BitVec 32 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c1_i32_54 : BitVec 32 := 1#32
  let arg10 : BitVec 32 := Scf.iv c0_i32_52 c1_i32_54 k0_t1
  let c4_i32_65 : BitVec 32 := 4#32
  let v144 : BitVec 32 := Scalar.muli arg10 c4_i32_65
  let v145 : BitVec 32 := Scalar.subi v143 v144
  let c1_i32_81 : BitVec 32 := 1#32
  let v182 : BitVec 32 := Scalar.subi v145 c1_i32_81
  let c256_i32_82 : BitVec 32 := 256#32
  let v183 : BitVec 32 := Scalar.muli v182 c256_i32_82
  v183
def k0_mult7 (i : grid0.Coords) (k0_t1 : Fin (k0_t1_loop i).trips) : BitVec 32 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c1_i32_54 : BitVec 32 := 1#32
  let arg10 : BitVec 32 := Scf.iv c0_i32_52 c1_i32_54 k0_t1
  let c4_i32_65 : BitVec 32 := 4#32
  let v144 : BitVec 32 := Scalar.muli arg10 c4_i32_65
  let v145 : BitVec 32 := Scalar.subi v143 v144
  let c2_i32_93 : BitVec 32 := 2#32
  let v216 : BitVec 32 := Scalar.subi v145 c2_i32_93
  let c256_i32_94 : BitVec 32 := 256#32
  let v217 : BitVec 32 := Scalar.muli v216 c256_i32_94
  v217
def k0_mult8 (i : grid0.Coords) (k0_t1 : Fin (k0_t1_loop i).trips) : BitVec 32 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c1_i32_54 : BitVec 32 := 1#32
  let arg10 : BitVec 32 := Scf.iv c0_i32_52 c1_i32_54 k0_t1
  let c4_i32_65 : BitVec 32 := 4#32
  let v144 : BitVec 32 := Scalar.muli arg10 c4_i32_65
  let v145 : BitVec 32 := Scalar.subi v143 v144
  let c3_i32 : BitVec 32 := 3#32
  let v250 : BitVec 32 := Scalar.subi v145 c3_i32
  let c256_i32_105 : BitVec 32 := 256#32
  let v251 : BitVec 32 := Scalar.muli v250 c256_i32_105
  v251
@[reducible] def k0_t2_loop (i : grid0.Coords) : Scf.Loop 32 :=
  let c0_i32_52 : BitVec 32 := 0#32
  let arg1 : BitVec 32 := BitVec.ofNat 32 (i 1).val
  let c2_i32_36 : BitVec 32 := 2#32
  let v102 : BitVec 32 := Scalar.muli arg1 c2_i32_36
  let c0_i32_45 : BitVec 32 := 0#32
  let v117 : BitVec 1 := Scalar.cmpi .sgt v102 c0_i32_45
  let v118 : BitVec 32 := Scalar.extui v117
  let c0_i32_46 : BitVec 32 := 0#32
  let v119 : BitVec 1 := Scalar.cmpi .slt v102 c0_i32_46
  let v120 : BitVec 32 := Scalar.extui v119
  let v121 : BitVec 32 := Scalar.subi v118 v120
  let c4_i32_44 : BitVec 32 := 4#32
  let c0_i32_47 : BitVec 32 := 0#32
  let v122 : BitVec 1 := Scalar.cmpi .sgt c4_i32_44 c0_i32_47
  let v123 : BitVec 32 := Scalar.extui v122
  let c0_i32_48 : BitVec 32 := 0#32
  let v124 : BitVec 1 := Scalar.cmpi .slt c4_i32_44 c0_i32_48
  let v125 : BitVec 32 := Scalar.extui v124
  let v126 : BitVec 32 := Scalar.subi v123 v125
  let v127 : BitVec 1 := Scalar.cmpi .ne v121 v126
  let v128 : BitVec 32 := Scalar.remsi v102 c4_i32_44
  let c0_i32_49 : BitVec 32 := 0#32
  let v129 : BitVec 1 := Scalar.cmpi .ne v128 c0_i32_49
  let v130 : BitVec 1 := Scalar.andi v127 v129
  let v116 : BitVec 32 := Scalar.divsi v102 c4_i32_44
  let c1_i32_50 : BitVec 32 := 1#32
  let v131 : BitVec 32 := Scalar.subi v116 c1_i32_50
  let v132 : BitVec 32 := Scalar.select v130 v131 v116
  let v133 : BitVec 32 := Scalar.subi v132 c0_i32_52
  let c1_i32_53 : BitVec 32 := 1#32
  let v135 : BitVec 32 := Scalar.divsi v133 c1_i32_53
  let v136 : BitVec 32 := Scalar.muli v135 c1_i32_53
  let v137 : BitVec 32 := Scalar.addi c0_i32_52 v136
  let v134 : BitVec 32 := Scalar.addi c0_i32_52 v133
  let c1_i32_55 : BitVec 32 := 1#32
  ⟨v137, v134, c1_i32_55⟩
def k0_mult9 (i : grid0.Coords) (k0_t2 : Fin (k0_t2_loop i).trips) : BitVec 32 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c0_i32_45 : BitVec 32 := 0#32
  let v117 : BitVec 1 := Scalar.cmpi .sgt v102 c0_i32_45
  let v118 : BitVec 32 := Scalar.extui v117
  let c0_i32_46 : BitVec 32 := 0#32
  let v119 : BitVec 1 := Scalar.cmpi .slt v102 c0_i32_46
  let v120 : BitVec 32 := Scalar.extui v119
  let v121 : BitVec 32 := Scalar.subi v118 v120
  let c4_i32_44 : BitVec 32 := 4#32
  let c0_i32_47 : BitVec 32 := 0#32
  let v122 : BitVec 1 := Scalar.cmpi .sgt c4_i32_44 c0_i32_47
  let v123 : BitVec 32 := Scalar.extui v122
  let c0_i32_48 : BitVec 32 := 0#32
  let v124 : BitVec 1 := Scalar.cmpi .slt c4_i32_44 c0_i32_48
  let v125 : BitVec 32 := Scalar.extui v124
  let v126 : BitVec 32 := Scalar.subi v123 v125
  let v127 : BitVec 1 := Scalar.cmpi .ne v121 v126
  let v128 : BitVec 32 := Scalar.remsi v102 c4_i32_44
  let c0_i32_49 : BitVec 32 := 0#32
  let v129 : BitVec 1 := Scalar.cmpi .ne v128 c0_i32_49
  let v130 : BitVec 1 := Scalar.andi v127 v129
  let v116 : BitVec 32 := Scalar.divsi v102 c4_i32_44
  let c1_i32_50 : BitVec 32 := 1#32
  let v131 : BitVec 32 := Scalar.subi v116 c1_i32_50
  let v132 : BitVec 32 := Scalar.select v130 v131 v116
  let v133 : BitVec 32 := Scalar.subi v132 c0_i32_52
  let c1_i32_53 : BitVec 32 := 1#32
  let v135 : BitVec 32 := Scalar.divsi v133 c1_i32_53
  let v136 : BitVec 32 := Scalar.muli v135 c1_i32_53
  let v137 : BitVec 32 := Scalar.addi c0_i32_52 v136
  let c1_i32_55 : BitVec 32 := 1#32
  let arg10 : BitVec 32 := Scf.iv v137 c1_i32_55 k0_t2
  let c4_i32_65 : BitVec 32 := 4#32
  let v144 : BitVec 32 := Scalar.muli arg10 c4_i32_65
  let v145 : BitVec 32 := Scalar.subi v143 v144
  let c0_i32_69 : BitVec 32 := 0#32
  let v148 : BitVec 32 := Scalar.subi v145 c0_i32_69
  let c256_i32_70 : BitVec 32 := 256#32
  let v149 : BitVec 32 := Scalar.muli v148 c256_i32_70
  v149
def k0_off4 (i : grid0.Coords) (k0_t2 : Fin (k0_t2_loop i).trips) (c0_i32_69 : BitVec 32) : Fin 2 → Nat :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c0_i32_45 : BitVec 32 := 0#32
  let v117 : BitVec 1 := Scalar.cmpi .sgt v102 c0_i32_45
  let v118 : BitVec 32 := Scalar.extui v117
  let c0_i32_46 : BitVec 32 := 0#32
  let v119 : BitVec 1 := Scalar.cmpi .slt v102 c0_i32_46
  let v120 : BitVec 32 := Scalar.extui v119
  let v121 : BitVec 32 := Scalar.subi v118 v120
  let c4_i32_44 : BitVec 32 := 4#32
  let c0_i32_47 : BitVec 32 := 0#32
  let v122 : BitVec 1 := Scalar.cmpi .sgt c4_i32_44 c0_i32_47
  let v123 : BitVec 32 := Scalar.extui v122
  let c0_i32_48 : BitVec 32 := 0#32
  let v124 : BitVec 1 := Scalar.cmpi .slt c4_i32_44 c0_i32_48
  let v125 : BitVec 32 := Scalar.extui v124
  let v126 : BitVec 32 := Scalar.subi v123 v125
  let v127 : BitVec 1 := Scalar.cmpi .ne v121 v126
  let v128 : BitVec 32 := Scalar.remsi v102 c4_i32_44
  let c0_i32_49 : BitVec 32 := 0#32
  let v129 : BitVec 1 := Scalar.cmpi .ne v128 c0_i32_49
  let v130 : BitVec 1 := Scalar.andi v127 v129
  let v116 : BitVec 32 := Scalar.divsi v102 c4_i32_44
  let c1_i32_50 : BitVec 32 := 1#32
  let v131 : BitVec 32 := Scalar.subi v116 c1_i32_50
  let v132 : BitVec 32 := Scalar.select v130 v131 v116
  let v133 : BitVec 32 := Scalar.subi v132 c0_i32_52
  let c1_i32_53 : BitVec 32 := 1#32
  let v135 : BitVec 32 := Scalar.divsi v133 c1_i32_53
  let v136 : BitVec 32 := Scalar.muli v135 c1_i32_53
  let v137 : BitVec 32 := Scalar.addi c0_i32_52 v136
  let c1_i32_55 : BitVec 32 := 1#32
  let arg10 : BitVec 32 := Scf.iv v137 c1_i32_55 k0_t2
  let c4_i32_65 : BitVec 32 := 4#32
  let v144 : BitVec 32 := Scalar.muli arg10 c4_i32_65
  let v145 : BitVec 32 := Scalar.subi v143 v144
  let v148 : BitVec 32 := Scalar.subi v145 c0_i32_69
  let c256_i32_70 : BitVec 32 := 256#32
  let v149 : BitVec 32 := Scalar.muli v148 c256_i32_70
  let v150 : BitVec 32 := v149
  let v151 : Index := Scalar.indexCast v150
  let c0_71 : Index := 0#32
  ![v151.toNat, 0]
def k0_mult10 (i : grid0.Coords) (k0_t2 : Fin (k0_t2_loop i).trips) : BitVec 32 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c0_i32_45 : BitVec 32 := 0#32
  let v117 : BitVec 1 := Scalar.cmpi .sgt v102 c0_i32_45
  let v118 : BitVec 32 := Scalar.extui v117
  let c0_i32_46 : BitVec 32 := 0#32
  let v119 : BitVec 1 := Scalar.cmpi .slt v102 c0_i32_46
  let v120 : BitVec 32 := Scalar.extui v119
  let v121 : BitVec 32 := Scalar.subi v118 v120
  let c4_i32_44 : BitVec 32 := 4#32
  let c0_i32_47 : BitVec 32 := 0#32
  let v122 : BitVec 1 := Scalar.cmpi .sgt c4_i32_44 c0_i32_47
  let v123 : BitVec 32 := Scalar.extui v122
  let c0_i32_48 : BitVec 32 := 0#32
  let v124 : BitVec 1 := Scalar.cmpi .slt c4_i32_44 c0_i32_48
  let v125 : BitVec 32 := Scalar.extui v124
  let v126 : BitVec 32 := Scalar.subi v123 v125
  let v127 : BitVec 1 := Scalar.cmpi .ne v121 v126
  let v128 : BitVec 32 := Scalar.remsi v102 c4_i32_44
  let c0_i32_49 : BitVec 32 := 0#32
  let v129 : BitVec 1 := Scalar.cmpi .ne v128 c0_i32_49
  let v130 : BitVec 1 := Scalar.andi v127 v129
  let v116 : BitVec 32 := Scalar.divsi v102 c4_i32_44
  let c1_i32_50 : BitVec 32 := 1#32
  let v131 : BitVec 32 := Scalar.subi v116 c1_i32_50
  let v132 : BitVec 32 := Scalar.select v130 v131 v116
  let v133 : BitVec 32 := Scalar.subi v132 c0_i32_52
  let c1_i32_53 : BitVec 32 := 1#32
  let v135 : BitVec 32 := Scalar.divsi v133 c1_i32_53
  let v136 : BitVec 32 := Scalar.muli v135 c1_i32_53
  let v137 : BitVec 32 := Scalar.addi c0_i32_52 v136
  let c1_i32_55 : BitVec 32 := 1#32
  let arg10 : BitVec 32 := Scf.iv v137 c1_i32_55 k0_t2
  let c4_i32_65 : BitVec 32 := 4#32
  let v144 : BitVec 32 := Scalar.muli arg10 c4_i32_65
  let v145 : BitVec 32 := Scalar.subi v143 v144
  let c1_i32_81 : BitVec 32 := 1#32
  let v182 : BitVec 32 := Scalar.subi v145 c1_i32_81
  let c256_i32_82 : BitVec 32 := 256#32
  let v183 : BitVec 32 := Scalar.muli v182 c256_i32_82
  v183
def k0_mult11 (i : grid0.Coords) (k0_t2 : Fin (k0_t2_loop i).trips) : BitVec 32 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c0_i32_45 : BitVec 32 := 0#32
  let v117 : BitVec 1 := Scalar.cmpi .sgt v102 c0_i32_45
  let v118 : BitVec 32 := Scalar.extui v117
  let c0_i32_46 : BitVec 32 := 0#32
  let v119 : BitVec 1 := Scalar.cmpi .slt v102 c0_i32_46
  let v120 : BitVec 32 := Scalar.extui v119
  let v121 : BitVec 32 := Scalar.subi v118 v120
  let c4_i32_44 : BitVec 32 := 4#32
  let c0_i32_47 : BitVec 32 := 0#32
  let v122 : BitVec 1 := Scalar.cmpi .sgt c4_i32_44 c0_i32_47
  let v123 : BitVec 32 := Scalar.extui v122
  let c0_i32_48 : BitVec 32 := 0#32
  let v124 : BitVec 1 := Scalar.cmpi .slt c4_i32_44 c0_i32_48
  let v125 : BitVec 32 := Scalar.extui v124
  let v126 : BitVec 32 := Scalar.subi v123 v125
  let v127 : BitVec 1 := Scalar.cmpi .ne v121 v126
  let v128 : BitVec 32 := Scalar.remsi v102 c4_i32_44
  let c0_i32_49 : BitVec 32 := 0#32
  let v129 : BitVec 1 := Scalar.cmpi .ne v128 c0_i32_49
  let v130 : BitVec 1 := Scalar.andi v127 v129
  let v116 : BitVec 32 := Scalar.divsi v102 c4_i32_44
  let c1_i32_50 : BitVec 32 := 1#32
  let v131 : BitVec 32 := Scalar.subi v116 c1_i32_50
  let v132 : BitVec 32 := Scalar.select v130 v131 v116
  let v133 : BitVec 32 := Scalar.subi v132 c0_i32_52
  let c1_i32_53 : BitVec 32 := 1#32
  let v135 : BitVec 32 := Scalar.divsi v133 c1_i32_53
  let v136 : BitVec 32 := Scalar.muli v135 c1_i32_53
  let v137 : BitVec 32 := Scalar.addi c0_i32_52 v136
  let c1_i32_55 : BitVec 32 := 1#32
  let arg10 : BitVec 32 := Scf.iv v137 c1_i32_55 k0_t2
  let c4_i32_65 : BitVec 32 := 4#32
  let v144 : BitVec 32 := Scalar.muli arg10 c4_i32_65
  let v145 : BitVec 32 := Scalar.subi v143 v144
  let c2_i32_93 : BitVec 32 := 2#32
  let v216 : BitVec 32 := Scalar.subi v145 c2_i32_93
  let c256_i32_94 : BitVec 32 := 256#32
  let v217 : BitVec 32 := Scalar.muli v216 c256_i32_94
  v217
def k0_mult12 (i : grid0.Coords) (k0_t2 : Fin (k0_t2_loop i).trips) : BitVec 32 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c0_i32_45 : BitVec 32 := 0#32
  let v117 : BitVec 1 := Scalar.cmpi .sgt v102 c0_i32_45
  let v118 : BitVec 32 := Scalar.extui v117
  let c0_i32_46 : BitVec 32 := 0#32
  let v119 : BitVec 1 := Scalar.cmpi .slt v102 c0_i32_46
  let v120 : BitVec 32 := Scalar.extui v119
  let v121 : BitVec 32 := Scalar.subi v118 v120
  let c4_i32_44 : BitVec 32 := 4#32
  let c0_i32_47 : BitVec 32 := 0#32
  let v122 : BitVec 1 := Scalar.cmpi .sgt c4_i32_44 c0_i32_47
  let v123 : BitVec 32 := Scalar.extui v122
  let c0_i32_48 : BitVec 32 := 0#32
  let v124 : BitVec 1 := Scalar.cmpi .slt c4_i32_44 c0_i32_48
  let v125 : BitVec 32 := Scalar.extui v124
  let v126 : BitVec 32 := Scalar.subi v123 v125
  let v127 : BitVec 1 := Scalar.cmpi .ne v121 v126
  let v128 : BitVec 32 := Scalar.remsi v102 c4_i32_44
  let c0_i32_49 : BitVec 32 := 0#32
  let v129 : BitVec 1 := Scalar.cmpi .ne v128 c0_i32_49
  let v130 : BitVec 1 := Scalar.andi v127 v129
  let v116 : BitVec 32 := Scalar.divsi v102 c4_i32_44
  let c1_i32_50 : BitVec 32 := 1#32
  let v131 : BitVec 32 := Scalar.subi v116 c1_i32_50
  let v132 : BitVec 32 := Scalar.select v130 v131 v116
  let v133 : BitVec 32 := Scalar.subi v132 c0_i32_52
  let c1_i32_53 : BitVec 32 := 1#32
  let v135 : BitVec 32 := Scalar.divsi v133 c1_i32_53
  let v136 : BitVec 32 := Scalar.muli v135 c1_i32_53
  let v137 : BitVec 32 := Scalar.addi c0_i32_52 v136
  let c1_i32_55 : BitVec 32 := 1#32
  let arg10 : BitVec 32 := Scf.iv v137 c1_i32_55 k0_t2
  let c4_i32_65 : BitVec 32 := 4#32
  let v144 : BitVec 32 := Scalar.muli arg10 c4_i32_65
  let v145 : BitVec 32 := Scalar.subi v143 v144
  let c3_i32 : BitVec 32 := 3#32
  let v250 : BitVec 32 := Scalar.subi v145 c3_i32
  let c256_i32_105 : BitVec 32 := 256#32
  let v251 : BitVec 32 := Scalar.muli v250 c256_i32_105
  v251
def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SbfIdeal.lean ====
abbrev S16384x3840 : Shape := ⟨2, ![16384, 3840]⟩
abbrev S256x256 : Shape := ⟨2, ![256, 256]⟩
abbrev S16384x512 : Shape := ⟨2, ![16384, 512]⟩
abbrev S512x128 : Shape := ⟨2, ![512, 128]⟩
abbrev S16384x128 : Shape := ⟨2, ![16384, 128]⟩
abbrev S512x256 : Shape := ⟨2, ![512, 256]⟩
abbrev S256x128 : Shape := ⟨2, ![256, 128]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S16384x3840, .bf16⟩
  | .hbm, ⟨1, _⟩ => ⟨S256x256, .i32⟩
  | .hbm, ⟨2, _⟩ => ⟨S256x256, .i32⟩
  | .hbm, ⟨3, _⟩ => ⟨S256x256, .i1⟩
  | .hbm, ⟨4, _⟩ => ⟨S256x256, .f32⟩
  | .hbm, ⟨5, _⟩ => ⟨S256x256, .bf16⟩
  | .hbm, ⟨6, _⟩ => ⟨S16384x512, .f32⟩
  | .hbm, ⟨7, _⟩ => ⟨S16384x512, .f32⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x256, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | _, _ => ⟨S16384x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5_0 : Ref sig .tc := ⟨.hbm, 6, rfl⟩
abbrev main_v5_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F] [Named F]

def κ : String → Option EReal := fun
  | "scale2" => some ((-((11863283 / 134217728) * (Real.log 2)⁻¹) : ℝ) : EReal)
  | _ => none

abbrev grid0 : Pipeline.Grid := ⟨2, ![4, 32], ![false, false]⟩

def k0_mult1 (i : grid0.Coords) : BitVec 32 :=
  let arg1 : BitVec 32 := BitVec.ofNat 32 (i 1).val
  let c2_i32 : BitVec 32 := 2#32
  let v10 : BitVec 32 := Scalar.muli arg1 c2_i32
  let c1_i32 : BitVec 32 := 1#32
  let v11 : BitVec 32 := Scalar.addi v10 c1_i32
  let c256_i32 : BitVec 32 := 256#32
  let v12 : BitVec 32 := Scalar.muli v11 c256_i32
  v12
def k0_off1 (i : grid0.Coords) (c1_i32 : BitVec 32) : Fin 2 → Nat :=
  let arg1 : BitVec 32 := BitVec.ofNat 32 (i 1).val
  let c2_i32 : BitVec 32 := 2#32
  let v10 : BitVec 32 := Scalar.muli arg1 c2_i32
  let v11 : BitVec 32 := Scalar.addi v10 c1_i32
  let c256_i32 : BitVec 32 := 256#32
  let v12 : BitVec 32 := Scalar.muli v11 c256_i32
  let v13 : BitVec 32 := v12
  let v14 : Index := Scalar.indexCast v13
  let c0_4 : Index := 0#32
  ![v14.toNat, 0]
def k0_mult2 (i : grid0.Coords) : BitVec 32 :=
  let arg1 : BitVec 32 := BitVec.ofNat 32 (i 1).val
  let c2_i32_17 : BitVec 32 := 2#32
  let v53 : BitVec 32 := Scalar.muli arg1 c2_i32_17
  let c0_i32 : BitVec 32 := 0#32
  let v54 : BitVec 32 := Scalar.addi v53 c0_i32
  let c256_i32_18 : BitVec 32 := 256#32
  let v55 : BitVec 32 := Scalar.muli v54 c256_i32_18
  v55
def k0_cond1 (i : grid0.Coords) : BitVec 1 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let c0_i32_42 : BitVec 32 := 0#32
  let v113 : BitVec 1 := Scalar.cmpi .ne v112 c0_i32_42
  let v114 : BitVec 32 := Scalar.extui v113
  let c0_i32_43 : BitVec 32 := 0#32
  let v115 : BitVec 1 := Scalar.cmpi .ne v114 c0_i32_43
  v115

def k0_mult3 (i : grid0.Coords) : BitVec 32 :=
  let arg1 : BitVec 32 := BitVec.ofNat 32 (i 1).val
  let c2_i32_36 : BitVec 32 := 2#32
  let v102 : BitVec 32 := Scalar.muli arg1 c2_i32_36
  let c1_i32_64 : BitVec 32 := 1#32
  let v142 : BitVec 32 := Scalar.subi v102 c1_i32_64
  let c0_i32_68 : BitVec 32 := 0#32
  let v145 : BitVec 32 := Scalar.subi v142 c0_i32_68
  let c256_i32_69 : BitVec 32 := 256#32
  let v146 : BitVec 32 := Scalar.muli v145 c256_i32_69
  v146
def k0_off2 (i : grid0.Coords) (c0_i32_68 : BitVec 32) : Fin 2 → Nat :=
  let arg1 : BitVec 32 := BitVec.ofNat 32 (i 1).val
  let c2_i32_36 : BitVec 32 := 2#32
  let v102 : BitVec 32 := Scalar.muli arg1 c2_i32_36
  let c1_i32_64 : BitVec 32 := 1#32
  let v142 : BitVec 32 := Scalar.subi v102 c1_i32_64
  let v145 : BitVec 32 := Scalar.subi v142 c0_i32_68
  let c256_i32_69 : BitVec 32 := 256#32
  let v146 : BitVec 32 := Scalar.muli v145 c256_i32_69
  let v147 : BitVec 32 := v146
  let v148 : Index := Scalar.indexCast v147
  let c0_70 : Index := 0#32
  ![v148.toNat, 0]
def k0_mult4 (i : grid0.Coords) : BitVec 32 :=
  let arg1 : BitVec 32 := BitVec.ofNat 32 (i 1).val
  let c2_i32_36 : BitVec 32 := 2#32
  let v102 : BitVec 32 := Scalar.muli arg1 c2_i32_36
  let c1_i32_64 : BitVec 32 := 1#32
  let v142 : BitVec 32 := Scalar.subi v102 c1_i32_64
  let c1_i32_80 : BitVec 32 := 1#32
  let v179 : BitVec 32 := Scalar.subi v142 c1_i32_80
  let c256_i32_81 : BitVec 32 := 256#32
  let v180 : BitVec 32 := Scalar.muli v179 c256_i32_81
  v180
@[reducible] def k0_t1_loop (i : grid0.Coords) : Scf.Loop 32 :=
  let c0_i32_52 : BitVec 32 := 0#32
  let arg1 : BitVec 32 := BitVec.ofNat 32 (i 1).val
  let c2_i32_36 : BitVec 32 := 2#32
  let v102 : BitVec 32 := Scalar.muli arg1 c2_i32_36
  let c0_i32_45 : BitVec 32 := 0#32
  let v117 : BitVec 1 := Scalar.cmpi .sgt v102 c0_i32_45
  let v118 : BitVec 32 := Scalar.extui v117
  let c0_i32_46 : BitVec 32 := 0#32
  let v119 : BitVec 1 := Scalar.cmpi .slt v102 c0_i32_46
  let v120 : BitVec 32 := Scalar.extui v119
  let v121 : BitVec 32 := Scalar.subi v118 v120
  let c4_i32_44 : BitVec 32 := 4#32
  let c0_i32_47 : BitVec 32 := 0#32
  let v122 : BitVec 1 := Scalar.cmpi .sgt c4_i32_44 c0_i32_47
  let v123 : BitVec 32 := Scalar.extui v122
  let c0_i32_48 : BitVec 32 := 0#32
  let v124 : BitVec 1 := Scalar.cmpi .slt c4_i32_44 c0_i32_48
  let v125 : BitVec 32 := Scalar.extui v124
  let v126 : BitVec 32 := Scalar.subi v123 v125
  let v127 : BitVec 1 := Scalar.cmpi .ne v121 v126
  let v128 : BitVec 32 := Scalar.remsi v102 c4_i32_44
  let c0_i32_49 : BitVec 32 := 0#32
  let v129 : BitVec 1 := Scalar.cmpi .ne v128 c0_i32_49
  let v130 : BitVec 1 := Scalar.andi v127 v129
  let v116 : BitVec 32 := Scalar.divsi v102 c4_i32_44
  let c1_i32_50 : BitVec 32 := 1#32
  let v131 : BitVec 32 := Scalar.subi v116 c1_i32_50
  let v132 : BitVec 32 := Scalar.select v130 v131 v116
  let v133 : BitVec 32 := Scalar.subi v132 c0_i32_52
  let c1_i32_53 : BitVec 32 := 1#32
  let v135 : BitVec 32 := Scalar.divsi v133 c1_i32_53
  let v136 : BitVec 32 := Scalar.muli v135 c1_i32_53
  let v137 : BitVec 32 := Scalar.addi c0_i32_52 v136
  let c1_i32_54 : BitVec 32 := 1#32
  ⟨c0_i32_52, v137, c1_i32_54⟩
def k0_mult5 (i : grid0.Coords) (k0_t1 : Fin (k0_t1_loop i).trips) : BitVec 32 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c1_i32_54 : BitVec 32 := 1#32
  let arg10 : BitVec 32 := Scf.iv c0_i32_52 c1_i32_54 k0_t1
  let c4_i32_65 : BitVec 32 := 4#32
  let v144 : BitVec 32 := Scalar.muli arg10 c4_i32_65
  let v145 : BitVec 32 := Scalar.subi v143 v144
  let c0_i32_69 : BitVec 32 := 0#32
  let v148 : BitVec 32 := Scalar.subi v145 c0_i32_69
  let c256_i32_70 : BitVec 32 := 256#32
  let v149 : BitVec 32 := Scalar.muli v148 c256_i32_70
  v149
def k0_off3 (i : grid0.Coords) (k0_t1 : Fin (k0_t1_loop i).trips) (c0_i32_69 : BitVec 32) : Fin 2 → Nat :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c1_i32_54 : BitVec 32 := 1#32
  let arg10 : BitVec 32 := Scf.iv c0_i32_52 c1_i32_54 k0_t1
  let c4_i32_65 : BitVec 32 := 4#32
  let v144 : BitVec 32 := Scalar.muli arg10 c4_i32_65
  let v145 : BitVec 32 := Scalar.subi v143 v144
  let v148 : BitVec 32 := Scalar.subi v145 c0_i32_69
  let c256_i32_70 : BitVec 32 := 256#32
  let v149 : BitVec 32 := Scalar.muli v148 c256_i32_70
  let v150 : BitVec 32 := v149
  let v151 : Index := Scalar.indexCast v150
  let c0_71 : Index := 0#32
  ![v151.toNat, 0]
def k0_mult6 (i : grid0.Coords) (k0_t1 : Fin (k0_t1_loop i).trips) : BitVec 32 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c1_i32_54 : BitVec 32 := 1#32
  let arg10 : BitVec 32 := Scf.iv c0_i32_52 c1_i32_54 k0_t1
  let c4_i32_65 : BitVec 32 := 4#32
  let v144 : BitVec 32 := Scalar.muli arg10 c4_i32_65
  let v145 : BitVec 32 := Scalar.subi v143 v144
  let c1_i32_81 : BitVec 32 := 1#32
  let v182 : BitVec 32 := Scalar.subi v145 c1_i32_81
  let c256_i32_82 : BitVec 32 := 256#32
  let v183 : BitVec 32 := Scalar.muli v182 c256_i32_82
  v183
def k0_mult7 (i : grid0.Coords) (k0_t1 : Fin (k0_t1_loop i).trips) : BitVec 32 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c1_i32_54 : BitVec 32 := 1#32
  let arg10 : BitVec 32 := Scf.iv c0_i32_52 c1_i32_54 k0_t1
  let c4_i32_65 : BitVec 32 := 4#32
  let v144 : BitVec 32 := Scalar.muli arg10 c4_i32_65
  let v145 : BitVec 32 := Scalar.subi v143 v144
  let c2_i32_93 : BitVec 32 := 2#32
  let v216 : BitVec 32 := Scalar.subi v145 c2_i32_93
  let c256_i32_94 : BitVec 32 := 256#32
  let v217 : BitVec 32 := Scalar.muli v216 c256_i32_94
  v217
def k0_mult8 (i : grid0.Coords) (k0_t1 : Fin (k0_t1_loop i).trips) : BitVec 32 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c1_i32_54 : BitVec 32 := 1#32
  let arg10 : BitVec 32 := Scf.iv c0_i32_52 c1_i32_54 k0_t1
  let c4_i32_65 : BitVec 32 := 4#32
  let v144 : BitVec 32 := Scalar.muli arg10 c4_i32_65
  let v145 : BitVec 32 := Scalar.subi v143 v144
  let c3_i32 : BitVec 32 := 3#32
  let v250 : BitVec 32 := Scalar.subi v145 c3_i32
  let c256_i32_105 : BitVec 32 := 256#32
  let v251 : BitVec 32 := Scalar.muli v250 c256_i32_105
  v251
@[reducible] def k0_t2_loop (i : grid0.Coords) : Scf.Loop 32 :=
  let c0_i32_52 : BitVec 32 := 0#32
  let arg1 : BitVec 32 := BitVec.ofNat 32 (i 1).val
  let c2_i32_36 : BitVec 32 := 2#32
  let v102 : BitVec 32 := Scalar.muli arg1 c2_i32_36
  let c0_i32_45 : BitVec 32 := 0#32
  let v117 : BitVec 1 := Scalar.cmpi .sgt v102 c0_i32_45
  let v118 : BitVec 32 := Scalar.extui v117
  let c0_i32_46 : BitVec 32 := 0#32
  let v119 : BitVec 1 := Scalar.cmpi .slt v102 c0_i32_46
  let v120 : BitVec 32 := Scalar.extui v119
  let v121 : BitVec 32 := Scalar.subi v118 v120
  let c4_i32_44 : BitVec 32 := 4#32
  let c0_i32_47 : BitVec 32 := 0#32
  let v122 : BitVec 1 := Scalar.cmpi .sgt c4_i32_44 c0_i32_47
  let v123 : BitVec 32 := Scalar.extui v122
  let c0_i32_48 : BitVec 32 := 0#32
  let v124 : BitVec 1 := Scalar.cmpi .slt c4_i32_44 c0_i32_48
  let v125 : BitVec 32 := Scalar.extui v124
  let v126 : BitVec 32 := Scalar.subi v123 v125
  let v127 : BitVec 1 := Scalar.cmpi .ne v121 v126
  let v128 : BitVec 32 := Scalar.remsi v102 c4_i32_44
  let c0_i32_49 : BitVec 32 := 0#32
  let v129 : BitVec 1 := Scalar.cmpi .ne v128 c0_i32_49
  let v130 : BitVec 1 := Scalar.andi v127 v129
  let v116 : BitVec 32 := Scalar.divsi v102 c4_i32_44
  let c1_i32_50 : BitVec 32 := 1#32
  let v131 : BitVec 32 := Scalar.subi v116 c1_i32_50
  let v132 : BitVec 32 := Scalar.select v130 v131 v116
  let v133 : BitVec 32 := Scalar.subi v132 c0_i32_52
  let c1_i32_53 : BitVec 32 := 1#32
  let v135 : BitVec 32 := Scalar.divsi v133 c1_i32_53
  let v136 : BitVec 32 := Scalar.muli v135 c1_i32_53
  let v137 : BitVec 32 := Scalar.addi c0_i32_52 v136
  let v134 : BitVec 32 := Scalar.addi c0_i32_52 v133
  let c1_i32_55 : BitVec 32 := 1#32
  ⟨v137, v134, c1_i32_55⟩
def k0_mult9 (i : grid0.Coords) (k0_t2 : Fin (k0_t2_loop i).trips) : BitVec 32 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c0_i32_45 : BitVec 32 := 0#32
  let v117 : BitVec 1 := Scalar.cmpi .sgt v102 c0_i32_45
  let v118 : BitVec 32 := Scalar.extui v117
  let c0_i32_46 : BitVec 32 := 0#32
  let v119 : BitVec 1 := Scalar.cmpi .slt v102 c0_i32_46
  let v120 : BitVec 32 := Scalar.extui v119
  let v121 : BitVec 32 := Scalar.subi v118 v120
  let c4_i32_44 : BitVec 32 := 4#32
  let c0_i32_47 : BitVec 32 := 0#32
  let v122 : BitVec 1 := Scalar.cmpi .sgt c4_i32_44 c0_i32_47
  let v123 : BitVec 32 := Scalar.extui v122
  let c0_i32_48 : BitVec 32 := 0#32
  let v124 : BitVec 1 := Scalar.cmpi .slt c4_i32_44 c0_i32_48
  let v125 : BitVec 32 := Scalar.extui v124
  let v126 : BitVec 32 := Scalar.subi v123 v125
  let v127 : BitVec 1 := Scalar.cmpi .ne v121 v126
  let v128 : BitVec 32 := Scalar.remsi v102 c4_i32_44
  let c0_i32_49 : BitVec 32 := 0#32
  let v129 : BitVec 1 := Scalar.cmpi .ne v128 c0_i32_49
  let v130 : BitVec 1 := Scalar.andi v127 v129
  let v116 : BitVec 32 := Scalar.divsi v102 c4_i32_44
  let c1_i32_50 : BitVec 32 := 1#32
  let v131 : BitVec 32 := Scalar.subi v116 c1_i32_50
  let v132 : BitVec 32 := Scalar.select v130 v131 v116
  let v133 : BitVec 32 := Scalar.subi v132 c0_i32_52
  let c1_i32_53 : BitVec 32 := 1#32
  let v135 : BitVec 32 := Scalar.divsi v133 c1_i32_53
  let v136 : BitVec 32 := Scalar.muli v135 c1_i32_53
  let v137 : BitVec 32 := Scalar.addi c0_i32_52 v136
  let c1_i32_55 : BitVec 32 := 1#32
  let arg10 : BitVec 32 := Scf.iv v137 c1_i32_55 k0_t2
  let c4_i32_65 : BitVec 32 := 4#32
  let v144 : BitVec 32 := Scalar.muli arg10 c4_i32_65
  let v145 : BitVec 32 := Scalar.subi v143 v144
  let c0_i32_69 : BitVec 32 := 0#32
  let v148 : BitVec 32 := Scalar.subi v145 c0_i32_69
  let c256_i32_70 : BitVec 32 := 256#32
  let v149 : BitVec 32 := Scalar.muli v148 c256_i32_70
  v149
def k0_off4 (i : grid0.Coords) (k0_t2 : Fin (k0_t2_loop i).trips) (c0_i32_69 : BitVec 32) : Fin 2 → Nat :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c0_i32_45 : BitVec 32 := 0#32
  let v117 : BitVec 1 := Scalar.cmpi .sgt v102 c0_i32_45
  let v118 : BitVec 32 := Scalar.extui v117
  let c0_i32_46 : BitVec 32 := 0#32
  let v119 : BitVec 1 := Scalar.cmpi .slt v102 c0_i32_46
  let v120 : BitVec 32 := Scalar.extui v119
  let v121 : BitVec 32 := Scalar.subi v118 v120
  let c4_i32_44 : BitVec 32 := 4#32
  let c0_i32_47 : BitVec 32 := 0#32
  let v122 : BitVec 1 := Scalar.cmpi .sgt c4_i32_44 c0_i32_47
  let v123 : BitVec 32 := Scalar.extui v122
  let c0_i32_48 : BitVec 32 := 0#32
  let v124 : BitVec 1 := Scalar.cmpi .slt c4_i32_44 c0_i32_48
  let v125 : BitVec 32 := Scalar.extui v124
  let v126 : BitVec 32 := Scalar.subi v123 v125
  let v127 : BitVec 1 := Scalar.cmpi .ne v121 v126
  let v128 : BitVec 32 := Scalar.remsi v102 c4_i32_44
  let c0_i32_49 : BitVec 32 := 0#32
  let v129 : BitVec 1 := Scalar.cmpi .ne v128 c0_i32_49
  let v130 : BitVec 1 := Scalar.andi v127 v129
  let v116 : BitVec 32 := Scalar.divsi v102 c4_i32_44
  let c1_i32_50 : BitVec 32 := 1#32
  let v131 : BitVec 32 := Scalar.subi v116 c1_i32_50
  let v132 : BitVec 32 := Scalar.select v130 v131 v116
  let v133 : BitVec 32 := Scalar.subi v132 c0_i32_52
  let c1_i32_53 : BitVec 32 := 1#32
  let v135 : BitVec 32 := Scalar.divsi v133 c1_i32_53
  let v136 : BitVec 32 := Scalar.muli v135 c1_i32_53
  let v137 : BitVec 32 := Scalar.addi c0_i32_52 v136
  let c1_i32_55 : BitVec 32 := 1#32
  let arg10 : BitVec 32 := Scf.iv v137 c1_i32_55 k0_t2
  let c4_i32_65 : BitVec 32 := 4#32
  let v144 : BitVec 32 := Scalar.muli arg10 c4_i32_65
  let v145 : BitVec 32 := Scalar.subi v143 v144
  let v148 : BitVec 32 := Scalar.subi v145 c0_i32_69
  let c256_i32_70 : BitVec 32 := 256#32
  let v149 : BitVec 32 := Scalar.muli v148 c256_i32_70
  let v150 : BitVec 32 := v149
  let v151 : Index := Scalar.indexCast v150
  let c0_71 : Index := 0#32
  ![v151.toNat, 0]
def k0_mult10 (i : grid0.Coords) (k0_t2 : Fin (k0_t2_loop i).trips) : BitVec 32 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c0_i32_45 : BitVec 32 := 0#32
  let v117 : BitVec 1 := Scalar.cmpi .sgt v102 c0_i32_45
  let v118 : BitVec 32 := Scalar.extui v117
  let c0_i32_46 : BitVec 32 := 0#32
  let v119 : BitVec 1 := Scalar.cmpi .slt v102 c0_i32_46
  let v120 : BitVec 32 := Scalar.extui v119
  let v121 : BitVec 32 := Scalar.subi v118 v120
  let c4_i32_44 : BitVec 32 := 4#32
  let c0_i32_47 : BitVec 32 := 0#32
  let v122 : BitVec 1 := Scalar.cmpi .sgt c4_i32_44 c0_i32_47
  let v123 : BitVec 32 := Scalar.extui v122
  let c0_i32_48 : BitVec 32 := 0#32
  let v124 : BitVec 1 := Scalar.cmpi .slt c4_i32_44 c0_i32_48
  let v125 : BitVec 32 := Scalar.extui v124
  let v126 : BitVec 32 := Scalar.subi v123 v125
  let v127 : BitVec 1 := Scalar.cmpi .ne v121 v126
  let v128 : BitVec 32 := Scalar.remsi v102 c4_i32_44
  let c0_i32_49 : BitVec 32 := 0#32
  let v129 : BitVec 1 := Scalar.cmpi .ne v128 c0_i32_49
  let v130 : BitVec 1 := Scalar.andi v127 v129
  let v116 : BitVec 32 := Scalar.divsi v102 c4_i32_44
  let c1_i32_50 : BitVec 32 := 1#32
  let v131 : BitVec 32 := Scalar.subi v116 c1_i32_50
  let v132 : BitVec 32 := Scalar.select v130 v131 v116
  let v133 : BitVec 32 := Scalar.subi v132 c0_i32_52
  let c1_i32_53 : BitVec 32 := 1#32
  let v135 : BitVec 32 := Scalar.divsi v133 c1_i32_53
  let v136 : BitVec 32 := Scalar.muli v135 c1_i32_53
  let v137 : BitVec 32 := Scalar.addi c0_i32_52 v136
  let c1_i32_55 : BitVec 32 := 1#32
  let arg10 : BitVec 32 := Scf.iv v137 c1_i32_55 k0_t2
  let c4_i32_65 : BitVec 32 := 4#32
  let v144 : BitVec 32 := Scalar.muli arg10 c4_i32_65
  let v145 : BitVec 32 := Scalar.subi v143 v144
  let c1_i32_81 : BitVec 32 := 1#32
  let v182 : BitVec 32 := Scalar.subi v145 c1_i32_81
  let c256_i32_82 : BitVec 32 := 256#32
  let v183 : BitVec 32 := Scalar.muli v182 c256_i32_82
  v183
def k0_mult11 (i : grid0.Coords) (k0_t2 : Fin (k0_t2_loop i).trips) : BitVec 32 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c0_i32_45 : BitVec 32 := 0#32
  let v117 : BitVec 1 := Scalar.cmpi .sgt v102 c0_i32_45
  let v118 : BitVec 32 := Scalar.extui v117
  let c0_i32_46 : BitVec 32 := 0#32
  let v119 : BitVec 1 := Scalar.cmpi .slt v102 c0_i32_46
  let v120 : BitVec 32 := Scalar.extui v119
  let v121 : BitVec 32 := Scalar.subi v118 v120
  let c4_i32_44 : BitVec 32 := 4#32
  let c0_i32_47 : BitVec 32 := 0#32
  let v122 : BitVec 1 := Scalar.cmpi .sgt c4_i32_44 c0_i32_47
  let v123 : BitVec 32 := Scalar.extui v122
  let c0_i32_48 : BitVec 32 := 0#32
  let v124 : BitVec 1 := Scalar.cmpi .slt c4_i32_44 c0_i32_48
  let v125 : BitVec 32 := Scalar.extui v124
  let v126 : BitVec 32 := Scalar.subi v123 v125
  let v127 : BitVec 1 := Scalar.cmpi .ne v121 v126
  let v128 : BitVec 32 := Scalar.remsi v102 c4_i32_44
  let c0_i32_49 : BitVec 32 := 0#32
  let v129 : BitVec 1 := Scalar.cmpi .ne v128 c0_i32_49
  let v130 : BitVec 1 := Scalar.andi v127 v129
  let v116 : BitVec 32 := Scalar.divsi v102 c4_i32_44
  let c1_i32_50 : BitVec 32 := 1#32
  let v131 : BitVec 32 := Scalar.subi v116 c1_i32_50
  let v132 : BitVec 32 := Scalar.select v130 v131 v116
  let v133 : BitVec 32 := Scalar.subi v132 c0_i32_52
  let c1_i32_53 : BitVec 32 := 1#32
  let v135 : BitVec 32 := Scalar.divsi v133 c1_i32_53
  let v136 : BitVec 32 := Scalar.muli v135 c1_i32_53
  let v137 : BitVec 32 := Scalar.addi c0_i32_52 v136
  let c1_i32_55 : BitVec 32 := 1#32
  let arg10 : BitVec 32 := Scf.iv v137 c1_i32_55 k0_t2
  let c4_i32_65 : BitVec 32 := 4#32
  let v144 : BitVec 32 := Scalar.muli arg10 c4_i32_65
  let v145 : BitVec 32 := Scalar.subi v143 v144
  let c2_i32_93 : BitVec 32 := 2#32
  let v216 : BitVec 32 := Scalar.subi v145 c2_i32_93
  let c256_i32_94 : BitVec 32 := 256#32
  let v217 : BitVec 32 := Scalar.muli v216 c256_i32_94
  v217
def k0_mult12 (i : grid0.Coords) (k0_t2 : Fin (k0_t2_loop i).trips) : BitVec 32 :=
  let arg1 : BitVec 32 := BitVec.ofNat 32 (i 1).val
  let c2_i32_36 : BitVec 32 := 2#32
  let v102 : BitVec 32 := Scalar.muli arg1 c2_i32_36
  let c4_i32 : BitVec 32 := 4#32
  let c0_i32_37 : BitVec 32 := 0#32
  let v103 : BitVec 1 := Scalar.cmpi .eq c4_i32 c0_i32_37
  let c1_i32_38 : BitVec 32 := 1#32
  let v104 : BitVec 32 := Scalar.select v103 c1_i32_38 c4_i32
  let v105 : BitVec 32 := Scalar.remsi v102 v104
  let c0_i32_40 : BitVec 32 := 0#32
  let v107 : BitVec 1 := Scalar.cmpi .slt v105 c0_i32_40
  let c0_i32_41 : BitVec 32 := 0#32
  let v108 : BitVec 1 := Scalar.cmpi .slt v104 c0_i32_41
  let v109 : BitVec 1 := Scalar.xori v107 v108
  let c0_i32_39 : BitVec 32 := 0#32
  let v106 : BitVec 1 := Scalar.cmpi .ne v105 c0_i32_39
  let v110 : BitVec 1 := Scalar.andi v109 v106
  let v111 : BitVec 32 := Scalar.addi v105 v104
  let v112 : BitVec 32 := Scalar.select v110 v111 v105
  let v142 : BitVec 32 := Scalar.subi v102 v112
  let c1_i32_64 : BitVec 32 := 1#32
  let v143 : BitVec 32 := Scalar.subi v142 c1_i32_64
  let c0_i32_52 : BitVec 32 := 0#32
  let c0_i32_45 : BitVec 32 := 0#32
  let v117 : BitVec 1 := Scalar.cmpi .sgt v102 c0_i32_45
  let v118 : BitVec 32 := Scalar.extui v117
  let c0_i32_46 : BitVec 32 := 0#32
  let v119 : BitVec 1 := Scalar.cmpi .slt v102 c0_i32_46
  let v120 : BitVec 32 := Scalar.extui v119
  let v121 : BitVec 32 := Scalar.subi v118 v120
  let c4_i32_44 : BitVec 32 := 4#32
  let c0_i32_47 : BitVec 32 := 0#32
  let v122 : BitVec 1 := Scalar.cmpi .sgt c4_i32_44 c0_i32_47
  let v123 : BitVec 32 := Scalar.extui v122
  let c0_i32_48 : BitVec 32 := 0#32
  let v124 : BitVec 1 := Scalar.cmpi .slt c4_i32_44 c0_i32_48
  let v125 : BitVec 32 := Scalar.extui v124
  let v126 : BitVec 32 := Scalar.subi v123 v125
  let v127 : BitVec 1 := Scalar.cmpi .ne v121 v126
  let v128 : BitVec 32 := Scalar.remsi v102 c4_i32_44
  let c0_i32_49 : BitVec 32 := 0#32
  let v129 : BitVec 1 := Scalar.cmpi .ne v128 c0_i32_49
  let v130 : BitVec 1 := Scalar.andi v127 v129
  let v116 : BitVec 32 := Scalar.divsi v102 c4_i32_44
  let c1_i32_50 : BitVec 32 := 1#32
  let v131 : BitVec 32 := Scalar.subi v116 c1_i32_50
  let v132 : BitVec 32 := Scalar.select v130 v131 v116
  let v133 : BitVec 32 := Scalar.subi v132 c0_i32_52
  let c1_i32_53 : BitVec 32 := 1#32
  let v135 : BitVec 32 := Scalar.divsi v133 c1_i32_53
  let v136 : BitVec 32 := Scalar.muli v135 c1_i32_53
  let v137 : BitVec 32 := Scalar.addi c0_i32_52 v136
  let c1_i32_55 : BitVec 32 := 1#32
  let arg10 : BitVec 32 := Scf.iv v137 c1_i32_55 k0_t2
  let c4_i32_65 : BitVec 32 := 4#32
  let v144 : BitVec 32 := Scalar.muli arg10 c4_i32_65
  let v145 : BitVec 32 := Scalar.subi v143 v144
  let c3_i32 : BitVec 32 := 3#32
  let v250 : BitVec 32 := Scalar.subi v145 c3_i32
  let c256_i32_105 : BitVec 32 := 256#32
  let v251 : BitVec 32 := Scalar.muli v250 c256_i32_105
  v251
def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SbfRefIdeal.lean ====
abbrev S16384x3840 : Shape := ⟨2, ![16384, 3840]⟩
abbrev S16384x512 : Shape := ⟨2, ![16384, 512]⟩
abbrev S16384x4x128 : Shape := ⟨3, ![16384, 4, 128]⟩
abbrev S4x16384x16384 : Shape := ⟨3, ![4, 16384, 16384]⟩
abbrev S_ : Shape := ⟨0, ![]⟩
abbrev S16384x16384 : Shape := ⟨2, ![16384, 16384]⟩
abbrev S4x128x16384 : Shape := ⟨3, ![4, 128, 16384]⟩
abbrev S4x16384 : Shape := ⟨2, ![4, 16384]⟩
abbrev S16384x4 : Shape := ⟨2, ![16384, 4]⟩

abbrev nBuf : Space → Nat
  | .hbm => 61
  | .vmem => 0
  | .smem => 0
  | _ => 0

abbrev bufTy : (tb : Table) → Fin (tcTables nBuf tb) → BufTy
  | .hbm, ⟨0, _⟩ => ⟨S16384x3840, .bf16⟩
  | .hbm, ⟨1, _⟩ => ⟨S16384x512, .bf16⟩
  | .hbm, ⟨2, _⟩ => ⟨S16384x4x128, .bf16⟩
  | .hbm, ⟨3, _⟩ => ⟨S16384x4x128, .f32⟩
  | .hbm, ⟨4, _⟩ => ⟨S16384x512, .bf16⟩
  | .hbm, ⟨5, _⟩ => ⟨S16384x4x128, .bf16⟩
  | .hbm, ⟨6, _⟩ => ⟨S16384x4x128, .f32⟩
  | .hbm, ⟨7, _⟩ => ⟨S16384x512, .bf16⟩
  | .hbm, ⟨8, _⟩ => ⟨S16384x4x128, .bf16⟩
  | .hbm, ⟨9, _⟩ => ⟨S16384x4x128, .f32⟩
  | .hbm, ⟨10, _⟩ => ⟨S4x16384x16384, .f32⟩
  | .hbm, ⟨11, _⟩ => ⟨S_, .f32⟩
  | .hbm, ⟨12, _⟩ => ⟨S4x16384x16384, .f32⟩
  | .hbm, ⟨13, _⟩ => ⟨S4x16384x16384, .f32⟩
  | .hbm, ⟨14, _⟩ => ⟨S16384x16384, .i32⟩
  | .hbm, ⟨15, _⟩ => ⟨S16384x16384, .i32⟩
  | .hbm, ⟨16, _⟩ => ⟨S16384x16384, .i1⟩
  | .hbm, ⟨17, _⟩ => ⟨S4x16384x16384, .f32⟩
  | .hbm, ⟨18, _⟩ => ⟨S4x16384x16384, .f32⟩
  | .hbm, ⟨19, _⟩ => ⟨S_, .f32⟩
  | .hbm, ⟨20, _⟩ => ⟨S4x16384x16384, .f32⟩
  | .hbm, ⟨21, _⟩ => ⟨S4x16384x16384, .f32⟩
  | .hbm, ⟨22, _⟩ => ⟨S4x16384x16384, .f32⟩
  | .hbm, ⟨23, _⟩ => ⟨S4x16384x16384, .f32⟩
  | .hbm, ⟨24, _⟩ => ⟨S4x16384x16384, .i1⟩
  | .hbm, ⟨25, _⟩ => ⟨S4x16384x16384, .f32⟩
  | .hbm, ⟨26, _⟩ => ⟨S4x16384x16384, .f32⟩
  | .hbm, ⟨27, _⟩ => ⟨S4x16384x16384, .f32⟩
  | .hbm, ⟨28, _⟩ => ⟨S4x16384x16384, .f32⟩
  | .hbm, ⟨29, _⟩ => ⟨S4x16384x16384, .f32⟩
  | .hbm, ⟨30, _⟩ => ⟨S4x16384x16384, .f32⟩
  | .hbm, ⟨31, _⟩ => ⟨S4x16384x16384, .f32⟩
  | .hbm, ⟨32, _⟩ => ⟨S4x16384x16384, .f32⟩
  | .hbm, ⟨33, _⟩ => ⟨S4x16384x16384, .f32⟩
  | .hbm, ⟨34, _⟩ => ⟨S_, .f32⟩
  | .hbm, ⟨35, _⟩ => ⟨S_, .f32⟩
  | .hbm, ⟨36, _⟩ => ⟨S4x16384x16384, .i1⟩
  | .hbm, ⟨37, _⟩ => ⟨S4x16384x16384, .f32⟩
  | .hbm, ⟨38, _⟩ => ⟨S4x16384x16384, .f32⟩
  | .hbm, ⟨39, _⟩ => ⟨S16384x16384, .i1⟩
  | .hbm, ⟨40, _⟩ => ⟨S16384x16384, .f32⟩
  | .hbm, ⟨41, _⟩ => ⟨S4x16384x16384, .f32⟩
  | .hbm, ⟨42, _⟩ => ⟨S4x16384x16384, .f32⟩
  | .hbm, ⟨43, _⟩ => ⟨S4x16384x16384, .f32⟩
  | .hbm, ⟨44, _⟩ => ⟨S_, .f32⟩
  | .hbm, ⟨45, _⟩ => ⟨S_, .f32⟩
  | .hbm, ⟨46, _⟩ => ⟨S4x16384x16384, .i1⟩
  | .hbm, ⟨47, _⟩ => ⟨S4x16384x16384, .f32⟩
  | .hbm, ⟨48, _⟩ => ⟨S4x16384x16384, .f32⟩
  | .hbm, ⟨49, _⟩ => ⟨S4x16384x16384, .f32⟩
  | .hbm, ⟨50, _⟩ => ⟨S4x16384x16384, .bf16⟩
  | .hbm, ⟨51, _⟩ => ⟨S4x16384x16384, .f32⟩
  | .hbm, ⟨52, _⟩ => ⟨S4x128x16384, .f32⟩
  | .hbm, ⟨53, _⟩ => ⟨S16384x4x128, .f32⟩
  | .hbm, ⟨54, _⟩ => ⟨S16384x512, .f32⟩
  | .hbm, ⟨55, _⟩ => ⟨S_, .f32⟩
  | .hbm, ⟨56, _⟩ => ⟨S4x16384, .f32⟩
  | .hbm, ⟨57, _⟩ => ⟨S16384x4, .f32⟩
  | .hbm, ⟨58, _⟩ => ⟨S16384x4, .f32⟩
  | .hbm, ⟨59, _⟩ => ⟨S16384x4x128, .f32⟩
  | .hbm, ⟨60, _⟩ => ⟨S16384x512, .f32⟩
  | _, _ => ⟨S16384x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v16 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩

abbrev nD : Nat := 1
abbrev τ : Topo := Topo.v7x

variable {F : FTy → Type} [FloatOps F]
-- ==== AdRel.lean ====
abbrev S32x12 : Shape := ⟨2, ![32, 12]⟩

abbrev nBuf : Space → Nat
  | .hbm => 7
  | .vmem => 7
  | .smem => 0
  | _ => 0

abbrev bufTy : (tb : Table) → Fin (tcTables nBuf tb) → BufTy
  | .hbm, ⟨0, _⟩ => ⟨S32x12, .f32⟩
  | .hbm, ⟨1, _⟩ => ⟨S32x12, .f32⟩
  | .hbm, ⟨2, _⟩ => ⟨S32x12, .f32⟩
  | .hbm, ⟨3, _⟩ => ⟨S32x12, .f32⟩
  | .hbm, ⟨4, _⟩ => ⟨S32x12, .f32⟩
  | .hbm, ⟨5, _⟩ => ⟨S32x12, .f32⟩
  | .hbm, ⟨6, _⟩ => ⟨S32x12, .f32⟩
  | .local _ .vmem, ⟨0, _⟩ => ⟨S32x12, .f32⟩
  | .local _ .vmem, ⟨1, _⟩ => ⟨S32x12, .f32⟩
  | .local _ .vmem, ⟨2, _⟩ => ⟨S32x12, .f32⟩
  | .local _ .vmem, ⟨3, _⟩ => ⟨S32x12, .f32⟩
  | .local _ .vmem, ⟨4, _⟩ => ⟨S32x12, .f32⟩
  | .local _ .vmem, ⟨5, _⟩ => ⟨S32x12, .f32⟩
  | .local _ .vmem, ⟨6, _⟩ => ⟨S32x12, .f32⟩
  | _, _ => ⟨S32x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdRelIdeal.lean ====
abbrev S32x12 : Shape := ⟨2, ![32, 12]⟩

abbrev nBuf : Space → Nat
  | .hbm => 7
  | .vmem => 7
  | .smem => 0
  | _ => 0

abbrev bufTy : (tb : Table) → Fin (tcTables nBuf tb) → BufTy
  | .hbm, ⟨0, _⟩ => ⟨S32x12, .f32⟩
  | .hbm, ⟨1, _⟩ => ⟨S32x12, .f32⟩
  | .hbm, ⟨2, _⟩ => ⟨S32x12, .f32⟩
  | .hbm, ⟨3, _⟩ => ⟨S32x12, .f32⟩
  | .hbm, ⟨4, _⟩ => ⟨S32x12, .f32⟩
  | .hbm, ⟨5, _⟩ => ⟨S32x12, .f32⟩
  | .hbm, ⟨6, _⟩ => ⟨S32x12, .f32⟩
  | .local _ .vmem, ⟨0, _⟩ => ⟨S32x12, .f32⟩
  | .local _ .vmem, ⟨1, _⟩ => ⟨S32x12, .f32⟩
  | .local _ .vmem, ⟨2, _⟩ => ⟨S32x12, .f32⟩
  | .local _ .vmem, ⟨3, _⟩ => ⟨S32x12, .f32⟩
  | .local _ .vmem, ⟨4, _⟩ => ⟨S32x12, .f32⟩
  | .local _ .vmem, ⟨5, _⟩ => ⟨S32x12, .f32⟩
  | .local _ .vmem, ⟨6, _⟩ => ⟨S32x12, .f32⟩
  | _, _ => ⟨S32x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdRelRefIdeal.lean ====
abbrev S32x12 : Shape := ⟨2, ![32, 12]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x12, .f32⟩
  | .hbm, ⟨1, _⟩ => ⟨S32x12, .f32⟩
  | .hbm, ⟨2, _⟩ => ⟨S32x12, .f32⟩
  | .hbm, ⟨3, _⟩ => ⟨S32x12, .f32⟩
  | .hbm, ⟨4, _⟩ => ⟨S_, .f32⟩
  | .hbm, ⟨5, _⟩ => ⟨S32x12, .f32⟩
  | .hbm, ⟨6, _⟩ => ⟨S32x12, .f32⟩
  | .hbm, ⟨7, _⟩ => ⟨S_, .f32⟩
  | .hbm, ⟨8, _⟩ => ⟨S32x12, .f32⟩
  | .hbm, ⟨9, _⟩ => ⟨S32x12, .f32⟩
  | .hbm, ⟨10, _⟩ => ⟨S32x12, .f32⟩
  | .hbm, ⟨11, _⟩ => ⟨S_, .f32⟩
  | .hbm, ⟨12, _⟩ => ⟨S32x12, .f32⟩
  | .hbm, ⟨13, _⟩ => ⟨S32x12, .f32⟩
  | .hbm, ⟨14, _⟩ => ⟨S32x12, .f32⟩
  | .hbm, ⟨15, _⟩ => ⟨S_, .f32⟩
  | .hbm, ⟨16, _⟩ => ⟨S32x12, .f32⟩
  | .hbm, ⟨17, _⟩ => ⟨S32x12, .f32⟩
  | .hbm, ⟨18, _⟩ => ⟨S32x12, .f32⟩
  | .hbm, ⟨19, _⟩ => ⟨S_, .f32⟩
  | .hbm, ⟨20, _⟩ => ⟨S32x12, .f32⟩
  | .hbm, ⟨21, _⟩ => ⟨S32x12, .f32⟩
  | .hbm, ⟨22, _⟩ => ⟨S_, .f32⟩
  | .hbm, ⟨23, _⟩ => ⟨S32x12, .f32⟩
  | .hbm, ⟨24, _⟩ => ⟨S32x12, .f32⟩
  | .hbm, ⟨25, _⟩ => ⟨S32x12, .f32⟩
  | .hbm, ⟨26, _⟩ => ⟨S_, .f32⟩
  | .hbm, ⟨27, _⟩ => ⟨S32x12, .f32⟩
  | .hbm, ⟨28, _⟩ => ⟨S32x12, .f32⟩
  | .hbm, ⟨29, _⟩ => ⟨S32x12, .f32⟩
  | .hbm, ⟨30, _⟩ => ⟨S_, .f32⟩
  | .hbm, ⟨31, _⟩ => ⟨S32x12, .f32⟩
  | .hbm, ⟨32, _⟩ => ⟨S32x12, .f32⟩
  | .hbm, ⟨33, _⟩ => ⟨S32x12, .f32⟩
  | .hbm, ⟨34, _⟩ => ⟨S_, .f32⟩
  | .hbm, ⟨35, _⟩ => ⟨S32x12, .f32⟩
  | .hbm, ⟨36, _⟩ => ⟨S32x12, .f32⟩
  | _, _ => ⟨S32x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdNormRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdIn.lean ====
abbrev S4096x1056 : Shape := ⟨2, ![4096, 1056]⟩
abbrev S256x1056 : Shape := ⟨2, ![256, 1056]⟩

abbrev nBuf : Space → Nat
  | .hbm => 7
  | .vmem => 14
  | .smem => 0
  | _ => 0

abbrev bufTy : (tb : Table) → Fin (tcTables nBuf tb) → BufTy
  | .hbm, ⟨0, _⟩ => ⟨S4096x1056, .f32⟩
  | .hbm, ⟨1, _⟩ => ⟨S4096x1056, .f32⟩
  | .hbm, ⟨2, _⟩ => ⟨S4096x1056, .f32⟩
  | .hbm, ⟨3, _⟩ => ⟨S4096x1056, .f32⟩
  | .hbm, ⟨4, _⟩ => ⟨S4096x1056, .f32⟩
  | .hbm, ⟨5, _⟩ => ⟨S4096x1056, .f32⟩
  | .hbm, ⟨6, _⟩ => ⟨S4096x1056, .f32⟩
  | .local _ .vmem, ⟨0, _⟩ => ⟨S256x1056, .f32⟩
  | .local _ .vmem, ⟨1, _⟩ => ⟨S256x1056, .f32⟩
  | .local _ .vmem, ⟨2, _⟩ => ⟨S256x1056, .f32⟩
  | .local _ .vmem, ⟨3, _⟩ => ⟨S256x1056, .f32⟩
  | .local _ .vmem, ⟨4, _⟩ => ⟨S256x1056, .f32⟩
  | .local _ .vmem, ⟨5, _⟩ => ⟨S256x1056, .f32⟩
  | .local _ .vmem, ⟨6, _⟩ => ⟨S256x1056, .f32⟩
  | .local _ .vmem, ⟨7, _⟩ => ⟨S256x1056, .f32⟩
  | .local _ .vmem, ⟨8, _⟩ => ⟨S256x1056, .f32⟩
  | .local _ .vmem, ⟨9, _⟩ => ⟨S256x1056, .f32⟩
  | .local _ .vmem, ⟨10, _⟩ => ⟨S256x1056, .f32⟩
  | .local _ .vmem, ⟨11, _⟩ => ⟨S256x1056, .f32⟩
  | .local _ .vmem, ⟨12, _⟩ => ⟨S256x1056, .f32⟩
  | .local _ .vmem, ⟨13, _⟩ => ⟨S256x1056, .f32⟩
  | _, _ => ⟨S4096x1056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1056 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1056 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1056 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1056 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1056 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1056 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1056 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdInIdeal.lean ====
abbrev S4096x1056 : Shape := ⟨2, ![4096, 1056]⟩
abbrev S256x1056 : Shape := ⟨2, ![256, 1056]⟩

abbrev nBuf : Space → Nat
  | .hbm => 7
  | .vmem => 14
  | .smem => 0
  | _ => 0

abbrev bufTy : (tb : Table) → Fin (tcTables nBuf tb) → BufTy
  | .hbm, ⟨0, _⟩ => ⟨S4096x1056, .f32⟩
  | .hbm, ⟨1, _⟩ => ⟨S4096x1056, .f32⟩
  | .hbm, ⟨2, _⟩ => ⟨S4096x1056, .f32⟩
  | .hbm, ⟨3, _⟩ => ⟨S4096x1056, .f32⟩
  | .hbm, ⟨4, _⟩ => ⟨S4096x1056, .f32⟩
  | .hbm, ⟨5, _⟩ => ⟨S4096x1056, .f32⟩
  | .hbm, ⟨6, _⟩ => ⟨S4096x1056, .f32⟩
  | .local _ .vmem, ⟨0, _⟩ => ⟨S256x1056, .f32⟩
  | .local _ .vmem, ⟨1, _⟩ => ⟨S256x1056, .f32⟩
  | .local _ .vmem, ⟨2, _⟩ => ⟨S256x1056, .f32⟩
  | .local _ .vmem, ⟨3, _⟩ => ⟨S256x1056, .f32⟩
  | .local _ .vmem, ⟨4, _⟩ => ⟨S256x1056, .f32⟩
  | .local _ .vmem, ⟨5, _⟩ => ⟨S256x1056, .f32⟩
  | .local _ .vmem, ⟨6, _⟩ => ⟨S256x1056, .f32⟩
  | .local _ .vmem, ⟨7, _⟩ => ⟨S256x1056, .f32⟩
  | .local _ .vmem, ⟨8, _⟩ => ⟨S256x1056, .f32⟩
  | .local _ .vmem, ⟨9, _⟩ => ⟨S256x1056, .f32⟩
  | .local _ .vmem, ⟨10, _⟩ => ⟨S256x1056, .f32⟩
  | .local _ .vmem, ⟨11, _⟩ => ⟨S256x1056, .f32⟩
  | .local _ .vmem, ⟨12, _⟩ => ⟨S256x1056, .f32⟩
  | .local _ .vmem, ⟨13, _⟩ => ⟨S256x1056, .f32⟩
  | _, _ => ⟨S4096x1056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1056 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1056 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1056 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1056 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1056 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1056 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1056 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdInRefIdeal.lean ====
abbrev S4096x1056 : Shape := ⟨2, ![4096, 1056]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1056, .f32⟩
  | .hbm, ⟨1, _⟩ => ⟨S4096x1056, .f32⟩
  | .hbm, ⟨2, _⟩ => ⟨S4096x1056, .f32⟩
  | .hbm, ⟨3, _⟩ => ⟨S4096x1056, .f32⟩
  | .hbm, ⟨4, _⟩ => ⟨S_, .f32⟩
  | .hbm, ⟨5, _⟩ => ⟨S4096x1056, .f32⟩
  | .hbm, ⟨6, _⟩ => ⟨S4096x1056, .f32⟩
  | .hbm, ⟨7, _⟩ => ⟨S_, .f32⟩
  | .hbm, ⟨8, _⟩ => ⟨S4096x1056, .f32⟩
  | .hbm, ⟨9, _⟩ => ⟨S4096x1056, .f32⟩
  | .hbm, ⟨10, _⟩ => ⟨S4096x1056, .f32⟩
  | .hbm, ⟨11, _⟩ => ⟨S_, .f32⟩
  | .hbm, ⟨12, _⟩ => ⟨S4096x1056, .f32⟩
  | .hbm, ⟨13, _⟩ => ⟨S4096x1056, .f32⟩
  | .hbm, ⟨14, _⟩ => ⟨S4096x1056, .f32⟩
  | .hbm, ⟨15, _⟩ => ⟨S_, .f32⟩
  | .hbm, ⟨16, _⟩ => ⟨S4096x1056, .f32⟩
  | .hbm, ⟨17, _⟩ => ⟨S4096x1056, .f32⟩
  | .hbm, ⟨18, _⟩ => ⟨S4096x1056, .f32⟩
  | .hbm, ⟨19, _⟩ => ⟨S_, .f32⟩
  | .hbm, ⟨20, _⟩ => ⟨S4096x1056, .f32⟩
  | .hbm, ⟨21, _⟩ => ⟨S4096x1056, .f32⟩
  | .hbm, ⟨22, _⟩ => ⟨S_, .f32⟩
  | .hbm, ⟨23, _⟩ => ⟨S4096x1056, .f32⟩
  | .hbm, ⟨24, _⟩ => ⟨S4096x1056, .f32⟩
  | .hbm, ⟨25, _⟩ => ⟨S4096x1056, .f32⟩
  | .hbm, ⟨26, _⟩ => ⟨S_, .f32⟩
  | .hbm, ⟨27, _⟩ => ⟨S4096x1056, .f32⟩
  | .hbm, ⟨28, _⟩ => ⟨S4096x1056, .f32⟩
  | .hbm, ⟨29, _⟩ => ⟨S4096x1056, .f32⟩
  | .hbm, ⟨30, _⟩ => ⟨S_, .f32⟩
  | .hbm, ⟨31, _⟩ => ⟨S4096x1056, .f32⟩
  | .hbm, ⟨32, _⟩ => ⟨S4096x1056, .f32⟩
  | .hbm, ⟨33, _⟩ => ⟨S4096x1056, .f32⟩
  | .hbm, ⟨34, _⟩ => ⟨S_, .f32⟩
  | .hbm, ⟨35, _⟩ => ⟨S4096x1056, .f32⟩
  | .hbm, ⟨36, _⟩ => ⟨S4096x1056, .f32⟩
  | _, _ => ⟨S4096x1056, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdGate.lean ====
abbrev S12x128 : Shape := ⟨2, ![12, 128]⟩

abbrev nBuf : Space → Nat
  | .hbm => 7
  | .vmem => 7
  | .smem => 0
  | _ => 0

abbrev bufTy : (tb : Table) → Fin (tcTables nBuf tb) → BufTy
  | .hbm, ⟨0, _⟩ => ⟨S12x128, .f32⟩
  | .hbm, ⟨1, _⟩ => ⟨S12x128, .f32⟩
  | .hbm, ⟨2, _⟩ => ⟨S12x128, .f32⟩
  | .hbm, ⟨3, _⟩ => ⟨S12x128, .f32⟩
  | .hbm, ⟨4, _⟩ => ⟨S12x128, .f32⟩
  | .hbm, ⟨5, _⟩ => ⟨S12x128, .f32⟩
  | .hbm, ⟨6, _⟩ => ⟨S12x128, .f32⟩
  | .local _ .vmem, ⟨0, _⟩ => ⟨S12x128, .f32⟩
  | .local _ .vmem, ⟨1, _⟩ => ⟨S12x128, .f32⟩
  | .local _ .vmem, ⟨2, _⟩ => ⟨S12x128, .f32⟩
  | .local _ .vmem, ⟨3, _⟩ => ⟨S12x128, .f32⟩
  | .local _ .vmem, ⟨4, _⟩ => ⟨S12x128, .f32⟩
  | .local _ .vmem, ⟨5, _⟩ => ⟨S12x128, .f32⟩
  | .local _ .vmem, ⟨6, _⟩ => ⟨S12x128, .f32⟩
  | _, _ => ⟨S12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdGateIdeal.lean ====
abbrev S12x128 : Shape := ⟨2, ![12, 128]⟩

abbrev nBuf : Space → Nat
  | .hbm => 7
  | .vmem => 7
  | .smem => 0
  | _ => 0

abbrev bufTy : (tb : Table) → Fin (tcTables nBuf tb) → BufTy
  | .hbm, ⟨0, _⟩ => ⟨S12x128, .f32⟩
  | .hbm, ⟨1, _⟩ => ⟨S12x128, .f32⟩
  | .hbm, ⟨2, _⟩ => ⟨S12x128, .f32⟩
  | .hbm, ⟨3, _⟩ => ⟨S12x128, .f32⟩
  | .hbm, ⟨4, _⟩ => ⟨S12x128, .f32⟩
  | .hbm, ⟨5, _⟩ => ⟨S12x128, .f32⟩
  | .hbm, ⟨6, _⟩ => ⟨S12x128, .f32⟩
  | .local _ .vmem, ⟨0, _⟩ => ⟨S12x128, .f32⟩
  | .local _ .vmem, ⟨1, _⟩ => ⟨S12x128, .f32⟩
  | .local _ .vmem, ⟨2, _⟩ => ⟨S12x128, .f32⟩
  | .local _ .vmem, ⟨3, _⟩ => ⟨S12x128, .f32⟩
  | .local _ .vmem, ⟨4, _⟩ => ⟨S12x128, .f32⟩
  | .local _ .vmem, ⟨5, _⟩ => ⟨S12x128, .f32⟩
  | .local _ .vmem, ⟨6, _⟩ => ⟨S12x128, .f32⟩
  | _, _ => ⟨S12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdGateRefIdeal.lean ====
abbrev S12x128 : Shape := ⟨2, ![12, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x128, .f32⟩
  | .hbm, ⟨1, _⟩ => ⟨S12x128, .f32⟩
  | .hbm, ⟨2, _⟩ => ⟨S12x128, .f32⟩
  | .hbm, ⟨3, _⟩ => ⟨S12x128, .f32⟩
  | .hbm, ⟨4, _⟩ => ⟨S_, .f32⟩
  | .hbm, ⟨5, _⟩ => ⟨S12x128, .f32⟩
  | .hbm, ⟨6, _⟩ => ⟨S12x128, .f32⟩
  | .hbm, ⟨7, _⟩ => ⟨S_, .f32⟩
  | .hbm, ⟨8, _⟩ => ⟨S12x128, .f32⟩
  | .hbm, ⟨9, _⟩ => ⟨S12x128, .f32⟩
  | .hbm, ⟨10, _⟩ => ⟨S12x128, .f32⟩
  | .hbm, ⟨11, _⟩ => ⟨S_, .f32⟩
  | .hbm, ⟨12, _⟩ => ⟨S12x128, .f32⟩
  | .hbm, ⟨13, _⟩ => ⟨S12x128, .f32⟩
  | .hbm, ⟨14, _⟩ => ⟨S12x128, .f32⟩
  | .hbm, ⟨15, _⟩ => ⟨S_, .f32⟩
  | .hbm, ⟨16, _⟩ => ⟨S12x128, .f32⟩
  | .hbm, ⟨17, _⟩ => ⟨S12x128, .f32⟩
  | .hbm, ⟨18, _⟩ => ⟨S12x128, .f32⟩
  | .hbm, ⟨19, _⟩ => ⟨S_, .f32⟩
  | .hbm, ⟨20, _⟩ => ⟨S12x128, .f32⟩
  | .hbm, ⟨21, _⟩ => ⟨S12x128, .f32⟩
  | .hbm, ⟨22, _⟩ => ⟨S_, .f32⟩
  | .hbm, ⟨23, _⟩ => ⟨S12x128, .f32⟩
  | .hbm, ⟨24, _⟩ => ⟨S12x128, .f32⟩
  | .hbm, ⟨25, _⟩ => ⟨S12x128, .f32⟩
  | .hbm, ⟨26, _⟩ => ⟨S_, .f32⟩
  | .hbm, ⟨27, _⟩ => ⟨S12x128, .f32⟩
  | .hbm, ⟨28, _⟩ => ⟨S12x128, .f32⟩
  | .hbm, ⟨29, _⟩ => ⟨S12x128, .f32⟩
  | .hbm, ⟨30, _⟩ => ⟨S_, .f32⟩
  | .hbm, ⟨31, _⟩ => ⟨S12x128, .f32⟩
  | .hbm, ⟨32, _⟩ => ⟨S12x128, .f32⟩
  | .hbm, ⟨33, _⟩ => ⟨S12x128, .f32⟩
  | .hbm, ⟨34, _⟩ => ⟨S_, .f32⟩
  | .hbm, ⟨35, _⟩ => ⟨S12x128, .f32⟩
  | .hbm, ⟨36, _⟩ => ⟨S12x128, .f32⟩
  | _, _ => ⟨S12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdRet.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdRetIdeal.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdRetRefIdeal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdDil.lean ====
abbrev S1024x128 : Shape := ⟨2, ![1024, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdDilIdeal.lean ====
abbrev S1024x128 : Shape := ⟨2, ![1024, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdDilRefIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdMix.lean ====
abbrev S2048x128 : Shape := ⟨2, ![2048, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdMixIdeal.lean ====
abbrev S2048x128 : Shape := ⟨2, ![2048, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdMixRefIdeal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdOut.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdOutIdeal.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdOutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdUp.lean ====
abbrev S4096x352 : Shape := ⟨2, ![4096, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S4096x352, .f32⟩
  | .hbm, ⟨1, _⟩ => ⟨S4096x352, .f32⟩
  | .hbm, ⟨2, _⟩ => ⟨S4096x352, .f32⟩
  | .hbm, ⟨3, _⟩ => ⟨S4096x352, .f32⟩
  | .hbm, ⟨4, _⟩ => ⟨S4096x352, .f32⟩
  | .hbm, ⟨5, _⟩ => ⟨S4096x352, .f32⟩
  | .hbm, ⟨6, _⟩ => ⟨S4096x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S4096x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdUpIdeal.lean ====
abbrev S4096x352 : Shape := ⟨2, ![4096, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S4096x352, .f32⟩
  | .hbm, ⟨1, _⟩ => ⟨S4096x352, .f32⟩
  | .hbm, ⟨2, _⟩ => ⟨S4096x352, .f32⟩
  | .hbm, ⟨3, _⟩ => ⟨S4096x352, .f32⟩
  | .hbm, ⟨4, _⟩ => ⟨S4096x352, .f32⟩
  | .hbm, ⟨5, _⟩ => ⟨S4096x352, .f32⟩
  | .hbm, ⟨6, _⟩ => ⟨S4096x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S4096x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdUpRefIdeal.lean ====
abbrev S4096x352 : Shape := ⟨2, ![4096, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x352, .f32⟩
  | .hbm, ⟨1, _⟩ => ⟨S4096x352, .f32⟩
  | .hbm, ⟨2, _⟩ => ⟨S4096x352, .f32⟩
  | .hbm, ⟨3, _⟩ => ⟨S4096x352, .f32⟩
  | .hbm, ⟨4, _⟩ => ⟨S_, .f32⟩
  | .hbm, ⟨5, _⟩ => ⟨S4096x352, .f32⟩
  | .hbm, ⟨6, _⟩ => ⟨S4096x352, .f32⟩
  | .hbm, ⟨7, _⟩ => ⟨S_, .f32⟩
  | .hbm, ⟨8, _⟩ => ⟨S4096x352, .f32⟩
  | .hbm, ⟨9, _⟩ => ⟨S4096x352, .f32⟩
  | .hbm, ⟨10, _⟩ => ⟨S4096x352, .f32⟩
  | .hbm, ⟨11, _⟩ => ⟨S_, .f32⟩
  | .hbm, ⟨12, _⟩ => ⟨S4096x352, .f32⟩
  | .hbm, ⟨13, _⟩ => ⟨S4096x352, .f32⟩
  | .hbm, ⟨14, _⟩ => ⟨S4096x352, .f32⟩
  | .hbm, ⟨15, _⟩ => ⟨S_, .f32⟩
  | .hbm, ⟨16, _⟩ => ⟨S4096x352, .f32⟩
  | .hbm, ⟨17, _⟩ => ⟨S4096x352, .f32⟩
  | .hbm, ⟨18, _⟩ => ⟨S4096x352, .f32⟩
  | .hbm, ⟨19, _⟩ => ⟨S_, .f32⟩
  | .hbm, ⟨20, _⟩ => ⟨S4096x352, .f32⟩
  | .hbm, ⟨21, _⟩ => ⟨S4096x352, .f32⟩
  | .hbm, ⟨22, _⟩ => ⟨S_, .f32⟩
  | .hbm, ⟨23, _⟩ => ⟨S4096x352, .f32⟩
  | .hbm, ⟨24, _⟩ => ⟨S4096x352, .f32⟩
  | .hbm, ⟨25, _⟩ => ⟨S4096x352, .f32⟩
  | .hbm, ⟨26, _⟩ => ⟨S_, .f32⟩
  | .hbm, ⟨27, _⟩ => ⟨S4096x352, .f32⟩
  | .hbm, ⟨28, _⟩ => ⟨S4096x352, .f32⟩
  | .hbm, ⟨29, _⟩ => ⟨S4096x352, .f32⟩
  | .hbm, ⟨30, _⟩ => ⟨S_, .f32⟩
  | .hbm, ⟨31, _⟩ => ⟨S4096x352, .f32⟩
  | .hbm, ⟨32, _⟩ => ⟨S4096x352, .f32⟩
  | .hbm, ⟨33, _⟩ => ⟨S4096x352, .f32⟩
  | .hbm, ⟨34, _⟩ => ⟨S_, .f32⟩
  | .hbm, ⟨35, _⟩ => ⟨S4096x352, .f32⟩
  | .hbm, ⟨36, _⟩ => ⟨S4096x352, .f32⟩
  | _, _ => ⟨S4096x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdTaps.lean ====
abbrev S12x352 : Shape := ⟨2, ![12, 352]⟩

abbrev nBuf : Space → Nat
  | .hbm => 7
  | .vmem => 7
  | .smem => 0
  | _ => 0

abbrev bufTy : (tb : Table) → Fin (tcTables nBuf tb) → BufTy
  | .hbm, ⟨0, _⟩ => ⟨S12x352, .f32⟩
  | .hbm, ⟨1, _⟩ => ⟨S12x352, .f32⟩
  | .hbm, ⟨2, _⟩ => ⟨S12x352, .f32⟩
  | .hbm, ⟨3, _⟩ => ⟨S12x352, .f32⟩
  | .hbm, ⟨4, _⟩ => ⟨S12x352, .f32⟩
  | .hbm, ⟨5, _⟩ => ⟨S12x352, .f32⟩
  | .hbm, ⟨6, _⟩ => ⟨S12x352, .f32⟩
  | .local _ .vmem, ⟨0, _⟩ => ⟨S12x352, .f32⟩
  | .local _ .vmem, ⟨1, _⟩ => ⟨S12x352, .f32⟩
  | .local _ .vmem, ⟨2, _⟩ => ⟨S12x352, .f32⟩
  | .local _ .vmem, ⟨3, _⟩ => ⟨S12x352, .f32⟩
  | .local _ .vmem, ⟨4, _⟩ => ⟨S12x352, .f32⟩
  | .local _ .vmem, ⟨5, _⟩ => ⟨S12x352, .f32⟩
  | .local _ .vmem, ⟨6, _⟩ => ⟨S12x352, .f32⟩
  | _, _ => ⟨S12x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdTapsIdeal.lean ====
abbrev S12x352 : Shape := ⟨2, ![12, 352]⟩

abbrev nBuf : Space → Nat
  | .hbm => 7
  | .vmem => 7
  | .smem => 0
  | _ => 0

abbrev bufTy : (tb : Table) → Fin (tcTables nBuf tb) → BufTy
  | .hbm, ⟨0, _⟩ => ⟨S12x352, .f32⟩
  | .hbm, ⟨1, _⟩ => ⟨S12x352, .f32⟩
  | .hbm, ⟨2, _⟩ => ⟨S12x352, .f32⟩
  | .hbm, ⟨3, _⟩ => ⟨S12x352, .f32⟩
  | .hbm, ⟨4, _⟩ => ⟨S12x352, .f32⟩
  | .hbm, ⟨5, _⟩ => ⟨S12x352, .f32⟩
  | .hbm, ⟨6, _⟩ => ⟨S12x352, .f32⟩
  | .local _ .vmem, ⟨0, _⟩ => ⟨S12x352, .f32⟩
  | .local _ .vmem, ⟨1, _⟩ => ⟨S12x352, .f32⟩
  | .local _ .vmem, ⟨2, _⟩ => ⟨S12x352, .f32⟩
  | .local _ .vmem, ⟨3, _⟩ => ⟨S12x352, .f32⟩
  | .local _ .vmem, ⟨4, _⟩ => ⟨S12x352, .f32⟩
  | .local _ .vmem, ⟨5, _⟩ => ⟨S12x352, .f32⟩
  | .local _ .vmem, ⟨6, _⟩ => ⟨S12x352, .f32⟩
  | _, _ => ⟨S12x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdTapsRefIdeal.lean ====
abbrev S12x352 : Shape := ⟨2, ![12, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x352, .f32⟩
  | .hbm, ⟨1, _⟩ => ⟨S12x352, .f32⟩
  | .hbm, ⟨2, _⟩ => ⟨S12x352, .f32⟩
  | .hbm, ⟨3, _⟩ => ⟨S12x352, .f32⟩
  | .hbm, ⟨4, _⟩ => ⟨S_, .f32⟩
  | .hbm, ⟨5, _⟩ => ⟨S12x352, .f32⟩
  | .hbm, ⟨6, _⟩ => ⟨S12x352, .f32⟩
  | .hbm, ⟨7, _⟩ => ⟨S_, .f32⟩
  | .hbm, ⟨8, _⟩ => ⟨S12x352, .f32⟩
  | .hbm, ⟨9, _⟩ => ⟨S12x352, .f32⟩
  | .hbm, ⟨10, _⟩ => ⟨S12x352, .f32⟩
  | .hbm, ⟨11, _⟩ => ⟨S_, .f32⟩
  | .hbm, ⟨12, _⟩ => ⟨S12x352, .f32⟩
  | .hbm, ⟨13, _⟩ => ⟨S12x352, .f32⟩
  | .hbm, ⟨14, _⟩ => ⟨S12x352, .f32⟩
  | .hbm, ⟨15, _⟩ => ⟨S_, .f32⟩
  | .hbm, ⟨16, _⟩ => ⟨S12x352, .f32⟩
  | .hbm, ⟨17, _⟩ => ⟨S12x352, .f32⟩
  | .hbm, ⟨18, _⟩ => ⟨S12x352, .f32⟩
  | .hbm, ⟨19, _⟩ => ⟨S_, .f32⟩
  | .hbm, ⟨20, _⟩ => ⟨S12x352, .f32⟩
  | .hbm, ⟨21, _⟩ => ⟨S12x352, .f32⟩
  | .hbm, ⟨22, _⟩ => ⟨S_, .f32⟩
  | .hbm, ⟨23, _⟩ => ⟨S12x352, .f32⟩
  | .hbm, ⟨24, _⟩ => ⟨S12x352, .f32⟩
  | .hbm, ⟨25, _⟩ => ⟨S12x352, .f32⟩
  | .hbm, ⟨26, _⟩ => ⟨S_, .f32⟩
  | .hbm, ⟨27, _⟩ => ⟨S12x352, .f32⟩
  | .hbm, ⟨28, _⟩ => ⟨S12x352, .f32⟩
  | .hbm, ⟨29, _⟩ => ⟨S12x352, .f32⟩
  | .hbm, ⟨30, _⟩ => ⟨S_, .f32⟩
  | .hbm, ⟨31, _⟩ => ⟨S12x352, .f32⟩
  | .hbm, ⟨32, _⟩ => ⟨S12x352, .f32⟩
  | .hbm, ⟨33, _⟩ => ⟨S12x352, .f32⟩
  | .hbm, ⟨34, _⟩ => ⟨S_, .f32⟩
  | .hbm, ⟨35, _⟩ => ⟨S12x352, .f32⟩
  | .hbm, ⟨36, _⟩ => ⟨S12x352, .f32⟩
  | _, _ => ⟨S12x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdConv.lean ====
abbrev S4x2816 : Shape := ⟨2, ![4, 2816]⟩

abbrev nBuf : Space → Nat
  | .hbm => 7
  | .vmem => 7
  | .smem => 0
  | _ => 0

abbrev bufTy : (tb : Table) → Fin (tcTables nBuf tb) → BufTy
  | .hbm, ⟨0, _⟩ => ⟨S4x2816, .f32⟩
  | .hbm, ⟨1, _⟩ => ⟨S4x2816, .f32⟩
  | .hbm, ⟨2, _⟩ => ⟨S4x2816, .f32⟩
  | .hbm, ⟨3, _⟩ => ⟨S4x2816, .f32⟩
  | .hbm, ⟨4, _⟩ => ⟨S4x2816, .f32⟩
  | .hbm, ⟨5, _⟩ => ⟨S4x2816, .f32⟩
  | .hbm, ⟨6, _⟩ => ⟨S4x2816, .f32⟩
  | .local _ .vmem, ⟨0, _⟩ => ⟨S4x2816, .f32⟩
  | .local _ .vmem, ⟨1, _⟩ => ⟨S4x2816, .f32⟩
  | .local _ .vmem, ⟨2, _⟩ => ⟨S4x2816, .f32⟩
  | .local _ .vmem, ⟨3, _⟩ => ⟨S4x2816, .f32⟩
  | .local _ .vmem, ⟨4, _⟩ => ⟨S4x2816, .f32⟩
  | .local _ .vmem, ⟨5, _⟩ => ⟨S4x2816, .f32⟩
  | .local _ .vmem, ⟨6, _⟩ => ⟨S4x2816, .f32⟩
  | _, _ => ⟨S4x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdConvIdeal.lean ====
abbrev S4x2816 : Shape := ⟨2, ![4, 2816]⟩

abbrev nBuf : Space → Nat
  | .hbm => 7
  | .vmem => 7
  | .smem => 0
  | _ => 0

abbrev bufTy : (tb : Table) → Fin (tcTables nBuf tb) → BufTy
  | .hbm, ⟨0, _⟩ => ⟨S4x2816, .f32⟩
  | .hbm, ⟨1, _⟩ => ⟨S4x2816, .f32⟩
  | .hbm, ⟨2, _⟩ => ⟨S4x2816, .f32⟩
  | .hbm, ⟨3, _⟩ => ⟨S4x2816, .f32⟩
  | .hbm, ⟨4, _⟩ => ⟨S4x2816, .f32⟩
  | .hbm, ⟨5, _⟩ => ⟨S4x2816, .f32⟩
  | .hbm, ⟨6, _⟩ => ⟨S4x2816, .f32⟩
  | .local _ .vmem, ⟨0, _⟩ => ⟨S4x2816, .f32⟩
  | .local _ .vmem, ⟨1, _⟩ => ⟨S4x2816, .f32⟩
  | .local _ .vmem, ⟨2, _⟩ => ⟨S4x2816, .f32⟩
  | .local _ .vmem, ⟨3, _⟩ => ⟨S4x2816, .f32⟩
  | .local _ .vmem, ⟨4, _⟩ => ⟨S4x2816, .f32⟩
  | .local _ .vmem, ⟨5, _⟩ => ⟨S4x2816, .f32⟩
  | .local _ .vmem, ⟨6, _⟩ => ⟨S4x2816, .f32⟩
  | _, _ => ⟨S4x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdConvRefIdeal.lean ====
abbrev S4x2816 : Shape := ⟨2, ![4, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2816, .f32⟩
  | .hbm, ⟨1, _⟩ => ⟨S4x2816, .f32⟩
  | .hbm, ⟨2, _⟩ => ⟨S4x2816, .f32⟩
  | .hbm, ⟨3, _⟩ => ⟨S4x2816, .f32⟩
  | .hbm, ⟨4, _⟩ => ⟨S_, .f32⟩
  | .hbm, ⟨5, _⟩ => ⟨S4x2816, .f32⟩
  | .hbm, ⟨6, _⟩ => ⟨S4x2816, .f32⟩
  | .hbm, ⟨7, _⟩ => ⟨S_, .f32⟩
  | .hbm, ⟨8, _⟩ => ⟨S4x2816, .f32⟩
  | .hbm, ⟨9, _⟩ => ⟨S4x2816, .f32⟩
  | .hbm, ⟨10, _⟩ => ⟨S4x2816, .f32⟩
  | .hbm, ⟨11, _⟩ => ⟨S_, .f32⟩
  | .hbm, ⟨12, _⟩ => ⟨S4x2816, .f32⟩
  | .hbm, ⟨13, _⟩ => ⟨S4x2816, .f32⟩
  | .hbm, ⟨14, _⟩ => ⟨S4x2816, .f32⟩
  | .hbm, ⟨15, _⟩ => ⟨S_, .f32⟩
  | .hbm, ⟨16, _⟩ => ⟨S4x2816, .f32⟩
  | .hbm, ⟨17, _⟩ => ⟨S4x2816, .f32⟩
  | .hbm, ⟨18, _⟩ => ⟨S4x2816, .f32⟩
  | .hbm, ⟨19, _⟩ => ⟨S_, .f32⟩
  | .hbm, ⟨20, _⟩ => ⟨S4x2816, .f32⟩
  | .hbm, ⟨21, _⟩ => ⟨S4x2816, .f32⟩
  | .hbm, ⟨22, _⟩ => ⟨S_, .f32⟩
  | .hbm, ⟨23, _⟩ => ⟨S4x2816, .f32⟩
  | .hbm, ⟨24, _⟩ => ⟨S4x2816, .f32⟩
  | .hbm, ⟨25, _⟩ => ⟨S4x2816, .f32⟩
  | .hbm, ⟨26, _⟩ => ⟨S_, .f32⟩
  | .hbm, ⟨27, _⟩ => ⟨S4x2816, .f32⟩
  | .hbm, ⟨28, _⟩ => ⟨S4x2816, .f32⟩
  | .hbm, ⟨29, _⟩ => ⟨S4x2816, .f32⟩
  | .hbm, ⟨30, _⟩ => ⟨S_, .f32⟩
  | .hbm, ⟨31, _⟩ => ⟨S4x2816, .f32⟩
  | .hbm, ⟨32, _⟩ => ⟨S4x2816, .f32⟩
  | .hbm, ⟨33, _⟩ => ⟨S4x2816, .f32⟩
  | .hbm, ⟨34, _⟩ => ⟨S_, .f32⟩
  | .hbm, ⟨35, _⟩ => ⟨S4x2816, .f32⟩
  | .hbm, ⟨36, _⟩ => ⟨S4x2816, .f32⟩
  | _, _ => ⟨S4x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdDown.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdDownIdeal.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdDownRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdFinal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdFinalIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdFinalRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumBig.lean ====
abbrev S8x2400x1024 : Shape := ⟨3, ![8, 2400, 1024]⟩
abbrev S2400x1024 : Shape := ⟨2, ![2400, 1024]⟩
abbrev S8x480x1024 : Shape := ⟨3, ![8, 480, 1024]⟩
abbrev S480x1024 : Shape := ⟨2, ![480, 1024]⟩
abbrev S1x480x1024 : Shape := ⟨3, ![1, 480, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x2400x1024, .bf16⟩
  | .hbm, ⟨1, _⟩ => ⟨S2400x1024, .f32⟩
  | .local _ .vmem, ⟨0, _⟩ => ⟨S8x480x1024, .bf16⟩
  | .local _ .vmem, ⟨1, _⟩ => ⟨S8x480x1024, .bf16⟩
  | .local _ .vmem, ⟨2, _⟩ => ⟨S480x1024, .f32⟩
  | .local _ .vmem, ⟨3, _⟩ => ⟨S480x1024, .f32⟩
  | _, _ => ⟨S8x2400x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x480x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumBigIdeal.lean ====
abbrev S8x2400x1024 : Shape := ⟨3, ![8, 2400, 1024]⟩
abbrev S2400x1024 : Shape := ⟨2, ![2400, 1024]⟩
abbrev S8x480x1024 : Shape := ⟨3, ![8, 480, 1024]⟩
abbrev S480x1024 : Shape := ⟨2, ![480, 1024]⟩
abbrev S1x480x1024 : Shape := ⟨3, ![1, 480, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x2400x1024, .bf16⟩
  | .hbm, ⟨1, _⟩ => ⟨S2400x1024, .f32⟩
  | .local _ .vmem, ⟨0, _⟩ => ⟨S8x480x1024, .bf16⟩
  | .local _ .vmem, ⟨1, _⟩ => ⟨S8x480x1024, .bf16⟩
  | .local _ .vmem, ⟨2, _⟩ => ⟨S480x1024, .f32⟩
  | .local _ .vmem, ⟨3, _⟩ => ⟨S480x1024, .f32⟩
  | _, _ => ⟨S8x2400x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x480x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumBigRefIdeal.lean ====
abbrev S8x2400x1024 : Shape := ⟨3, ![8, 2400, 1024]⟩
abbrev S_ : Shape := ⟨0, ![]⟩
abbrev S2400x1024 : Shape := ⟨2, ![2400, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x2400x1024, .bf16⟩
  | .hbm, ⟨1, _⟩ => ⟨S8x2400x1024, .f32⟩
  | .hbm, ⟨2, _⟩ => ⟨S_, .f32⟩
  | .hbm, ⟨3, _⟩ => ⟨S2400x1024, .f32⟩
  | _, _ => ⟨S8x2400x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x72x1024 : Shape := ⟨3, ![8, 72, 1024]⟩
abbrev S72x1024 : Shape := ⟨2, ![72, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x72x1024, .f32⟩
  | .hbm, ⟨1, _⟩ => ⟨S72x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | _, _ => ⟨S8x72x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallIdeal.lean ====
abbrev S8x72x1024 : Shape := ⟨3, ![8, 72, 1024]⟩
abbrev S72x1024 : Shape := ⟨2, ![72, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x72x1024, .f32⟩
  | .hbm, ⟨1, _⟩ => ⟨S72x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | _, _ => ⟨S8x72x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallRefIdeal.lean ====
abbrev S8x72x1024 : Shape := ⟨3, ![8, 72, 1024]⟩
abbrev S_ : Shape := ⟨0, ![]⟩
abbrev S72x1024 : Shape := ⟨2, ![72, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x72x1024, .f32⟩
  | .hbm, ⟨1, _⟩ => ⟨S_, .f32⟩
  | .hbm, ⟨2, _⟩ => ⟨S72x1024, .f32⟩
  | _, _ => ⟨S8x72x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Rms.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsIdeal.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Loss.lean ====
abbrev S16384x1024 : Shape := ⟨2, ![16384, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S8x128, .f32⟩
  | .hbm, ⟨5, _⟩ => ⟨S16384x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossIdeal.lean ====
abbrev S16384x1024 : Shape := ⟨2, ![16384, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S8x128, .f32⟩
  | .hbm, ⟨5, _⟩ => ⟨S16384x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S8x128, .f32⟩
  | .hbm, ⟨72, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== RmsFwd.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdIdeal.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GateFwd.lean ====
abbrev S16384x4608 : Shape := ⟨2, ![16384, 4608]⟩
abbrev S3x1024 : Shape := ⟨2, ![3, 1024]⟩
abbrev S16384x1024 : Shape := ⟨2, ![16384, 1024]⟩
abbrev S256x512 : Shape := ⟨2, ![256, 512]⟩
abbrev S256x1024 : Shape := ⟨2, ![256, 1024]⟩
abbrev S1x1024 : Shape := ⟨2, ![1, 1024]⟩

abbrev nBuf : Space → Nat
  | .hbm => 6
  | .vmem => 21
  | .smem => 0
  | _ => 0

abbrev bufTy : (tb : Table) → Fin (tcTables nBuf tb) → BufTy
  | .hbm, ⟨0, _⟩ => ⟨S16384x4608, .f32⟩
  | .hbm, ⟨1, _⟩ => ⟨S3x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S3x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | _, _ => ⟨S16384x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GateFwdIdeal.lean ====
abbrev S16384x4608 : Shape := ⟨2, ![16384, 4608]⟩
abbrev S3x1024 : Shape := ⟨2, ![3, 1024]⟩
abbrev S16384x1024 : Shape := ⟨2, ![16384, 1024]⟩
abbrev S256x512 : Shape := ⟨2, ![256, 512]⟩
abbrev S256x1024 : Shape := ⟨2, ![256, 1024]⟩
abbrev S1x1024 : Shape := ⟨2, ![1, 1024]⟩

abbrev nBuf : Space → Nat
  | .hbm => 6
  | .vmem => 21
  | .smem => 0
  | _ => 0

abbrev bufTy : (tb : Table) → Fin (tcTables nBuf tb) → BufTy
  | .hbm, ⟨0, _⟩ => ⟨S16384x4608, .f32⟩
  | .hbm, ⟨1, _⟩ => ⟨S3x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S3x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | _, _ => ⟨S16384x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GateFwdRefIdeal.lean ====
abbrev S16384x4608 : Shape := ⟨2, ![16384, 4608]⟩
abbrev S3x1024 : Shape := ⟨2, ![3, 1024]⟩
abbrev S16384x1024 : Shape := ⟨2, ![16384, 1024]⟩
abbrev S16384x3072 : Shape := ⟨2, ![16384, 3072]⟩
abbrev S16384x3x1024 : Shape := ⟨3, ![16384, 3, 1024]⟩
abbrev S1x3x1024 : Shape := ⟨3, ![1, 3, 1024]⟩
abbrev S_ : Shape := ⟨0, ![]⟩
abbrev S16384x1x1024 : Shape := ⟨3, ![16384, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S16384x4608, .f32⟩
  | .hbm, ⟨1, _⟩ => ⟨S3x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x3072, .f32⟩
  | .hbm, ⟨6, _⟩ => ⟨S16384x3x1024, .f32⟩
  | .hbm, ⟨7, _⟩ => ⟨S1x3x1024, .f32⟩
  | .hbm, ⟨8, _⟩ => ⟨S16384x3x1024, .f32⟩
  | .hbm, ⟨9, _⟩ => ⟨S16384x3x1024, .f32⟩
  | .hbm, ⟨10, _⟩ => ⟨S16384x3x1024, .f32⟩
  | .hbm, ⟨11, _⟩ => ⟨S16384x3x1024, .f32⟩
  | .hbm, ⟨12, _⟩ => ⟨S_, .f32⟩
  | .hbm, ⟨13, _⟩ => ⟨S16384x3x1024, .f32⟩
  | .hbm, ⟨14, _⟩ => ⟨S16384x3x1024, .f32⟩
  | .hbm, ⟨15, _⟩ => ⟨S_, .f32⟩
  | .hbm, ⟨16, _⟩ => ⟨S16384x3x1024, .f32⟩
  | .hbm, ⟨17, _⟩ => ⟨S16384x3x1024, .f32⟩
  | .hbm, ⟨18, _⟩ => ⟨S16384x1x1024, .f32⟩
  | .hbm, ⟨19, _⟩ => ⟨S16384x1024, .f32⟩
  | .hbm, ⟨20, _⟩ => ⟨S16384x1024, .f32⟩
  | .hbm, ⟨21, _⟩ => ⟨S16384x1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .bf16⟩
  | _, _ => ⟨S16384x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Ffn.lean ====
abbrev S16384x2816 : Shape := ⟨2, ![16384, 2816]⟩
abbrev S3x2816 : Shape := ⟨2, ![3, 2816]⟩
abbrev S2816 : Shape := ⟨1, ![2816]⟩
abbrev S1x2816 : Shape := ⟨2, ![1, 2816]⟩
abbrev S256x2816 : Shape := ⟨2, ![256, 2816]⟩
abbrev S8x2816 : Shape := ⟨2, ![8, 2816]⟩

abbrev nBuf : Space → Nat
  | .hbm => 6
  | .vmem => 10
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S3x2816, .f32⟩
  | .hbm, ⟨3, _⟩ => ⟨S2816, .f32⟩
  | .hbm, ⟨4, _⟩ => ⟨S1x2816, .f32⟩
  | .hbm, ⟨5, _⟩ => ⟨S16384x2816, .bf16⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S256x2816, .f32⟩
  | .local _ .vmem, ⟨5, _⟩ => ⟨S256x2816, .f32⟩
  | .local _ .vmem, ⟨6, _⟩ => ⟨S3x2816, .f32⟩
  | .local _ .vmem, ⟨7, _⟩ => ⟨S1x2816, .f32⟩
  | .local _ .vmem, ⟨8, _⟩ => ⟨S256x2816, .bf16⟩
  | .local _ .vmem, ⟨9, _⟩ => ⟨S256x2816, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnIdeal.lean ====
abbrev S16384x2816 : Shape := ⟨2, ![16384, 2816]⟩
abbrev S3x2816 : Shape := ⟨2, ![3, 2816]⟩
abbrev S2816 : Shape := ⟨1, ![2816]⟩
abbrev S1x2816 : Shape := ⟨2, ![1, 2816]⟩
abbrev S256x2816 : Shape := ⟨2, ![256, 2816]⟩
abbrev S8x2816 : Shape := ⟨2, ![8, 2816]⟩

abbrev nBuf : Space → Nat
  | .hbm => 6
  | .vmem => 10
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S3x2816, .f32⟩
  | .hbm, ⟨3, _⟩ => ⟨S2816, .f32⟩
  | .hbm, ⟨4, _⟩ => ⟨S1x2816, .f32⟩
  | .hbm, ⟨5, _⟩ => ⟨S16384x2816, .bf16⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S256x2816, .f32⟩
  | .local _ .vmem, ⟨5, _⟩ => ⟨S256x2816, .f32⟩
  | .local _ .vmem, ⟨6, _⟩ => ⟨S3x2816, .f32⟩
  | .local _ .vmem, ⟨7, _⟩ => ⟨S1x2816, .f32⟩
  | .local _ .vmem, ⟨8, _⟩ => ⟨S256x2816, .bf16⟩
  | .local _ .vmem, ⟨9, _⟩ => ⟨S256x2816, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x2816 : Shape := ⟨2, ![16384, 2816]⟩
abbrev S3x2816 : Shape := ⟨2, ![3, 2816]⟩
abbrev S2816 : Shape := ⟨1, ![2816]⟩
abbrev S1x2816 : Shape := ⟨2, ![1, 2816]⟩
abbrev S_ : Shape := ⟨0, ![]⟩
abbrev S2x2816 : Shape := ⟨2, ![2, 2816]⟩
abbrev S16382x2816 : Shape := ⟨2, ![16382, 2816]⟩
abbrev S16383x2816 : Shape := ⟨2, ![16383, 2816]⟩

abbrev nBuf : Space → Nat
  | .hbm => 51
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S3x2816, .f32⟩
  | .hbm, ⟨3, _⟩ => ⟨S2816, .f32⟩
  | .hbm, ⟨4, _⟩ => ⟨S1x2816, .f32⟩
  | .hbm, ⟨5, _⟩ => ⟨S2816, .f32⟩
  | .hbm, ⟨6, _⟩ => ⟨S_, .f32⟩
  | .hbm, ⟨7, _⟩ => ⟨S2x2816, .f32⟩
  | .hbm, ⟨8, _⟩ => ⟨S16382x2816, .f32⟩
  | .hbm, ⟨9, _⟩ => ⟨S16384x2816, .f32⟩
  | .hbm, ⟨10, _⟩ => ⟨S1x2816, .f32⟩
  | .hbm, ⟨11, _⟩ => ⟨S16384x2816, .f32⟩
  | .hbm, ⟨12, _⟩ => ⟨S16384x2816, .f32⟩
  | .hbm, ⟨13, _⟩ => ⟨S1x2816, .f32⟩
  | .hbm, ⟨14, _⟩ => ⟨S2816, .f32⟩
  | .hbm, ⟨15, _⟩ => ⟨S_, .f32⟩
  | .hbm, ⟨16, _⟩ => ⟨S1x2816, .f32⟩
  | .hbm, ⟨17, _⟩ => ⟨S16383x2816, .f32⟩
  | .hbm, ⟨18, _⟩ => ⟨S16384x2816, .f32⟩
  | .hbm, ⟨19, _⟩ => ⟨S1x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S1x2816, .f32⟩
  | .hbm, ⟨24, _⟩ => ⟨S2816, .f32⟩
  | .hbm, ⟨25, _⟩ => ⟨S1x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S1x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S_, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x2816, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== ConvDx.lean ====
abbrev S16384x2816 : Shape := ⟨2, ![16384, 2816]⟩
abbrev S3x2816 : Shape := ⟨2, ![3, 2816]⟩
abbrev S256x2816 : Shape := ⟨2, ![256, 2816]⟩
abbrev S8x2816 : Shape := ⟨2, ![8, 2816]⟩
abbrev S1x2816 : Shape := ⟨2, ![1, 2816]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S3x2816, .f32⟩
  | .hbm, ⟨2, _⟩ => ⟨S16384x2816, .bf16⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S3x2816, .f32⟩
  | .local _ .vmem, ⟨5, _⟩ => ⟨S256x2816, .bf16⟩
  | .local _ .vmem, ⟨6, _⟩ => ⟨S256x2816, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvDxIdeal.lean ====
abbrev S16384x2816 : Shape := ⟨2, ![16384, 2816]⟩
abbrev S3x2816 : Shape := ⟨2, ![3, 2816]⟩
abbrev S256x2816 : Shape := ⟨2, ![256, 2816]⟩
abbrev S8x2816 : Shape := ⟨2, ![8, 2816]⟩
abbrev S1x2816 : Shape := ⟨2, ![1, 2816]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S3x2816, .f32⟩
  | .hbm, ⟨2, _⟩ => ⟨S16384x2816, .bf16⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S3x2816, .f32⟩
  | .local _ .vmem, ⟨5, _⟩ => ⟨S256x2816, .bf16⟩
  | .local _ .vmem, ⟨6, _⟩ => ⟨S256x2816, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvDxRefIdeal.lean ====
abbrev S16384x2816 : Shape := ⟨2, ![16384, 2816]⟩
abbrev S3x2816 : Shape := ⟨2, ![3, 2816]⟩
abbrev S_ : Shape := ⟨0, ![]⟩
abbrev S1x2816 : Shape := ⟨2, ![1, 2816]⟩
abbrev S2816 : Shape := ⟨1, ![2816]⟩
abbrev S2x2816 : Shape := ⟨2, ![2, 2816]⟩
abbrev S16382x2816 : Shape := ⟨2, ![16382, 2816]⟩
abbrev S16383x2816 : Shape := ⟨2, ![16383, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S3x2816, .f32⟩
  | .hbm, ⟨2, _⟩ => ⟨S_, .f32⟩
  | .hbm, ⟨3, _⟩ => ⟨S16384x2816, .f32⟩
  | .hbm, ⟨4, _⟩ => ⟨S1x2816, .f32⟩
  | .hbm, ⟨5, _⟩ => ⟨S2816, .f32⟩
  | .hbm, ⟨6, _⟩ => ⟨S_, .f32⟩
  | .hbm, ⟨7, _⟩ => ⟨S2x2816, .f32⟩
  | .hbm, ⟨8, _⟩ => ⟨S16382x2816, .f32⟩
  | .hbm, ⟨9, _⟩ => ⟨S16384x2816, .f32⟩
  | .hbm, ⟨10, _⟩ => ⟨S_, .f32⟩
  | .hbm, ⟨11, _⟩ => ⟨S2x2816, .f32⟩
  | .hbm, ⟨12, _⟩ => ⟨S1x2816, .f32⟩
  | .hbm, ⟨13, _⟩ => ⟨S16384x2816, .f32⟩
  | .hbm, ⟨14, _⟩ => ⟨S16384x2816, .f32⟩
  | .hbm, ⟨15, _⟩ => ⟨S1x2816, .f32⟩
  | .hbm, ⟨16, _⟩ => ⟨S2816, .f32⟩
  | .hbm, ⟨17, _⟩ => ⟨S_, .f32⟩
  | .hbm, ⟨18, _⟩ => ⟨S1x2816, .f32⟩
  | .hbm, ⟨19, _⟩ => ⟨S16383x2816, .f32⟩
  | .hbm, ⟨20, _⟩ => ⟨S16384x2816, .f32⟩
  | .hbm, ⟨21, _⟩ => ⟨S_, .f32⟩
  | .hbm, ⟨22, _⟩ => ⟨S1x2816, .f32⟩
  | .hbm, ⟨23, _⟩ => ⟨S1x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S1x2816, .f32⟩
  | .hbm, ⟨28, _⟩ => ⟨S2816, .f32⟩
  | .hbm, ⟨29, _⟩ => ⟨S1x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S1x2816, .f32⟩
  | .hbm, ⟨40, _⟩ => ⟨S16383x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S2x2816, .f32⟩
  | .hbm, ⟨47, _⟩ => ⟨S16382x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S16384x2816, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_5 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== FfnBack.lean ====
abbrev S16384x2816 : Shape := ⟨2, ![16384, 2816]⟩
abbrev S3x2816 : Shape := ⟨2, ![3, 2816]⟩
abbrev S2816 : Shape := ⟨1, ![2816]⟩
abbrev S1x2816 : Shape := ⟨2, ![1, 2816]⟩
abbrev S256x2816 : Shape := ⟨2, ![256, 2816]⟩
abbrev S8x2816 : Shape := ⟨2, ![8, 2816]⟩

abbrev nBuf : Space → Nat
  | .hbm => 10
  | .vmem => 16
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S3x2816, .f32⟩
  | .hbm, ⟨3, _⟩ => ⟨S2816, .f32⟩
  | .hbm, ⟨4, _⟩ => ⟨S16384x2816, .f32⟩
  | .hbm, ⟨5, _⟩ => ⟨S1x2816, .f32⟩
  | .hbm, ⟨6, _⟩ => ⟨S16384x2816, .f32⟩
  | .hbm, ⟨7, _⟩ => ⟨S16384x2816, .bf16⟩
  | .hbm, ⟨8, _⟩ => ⟨S3x2816, .f32⟩
  | .hbm, ⟨9, _⟩ => ⟨S1x2816, .f32⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S256x2816, .f32⟩
  | .local _ .vmem, ⟨5, _⟩ => ⟨S256x2816, .f32⟩
  | .local _ .vmem, ⟨6, _⟩ => ⟨S3x2816, .f32⟩
  | .local _ .vmem, ⟨7, _⟩ => ⟨S1x2816, .f32⟩
  | .local _ .vmem, ⟨8, _⟩ => ⟨S256x2816, .f32⟩
  | .local _ .vmem, ⟨9, _⟩ => ⟨S256x2816, .f32⟩
  | .local _ .vmem, ⟨10, _⟩ => ⟨S256x2816, .f32⟩
  | .local _ .vmem, ⟨11, _⟩ => ⟨S256x2816, .f32⟩
  | .local _ .vmem, ⟨12, _⟩ => ⟨S256x2816, .bf16⟩
  | .local _ .vmem, ⟨13, _⟩ => ⟨S256x2816, .bf16⟩
  | .local _ .vmem, ⟨14, _⟩ => ⟨S3x2816, .f32⟩
  | .local _ .vmem, ⟨15, _⟩ => ⟨S1x2816, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnBackRefIdeal.lean ====
abbrev S16384x2816 : Shape := ⟨2, ![16384, 2816]⟩
abbrev S3x2816 : Shape := ⟨2, ![3, 2816]⟩
abbrev S2816 : Shape := ⟨1, ![2816]⟩
abbrev S1x2816 : Shape := ⟨2, ![1, 2816]⟩
abbrev S_ : Shape := ⟨0, ![]⟩
abbrev S2x2816 : Shape := ⟨2, ![2, 2816]⟩
abbrev S16382x2816 : Shape := ⟨2, ![16382, 2816]⟩
abbrev S16383x2816 : Shape := ⟨2, ![16383, 2816]⟩

abbrev nBuf : Space → Nat
  | .hbm => 115
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S3x2816, .f32⟩
  | .hbm, ⟨3, _⟩ => ⟨S2816, .f32⟩
  | .hbm, ⟨4, _⟩ => ⟨S16384x2816, .f32⟩
  | .hbm, ⟨5, _⟩ => ⟨S1x2816, .f32⟩
  | .hbm, ⟨6, _⟩ => ⟨S2816, .f32⟩
  | .hbm, ⟨7, _⟩ => ⟨S_, .f32⟩
  | .hbm, ⟨8, _⟩ => ⟨S2x2816, .f32⟩
  | .hbm, ⟨9, _⟩ => ⟨S16382x2816, .f32⟩
  | .hbm, ⟨10, _⟩ => ⟨S16384x2816, .f32⟩
  | .hbm, ⟨11, _⟩ => ⟨S1x2816, .f32⟩
  | .hbm, ⟨12, _⟩ => ⟨S16384x2816, .f32⟩
  | .hbm, ⟨13, _⟩ => ⟨S16384x2816, .f32⟩
  | .hbm, ⟨14, _⟩ => ⟨S1x2816, .f32⟩
  | .hbm, ⟨15, _⟩ => ⟨S2816, .f32⟩
  | .hbm, ⟨16, _⟩ => ⟨S_, .f32⟩
  | .hbm, ⟨17, _⟩ => ⟨S1x2816, .f32⟩
  | .hbm, ⟨18, _⟩ => ⟨S16383x2816, .f32⟩
  | .hbm, ⟨19, _⟩ => ⟨S16384x2816, .f32⟩
  | .hbm, ⟨20, _⟩ => ⟨S1x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S1x2816, .f32⟩
  | .hbm, ⟨25, _⟩ => ⟨S2816, .f32⟩
  | .hbm, ⟨26, _⟩ => ⟨S1x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S1x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S_, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S_, .f32⟩
  | .hbm, ⟨48, _⟩ => ⟨S16384x2816, .f32⟩
  | .hbm, ⟨49, _⟩ => ⟨S16384x2816, .f32⟩
  | .hbm, ⟨50, _⟩ => ⟨S_, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S_, .f32⟩
  | .hbm, ⟨55, _⟩ => ⟨S16384x2816, .f32⟩
  | .hbm, ⟨56, _⟩ => ⟨S16384x2816, .f32⟩
  | .hbm, ⟨57, _⟩ => ⟨S_, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S_, .f32⟩
  | .hbm, ⟨67, _⟩ => ⟨S16384x2816, .f32⟩
  | .hbm, ⟨68, _⟩ => ⟨S16384x2816, .f32⟩
  | .hbm, ⟨69, _⟩ => ⟨S16384x2816, .f32⟩
  | .hbm, ⟨70, _⟩ => ⟨S_, .f32⟩
  | .hbm, ⟨71, _⟩ => ⟨S16384x2816, .f32⟩
  | .hbm, ⟨72, _⟩ => ⟨S16384x2816, .f32⟩
  | .hbm, ⟨73, _⟩ => ⟨S16384x2816, .f32⟩
  | .hbm, ⟨74, _⟩ => ⟨S_, .f32⟩
  | .hbm, ⟨75, _⟩ => ⟨S16384x2816, .f32⟩
  | .hbm, ⟨76, _⟩ => ⟨S16384x2816, .f32⟩
  | .hbm, ⟨77, _⟩ => ⟨S16384x2816, .f32⟩
  | .hbm, ⟨78, _⟩ => ⟨S16384x2816, .f32⟩
  | .hbm, ⟨79, _⟩ => ⟨S_, .f32⟩
  | .hbm, ⟨80, _⟩ => ⟨S2816, .f32⟩
  | .hbm, ⟨81, _⟩ => ⟨S1x2816, .f32⟩
  | .hbm, ⟨82, _⟩ => ⟨S_, .f32⟩
  | .hbm, ⟨83, _⟩ => ⟨S2816, .f32⟩
  | .hbm, ⟨84, _⟩ => ⟨S16384x2816, .f32⟩
  | .hbm, ⟨85, _⟩ => ⟨S_, .f32⟩
  | .hbm, ⟨86, _⟩ => ⟨S2816, .f32⟩
  | .hbm, ⟨87, _⟩ => ⟨S1x2816, .f32⟩
  | .hbm, ⟨88, _⟩ => ⟨S_, .f32⟩
  | .hbm, ⟨89, _⟩ => ⟨S2816, .f32⟩
  | .hbm, ⟨90, _⟩ => ⟨S1x2816, .f32⟩
  | .hbm, ⟨91, _⟩ => ⟨S_, .f32⟩
  | .hbm, ⟨92, _⟩ => ⟨S3x2816, .f32⟩
  | .hbm, ⟨93, _⟩ => ⟨S16384x2816, .f32⟩
  | .hbm, ⟨94, _⟩ => ⟨S_, .f32⟩
  | .hbm, ⟨95, _⟩ => ⟨S2816, .f32⟩
  | .hbm, ⟨96, _⟩ => ⟨S1x2816, .f32⟩
  | .hbm, ⟨97, _⟩ => ⟨S_, .f32⟩
  | .hbm, ⟨98, _⟩ => ⟨S2816, .f32⟩
  | .hbm, ⟨99, _⟩ => ⟨S1x2816, .f32⟩
  | .hbm, ⟨100, _⟩ => ⟨S_, .f32⟩
  | .hbm, ⟨101, _⟩ => ⟨S3x2816, .f32⟩
  | .hbm, ⟨102, _⟩ => ⟨S3x2816, .f32⟩
  | .hbm, ⟨103, _⟩ => ⟨S16384x2816, .f32⟩
  | .hbm, ⟨104, _⟩ => ⟨S_, .f32⟩
  | .hbm, ⟨105, _⟩ => ⟨S2816, .f32⟩
  | .hbm, ⟨106, _⟩ => ⟨S1x2816, .f32⟩
  | .hbm, ⟨107, _⟩ => ⟨S_, .f32⟩
  | .hbm, ⟨108, _⟩ => ⟨S2816, .f32⟩
  | .hbm, ⟨109, _⟩ => ⟨S1x2816, .f32⟩
  | .hbm, ⟨110, _⟩ => ⟨S_, .f32⟩
  | .hbm, ⟨111, _⟩ => ⟨S3x2816, .f32⟩
  | .hbm, ⟨112, _⟩ => ⟨S3x2816, .f32⟩
  | .hbm, ⟨113, _⟩ => ⟨S16384x2816, .bf16⟩
  | .hbm, ⟨114, _⟩ => ⟨S1x2816, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_11 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_cst_16 : Ref sig .tc := ⟨.hbm, 94, rfl⟩
abbrev main_v72 : Ref sig .tc := ⟨.hbm, 95, rfl⟩
abbrev main_v73 : Ref sig .tc := ⟨.hbm, 96, rfl⟩
abbrev main_cst_17 : Ref sig .tc := ⟨.hbm, 97, rfl⟩
abbrev main_v74 : Ref sig .tc := ⟨.hbm, 98, rfl⟩
abbrev main_v75 : Ref sig .tc := ⟨.hbm, 99, rfl⟩
abbrev main_cst_18 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_19 : Ref sig .tc := ⟨.hbm, 104, rfl⟩
abbrev main_v79 : Ref sig .tc := ⟨.hbm, 105, rfl⟩
abbrev main_v80 : Ref sig .tc := ⟨.hbm, 106, rfl⟩
abbrev main_cst_20 : Ref sig .tc := ⟨.hbm, 107, rfl⟩
abbrev main_v81 : Ref sig .tc := ⟨.hbm, 108, rfl⟩
abbrev main_v82 : Ref sig .tc := ⟨.hbm, 109, rfl⟩
abbrev main_cst_21 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩

abbrev nD : Nat := 1
abbrev τ : Topo := Topo.v7x

variable {F : FTy → Type} [FloatOps F]
-- ==== Proof.GateValue.lean ====
module
public import proofs.«01_k».proof.Proof.Gen.GateIdeal.Value
public import proofs.«01_k».proof.Proof.Gen.GateRefIdeal.Read
public import Idealize.ShloMosaic.Lib.Pipeline.ValueKit
public import Idealize.ShloMosaic.Lib.Pipeline.ReadBack
@[expose] public section
set_option maxRecDepth 16384
noncomputable section
namespace Cert.GateIdeal.Value
open Idealize.ShloMosaic Idealize.ShloMosaic.TcCoe Idealize.SL.Sem
open Idealize.ShloMosaic.Pipeline (Dat)
open Cert.GateIdeal Cert.GateIdeal.Gen
open Cert.GateRefIdeal.Read
variable (m : (ℓ : Loc nD τ sig) → Buf (Elt Ideal) ℓ)

theorem idx : ∀ t : Fin cfg0.N, win0_0.index t = ![t.val, 3] ∧ win0_1.index t = ![t.val, 4] ∧ win0_2.index t = ![t.val, 5]
    ∧ win0_3.index t = ![t.val, 6] ∧ win0_4.index t = ![t.val, 7] ∧ win0_5.index t = ![t.val, 8] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] ∧ win0_13.index t = ![t.val, 0] ∧ win0_14.index t = ![t.val, 0]
    ∧ win0_15.index t = ![t.val, 0] :=
  (by decide +kernel : ∀ t : Fin grid0.N, _)

/-- The gradient of the sum that enters gate 0's sigmoid, at one row and lane. -/
theorem slope0 (x0 : FVec Ideal S16384x4608 .f32) (x1 : FVec Ideal S3x1024 .f32) (x2 x3 x4 x5 : FVec Ideal S16384x1024 .f32) (r : Fin 16384) (k : Fin 1024) :
    val_main_v41 (F := Ideal) x0 x1 x2 x3 x4 x5 (ix3 r 0 k)
      = x5 (ix2 r k) * x2 (ix2 r k) * (Ideal.logistic (x0 (ix2 r ⟨1536 + k.val, by omega⟩) + x1 (ix2 0 k)) * (1 - Ideal.logistic (x0 (ix2 r ⟨1536 + k.val, by omega⟩) + x1 (ix2 0 k)))) := by
  pointwise [val_main_v41, val_main_v40, val_main_v35, val_main_v30, val_main_v34, val_main_v39, val_main_v29, val_main_v33, val_main_v38, val_main_v28, val_main_v32, val_main_v37, val_main_v26, val_main_v22, val_main_v21, val_main_v18, val_main_v17, val_main_v13, val_main_v12, val_main_v11, val_main_v36, val_main_v31, val_main_v27, val_main_v15, val_main_v14, val_main_v20, val_main_v19, val_main_v16, val_main_v24, val_main_v23, val_main_cst_1, val_main_cst_2, val_main_cst_3, val_main_cst_4, val_main_v25, val_main_v10, val_main_v9, val_main_cst_0, val_main_v8, val_main_v7, val_main_cst, val_main_v6, val_main_v5, val_main_v4, val_main_v3, val_main_v2, val_main_v1, val_main_v0]
  unfold Ideal.logistic
  rfl

/-- The gradient of the sum that enters gate 1's sigmoid, at one row and lane. -/
theorem slope1 (x0 : FVec Ideal S16384x4608 .f32) (x1 : FVec Ideal S3x1024 .f32) (x2 x3 x4 x5 : FVec Ideal S16384x1024 .f32) (r : Fin 16384) (k : Fin 1024) :
    val_main_v41 (F := Ideal) x0 x1 x2 x3 x4 x5 (ix3 r 1 k)
      = x5 (ix2 r k) * x3 (ix2 r k) * (Ideal.logistic (x0 (ix2 r ⟨1536 + (1024 + k.val), by omega⟩) + x1 (ix2 1 k)) * (1 - Ideal.logistic (x0 (ix2 r ⟨1536 + (1024 + k.val), by omega⟩) + x1 (ix2 1 k)))) := by
  pointwise [val_main_v41, val_main_v40, val_main_v35, val_main_v30, val_main_v34, val_main_v39, val_main_v29, val_main_v33, val_main_v38, val_main_v28, val_main_v32, val_main_v37, val_main_v26, val_main_v22, val_main_v21, val_main_v18, val_main_v17, val_main_v13, val_main_v12, val_main_v11, val_main_v36, val_main_v31, val_main_v27, val_main_v15, val_main_v14, val_main_v20, val_main_v19, val_main_v16, val_main_v24, val_main_v23, val_main_cst_1, val_main_cst_2, val_main_cst_3, val_main_cst_4, val_main_v25, val_main_v10, val_main_v9, val_main_cst_0, val_main_v8, val_main_v7, val_main_cst, val_main_v6, val_main_v5, val_main_v4, val_main_v3, val_main_v2, val_main_v1, val_main_v0]
  unfold Ideal.logistic
  rfl

/-- The gradient of the sum that enters gate 2's sigmoid, at one row and lane. -/
theorem slope2 (x0 : FVec Ideal S16384x4608 .f32) (x1 : FVec Ideal S3x1024 .f32) (x2 x3 x4 x5 : FVec Ideal S16384x1024 .f32) (r : Fin 16384) (k : Fin 1024) :
    val_main_v41 (F := Ideal) x0 x1 x2 x3 x4 x5 (ix3 r 2 k)
      = x5 (ix2 r k) * x4 (ix2 r k) * (Ideal.logistic (x0 (ix2 r ⟨1536 + (2048 + k.val), by omega⟩) + x1 (ix2 2 k)) * (1 - Ideal.logistic (x0 (ix2 r ⟨1536 + (2048 + k.val), by omega⟩) + x1 (ix2 2 k)))) := by
  pointwise [val_main_v41, val_main_v40, val_main_v35, val_main_v30, val_main_v34, val_main_v39, val_main_v29, val_main_v33, val_main_v38, val_main_v28, val_main_v32, val_main_v37, val_main_v26, val_main_v22, val_main_v21, val_main_v18, val_main_v17, val_main_v13, val_main_v12, val_main_v11, val_main_v36, val_main_v31, val_main_v27, val_main_v15, val_main_v14, val_main_v20, val_main_v19, val_main_v16, val_main_v24, val_main_v23, val_main_cst_1, val_main_cst_2, val_main_cst_3, val_main_cst_4, val_main_v25, val_main_v10, val_main_v9, val_main_cst_0, val_main_v8, val_main_v7, val_main_cst, val_main_v6, val_main_v5, val_main_v4, val_main_v3, val_main_v2, val_main_v1, val_main_v0]
  unfold Ideal.logistic
  rfl

/-- Output 13 ends as the gradient of branch 0. -/
theorem final13 (c : Dev nD) : (dats m 0 c).arrAt 13 cfg0.N
    = val_main_v47 (F := Ideal) (m ((c : Thread nD τ).loc main_arg0)) (m ((c : Thread nD τ).loc main_arg1)) (m ((c : Thread nD τ).loc main_arg5)) := by
  refine (dats m 0 c).arrAt_eq_of_covers 13 _ (by decide +kernel) fun t _ y => ?_
  blk_simp
  rw [after0_13]
  by_cases h0 : t.val % 64 = 0
  · rw [outsAt0_A m c t h0]
    frame_out
    unfold_payloads
    pointwise [val_main_v47, val_main_v41, val_main_v40, val_main_v35, val_main_v30, val_main_v34, val_main_v39, val_main_v29, val_main_v33, val_main_v38, val_main_v28, val_main_v32, val_main_v37, val_main_v26, val_main_v22, val_main_v21, val_main_v18, val_main_v17, val_main_v13, val_main_v12, val_main_v11, val_main_v36, val_main_v31, val_main_v27, val_main_v15, val_main_v14, val_main_v20, val_main_v19, val_main_v16, val_main_v24, val_main_v23, val_main_cst_1, val_main_cst_2, val_main_cst_3, val_main_cst_4, val_main_v25, val_main_v10, val_main_v9, val_main_cst_0, val_main_v8, val_main_v7, val_main_cst, val_main_v6, val_main_v5, val_main_v4, val_main_v3, val_main_v2, val_main_v1, val_main_v0]
    unfold Ideal.logistic
    blk_point [iblk, V, idx t]
  · rw [outsAt0_B m c t h0]
    frame_out
    unfold_payloads
    pointwise [val_main_v47, val_main_v41, val_main_v40, val_main_v35, val_main_v30, val_main_v34, val_main_v39, val_main_v29, val_main_v33, val_main_v38, val_main_v28, val_main_v32, val_main_v37, val_main_v26, val_main_v22, val_main_v21, val_main_v18, val_main_v17, val_main_v13, val_main_v12, val_main_v11, val_main_v36, val_main_v31, val_main_v27, val_main_v15, val_main_v14, val_main_v20, val_main_v19, val_main_v16, val_main_v24, val_main_v23, val_main_cst_1, val_main_cst_2, val_main_cst_3, val_main_cst_4, val_main_v25, val_main_v10, val_main_v9, val_main_cst_0, val_main_v8, val_main_v7, val_main_cst, val_main_v6, val_main_v5, val_main_v4, val_main_v3, val_main_v2, val_main_v1, val_main_v0]
    unfold Ideal.logistic
    blk_point [iblk, V, idx t]

/-- Output 14 ends as the gradient of branch 1. -/
theorem final14 (c : Dev nD) : (dats m 0 c).arrAt 14 cfg0.N
    = val_main_v48 (F := Ideal) (m ((c : Thread nD τ).loc main_arg0)) (m ((c : Thread nD τ).loc main_arg1)) (m ((c : Thread nD τ).loc main_arg5)) := by
  refine (dats m 0 c).arrAt_eq_of_covers 14 _ (by decide +kernel) fun t _ y => ?_
  blk_simp
  rw [after0_14]
  by_cases h0 : t.val % 64 = 0
  · rw [outsAt0_A m c t h0]
    frame_out
    unfold_payloads
    pointwise [val_main_v48, val_main_v41, val_main_v40, val_main_v35, val_main_v30, val_main_v34, val_main_v39, val_main_v29, val_main_v33, val_main_v38, val_main_v28, val_main_v32, val_main_v37, val_main_v26, val_main_v22, val_main_v21, val_main_v18, val_main_v17, val_main_v13, val_main_v12, val_main_v11, val_main_v36, val_main_v31, val_main_v27, val_main_v15, val_main_v14, val_main_v20, val_main_v19, val_main_v16, val_main_v24, val_main_v23, val_main_cst_1, val_main_cst_2, val_main_cst_3, val_main_cst_4, val_main_v25, val_main_v10, val_main_v9, val_main_cst_0, val_main_v8, val_main_v7, val_main_cst, val_main_v6, val_main_v5, val_main_v4, val_main_v3, val_main_v2, val_main_v1, val_main_v0]
    unfold Ideal.logistic
    blk_point [iblk, V, idx t]
  · rw [outsAt0_B m c t h0]
    frame_out
    unfold_payloads
    pointwise [val_main_v48, val_main_v41, val_main_v40, val_main_v35, val_main_v30, val_main_v34, val_main_v39, val_main_v29, val_main_v33, val_main_v38, val_main_v28, val_main_v32, val_main_v37, val_main_v26, val_main_v22, val_main_v21, val_main_v18, val_main_v17, val_main_v13, val_main_v12, val_main_v11, val_main_v36, val_main_v31, val_main_v27, val_main_v15, val_main_v14, val_main_v20, val_main_v19, val_main_v16, val_main_v24, val_main_v23, val_main_cst_1, val_main_cst_2, val_main_cst_3, val_main_cst_4, val_main_v25, val_main_v10, val_main_v9, val_main_cst_0, val_main_v8, val_main_v7, val_main_cst, val_main_v6, val_main_v5, val_main_v4, val_main_v3, val_main_v2, val_main_v1, val_main_v0]
    unfold Ideal.logistic
    blk_point [iblk, V, idx t]

/-- Output 15 ends as the gradient of branch 2. -/
theorem final15 (c : Dev nD) : (dats m 0 c).arrAt 15 cfg0.N
    = val_main_v49 (F := Ideal) (m ((c : Thread nD τ).loc main_arg0)) (m ((c : Thread nD τ).loc main_arg1)) (m ((c : Thread nD τ).loc main_arg5)) := by
  refine (dats m 0 c).arrAt_eq_of_covers 15 _ (by decide +kernel) fun t _ y => ?_
  blk_simp
  rw [after0_15]
  by_cases h0 : t.val % 64 = 0
  · rw [outsAt0_A m c t h0]
    frame_out
    unfold_payloads
    pointwise [val_main_v49, val_main_v41, val_main_v40, val_main_v35, val_main_v30, val_main_v34, val_main_v39, val_main_v29, val_main_v33, val_main_v38, val_main_v28, val_main_v32, val_main_v37, val_main_v26, val_main_v22, val_main_v21, val_main_v18, val_main_v17, val_main_v13, val_main_v12, val_main_v11, val_main_v36, val_main_v31, val_main_v27, val_main_v15, val_main_v14, val_main_v20, val_main_v19, val_main_v16, val_main_v24, val_main_v23, val_main_cst_1, val_main_cst_2, val_main_cst_3, val_main_cst_4, val_main_v25, val_main_v10, val_main_v9, val_main_cst_0, val_main_v8, val_main_v7, val_main_cst, val_main_v6, val_main_v5, val_main_v4, val_main_v3, val_main_v2, val_main_v1, val_main_v0]
    unfold Ideal.logistic
    blk_point [iblk, V, idx t]
  · rw [outsAt0_B m c t h0]
    frame_out
    unfold_payloads
    pointwise [val_main_v49, val_main_v41, val_main_v40, val_main_v35, val_main_v30, val_main_v34, val_main_v39, val_main_v29, val_main_v33, val_main_v38, val_main_v28, val_main_v32, val_main_v37, val_main_v26, val_main_v22, val_main_v21, val_main_v18, val_main_v17, val_main_v13, val_main_v12, val_main_v11, val_main_v36, val_main_v31, val_main_v27, val_main_v15, val_main_v14, val_main_v20, val_main_v19, val_main_v16, val_main_v24, val_main_v23, val_main_cst_1, val_main_cst_2, val_main_cst_3, val_main_cst_4, val_main_v25, val_main_v10, val_main_v9, val_main_cst_0, val_main_v8, val_main_v7, val_main_cst, val_main_v6, val_main_v5, val_main_v4, val_main_v3, val_main_v2, val_main_v1, val_main_v0]
    unfold Ideal.logistic
    blk_point [iblk, V, idx t]

end Cert.GateIdeal.Value
end
-- ==== Proof.GateLogits.lean ====
module
public import proofs.«01_k».proof.Proof.Gen.GateIdeal.Value
public import proofs.«01_k».proof.Proof.Gen.GateRefIdeal.Read
public import Idealize.ShloMosaic.Lib.Pipeline.ValueKit
public import Idealize.ShloMosaic.Lib.Pipeline.ReadBack
public import proofs.«01_k».proof.Proof.GateValue
@[expose] public section
set_option maxRecDepth 16384
noncomputable section
namespace Cert.GateIdeal.Value
open Idealize.ShloMosaic Idealize.ShloMosaic.TcCoe Idealize.SL.Sem
open Idealize.ShloMosaic.Pipeline (Dat)
open Cert.GateIdeal Cert.GateIdeal.Gen
open Cert.GateRefIdeal.Read
variable (m : (ℓ : Loc nD τ sig) → Buf (Elt Ideal) ℓ)

/-- The first step leaves its rows of the gates' part of the projection's gradient. -/
theorem rows11_A (c : Dev nD) (t : Fin cfg0.N) (h0 : t.val % 64 = 0) (y : S256x3072.Idx) :
    (outsAt0 m c t.val t.isLt).1 y = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((win0_11.blk t).view.emb y) := by
  have hN : t.val < 64 := lt_of_lt_of_eq t.isLt N_0
  rw [outsAt0_A m c t h0]
  frame_out
  canon_tiles x h
  · unfold_payloads
    pointwise [val_main_v46, val_main_v45]
    refine Eq.trans ?_ ((slope2 _ _ _ _ _ _ ⟨256 * t.val + (x 0).val, by omega⟩ (x 1)).symm.trans (congrArg _ ?_))
    · blk_point [iblk, V, idx t]
    · blk_ext [idx t]
  · unfold_payloads
    pointwise [val_main_v46, val_main_v45]
    refine Eq.trans ?_ ((slope1 _ _ _ _ _ _ ⟨256 * t.val + (x 0).val, by omega⟩ (x 1)).symm.trans (congrArg _ ?_))
    · blk_point [iblk, V, idx t]
    · blk_ext [idx t]
  · unfold_payloads
    pointwise [val_main_v46, val_main_v45]
    refine Eq.trans ?_ ((slope0 _ _ _ _ _ _ ⟨256 * t.val + (x 0).val, by omega⟩ (x 1)).symm.trans (congrArg _ ?_))
    · blk_point [iblk, V, idx t]
    · blk_ext [idx t]

/-- A later step leaves its rows of the gates' part of the projection's gradient. -/
theorem rows11_B (c : Dev nD) (t : Fin cfg0.N) (h0 : ¬ t.val % 64 = 0) (y : S256x3072.Idx) :
    (outsAt0 m c t.val t.isLt).1 y = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((win0_11.blk t).view.emb y) := by
  have hN : t.val < 64 := lt_of_lt_of_eq t.isLt N_0
  rw [outsAt0_B m c t h0]
  frame_out
  canon_tiles x h
  · unfold_payloads
    pointwise [val_main_v46, val_main_v45]
    refine Eq.trans ?_ ((slope2 _ _ _ _ _ _ ⟨256 * t.val + (x 0).val, by omega⟩ (x 1)).symm.trans (congrArg _ ?_))
    · blk_point [iblk, V, idx t]
    · blk_ext [idx t]
  · unfold_payloads
    pointwise [val_main_v46, val_main_v45]
    refine Eq.trans ?_ ((slope1 _ _ _ _ _ _ ⟨256 * t.val + (x 0).val, by omega⟩ (x 1)).symm.trans (congrArg _ ?_))
    · blk_point [iblk, V, idx t]
    · blk_ext [idx t]
  · unfold_payloads
    pointwise [val_main_v46, val_main_v45]
    refine Eq.trans ?_ ((slope0 _ _ _ _ _ _ ⟨256 * t.val + (x 0).val, by omega⟩ (x 1)).symm.trans (congrArg _ ?_))
    · blk_point [iblk, V, idx t]
    · blk_ext [idx t]

/-- Output 11 ends as the gradient of the gates' part of the projection. -/
theorem final11 (c : Dev nD) : (dats m 0 c).arrAt 11 cfg0.N
    = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t _ y => ?_
  blk_simp
  rw [after0_11]
  by_cases h0 : t.val % 64 = 0
  · exact rows11_A m c t h0 y
  · exact rows11_B m c t h0 y

end Cert.GateIdeal.Value
end
-- ==== Proof.GateBias.lean ====
module
public import proofs.«01_k».proof.Proof.Gen.GateIdeal.Value
public import proofs.«01_k».proof.Proof.Gen.GateRefIdeal.Read
public import Idealize.ShloMosaic.Lib.Pipeline.ValueKit
public import Idealize.ShloMosaic.Lib.Pipeline.ReadBack
public import proofs.«01_k».proof.Proof.GateValue
@[expose] public section
set_option maxRecDepth 16384
noncomputable section
namespace Cert.GateIdeal.Value
open Idealize.ShloMosaic Idealize.ShloMosaic.TcCoe Idealize.SL.Sem
open Idealize.ShloMosaic.Pipeline (Dat)
open Cert.GateIdeal Cert.GateIdeal.Gen
open Cert.GateRefIdeal.Read
variable (m : (ℓ : Loc nD τ sig) → Buf (Elt Ideal) ℓ)

/-- The first step starts the sums over the rows at its own rows. -/
theorem bias_first (c : Dev nD) (t : Fin cfg0.N) (h0 : t.val % 64 = 0) (y : S3x1024.Idx) :
    (outsAt0 m c t.val t.isLt).2.1 y = ∑ r : Fin 256, val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 ⟨256 * t.val + r.val, by have := lt_of_lt_of_eq t.isLt N_0; omega⟩ (y 0) (y 1)) := by
  have hN : t.val < 64 := lt_of_lt_of_eq t.isLt N_0
  rw [outsAt0_A m c t h0]
  frame_open
  simp (disch := decide) only [↓ View.readCov_skip, ↓ View.readCov_cons_toLoadRect, ↓ View.readCov_fill]
  frame_out
  refine View.canon_append_of_piecesOf (fun y : S3x1024.Idx => ∑ r : Fin 256, val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 ⟨256 * t.val + r.val, by have := lt_of_lt_of_eq t.isLt N_0; omega⟩ (y 0) (y 1))) [_] [_, _, _] ⟨?_, ?_, ?_, trivial⟩ y ?_
  · intro x
    dsimp only
    unfold_payloads
    pointwise
    refine Finset.sum_congr rfl fun r _ => ?_
    refine Eq.trans ?_ ((slope2 _ _ _ _ _ _ ⟨256 * t.val + r.val, by omega⟩ (x 1)).symm.trans (congrArg _ ?_))
    · blk_point [iblk, V, idx t]
    · blk_ext [idx t]
  · intro x
    dsimp only
    unfold_payloads
    pointwise
    refine Finset.sum_congr rfl fun r _ => ?_
    refine Eq.trans ?_ ((slope1 _ _ _ _ _ _ ⟨256 * t.val + r.val, by omega⟩ (x 1)).symm.trans (congrArg _ ?_))
    · blk_point [iblk, V, idx t]
    · blk_ext [idx t]
  · intro x
    dsimp only
    unfold_payloads
    pointwise
    refine Finset.sum_congr rfl fun r _ => ?_
    refine Eq.trans ?_ ((slope0 _ _ _ _ _ _ ⟨256 * t.val + r.val, by omega⟩ (x 1)).symm.trans (congrArg _ ?_))
    · blk_point [iblk, V, idx t]
    · blk_ext [idx t]
  · exact View.cover_of_tiledL _ ![1, 1024] (by sl_kernel_rfl) y

/-- A later step adds its own rows to the sums. -/
theorem bias_next (c : Dev nD) (t : Fin cfg0.N) (h0 : ¬ t.val % 64 = 0) (y : S3x1024.Idx) :
    (outsAt0 m c t.val t.isLt).2.1 y = (outsAt0 m c (t.val - 1) (Nat.lt_of_le_of_lt (Nat.sub_le _ _) t.isLt)).2.1 y + ∑ r : Fin 256, val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 ⟨256 * t.val + r.val, by have := lt_of_lt_of_eq t.isLt N_0; omega⟩ (y 0) (y 1)) := by
  have hN : t.val < 64 := lt_of_lt_of_eq t.isLt N_0
  rw [outsAt0_B m c t h0]
  frame_open
  simp (disch := decide) only [↓ View.readCov_skip, ↓ View.readCov_cons_toLoadRect, ↓ View.readCov_fill]
  frame_out
  refine View.canon_append_of_piecesOf (fun y : S3x1024.Idx => (outsAt0 m c (t.val - 1) (Nat.lt_of_le_of_lt (Nat.sub_le _ _) t.isLt)).2.1 y + ∑ r : Fin 256, val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 ⟨256 * t.val + r.val, by have := lt_of_lt_of_eq t.isLt N_0; omega⟩ (y 0) (y 1))) [] [_, _, _] ⟨?_, ?_, ?_, trivial⟩ y ?_
  · intro x
    dsimp only
    unfold_payloads
    pointwise
    refine congrArg₂ (fun a b : EReal => a + b) (congrArg _ (by blk_ext [idx t])) (Finset.sum_congr rfl fun r _ => ?_)
    refine Eq.trans ?_ ((slope2 _ _ _ _ _ _ ⟨256 * t.val + r.val, by omega⟩ (x 1)).symm.trans (congrArg _ ?_))
    · blk_point [iblk, V, idx t]
    · blk_ext [idx t]
  · intro x
    dsimp only
    unfold_payloads
    pointwise
    refine congrArg₂ (fun a b : EReal => a + b) (congrArg _ (by blk_ext [idx t])) (Finset.sum_congr rfl fun r _ => ?_)
    refine Eq.trans ?_ ((slope1 _ _ _ _ _ _ ⟨256 * t.val + r.val, by omega⟩ (x 1)).symm.trans (congrArg _ ?_))
    · blk_point [iblk, V, idx t]
    · blk_ext [idx t]
  · intro x
    dsimp only
    unfold_payloads
    pointwise
    refine congrArg₂ (fun a b : EReal => a + b) (congrArg _ (by blk_ext [idx t])) (Finset.sum_congr rfl fun r _ => ?_)
    refine Eq.trans ?_ ((slope0 _ _ _ _ _ _ ⟨256 * t.val + r.val, by omega⟩ (x 1)).symm.trans (congrArg _ ?_))
    · blk_point [iblk, V, idx t]
    · blk_ext [idx t]
  · exact View.cover_of_tiledL _ ![1, 1024] (by sl_kernel_rfl) y

/-- Output 12 ends as the gradient of the gates' bias. -/
theorem final12 (c : Dev nD) : (dats m 0 c).arrAt 12 cfg0.N
    = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t hf y => ?_
  blk_simp
  rw [after0_12]
  rw [Pipeline.eq_sum_fin_of_reset_step_apply_of_flush (fun n h => (outsAt0 m c n h).2.1) 64 (fun _ => 0)
    (fun t y => ∑ r : Fin 256, val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 ⟨256 * t.val + r.val, by have := lt_of_lt_of_eq t.isLt N_0; omega⟩ (y 0) (y 1)))
    (fun t h y => (bias_first m c t h y).trans (zero_add _).symm) (fun t h y => bias_next m c t h y) t ((flush0_12 t).mp hf) y]
  have hq : 64 * (t.val / 64) = 0 := by have := lt_of_lt_of_eq t.isLt N_0; omega
  pointwise [val_main_v44, val_main_v43, val_main_v42, val_main_cst_5, val_main_cst_6]
  refine Eq.trans (α := EReal) ?_ (Fin.sum_univ_one (M := EReal) _).symm
  refine Fin.sum_mul_add_congr (S := 64) (n := 256) (fun s k hl => ?_)
  refine congrArg (val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) ?_
  blk_ext [idx t]

end Cert.GateIdeal.Value
end
-- ==== Proof.GateClaim.lean ====
module
public import proofs.«01_k».proof.Defs
public import proofs.«01_k».proof.Proof.Gen.GateIdeal.Value
public import proofs.«01_k».proof.Proof.Gen.GateRefIdeal.Run
public import proofs.«01_k».proof.Proof.Gen.GateRefIdeal.Read
public import proofs.«01_k».proof.Proof.GateLogits
public import proofs.«01_k».proof.Proof.GateBias
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_GateRefIdeal : Cert.quiescent_GateRefIdeal (hGateRefIdeal := Cert.GateRefIdeal.Gen.facts) := by
  exact fun m g _ => (θ_run _ _ _).mono
    (fun r h => ⟨fun c => (h c).2.2.2.2.2, sem_eq_zero_of_no_sems (by decide) r.2⟩) (Cert.GateRefIdeal.Value.run (F := Ideal) m g)

/-- The gate gradients of the kernel are those of the reference. -/
theorem value_Gate : Cert.algebraic_GateIdeal_GateRefIdeal (hGateIdeal := Cert.GateIdeal.Gen.facts) (hGateRefIdeal := Cert.GateRefIdeal.Gen.facts) := by
  intro m g m' g' _ hm
  refine ⟨fun c => Cert.GateRefIdeal.Read.val_main_v46 (F := Ideal) (m ((c : Thread Cert.GateIdeal.nD Cert.GateIdeal.τ).loc Cert.GateIdeal.main_arg0)) (m ((c : Thread Cert.GateIdeal.nD Cert.GateIdeal.τ).loc Cert.GateIdeal.main_arg1)) (m ((c : Thread Cert.GateIdeal.nD Cert.GateIdeal.τ).loc Cert.GateIdeal.main_arg2)) (m ((c : Thread Cert.GateIdeal.nD Cert.GateIdeal.τ).loc Cert.GateIdeal.main_arg3)) (m ((c : Thread Cert.GateIdeal.nD Cert.GateIdeal.τ).loc Cert.GateIdeal.main_arg4)) (m ((c : Thread Cert.GateIdeal.nD Cert.GateIdeal.τ).loc Cert.GateIdeal.main_arg5)), fun c => Cert.GateRefIdeal.Read.val_main_v44 (F := Ideal) (m ((c : Thread Cert.GateIdeal.nD Cert.GateIdeal.τ).loc Cert.GateIdeal.main_arg0)) (m ((c : Thread Cert.GateIdeal.nD Cert.GateIdeal.τ).loc Cert.GateIdeal.main_arg1)) (m ((c : Thread Cert.GateIdeal.nD Cert.GateIdeal.τ).loc Cert.GateIdeal.main_arg2)) (m ((c : Thread Cert.GateIdeal.nD Cert.GateIdeal.τ).loc Cert.GateIdeal.main_arg3)) (m ((c : Thread Cert.GateIdeal.nD Cert.GateIdeal.τ).loc Cert.GateIdeal.main_arg4)) (m ((c : Thread Cert.GateIdeal.nD Cert.GateIdeal.τ).loc Cert.GateIdeal.main_arg5)), fun c => Cert.GateRefIdeal.Read.val_main_v47 (F := Ideal) (m ((c : Thread Cert.GateIdeal.nD Cert.GateIdeal.τ).loc Cert.GateIdeal.main_arg0)) (m ((c : Thread Cert.GateIdeal.nD Cert.GateIdeal.τ).loc Cert.GateIdeal.main_arg1)) (m ((c : Thread Cert.GateIdeal.nD Cert.GateIdeal.τ).loc Cert.GateIdeal.main_arg5)), fun c => Cert.GateRefIdeal.Read.val_main_v48 (F := Ideal) (m ((c : Thread Cert.GateIdeal.nD Cert.GateIdeal.τ).loc Cert.GateIdeal.main_arg0)) (m ((c : Thread Cert.GateIdeal.nD Cert.GateIdeal.τ).loc Cert.GateIdeal.main_arg1)) (m ((c : Thread Cert.GateIdeal.nD Cert.GateIdeal.τ).loc Cert.GateIdeal.main_arg5)), fun c => Cert.GateRefIdeal.Read.val_main_v49 (F := Ideal) (m ((c : Thread Cert.GateIdeal.nD Cert.GateIdeal.τ).loc Cert.GateIdeal.main_arg0)) (m ((c : Thread Cert.GateIdeal.nD Cert.GateIdeal.τ).loc Cert.GateIdeal.main_arg1)) (m ((c : Thread Cert.GateIdeal.nD Cert.GateIdeal.τ).loc Cert.GateIdeal.main_arg5)),
    (θ_run _ _ _).mono (fun r h c => ⟨((h c).1).trans (Cert.GateIdeal.Value.final11 m c), ((h c).2.1).trans (Cert.GateIdeal.Value.final12 m c), ((h c).2.2.1).trans (Cert.GateIdeal.Value.final13 m c), ((h c).2.2.2.1).trans (Cert.GateIdeal.Value.final14 m c), ((h c).2.2.2.2.1).trans (Cert.GateIdeal.Value.final15 m c), (h c).2.2.2.2.2⟩) (Cert.GateIdeal.Value.run_blocks (F := Ideal) m g),
    (θ_run _ _ _).mono (fun r h c => ?_) (Cert.GateRefIdeal.Value.run (F := Ideal) m' g')⟩
  obtain ⟨e0, e1, e2, e3, e4, e5⟩ := hm c
  exact ⟨(((h c).1).trans (Cert.GateRefIdeal.Read.val_main_v46_eq (F := Ideal) _ _ _ _ _ _)).trans (by rw [e0, e1, e2, e3, e4, e5]),
    (((h c).2.1).trans (Cert.GateRefIdeal.Read.val_main_v44_eq (F := Ideal) _ _ _ _ _ _)).trans (by rw [e0, e1, e2, e3, e4, e5]),
    (((h c).2.2.1).trans (Cert.GateRefIdeal.Read.val_main_v47_eq (F := Ideal) _ _ _)).trans (by rw [e0, e1, e5]),
    (((h c).2.2.2.1).trans (Cert.GateRefIdeal.Read.val_main_v48_eq (F := Ideal) _ _ _)).trans (by rw [e0, e1, e5]),
    (((h c).2.2.2.2.1).trans (Cert.GateRefIdeal.Read.val_main_v49_eq (F := Ideal) _ _ _)).trans (by rw [e0, e1, e5]),
    (h c).2.2.2.2.2⟩

end Cert.Proof
end
-- ==== Proof.DownDxValue.lean ====
module
public import proofs.«01_k».proof.Proof.Gen.DownDxIdeal.Value
public import proofs.«01_k».proof.Proof.Gen.DownDxRefIdeal.Read
public import Idealize.ShloMosaic.Lib.Pipeline.ValueKit
public import Idealize.ShloMosaic.Lib.Pipeline.ReadBack
@[expose] public section
set_option maxRecDepth 16384
noncomputable section
namespace Cert.DownDxIdeal.Value
open Idealize.ShloMosaic Idealize.ShloMosaic.TcCoe Idealize.SL.Sem
open Idealize.ShloMosaic.Pipeline (Dat)
open Cert.DownDxIdeal Cert.DownDxIdeal.Gen
open Cert.DownDxRefIdeal.Read
variable (m : (ℓ : Loc nD τ sig) → Buf (Elt Ideal) ℓ)

/-- The block of each array at a grid point. -/
theorem idx : ∀ t : Fin cfg0.N, win0_0.index t = ![t.val % 32, 0] ∧ win0_1.index t = ![t.val / 32, 0] ∧ win0_2.index t = ![t.val % 32, t.val / 32] :=
  (by decide +kernel : ∀ t : Fin grid0.N, _)

/-- The result ends as the reference's product. -/
theorem product (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  unfold_payloads
  pointwise [val_main_v3, val_main_v2, val_main_v1, val_main_v0, val_main_cst]
  blk_point [iblk, V, idx t]

end Cert.DownDxIdeal.Value
end
-- ==== Proof.DownDxClaim.lean ====
module
public import proofs.«01_k».proof.Defs
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.DownDxValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_DownDxRefIdeal : Cert.quiescent_DownDxRefIdeal (hDownDxRefIdeal := Cert.DownDxRefIdeal.Gen.facts) := by
  exact fun m g _ => (θ_run _ _ _).mono
    (fun r h => ⟨fun c => (h c).2, sem_eq_zero_of_no_sems (by decide) r.2⟩) (Cert.DownDxRefIdeal.Value.run (F := Ideal) m g)

/-- The kernel's product is the reference's. -/
theorem value_DownDx : Cert.algebraic_DownDxIdeal_DownDxRefIdeal (hDownDxIdeal := Cert.DownDxIdeal.Gen.facts) (hDownDxRefIdeal := Cert.DownDxRefIdeal.Gen.facts) := by
  intro m g m' g' _ hm
  refine ⟨fun c => Cert.DownDxRefIdeal.Read.val_main_v3 (F := Ideal) (m ((c : Thread Cert.DownDxIdeal.nD Cert.DownDxIdeal.τ).loc Cert.DownDxIdeal.main_arg0)) (m ((c : Thread Cert.DownDxIdeal.nD Cert.DownDxIdeal.τ).loc Cert.DownDxIdeal.main_arg1)),
    (θ_run _ _ _).mono (fun r h c => ⟨((h c).1).trans (Cert.DownDxIdeal.Value.product m c), (h c).2⟩) (Cert.DownDxIdeal.Value.run_blocks (F := Ideal) m g),
    (θ_run _ _ _).mono (fun r h c => ?_) (Cert.DownDxRefIdeal.Value.run (F := Ideal) m' g')⟩
  obtain ⟨e0, e1⟩ := hm c
  exact ⟨(((h c).1).trans (Cert.DownDxRefIdeal.Read.val_main_v3_eq (F := Ideal) _ _)).trans (by rw [e0, e1]),
    (h c).2⟩

end Cert.Proof
end
-- ==== Proof.DownDwValue.lean ====
module
public import proofs.«01_k».proof.Proof.Gen.DownDwIdeal.Value
public import proofs.«01_k».proof.Proof.Gen.DownDwRefIdeal.Read
public import Idealize.ShloMosaic.Lib.Pipeline.ValueKit
public import Idealize.ShloMosaic.Lib.Pipeline.ReadBack
@[expose] public section
set_option maxRecDepth 16384
noncomputable section
namespace Cert.DownDwIdeal.Value
open Idealize.ShloMosaic Idealize.ShloMosaic.TcCoe Idealize.SL.Sem
open Idealize.ShloMosaic.Pipeline (Dat)
open Cert.DownDwIdeal Cert.DownDwIdeal.Gen
open Cert.DownDwRefIdeal.Read
variable (m : (ℓ : Loc nD τ sig) → Buf (Elt Ideal) ℓ)

/-- The block of each array at a grid point. -/
theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

/-- What a point adds to an entry of its block: the rows of the point. -/
def part (c : Dev nD) (t : Fin cfg0.N) (y : S1408x1024.Idx) : EReal := ∑ k : Fin 1024, HMul.hMul (α := EReal) (β := EReal) (γ := EReal) ((m ((c : Thread nD τ).loc main_arg0)) (ix2 ⟨1024 * (t.val % 16) + k.val, by omega⟩ ⟨1408 * (t.val / 16) + (y 0).val, by have hy : (y 0).val < 1408 := (y 0).isLt; have := lt_of_lt_of_eq t.isLt N_0; omega⟩)) ((m ((c : Thread nD τ).loc main_arg1)) (ix2 ⟨1024 * (t.val % 16) + k.val, by omega⟩ ⟨1024 * (0) + (y 1).val, by have hy : (y 1).val < 1024 := (y 1).isLt; have := lt_of_lt_of_eq t.isLt N_0; omega⟩))

/-- The first point of a block starts the sums. -/
theorem part_first (c : Dev nD) (t : Fin cfg0.N) (h0 : t.val % 16 = 0) (y : S1408x1024.Idx) :
    (outsAt0 m c t.val t.isLt).2 y = 0 + part m c t y := by
  have hN := lt_of_lt_of_eq t.isLt N_0
  rw [outsAt0_A m c t h0 (by omega) (by omega)]
  frame_out
  unfold part
  unfold_payloads
  pointwise
  blk_point [iblk, V, idx t]

/-- A later point adds to the sums. -/
theorem part_next (c : Dev nD) (t : Fin cfg0.N) (h0 : ¬ t.val % 16 = 0) (y : S1408x1024.Idx) :
    (outsAt0 m c t.val t.isLt).2 y = (outsAt0 m c (t.val - 1) (Nat.lt_of_le_of_lt (Nat.sub_le _ _) t.isLt)).2 y + part m c t y := by
  have hN := lt_of_lt_of_eq t.isLt N_0
  by_cases h2 : t.val % 16 = 15
  · rw [outsAt0_C m c t h0 (by omega) h2]
    frame_out
    unfold part
    unfold_payloads
    pointwise
    blk_point [iblk, V, idx t]
    exact congrFun (read_unread_whole _ _ _) _
  · rw [outsAt0_B m c t h0 (by omega) h2]
    frame_out
    unfold part
    unfold_payloads
    pointwise
    blk_point [iblk, V, idx t]
    exact congrFun (read_unread_whole _ _ _) _

/-- The last point of a block stores the sums. -/
theorem stored (c : Dev nD) (t : Fin cfg0.N) (h2 : t.val % 16 = 15) (y : S1408x1024.Idx) :
    (outsAt0 m c t.val t.isLt).1 y = (outsAt0 m c t.val t.isLt).2 y := by
  have hN := lt_of_lt_of_eq t.isLt N_0
  rw [outsAt0_C m c t (by omega) (by omega) h2]
  frame_out
  unfold_payloads
  pointwise

/-- The result ends as the reference's product. -/
theorem product (c : Dev nD) : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf) y,
    Pipeline.eq_sum_fin_of_reset_step_apply_of_flush (fun n h => (outsAt0 m c n h).2) 16 (fun _ => 0) (part m c)
    (part_first m c) (part_next m c) t ((flush0_2 t).mp hf) y]
  unfold part
  pointwise [val_main_v5, val_main_v4, val_main_v3, val_main_v2, val_main_v1, val_main_v0, val_main_cst]
  refine Fin.sum_mul_add_congr (S := 16) (n := 1024) (fun s k hl => ?_)
  refine (mul_comm (G := EReal) _ _).trans ?_
  blk_point [iblk, V, idx t]

end Cert.DownDwIdeal.Value
end
-- ==== Proof.DownDwClaim.lean ====
module
public import proofs.«01_k».proof.Defs
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.DownDwValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_DownDwRefIdeal : Cert.quiescent_DownDwRefIdeal (hDownDwRefIdeal := Cert.DownDwRefIdeal.Gen.facts) := by
  exact fun m g _ => (θ_run _ _ _).mono
    (fun r h => ⟨fun c => (h c).2, sem_eq_zero_of_no_sems (by decide) r.2⟩) (Cert.DownDwRefIdeal.Value.run (F := Ideal) m g)

/-- The kernel's product is the reference's. -/
theorem value_DownDw : Cert.algebraic_DownDwIdeal_DownDwRefIdeal (hDownDwIdeal := Cert.DownDwIdeal.Gen.facts) (hDownDwRefIdeal := Cert.DownDwRefIdeal.Gen.facts) := by
  intro m g m' g' _ hm
  refine ⟨fun c => Cert.DownDwRefIdeal.Read.val_main_v5 (F := Ideal) (m ((c : Thread Cert.DownDwIdeal.nD Cert.DownDwIdeal.τ).loc Cert.DownDwIdeal.main_arg0)) (m ((c : Thread Cert.DownDwIdeal.nD Cert.DownDwIdeal.τ).loc Cert.DownDwIdeal.main_arg1)),
    (θ_run _ _ _).mono (fun r h c => ⟨((h c).1).trans (Cert.DownDwIdeal.Value.product m c), (h c).2⟩) (Cert.DownDwIdeal.Value.run_blocks (F := Ideal) m g),
    (θ_run _ _ _).mono (fun r h c => ?_) (Cert.DownDwRefIdeal.Value.run (F := Ideal) m' g')⟩
  obtain ⟨e0, e1⟩ := hm c
  exact ⟨(((h c).1).trans (Cert.DownDwRefIdeal.Read.val_main_v5_eq (F := Ideal) _ _)).trans (by rw [e0, e1]),
    (h c).2⟩

end Cert.Proof
end
-- ==== Proof.UpDxValue.lean ====
module
public import proofs.«01_k».proof.Proof.Gen.UpDxIdeal.Value
public import proofs.«01_k».proof.Proof.Gen.UpDxRefIdeal.Read
public import Idealize.ShloMosaic.Lib.Pipeline.ValueKit
public import Idealize.ShloMosaic.Lib.Pipeline.ReadBack
@[expose] public section
set_option maxRecDepth 16384
noncomputable section
namespace Cert.UpDxIdeal.Value
open Idealize.ShloMosaic Idealize.ShloMosaic.TcCoe Idealize.SL.Sem
open Idealize.ShloMosaic.Pipeline (Dat)
open Cert.UpDxIdeal Cert.UpDxIdeal.Gen
open Cert.UpDxRefIdeal.Read
variable (m : (ℓ : Loc nD τ sig) → Buf (Elt Ideal) ℓ)

/-- The block of each array at a grid point. -/
theorem idx : ∀ t : Fin cfg0.N, win0_0.index t = ![t.val, 0] ∧ win0_1.index t = ![0, 0] ∧ win0_2.index t = ![t.val, 0] :=
  (by decide +kernel : ∀ t : Fin grid0.N, _)

/-- The result ends as the reference's product. -/
theorem product (c : Dev nD) : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  unfold_payloads
  pointwise [val_main_v5, val_main_v4, val_main_v3, val_main_v2, val_main_v1, val_main_cst, val_main_v0]
  blk_point [iblk, V, idx t]

end Cert.UpDxIdeal.Value
end
-- ==== Proof.UpDxClaim.lean ====
module
public import proofs.«01_k».proof.Defs
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.UpDxValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_UpDxRefIdeal : Cert.quiescent_UpDxRefIdeal (hUpDxRefIdeal := Cert.UpDxRefIdeal.Gen.facts) := by
  exact fun m g _ => (θ_run _ _ _).mono
    (fun r h => ⟨fun c => (h c).2, sem_eq_zero_of_no_sems (by decide) r.2⟩) (Cert.UpDxRefIdeal.Value.run (F := Ideal) m g)

/-- The kernel's product is the reference's. -/
theorem value_UpDx : Cert.algebraic_UpDxIdeal_UpDxRefIdeal (hUpDxIdeal := Cert.UpDxIdeal.Gen.facts) (hUpDxRefIdeal := Cert.UpDxRefIdeal.Gen.facts) := by
  intro m g m' g' _ hm
  refine ⟨fun c => Cert.UpDxRefIdeal.Read.val_main_v5 (F := Ideal) (m ((c : Thread Cert.UpDxIdeal.nD Cert.UpDxIdeal.τ).loc Cert.UpDxIdeal.main_arg0)) (m ((c : Thread Cert.UpDxIdeal.nD Cert.UpDxIdeal.τ).loc Cert.UpDxIdeal.main_arg1)),
    (θ_run _ _ _).mono (fun r h c => ⟨((h c).1).trans (Cert.UpDxIdeal.Value.product m c), (h c).2⟩) (Cert.UpDxIdeal.Value.run_blocks (F := Ideal) m g),
    (θ_run _ _ _).mono (fun r h c => ?_) (Cert.UpDxRefIdeal.Value.run (F := Ideal) m' g')⟩
  obtain ⟨e0, e1⟩ := hm c
  exact ⟨(((h c).1).trans (Cert.UpDxRefIdeal.Read.val_main_v5_eq (F := Ideal) _ _)).trans (by rw [e0, e1]),
    (h c).2⟩

end Cert.Proof
end
-- ==== Proof.GateDxValue.lean ====
module
public import proofs.«01_k».proof.Proof.Gen.GateDxIdeal.Value
public import proofs.«01_k».proof.Proof.Gen.GateDxRefIdeal.Read
public import Idealize.ShloMosaic.Lib.Pipeline.ValueKit
public import Idealize.ShloMosaic.Lib.Pipeline.ReadBack
@[expose] public section
set_option maxRecDepth 16384
noncomputable section
namespace Cert.GateDxIdeal.Value
open Idealize.ShloMosaic Idealize.ShloMosaic.TcCoe Idealize.SL.Sem
open Idealize.ShloMosaic.Pipeline (Dat)
open Cert.GateDxIdeal Cert.GateDxIdeal.Gen
open Cert.GateDxRefIdeal.Read
variable (m : (ℓ : Loc nD τ sig) → Buf (Elt Ideal) ℓ)

/-- The block of each array at a grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The result ends as the reference's product. -/
theorem product (c : Dev nD) : (dats m 0 c).arrAt 3 cfg0.N = val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  unfold_payloads
  pointwise [val_main_v6, val_main_v5, val_main_v4, val_main_v3, val_main_v2, val_main_v1, val_main_cst, val_main_v0]
  blk_point [iblk, V, idx t]

end Cert.GateDxIdeal.Value
end
-- ==== Proof.GateDxClaim.lean ====
module
public import proofs.«01_k».proof.Defs
public import proofs.«01_k».proof.Proof.Gen.GateDxIdeal.Value
public import proofs.«01_k».proof.Proof.Gen.GateDxRefIdeal.Run
public import proofs.«01_k».proof.Proof.Gen.GateDxRefIdeal.Read
public import proofs.«01_k».proof.Proof.GateDxValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_GateDxRefIdeal : Cert.quiescent_GateDxRefIdeal (hGateDxRefIdeal := Cert.GateDxRefIdeal.Gen.facts) := by
  exact fun m g _ => (θ_run _ _ _).mono
    (fun r h => ⟨fun c => (h c).2, sem_eq_zero_of_no_sems (by decide) r.2⟩) (Cert.GateDxRefIdeal.Value.run (F := Ideal) m g)

/-- The kernel's product is the reference's. -/
theorem value_GateDx : Cert.algebraic_GateDxIdeal_GateDxRefIdeal (hGateDxIdeal := Cert.GateDxIdeal.Gen.facts) (hGateDxRefIdeal := Cert.GateDxRefIdeal.Gen.facts) := by
  intro m g m' g' _ hm
  refine ⟨fun c => Cert.GateDxRefIdeal.Read.val_main_v6 (F := Ideal) (m ((c : Thread Cert.GateDxIdeal.nD Cert.GateDxIdeal.τ).loc Cert.GateDxIdeal.main_arg0)) (m ((c : Thread Cert.GateDxIdeal.nD Cert.GateDxIdeal.τ).loc Cert.GateDxIdeal.main_arg1)) (m ((c : Thread Cert.GateDxIdeal.nD Cert.GateDxIdeal.τ).loc Cert.GateDxIdeal.main_arg2)),
    (θ_run _ _ _).mono (fun r h c => ⟨((h c).1).trans (Cert.GateDxIdeal.Value.product m c), (h c).2⟩) (Cert.GateDxIdeal.Value.run_blocks (F := Ideal) m g),
    (θ_run _ _ _).mono (fun r h c => ?_) (Cert.GateDxRefIdeal.Value.run (F := Ideal) m' g')⟩
  obtain ⟨e0, e1, e2⟩ := hm c
  exact ⟨(((h c).1).trans (Cert.GateDxRefIdeal.Read.val_main_v6_eq (F := Ideal) _ _ _)).trans (by rw [e0, e1, e2]),
    (h c).2⟩

end Cert.Proof
end
-- ==== Proof.UpDwValue.lean ====
module
public import proofs.«01_k».proof.Proof.Gen.UpDwIdeal.Value
public import proofs.«01_k».proof.Proof.Gen.UpDwRefIdeal.Read
public import Idealize.ShloMosaic.Lib.Pipeline.ValueKit
public import Idealize.ShloMosaic.Lib.Pipeline.ReadBack
@[expose] public section
set_option maxRecDepth 16384
noncomputable section
namespace Cert.UpDwIdeal.Value
open Idealize.ShloMosaic Idealize.ShloMosaic.TcCoe Idealize.SL.Sem
open Idealize.ShloMosaic.Pipeline (Dat)
open Cert.UpDwIdeal Cert.UpDwIdeal.Gen
open Cert.UpDwRefIdeal.Read
variable (m : (ℓ : Loc nD τ sig) → Buf (Elt Ideal) ℓ)

/-- The block of each array at a grid point. -/
theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

/-- What a point adds to an entry of its block: the rows of the point. -/
def part (c : Dev nD) (t : Fin cfg0.N) (y : S1408x1024.Idx) : EReal := ∑ k : Fin 1024, HMul.hMul (α := EReal) (β := EReal) (γ := EReal) ((m ((c : Thread nD τ).loc main_arg0)) (ix2 ⟨1024 * (t.val % 16) + k.val, by omega⟩ ⟨1408 * (t.val / 16) + (y 0).val, by have hy : (y 0).val < 1408 := (y 0).isLt; have := lt_of_lt_of_eq t.isLt N_0; omega⟩)) ((m ((c : Thread nD τ).loc main_arg1)) (ix2 ⟨1024 * (t.val % 16) + k.val, by omega⟩ ⟨1024 * (0) + (y 1).val, by have hy : (y 1).val < 1024 := (y 1).isLt; have := lt_of_lt_of_eq t.isLt N_0; omega⟩))

/-- The first point of a block starts the sums. -/
theorem part_first (c : Dev nD) (t : Fin cfg0.N) (h0 : t.val % 16 = 0) (y : S1408x1024.Idx) :
    (outsAt0 m c t.val t.isLt).2 y = 0 + part m c t y := by
  have hN := lt_of_lt_of_eq t.isLt N_0
  rw [outsAt0_A m c t h0 (by omega) (by omega)]
  frame_out
  unfold part
  unfold_payloads
  pointwise
  blk_point [iblk, V, idx t]

/-- A later point adds to the sums. -/
theorem part_next (c : Dev nD) (t : Fin cfg0.N) (h0 : ¬ t.val % 16 = 0) (y : S1408x1024.Idx) :
    (outsAt0 m c t.val t.isLt).2 y = (outsAt0 m c (t.val - 1) (Nat.lt_of_le_of_lt (Nat.sub_le _ _) t.isLt)).2 y + part m c t y := by
  have hN := lt_of_lt_of_eq t.isLt N_0
  by_cases h2 : t.val % 16 = 15
  · rw [outsAt0_C m c t h0 (by omega) h2]
    frame_out
    unfold part
    unfold_payloads
    pointwise
    blk_point [iblk, V, idx t]
    exact congrFun (read_unread_whole _ _ _) _
  · rw [outsAt0_B m c t h0 (by omega) h2]
    frame_out
    unfold part
    unfold_payloads
    pointwise
    blk_point [iblk, V, idx t]
    exact congrFun (read_unread_whole _ _ _) _

/-- The last point of a block stores the sums. -/
theorem stored (c : Dev nD) (t : Fin cfg0.N) (h2 : t.val % 16 = 15) (y : S1408x1024.Idx) :
    (outsAt0 m c t.val t.isLt).1 y = (outsAt0 m c t.val t.isLt).2 y := by
  have hN := lt_of_lt_of_eq t.isLt N_0
  rw [outsAt0_C m c t (by omega) (by omega) h2]
  frame_out
  unfold_payloads
  pointwise

/-- The result ends as the reference's product. -/
theorem product (c : Dev nD) : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf) y,
    Pipeline.eq_sum_fin_of_reset_step_apply_of_flush (fun n h => (outsAt0 m c n h).2) 16 (fun _ => 0) (part m c)
    (part_first m c) (part_next m c) t ((flush0_2 t).mp hf) y]
  unfold part
  pointwise [val_main_v7, val_main_v6, val_main_v5, val_main_v4, val_main_v3, val_main_v2, val_main_v1, val_main_v0, val_main_cst]
  refine Fin.sum_mul_add_congr (S := 16) (n := 1024) (fun s k hl => ?_)
  blk_point [iblk, V, idx t]

end Cert.UpDwIdeal.Value
end
-- ==== Proof.UpDwClaim.lean ====
module
public import proofs.«01_k».proof.Defs
public import proofs.«01_k».proof.Proof.Gen.UpDwIdeal.Value
public import proofs.«01_k».proof.Proof.Gen.UpDwRefIdeal.Run
public import proofs.«01_k».proof.Proof.Gen.UpDwRefIdeal.Read
public import proofs.«01_k».proof.Proof.UpDwValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_UpDwRefIdeal : Cert.quiescent_UpDwRefIdeal (hUpDwRefIdeal := Cert.UpDwRefIdeal.Gen.facts) := by
  exact fun m g _ => (θ_run _ _ _).mono
    (fun r h => ⟨fun c => (h c).2, sem_eq_zero_of_no_sems (by decide) r.2⟩) (Cert.UpDwRefIdeal.Value.run (F := Ideal) m g)

/-- The kernel's product is the reference's. -/
theorem value_UpDw : Cert.algebraic_UpDwIdeal_UpDwRefIdeal (hUpDwIdeal := Cert.UpDwIdeal.Gen.facts) (hUpDwRefIdeal := Cert.UpDwRefIdeal.Gen.facts) := by
  intro m g m' g' _ hm
  refine ⟨fun c => Cert.UpDwRefIdeal.Read.val_main_v7 (F := Ideal) (m ((c : Thread Cert.UpDwIdeal.nD Cert.UpDwIdeal.τ).loc Cert.UpDwIdeal.main_arg0)) (m ((c : Thread Cert.UpDwIdeal.nD Cert.UpDwIdeal.τ).loc Cert.UpDwIdeal.main_arg1)),
    (θ_run _ _ _).mono (fun r h c => ⟨((h c).1).trans (Cert.UpDwIdeal.Value.product m c), (h c).2⟩) (Cert.UpDwIdeal.Value.run_blocks (F := Ideal) m g),
    (θ_run _ _ _).mono (fun r h c => ?_) (Cert.UpDwRefIdeal.Value.run (F := Ideal) m' g')⟩
  obtain ⟨e0, e1⟩ := hm c
  exact ⟨(((h c).1).trans (Cert.UpDwRefIdeal.Read.val_main_v7_eq (F := Ideal) _ _)).trans (by rw [e0, e1]),
    (h c).2⟩

end Cert.Proof
end
-- ==== Proof.LoDxValue.lean ====
module
public import proofs.«01_k».proof.Proof.Gen.LoDxIdeal.Value
public import proofs.«01_k».proof.Proof.Gen.LoDxRefIdeal.Read
public import Idealize.ShloMosaic.Lib.Pipeline.ValueKit
public import Idealize.ShloMosaic.Lib.Pipeline.ReadBack
@[expose] public section
set_option maxRecDepth 16384
noncomputable section
namespace Cert.LoDxIdeal.Value
open Idealize.ShloMosaic Idealize.ShloMosaic.TcCoe Idealize.SL.Sem
open Idealize.ShloMosaic.Pipeline (Dat)
open Cert.LoDxIdeal Cert.LoDxIdeal.Gen
open Cert.LoDxRefIdeal.Read
variable (m : (ℓ : Loc nD τ sig) → Buf (Elt Ideal) ℓ)

/-- The block of each array at a grid point. -/
theorem idx : ∀ t : Fin cfg0.N, win0_0.index t = ![t.val, 0] ∧ win0_1.index t = ![0, 0] ∧ win0_2.index t = ![t.val, 0] :=
  (by decide +kernel : ∀ t : Fin grid0.N, _)

/-- The result ends as the reference's product. -/
theorem product (c : Dev nD) : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  unfold_payloads
  pointwise [val_main_v5, val_main_v4, val_main_v3, val_main_v2, val_main_v1, val_main_cst, val_main_v0]
  blk_point [iblk, V, idx t]

end Cert.LoDxIdeal.Value
end
-- ==== Proof.LoDxClaim.lean ====
module
public import proofs.«01_k».proof.Defs
public import proofs.«01_k».proof.Proof.Gen.LoDxIdeal.Value
public import proofs.«01_k».proof.Proof.Gen.LoDxRefIdeal.Run
public import proofs.«01_k».proof.Proof.Gen.LoDxRefIdeal.Read
public import proofs.«01_k».proof.Proof.LoDxValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_LoDxRefIdeal : Cert.quiescent_LoDxRefIdeal (hLoDxRefIdeal := Cert.LoDxRefIdeal.Gen.facts) := by
  exact fun m g _ => (θ_run _ _ _).mono
    (fun r h => ⟨fun c => (h c).2, sem_eq_zero_of_no_sems (by decide) r.2⟩) (Cert.LoDxRefIdeal.Value.run (F := Ideal) m g)

/-- The kernel's product is the reference's. -/
theorem value_LoDx : Cert.algebraic_LoDxIdeal_LoDxRefIdeal (hLoDxIdeal := Cert.LoDxIdeal.Gen.facts) (hLoDxRefIdeal := Cert.LoDxRefIdeal.Gen.facts) := by
  intro m g m' g' _ hm
  refine ⟨fun c => Cert.LoDxRefIdeal.Read.val_main_v5 (F := Ideal) (m ((c : Thread Cert.LoDxIdeal.nD Cert.LoDxIdeal.τ).loc Cert.LoDxIdeal.main_arg0)) (m ((c : Thread Cert.LoDxIdeal.nD Cert.LoDxIdeal.τ).loc Cert.LoDxIdeal.main_arg1)),
    (θ_run _ _ _).mono (fun r h c => ⟨((h c).1).trans (Cert.LoDxIdeal.Value.product m c), (h c).2⟩) (Cert.LoDxIdeal.Value.run_blocks (F := Ideal) m g),
    (θ_run _ _ _).mono (fun r h c => ?_) (Cert.LoDxRefIdeal.Value.run (F := Ideal) m' g')⟩
  obtain ⟨e0, e1⟩ := hm c
  exact ⟨(((h c).1).trans (Cert.LoDxRefIdeal.Read.val_main_v5_eq (F := Ideal) _ _)).trans (by rw [e0, e1]),
    (h c).2⟩

end Cert.Proof
end
-- ==== Proof.HiDxValue.lean ====
module
public import proofs.«01_k».proof.Proof.Gen.HiDxIdeal.Value
public import proofs.«01_k».proof.Proof.Gen.HiDxRefIdeal.Read
public import Idealize.ShloMosaic.Lib.Pipeline.ValueKit
public import Idealize.ShloMosaic.Lib.Pipeline.ReadBack
@[expose] public section
set_option maxRecDepth 16384
noncomputable section
namespace Cert.HiDxIdeal.Value
open Idealize.ShloMosaic Idealize.ShloMosaic.TcCoe Idealize.SL.Sem
open Idealize.ShloMosaic.Pipeline (Dat)
open Cert.HiDxIdeal Cert.HiDxIdeal.Gen
open Cert.HiDxRefIdeal.Read
variable (m : (ℓ : Loc nD τ sig) → Buf (Elt Ideal) ℓ)

/-- The block of each array at a grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The result ends as the reference's product. -/
theorem product (c : Dev nD) : (dats m 0 c).arrAt 3 cfg0.N = val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  unfold_payloads
  pointwise [val_main_v6, val_main_v5, val_main_v4, val_main_v3, val_main_v2, val_main_v1, val_main_cst, val_main_v0]
  blk_point [iblk, V, idx t]

end Cert.HiDxIdeal.Value
end
-- ==== Proof.HiDxClaim.lean ====
module
public import proofs.«01_k».proof.Defs
public import proofs.«01_k».proof.Proof.Gen.HiDxIdeal.Value
public import proofs.«01_k».proof.Proof.Gen.HiDxRefIdeal.Run
public import proofs.«01_k».proof.Proof.Gen.HiDxRefIdeal.Read
public import proofs.«01_k».proof.Proof.HiDxValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_HiDxRefIdeal : Cert.quiescent_HiDxRefIdeal (hHiDxRefIdeal := Cert.HiDxRefIdeal.Gen.facts) := by
  exact fun m g _ => (θ_run _ _ _).mono
    (fun r h => ⟨fun c => (h c).2, sem_eq_zero_of_no_sems (by decide) r.2⟩) (Cert.HiDxRefIdeal.Value.run (F := Ideal) m g)

/-- The kernel's product is the reference's. -/
theorem value_HiDx : Cert.algebraic_HiDxIdeal_HiDxRefIdeal (hHiDxIdeal := Cert.HiDxIdeal.Gen.facts) (hHiDxRefIdeal := Cert.HiDxRefIdeal.Gen.facts) := by
  intro m g m' g' _ hm
  refine ⟨fun c => Cert.HiDxRefIdeal.Read.val_main_v6 (F := Ideal) (m ((c : Thread Cert.HiDxIdeal.nD Cert.HiDxIdeal.τ).loc Cert.HiDxIdeal.main_arg0)) (m ((c : Thread Cert.HiDxIdeal.nD Cert.HiDxIdeal.τ).loc Cert.HiDxIdeal.main_arg1)) (m ((c : Thread Cert.HiDxIdeal.nD Cert.HiDxIdeal.τ).loc Cert.HiDxIdeal.main_arg2)),
    (θ_run _ _ _).mono (fun r h c => ⟨((h c).1).trans (Cert.HiDxIdeal.Value.product m c), (h c).2⟩) (Cert.HiDxIdeal.Value.run_blocks (F := Ideal) m g),
    (θ_run _ _ _).mono (fun r h c => ?_) (Cert.HiDxRefIdeal.Value.run (F := Ideal) m' g')⟩
  obtain ⟨e0, e1, e2⟩ := hm c
  exact ⟨(((h c).1).trans (Cert.HiDxRefIdeal.Read.val_main_v6_eq (F := Ideal) _ _ _)).trans (by rw [e0, e1, e2]),
    (h c).2⟩

end Cert.Proof
end
-- ==== Proof.LoDwValue.lean ====
module
public import proofs.«01_k».proof.Proof.Gen.LoDwIdeal.Value
public import proofs.«01_k».proof.Proof.Gen.LoDwRefIdeal.Read
public import Idealize.ShloMosaic.Lib.Pipeline.ValueKit
public import Idealize.ShloMosaic.Lib.Pipeline.ReadBack
@[expose] public section
set_option maxRecDepth 16384
noncomputable section
namespace Cert.LoDwIdeal.Value
open Idealize.ShloMosaic Idealize.ShloMosaic.TcCoe Idealize.SL.Sem
open Idealize.ShloMosaic.Pipeline (Dat)
open Cert.LoDwIdeal Cert.LoDwIdeal.Gen
open Cert.LoDwRefIdeal.Read
variable (m : (ℓ : Loc nD τ sig) → Buf (Elt Ideal) ℓ)

/-- The block of each array at a grid point. -/
theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

/-- What a point adds to an entry of its block: the rows of the point. -/
def part (c : Dev nD) (t : Fin cfg0.N) (y : S1280x1024.Idx) : EReal := ∑ k : Fin 1024, HMul.hMul (α := EReal) (β := EReal) (γ := EReal) ((m ((c : Thread nD τ).loc main_arg0)) (ix2 ⟨1024 * (t.val % 16) + k.val, by omega⟩ ⟨1280 * (t.val / 16) + (y 0).val, by have hy : (y 0).val < 1280 := (y 0).isLt; have := lt_of_lt_of_eq t.isLt N_0; omega⟩)) ((m ((c : Thread nD τ).loc main_arg1)) (ix2 ⟨1024 * (t.val % 16) + k.val, by omega⟩ ⟨1024 * (0) + (y 1).val, by have hy : (y 1).val < 1024 := (y 1).isLt; have := lt_of_lt_of_eq t.isLt N_0; omega⟩))

/-- The first point of a block starts the sums. -/
theorem part_first (c : Dev nD) (t : Fin cfg0.N) (h0 : t.val % 16 = 0) (y : S1280x1024.Idx) :
    (outsAt0 m c t.val t.isLt).2 y = 0 + part m c t y := by
  have hN := lt_of_lt_of_eq t.isLt N_0
  rw [outsAt0_A m c t h0 (by omega) (by omega)]
  frame_out
  unfold part
  unfold_payloads
  pointwise
  blk_point [iblk, V, idx t]

/-- A later point adds to the sums. -/
theorem part_next (c : Dev nD) (t : Fin cfg0.N) (h0 : ¬ t.val % 16 = 0) (y : S1280x1024.Idx) :
    (outsAt0 m c t.val t.isLt).2 y = (outsAt0 m c (t.val - 1) (Nat.lt_of_le_of_lt (Nat.sub_le _ _) t.isLt)).2 y + part m c t y := by
  have hN := lt_of_lt_of_eq t.isLt N_0
  by_cases h2 : t.val % 16 = 15
  · rw [outsAt0_C m c t h0 (by omega) h2]
    frame_out
    unfold part
    unfold_payloads
    pointwise
    blk_point [iblk, V, idx t]
    exact congrFun (read_unread_whole _ _ _) _
  · rw [outsAt0_B m c t h0 (by omega) h2]
    frame_out
    unfold part
    unfold_payloads
    pointwise
    blk_point [iblk, V, idx t]
    exact congrFun (read_unread_whole _ _ _) _

/-- The last point of a block stores the sums. -/
theorem stored (c : Dev nD) (t : Fin cfg0.N) (h2 : t.val % 16 = 15) (y : S1280x1024.Idx) :
    (outsAt0 m c t.val t.isLt).1 y = (outsAt0 m c t.val t.isLt).2 y := by
  have hN := lt_of_lt_of_eq t.isLt N_0
  rw [outsAt0_C m c t (by omega) (by omega) h2]
  frame_out
  unfold_payloads
  pointwise

/-- The result ends as the reference's product. -/
theorem product (c : Dev nD) : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf) y,
    Pipeline.eq_sum_fin_of_reset_step_apply_of_flush (fun n h => (outsAt0 m c n h).2) 16 (fun _ => 0) (part m c)
    (part_first m c) (part_next m c) t ((flush0_2 t).mp hf) y]
  unfold part
  pointwise [val_main_v7, val_main_v6, val_main_v5, val_main_v4, val_main_v3, val_main_v2, val_main_v1, val_main_v0, val_main_cst]
  refine Fin.sum_mul_add_congr (S := 16) (n := 1024) (fun s k hl => ?_)
  blk_point [iblk, V, idx t]

end Cert.LoDwIdeal.Value
end
-- ==== Proof.LoDwClaim.lean ====
module
public import proofs.«01_k».proof.Defs
public import proofs.«01_k».proof.Proof.Gen.LoDwIdeal.Value
public import proofs.«01_k».proof.Proof.Gen.LoDwRefIdeal.Run
public import proofs.«01_k».proof.Proof.Gen.LoDwRefIdeal.Read
public import proofs.«01_k».proof.Proof.LoDwValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_LoDwRefIdeal : Cert.quiescent_LoDwRefIdeal (hLoDwRefIdeal := Cert.LoDwRefIdeal.Gen.facts) := by
  exact fun m g _ => (θ_run _ _ _).mono
    (fun r h => ⟨fun c => (h c).2, sem_eq_zero_of_no_sems (by decide) r.2⟩) (Cert.LoDwRefIdeal.Value.run (F := Ideal) m g)

/-- The kernel's product is the reference's. -/
theorem value_LoDw : Cert.algebraic_LoDwIdeal_LoDwRefIdeal (hLoDwIdeal := Cert.LoDwIdeal.Gen.facts) (hLoDwRefIdeal := Cert.LoDwRefIdeal.Gen.facts) := by
  intro m g m' g' _ hm
  refine ⟨fun c => Cert.LoDwRefIdeal.Read.val_main_v7 (F := Ideal) (m ((c : Thread Cert.LoDwIdeal.nD Cert.LoDwIdeal.τ).loc Cert.LoDwIdeal.main_arg0)) (m ((c : Thread Cert.LoDwIdeal.nD Cert.LoDwIdeal.τ).loc Cert.LoDwIdeal.main_arg1)),
    (θ_run _ _ _).mono (fun r h c => ⟨((h c).1).trans (Cert.LoDwIdeal.Value.product m c), (h c).2⟩) (Cert.LoDwIdeal.Value.run_blocks (F := Ideal) m g),
    (θ_run _ _ _).mono (fun r h c => ?_) (Cert.LoDwRefIdeal.Value.run (F := Ideal) m' g')⟩
  obtain ⟨e0, e1⟩ := hm c
  exact ⟨(((h c).1).trans (Cert.LoDwRefIdeal.Read.val_main_v7_eq (F := Ideal) _ _)).trans (by rw [e0, e1]),
    (h c).2⟩

end Cert.Proof
end
-- ==== Proof.HiDwValue.lean ====
module
public import proofs.«01_k».proof.Proof.Gen.HiDwIdeal.Value
public import proofs.«01_k».proof.Proof.Gen.HiDwRefIdeal.Read
public import Idealize.ShloMosaic.Lib.Pipeline.ValueKit
public import Idealize.ShloMosaic.Lib.Pipeline.ReadBack
@[expose] public section
set_option maxRecDepth 16384
noncomputable section
namespace Cert.HiDwIdeal.Value
open Idealize.ShloMosaic Idealize.ShloMosaic.TcCoe Idealize.SL.Sem
open Idealize.ShloMosaic.Pipeline (Dat)
open Cert.HiDwIdeal Cert.HiDwIdeal.Gen
open Cert.HiDwRefIdeal.Read
variable (m : (ℓ : Loc nD τ sig) → Buf (Elt Ideal) ℓ)

/-- The block of each array at a grid point. -/
theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

/-- What a point adds to an entry of its block: the rows of the point. -/
def part (c : Dev nD) (t : Fin cfg0.N) (y : S1536x1024.Idx) : EReal := ∑ k : Fin 1024, HMul.hMul (α := EReal) (β := EReal) (γ := EReal) ((m ((c : Thread nD τ).loc main_arg0)) (ix2 ⟨1024 * (t.val % 16) + k.val, by omega⟩ ⟨1536 * (t.val / 16) + (y 0).val, by have hy : (y 0).val < 1536 := (y 0).isLt; have := lt_of_lt_of_eq t.isLt N_0; omega⟩)) ((m ((c : Thread nD τ).loc main_arg1)) (ix2 ⟨1024 * (t.val % 16) + k.val, by omega⟩ ⟨1024 * (0) + (y 1).val, by have hy : (y 1).val < 1024 := (y 1).isLt; have := lt_of_lt_of_eq t.isLt N_0; omega⟩))

/-- The first point of a block starts the sums. -/
theorem part_first (c : Dev nD) (t : Fin cfg0.N) (h0 : t.val % 16 = 0) (y : S1536x1024.Idx) :
    (outsAt0 m c t.val t.isLt).2 y = 0 + part m c t y := by
  have hN := lt_of_lt_of_eq t.isLt N_0
  rw [outsAt0_A m c t h0 (by omega) (by omega)]
  frame_out
  unfold part
  unfold_payloads
  pointwise
  blk_point [iblk, V, idx t]

/-- A later point adds to the sums. -/
theorem part_next (c : Dev nD) (t : Fin cfg0.N) (h0 : ¬ t.val % 16 = 0) (y : S1536x1024.Idx) :
    (outsAt0 m c t.val t.isLt).2 y = (outsAt0 m c (t.val - 1) (Nat.lt_of_le_of_lt (Nat.sub_le _ _) t.isLt)).2 y + part m c t y := by
  have hN := lt_of_lt_of_eq t.isLt N_0
  by_cases h2 : t.val % 16 = 15
  · rw [outsAt0_C m c t h0 (by omega) h2]
    frame_out
    unfold part
    unfold_payloads
    pointwise
    blk_point [iblk, V, idx t]
    exact congrFun (read_unread_whole _ _ _) _
  · rw [outsAt0_B m c t h0 (by omega) h2]
    frame_out
    unfold part
    unfold_payloads
    pointwise
    blk_point [iblk, V, idx t]
    exact congrFun (read_unread_whole _ _ _) _

/-- The last point of a block stores the sums. -/
theorem stored (c : Dev nD) (t : Fin cfg0.N) (h2 : t.val % 16 = 15) (y : S1536x1024.Idx) :
    (outsAt0 m c t.val t.isLt).1 y = (outsAt0 m c t.val t.isLt).2 y := by
  have hN := lt_of_lt_of_eq t.isLt N_0
  rw [outsAt0_C m c t (by omega) (by omega) h2]
  frame_out
  unfold_payloads
  pointwise

/-- The result ends as the reference's product. -/
theorem product (c : Dev nD) : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf) y,
    Pipeline.eq_sum_fin_of_reset_step_apply_of_flush (fun n h => (outsAt0 m c n h).2) 16 (fun _ => 0) (part m c)
    (part_first m c) (part_next m c) t ((flush0_2 t).mp hf) y]
  unfold part
  pointwise [val_main_v7, val_main_v6, val_main_v5, val_main_v4, val_main_v3, val_main_v2, val_main_v1, val_main_v0, val_main_cst]
  refine Fin.sum_mul_add_congr (S := 16) (n := 1024) (fun s k hl => ?_)
  blk_point [iblk, V, idx t]

end Cert.HiDwIdeal.Value
end
-- ==== Proof.HiDwClaim.lean ====
module
public import proofs.«01_k».proof.Defs
public import proofs.«01_k».proof.Proof.Gen.HiDwIdeal.Value
public import proofs.«01_k».proof.Proof.Gen.HiDwRefIdeal.Run
public import proofs.«01_k».proof.Proof.Gen.HiDwRefIdeal.Read
public import proofs.«01_k».proof.Proof.HiDwValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_HiDwRefIdeal : Cert.quiescent_HiDwRefIdeal (hHiDwRefIdeal := Cert.HiDwRefIdeal.Gen.facts) := by
  exact fun m g _ => (θ_run _ _ _).mono
    (fun r h => ⟨fun c => (h c).2, sem_eq_zero_of_no_sems (by decide) r.2⟩) (Cert.HiDwRefIdeal.Value.run (F := Ideal) m g)

/-- The kernel's product is the reference's. -/
theorem value_HiDw : Cert.algebraic_HiDwIdeal_HiDwRefIdeal (hHiDwIdeal := Cert.HiDwIdeal.Gen.facts) (hHiDwRefIdeal := Cert.HiDwRefIdeal.Gen.facts) := by
  intro m g m' g' _ hm
  refine ⟨fun c => Cert.HiDwRefIdeal.Read.val_main_v7 (F := Ideal) (m ((c : Thread Cert.HiDwIdeal.nD Cert.HiDwIdeal.τ).loc Cert.HiDwIdeal.main_arg0)) (m ((c : Thread Cert.HiDwIdeal.nD Cert.HiDwIdeal.τ).loc Cert.HiDwIdeal.main_arg1)),
    (θ_run _ _ _).mono (fun r h c => ⟨((h c).1).trans (Cert.HiDwIdeal.Value.product m c), (h c).2⟩) (Cert.HiDwIdeal.Value.run_blocks (F := Ideal) m g),
    (θ_run _ _ _).mono (fun r h c => ?_) (Cert.HiDwRefIdeal.Value.run (F := Ideal) m' g')⟩
  obtain ⟨e0, e1⟩ := hm c
  exact ⟨(((h c).1).trans (Cert.HiDwRefIdeal.Read.val_main_v7_eq (F := Ideal) _ _)).trans (by rw [e0, e1]),
    (h c).2⟩

end Cert.Proof
end
-- ==== Proof.OutDxValue.lean ====
module
public import proofs.«01_k».proof.Proof.Gen.OutDxIdeal.Value
public import proofs.«01_k».proof.Proof.Gen.OutDxRefIdeal.Read
public import Idealize.ShloMosaic.Lib.Pipeline.ValueKit
public import Idealize.ShloMosaic.Lib.Pipeline.ReadBack
@[expose] public section
set_option maxRecDepth 16384
noncomputable section
namespace Cert.OutDxIdeal.Value
open Idealize.ShloMosaic Idealize.ShloMosaic.TcCoe Idealize.SL.Sem
open Idealize.ShloMosaic.Pipeline (Dat)
open Cert.OutDxIdeal Cert.OutDxIdeal.Gen
open Cert.OutDxRefIdeal.Read
variable (m : (ℓ : Loc nD τ sig) → Buf (Elt Ideal) ℓ)

/-- The block of each array at a grid point. -/
theorem idx : ∀ t : Fin cfg0.N, win0_0.index t = ![t.val, 0] ∧ win0_1.index t = ![0, 0] ∧ win0_2.index t = ![t.val, 0] :=
  (by decide +kernel : ∀ t : Fin grid0.N, _)

/-- The result ends as the reference's product. -/
theorem product (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  unfold_payloads
  pointwise [val_main_v3, val_main_v2, val_main_v1, val_main_v0, val_main_cst]
  blk_point [iblk, V, idx t]

end Cert.OutDxIdeal.Value
end
-- ==== Proof.OutDxClaim.lean ====
module
public import proofs.«01_k».proof.Defs
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.OutDxValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_OutDxRefIdeal : Cert.quiescent_OutDxRefIdeal (hOutDxRefIdeal := Cert.OutDxRefIdeal.Gen.facts) := by
  exact fun m g _ => (θ_run _ _ _).mono
    (fun r h => ⟨fun c => (h c).2, sem_eq_zero_of_no_sems (by decide) r.2⟩) (Cert.OutDxRefIdeal.Value.run (F := Ideal) m g)

/-- The kernel's product is the reference's. -/
theorem value_OutDx : Cert.algebraic_OutDxIdeal_OutDxRefIdeal (hOutDxIdeal := Cert.OutDxIdeal.Gen.facts) (hOutDxRefIdeal := Cert.OutDxRefIdeal.Gen.facts) := by
  intro m g m' g' _ hm
  refine ⟨fun c => Cert.OutDxRefIdeal.Read.val_main_v3 (F := Ideal) (m ((c : Thread Cert.OutDxIdeal.nD Cert.OutDxIdeal.τ).loc Cert.OutDxIdeal.main_arg0)) (m ((c : Thread Cert.OutDxIdeal.nD Cert.OutDxIdeal.τ).loc Cert.OutDxIdeal.main_arg1)),
    (θ_run _ _ _).mono (fun r h c => ⟨((h c).1).trans (Cert.OutDxIdeal.Value.product m c), (h c).2⟩) (Cert.OutDxIdeal.Value.run_blocks (F := Ideal) m g),
    (θ_run _ _ _).mono (fun r h c => ?_) (Cert.OutDxRefIdeal.Value.run (F := Ideal) m' g')⟩
  obtain ⟨e0, e1⟩ := hm c
  exact ⟨(((h c).1).trans (Cert.OutDxRefIdeal.Read.val_main_v3_eq (F := Ideal) _ _)).trans (by rw [e0, e1]),
    (h c).2⟩

end Cert.Proof
end
-- ==== Proof.OutDwValue.lean ====
module
public import proofs.«01_k».proof.Proof.Gen.OutDwIdeal.Value
public import proofs.«01_k».proof.Proof.Gen.OutDwRefIdeal.Read
public import Idealize.ShloMosaic.Lib.Pipeline.ValueKit
public import Idealize.ShloMosaic.Lib.Pipeline.ReadBack
@[expose] public section
set_option maxRecDepth 16384
noncomputable section
namespace Cert.OutDwIdeal.Value
open Idealize.ShloMosaic Idealize.ShloMosaic.TcCoe Idealize.SL.Sem
open Idealize.ShloMosaic.Pipeline (Dat)
open Cert.OutDwIdeal Cert.OutDwIdeal.Gen
open Cert.OutDwRefIdeal.Read
variable (m : (ℓ : Loc nD τ sig) → Buf (Elt Ideal) ℓ)

/-- The block of each array at a grid point. -/
theorem idx : ∀ t : Fin cfg0.N, win0_0.index t = ![t.val % 16, 0] ∧ win0_1.index t = ![t.val % 16, 0] ∧ win0_2.index t = ![0, 0] :=
  (by decide +kernel : ∀ t : Fin grid0.N, _)

/-- What a point adds to an entry of its block: the rows of the point. -/
def part (c : Dev nD) (t : Fin cfg0.N) (y : S1024x1024.Idx) : EReal := ∑ k : Fin 1024, HMul.hMul (α := EReal) (β := EReal) (γ := EReal) ((m ((c : Thread nD τ).loc main_arg0)) (ix2 ⟨1024 * (t.val % 16) + k.val, by omega⟩ ⟨1024 * (0) + (y 0).val, by have hy : (y 0).val < 1024 := (y 0).isLt; have := lt_of_lt_of_eq t.isLt N_0; omega⟩)) ((m ((c : Thread nD τ).loc main_arg1)) (ix2 ⟨1024 * (t.val % 16) + k.val, by omega⟩ ⟨1024 * (0) + (y 1).val, by have hy : (y 1).val < 1024 := (y 1).isLt; have := lt_of_lt_of_eq t.isLt N_0; omega⟩))

/-- The first point of a block starts the sums. -/
theorem part_first (c : Dev nD) (t : Fin cfg0.N) (h0 : t.val % 16 = 0) (y : S1024x1024.Idx) :
    (outsAt0 m c t.val t.isLt).2 y = 0 + part m c t y := by
  have hN := lt_of_lt_of_eq t.isLt N_0
  rw [outsAt0_A m c t h0 (by omega) (by omega)]
  frame_out
  unfold part
  unfold_payloads
  pointwise
  blk_point [iblk, V, idx t]

/-- A later point adds to the sums. -/
theorem part_next (c : Dev nD) (t : Fin cfg0.N) (h0 : ¬ t.val % 16 = 0) (y : S1024x1024.Idx) :
    (outsAt0 m c t.val t.isLt).2 y = (outsAt0 m c (t.val - 1) (Nat.lt_of_le_of_lt (Nat.sub_le _ _) t.isLt)).2 y + part m c t y := by
  have hN := lt_of_lt_of_eq t.isLt N_0
  by_cases h2 : t.val % 16 = 15
  · rw [outsAt0_C m c t h0 (by omega) h2]
    frame_out
    unfold part
    unfold_payloads
    pointwise
    blk_point [iblk, V, idx t]
    exact congrFun (read_unread_whole _ _ _) _
  · rw [outsAt0_B m c t h0 (by omega) h2]
    frame_out
    unfold part
    unfold_payloads
    pointwise
    blk_point [iblk, V, idx t]
    exact congrFun (read_unread_whole _ _ _) _

/-- The last point of a block stores the sums. -/
theorem stored (c : Dev nD) (t : Fin cfg0.N) (h2 : t.val % 16 = 15) (y : S1024x1024.Idx) :
    (outsAt0 m c t.val t.isLt).1 y = (outsAt0 m c t.val t.isLt).2 y := by
  have hN := lt_of_lt_of_eq t.isLt N_0
  rw [outsAt0_C m c t (by omega) (by omega) h2]
  frame_out
  unfold_payloads
  pointwise

/-- The result ends as the reference's product. -/
theorem product (c : Dev nD) : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf) y,
    Pipeline.eq_sum_fin_of_reset_step_apply_of_flush (fun n h => (outsAt0 m c n h).2) 16 (fun _ => 0) (part m c)
    (part_first m c) (part_next m c) t ((flush0_2 t).mp hf) y]
  unfold part
  pointwise [val_main_v5, val_main_v4, val_main_v3, val_main_v2, val_main_v1, val_main_v0, val_main_cst]
  refine Fin.sum_mul_add_congr (S := 16) (n := 1024) (fun s k hl => ?_)
  refine (mul_comm (G := EReal) _ _).trans ?_
  blk_point [iblk, V, idx t]

end Cert.OutDwIdeal.Value
end
-- ==== Proof.OutDwClaim.lean ====
module
public import proofs.«01_k».proof.Defs
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.OutDwValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_OutDwRefIdeal : Cert.quiescent_OutDwRefIdeal (hOutDwRefIdeal := Cert.OutDwRefIdeal.Gen.facts) := by
  exact fun m g _ => (θ_run _ _ _).mono
    (fun r h => ⟨fun c => (h c).2, sem_eq_zero_of_no_sems (by decide) r.2⟩) (Cert.OutDwRefIdeal.Value.run (F := Ideal) m g)

/-- The kernel's product is the reference's. -/
theorem value_OutDw : Cert.algebraic_OutDwIdeal_OutDwRefIdeal (hOutDwIdeal := Cert.OutDwIdeal.Gen.facts) (hOutDwRefIdeal := Cert.OutDwRefIdeal.Gen.facts) := by
  intro m g m' g' _ hm
  refine ⟨fun c => Cert.OutDwRefIdeal.Read.val_main_v5 (F := Ideal) (m ((c : Thread Cert.OutDwIdeal.nD Cert.OutDwIdeal.τ).loc Cert.OutDwIdeal.main_arg0)) (m ((c : Thread Cert.OutDwIdeal.nD Cert.OutDwIdeal.τ).loc Cert.OutDwIdeal.main_arg1)),
    (θ_run _ _ _).mono (fun r h c => ⟨((h c).1).trans (Cert.OutDwIdeal.Value.product m c), (h c).2⟩) (Cert.OutDwIdeal.Value.run_blocks (F := Ideal) m g),
    (θ_run _ _ _).mono (fun r h c => ?_) (Cert.OutDwRefIdeal.Value.run (F := Ideal) m' g')⟩
  obtain ⟨e0, e1⟩ := hm c
  exact ⟨(((h c).1).trans (Cert.OutDwRefIdeal.Read.val_main_v5_eq (F := Ideal) _ _)).trans (by rw [e0, e1]),
    (h c).2⟩

end Cert.Proof
end
-- ==== Proof.DilDxValue.lean ====
module
public import proofs.«01_k».proof.Proof.Gen.DilDxIdeal.Value
public import proofs.«01_k».proof.Proof.Gen.DilDxRefIdeal.Read
public import Idealize.ShloMosaic.Lib.Pipeline.ValueKit
public import Idealize.ShloMosaic.Lib.Pipeline.ReadBack
@[expose] public section
set_option maxRecDepth 16384
noncomputable section
namespace Cert.DilDxIdeal.Value
open Idealize.ShloMosaic Idealize.ShloMosaic.TcCoe Idealize.SL.Sem
open Idealize.ShloMosaic.Pipeline (Dat)
open Cert.DilDxIdeal Cert.DilDxIdeal.Gen
open Cert.DilDxRefIdeal.Read
variable (m : (ℓ : Loc nD τ sig) → Buf (Elt Ideal) ℓ)

/-- The block of each array at a grid point. -/
theorem idx : ∀ t : Fin cfg0.N, win0_0.index t = ![t.val, 0] ∧ win0_1.index t = ![0, 0] ∧ win0_2.index t = ![t.val, 0] :=
  (by decide +kernel : ∀ t : Fin grid0.N, _)

/-- The result ends as the reference's product. -/
theorem product (c : Dev nD) : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  unfold_payloads
  pointwise [val_main_v5, val_main_v4, val_main_v3, val_main_v2, val_main_v1, val_main_cst, val_main_v0]
  blk_point [iblk, V, idx t]

end Cert.DilDxIdeal.Value
end
-- ==== Proof.DilDxClaim.lean ====
module
public import proofs.«01_k».proof.Defs
public import proofs.«01_k».proof.Proof.Gen.DilDxIdeal.Value
public import proofs.«01_k».proof.Proof.Gen.DilDxRefIdeal.Run
public import proofs.«01_k».proof.Proof.Gen.DilDxRefIdeal.Read
public import proofs.«01_k».proof.Proof.DilDxValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_DilDxRefIdeal : Cert.quiescent_DilDxRefIdeal (hDilDxRefIdeal := Cert.DilDxRefIdeal.Gen.facts) := by
  exact fun m g _ => (θ_run _ _ _).mono
    (fun r h => ⟨fun c => (h c).2, sem_eq_zero_of_no_sems (by decide) r.2⟩) (Cert.DilDxRefIdeal.Value.run (F := Ideal) m g)

/-- The kernel's product is the reference's. -/
theorem value_DilDx : Cert.algebraic_DilDxIdeal_DilDxRefIdeal (hDilDxIdeal := Cert.DilDxIdeal.Gen.facts) (hDilDxRefIdeal := Cert.DilDxRefIdeal.Gen.facts) := by
  intro m g m' g' _ hm
  refine ⟨fun c => Cert.DilDxRefIdeal.Read.val_main_v5 (F := Ideal) (m ((c : Thread Cert.DilDxIdeal.nD Cert.DilDxIdeal.τ).loc Cert.DilDxIdeal.main_arg0)) (m ((c : Thread Cert.DilDxIdeal.nD Cert.DilDxIdeal.τ).loc Cert.DilDxIdeal.main_arg1)),
    (θ_run _ _ _).mono (fun r h c => ⟨((h c).1).trans (Cert.DilDxIdeal.Value.product m c), (h c).2⟩) (Cert.DilDxIdeal.Value.run_blocks (F := Ideal) m g),
    (θ_run _ _ _).mono (fun r h c => ?_) (Cert.DilDxRefIdeal.Value.run (F := Ideal) m' g')⟩
  obtain ⟨e0, e1⟩ := hm c
  exact ⟨(((h c).1).trans (Cert.DilDxRefIdeal.Read.val_main_v5_eq (F := Ideal) _ _)).trans (by rw [e0, e1]),
    (h c).2⟩

end Cert.Proof
end
-- ==== Proof.DilDwValue.lean ====
module
public import proofs.«01_k».proof.Proof.Gen.DilDwIdeal.Value
public import proofs.«01_k».proof.Proof.Gen.DilDwRefIdeal.Read
public import Idealize.ShloMosaic.Lib.Pipeline.ValueKit
public import Idealize.ShloMosaic.Lib.Pipeline.ReadBack
@[expose] public section
set_option maxRecDepth 16384
noncomputable section
namespace Cert.DilDwIdeal.Value
open Idealize.ShloMosaic Idealize.ShloMosaic.TcCoe Idealize.SL.Sem
open Idealize.ShloMosaic.Pipeline (Dat)
open Cert.DilDwIdeal Cert.DilDwIdeal.Gen
open Cert.DilDwRefIdeal.Read
variable (m : (ℓ : Loc nD τ sig) → Buf (Elt Ideal) ℓ)

/-- The block of each array at a grid point. -/
theorem idx : ∀ t : Fin cfg0.N, win0_0.index t = ![t.val % 16, 0] ∧ win0_1.index t = ![t.val % 16, 0] ∧ win0_2.index t = ![0, 0] :=
  (by decide +kernel : ∀ t : Fin grid0.N, _)

/-- What a point adds to an entry of its block: the rows of the point. -/
def part (c : Dev nD) (t : Fin cfg0.N) (y : S1024x256.Idx) : EReal := ∑ k : Fin 1024, HMul.hMul (α := EReal) (β := EReal) (γ := EReal) ((m ((c : Thread nD τ).loc main_arg0)) (ix2 ⟨1024 * (t.val % 16) + k.val, by omega⟩ ⟨1024 * (0) + (y 0).val, by have hy : (y 0).val < 1024 := (y 0).isLt; have := lt_of_lt_of_eq t.isLt N_0; omega⟩)) ((m ((c : Thread nD τ).loc main_arg1)) (ix2 ⟨1024 * (t.val % 16) + k.val, by omega⟩ ⟨256 * (0) + (y 1).val, by have hy : (y 1).val < 256 := (y 1).isLt; have := lt_of_lt_of_eq t.isLt N_0; omega⟩))

/-- The first point of a block starts the sums. -/
theorem part_first (c : Dev nD) (t : Fin cfg0.N) (h0 : t.val % 16 = 0) (y : S1024x256.Idx) :
    (outsAt0 m c t.val t.isLt).2 y = 0 + part m c t y := by
  have hN := lt_of_lt_of_eq t.isLt N_0
  rw [outsAt0_A m c t h0 (by omega) (by omega)]
  frame_out
  unfold part
  unfold_payloads
  pointwise
  blk_point [iblk, V, idx t]

/-- A later point adds to the sums. -/
theorem part_next (c : Dev nD) (t : Fin cfg0.N) (h0 : ¬ t.val % 16 = 0) (y : S1024x256.Idx) :
    (outsAt0 m c t.val t.isLt).2 y = (outsAt0 m c (t.val - 1) (Nat.lt_of_le_of_lt (Nat.sub_le _ _) t.isLt)).2 y + part m c t y := by
  have hN := lt_of_lt_of_eq t.isLt N_0
  by_cases h2 : t.val % 16 = 15
  · rw [outsAt0_C m c t h0 (by omega) h2]
    frame_out
    unfold part
    unfold_payloads
    pointwise
    blk_point [iblk, V, idx t]
    exact congrFun (read_unread_whole _ _ _) _
  · rw [outsAt0_B m c t h0 (by omega) h2]
    frame_out
    unfold part
    unfold_payloads
    pointwise
    blk_point [iblk, V, idx t]
    exact congrFun (read_unread_whole _ _ _) _

/-- The last point of a block stores the sums. -/
theorem stored (c : Dev nD) (t : Fin cfg0.N) (h2 : t.val % 16 = 15) (y : S1024x256.Idx) :
    (outsAt0 m c t.val t.isLt).1 y = (outsAt0 m c t.val t.isLt).2 y := by
  have hN := lt_of_lt_of_eq t.isLt N_0
  rw [outsAt0_C m c t (by omega) (by omega) h2]
  frame_out
  unfold_payloads
  pointwise

/-- The result ends as the reference's product. -/
theorem product (c : Dev nD) : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf) y,
    Pipeline.eq_sum_fin_of_reset_step_apply_of_flush (fun n h => (outsAt0 m c n h).2) 16 (fun _ => 0) (part m c)
    (part_first m c) (part_next m c) t ((flush0_2 t).mp hf) y]
  unfold part
  pointwise [val_main_v7, val_main_v6, val_main_v5, val_main_v4, val_main_v3, val_main_v2, val_main_v1, val_main_v0, val_main_cst]
  refine Fin.sum_mul_add_congr (S := 16) (n := 1024) (fun s k hl => ?_)
  blk_point [iblk, V, idx t]

end Cert.DilDwIdeal.Value
end
-- ==== Proof.DilDwClaim.lean ====
module
public import proofs.«01_k».proof.Defs
public import proofs.«01_k».proof.Proof.Gen.DilDwIdeal.Value
public import proofs.«01_k».proof.Proof.Gen.DilDwRefIdeal.Run
public import proofs.«01_k».proof.Proof.Gen.DilDwRefIdeal.Read
public import proofs.«01_k».proof.Proof.DilDwValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_DilDwRefIdeal : Cert.quiescent_DilDwRefIdeal (hDilDwRefIdeal := Cert.DilDwRefIdeal.Gen.facts) := by
  exact fun m g _ => (θ_run _ _ _).mono
    (fun r h => ⟨fun c => (h c).2, sem_eq_zero_of_no_sems (by decide) r.2⟩) (Cert.DilDwRefIdeal.Value.run (F := Ideal) m g)

/-- The kernel's product is the reference's. -/
theorem value_DilDw : Cert.algebraic_DilDwIdeal_DilDwRefIdeal (hDilDwIdeal := Cert.DilDwIdeal.Gen.facts) (hDilDwRefIdeal := Cert.DilDwRefIdeal.Gen.facts) := by
  intro m g m' g' _ hm
  refine ⟨fun c => Cert.DilDwRefIdeal.Read.val_main_v7 (F := Ideal) (m ((c : Thread Cert.DilDwIdeal.nD Cert.DilDwIdeal.τ).loc Cert.DilDwIdeal.main_arg0)) (m ((c : Thread Cert.DilDwIdeal.nD Cert.DilDwIdeal.τ).loc Cert.DilDwIdeal.main_arg1)),
    (θ_run _ _ _).mono (fun r h c => ⟨((h c).1).trans (Cert.DilDwIdeal.Value.product m c), (h c).2⟩) (Cert.DilDwIdeal.Value.run_blocks (F := Ideal) m g),
    (θ_run _ _ _).mono (fun r h c => ?_) (Cert.DilDwRefIdeal.Value.run (F := Ideal) m' g')⟩
  obtain ⟨e0, e1⟩ := hm c
  exact ⟨(((h c).1).trans (Cert.DilDwRefIdeal.Read.val_main_v7_eq (F := Ideal) _ _)).trans (by rw [e0, e1]),
    (h c).2⟩

end Cert.Proof
end
-- ==== Proof.MixDxValue.lean ====
module
public import proofs.«01_k».proof.Proof.Gen.MixDxIdeal.Value
public import proofs.«01_k».proof.Proof.Gen.MixDxRefIdeal.Read
public import Idealize.ShloMosaic.Lib.Pipeline.ValueKit
public import Idealize.ShloMosaic.Lib.Pipeline.ReadBack
@[expose] public section
set_option maxRecDepth 16384
noncomputable section
namespace Cert.MixDxIdeal.Value
open Idealize.ShloMosaic Idealize.ShloMosaic.TcCoe Idealize.SL.Sem
open Idealize.ShloMosaic.Pipeline (Dat)
open Cert.MixDxIdeal Cert.MixDxIdeal.Gen
open Cert.MixDxRefIdeal.Read
variable (m : (ℓ : Loc nD τ sig) → Buf (Elt Ideal) ℓ)

/-- The block of each array at a grid point. -/
theorem idx : ∀ t : Fin cfg0.N, win0_0.index t = ![t.val, 0] ∧ win0_1.index t = ![0, 0] ∧ win0_2.index t = ![t.val, 0] :=
  (by decide +kernel : ∀ t : Fin grid0.N, _)

/-- The result ends as the reference's product. -/
theorem product (c : Dev nD) : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  unfold_payloads
  pointwise [val_main_v5, val_main_v4, val_main_v3, val_main_v2, val_main_v1, val_main_cst, val_main_v0]
  blk_point [iblk, V, idx t]

end Cert.MixDxIdeal.Value
end
-- ==== Proof.MixDxClaim.lean ====
module
public import proofs.«01_k».proof.Defs
public import proofs.«01_k».proof.Proof.Gen.MixDxIdeal.Value
public import proofs.«01_k».proof.Proof.Gen.MixDxRefIdeal.Run
public import proofs.«01_k».proof.Proof.Gen.MixDxRefIdeal.Read
public import proofs.«01_k».proof.Proof.MixDxValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_MixDxRefIdeal : Cert.quiescent_MixDxRefIdeal (hMixDxRefIdeal := Cert.MixDxRefIdeal.Gen.facts) := by
  exact fun m g _ => (θ_run _ _ _).mono
    (fun r h => ⟨fun c => (h c).2, sem_eq_zero_of_no_sems (by decide) r.2⟩) (Cert.MixDxRefIdeal.Value.run (F := Ideal) m g)

/-- The kernel's product is the reference's. -/
theorem value_MixDx : Cert.algebraic_MixDxIdeal_MixDxRefIdeal (hMixDxIdeal := Cert.MixDxIdeal.Gen.facts) (hMixDxRefIdeal := Cert.MixDxRefIdeal.Gen.facts) := by
  intro m g m' g' _ hm
  refine ⟨fun c => Cert.MixDxRefIdeal.Read.val_main_v5 (F := Ideal) (m ((c : Thread Cert.MixDxIdeal.nD Cert.MixDxIdeal.τ).loc Cert.MixDxIdeal.main_arg0)) (m ((c : Thread Cert.MixDxIdeal.nD Cert.MixDxIdeal.τ).loc Cert.MixDxIdeal.main_arg1)),
    (θ_run _ _ _).mono (fun r h c => ⟨((h c).1).trans (Cert.MixDxIdeal.Value.product m c), (h c).2⟩) (Cert.MixDxIdeal.Value.run_blocks (F := Ideal) m g),
    (θ_run _ _ _).mono (fun r h c => ?_) (Cert.MixDxRefIdeal.Value.run (F := Ideal) m' g')⟩
  obtain ⟨e0, e1⟩ := hm c
  exact ⟨(((h c).1).trans (Cert.MixDxRefIdeal.Read.val_main_v5_eq (F := Ideal) _ _)).trans (by rw [e0, e1]),
    (h c).2⟩

end Cert.Proof
end
-- ==== Proof.StickDwValue.lean ====
module
public import proofs.«01_k».proof.Proof.Gen.StickDwIdeal.Value
public import proofs.«01_k».proof.Proof.Gen.StickDwRefIdeal.Read
public import Idealize.ShloMosaic.Lib.Pipeline.ValueKit
public import Idealize.ShloMosaic.Lib.Pipeline.ReadBack
@[expose] public section
set_option maxRecDepth 16384
noncomputable section
namespace Cert.StickDwIdeal.Value
open Idealize.ShloMosaic Idealize.ShloMosaic.TcCoe Idealize.SL.Sem
open Idealize.ShloMosaic.Pipeline (Dat)
open Cert.StickDwIdeal Cert.StickDwIdeal.Gen
open Cert.StickDwRefIdeal.Read
variable (m : (ℓ : Loc nD τ sig) → Buf (Elt Ideal) ℓ)

/-- The block of each array at a grid point. -/
theorem idx : ∀ t : Fin cfg0.N, win0_0.index t = ![t.val % 16, 0] ∧ win0_1.index t = ![t.val % 16, 0] ∧ win0_2.index t = ![0, 0] :=
  (by decide +kernel : ∀ t : Fin grid0.N, _)

/-- What a point adds to an entry of its block: the rows of the point. -/
def part (c : Dev nD) (t : Fin cfg0.N) (y : S1024x512.Idx) : EReal := ∑ k : Fin 1024, HMul.hMul (α := EReal) (β := EReal) (γ := EReal) ((m ((c : Thread nD τ).loc main_arg0)) (ix2 ⟨1024 * (t.val % 16) + k.val, by omega⟩ ⟨1024 * (0) + (y 0).val, by have hy : (y 0).val < 1024 := (y 0).isLt; have := lt_of_lt_of_eq t.isLt N_0; omega⟩)) ((m ((c : Thread nD τ).loc main_arg1)) (ix2 ⟨1024 * (t.val % 16) + k.val, by omega⟩ ⟨512 * (0) + (y 1).val, by have hy : (y 1).val < 512 := (y 1).isLt; have := lt_of_lt_of_eq t.isLt N_0; omega⟩))

/-- The first point of a block starts the sums. -/
theorem part_first (c : Dev nD) (t : Fin cfg0.N) (h0 : t.val % 16 = 0) (y : S1024x512.Idx) :
    (outsAt0 m c t.val t.isLt).2 y = 0 + part m c t y := by
  have hN := lt_of_lt_of_eq t.isLt N_0
  rw [outsAt0_A m c t h0 (by omega) (by omega)]
  frame_out
  unfold part
  unfold_payloads
  pointwise
  blk_point [iblk, V, idx t]

/-- A later point adds to the sums. -/
theorem part_next (c : Dev nD) (t : Fin cfg0.N) (h0 : ¬ t.val % 16 = 0) (y : S1024x512.Idx) :
    (outsAt0 m c t.val t.isLt).2 y = (outsAt0 m c (t.val - 1) (Nat.lt_of_le_of_lt (Nat.sub_le _ _) t.isLt)).2 y + part m c t y := by
  have hN := lt_of_lt_of_eq t.isLt N_0
  by_cases h2 : t.val % 16 = 15
  · rw [outsAt0_C m c t h0 (by omega) h2]
    frame_out
    unfold part
    unfold_payloads
    pointwise
    blk_point [iblk, V, idx t]
    exact congrFun (read_unread_whole _ _ _) _
  · rw [outsAt0_B m c t h0 (by omega) h2]
    frame_out
    unfold part
    unfold_payloads
    pointwise
    blk_point [iblk, V, idx t]
    exact congrFun (read_unread_whole _ _ _) _

/-- The last point of a block stores the sums. -/
theorem stored (c : Dev nD) (t : Fin cfg0.N) (h2 : t.val % 16 = 15) (y : S1024x512.Idx) :
    (outsAt0 m c t.val t.isLt).1 y = (outsAt0 m c t.val t.isLt).2 y := by
  have hN := lt_of_lt_of_eq t.isLt N_0
  rw [outsAt0_C m c t (by omega) (by omega) h2]
  frame_out
  unfold_payloads
  pointwise

/-- The result ends as the reference's product. -/
theorem product (c : Dev nD) : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf) y,
    Pipeline.eq_sum_fin_of_reset_step_apply_of_flush (fun n h => (outsAt0 m c n h).2) 16 (fun _ => 0) (part m c)
    (part_first m c) (part_next m c) t ((flush0_2 t).mp hf) y]
  unfold part
  pointwise [val_main_v6, val_main_v5, val_main_v4, val_main_v3, val_main_v2, val_main_v1, val_main_v0, val_main_cst]
  refine Fin.sum_mul_add_congr (S := 16) (n := 1024) (fun s k hl => ?_)
  blk_point [iblk, V, idx t]

end Cert.StickDwIdeal.Value
end
-- ==== Proof.StickDwClaim.lean ====
module
public import proofs.«01_k».proof.Defs
public import proofs.«01_k».proof.Proof.Gen.StickDwIdeal.Value
public import proofs.«01_k».proof.Proof.Gen.StickDwRefIdeal.Run
public import proofs.«01_k».proof.Proof.Gen.StickDwRefIdeal.Read
public import proofs.«01_k».proof.Proof.StickDwValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_StickDwRefIdeal : Cert.quiescent_StickDwRefIdeal (hStickDwRefIdeal := Cert.StickDwRefIdeal.Gen.facts) := by
  exact fun m g _ => (θ_run _ _ _).mono
    (fun r h => ⟨fun c => (h c).2, sem_eq_zero_of_no_sems (by decide) r.2⟩) (Cert.StickDwRefIdeal.Value.run (F := Ideal) m g)

/-- The kernel's product is the reference's. -/
theorem value_StickDw : Cert.algebraic_StickDwIdeal_StickDwRefIdeal (hStickDwIdeal := Cert.StickDwIdeal.Gen.facts) (hStickDwRefIdeal := Cert.StickDwRefIdeal.Gen.facts) := by
  intro m g m' g' _ hm
  refine ⟨fun c => Cert.StickDwRefIdeal.Read.val_main_v6 (F := Ideal) (m ((c : Thread Cert.StickDwIdeal.nD Cert.StickDwIdeal.τ).loc Cert.StickDwIdeal.main_arg0)) (m ((c : Thread Cert.StickDwIdeal.nD Cert.StickDwIdeal.τ).loc Cert.StickDwIdeal.main_arg1)),
    (θ_run _ _ _).mono (fun r h c => ⟨((h c).1).trans (Cert.StickDwIdeal.Value.product m c), (h c).2⟩) (Cert.StickDwIdeal.Value.run_blocks (F := Ideal) m g),
    (θ_run _ _ _).mono (fun r h c => ?_) (Cert.StickDwRefIdeal.Value.run (F := Ideal) m' g')⟩
  obtain ⟨e0, e1⟩ := hm c
  exact ⟨(((h c).1).trans (Cert.StickDwRefIdeal.Read.val_main_v6_eq (F := Ideal) _ _)).trans (by rw [e0, e1]),
    (h c).2⟩

end Cert.Proof
end
-- ==== Proof.RetDwValue.lean ====
module
public import proofs.«01_k».proof.Proof.Gen.RetDwIdeal.Value
public import proofs.«01_k».proof.Proof.Gen.RetDwRefIdeal.Read
public import Idealize.ShloMosaic.Lib.Pipeline.ValueKit
public import Idealize.ShloMosaic.Lib.Pipeline.ReadBack
@[expose] public section
set_option maxRecDepth 16384
noncomputable section
namespace Cert.RetDwIdeal.Value
open Idealize.ShloMosaic Idealize.ShloMosaic.TcCoe Idealize.SL.Sem
open Idealize.ShloMosaic.Pipeline (Dat)
open Cert.RetDwIdeal Cert.RetDwIdeal.Gen
open Cert.RetDwRefIdeal.Read
variable (m : (ℓ : Loc nD τ sig) → Buf (Elt Ideal) ℓ)

/-- The block of each array at a grid point. -/
theorem idx : ∀ t : Fin cfg0.N, win0_0.index t = ![t.val % 16, 0] ∧ win0_1.index t = ![t.val % 16, 0] ∧ win0_2.index t = ![0, 0] :=
  (by decide +kernel : ∀ t : Fin grid0.N, _)

/-- What a point adds to an entry of its block: the rows of the point. -/
def part (c : Dev nD) (t : Fin cfg0.N) (y : S1024x512.Idx) : EReal := ∑ k : Fin 1024, HMul.hMul (α := EReal) (β := EReal) (γ := EReal) ((m ((c : Thread nD τ).loc main_arg0)) (ix2 ⟨1024 * (t.val % 16) + k.val, by omega⟩ ⟨1024 * (0) + (y 0).val, by have hy : (y 0).val < 1024 := (y 0).isLt; have := lt_of_lt_of_eq t.isLt N_0; omega⟩)) ((m ((c : Thread nD τ).loc main_arg1)) (ix2 ⟨1024 * (t.val % 16) + k.val, by omega⟩ ⟨512 * (0) + (y 1).val, by have hy : (y 1).val < 512 := (y 1).isLt; have := lt_of_lt_of_eq t.isLt N_0; omega⟩))

/-- The first point of a block starts the sums. -/
theorem part_first (c : Dev nD) (t : Fin cfg0.N) (h0 : t.val % 16 = 0) (y : S1024x512.Idx) :
    (outsAt0 m c t.val t.isLt).2 y = 0 + part m c t y := by
  have hN := lt_of_lt_of_eq t.isLt N_0
  rw [outsAt0_A m c t h0 (by omega) (by omega)]
  frame_out
  unfold part
  unfold_payloads
  pointwise
  blk_point [iblk, V, idx t]

/-- A later point adds to the sums. -/
theorem part_next (c : Dev nD) (t : Fin cfg0.N) (h0 : ¬ t.val % 16 = 0) (y : S1024x512.Idx) :
    (outsAt0 m c t.val t.isLt).2 y = (outsAt0 m c (t.val - 1) (Nat.lt_of_le_of_lt (Nat.sub_le _ _) t.isLt)).2 y + part m c t y := by
  have hN := lt_of_lt_of_eq t.isLt N_0
  by_cases h2 : t.val % 16 = 15
  · rw [outsAt0_C m c t h0 (by omega) h2]
    frame_out
    unfold part
    unfold_payloads
    pointwise
    blk_point [iblk, V, idx t]
    exact congrFun (read_unread_whole _ _ _) _
  · rw [outsAt0_B m c t h0 (by omega) h2]
    frame_out
    unfold part
    unfold_payloads
    pointwise
    blk_point [iblk, V, idx t]
    exact congrFun (read_unread_whole _ _ _) _

/-- The last point of a block stores the sums. -/
theorem stored (c : Dev nD) (t : Fin cfg0.N) (h2 : t.val % 16 = 15) (y : S1024x512.Idx) :
    (outsAt0 m c t.val t.isLt).1 y = (outsAt0 m c t.val t.isLt).2 y := by
  have hN := lt_of_lt_of_eq t.isLt N_0
  rw [outsAt0_C m c t (by omega) (by omega) h2]
  frame_out
  unfold_payloads
  pointwise

/-- The result ends as the reference's product. -/
theorem product (c : Dev nD) : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf) y,
    Pipeline.eq_sum_fin_of_reset_step_apply_of_flush (fun n h => (outsAt0 m c n h).2) 16 (fun _ => 0) (part m c)
    (part_first m c) (part_next m c) t ((flush0_2 t).mp hf) y]
  unfold part
  pointwise [val_main_v7, val_main_v6, val_main_v5, val_main_v4, val_main_v3, val_main_v2, val_main_v1, val_main_v0, val_main_cst]
  refine Fin.sum_mul_add_congr (S := 16) (n := 1024) (fun s k hl => ?_)
  blk_point [iblk, V, idx t]

end Cert.RetDwIdeal.Value
end
-- ==== Proof.RetDwClaim.lean ====
module
public import proofs.«01_k».proof.Defs
public import proofs.«01_k».proof.Proof.Gen.RetDwIdeal.Value
public import proofs.«01_k».proof.Proof.Gen.RetDwRefIdeal.Run
public import proofs.«01_k».proof.Proof.Gen.RetDwRefIdeal.Read
public import proofs.«01_k».proof.Proof.RetDwValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_RetDwRefIdeal : Cert.quiescent_RetDwRefIdeal (hRetDwRefIdeal := Cert.RetDwRefIdeal.Gen.facts) := by
  exact fun m g _ => (θ_run _ _ _).mono
    (fun r h => ⟨fun c => (h c).2, sem_eq_zero_of_no_sems (by decide) r.2⟩) (Cert.RetDwRefIdeal.Value.run (F := Ideal) m g)

/-- The kernel's product is the reference's. -/
theorem value_RetDw : Cert.algebraic_RetDwIdeal_RetDwRefIdeal (hRetDwIdeal := Cert.RetDwIdeal.Gen.facts) (hRetDwRefIdeal := Cert.RetDwRefIdeal.Gen.facts) := by
  intro m g m' g' _ hm
  refine ⟨fun c => Cert.RetDwRefIdeal.Read.val_main_v7 (F := Ideal) (m ((c : Thread Cert.RetDwIdeal.nD Cert.RetDwIdeal.τ).loc Cert.RetDwIdeal.main_arg0)) (m ((c : Thread Cert.RetDwIdeal.nD Cert.RetDwIdeal.τ).loc Cert.RetDwIdeal.main_arg1)),
    (θ_run _ _ _).mono (fun r h c => ⟨((h c).1).trans (Cert.RetDwIdeal.Value.product m c), (h c).2⟩) (Cert.RetDwIdeal.Value.run_blocks (F := Ideal) m g),
    (θ_run _ _ _).mono (fun r h c => ?_) (Cert.RetDwRefIdeal.Value.run (F := Ideal) m' g')⟩
  obtain ⟨e0, e1⟩ := hm c
  exact ⟨(((h c).1).trans (Cert.RetDwRefIdeal.Read.val_main_v7_eq (F := Ideal) _ _)).trans (by rw [e0, e1]),
    (h c).2⟩

end Cert.Proof
end
-- ==== Proof.LoValue.lean ====
module
public import proofs.«01_k».proof.Proof.Gen.LoIdeal.Value
public import proofs.«01_k».proof.Proof.Gen.LoRefIdeal.Read
public import Idealize.ShloMosaic.Lib.Pipeline.ValueKit
public import Idealize.ShloMosaic.Lib.Pipeline.ReadBack
@[expose] public section
set_option maxRecDepth 16384
noncomputable section
namespace Cert.LoIdeal.Value
open Idealize.ShloMosaic Idealize.ShloMosaic.TcCoe Idealize.SL.Sem
open Idealize.ShloMosaic.Pipeline (Dat)
open Cert.LoIdeal Cert.LoIdeal.Gen
open Cert.LoRefIdeal.Read
variable (m : (ℓ : Loc nD τ sig) → Buf (Elt Ideal) ℓ)

/-- The block of each array at a grid point. -/
theorem idx : ∀ t : Fin cfg0.N, win0_0.index t = ![t.val % 32, 0] ∧ win0_1.index t = ![t.val / 32, 0] ∧ win0_2.index t = ![t.val % 32, t.val / 32] :=
  (by decide +kernel : ∀ t : Fin grid0.N, _)

/-- The result ends as the reference's product. -/
theorem product (c : Dev nD) : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  unfold_payloads
  pointwise [val_main_v4, val_main_v3, val_main_v2, val_main_v1, val_main_v0]
  blk_point [iblk, V, idx t]

end Cert.LoIdeal.Value
end
-- ==== Proof.LoClaim.lean ====
module
public import proofs.«01_k».proof.Defs
public import proofs.«01_k».proof.Proof.Gen.LoIdeal.Value
public import proofs.«01_k».proof.Proof.Gen.LoRefIdeal.Run
public import proofs.«01_k».proof.Proof.Gen.LoRefIdeal.Read
public import proofs.«01_k».proof.Proof.LoValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_LoRefIdeal : Cert.quiescent_LoRefIdeal (hLoRefIdeal := Cert.LoRefIdeal.Gen.facts) := by
  exact fun m g _ => (θ_run _ _ _).mono
    (fun r h => ⟨fun c => (h c).2, sem_eq_zero_of_no_sems (by decide) r.2⟩) (Cert.LoRefIdeal.Value.run (F := Ideal) m g)

/-- The kernel's product is the reference's. -/
theorem value_Lo : Cert.algebraic_LoIdeal_LoRefIdeal (hLoIdeal := Cert.LoIdeal.Gen.facts) (hLoRefIdeal := Cert.LoRefIdeal.Gen.facts) := by
  intro m g m' g' _ hm
  refine ⟨fun c => Cert.LoRefIdeal.Read.val_main_v4 (F := Ideal) (m ((c : Thread Cert.LoIdeal.nD Cert.LoIdeal.τ).loc Cert.LoIdeal.main_arg0)) (m ((c : Thread Cert.LoIdeal.nD Cert.LoIdeal.τ).loc Cert.LoIdeal.main_arg1)),
    (θ_run _ _ _).mono (fun r h c => ⟨((h c).1).trans (Cert.LoIdeal.Value.product m c), (h c).2⟩) (Cert.LoIdeal.Value.run_blocks (F := Ideal) m g),
    (θ_run _ _ _).mono (fun r h c => ?_) (Cert.LoRefIdeal.Value.run (F := Ideal) m' g')⟩
  obtain ⟨e0, e1⟩ := hm c
  exact ⟨(((h c).1).trans (Cert.LoRefIdeal.Read.val_main_v4_eq (F := Ideal) _ _)).trans (by rw [e0, e1]),
    (h c).2⟩

end Cert.Proof
end
-- ==== Proof.HiValue.lean ====
module
public import proofs.«01_k».proof.Proof.Gen.HiIdeal.Value
public import proofs.«01_k».proof.Proof.Gen.HiRefIdeal.Read
public import Idealize.ShloMosaic.Lib.Pipeline.ValueKit
public import Idealize.ShloMosaic.Lib.Pipeline.ReadBack
@[expose] public section
set_option maxRecDepth 16384
noncomputable section
namespace Cert.HiIdeal.Value
open Idealize.ShloMosaic Idealize.ShloMosaic.TcCoe Idealize.SL.Sem
open Idealize.ShloMosaic.Pipeline (Dat)
open Cert.HiIdeal Cert.HiIdeal.Gen
open Cert.HiRefIdeal.Read
variable (m : (ℓ : Loc nD τ sig) → Buf (Elt Ideal) ℓ)

/-- The block of each array at a grid point. -/
theorem idx : ∀ t : Fin cfg0.N, win0_0.index t = ![t.val % 32, 0] ∧ win0_1.index t = ![t.val / 32, 0] ∧ win0_2.index t = ![t.val % 32, t.val / 32] :=
  (by decide +kernel : ∀ t : Fin grid0.N, _)

/-- The result ends as the reference's product. -/
theorem product (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  unfold_payloads
  pointwise [val_main_v3, val_main_v2, val_main_v1, val_main_v0]
  blk_point [iblk, V, idx t]

end Cert.HiIdeal.Value
end
-- ==== Proof.HiClaim.lean ====
module
public import proofs.«01_k».proof.Defs
public import proofs.«01_k».proof.Proof.Gen.HiIdeal.Value
public import proofs.«01_k».proof.Proof.Gen.HiRefIdeal.Run
public import proofs.«01_k».proof.Proof.Gen.HiRefIdeal.Read
public import proofs.«01_k».proof.Proof.HiValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_HiRefIdeal : Cert.quiescent_HiRefIdeal (hHiRefIdeal := Cert.HiRefIdeal.Gen.facts) := by
  exact fun m g _ => (θ_run _ _ _).mono
    (fun r h => ⟨fun c => (h c).2, sem_eq_zero_of_no_sems (by decide) r.2⟩) (Cert.HiRefIdeal.Value.run (F := Ideal) m g)

/-- The kernel's product is the reference's. -/
theorem value_Hi : Cert.algebraic_HiIdeal_HiRefIdeal (hHiIdeal := Cert.HiIdeal.Gen.facts) (hHiRefIdeal := Cert.HiRefIdeal.Gen.facts) := by
  intro m g m' g' _ hm
  refine ⟨fun c => Cert.HiRefIdeal.Read.val_main_v3 (F := Ideal) (m ((c : Thread Cert.HiIdeal.nD Cert.HiIdeal.τ).loc Cert.HiIdeal.main_arg0)) (m ((c : Thread Cert.HiIdeal.nD Cert.HiIdeal.τ).loc Cert.HiIdeal.main_arg1)),
    (θ_run _ _ _).mono (fun r h c => ⟨((h c).1).trans (Cert.HiIdeal.Value.product m c), (h c).2⟩) (Cert.HiIdeal.Value.run_blocks (F := Ideal) m g),
    (θ_run _ _ _).mono (fun r h c => ?_) (Cert.HiRefIdeal.Value.run (F := Ideal) m' g')⟩
  obtain ⟨e0, e1⟩ := hm c
  exact ⟨(((h c).1).trans (Cert.HiRefIdeal.Read.val_main_v3_eq (F := Ideal) _ _)).trans (by rw [e0, e1]),
    (h c).2⟩

end Cert.Proof
end
-- ==== Proof.UpValue.lean ====
module
public import proofs.«01_k».proof.Proof.Gen.UpIdeal.Value
public import proofs.«01_k».proof.Proof.Gen.UpRefIdeal.Read
public import Idealize.ShloMosaic.Lib.Pipeline.ValueKit
public import Idealize.ShloMosaic.Lib.Pipeline.ReadBack
@[expose] public section
set_option maxRecDepth 16384
noncomputable section
namespace Cert.UpIdeal.Value
open Idealize.ShloMosaic Idealize.ShloMosaic.TcCoe Idealize.SL.Sem
open Idealize.ShloMosaic.Pipeline (Dat)
open Cert.UpIdeal Cert.UpIdeal.Gen
open Cert.UpRefIdeal.Read
variable (m : (ℓ : Loc nD τ sig) → Buf (Elt Ideal) ℓ)

/-- The block of each array at a grid point. -/
theorem idx : ∀ t : Fin cfg0.N, win0_0.index t = ![t.val % 32, 0] ∧ win0_1.index t = ![t.val / 32, 0] ∧ win0_2.index t = ![t.val % 32, t.val / 32] :=
  (by decide +kernel : ∀ t : Fin grid0.N, _)

/-- The result ends as the reference's product. -/
theorem product (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  unfold_payloads
  pointwise [val_main_v3, val_main_v2, val_main_v1, val_main_v0]
  blk_point [iblk, V, idx t]

end Cert.UpIdeal.Value
end
-- ==== Proof.UpClaim.lean ====
module
public import proofs.«01_k».proof.Defs
public import proofs.«01_k».proof.Proof.Gen.UpIdeal.Value
public import proofs.«01_k».proof.Proof.Gen.UpRefIdeal.Run
public import proofs.«01_k».proof.Proof.Gen.UpRefIdeal.Read
public import proofs.«01_k».proof.Proof.UpValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_UpRefIdeal : Cert.quiescent_UpRefIdeal (hUpRefIdeal := Cert.UpRefIdeal.Gen.facts) := by
  exact fun m g _ => (θ_run _ _ _).mono
    (fun r h => ⟨fun c => (h c).2, sem_eq_zero_of_no_sems (by decide) r.2⟩) (Cert.UpRefIdeal.Value.run (F := Ideal) m g)

/-- The kernel's product is the reference's. -/
theorem value_Up : Cert.algebraic_UpIdeal_UpRefIdeal (hUpIdeal := Cert.UpIdeal.Gen.facts) (hUpRefIdeal := Cert.UpRefIdeal.Gen.facts) := by
  intro m g m' g' _ hm
  refine ⟨fun c => Cert.UpRefIdeal.Read.val_main_v3 (F := Ideal) (m ((c : Thread Cert.UpIdeal.nD Cert.UpIdeal.τ).loc Cert.UpIdeal.main_arg0)) (m ((c : Thread Cert.UpIdeal.nD Cert.UpIdeal.τ).loc Cert.UpIdeal.main_arg1)),
    (θ_run _ _ _).mono (fun r h c => ⟨((h c).1).trans (Cert.UpIdeal.Value.product m c), (h c).2⟩) (Cert.UpIdeal.Value.run_blocks (F := Ideal) m g),
    (θ_run _ _ _).mono (fun r h c => ?_) (Cert.UpRefIdeal.Value.run (F := Ideal) m' g')⟩
  obtain ⟨e0, e1⟩ := hm c
  exact ⟨(((h c).1).trans (Cert.UpRefIdeal.Read.val_main_v3_eq (F := Ideal) _ _)).trans (by rw [e0, e1]),
    (h c).2⟩

end Cert.Proof
end
-- ==== Proof.DownValue.lean ====
module
public import proofs.«01_k».proof.Proof.Gen.DownIdeal.Value
public import proofs.«01_k».proof.Proof.Gen.DownRefIdeal.Read
public import Idealize.ShloMosaic.Lib.Pipeline.ValueKit
public import Idealize.ShloMosaic.Lib.Pipeline.ReadBack
@[expose] public section
set_option maxRecDepth 16384
noncomputable section
namespace Cert.DownIdeal.Value
open Idealize.ShloMosaic Idealize.ShloMosaic.TcCoe Idealize.SL.Sem
open Idealize.ShloMosaic.Pipeline (Dat)
open Cert.DownIdeal Cert.DownIdeal.Gen
open Cert.DownRefIdeal.Read
variable (m : (ℓ : Loc nD τ sig) → Buf (Elt Ideal) ℓ)

/-- The block of each array at a grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The result ends as the reference's product. -/
theorem product (c : Dev nD) : (dats m 0 c).arrAt 3 cfg0.N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  unfold_payloads
  pointwise [val_main_v3, val_main_v2, val_main_v1, val_main_v0]
  blk_point [iblk, V, idx t]

end Cert.DownIdeal.Value
end
-- ==== Proof.DownClaim.lean ====
module
public import proofs.«01_k».proof.Defs
public import proofs.«01_k».proof.Proof.Gen.DownIdeal.Value
public import proofs.«01_k».proof.Proof.Gen.DownRefIdeal.Run
public import proofs.«01_k».proof.Proof.Gen.DownRefIdeal.Read
public import proofs.«01_k».proof.Proof.DownValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_DownRefIdeal : Cert.quiescent_DownRefIdeal (hDownRefIdeal := Cert.DownRefIdeal.Gen.facts) := by
  exact fun m g _ => (θ_run _ _ _).mono
    (fun r h => ⟨fun c => (h c).2, sem_eq_zero_of_no_sems (by decide) r.2⟩) (Cert.DownRefIdeal.Value.run (F := Ideal) m g)

/-- The kernel's product is the reference's. -/
theorem value_Down : Cert.algebraic_DownIdeal_DownRefIdeal (hDownIdeal := Cert.DownIdeal.Gen.facts) (hDownRefIdeal := Cert.DownRefIdeal.Gen.facts) := by
  intro m g m' g' _ hm
  refine ⟨fun c => Cert.DownRefIdeal.Read.val_main_v3 (F := Ideal) (m ((c : Thread Cert.DownIdeal.nD Cert.DownIdeal.τ).loc Cert.DownIdeal.main_arg0)) (m ((c : Thread Cert.DownIdeal.nD Cert.DownIdeal.τ).loc Cert.DownIdeal.main_arg1)) (m ((c : Thread Cert.DownIdeal.nD Cert.DownIdeal.τ).loc Cert.DownIdeal.main_arg2)),
    (θ_run _ _ _).mono (fun r h c => ⟨((h c).1).trans (Cert.DownIdeal.Value.product m c), (h c).2⟩) (Cert.DownIdeal.Value.run_blocks (F := Ideal) m g),
    (θ_run _ _ _).mono (fun r h c => ?_) (Cert.DownRefIdeal.Value.run (F := Ideal) m' g')⟩
  obtain ⟨e0, e1, e2⟩ := hm c
  exact ⟨(((h c).1).trans (Cert.DownRefIdeal.Read.val_main_v3_eq (F := Ideal) _ _ _)).trans (by rw [e0, e1, e2]),
    (h c).2⟩

end Cert.Proof
end
-- ==== Proof.OutValue.lean ====
module
public import proofs.«01_k».proof.Proof.Gen.OutIdeal.Value
public import proofs.«01_k».proof.Proof.Gen.OutRefIdeal.Read
public import Idealize.ShloMosaic.Lib.Pipeline.ValueKit
public import Idealize.ShloMosaic.Lib.Pipeline.ReadBack
@[expose] public section
set_option maxRecDepth 16384
noncomputable section
namespace Cert.OutIdeal.Value
open Idealize.ShloMosaic Idealize.ShloMosaic.TcCoe Idealize.SL.Sem
open Idealize.ShloMosaic.Pipeline (Dat)
open Cert.OutIdeal Cert.OutIdeal.Gen
open Cert.OutRefIdeal.Read
variable (m : (ℓ : Loc nD τ sig) → Buf (Elt Ideal) ℓ)

/-- The block of each array at a grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The result ends as the reference's product. -/
theorem product (c : Dev nD) : (dats m 0 c).arrAt 3 cfg0.N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  unfold_payloads
  pointwise [val_main_v3, val_main_v2, val_main_v1, val_main_v0]
  blk_point [iblk, V, idx t]

end Cert.OutIdeal.Value
end
-- ==== Proof.OutClaim.lean ====
module
public import proofs.«01_k».proof.Defs
public import proofs.«01_k».proof.Proof.Gen.OutIdeal.Value
public import proofs.«01_k».proof.Proof.Gen.OutRefIdeal.Run
public import proofs.«01_k».proof.Proof.Gen.OutRefIdeal.Read
public import proofs.«01_k».proof.Proof.OutValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_OutRefIdeal : Cert.quiescent_OutRefIdeal (hOutRefIdeal := Cert.OutRefIdeal.Gen.facts) := by
  exact fun m g _ => (θ_run _ _ _).mono
    (fun r h => ⟨fun c => (h c).2, sem_eq_zero_of_no_sems (by decide) r.2⟩) (Cert.OutRefIdeal.Value.run (F := Ideal) m g)

/-- The kernel's product is the reference's. -/
theorem value_Out : Cert.algebraic_OutIdeal_OutRefIdeal (hOutIdeal := Cert.OutIdeal.Gen.facts) (hOutRefIdeal := Cert.OutRefIdeal.Gen.facts) := by
  intro m g m' g' _ hm
  refine ⟨fun c => Cert.OutRefIdeal.Read.val_main_v3 (F := Ideal) (m ((c : Thread Cert.OutIdeal.nD Cert.OutIdeal.τ).loc Cert.OutIdeal.main_arg0)) (m ((c : Thread Cert.OutIdeal.nD Cert.OutIdeal.τ).loc Cert.OutIdeal.main_arg1)) (m ((c : Thread Cert.OutIdeal.nD Cert.OutIdeal.τ).loc Cert.OutIdeal.main_arg2)),
    (θ_run _ _ _).mono (fun r h c => ⟨((h c).1).trans (Cert.OutIdeal.Value.product m c), (h c).2⟩) (Cert.OutIdeal.Value.run_blocks (F := Ideal) m g),
    (θ_run _ _ _).mono (fun r h c => ?_) (Cert.OutRefIdeal.Value.run (F := Ideal) m' g')⟩
  obtain ⟨e0, e1, e2⟩ := hm c
  exact ⟨(((h c).1).trans (Cert.OutRefIdeal.Read.val_main_v3_eq (F := Ideal) _ _ _)).trans (by rw [e0, e1, e2]),
    (h c).2⟩

end Cert.Proof
end
-- ==== Proof.DilValue.lean ====
module
public import proofs.«01_k».proof.Proof.Gen.DilIdeal.Value
public import proofs.«01_k».proof.Proof.Gen.DilRefIdeal.Read
public import Idealize.ShloMosaic.Lib.Pipeline.ValueKit
public import Idealize.ShloMosaic.Lib.Pipeline.ReadBack
@[expose] public section
set_option maxRecDepth 16384
noncomputable section
namespace Cert.DilIdeal.Value
open Idealize.ShloMosaic Idealize.ShloMosaic.TcCoe Idealize.SL.Sem
open Idealize.ShloMosaic.Pipeline (Dat)
open Cert.DilIdeal Cert.DilIdeal.Gen
open Cert.DilRefIdeal.Read
variable (m : (ℓ : Loc nD τ sig) → Buf (Elt Ideal) ℓ)

/-- The block of each array at a grid point. -/
theorem idx : ∀ t : Fin cfg0.N, win0_0.index t = ![t.val, 0] ∧ win0_1.index t = ![0, 0] ∧ win0_2.index t = ![t.val, 0] :=
  (by decide +kernel : ∀ t : Fin grid0.N, _)

/-- The result ends as the reference's product. -/
theorem product (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  unfold_payloads
  pointwise [val_main_v3, val_main_v2, val_main_v1, val_main_v0]
  blk_point [iblk, V, idx t]

end Cert.DilIdeal.Value
end
-- ==== Proof.DilClaim.lean ====
module
public import proofs.«01_k».proof.Defs
public import proofs.«01_k».proof.Proof.Gen.DilIdeal.Value
public import proofs.«01_k».proof.Proof.Gen.DilRefIdeal.Run
public import proofs.«01_k».proof.Proof.Gen.DilRefIdeal.Read
public import proofs.«01_k».proof.Proof.DilValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_DilRefIdeal : Cert.quiescent_DilRefIdeal (hDilRefIdeal := Cert.DilRefIdeal.Gen.facts) := by
  exact fun m g _ => (θ_run _ _ _).mono
    (fun r h => ⟨fun c => (h c).2, sem_eq_zero_of_no_sems (by decide) r.2⟩) (Cert.DilRefIdeal.Value.run (F := Ideal) m g)

/-- The kernel's product is the reference's. -/
theorem value_Dil : Cert.algebraic_DilIdeal_DilRefIdeal (hDilIdeal := Cert.DilIdeal.Gen.facts) (hDilRefIdeal := Cert.DilRefIdeal.Gen.facts) := by
  intro m g m' g' _ hm
  refine ⟨fun c => Cert.DilRefIdeal.Read.val_main_v3 (F := Ideal) (m ((c : Thread Cert.DilIdeal.nD Cert.DilIdeal.τ).loc Cert.DilIdeal.main_arg0)) (m ((c : Thread Cert.DilIdeal.nD Cert.DilIdeal.τ).loc Cert.DilIdeal.main_arg1)),
    (θ_run _ _ _).mono (fun r h c => ⟨((h c).1).trans (Cert.DilIdeal.Value.product m c), (h c).2⟩) (Cert.DilIdeal.Value.run_blocks (F := Ideal) m g),
    (θ_run _ _ _).mono (fun r h c => ?_) (Cert.DilRefIdeal.Value.run (F := Ideal) m' g')⟩
  obtain ⟨e0, e1⟩ := hm c
  exact ⟨(((h c).1).trans (Cert.DilRefIdeal.Read.val_main_v3_eq (F := Ideal) _ _)).trans (by rw [e0, e1]),
    (h c).2⟩

end Cert.Proof
end
-- ==== Proof.StickValue.lean ====
module
public import proofs.«01_k».proof.Proof.Gen.StickIdeal.Value
public import proofs.«01_k».proof.Proof.Gen.StickRefIdeal.Read
public import Idealize.ShloMosaic.Lib.Pipeline.ValueKit
public import Idealize.ShloMosaic.Lib.Pipeline.ReadBack
@[expose] public section
set_option maxRecDepth 16384
noncomputable section
namespace Cert.StickIdeal.Value
open Idealize.ShloMosaic Idealize.ShloMosaic.TcCoe Idealize.SL.Sem
open Idealize.ShloMosaic.Pipeline (Dat)
open Cert.StickIdeal Cert.StickIdeal.Gen
open Cert.StickRefIdeal.Read
variable (m : (ℓ : Loc nD τ sig) → Buf (Elt Ideal) ℓ)

/-- The block of each array at a grid point. -/
theorem idx : ∀ t : Fin cfg0.N, win0_0.index t = ![t.val, 0] ∧ win0_1.index t = ![0, 0] ∧ win0_2.index t = ![t.val, 0] :=
  (by decide +kernel : ∀ t : Fin grid0.N, _)

/-- The result ends as the reference's product. -/
theorem product (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  unfold_payloads
  pointwise [val_main_v2, val_main_v1, val_main_v0]
  blk_point [iblk, V, idx t]

end Cert.StickIdeal.Value
end
-- ==== Proof.StickClaim.lean ====
module
public import proofs.«01_k».proof.Defs
public import proofs.«01_k».proof.Proof.Gen.StickIdeal.Value
public import proofs.«01_k».proof.Proof.Gen.StickRefIdeal.Run
public import proofs.«01_k».proof.Proof.Gen.StickRefIdeal.Read
public import proofs.«01_k».proof.Proof.StickValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_StickRefIdeal : Cert.quiescent_StickRefIdeal (hStickRefIdeal := Cert.StickRefIdeal.Gen.facts) := by
  exact fun m g _ => (θ_run _ _ _).mono
    (fun r h => ⟨fun c => (h c).2, sem_eq_zero_of_no_sems (by decide) r.2⟩) (Cert.StickRefIdeal.Value.run (F := Ideal) m g)

/-- The kernel's product is the reference's. -/
theorem value_Stick : Cert.algebraic_StickIdeal_StickRefIdeal (hStickIdeal := Cert.StickIdeal.Gen.facts) (hStickRefIdeal := Cert.StickRefIdeal.Gen.facts) := by
  intro m g m' g' _ hm
  refine ⟨fun c => Cert.StickRefIdeal.Read.val_main_v2 (F := Ideal) (m ((c : Thread Cert.StickIdeal.nD Cert.StickIdeal.τ).loc Cert.StickIdeal.main_arg0)) (m ((c : Thread Cert.StickIdeal.nD Cert.StickIdeal.τ).loc Cert.StickIdeal.main_arg1)),
    (θ_run _ _ _).mono (fun r h c => ⟨((h c).1).trans (Cert.StickIdeal.Value.product m c), (h c).2⟩) (Cert.StickIdeal.Value.run_blocks (F := Ideal) m g),
    (θ_run _ _ _).mono (fun r h c => ?_) (Cert.StickRefIdeal.Value.run (F := Ideal) m' g')⟩
  obtain ⟨e0, e1⟩ := hm c
  exact ⟨(((h c).1).trans (Cert.StickRefIdeal.Read.val_main_v2_eq (F := Ideal) _ _)).trans (by rw [e0, e1]),
    (h c).2⟩

end Cert.Proof
end
-- ==== Proof.RetValue.lean ====
module
public import proofs.«01_k».proof.Proof.Gen.RetIdeal.Value
public import proofs.«01_k».proof.Proof.Gen.RetRefIdeal.Read
public import Idealize.ShloMosaic.Lib.Pipeline.ValueKit
public import Idealize.ShloMosaic.Lib.Pipeline.ReadBack
@[expose] public section
set_option maxRecDepth 16384
noncomputable section
namespace Cert.RetIdeal.Value
open Idealize.ShloMosaic Idealize.ShloMosaic.TcCoe Idealize.SL.Sem
open Idealize.ShloMosaic.Pipeline (Dat)
open Cert.RetIdeal Cert.RetIdeal.Gen
open Cert.RetRefIdeal.Read
variable (m : (ℓ : Loc nD τ sig) → Buf (Elt Ideal) ℓ)

/-- The block of each array at a grid point. -/
theorem idx : ∀ t : Fin cfg0.N, win0_0.index t = ![t.val, 0] ∧ win0_1.index t = ![0, 0] ∧ win0_2.index t = ![t.val, 0] :=
  (by decide +kernel : ∀ t : Fin grid0.N, _)

/-- The result ends as the reference's product. -/
theorem product (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  unfold_payloads
  pointwise [val_main_v3, val_main_v2, val_main_v1, val_main_v0]
  blk_point [iblk, V, idx t]

end Cert.RetIdeal.Value
end
-- ==== Proof.RetClaim.lean ====
module
public import proofs.«01_k».proof.Defs
public import proofs.«01_k».proof.Proof.Gen.RetIdeal.Value
public import proofs.«01_k».proof.Proof.Gen.RetRefIdeal.Run
public import proofs.«01_k».proof.Proof.Gen.RetRefIdeal.Read
public import proofs.«01_k».proof.Proof.RetValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_RetRefIdeal : Cert.quiescent_RetRefIdeal (hRetRefIdeal := Cert.RetRefIdeal.Gen.facts) := by
  exact fun m g _ => (θ_run _ _ _).mono
    (fun r h => ⟨fun c => (h c).2, sem_eq_zero_of_no_sems (by decide) r.2⟩) (Cert.RetRefIdeal.Value.run (F := Ideal) m g)

/-- The kernel's product is the reference's. -/
theorem value_Ret : Cert.algebraic_RetIdeal_RetRefIdeal (hRetIdeal := Cert.RetIdeal.Gen.facts) (hRetRefIdeal := Cert.RetRefIdeal.Gen.facts) := by
  intro m g m' g' _ hm
  refine ⟨fun c => Cert.RetRefIdeal.Read.val_main_v3 (F := Ideal) (m ((c : Thread Cert.RetIdeal.nD Cert.RetIdeal.τ).loc Cert.RetIdeal.main_arg0)) (m ((c : Thread Cert.RetIdeal.nD Cert.RetIdeal.τ).loc Cert.RetIdeal.main_arg1)),
    (θ_run _ _ _).mono (fun r h c => ⟨((h c).1).trans (Cert.RetIdeal.Value.product m c), (h c).2⟩) (Cert.RetIdeal.Value.run_blocks (F := Ideal) m g),
    (θ_run _ _ _).mono (fun r h c => ?_) (Cert.RetRefIdeal.Value.run (F := Ideal) m' g')⟩
  obtain ⟨e0, e1⟩ := hm c
  exact ⟨(((h c).1).trans (Cert.RetRefIdeal.Read.val_main_v3_eq (F := Ideal) _ _)).trans (by rw [e0, e1]),
    (h c).2⟩

end Cert.Proof
end
-- ==== Proof.SbfSum.lean ====
module
public import Idealize.ShloMosaic.Lib.Pipeline.ValueKit
public import Idealize.ShloMosaic.PureOps.Ideal.Laws

/-! Stick-breaking attention as sums over blocks of 256 keys, without any program: the quantities a walk over the key
blocks from the last to the first carries, and that they are the sums over all keys. -/

@[expose] public section

noncomputable section

namespace Stick

open Idealize.ShloMosaic
open scoped BigOperators

/-- The scale of the scores. -/
def scale : ℝ := 11863283 / 134217728

/-- The softplus of a score, from the unscaled product of a query and a key. -/
def softplus (m : EReal) : EReal :=
  max (m * (scale : EReal)) 0 + Ideal.log (1 + Ideal.exp2 (max m (-m) * ((-(scale * (Real.log 2)⁻¹) : ℝ) : EReal)))

theorem scale_pos : 0 < scale := by unfold scale; norm_num

theorem exp2_scaled (m : EReal) :
    Ideal.exp2 (max m (-m) * ((-(scale * (Real.log 2)⁻¹) : ℝ) : EReal))
      = Ideal.exp (-(max (m * (scale : EReal)) (-(m * (scale : EReal))))) := by
  have hs := scale_pos
  have hl : 0 < Real.log 2 := Real.log_pos (by norm_num)
  have hn : -(scale * (Real.log 2)⁻¹) < 0 := by
    have := mul_pos hs (inv_pos.mpr hl); linarith
  induction m with
  | bot =>
    rw [EReal.bot_mul_coe_of_pos hs]
    simp only [EReal.neg_bot, bot_le, max_eq_right]
    rw [EReal.top_mul_coe_of_neg hn]; simp
  | top =>
    rw [EReal.top_mul_coe_of_pos hs]
    simp only [EReal.neg_top, bot_le, max_eq_left]
    rw [EReal.top_mul_coe_of_neg hn]; simp
  | coe r =>
    have h1 : max (r : EReal) (-(r : EReal)) = ((|r| : ℝ) : EReal) := by
      rw [← EReal.coe_neg, ← EReal.coe_strictMono.monotone.map_max]; rfl
    have h2 : max ((r : EReal) * (scale : EReal)) (-((r : EReal) * (scale : EReal))) = ((|r| * scale : ℝ) : EReal) := by
      rw [← EReal.coe_mul, ← EReal.coe_neg, ← EReal.coe_strictMono.monotone.map_max]
      congr 1
      show |r * scale| = _
      rw [abs_mul, abs_of_pos hs]
    rw [h1, h2, ← EReal.coe_mul, ← EReal.coe_neg, Ideal.exp2_coe, Ideal.exp_coe]
    congr 1
    show (2 : ℝ) ^ (|r| * -(scale * (Real.log 2)⁻¹)) = Real.exp (-(|r| * scale))
    rw [Real.rpow_def_of_pos (by norm_num)]
    congr 1
    field_simp

theorem softplus_eq (m : EReal) :
    softplus m = max (m * (scale : EReal)) 0
      + Ideal.log (1 + Ideal.exp (-(max (m * (scale : EReal)) (-(m * (scale : EReal)))))) := by
  rw [softplus, exp2_scaled]

theorem log_one_add_nonneg (x : EReal) : 0 ≤ Ideal.log (1 + Ideal.exp x) := by
  have key : ∀ r : ℝ, 0 ≤ r → 0 ≤ Ideal.log (1 + (r : EReal)) := fun r hr => by
    rw [← EReal.coe_one, ← EReal.coe_add, Ideal.log_coe, if_neg (by linarith)]
    exact EReal.coe_nonneg.mpr (Real.log_nonneg (by linarith))
  induction x with
  | bot => exact key 0 le_rfl
  | top => rw [Ideal.exp_top, ← EReal.coe_one, EReal.coe_add_top, Ideal.log_top]; exact le_top
  | coe r => exact key _ (Real.exp_pos r).le

theorem softplus_nonneg (m : EReal) : 0 ≤ softplus m := by
  rw [softplus_eq]
  exact add_nonneg (le_max_right _ _) (log_one_add_nonneg _)

theorem neg_add_of_nonneg {a b : EReal} (ha : 0 ≤ a) (hb : 0 ≤ b) : -(a + b) = -a + -b := by
  have ha' : a ≠ ⊥ := fun h => by rw [h] at ha; exact absurd ha (by simp)
  have hb' : b ≠ ⊥ := fun h => by rw [h] at hb; exact absurd hb (by simp)
  exact (EReal.neg_add (.inl ha') (.inr hb')).trans rfl

theorem sum_neg_of_nonneg {ι : Type} (s : Finset ι) (f : ι → EReal) (h : ∀ i, 0 ≤ f i) :
    ∑ i ∈ s, -f i = -∑ i ∈ s, f i := by
  classical
  induction s using Finset.induction_on with
  | empty => simp
  | insert a s ha ih =>
    rw [Finset.sum_insert ha, Finset.sum_insert ha, ih, neg_add_of_nonneg (h a) (Finset.sum_nonneg fun i _ => h i)]

/-- The triangle: the key `u'` of a block comes after the key `u`. -/
def tri (u' u : ℕ) : EReal := if u < u' then 1 else 0

theorem tri_mul_nonneg {a : EReal} (ha : 0 ≤ a) (u' u : ℕ) : 0 ≤ a * tri u' u := by
  unfold tri; split <;> simp [ha]

/-- The sum of the losses of block `n`. -/
def blockLoss (lv : ℕ → EReal) (n : ℕ) : EReal := ∑ u : Fin 256, lv (256 * n + u.val)

/-- The sum of the losses from block `b` on. -/
def tot (lv : ℕ → EReal) (b : ℕ) : EReal := ∑ n ∈ Finset.Ico b 64, blockLoss lv n

/-- The weight of key `u` of block `n` for the query `R`. -/
def weight (lv z : ℕ → EReal) (R n u : ℕ) : EReal :=
  if 256 * n + u < R then
    Ideal.exp (z (256 * n + u) - lv (256 * n + u) - (∑ u' : Fin 256, lv (256 * n + u'.val) * tri u'.val u) - tot lv (n + 1))
  else 0

/-- What block `n` adds to the output. -/
def blockOut (lv z v : ℕ → EReal) (R n : ℕ) : EReal := ∑ u : Fin 256, weight lv z R n u.val * v (256 * n + u.val)

/-- What the blocks from `b` on add to the output. -/
def out (lv z v : ℕ → EReal) (R b : ℕ) : EReal := ∑ n ∈ Finset.Ico b 64, blockOut lv z v R n

theorem tot_step (lv : ℕ → EReal) {b : ℕ} (h : b < 64) : tot lv b = tot lv (b + 1) + blockLoss lv b := by
  unfold tot; rw [Finset.sum_eq_sum_Ico_succ_bot h, add_comm]

theorem out_step (lv z v : ℕ → EReal) (R : ℕ) {b : ℕ} (h : b < 64) :
    out lv z v R b = out lv z v R (b + 1) + blockOut lv z v R b := by
  unfold out; rw [Finset.sum_eq_sum_Ico_succ_bot h, add_comm]

theorem tot_eq_zero (lv : ℕ → EReal) (b : ℕ) (h : ∀ j, 256 * b ≤ j → lv j = 0) : tot lv b = 0 := by
  refine Finset.sum_eq_zero fun n hn => Finset.sum_eq_zero fun u _ => h _ ?_
  have := (Finset.mem_Ico.mp hn).1; omega

theorem out_eq_zero (lv z v : ℕ → EReal) (R b : ℕ) (h : R ≤ 256 * b) : out lv z v R b = 0 := by
  refine Finset.sum_eq_zero fun n hn => Finset.sum_eq_zero fun u _ => ?_
  have := (Finset.mem_Ico.mp hn).1
  rw [weight, if_neg (by omega), zero_mul]

/-- All the losses, key by key. -/
theorem sum_loss (lv : ℕ → EReal) : ∑ j : Fin 16384, lv j.val = tot lv 0 := by
  rw [Fin.sum_univ_tiles 64 256 (by norm_num), tot, Nat.Ico_zero_eq_range, Finset.sum_range]
  refine Finset.sum_congr rfl fun n _ => Finset.sum_congr rfl fun u _ => ?_
  show lv (n.val * 256 + u.val) = _
  rw [Nat.mul_comm]

/-- The losses of the keys after `256 * n + u`. -/
theorem sum_later (lv : ℕ → EReal) (n u : ℕ) (hn : n < 64) (hu : u < 256) :
    ∑ k : Fin 16384, lv k.val * tri k.val (256 * n + u)
      = (∑ u' : Fin 256, lv (256 * n + u'.val) * tri u'.val u) + tot lv (n + 1) := by
  have e : ∑ k : Fin 16384, lv k.val * tri k.val (256 * n + u)
      = tot (fun j => lv j * tri j (256 * n + u)) 0 := sum_loss fun j => lv j * tri j (256 * n + u)
  rw [e, tot, ← Finset.sum_Ico_consecutive _ (Nat.zero_le n) hn.le, Finset.sum_eq_sum_Ico_succ_bot hn]
  have low : ∑ i ∈ Finset.Ico 0 n, blockLoss (fun j => lv j * tri j (256 * n + u)) i = 0 := by
    refine Finset.sum_eq_zero fun i hi => Finset.sum_eq_zero fun w _ => ?_
    have := (Finset.mem_Ico.mp hi).2
    show lv _ * tri _ _ = 0
    rw [tri, if_neg (by have := w.isLt; omega), mul_zero]
  have mid : blockLoss (fun j => lv j * tri j (256 * n + u)) n = ∑ u' : Fin 256, lv (256 * n + u'.val) * tri u'.val u :=
    Finset.sum_congr rfl fun w _ => by
      show lv _ * tri _ _ = _
      unfold tri; simp only [Nat.add_lt_add_iff_left]
  have high : ∑ i ∈ Finset.Ico (n + 1) 64, blockLoss (fun j => lv j * tri j (256 * n + u)) i = tot lv (n + 1) := by
    refine Finset.sum_congr rfl fun i hi => Finset.sum_congr rfl fun w _ => ?_
    have := (Finset.mem_Ico.mp hi).1
    show lv _ * tri _ _ = _
    rw [tri, if_pos (by omega), mul_one]
  rw [low, mid, high, zero_add]

/-- The weight a key gets from the losses of all later keys at once. -/
theorem exp_later (lv z : ℕ → EReal) (hlv : ∀ j, 0 ≤ lv j) (R n u : ℕ) (hn : n < 64) (hu : u < 256) :
    Ideal.exp (if 256 * n + u < R then
        (-lv (256 * n + u) + z (256 * n + u)) + ∑ k : Fin 16384, -lv k.val * tri k.val (256 * n + u) else ⊥)
      = weight lv z R n u := by
  unfold weight
  split
  · congr 1
    have e : ∑ k : Fin 16384, -lv k.val * tri k.val (256 * n + u)
        = -∑ k : Fin 16384, lv k.val * tri k.val (256 * n + u) := by
      rw [← sum_neg_of_nonneg _ _ fun k => tri_mul_nonneg (hlv _) _ _]
      exact Finset.sum_congr rfl fun k _ => EReal.neg_mul _ _
    have h1 : 0 ≤ ∑ u' : Fin 256, lv (256 * n + u'.val) * tri u'.val u :=
      Finset.sum_nonneg fun k _ => tri_mul_nonneg (hlv _) _ _
    have h2 : 0 ≤ tot lv (n + 1) := Finset.sum_nonneg fun i _ => Finset.sum_nonneg fun w _ => hlv _
    rw [e, sum_later lv n u hn hu, neg_add_of_nonneg h1 h2,
      sub_eq_add_neg, sub_eq_add_neg, sub_eq_add_neg, add_comm (-lv _) (z _), ← add_assoc]
  · exact Ideal.exp_bot

/-- The output, key by key. -/
theorem sum_out (lv z v : ℕ → EReal) (hlv : ∀ j, 0 ≤ lv j) (R : ℕ) :
    ∑ j : Fin 16384, v j.val * Ideal.exp (if j.val < R then
        (-lv j.val + z j.val) + ∑ k : Fin 16384, -lv k.val * tri k.val j.val else ⊥)
      = out lv z v R 0 := by
  rw [Fin.sum_univ_tiles 64 256 (by norm_num), out, Nat.Ico_zero_eq_range, Finset.sum_range]
  refine Finset.sum_congr rfl fun n _ => Finset.sum_congr rfl fun u _ => ?_
  have e : n.val * 256 + u.val = 256 * n.val + u.val := by rw [Nat.mul_comm]
  show v (n.val * 256 + u.val) * Ideal.exp (if n.val * 256 + u.val < R then
        (-lv (n.val * 256 + u.val) + z (n.val * 256 + u.val))
          + ∑ k : Fin 16384, -lv k.val * tri k.val (n.val * 256 + u.val) else ⊥) = _
  rw [e, exp_later lv z hlv R n.val u.val n.isLt u.isLt, mul_comm]

/-- All the losses, negated one by one. -/
theorem sum_neg_loss (lv : ℕ → EReal) (hlv : ∀ j, 0 ≤ lv j) : -∑ j : Fin 16384, -lv j.val = tot lv 0 := by
  rw [sum_neg_of_nonneg _ (fun j : Fin 16384 => lv j.val) fun j => hlv _, neg_neg, sum_loss]

end Stick
-- ==== Proof.SbfRef.lean ====
module
public import proofs.«01_k».proof.Proof.SbfSum
public import proofs.«01_k».proof.Proof.Gen.SbfRefIdeal.Read
@[expose] public section
set_option maxRecDepth 16384
noncomputable section
namespace Stick
open Idealize.ShloMosaic Idealize.ShloMosaic.TcCoe Idealize.SL.Sem
open Cert.SbfRefIdeal Cert.SbfRefIdeal.Gen Cert.SbfRefIdeal.Read

/-- The argument: one row of queries, keys and values per position. -/
abbrev Rows : Type := (⟨2, ![16384, 3840]⟩ : Shape).Idx → EReal

/-- An entry of the argument by the numbers of its row and column. -/
def cell (x : Rows) (r c : ℕ) : EReal :=
  x (ix2 (⟨r % 16384, Nat.mod_lt _ (by norm_num)⟩ : Fin 16384) (⟨c % 3840, Nat.mod_lt _ (by norm_num)⟩ : Fin 3840))

theorem cell_eq (x : Rows) (i : (⟨2, ![16384, 3840]⟩ : Shape).Idx) (r c : ℕ) (h0 : (i 0).val = r) (h1 : (i 1).val = c) :
    x i = cell x r c := by
  have b0 : (i 0).val < 16384 := (i 0).isLt
  have b1 : (i 1).val < 3840 := (i 1).isLt
  unfold cell
  refine congrArg x (funext fun a => Fin.ext ?_)
  match a with
  | ⟨0, _⟩ => exact h0.trans (Nat.mod_eq_of_lt (h0 ▸ b0)).symm
  | ⟨1, _⟩ => exact h1.trans (Nat.mod_eq_of_lt (h1 ▸ b1)).symm

/-- The product of query `R` and key `j` of head `h`. -/
def dotqk (x : Rows) (h R j : ℕ) : EReal := ∑ k : Fin 128, cell x R (2304 + 128 * h + k.val) * cell x j (2816 + 128 * h + k.val)

/-- The loss of key `j` for query `R`: the softplus of the score, of earlier keys alone. -/
def loss (x : Rows) (h R j : ℕ) : EReal := if j < R then softplus (dotqk x h R j) else 0

/-- The score of key `j` for query `R`. -/
def score (x : Rows) (h R j : ℕ) : EReal := dotqk x h R j * (scale : EReal)

/-- Component `l` of the value of key `j`. -/
def value (x : Rows) (h l j : ℕ) : EReal := cell x j (3328 + 128 * h + l)

theorem loss_nonneg (x : Rows) (h R j : ℕ) : 0 ≤ loss x h R j := by
  unfold loss; split
  · exact softplus_nonneg _
  · exact le_rfl

theorem ofBits_scale : Ideal.ofBits .f32 0x3DB504F3#32 = (scale : EReal) := by
  unfold scale
  simp [Ideal.ofBits, Ideal.ieee, -EReal.coe_mul]; norm_num

theorem ref_q (x : Rows) (R : Fin 16384) (h : Fin 4) (k : Fin 128) :
    val_main_v2 (F := Ideal) x (ix3 R h k) = cell x R.val (2304 + 128 * h.val + k.val) := by
  rw [val_main_v2_apply, val_main_v1_apply, val_main_v0_apply]
  refine cell_eq x _ _ _ ?_ ?_
  · show ((R.val * 4 + h.val) * 128 + k.val) / 512 = R.val; omega
  · show 2304 + ((R.val * 4 + h.val) * 128 + k.val) % 512 = _; omega

theorem ref_k (x : Rows) (R : Fin 16384) (h : Fin 4) (k : Fin 128) :
    val_main_v5 (F := Ideal) x (ix3 R h k) = cell x R.val (2816 + 128 * h.val + k.val) := by
  rw [val_main_v5_apply, val_main_v4_apply, val_main_v3_apply]
  refine cell_eq x _ _ _ ?_ ?_
  · show ((R.val * 4 + h.val) * 128 + k.val) / 512 = R.val; omega
  · show 2816 + ((R.val * 4 + h.val) * 128 + k.val) % 512 = _; omega

theorem ref_v (x : Rows) (R : Fin 16384) (h : Fin 4) (k : Fin 128) :
    val_main_v8 (F := Ideal) x (ix3 R h k) = cell x R.val (3328 + 128 * h.val + k.val) := by
  rw [val_main_v8_apply, val_main_v7_apply, val_main_v6_apply]
  refine cell_eq x _ _ _ ?_ ?_
  · show ((R.val * 4 + h.val) * 128 + k.val) / 512 = R.val; omega
  · show 3328 + ((R.val * 4 + h.val) * 128 + k.val) % 512 = _; omega

theorem ref_dot (x : Rows) (h : Fin 4) (R j : Fin 16384) :
    val_main_v9 (F := Ideal) x (ix3 h R j) = dotqk x h.val R.val j.val := by
  rw [val_main_v9_apply]
  unfold dotqk
  refine Finset.sum_congr rfl fun k _ => ?_
  refine congrArg₂ (fun a b : EReal => a * b) ?_ ?_
  · exact (congrArg _ (funext fun a => Fin.ext (by match a with | ⟨0, _⟩ => rfl | ⟨1, _⟩ => rfl | ⟨2, _⟩ => rfl))).trans (ref_q x R h k)
  · exact (congrArg _ (funext fun a => Fin.ext (by match a with | ⟨0, _⟩ => rfl | ⟨1, _⟩ => rfl | ⟨2, _⟩ => rfl))).trans (ref_k x j h k)

theorem ref_score (x : Rows) (h : Fin 4) (R j : Fin 16384) :
    val_main_v11 (F := Ideal) x (ix3 h R j) = score x h.val R.val j.val := by
  rw [val_main_v11_apply, ref_dot, val_main_v10_apply, val_main_cst_apply]
  show _ * Ideal.ofBits .f32 0x3DB504F3#32 = _
  rw [ofBits_scale]; rfl

theorem lt_word (a b : ℕ) (ha : a < 16384) (hb : b < 16384) :
    BitVec.slt (BitVec.ofNat 32 a) (BitVec.ofNat 32 b) = decide (a < b) := by
  rw [BitVec.slt_eq_decide]
  congr 1
  have e : ∀ n : ℕ, n < 16384 → (BitVec.ofNat 32 n).toInt = n := fun n hn => by
    rw [BitVec.toInt_eq_toNat_of_lt (by rw [BitVec.toNat_ofNat]; omega), BitVec.toNat_ofNat, Nat.mod_eq_of_lt (by omega)]
  rw [e a ha, e b hb]
  exact propext Nat.cast_lt

/-- A comparison turned into a number. -/
theorem bit_word (p : Prop) [Decidable p] : (((BitVec.ofBool (decide p)).toNat : ℝ) : EReal) = if p then 1 else 0 := by
  by_cases h : p <;> simp [h]

theorem ref_loss (x : Rows) (h : Fin 4) (R j : Fin 16384) :
    val_main_v17 (F := Ideal) x (ix3 h R j) = -loss x h.val R.val j.val := by
  rw [val_main_v17_apply, val_main_v16_apply, val_main_call0_v1_apply, val_main_call0_call0_v4_apply, val_main_call0_call0_v11_apply,
    val_main_call0_call0_v10_apply, val_main_call0_call0_v9_apply, val_main_call0_call0_v8_apply, val_main_call0_call0_v7_apply,
    val_main_call0_call0_v3_apply, val_main_call0_call0_v1_apply, val_main_call0_v0_apply, val_main_v15_apply, ref_score,
    val_main_call1_v1_apply, val_main_v14_apply]
  pointwise [val_main_call0_call0_v2_apply, val_main_call0_call0_v0_apply, val_main_call0_call0_cst_apply, val_main_call1_v2_apply,
    val_main_call1_v0_apply, val_main_cst_0_apply, val_main_v12_apply, val_main_v13_apply]
  rw [if_neg (not_not.mpr rfl), neg_neg]
  have hm := lt_word j.val R.val j.isLt R.isLt
  have e : max (score x h.val R.val j.val) 0 + Ideal.log1p (Ideal.exp (-max (score x h.val R.val j.val) (-score x h.val R.val j.val)))
      = softplus (dotqk x h.val R.val j.val) := (softplus_eq _).symm
  refine Eq.trans (congrArg (fun w => Scalar.select w (-(max (score x h.val R.val j.val) 0
    + Ideal.log1p (Ideal.exp (-max (score x h.val R.val j.val) (-score x h.val R.val j.val))))) (0 : EReal)) (?_ : _ = BitVec.ofBool (decide (j.val < R.val)))) ?_
  · show BitVec.ofBool (BitVec.slt (BitVec.ofNat 32 j.val) (BitVec.ofNat 32 R.val)) = _
    rw [hm]
  · rw [e]
    unfold loss
    by_cases hj : j.val < R.val
    · rw [if_pos hj, decide_eq_true hj]; rfl
    · rw [if_neg hj, decide_eq_false hj, neg_zero]; rfl

theorem ref_after (k j : Fin 16384) : val_main_v19 (F := Ideal) (ix2 k j) = tri k.val j.val := by
  have hm := lt_word j.val k.val j.isLt k.isLt
  rw [val_main_v19_apply, val_main_v18_apply]
  pointwise [val_main_v12_apply, val_main_v13_apply]
  show (((BitVec.ofBool (BitVec.slt (BitVec.ofNat 32 j.val) (BitVec.ofNat 32 k.val))).toNat : ℝ) : EReal) = _
  rw [hm]
  exact bit_word _

theorem ref_later (x : Rows) (h : Fin 4) (R j : Fin 16384) :
    val_main_v20 (F := Ideal) x (ix3 h R j) = ∑ k : Fin 16384, -loss x h.val R.val k.val * tri k.val j.val := by
  rw [val_main_v20_apply]
  refine Finset.sum_congr rfl fun k _ => ?_
  refine congrArg₂ (fun a b : EReal => a * b) ?_ ?_
  · exact (congrArg _ (funext fun a => Fin.ext (by match a with | ⟨0, _⟩ => rfl | ⟨1, _⟩ => rfl | ⟨2, _⟩ => rfl))).trans (ref_loss x h R k)
  · exact (congrArg _ (funext fun a => Fin.ext (by match a with | ⟨0, _⟩ => rfl | ⟨1, _⟩ => rfl))).trans (ref_after k j)

theorem ref_weight (x : Rows) (h : Fin 4) (R j : Fin 16384) :
    val_main_v26 (F := Ideal) x (ix3 h R j) = Ideal.exp (if j.val < R.val then
      (-loss x h.val R.val j.val + score x h.val R.val j.val) + ∑ k : Fin 16384, -loss x h.val R.val k.val * tri k.val j.val else ⊥) := by
  rw [val_main_v26_apply, val_main_v25_apply, val_main_v24_apply, val_main_v23_apply, val_main_v22_apply, val_main_v21_apply,
    ref_later, ref_loss, ref_score, val_main_call2_v1_apply, val_main_v14_apply]
  pointwise [val_main_call2_v2_apply, val_main_call2_v0_apply, val_main_cst_1_apply, val_main_v12_apply, val_main_v13_apply]
  refine congrArg Ideal.exp ?_
  refine Eq.trans (congrArg (fun w => Scalar.select w (-loss x h.val R.val j.val + score x h.val R.val j.val
    + ∑ k : Fin 16384, -loss x h.val R.val k.val * tri k.val j.val) (Ideal.ofBits .f32 0xFF800000#32))
    (?_ : _ = BitVec.ofBool (decide (j.val < R.val)))) ?_
  · show BitVec.ofBool (BitVec.slt (BitVec.ofNat 32 j.val) (BitVec.ofNat 32 R.val)) = _
    rw [lt_word j.val R.val j.isLt R.isLt]
  · by_cases hj : j.val < R.val
    · rw [if_pos hj, decide_eq_true hj]; rfl
    · rw [if_neg hj, decide_eq_false hj]
      show Ideal.ofBits .f32 0xFF800000#32 = _
      simp [Ideal.ofBits, Ideal.ieee]

/-- The reference's output. -/
theorem ref_out (x : Rows) (R : Fin 16384) (h : Fin 4) (l : Fin 128) (i : S16384x512.Idx) (h0 : (i 0).val = R.val)
    (h1 : (i 1).val = 128 * h.val + l.val) :
    val_main_v29 (F := Ideal) x i = out (loss x h.val R.val) (score x h.val R.val) (value x h.val l.val) R.val 0 := by
  rw [val_main_v29_apply, val_main_v28_apply, val_main_v27_apply, ← sum_out _ _ _ (loss_nonneg x h.val R.val)]
  refine Finset.sum_congr rfl fun j _ => ?_
  refine congrArg₂ (fun a b : EReal => a * b) ?_ ?_
  · refine (congrArg _ (funext fun a => Fin.ext ?_)).trans (ref_v x j h l)
    match a with
    | ⟨0, _⟩ => rfl
    | ⟨1, _⟩ => show ((i 0).val * 512 + (i 1).val) / 128 % 4 = h.val; omega
    | ⟨2, _⟩ => show ((i 0).val * 512 + (i 1).val) % 128 = l.val; omega
  · refine (congrArg _ (funext fun a => Fin.ext ?_)).trans (ref_weight x h R j)
    match a with
    | ⟨0, _⟩ => show ((i 0).val * 512 + (i 1).val) / 128 % 4 = h.val; omega
    | ⟨1, _⟩ => show ((i 0).val * 512 + (i 1).val) / 512 = R.val; omega
    | ⟨2, _⟩ => rfl

/-- The reference's sum of losses, the same in every lane of a head. -/
theorem ref_total (x : Rows) (R : Fin 16384) (h : Fin 4) (l : Fin 128) (i : S16384x512.Idx) (h0 : (i 0).val = R.val)
    (h1 : (i 1).val = 128 * h.val + l.val) :
    val_main_v34 (F := Ideal) x i = tot (loss x h.val R.val) 0 := by
  rw [val_main_v34_apply, val_main_v33_apply, val_main_v32_apply, val_main_v31_apply, val_main_v30_apply, val_main_cst_2_apply,
    ← sum_neg_loss _ (loss_nonneg x h.val R.val)]
  show -((Ideal.ofBits .f32 0x00000000#32 : EReal) + _) = _
  rw [Ideal.ofBits_zero_f32, zero_add]
  refine congrArg (fun a : EReal => -a) (Finset.sum_congr rfl fun j _ => ?_)
  refine (congrArg _ (funext fun a => Fin.ext ?_)).trans (ref_loss x h R j)
  match a with
  | ⟨0, _⟩ => show ((i 0).val * 512 + (i 1).val) / 128 % 4 = h.val; omega
  | ⟨1, _⟩ => show ((i 0).val * 512 + (i 1).val) / 512 = R.val; omega
  | ⟨2, _⟩ => rfl

end Stick
-- ==== Proof.SbfStep.lean ====
module
public import proofs.«01_k».proof.Proof.Gen.SbfIdeal.Skeleton
public import proofs.«01_k».proof.Proof.SbfRef
@[expose] public section
set_option maxRecDepth 16384
noncomputable section
namespace Cert.SbfIdeal.Value
open Idealize.ShloMosaic Idealize.ShloMosaic.TcCoe Idealize.SL.Sem
open Cert.SbfIdeal Cert.SbfIdeal.Gen

/-- One block of earlier keys: the losses added to the running sum. -/
def stepC (q : FVec Ideal S512x128 .bf16) (c : FVec Ideal S512x128 .f32) (K : FVec Ideal S256x128 .bf16) : FVec Ideal S512x128 .f32 :=
  k0_pay9 (F := Ideal) q c K

/-- One block of earlier keys: the weighted values added to the output. -/
def stepO (q : FVec Ideal S512x128 .bf16) (T : FVec Ideal S256x256 .bf16) (o c : FVec Ideal S512x128 .f32) (K V : FVec Ideal S256x128 .bf16) :
    FVec Ideal S512x128 .f32 :=
  addf o (matmul dot_S512x256_S256x128_S512x128_1_0_0_1_n_n none
    (truncf .bf16 (exp (subf (subf (subf (k0_pay6 (F := Ideal) q K) (k0_pay7 (F := Ideal) q K))
      (matmul dot_S512x256_S256x256_S512x256_1_0_0_1_n_n none (truncf .bf16 (k0_pay7 (F := Ideal) q K) bitsLt_bf16_f32) T (constant S512x256 .f32 0x00000000#32)))
      (concatenate S512x256 1 [⟨S512x128, c⟩, ⟨S512x128, c⟩] concatenates_S512x128_S512x128_S512x256_d1))) bitsLt_bf16_f32)
    V (constant S512x128 .f32 0x00000000#32))

theorem dot_apply (q : FVec Ideal S512x128 .bf16) (K : FVec Ideal S256x128 .bf16) (r : Fin 512) (u : Fin 256) :
    k0_pay5 (F := Ideal) q K (ix2 r u) = ∑ k : Fin 128, q (ix2 r k) * K (ix2 u k) := by
  pointwise [k0_pay5]

theorem score_apply (q : FVec Ideal S512x128 .bf16) (K : FVec Ideal S256x128 .bf16) (r : Fin 512) (u : Fin 256) :
    k0_pay6 (F := Ideal) q K (ix2 r u) = (∑ k : Fin 128, q (ix2 r k) * K (ix2 u k)) * (Stick.scale : EReal) := by
  rw [← Stick.ofBits_scale]
  pointwise [k0_pay6, dot_apply]

/-- The named constant is its own expression. -/
theorem scale2_eq : (Named.named (F := Ideal) κ "scale2" 0xBE0293EE#32 : Ideal .f32) = ((-(Stick.scale * (Real.log 2)⁻¹) : ℝ) : EReal) := rfl

theorem loss_apply (q : FVec Ideal S512x128 .bf16) (K : FVec Ideal S256x128 .bf16) (r : Fin 512) (u : Fin 256) :
    k0_pay7 (F := Ideal) q K (ix2 r u) = Stick.softplus (∑ k : Fin 128, q (ix2 r k) * K (ix2 u k)) := by
  unfold Stick.softplus
  pointwise [k0_pay7, dot_apply, score_apply]
  rw [scale2_eq]
  rfl

theorem stepC_apply (q : FVec Ideal S512x128 .bf16) (c : FVec Ideal S512x128 .f32) (K : FVec Ideal S256x128 .bf16) (r : Fin 512) (l : Fin 128) :
    stepC q c K (ix2 r l) = c (ix2 r l) + ∑ u : Fin 256, Stick.softplus (∑ k : Fin 128, q (ix2 r k) * K (ix2 u k)) := by
  pointwise [stepC, k0_pay9, loss_apply]

theorem stepO_apply (q : FVec Ideal S512x128 .bf16) (T : FVec Ideal S256x256 .bf16) (o c : FVec Ideal S512x128 .f32) (K V : FVec Ideal S256x128 .bf16)
    (r : Fin 512) (l : Fin 128) (a : EReal) (hc : ∀ l' : Fin 128, c (ix2 r l') = a) :
    stepO q T o c K V (ix2 r l) = o (ix2 r l) + ∑ u : Fin 256, Ideal.exp ((∑ k : Fin 128, q (ix2 r k) * K (ix2 u k)) * (Stick.scale : EReal)
      - Stick.softplus (∑ k : Fin 128, q (ix2 r k) * K (ix2 u k))
      - (∑ u' : Fin 256, Stick.softplus (∑ k : Fin 128, q (ix2 r k) * K (ix2 u' k)) * T (ix2 u' u)) - a) * V (ix2 u l) := by
  rw [Fin.sum_univ_two_halves 128 128 rfl]
  pointwise [stepO, loss_apply, score_apply, hc]

/-- The losses of a block under a mask. -/
def lossM (M : IVec S512x256 1) (q : FVec Ideal S512x128 .bf16) (K : FVec Ideal S256x128 .bf16) : FVec Ideal S512x256 .f32 :=
  select M (k0_pay7 (F := Ideal) q K) (broadcast S512x256 (Scalar.ofBits .f32 0x00000000#32))

/-- A block under a mask: the losses added to the running sum. -/
def stepCM (M : IVec S512x256 1) (q : FVec Ideal S512x128 .bf16) (c : FVec Ideal S512x128 .f32) (K : FVec Ideal S256x128 .bf16) : FVec Ideal S512x128 .f32 :=
  addf c (broadcastTo S512x128 (shapeCast S512x1 (multiReduction .add [1] S512 (lossM M q K) 0x00000000#32 reduces_S512x256_S512 (.inl rfl) rfl)
    shapeCasts_S512_S512x1) broadcasts_S512x1_S512x128)

/-- A block under a mask: the weighted values added to the output. -/
def stepOM (M : IVec S512x256 1) (q : FVec Ideal S512x128 .bf16) (T : FVec Ideal S256x256 .bf16) (o c : FVec Ideal S512x128 .f32)
    (K V : FVec Ideal S256x128 .bf16) : FVec Ideal S512x128 .f32 :=
  addf o (matmul dot_S512x256_S256x128_S512x128_1_0_0_1_n_n none
    (truncf .bf16 (select M (exp (subf (subf (subf (k0_pay6 (F := Ideal) q K) (lossM M q K))
      (matmul dot_S512x256_S256x256_S512x256_1_0_0_1_n_n none (truncf .bf16 (lossM M q K) bitsLt_bf16_f32) T (constant S512x256 .f32 0x00000000#32)))
      (concatenate S512x256 1 [⟨S512x128, c⟩, ⟨S512x128, c⟩] concatenates_S512x128_S512x128_S512x256_d1)))
      (broadcast S512x256 (Scalar.ofBits .f32 0x00000000#32))) bitsLt_bf16_f32)
    V (constant S512x128 .f32 0x00000000#32))

/-- A word read as a condition. -/
theorem select_bit (p : Prop) [Decidable p] (a b : EReal) : Scalar.select (BitVec.ofBool (decide p)) a b = if p then a else b := by
  by_cases h : p
  · rw [if_pos h, decide_eq_true h]; rfl
  · rw [if_neg h, decide_eq_false h]; rfl

theorem lossM_apply (M : IVec S512x256 1) (q : FVec Ideal S512x128 .bf16) (K : FVec Ideal S256x128 .bf16) (p : Fin 512 → Fin 256 → Prop)
    [∀ r u, Decidable (p r u)] (hM : ∀ r u, M (ix2 r u) = BitVec.ofBool (decide (p r u))) (r : Fin 512) (u : Fin 256) :
    lossM M q K (ix2 r u) = if p r u then Stick.softplus (∑ k : Fin 128, q (ix2 r k) * K (ix2 u k)) else 0 := by
  rw [← select_bit]
  pointwise [lossM, loss_apply, hM]

theorem stepCM_apply (M : IVec S512x256 1) (q : FVec Ideal S512x128 .bf16) (c : FVec Ideal S512x128 .f32) (K : FVec Ideal S256x128 .bf16)
    (p : Fin 512 → Fin 256 → Prop) [∀ r u, Decidable (p r u)] (hM : ∀ r u, M (ix2 r u) = BitVec.ofBool (decide (p r u))) (r : Fin 512) (l : Fin 128) :
    stepCM M q c K (ix2 r l) = c (ix2 r l) + ∑ u : Fin 256, if p r u then Stick.softplus (∑ k : Fin 128, q (ix2 r k) * K (ix2 u k)) else 0 := by
  pointwise [stepCM, lossM_apply M q K p hM]

theorem stepOM_apply (M : IVec S512x256 1) (q : FVec Ideal S512x128 .bf16) (T : FVec Ideal S256x256 .bf16) (o c : FVec Ideal S512x128 .f32)
    (K V : FVec Ideal S256x128 .bf16) (p : Fin 512 → Fin 256 → Prop) [∀ r u, Decidable (p r u)]
    (hM : ∀ r u, M (ix2 r u) = BitVec.ofBool (decide (p r u))) (r : Fin 512) (l : Fin 128) (a : EReal) (hc : ∀ l' : Fin 128, c (ix2 r l') = a) :
    stepOM M q T o c K V (ix2 r l) = o (ix2 r l) + ∑ u : Fin 256, (if p r u then
      Ideal.exp ((∑ k : Fin 128, q (ix2 r k) * K (ix2 u k)) * (Stick.scale : EReal)
      - (if p r u then Stick.softplus (∑ k : Fin 128, q (ix2 r k) * K (ix2 u k)) else 0)
      - (∑ u' : Fin 256, (if p r u' then Stick.softplus (∑ k : Fin 128, q (ix2 r k) * K (ix2 u' k)) else 0) * T (ix2 u' u)) - a) else 0) * V (ix2 u l) := by
  rw [Fin.sum_univ_two_halves 128 128 rfl]
  simp only [← select_bit]
  pointwise [stepOM, lossM, loss_apply, score_apply, hc, hM]

/-! The same over the numbers of the keys: what each vector holds, and what a step makes of it. -/

section
variable (x : Stick.Rows) (h R : ℕ)

/-- The queries of the rows from `R` on. -/
def Qs (q : FVec Ideal S512x128 .bf16) : Prop := ∀ (r : Fin 512) (k : Fin 128), q (ix2 r k) = Stick.cell x (R + r.val) (2304 + 128 * h + k.val)
/-- The keys of block `n`. -/
def Ks (n : ℕ) (K : FVec Ideal S256x128 .bf16) : Prop := ∀ (u : Fin 256) (k : Fin 128), K (ix2 u k) = Stick.cell x (256 * n + u.val) (2816 + 128 * h + k.val)
/-- The values of block `n`. -/
def Vs (n : ℕ) (V : FVec Ideal S256x128 .bf16) : Prop := ∀ (u : Fin 256) (l : Fin 128), V (ix2 u l) = Stick.value x h l.val (256 * n + u.val)
/-- The triangle. -/
def Ts (T : FVec Ideal S256x256 .bf16) : Prop := ∀ u' u : Fin 256, T (ix2 u' u) = Stick.tri u'.val u.val
/-- The running sum of the losses, at block `n`. -/
def Cs (n : ℕ) (c : FVec Ideal S512x128 .f32) : Prop := ∀ (r : Fin 512) (l : Fin 128), c (ix2 r l) = Stick.tot (Stick.loss x h (R + r.val)) n
/-- The running output, at block `n`. -/
def As (n : ℕ) (a : FVec Ideal S512x128 .f32) : Prop :=
  ∀ (r : Fin 512) (l : Fin 128), a (ix2 r l) = Stick.out (Stick.loss x h (R + r.val)) (Stick.score x h (R + r.val)) (Stick.value x h l.val) (R + r.val) n
/-- What block `n` adds to the output of a row. -/
def part (n : ℕ) (r : Fin 512) (l : Fin 128) : EReal :=
  Stick.blockOut (Stick.loss x h (R + r.val)) (Stick.score x h (R + r.val)) (Stick.value x h l.val) (R + r.val) n

variable {x h R}

theorem dotqk_eq {n : ℕ} {q : FVec Ideal S512x128 .bf16} {K : FVec Ideal S256x128 .bf16} (hq : Qs x h R q) (hK : Ks x h n K) (r : Fin 512) (u : Fin 256) :
    ∑ k : Fin 128, (q (ix2 r k) : EReal) * K (ix2 u k) = Stick.dotqk x h (R + r.val) (256 * n + u.val) :=
  Finset.sum_congr rfl fun k _ => congrArg₂ (fun a b : EReal => a * b) (hq r k) (hK u k)

theorem stepC_tot {n : ℕ} (hn : n < 64) (hR : 256 * (n + 1) ≤ R) {q : FVec Ideal S512x128 .bf16} {c : FVec Ideal S512x128 .f32} {K : FVec Ideal S256x128 .bf16}
    (hq : Qs x h R q) (hK : Ks x h n K) (hc : Cs x h R (n + 1) c) : Cs x h R n (stepC q c K) := fun r l => by
  rw [stepC_apply, hc r l, Stick.tot_step _ hn]
  refine congrArg₂ (fun a b : EReal => a + b) rfl (Finset.sum_congr rfl fun u _ => ?_)
  rw [dotqk_eq hq hK, Stick.loss, if_pos (by omega)]

theorem stepO_out {n : ℕ} (hn : n < 64) (hR : 256 * (n + 1) ≤ R) {q : FVec Ideal S512x128 .bf16} {T : FVec Ideal S256x256 .bf16} {o c : FVec Ideal S512x128 .f32}
    {K V : FVec Ideal S256x128 .bf16} (hq : Qs x h R q) (hK : Ks x h n K) (hV : Vs x h n V) (hT : Ts T) (hc : Cs x h R (n + 1) c) (r : Fin 512) (l : Fin 128) :
    stepO q T o c K V (ix2 r l) = o (ix2 r l) + part x h R n r l := by
  have hl : ∀ u : Fin 256, Stick.softplus (Stick.dotqk x h (R + r.val) (256 * n + u.val)) = Stick.loss x h (R + r.val) (256 * n + u.val) := fun u => by
    rw [Stick.loss, if_pos (by omega)]
  unfold part Stick.blockOut
  rw [stepO_apply q T o c K V r l _ (hc r)]
  refine congrArg₂ (fun a b : EReal => a + b) rfl (Finset.sum_congr rfl fun u _ => ?_)
  rw [hV u l, Stick.weight, if_pos (by omega)]
  simp only [dotqk_eq hq hK, hl, hT _ u]
  rfl

theorem stepCM_tot {n : ℕ} (hn : n < 64) {M : IVec S512x256 1} {q : FVec Ideal S512x128 .bf16} {c : FVec Ideal S512x128 .f32} {K : FVec Ideal S256x128 .bf16}
    (hM : ∀ (r : Fin 512) (u : Fin 256), M (ix2 r u) = BitVec.ofBool (decide (256 * n + u.val < R + r.val)))
    (hq : Qs x h R q) (hK : Ks x h n K) (hc : Cs x h R (n + 1) c) : Cs x h R n (stepCM M q c K) := fun r l => by
  rw [stepCM_apply M q c K _ hM, hc r l, Stick.tot_step _ hn]
  refine congrArg₂ (fun a b : EReal => a + b) rfl (Finset.sum_congr rfl fun u _ => ?_)
  rw [dotqk_eq hq hK, Stick.loss]

theorem stepOM_out {n : ℕ} (hn : n < 64) {M : IVec S512x256 1} {q : FVec Ideal S512x128 .bf16} {T : FVec Ideal S256x256 .bf16} {o c : FVec Ideal S512x128 .f32}
    {K V : FVec Ideal S256x128 .bf16} (hM : ∀ (r : Fin 512) (u : Fin 256), M (ix2 r u) = BitVec.ofBool (decide (256 * n + u.val < R + r.val)))
    (hq : Qs x h R q) (hK : Ks x h n K) (hV : Vs x h n V) (hT : Ts T) (hc : Cs x h R (n + 1) c) (r : Fin 512) (l : Fin 128) :
    stepOM M q T o c K V (ix2 r l) = o (ix2 r l) + part x h R n r l := by
  unfold part Stick.blockOut
  rw [stepOM_apply M q T o c K V _ hM r l _ (hc r)]
  refine congrArg₂ (fun a b : EReal => a + b) rfl (Finset.sum_congr rfl fun u _ => ?_)
  rw [hV u l, Stick.weight]
  simp only [dotqk_eq hq hK, hT _ u]
  rfl

end
-- ==== Proof.SbfLoop.lean ====
module
public import proofs.«01_k».proof.Proof.Gen.SbfIdeal.Value
public import proofs.«01_k».proof.Proof.SbfStep
public import Idealize.ShloMosaic.Lib.Pipeline.ValueKit
public import Idealize.ShloMosaic.Lib.Pipeline.ReadBack
@[expose] public section
set_option maxRecDepth 16384
noncomputable section
namespace Cert.SbfIdeal.Value
open Idealize.ShloMosaic Idealize.ShloMosaic.TcCoe Idealize.SL.Sem
open Idealize.ShloMosaic.Pipeline (Dat)
open Cert.SbfIdeal Cert.SbfIdeal.Gen

/-- The first row of each block of keys a trip reads. -/
theorem off3 : ∀ (i : grid0.Coords) (k : Fin (k0_t1_loop i).trips) (r : Fin 4),
    k0_off3 i k (BitVec.ofNat 32 r.val) = ![256 * (4 * ((i 1).val / 2 - 1 - k.val) + (3 - r.val)), 0] := by decide +kernel
/-- The number of trips. -/
theorem trips : ∀ i : grid0.Coords, (k0_t1_loop i).trips = (i 1).val / 2 := by decide +kernel

/-- The whole of an accumulator. -/
abbrev all : Rect S512x128 := Rect.unit (s := S512x128) ![0, 0] ![512, 128] inb_S512x128_S512x128_0_0

theorem sc_self (a : FVec Ideal S512x128 .f32) : shapeCast S512x128 a shapeCasts_S512x128_S512x128 = a := by
  funext y
  pointwise

theorem pay1_eq (a : FVec Ideal S512x128 .f32) (b : FVec Ideal S512x256 .f32) :
    k0_pay1 (F := Ideal) a b = addf a (broadcastTo S512x128 (shapeCast S512x1 (multiReduction .add [1] S512 b 0x00000000#32
    reduces_S512x256_S512 (.inl rfl) rfl) shapeCasts_S512_S512x1) broadcasts_S512x1_S512x128) := sc_self _

theorem pay2_eq (a b : FVec Ideal S512x128 .f32) (c d : FVec Ideal S512x256 .f32) (e : FVec Ideal S256x128 .bf16) (f : FVec Ideal S512x128 .f32) :
    k0_pay2 (F := Ideal) a b c d e f = addf f (addf a (matmul dot_S512x256_S256x128_S512x128_1_0_0_1_n_n none
    (truncf .bf16 (exp (subf (subf c d) (concatenate S512x256 1 [⟨S512x128, b⟩, ⟨S512x128, b⟩] concatenates_S512x128_S512x128_S512x256_d1))) bitsLt_bf16_f32)
    e (constant S512x128 .f32 0x00000000#32))) := sc_self _

/-- What a store of the whole buffer leaves to a load of it. -/
theorem readAt_stored (M : Memref sig .tc .vmem S512x128 .f32) (f : BufTy.Contents (Elt Ideal) M.view.ty) (w : FVec Ideal S512x128 .f32)
    (L : List (View.Piece (Elt Ideal) S512x128 .f32)) :
    View.readAt (Elt Ideal) M.view all.toLoadRect (M.view.writes (Elt Ideal) f (⟨all, w⟩ :: L)) = w := by
  rw [View.readAt_writes_of_cover _ _ _ _ (fun j => ⟨_, List.mem_cons_self, View.mem_set_unit_zero (by funext a; fin_cases a <;> rfl) inb_S512x128_S512x128_0_0 _⟩), View.readCov_cons_toLoadRect]

set_option maxHeartbeats 1600000 in
/-- A trip walks four blocks of keys, and adds their outputs, summed from zero, to the accumulator. -/
theorem trip_eq (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (q : Vec Ideal S512x128 .bf16) (T : FVec Ideal S256x256 .bf16) (v102 : BitVec 32) (v112 : BitVec 32) (X3 : BufTy.Contents (Elt Ideal) arg3.view.ty) (X4 : BufTy.Contents (Elt Ideal) arg4.view.ty) (k : Fin (k0_t1_loop i).trips)
    (f8 : BufTy.Contents (Elt Ideal) arg8.view.ty) (f9 : BufTy.Contents (Elt Ideal) arg9.view.ty) :
    tripL_k0_t1 (F := Ideal) 𝒱 c bd i arg2 harg2 arg3 harg3 arg4 harg4 arg5 harg5 arg6 harg6 arg7 harg7 arg8 harg8 arg9 harg9 q T v102 v112 X3 X4 k f8 f9
      = ([⟨all, addf (View.readAt (Elt Ideal) arg8.view all.toLoadRect f8)
            (stepO q T (stepO q T (stepO q T (stepO q T (broadcast S512x128 (Scalar.ofBits .f32 0x00000000#32)) (View.readAt (Elt Ideal) arg9.view all.toLoadRect f9) (View.readAt (Elt Ideal) arg3.view (Rect.unit (s := S16384x128) (k0_off3 i k 0#32) ![256, 128] (k0_off3_inb i k 0)).toLoadRect X3) (View.readAt (Elt Ideal) arg4.view (Rect.unit (s := S16384x128) (k0_off3 i k 0#32) ![256, 128] (k0_off3_inb i k 0)).toLoadRect X4)) (stepC q (View.readAt (Elt Ideal) arg9.view all.toLoadRect f9) (View.readAt (Elt Ideal) arg3.view (Rect.unit (s := S16384x128) (k0_off3 i k 0#32) ![256, 128] (k0_off3_inb i k 0)).toLoadRect X3)) (View.readAt (Elt Ideal) arg3.view (Rect.unit (s := S16384x128) (k0_off3 i k 1#32) ![256, 128] (k0_off3_inb i k 1)).toLoadRect X3) (View.readAt (Elt Ideal) arg4.view (Rect.unit (s := S16384x128) (k0_off3 i k 1#32) ![256, 128] (k0_off3_inb i k 1)).toLoadRect X4)) (stepC q (stepC q (View.readAt (Elt Ideal) arg9.view all.toLoadRect f9) (View.readAt (Elt Ideal) arg3.view (Rect.unit (s := S16384x128) (k0_off3 i k 0#32) ![256, 128] (k0_off3_inb i k 0)).toLoadRect X3)) (View.readAt (Elt Ideal) arg3.view (Rect.unit (s := S16384x128) (k0_off3 i k 1#32) ![256, 128] (k0_off3_inb i k 1)).toLoadRect X3)) (View.readAt (Elt Ideal) arg3.view (Rect.unit (s := S16384x128) (k0_off3 i k 2#32) ![256, 128] (k0_off3_inb i k 2)).toLoadRect X3) (View.readAt (Elt Ideal) arg4.view (Rect.unit (s := S16384x128) (k0_off3 i k 2#32) ![256, 128] (k0_off3_inb i k 2)).toLoadRect X4)) (stepC q (stepC q (stepC q (View.readAt (Elt Ideal) arg9.view all.toLoadRect f9) (View.readAt (Elt Ideal) arg3.view (Rect.unit (s := S16384x128) (k0_off3 i k 0#32) ![256, 128] (k0_off3_inb i k 0)).toLoadRect X3)) (View.readAt (Elt Ideal) arg3.view (Rect.unit (s := S16384x128) (k0_off3 i k 1#32) ![256, 128] (k0_off3_inb i k 1)).toLoadRect X3)) (View.readAt (Elt Ideal) arg3.view (Rect.unit (s := S16384x128) (k0_off3 i k 2#32) ![256, 128] (k0_off3_inb i k 2)).toLoadRect X3)) (View.readAt (Elt Ideal) arg3.view (Rect.unit (s := S16384x128) (k0_off3 i k 3#32) ![256, 128] (k0_off3_inb i k 3)).toLoadRect X3) (View.readAt (Elt Ideal) arg4.view (Rect.unit (s := S16384x128) (k0_off3 i k 3#32) ![256, 128] (k0_off3_inb i k 3)).toLoadRect X4))⟩],
         [⟨all, (stepC q (stepC q (stepC q (stepC q (View.readAt (Elt Ideal) arg9.view all.toLoadRect f9) (View.readAt (Elt Ideal) arg3.view (Rect.unit (s := S16384x128) (k0_off3 i k 0#32) ![256, 128] (k0_off3_inb i k 0)).toLoadRect X3)) (View.readAt (Elt Ideal) arg3.view (Rect.unit (s := S16384x128) (k0_off3 i k 1#32) ![256, 128] (k0_off3_inb i k 1)).toLoadRect X3)) (View.readAt (Elt Ideal) arg3.view (Rect.unit (s := S16384x128) (k0_off3 i k 2#32) ![256, 128] (k0_off3_inb i k 2)).toLoadRect X3)) (View.readAt (Elt Ideal) arg3.view (Rect.unit (s := S16384x128) (k0_off3 i k 3#32) ![256, 128] (k0_off3_inb i k 3)).toLoadRect X3))⟩]) := by
  unfold tripL_k0_t1 trip_k0_t1
  dsimp only
  exact congrArg₂ (fun a b => (([⟨all, a⟩], [⟨all, b⟩]) : List (View.Piece (Elt Ideal) S512x128 .f32) × List (View.Piece (Elt Ideal) S512x128 .f32)))
    ((pay2_eq _ _ _ _ _ _).trans rfl) ((pay1_eq _ _).trans rfl)

variable {x : Stick.Rows} {h R : ℕ}

/-- A load of 256 rows of a buffer that holds the keys of a head. -/
theorem keys_of (M : Memref sig .tc .vmem S16384x128 .bf16) (X : BufTy.Contents (Elt Ideal) M.view.ty)
    (hX : ∀ (j : Fin 16384) (k : Fin 128), M.view.read (Elt Ideal) X (ix2 j k) = Stick.cell x j.val (2816 + 128 * h + k.val))
    (off : Fin 2 → ℕ) (inb) (n : ℕ) (ho : off = ![256 * n, 0]) :
    Ks x h n (View.readAt (Elt Ideal) M.view (Rect.unit (s := S16384x128) off ![256, 128] inb).toLoadRect X) := fun u k => by
  subst ho
  have hb : 256 * n + 256 ≤ 16384 := inb 0
  rw [View.readAt_apply]
  refine Eq.trans (congrArg _ ?_) (hX ⟨256 * n + u.val, by omega⟩ k)
  funext a
  refine Fin.ext ?_
  match a with
  | ⟨0, _⟩ => show 256 * n + 1 * u.val = _; rw [one_mul]; rfl
  | ⟨1, _⟩ => show 0 + 1 * k.val = _; rw [one_mul, zero_add]; rfl

/-- A load of 256 rows of a buffer that holds the values of a head. -/
theorem vals_of (M : Memref sig .tc .vmem S16384x128 .bf16) (X : BufTy.Contents (Elt Ideal) M.view.ty)
    (hX : ∀ (j : Fin 16384) (k : Fin 128), M.view.read (Elt Ideal) X (ix2 j k) = Stick.cell x j.val (3328 + 128 * h + k.val))
    (off : Fin 2 → ℕ) (inb) (n : ℕ) (ho : off = ![256 * n, 0]) :
    Vs x h n (View.readAt (Elt Ideal) M.view (Rect.unit (s := S16384x128) off ![256, 128] inb).toLoadRect X) := fun u k => by
  subst ho
  have hb : 256 * n + 256 ≤ 16384 := inb 0
  rw [View.readAt_apply]
  refine Eq.trans (congrArg _ ?_) (hX ⟨256 * n + u.val, by omega⟩ k)
  funext a
  refine Fin.ext ?_
  match a with
  | ⟨0, _⟩ => show 256 * n + 1 * u.val = _; rw [one_mul]; rfl
  | ⟨1, _⟩ => show 0 + 1 * k.val = _; rw [one_mul, zero_add]; rfl

theorem zero_splat (y : S512x128.Idx) : (broadcast S512x128 (Scalar.ofBits (F := Ideal) .f32 0x00000000#32) : FVec Ideal S512x128 .f32) y = 0 :=
  Ideal.ofBits_zero_f32

/-- The walk: before trip `n` the two buffers hold the sums over the blocks already seen. -/
theorem walk (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (q : Vec Ideal S512x128 .bf16) (T : FVec Ideal S256x256 .bf16) (v102 : BitVec 32) (v112 : BitVec 32) (X3 : BufTy.Contents (Elt Ideal) arg3.view.ty) (X4 : BufTy.Contents (Elt Ideal) arg4.view.ty)
    (G8 : BufTy.Contents (Elt Ideal) arg8.view.ty) (G9 : BufTy.Contents (Elt Ideal) arg9.view.ty)
    (hR : R = 512 * (i 1).val) (hi : (i 1).val < 32) (hq : Qs x h R q) (hT : Ts T)
    (h3 : ∀ (j : Fin 16384) (k : Fin 128), arg3.view.read (Elt Ideal) X3 (ix2 j k) = Stick.cell x j.val (2816 + 128 * h + k.val))
    (h4 : ∀ (j : Fin 16384) (k : Fin 128), arg4.view.read (Elt Ideal) X4 (ix2 j k) = Stick.cell x j.val (3328 + 128 * h + k.val))
    (h8 : As x h R (4 * ((i 1).val / 2)) (View.readAt (Elt Ideal) arg8.view all.toLoadRect G8))
    (h9 : Cs x h R (4 * ((i 1).val / 2)) (View.readAt (Elt Ideal) arg9.view all.toLoadRect G9)) :
    ∀ n : ℕ, n ≤ (k0_t1_loop i).trips →
      As x h R (4 * ((i 1).val / 2 - n)) (View.readAt (Elt Ideal) arg8.view all.toLoadRect
        (arg8.view.writes (Elt Ideal) G8 (pb_k0_t1 (F := Ideal) 𝒱 c bd i arg2 harg2 arg3 harg3 arg4 harg4 arg5 harg5 arg6 harg6 arg7 harg7 arg8 harg8 arg9 harg9 q T v102 v112 X3 X4 G8 G9 n).1))
      ∧ Cs x h R (4 * ((i 1).val / 2 - n)) (View.readAt (Elt Ideal) arg9.view all.toLoadRect
        (arg9.view.writes (Elt Ideal) G9 (pb_k0_t1 (F := Ideal) 𝒱 c bd i arg2 harg2 arg3 harg3 arg4 harg4 arg5 harg5 arg6 harg6 arg7 harg7 arg8 harg8 arg9 harg9 q T v102 v112 X3 X4 G8 G9 n).2))
  | 0, _ => ⟨h8, h9⟩
  | n + 1, hn => by
    obtain ⟨ih8, ih9⟩ := walk 𝒱 c bd i arg2 harg2 arg3 harg3 arg4 harg4 arg5 harg5 arg6 harg6 arg7 harg7 arg8 harg8 arg9 harg9 q T v102 v112 X3 X4 G8 G9 hR hi hq hT h3 h4 h8 h9 n (Nat.le_of_succ_le hn)
    have ht := trips i
    set k : Fin (k0_t1_loop i).trips := ⟨n, hn⟩ with hk
    have e : pb_k0_t1 (F := Ideal) 𝒱 c bd i arg2 harg2 arg3 harg3 arg4 harg4 arg5 harg5 arg6 harg6 arg7 harg7 arg8 harg8 arg9 harg9 q T v102 v112 X3 X4 G8 G9 (n + 1) = _ := pb_k0_t1_succ 𝒱 c bd i arg2 harg2 arg3 harg3 arg4 harg4 arg5 harg5 arg6 harg6 arg7 harg7 arg8 harg8 arg9 harg9 q T v102 v112 X3 X4 G8 G9 k
    have hb : n < (i 1).val / 2 := by omega
    generalize hp : pb_k0_t1 (F := Ideal) 𝒱 c bd i arg2 harg2 arg3 harg3 arg4 harg4 arg5 harg5 arg6 harg6 arg7 harg7 arg8 harg8 arg9 harg9 q T v102 v112 X3 X4 G8 G9 n = prev at ih8 ih9
    rw [show pb_k0_t1 (F := Ideal) 𝒱 c bd i arg2 harg2 arg3 harg3 arg4 harg4 arg5 harg5 arg6 harg6 arg7 harg7 arg8 harg8 arg9 harg9 q T v102 v112 X3 X4 G8 G9 k.val = prev from hp, trip_eq] at e
    rw [e]
    dsimp only [List.cons_append, List.nil_append]
    rw [readAt_stored, readAt_stored]
    generalize View.readAt (Elt Ideal) arg8.view all.toLoadRect (arg8.view.writes (Elt Ideal) G8 prev.1) = a0 at ih8 ⊢
    generalize View.readAt (Elt Ideal) arg9.view all.toLoadRect (arg9.view.writes (Elt Ideal) G9 prev.2) = c0 at ih9 ⊢
    obtain ⟨b, hb4⟩ : ∃ b, (i 1).val / 2 - n = b + 1 := ⟨(i 1).val / 2 - n - 1, by omega⟩
    have hb5 : (i 1).val / 2 - (n + 1) = b := by omega
    have hbR : 1024 * (b + 1) ≤ R := by omega
    rw [hb4] at ih8 ih9
    rw [hb5]
    have ho : ∀ r : Fin 4, k0_off3 i k (BitVec.ofNat 32 r.val) = ![256 * (4 * b + (3 - r.val)), 0] := fun r => by
      rw [off3]; have : (i 1).val / 2 - 1 - k.val = b := by show (i 1).val / 2 - 1 - n = b; omega
      rw [this]
    have K0 := keys_of (x := x) (h := h) arg3 X3 h3 _ (k0_off3_inb i k 0) (4 * b + 3) (ho 0)
    have V0 := vals_of (x := x) (h := h) arg4 X4 h4 _ (k0_off3_inb i k 0) (4 * b + 3) (ho 0)
    have K1 := keys_of (x := x) (h := h) arg3 X3 h3 _ (k0_off3_inb i k 1) (4 * b + 2) (ho 1)
    have V1 := vals_of (x := x) (h := h) arg4 X4 h4 _ (k0_off3_inb i k 1) (4 * b + 2) (ho 1)
    have K2 := keys_of (x := x) (h := h) arg3 X3 h3 _ (k0_off3_inb i k 2) (4 * b + 1) (ho 2)
    have V2 := vals_of (x := x) (h := h) arg4 X4 h4 _ (k0_off3_inb i k 2) (4 * b + 1) (ho 2)
    have K3 := keys_of (x := x) (h := h) arg3 X3 h3 _ (k0_off3_inb i k 3) (4 * b + 0) (ho 3)
    have V3 := vals_of (x := x) (h := h) arg4 X4 h4 _ (k0_off3_inb i k 3) (4 * b + 0) (ho 3)
    have c1 := stepC_tot (n := 4 * b + 3) (by omega) (by omega) hq K0 ih9
    have c2 := stepC_tot (n := 4 * b + 2) (by omega) (by omega) hq K1 c1
    have c3 := stepC_tot (n := 4 * b + 1) (by omega) (by omega) hq K2 c2
    have c4 := stepC_tot (n := 4 * b + 0) (by omega) (by omega) hq K3 c3
    refine ⟨fun r l => ?_, c4⟩
    refine (congrArg₂ (fun a b : EReal => a + b) (ih8 r l)
      ((stepO_out (n := 4 * b + 0) (by omega) (by omega) hq K3 V3 hT c3 r l).trans (congrArg (fun a : EReal => a + _)
        ((stepO_out (n := 4 * b + 1) (by omega) (by omega) hq K2 V2 hT c2 r l).trans (congrArg (fun a : EReal => a + _)
          ((stepO_out (n := 4 * b + 2) (by omega) (by omega) hq K1 V1 hT c1 r l).trans (congrArg (fun a : EReal => a + _)
            (stepO_out (n := 4 * b + 3) (by omega) (by omega) hq K0 V0 hT ih9 r l)))))))).trans ?_
    rw [zero_splat, zero_add]
    show Stick.out _ _ _ _ (4 * b + 3 + 1) + _ = Stick.out _ _ _ _ (4 * b)
    rw [Stick.out_step _ _ _ _ (show 4 * b < 64 by omega), Stick.out_step _ _ _ _ (show 4 * b + 1 < 64 by omega),
      Stick.out_step _ _ _ _ (show 4 * b + 1 + 1 < 64 by omega), Stick.out_step _ _ _ _ (show 4 * b + 1 + 1 + 1 < 64 by omega)]
    simp only [add_assoc]
    rfl
-- ==== Proof.SbfFirst.lean ====
module
public import proofs.«01_k».proof.Proof.SbfLoop
@[expose] public section
set_option maxRecDepth 16384
noncomputable section
namespace Cert.SbfIdeal.Value
open Idealize.ShloMosaic Idealize.ShloMosaic.TcCoe Idealize.SL.Sem
open Cert.SbfIdeal Cert.SbfIdeal.Gen

/-- The first rows of the two blocks on the diagonal. -/
theorem off1 : ∀ (i : grid0.Coords) (r : Fin 2), k0_off1 i (BitVec.ofNat 32 r.val) = ![256 * (2 * (i 1).val + r.val), 0] := by decide +kernel
/-- The first rows of the two blocks an odd tile takes before the walk. -/
theorem off2 : ∀ (i : grid0.Coords) (h : k0_cond1 i = 1#1) (r : Fin 2), k0_off2 i (BitVec.ofNat 32 r.val) = ![256 * (2 * (i 1).val - 1 - r.val), 0] := by
  decide +kernel

/-- The place of a query among all rows. -/
theorem query_apply (i : grid0.Coords) (r : Fin 512) (u : Fin 256) :
    k0_pay55 i (ix2 r u) = BitVec.ofNat 32 (512 * (i 1).val + r.val) := by
  pointwise [k0_pay55]
  show BitVec.ofNat 32 (i 1).val * 512#32 + BitVec.ofNat 32 r.val = _
  rw [← BitVec.ofNat_mul, ← BitVec.ofNat_add, Nat.mul_comm]

/-- The mask of the second block of the diagonal. -/
theorem mask1 (i : grid0.Coords) (r : Fin 512) (u : Fin 256) :
    k0_pay60 i (ix2 r u) = BitVec.ofBool (decide (256 * (2 * (i 1).val + 1) + u.val < 512 * (i 1).val + r.val)) := by
  have hi : (i 1).val < 32 := (i 1).isLt
  pointwise [k0_pay60]
  show BitVec.ofBool (BitVec.slt ((BitVec.ofNat 32 (i 1).val * 2#32 + 1#32) * 256#32 + BitVec.ofNat 32 u.val) (k0_pay55 i (ix2 r u))) = _
  rw [query_apply, ← BitVec.ofNat_mul, ← BitVec.ofNat_add, ← BitVec.ofNat_mul, ← BitVec.ofNat_add, Stick.lt_word _ _ (by omega) (by omega),
    Nat.mul_comm _ 256, Nat.mul_comm _ 2]

/-- The mask of the first block of the diagonal. -/
theorem mask0 (i : grid0.Coords) (r : Fin 512) (u : Fin 256) :
    k0_pay67 (BitVec.ofNat 32 (i 1).val) (k0_pay55 i) (iota .tc S512x256 32 [1] iota_S512x256_d1_w32) (ix2 r u)
      = BitVec.ofBool (decide (256 * (2 * (i 1).val) + u.val < 512 * (i 1).val + r.val)) := by
  have hi : (i 1).val < 32 := (i 1).isLt
  pointwise [k0_pay67]
  show BitVec.ofBool (BitVec.slt ((BitVec.ofNat 32 (i 1).val * 2#32 + 0#32) * 256#32 + BitVec.ofNat 32 u.val) (k0_pay55 i (ix2 r u))) = _
  rw [query_apply, ← BitVec.ofNat_mul, ← BitVec.ofNat_add, ← BitVec.ofNat_mul, ← BitVec.ofNat_add, Stick.lt_word _ _ (by omega) (by omega),
    Nat.mul_comm _ 256, Nat.mul_comm _ 2, Nat.add_zero]

/-- The running sum after the diagonal. -/
abbrev firstC (i : grid0.Coords) (q : FVec Ideal S512x128 .bf16) (K1 K0 : FVec Ideal S256x128 .bf16) : FVec Ideal S512x128 .f32 :=
  k0_pay71 (k0_pay64 k0_pay56 (k0_pay61 i q K1))
    (k0_pay68 (BitVec.ofNat 32 (i 1).val) q (k0_pay55 i) (iota .tc S512x256 32 [1] iota_S512x256_d1_w32) K0)

/-- The output after the diagonal. -/
abbrev firstA (i : grid0.Coords) (q : FVec Ideal S512x128 .bf16) (T : FVec Ideal S256x256 .bf16) (K1 V1 K0 V0 : FVec Ideal S256x128 .bf16) :
    FVec Ideal S512x128 .f32 :=
  k0_pay72 (k0_pay63 k0_pay56 k0_pay57 (k0_pay60 i) (k0_pay62 i q T K1) V1)
    (k0_pay67 (BitVec.ofNat 32 (i 1).val) (k0_pay55 i) (iota .tc S512x256 32 [1] iota_S512x256_d1_w32))
    (k0_pay69 (BitVec.ofNat 32 (i 1).val) q (k0_pay54 T) (k0_pay55 i) (iota .tc S512x256 32 [1] iota_S512x256_d1_w32) K0)
    (k0_pay70 k0_pay56 (k0_pay61 i q K1)) V0

theorem firstC_eq (i : grid0.Coords) (q : FVec Ideal S512x128 .bf16) (K1 K0 : FVec Ideal S256x128 .bf16) :
    firstC i q K1 K0 = stepCM (k0_pay67 (BitVec.ofNat 32 (i 1).val) (k0_pay55 i) (iota .tc S512x256 32 [1] iota_S512x256_d1_w32)) q
      (stepCM (k0_pay60 i) q k0_pay56 K1) K0 := (sc_self _).trans rfl

theorem firstA_eq (i : grid0.Coords) (q : FVec Ideal S512x128 .bf16) (T : FVec Ideal S256x256 .bf16) (K1 V1 K0 V0 : FVec Ideal S256x128 .bf16) :
    firstA i q T K1 V1 K0 V0 = stepOM (k0_pay67 (BitVec.ofNat 32 (i 1).val) (k0_pay55 i) (iota .tc S512x256 32 [1] iota_S512x256_d1_w32)) q (k0_pay54 T)
      (stepOM (k0_pay60 i) q (k0_pay54 T) k0_pay57 k0_pay56 K1 V1) (stepCM (k0_pay60 i) q k0_pay56 K1) K0 V0 := (sc_self _).trans rfl

variable {x : Stick.Rows} {h R : ℕ}

theorem tot_none (i : grid0.Coords) (hR : R = 512 * (i 1).val) : Cs x h R (2 * (i 1).val + 1 + 1) (k0_pay56 (F := Ideal)) := fun r l => by
  rw [Stick.tot_eq_zero _ _ fun j hj => ?_]
  · exact zero_splat (ix2 r l)
  · exact if_neg (by omega)

theorem out_none (i : grid0.Coords) (hR : R = 512 * (i 1).val) : As x h R (2 * (i 1).val + 1 + 1) (k0_pay57 (F := Ideal)) := fun r l => by
  rw [Stick.out_eq_zero _ _ _ _ _ (by omega)]
  exact zero_splat (ix2 r l)

theorem first_tot (i : grid0.Coords) (hR : R = 512 * (i 1).val) {q : FVec Ideal S512x128 .bf16} {K1 K0 : FVec Ideal S256x128 .bf16}
    (hq : Qs x h R q) (h1 : Ks x h (2 * (i 1).val + 1) K1) (h0 : Ks x h (2 * (i 1).val) K0) : Cs x h R (2 * (i 1).val) (firstC i q K1 K0) := by
  have hi : (i 1).val < 32 := (i 1).isLt
  subst hR
  rw [firstC_eq]
  exact stepCM_tot (by omega) (mask0 i) hq h0 (stepCM_tot (by omega) (mask1 i) hq h1 (tot_none i rfl))

theorem first_out (i : grid0.Coords) (hR : R = 512 * (i 1).val) {q : FVec Ideal S512x128 .bf16} {T : FVec Ideal S256x256 .bf16}
    {K1 V1 K0 V0 : FVec Ideal S256x128 .bf16} (hT : Ts T)
    (hq : Qs x h R q) (h1 : Ks x h (2 * (i 1).val + 1) K1) (h0 : Ks x h (2 * (i 1).val) K0)
    (v1 : Vs x h (2 * (i 1).val + 1) V1) (v0 : Vs x h (2 * (i 1).val) V0) : As x h R (2 * (i 1).val) (firstA i q T K1 V1 K0 V0) := fun r l => by
  have hi : (i 1).val < 32 := (i 1).isLt
  subst hR
  have e : k0_pay54 (F := Ideal) T = T := shapeCast_self _ _
  rw [firstA_eq, e, stepOM_out (by omega) (mask0 i) hq h0 v0 hT (stepCM_tot (by omega) (mask1 i) hq h1 (tot_none i rfl)) r l,
    stepOM_out (by omega) (mask1 i) hq h1 v1 hT (tot_none i rfl) r l, out_none i rfl r l,
    Stick.out_step _ _ _ _ (show 2 * (i 1).val < 64 by omega), Stick.out_step _ _ _ _ (show 2 * (i 1).val + 1 < 64 by omega)]
  rfl

/-- The running sum after the two blocks an odd tile takes before the walk. -/
theorem odd_tot {n : ℕ} (hn : n + 1 < 64) (hR : 256 * (n + 1 + 1) ≤ R) {q : FVec Ideal S512x128 .bf16} {c : FVec Ideal S512x128 .f32} {K0 K1 : FVec Ideal S256x128 .bf16}
    (hq : Qs x h R q) (h0 : Ks x h (n + 1) K0) (h1 : Ks x h n K1) (hc : Cs x h R (n + 1 + 1) c) :
    Cs x h R n (k0_pay76 (F := Ideal) q (k0_pay9 q c K0) K1) := by
  rw [show k0_pay76 (F := Ideal) q (k0_pay9 q c K0) K1 = stepC q (stepC q c K0) K1 from (sc_self _).trans rfl]
  exact stepC_tot (by omega) (by omega) hq h1 (stepC_tot (by omega) (by omega) hq h0 hc)

/-- The output after the two blocks an odd tile takes before the walk. -/
theorem odd_out {n : ℕ} (hn : n + 1 < 64) (hR : 256 * (n + 1 + 1) ≤ R) {q : FVec Ideal S512x128 .bf16} {T : FVec Ideal S256x256 .bf16}
    {c a : FVec Ideal S512x128 .f32} {K0 V0 K1 V1 : FVec Ideal S256x128 .bf16} (hT : Ts T)
    (hq : Qs x h R q) (h0 : Ks x h (n + 1) K0) (h1 : Ks x h n K1) (v0 : Vs x h (n + 1) V0) (v1 : Vs x h n V1)
    (hc : Cs x h R (n + 1 + 1) c) (ha : As x h R (n + 1 + 1) a) :
    As x h R n (k0_pay77 (F := Ideal) q T (k0_pay8 q T c K0 V0) (k0_pay9 q c K0) K1 V1 a) := fun r l => by
  rw [show k0_pay77 (F := Ideal) q T (k0_pay8 q T c K0 V0) (k0_pay9 q c K0) K1 V1 a
    = addf a (stepO q T (stepO q T (broadcast S512x128 (Scalar.ofBits .f32 0x00000000#32)) c K0 V0) (stepC q c K0) K1 V1) from (sc_self _).trans rfl]
  refine (congrArg₂ (fun a b : EReal => a + b) (ha r l)
      ((stepO_out (n := n) (by omega) (by omega) hq h1 v1 hT (stepC_tot (by omega) (by omega) hq h0 hc) r l).trans (congrArg (fun a : EReal => a + _)
        (stepO_out (n := n + 1) (by omega) (by omega) hq h0 v0 hT hc r l)))).trans ?_
  rw [zero_splat, zero_add, Stick.out_step _ _ _ _ (show n < 64 by omega), Stick.out_step _ _ _ _ (show n + 1 < 64 by omega)]
  refine Eq.trans ?_ (add_assoc _ _ _).symm
  rfl

end Cert.SbfIdeal.Value
-- ==== Proof.SbfValue.lean ====
module
public import proofs.«01_k».proof.Proof.Gen.SbfIdeal.Value
public import proofs.«01_k».proof.Proof.SbfFirst
public import Idealize.ShloMosaic.Lib.Pipeline.ValueKit
public import Idealize.ShloMosaic.Lib.Pipeline.ReadBack
@[expose] public section
set_option maxRecDepth 16384
noncomputable section
namespace Cert.SbfIdeal.Value
open Idealize.ShloMosaic Idealize.ShloMosaic.TcCoe Idealize.SL.Sem
open Idealize.ShloMosaic.Pipeline (Dat)
open Cert.SbfIdeal Cert.SbfIdeal.Gen
variable (m : (ℓ : Loc nD τ sig) → Buf (Elt Ideal) ℓ)

/-- The block of each array at a grid point, and the tile of queries of the point. -/
theorem idx : ∀ t : Fin cfg0.N, win0_0.index t = ![t.val % 32, 18 + t.val / 32] ∧ win0_1.index t = ![0, 22 + t.val / 32] ∧ win0_2.index t = ![0, 26 + t.val / 32]
    ∧ win0_3.index t = ![0, 0] ∧ win0_4.index t = ![t.val % 32, t.val / 32] ∧ win0_5.index t = ![t.val % 32, t.val / 32] ∧ (grid0.coords t 1).val = t.val % 32 :=
  (by decide +kernel : ∀ t : Fin grid0.N, _)

/-- The rows of the argument. -/
abbrev rows (c : Dev nD) : Stick.Rows := m ((c : Thread nD τ).loc main_arg0)

theorem tile_lt (t : Fin cfg0.N) : t.val / 32 < 4 := by have := lt_of_lt_of_eq t.isLt N_0; omega

theorem queries (c : Dev nD) (t : Fin cfg0.N) : Qs (rows m c) (t.val / 32) (512 * (grid0.coords t 1).val) (iblk m c 0 t) := fun r k => by
  have hN := lt_of_lt_of_eq t.isLt N_0
  obtain ⟨-, -, -, -, -, -, e⟩ := idx t
  rw [e]
  refine Eq.trans (b := rows m c (ix2 ⟨512 * (t.val % 32) + r.val, by omega⟩ ⟨128 * (18 + t.val / 32) + k.val, by omega⟩)) ?_ (Stick.cell_eq _ _ _ _ rfl ?_)
  · blk_point [iblk, V, idx t]
  · show 128 * (18 + t.val / 32) + k.val = _
    omega

theorem keys_blk (c : Dev nD) (t : Fin cfg0.N) (j : Fin 16384) (k : Fin 128) :
    iblk m c 1 t (ix2 j k) = Stick.cell (rows m c) j.val (2816 + 128 * (t.val / 32) + k.val) := by
  have hN := lt_of_lt_of_eq t.isLt N_0
  refine Eq.trans (b := rows m c (ix2 j ⟨128 * (22 + t.val / 32) + k.val, by omega⟩)) ?_ (Stick.cell_eq _ _ _ _ rfl ?_)
  · blk_point [iblk, V, idx t]
  · show 128 * (22 + t.val / 32) + k.val = _
    omega

theorem keys (c : Dev nD) (t : Fin cfg0.N) (j : Fin 16384) (k : Fin 128) :
    (ms0_1 t).view.read (Elt Ideal) ((hs0_1 t).unread (iblk m c 1 t)) (ix2 j k) = Stick.cell (rows m c) j.val (2816 + 128 * (t.val / 32) + k.val) :=
  (congrFun (Memref.IsWhole.read_unread _ _) _).trans (keys_blk m c t j k)

/-- A load of 256 rows of the keys of a head. -/
theorem load_keys (c : Dev nD) (t : Fin cfg0.N) (off : Fin 2 → ℕ) (inb) (n : ℕ) (ho : off = ![256 * n, 0]) :
    Ks (rows m c) (t.val / 32) n (View.ld (iblk m c 1 t) (Rect.unit (s := S16384x128) off ![256, 128] inb)) := fun u k => by
  subst ho
  have hb : 256 * n + 256 ≤ 16384 := inb 0
  refine (View.ld_unit_apply_of _ _ _ _ _ (ix2 ⟨256 * n + u.val, by omega⟩ k) fun a => ?_).trans (keys_blk m c t ⟨256 * n + u.val, by omega⟩ k)
  match a with
  | ⟨0, _⟩ => rfl
  | ⟨1, _⟩ => exact (Nat.zero_add _).symm

theorem values_blk (c : Dev nD) (t : Fin cfg0.N) (j : Fin 16384) (k : Fin 128) :
    iblk m c 2 t (ix2 j k) = Stick.cell (rows m c) j.val (3328 + 128 * (t.val / 32) + k.val) := by
  have hN := lt_of_lt_of_eq t.isLt N_0
  refine Eq.trans (b := rows m c (ix2 j ⟨128 * (26 + t.val / 32) + k.val, by omega⟩)) ?_ (Stick.cell_eq _ _ _ _ rfl ?_)
  · blk_point [iblk, V, idx t]
  · show 128 * (26 + t.val / 32) + k.val = _
    omega

theorem values (c : Dev nD) (t : Fin cfg0.N) (j : Fin 16384) (k : Fin 128) :
    (ms0_2 t).view.read (Elt Ideal) ((hs0_2 t).unread (iblk m c 2 t)) (ix2 j k) = Stick.cell (rows m c) j.val (3328 + 128 * (t.val / 32) + k.val) :=
  (congrFun (Memref.IsWhole.read_unread _ _) _).trans (values_blk m c t j k)

/-- A load of 256 rows of the values of a head. -/
theorem load_values (c : Dev nD) (t : Fin cfg0.N) (off : Fin 2 → ℕ) (inb) (n : ℕ) (ho : off = ![256 * n, 0]) :
    Vs (rows m c) (t.val / 32) n (View.ld (iblk m c 2 t) (Rect.unit (s := S16384x128) off ![256, 128] inb)) := fun u k => by
  subst ho
  have hb : 256 * n + 256 ≤ 16384 := inb 0
  refine (View.ld_unit_apply_of _ _ _ _ _ (ix2 ⟨256 * n + u.val, by omega⟩ k) fun a => ?_).trans (values_blk m c t ⟨256 * n + u.val, by omega⟩ k)
  match a with
  | ⟨0, _⟩ => rfl
  | ⟨1, _⟩ => exact (Nat.zero_add _).symm

theorem triangle (c : Dev nD) (t : Fin cfg0.N) : Ts (iblk m c 3 t) := fun u' u => by
  have e : iblk m c 3 t (ix2 u' u) = V m c main_v4 (ix2 u' u) := by blk_point [iblk, idx t]
  rw [e]
  entry_read
  pointwise
  show ((((BitVec.ofBool (BitVec.slt (BitVec.ofNat 32 u.val) (BitVec.ofNat 32 u'.val))).toNat : ℝ) : EReal)) = _
  rw [Stick.lt_word _ _ (by omega) (by omega), Stick.bit_word]
  rfl

/-- The trips past the walk: none. -/
theorem trips2 : ∀ i : grid0.Coords, (k0_t2_loop i).trips = 0 := by decide +kernel

theorem none_after (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (q : Vec Ideal S512x128 .bf16) (T : FVec Ideal S256x256 .bf16) (v102 : BitVec 32) (v112 : BitVec 32) (v137 : BitVec 32) (X3 : BufTy.Contents (Elt Ideal) arg3.view.ty) (X4 : BufTy.Contents (Elt Ideal) arg4.view.ty)
    (G8 : BufTy.Contents (Elt Ideal) arg8.view.ty) (G9 : BufTy.Contents (Elt Ideal) arg9.view.ty) (n : ℕ) (hn : n = 0) :
    pb_k0_t2 (F := Ideal) 𝒱 c bd i arg2 harg2 arg3 harg3 arg4 harg4 arg5 harg5 arg6 harg6 arg7 harg7 arg8 harg8 arg9 harg9 q T v102 v112 v137 X3 X4 G8 G9 n = ([], []) := by
  subst hn; rfl

/-- What is read of a buffer after the walk. -/
theorem read_after {sp : Space} (v : View sig .tc sp S512x128 .f32) (L2 L1 L : List (View.Piece (Elt Ideal) S512x128 .f32)) (h2 : L2 = []) :
    View.readCov (Val := Elt Ideal) v (L2 ++ (L1 ++ L)) all.toLoadRect = View.readAt (Elt Ideal) v all.toLoadRect (v.writes (Elt Ideal) (v.writes (Elt Ideal) (v.junk (Val := Elt Ideal)) L) L1) := by
  subst h2
  rw [List.nil_append]
  unfold View.readCov
  rw [View.writes_append]

theorem stored_A (c : Dev nD) (t : Fin cfg0.N) (h0 : ¬ t.val % 2 = 1) :
    As (rows m c) (t.val / 32) (512 * (grid0.coords t 1).val) 0 (outsAt0 m c t.val t.isLt).1
    ∧ Cs (rows m c) (t.val / 32) (512 * (grid0.coords t 1).val) 0 (outsAt0 m c t.val t.isLt).2 := by
  have hN := lt_of_lt_of_eq t.isLt N_0
  have hq := queries m c t
  have hT := triangle m c t
  have hT' : Ts (k0_pay54 (F := Ideal) (iblk m c 3 t)) := by
    rw [show k0_pay54 (F := Ideal) (iblk m c 3 t) = iblk m c 3 t from shapeCast_self _ _]; exact hT
  have hk := keys m c t
  have hv := values m c t
  have e : (grid0.coords t 1).val = t.val % 32 := (idx t).2.2.2.2.2.2
  have hi : (grid0.coords t 1).val < 32 := by omega
  have k1 := load_keys m c t _ (k0_off1_inb (grid0.coords t) 1) _ (off1 (grid0.coords t) 1)
  have k0 := load_keys m c t _ (k0_off1_inb (grid0.coords t) 0) _ (off1 (grid0.coords t) 0)
  have v1 := load_values m c t _ (k0_off1_inb (grid0.coords t) 1) _ (off1 (grid0.coords t) 1)
  have v0 := load_values m c t _ (k0_off1_inb (grid0.coords t) 0) _ (off1 (grid0.coords t) 0)
  have fc := first_tot (grid0.coords t) rfl hq k1 k0
  have fa := first_out (grid0.coords t) rfl hT hq k1 k0 v1 v0
  have hb : 2 * (grid0.coords t 1).val = 4 * ((grid0.coords t 1).val / 2) := by omega
  have hz : 4 * ((grid0.coords t 1).val / 2 - (k0_t1_loop (grid0.coords t)).trips) = 0 := by rw [trips]; omega
  rw [outsAt0_A m c t h0, ← hz]
  constructor
  · intro r l
    frame_out
    refine (congrFun (read_after _ _ _ _ (congrArg Prod.fst (none_after _ _ _ _ _ _ _ _ _ _ _ _ _ _ _ _ _ _ _ _ _ _ _ _ _ _ _ _ _ _ (trips2 (grid0.coords t))))) (ix2 r l)).trans ?_
    refine (walk (x := rows m c) (h := t.val / 32) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (k0_pay54 (iblk m c 3 t)) _ _ ((hs0_1 t).unread (iblk m c 1 t)) ((hs0_2 t).unread (iblk m c 2 t)) _ _ rfl hi hq hT' hk hv ?_ ?_ (k0_t1_loop (grid0.coords t)).trips le_rfl).1 r l
    · rw [readAt_stored]; exact hb ▸ fa
    · rw [readAt_stored]; exact hb ▸ fc
  · intro r l
    frame_out
    refine (congrFun (read_after _ _ _ _ (congrArg Prod.snd (none_after _ _ _ _ _ _ _ _ _ _ _ _ _ _ _ _ _ _ _ _ _ _ _ _ _ _ _ _ _ _ (trips2 (grid0.coords t))))) (ix2 r l)).trans ?_
    refine (walk (x := rows m c) (h := t.val / 32) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (k0_pay54 (iblk m c 3 t)) _ _ ((hs0_1 t).unread (iblk m c 1 t)) ((hs0_2 t).unread (iblk m c 2 t)) _ _ rfl hi hq hT' hk hv ?_ ?_ (k0_t1_loop (grid0.coords t)).trips le_rfl).2 r l
    · rw [readAt_stored]; exact hb ▸ fa
    · rw [readAt_stored]; exact hb ▸ fc

theorem stored_B (c : Dev nD) (t : Fin cfg0.N) (h0 : t.val % 2 = 1) :
    As (rows m c) (t.val / 32) (512 * (grid0.coords t 1).val) 0 (outsAt0 m c t.val t.isLt).1
    ∧ Cs (rows m c) (t.val / 32) (512 * (grid0.coords t 1).val) 0 (outsAt0 m c t.val t.isLt).2 := by
  have hN := lt_of_lt_of_eq t.isLt N_0
  have hq := queries m c t
  have hT := triangle m c t
  have hT' : Ts (k0_pay54 (F := Ideal) (iblk m c 3 t)) := by
    rw [show k0_pay54 (F := Ideal) (iblk m c 3 t) = iblk m c 3 t from shapeCast_self _ _]; exact hT
  have hk := keys m c t
  have hv := values m c t
  have e : (grid0.coords t 1).val = t.val % 32 := (idx t).2.2.2.2.2.2
  have hi : (grid0.coords t 1).val < 32 := by omega
  have k1 := load_keys m c t _ (k0_off1_inb (grid0.coords t) 1) _ (off1 (grid0.coords t) 1)
  have k0 := load_keys m c t _ (k0_off1_inb (grid0.coords t) 0) _ (off1 (grid0.coords t) 0)
  have v1 := load_values m c t _ (k0_off1_inb (grid0.coords t) 1) _ (off1 (grid0.coords t) 1)
  have v0 := load_values m c t _ (k0_off1_inb (grid0.coords t) 0) _ (off1 (grid0.coords t) 0)
  have fc := first_tot (grid0.coords t) rfl hq k1 k0
  have fa := first_out (grid0.coords t) rfl hT hq k1 k0 v1 v0
  have hc : k0_cond1 (grid0.coords t) = 1#1 := (hcond0_0 t).mpr h0
  obtain ⟨n, hn⟩ : ∃ n, 2 * (grid0.coords t 1).val = n + 1 + 1 := ⟨2 * (grid0.coords t 1).val - 2, by omega⟩
  have hb : n = 4 * ((grid0.coords t 1).val / 2) := by omega
  have o0 : k0_off2 (grid0.coords t) 0#32 = ![256 * (n + 1), 0] := (off2 (grid0.coords t) hc 0).trans (by
    rw [show 2 * (grid0.coords t 1).val - 1 - (0 : Fin 2).val = n + 1 from by show 2 * (grid0.coords t 1).val - 1 - 0 = _; omega])
  have o1 : k0_off2 (grid0.coords t) 1#32 = ![256 * n, 0] := (off2 (grid0.coords t) hc 1).trans (by
    rw [show 2 * (grid0.coords t 1).val - 1 - (1 : Fin 2).val = n from by show 2 * (grid0.coords t 1).val - 1 - 1 = _; omega])
  have k3 := load_keys m c t _ (k0_off2_inb (grid0.coords t) hc 0) _ o0
  have k2 := load_keys m c t _ (k0_off2_inb (grid0.coords t) hc 1) _ o1
  have v3 := load_values m c t _ (k0_off2_inb (grid0.coords t) hc 0) _ o0
  have v2 := load_values m c t _ (k0_off2_inb (grid0.coords t) hc 1) _ o1
  have oc := odd_tot (by omega) (by omega) hq k3 k2 (hn ▸ fc)
  have oa := odd_out (by omega) (by omega) hT' hq k3 k2 v3 v2 (hn ▸ fc) (hn ▸ fa)
  have hz : 4 * ((grid0.coords t 1).val / 2 - (k0_t1_loop (grid0.coords t)).trips) = 0 := by rw [trips]; omega
  rw [outsAt0_B m c t h0, ← hz]
  constructor
  · intro r l
    frame_out
    refine (congrFun (read_after _ _ _ _ (congrArg Prod.fst (none_after _ _ _ _ _ _ _ _ _ _ _ _ _ _ _ _ _ _ _ _ _ _ _ _ _ _ _ _ _ _ (trips2 (grid0.coords t))))) (ix2 r l)).trans ?_
    refine (walk (x := rows m c) (h := t.val / 32) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (k0_pay54 (iblk m c 3 t)) _ _ ((hs0_1 t).unread (iblk m c 1 t)) ((hs0_2 t).unread (iblk m c 2 t)) _ _ rfl hi hq hT' hk hv ?_ ?_ (k0_t1_loop (grid0.coords t)).trips le_rfl).1 r l
    · rw [readAt_stored]; exact hb ▸ oa
    · rw [readAt_stored]; exact hb ▸ oc
  · intro r l
    frame_out
    refine (congrFun (read_after _ _ _ _ (congrArg Prod.snd (none_after _ _ _ _ _ _ _ _ _ _ _ _ _ _ _ _ _ _ _ _ _ _ _ _ _ _ _ _ _ _ (trips2 (grid0.coords t))))) (ix2 r l)).trans ?_
    refine (walk (x := rows m c) (h := t.val / 32) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (k0_pay54 (iblk m c 3 t)) _ _ ((hs0_1 t).unread (iblk m c 1 t)) ((hs0_2 t).unread (iblk m c 2 t)) _ _ rfl hi hq hT' hk hv ?_ ?_ (k0_t1_loop (grid0.coords t)).trips le_rfl).2 r l
    · rw [readAt_stored]; exact hb ▸ oa
    · rw [readAt_stored]; exact hb ▸ oc

end Cert.SbfIdeal.Value
-- ==== Proof.SbfEnd.lean ====
module
public import proofs.«01_k».proof.Proof.SbfValue
@[expose] public section
set_option maxRecDepth 16384
noncomputable section
namespace Cert.SbfIdeal.Value
open Idealize.ShloMosaic Idealize.ShloMosaic.TcCoe Idealize.SL.Sem
open Idealize.ShloMosaic.Pipeline (Dat)
open Cert.SbfIdeal Cert.SbfIdeal.Gen
open Cert.SbfRefIdeal.Read
variable (m : (ℓ : Loc nD τ sig) → Buf (Elt Ideal) ℓ)

/-- What a point leaves in its two blocks. -/
theorem stored (c : Dev nD) (t : Fin cfg0.N) :
    As (rows m c) (t.val / 32) (512 * (grid0.coords t 1).val) 0 (outsAt0 m c t.val t.isLt).1
    ∧ Cs (rows m c) (t.val / 32) (512 * (grid0.coords t 1).val) 0 (outsAt0 m c t.val t.isLt).2 := by
  by_cases h : t.val % 2 = 1
  · exact stored_B m c t h
  · exact stored_A m c t h

/-- The first result ends as the reference's weighted values. -/
theorem output (c : Dev nD) : (dats m 0 c).arrAt 4 cfg0.N = val_main_v29 (F := Ideal) (rows m c) := by
  refine (dats m 0 c).arrAt_eq_of_covers 4 _ (by decide +kernel) fun t hf y => ?_
  have hN := lt_of_lt_of_eq t.isLt N_0
  have y0 : (y 0).val < 512 := (y 0).isLt
  have y1 : (y 1).val < 128 := (y 1).isLt
  have e : (grid0.coords t 1).val = t.val % 32 := (idx t).2.2.2.2.2.2
  have hx : win0_4.index t = ![t.val % 32, t.val / 32] := (idx t).2.2.2.2.1
  have hs := (stored m c t).1 (y 0) (y 1)
  rw [e] at hs
  blk_simp
  rw [after0_4, show y = ix2 (y 0) (y 1) from funext fun a => by match a with | ⟨0, _⟩ => rfl | ⟨1, _⟩ => rfl]
  refine hs.trans (Stick.ref_out (rows m c) ⟨512 * (t.val % 32) + (y 0).val, by omega⟩ ⟨t.val / 32, by omega⟩ (y 1) _ ?_ ?_).symm
  · blk_simp
    rw [hx]
    show t.val % 32 * 512 + (y 0).val = 512 * (t.val % 32) + (y 0).val
    omega
  · blk_simp
    rw [hx]
    show t.val / 32 * 128 + (y 1).val = 128 * (t.val / 32) + (y 1).val
    omega

/-- The second result ends as the reference's sum of losses. -/
theorem total (c : Dev nD) : (dats m 0 c).arrAt 5 cfg0.N = val_main_v34 (F := Ideal) (rows m c) := by
  refine (dats m 0 c).arrAt_eq_of_covers 5 _ (by decide +kernel) fun t hf y => ?_
  have hN := lt_of_lt_of_eq t.isLt N_0
  have y0 : (y 0).val < 512 := (y 0).isLt
  have y1 : (y 1).val < 128 := (y 1).isLt
  have e : (grid0.coords t 1).val = t.val % 32 := (idx t).2.2.2.2.2.2
  have hx : win0_5.index t = ![t.val % 32, t.val / 32] := (idx t).2.2.2.2.2.1
  have hs := (stored m c t).2 (y 0) (y 1)
  rw [e] at hs
  blk_simp
  rw [after0_5, show y = ix2 (y 0) (y 1) from funext fun a => by match a with | ⟨0, _⟩ => rfl | ⟨1, _⟩ => rfl]
  refine hs.trans (Stick.ref_total (rows m c) ⟨512 * (t.val % 32) + (y 0).val, by omega⟩ ⟨t.val / 32, by omega⟩ (y 1) _ ?_ ?_).symm
  · blk_simp
    rw [hx]
    show t.val % 32 * 512 + (y 0).val = 512 * (t.val % 32) + (y 0).val
    omega
  · blk_simp
    rw [hx]
    show t.val / 32 * 128 + (y 1).val = 128 * (t.val / 32) + (y 1).val
    omega

end Cert.SbfIdeal.Value
-- ==== Proof.SbfClaim.lean ====
module
public import proofs.«01_k».proof.Defs
public import proofs.«01_k».proof.Proof.Gen.SbfIdeal.Value
public import proofs.«01_k».proof.Proof.Gen.SbfRefIdeal.Run
public import proofs.«01_k».proof.Proof.Gen.SbfRefIdeal.Read
public import proofs.«01_k».proof.Proof.SbfEnd
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_SbfRefIdeal : Cert.quiescent_SbfRefIdeal (hSbfRefIdeal := Cert.SbfRefIdeal.Gen.facts) := by
  exact fun m g _ => (θ_run _ _ _).mono
    (fun r h => ⟨fun c => (h c).2.2, sem_eq_zero_of_no_sems (by decide) r.2⟩) (Cert.SbfRefIdeal.Value.run (F := Ideal) m g)

/-- The named constant is its own expression. -/
theorem preserves_Sbf : Cert.preserves_Sbf_SbfIdeal :=
  IdealRules.named_const.statement Cert.SbfIdeal.κ "scale2" .f32 0xBE0293EE#32 _ rfl

/-- The kernel's two results are the reference's. -/
theorem value_Sbf : Cert.algebraic_SbfIdeal_SbfRefIdeal (hSbfIdeal := Cert.SbfIdeal.Gen.facts) (hSbfRefIdeal := Cert.SbfRefIdeal.Gen.facts) := by
  intro m g m' g' _ hm
  refine ⟨fun c => Cert.SbfRefIdeal.Read.val_main_v29 (F := Ideal) (m ((c : Thread Cert.SbfIdeal.nD Cert.SbfIdeal.τ).loc Cert.SbfIdeal.main_arg0)),
    fun c => Cert.SbfRefIdeal.Read.val_main_v34 (F := Ideal) (m ((c : Thread Cert.SbfIdeal.nD Cert.SbfIdeal.τ).loc Cert.SbfIdeal.main_arg0)),
    (θ_run _ _ _).mono (fun r h c => ⟨((h c).1).trans (Cert.SbfIdeal.Value.output m c), ((h c).2.1).trans (Cert.SbfIdeal.Value.total m c), (h c).2.2⟩) (Cert.SbfIdeal.Value.run_blocks (F := Ideal) m g),
    (θ_run _ _ _).mono (fun r h c => ?_) (Cert.SbfRefIdeal.Value.run (F := Ideal) m' g')⟩
  have e0 := hm c
  exact ⟨(((h c).1).trans (Cert.SbfRefIdeal.Read.val_main_v29_eq (F := Ideal) m' c)).trans (by rw [e0]),
    (((h c).2.1).trans (Cert.SbfRefIdeal.Read.val_main_v34_eq (F := Ideal) m' c)).trans (by rw [e0]), (h c).2.2⟩

end Cert.Proof
end
-- ==== Proof.AdRelValue.lean ====
module
public import proofs.«01_k».proof.Proof.Gen.AdRelIdeal.Value
public import proofs.«01_k».proof.Proof.Gen.AdRelRefIdeal.Read
public import Idealize.ShloMosaic.Lib.Pipeline.ValueKit
public import Idealize.ShloMosaic.Lib.Pipeline.ReadBack
@[expose] public section
set_option maxRecDepth 16384
noncomputable section
namespace Cert.AdRelIdeal.Value
open Idealize.ShloMosaic Idealize.ShloMosaic.TcCoe Idealize.SL.Sem
open Idealize.ShloMosaic.Pipeline (Dat)
open Cert.AdRelIdeal Cert.AdRelIdeal.Gen
open Cert.AdRelRefIdeal.Read
variable (m : (ℓ : Loc nD τ sig) → Buf (Elt Ideal) ℓ)

/-- The block of each array at a grid point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- Output 4 ends as the change of the weight. -/
theorem step4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 5 ends as the first moment. -/
theorem step5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 6 ends as the second moment. -/
theorem step6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

end Cert.AdRelIdeal.Value
end
-- ==== Proof.AdRelClaim.lean ====
module
public import proofs.«01_k».proof.Defs
public import proofs.«01_k».proof.Proof.Gen.AdRelIdeal.Value
public import proofs.«01_k».proof.Proof.Gen.AdRelRefIdeal.Run
public import proofs.«01_k».proof.Proof.Gen.AdRelRefIdeal.Read
public import proofs.«01_k».proof.Proof.AdRelValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_AdRelRefIdeal : Cert.quiescent_AdRelRefIdeal (hAdRelRefIdeal := Cert.AdRelRefIdeal.Gen.facts) := by
  exact fun m g _ => (θ_run _ _ _).mono
    (fun r h => ⟨fun c => (h c).2.2.2, sem_eq_zero_of_no_sems (by decide) r.2⟩) (Cert.AdRelRefIdeal.Value.run (F := Ideal) m g)

/-- The step of the optimiser is that of the reference. -/
theorem value_AdRel : Cert.algebraic_AdRelIdeal_AdRelRefIdeal (hAdRelIdeal := Cert.AdRelIdeal.Gen.facts) (hAdRelRefIdeal := Cert.AdRelRefIdeal.Gen.facts) := by
  intro m g m' g' _ hm
  refine ⟨fun c => Cert.AdRelRefIdeal.Read.val_main_v23 (F := Ideal) (m ((c : Thread Cert.AdRelIdeal.nD Cert.AdRelIdeal.τ).loc Cert.AdRelIdeal.main_arg0)) (m ((c : Thread Cert.AdRelIdeal.nD Cert.AdRelIdeal.τ).loc Cert.AdRelIdeal.main_arg1)) (m ((c : Thread Cert.AdRelIdeal.nD Cert.AdRelIdeal.τ).loc Cert.AdRelIdeal.main_arg2)) (m ((c : Thread Cert.AdRelIdeal.nD Cert.AdRelIdeal.τ).loc Cert.AdRelIdeal.main_arg3)), fun c => Cert.AdRelRefIdeal.Read.val_main_v4 (F := Ideal) (m ((c : Thread Cert.AdRelIdeal.nD Cert.AdRelIdeal.τ).loc Cert.AdRelIdeal.main_arg1)) (m ((c : Thread Cert.AdRelIdeal.nD Cert.AdRelIdeal.τ).loc Cert.AdRelIdeal.main_arg2)), fun c => Cert.AdRelRefIdeal.Read.val_main_v10 (F := Ideal) (m ((c : Thread Cert.AdRelIdeal.nD Cert.AdRelIdeal.τ).loc Cert.AdRelIdeal.main_arg1)) (m ((c : Thread Cert.AdRelIdeal.nD Cert.AdRelIdeal.τ).loc Cert.AdRelIdeal.main_arg3)),
    (θ_run _ _ _).mono (fun r h c => ⟨((h c).1).trans (Cert.AdRelIdeal.Value.step4 m c), ((h c).2.1).trans (Cert.AdRelIdeal.Value.step5 m c), ((h c).2.2.1).trans (Cert.AdRelIdeal.Value.step6 m c), (h c).2.2.2⟩) (Cert.AdRelIdeal.Value.run_blocks (F := Ideal) m g),
    (θ_run _ _ _).mono (fun r h c => ?_) (Cert.AdRelRefIdeal.Value.run (F := Ideal) m' g')⟩
  obtain ⟨e0, e1, e2, e3⟩ := hm c
  exact ⟨(((h c).1).trans (Cert.AdRelRefIdeal.Read.val_main_v23_eq (F := Ideal) _ _ _ _)).trans (by rw [e0, e1, e2, e3]),
    (((h c).2.1).trans (Cert.AdRelRefIdeal.Read.val_main_v4_eq (F := Ideal) _ _)).trans (by rw [e1, e2]),
    (((h c).2.2.1).trans (Cert.AdRelRefIdeal.Read.val_main_v10_eq (F := Ideal) _ _)).trans (by rw [e1, e3]),
    (h c).2.2.2⟩

end Cert.Proof
end
-- ==== Proof.AdNormValue.lean ====
module
public import proofs.«01_k».proof.Proof.Gen.AdNormIdeal.Value
public import proofs.«01_k».proof.Proof.Gen.AdNormRefIdeal.Read
public import Idealize.ShloMosaic.Lib.Pipeline.ValueKit
public import Idealize.ShloMosaic.Lib.Pipeline.ReadBack
@[expose] public section
set_option maxRecDepth 16384
noncomputable section
namespace Cert.AdNormIdeal.Value
open Idealize.ShloMosaic Idealize.ShloMosaic.TcCoe Idealize.SL.Sem
open Idealize.ShloMosaic.Pipeline (Dat)
open Cert.AdNormIdeal Cert.AdNormIdeal.Gen
open Cert.AdNormRefIdeal.Read
variable (m : (ℓ : Loc nD τ sig) → Buf (Elt Ideal) ℓ)

/-- The block of each array at a grid point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- Output 4 ends as the change of the weight. -/
theorem step4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 5 ends as the first moment. -/
theorem step5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 6 ends as the second moment. -/
theorem step6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

end Cert.AdNormIdeal.Value
end
-- ==== Proof.AdNormClaim.lean ====
module
public import proofs.«01_k».proof.Defs
public import proofs.«01_k».proof.Proof.Gen.AdNormIdeal.Value
public import proofs.«01_k».proof.Proof.Gen.AdNormRefIdeal.Run
public import proofs.«01_k».proof.Proof.Gen.AdNormRefIdeal.Read
public import proofs.«01_k».proof.Proof.AdNormValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_AdNormRefIdeal : Cert.quiescent_AdNormRefIdeal (hAdNormRefIdeal := Cert.AdNormRefIdeal.Gen.facts) := by
  exact fun m g _ => (θ_run _ _ _).mono
    (fun r h => ⟨fun c => (h c).2.2.2, sem_eq_zero_of_no_sems (by decide) r.2⟩) (Cert.AdNormRefIdeal.Value.run (F := Ideal) m g)

/-- The step of the optimiser is that of the reference. -/
theorem value_AdNorm : Cert.algebraic_AdNormIdeal_AdNormRefIdeal (hAdNormIdeal := Cert.AdNormIdeal.Gen.facts) (hAdNormRefIdeal := Cert.AdNormRefIdeal.Gen.facts) := by
  intro m g m' g' _ hm
  refine ⟨fun c => Cert.AdNormRefIdeal.Read.val_main_v23 (F := Ideal) (m ((c : Thread Cert.AdNormIdeal.nD Cert.AdNormIdeal.τ).loc Cert.AdNormIdeal.main_arg0)) (m ((c : Thread Cert.AdNormIdeal.nD Cert.AdNormIdeal.τ).loc Cert.AdNormIdeal.main_arg1)) (m ((c : Thread Cert.AdNormIdeal.nD Cert.AdNormIdeal.τ).loc Cert.AdNormIdeal.main_arg2)) (m ((c : Thread Cert.AdNormIdeal.nD Cert.AdNormIdeal.τ).loc Cert.AdNormIdeal.main_arg3)), fun c => Cert.AdNormRefIdeal.Read.val_main_v4 (F := Ideal) (m ((c : Thread Cert.AdNormIdeal.nD Cert.AdNormIdeal.τ).loc Cert.AdNormIdeal.main_arg1)) (m ((c : Thread Cert.AdNormIdeal.nD Cert.AdNormIdeal.τ).loc Cert.AdNormIdeal.main_arg2)), fun c => Cert.AdNormRefIdeal.Read.val_main_v10 (F := Ideal) (m ((c : Thread Cert.AdNormIdeal.nD Cert.AdNormIdeal.τ).loc Cert.AdNormIdeal.main_arg1)) (m ((c : Thread Cert.AdNormIdeal.nD Cert.AdNormIdeal.τ).loc Cert.AdNormIdeal.main_arg3)),
    (θ_run _ _ _).mono (fun r h c => ⟨((h c).1).trans (Cert.AdNormIdeal.Value.step4 m c), ((h c).2.1).trans (Cert.AdNormIdeal.Value.step5 m c), ((h c).2.2.1).trans (Cert.AdNormIdeal.Value.step6 m c), (h c).2.2.2⟩) (Cert.AdNormIdeal.Value.run_blocks (F := Ideal) m g),
    (θ_run _ _ _).mono (fun r h c => ?_) (Cert.AdNormRefIdeal.Value.run (F := Ideal) m' g')⟩
  obtain ⟨e0, e1, e2, e3⟩ := hm c
  exact ⟨(((h c).1).trans (Cert.AdNormRefIdeal.Read.val_main_v23_eq (F := Ideal) _ _ _ _)).trans (by rw [e0, e1, e2, e3]),
    (((h c).2.1).trans (Cert.AdNormRefIdeal.Read.val_main_v4_eq (F := Ideal) _ _)).trans (by rw [e1, e2]),
    (((h c).2.2.1).trans (Cert.AdNormRefIdeal.Read.val_main_v10_eq (F := Ideal) _ _)).trans (by rw [e1, e3]),
    (h c).2.2.2⟩

end Cert.Proof
end
-- ==== Proof.AdInValue.lean ====
module
public import proofs.«01_k».proof.Proof.Gen.AdInIdeal.Value
public import proofs.«01_k».proof.Proof.Gen.AdInRefIdeal.Read
public import Idealize.ShloMosaic.Lib.Pipeline.ValueKit
public import Idealize.ShloMosaic.Lib.Pipeline.ReadBack
@[expose] public section
set_option maxRecDepth 16384
noncomputable section
namespace Cert.AdInIdeal.Value
open Idealize.ShloMosaic Idealize.ShloMosaic.TcCoe Idealize.SL.Sem
open Idealize.ShloMosaic.Pipeline (Dat)
open Cert.AdInIdeal Cert.AdInIdeal.Gen
open Cert.AdInRefIdeal.Read
variable (m : (ℓ : Loc nD τ sig) → Buf (Elt Ideal) ℓ)

/-- The block of each array at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- Output 4 ends as the change of the weight. -/
theorem step4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 5 ends as the first moment. -/
theorem step5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 6 ends as the second moment. -/
theorem step6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

end Cert.AdInIdeal.Value
end
-- ==== Proof.AdInClaim.lean ====
module
public import proofs.«01_k».proof.Defs
public import proofs.«01_k».proof.Proof.Gen.AdInIdeal.Value
public import proofs.«01_k».proof.Proof.Gen.AdInRefIdeal.Run
public import proofs.«01_k».proof.Proof.Gen.AdInRefIdeal.Read
public import proofs.«01_k».proof.Proof.AdInValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_AdInRefIdeal : Cert.quiescent_AdInRefIdeal (hAdInRefIdeal := Cert.AdInRefIdeal.Gen.facts) := by
  exact fun m g _ => (θ_run _ _ _).mono
    (fun r h => ⟨fun c => (h c).2.2.2, sem_eq_zero_of_no_sems (by decide) r.2⟩) (Cert.AdInRefIdeal.Value.run (F := Ideal) m g)

/-- The step of the optimiser is that of the reference. -/
theorem value_AdIn : Cert.algebraic_AdInIdeal_AdInRefIdeal (hAdInIdeal := Cert.AdInIdeal.Gen.facts) (hAdInRefIdeal := Cert.AdInRefIdeal.Gen.facts) := by
  intro m g m' g' _ hm
  refine ⟨fun c => Cert.AdInRefIdeal.Read.val_main_v23 (F := Ideal) (m ((c : Thread Cert.AdInIdeal.nD Cert.AdInIdeal.τ).loc Cert.AdInIdeal.main_arg0)) (m ((c : Thread Cert.AdInIdeal.nD Cert.AdInIdeal.τ).loc Cert.AdInIdeal.main_arg1)) (m ((c : Thread Cert.AdInIdeal.nD Cert.AdInIdeal.τ).loc Cert.AdInIdeal.main_arg2)) (m ((c : Thread Cert.AdInIdeal.nD Cert.AdInIdeal.τ).loc Cert.AdInIdeal.main_arg3)), fun c => Cert.AdInRefIdeal.Read.val_main_v4 (F := Ideal) (m ((c : Thread Cert.AdInIdeal.nD Cert.AdInIdeal.τ).loc Cert.AdInIdeal.main_arg1)) (m ((c : Thread Cert.AdInIdeal.nD Cert.AdInIdeal.τ).loc Cert.AdInIdeal.main_arg2)), fun c => Cert.AdInRefIdeal.Read.val_main_v10 (F := Ideal) (m ((c : Thread Cert.AdInIdeal.nD Cert.AdInIdeal.τ).loc Cert.AdInIdeal.main_arg1)) (m ((c : Thread Cert.AdInIdeal.nD Cert.AdInIdeal.τ).loc Cert.AdInIdeal.main_arg3)),
    (θ_run _ _ _).mono (fun r h c => ⟨((h c).1).trans (Cert.AdInIdeal.Value.step4 m c), ((h c).2.1).trans (Cert.AdInIdeal.Value.step5 m c), ((h c).2.2.1).trans (Cert.AdInIdeal.Value.step6 m c), (h c).2.2.2⟩) (Cert.AdInIdeal.Value.run_blocks (F := Ideal) m g),
    (θ_run _ _ _).mono (fun r h c => ?_) (Cert.AdInRefIdeal.Value.run (F := Ideal) m' g')⟩
  obtain ⟨e0, e1, e2, e3⟩ := hm c
  exact ⟨(((h c).1).trans (Cert.AdInRefIdeal.Read.val_main_v23_eq (F := Ideal) _ _ _ _)).trans (by rw [e0, e1, e2, e3]),
    (((h c).2.1).trans (Cert.AdInRefIdeal.Read.val_main_v4_eq (F := Ideal) _ _)).trans (by rw [e1, e2]),
    (((h c).2.2.1).trans (Cert.AdInRefIdeal.Read.val_main_v10_eq (F := Ideal) _ _)).trans (by rw [e1, e3]),
    (h c).2.2.2⟩

end Cert.Proof
end
-- ==== Proof.AdGateValue.lean ====
module
public import proofs.«01_k».proof.Proof.Gen.AdGateIdeal.Value
public import proofs.«01_k».proof.Proof.Gen.AdGateRefIdeal.Read
public import Idealize.ShloMosaic.Lib.Pipeline.ValueKit
public import Idealize.ShloMosaic.Lib.Pipeline.ReadBack
@[expose] public section
set_option maxRecDepth 16384
noncomputable section
namespace Cert.AdGateIdeal.Value
open Idealize.ShloMosaic Idealize.ShloMosaic.TcCoe Idealize.SL.Sem
open Idealize.ShloMosaic.Pipeline (Dat)
open Cert.AdGateIdeal Cert.AdGateIdeal.Gen
open Cert.AdGateRefIdeal.Read
variable (m : (ℓ : Loc nD τ sig) → Buf (Elt Ideal) ℓ)

/-- The block of each array at a grid point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- Output 4 ends as the change of the weight. -/
theorem step4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 5 ends as the first moment. -/
theorem step5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 6 ends as the second moment. -/
theorem step6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

end Cert.AdGateIdeal.Value
end
-- ==== Proof.AdGateClaim.lean ====
module
public import proofs.«01_k».proof.Defs
public import proofs.«01_k».proof.Proof.Gen.AdGateIdeal.Value
public import proofs.«01_k».proof.Proof.Gen.AdGateRefIdeal.Run
public import proofs.«01_k».proof.Proof.Gen.AdGateRefIdeal.Read
public import proofs.«01_k».proof.Proof.AdGateValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_AdGateRefIdeal : Cert.quiescent_AdGateRefIdeal (hAdGateRefIdeal := Cert.AdGateRefIdeal.Gen.facts) := by
  exact fun m g _ => (θ_run _ _ _).mono
    (fun r h => ⟨fun c => (h c).2.2.2, sem_eq_zero_of_no_sems (by decide) r.2⟩) (Cert.AdGateRefIdeal.Value.run (F := Ideal) m g)

/-- The step of the optimiser is that of the reference. -/
theorem value_AdGate : Cert.algebraic_AdGateIdeal_AdGateRefIdeal (hAdGateIdeal := Cert.AdGateIdeal.Gen.facts) (hAdGateRefIdeal := Cert.AdGateRefIdeal.Gen.facts) := by
  intro m g m' g' _ hm
  refine ⟨fun c => Cert.AdGateRefIdeal.Read.val_main_v23 (F := Ideal) (m ((c : Thread Cert.AdGateIdeal.nD Cert.AdGateIdeal.τ).loc Cert.AdGateIdeal.main_arg0)) (m ((c : Thread Cert.AdGateIdeal.nD Cert.AdGateIdeal.τ).loc Cert.AdGateIdeal.main_arg1)) (m ((c : Thread Cert.AdGateIdeal.nD Cert.AdGateIdeal.τ).loc Cert.AdGateIdeal.main_arg2)) (m ((c : Thread Cert.AdGateIdeal.nD Cert.AdGateIdeal.τ).loc Cert.AdGateIdeal.main_arg3)), fun c => Cert.AdGateRefIdeal.Read.val_main_v4 (F := Ideal) (m ((c : Thread Cert.AdGateIdeal.nD Cert.AdGateIdeal.τ).loc Cert.AdGateIdeal.main_arg1)) (m ((c : Thread Cert.AdGateIdeal.nD Cert.AdGateIdeal.τ).loc Cert.AdGateIdeal.main_arg2)), fun c => Cert.AdGateRefIdeal.Read.val_main_v10 (F := Ideal) (m ((c : Thread Cert.AdGateIdeal.nD Cert.AdGateIdeal.τ).loc Cert.AdGateIdeal.main_arg1)) (m ((c : Thread Cert.AdGateIdeal.nD Cert.AdGateIdeal.τ).loc Cert.AdGateIdeal.main_arg3)),
    (θ_run _ _ _).mono (fun r h c => ⟨((h c).1).trans (Cert.AdGateIdeal.Value.step4 m c), ((h c).2.1).trans (Cert.AdGateIdeal.Value.step5 m c), ((h c).2.2.1).trans (Cert.AdGateIdeal.Value.step6 m c), (h c).2.2.2⟩) (Cert.AdGateIdeal.Value.run_blocks (F := Ideal) m g),
    (θ_run _ _ _).mono (fun r h c => ?_) (Cert.AdGateRefIdeal.Value.run (F := Ideal) m' g')⟩
  obtain ⟨e0, e1, e2, e3⟩ := hm c
  exact ⟨(((h c).1).trans (Cert.AdGateRefIdeal.Read.val_main_v23_eq (F := Ideal) _ _ _ _)).trans (by rw [e0, e1, e2, e3]),
    (((h c).2.1).trans (Cert.AdGateRefIdeal.Read.val_main_v4_eq (F := Ideal) _ _)).trans (by rw [e1, e2]),
    (((h c).2.2.1).trans (Cert.AdGateRefIdeal.Read.val_main_v10_eq (F := Ideal) _ _)).trans (by rw [e1, e3]),
    (h c).2.2.2⟩

end Cert.Proof
end
-- ==== Proof.AdRetValue.lean ====
module
public import proofs.«01_k».proof.Proof.Gen.AdRetIdeal.Value
public import proofs.«01_k».proof.Proof.Gen.AdRetRefIdeal.Read
public import Idealize.ShloMosaic.Lib.Pipeline.ValueKit
public import Idealize.ShloMosaic.Lib.Pipeline.ReadBack
@[expose] public section
set_option maxRecDepth 16384
noncomputable section
namespace Cert.AdRetIdeal.Value
open Idealize.ShloMosaic Idealize.ShloMosaic.TcCoe Idealize.SL.Sem
open Idealize.ShloMosaic.Pipeline (Dat)
open Cert.AdRetIdeal Cert.AdRetIdeal.Gen
open Cert.AdRetRefIdeal.Read
variable (m : (ℓ : Loc nD τ sig) → Buf (Elt Ideal) ℓ)

/-- The block of each array at a grid point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- Output 4 ends as the change of the weight. -/
theorem step4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 5 ends as the first moment. -/
theorem step5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 6 ends as the second moment. -/
theorem step6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

end Cert.AdRetIdeal.Value
end
-- ==== Proof.AdRetClaim.lean ====
module
public import proofs.«01_k».proof.Defs
public import proofs.«01_k».proof.Proof.Gen.AdRetIdeal.Value
public import proofs.«01_k».proof.Proof.Gen.AdRetRefIdeal.Run
public import proofs.«01_k».proof.Proof.Gen.AdRetRefIdeal.Read
public import proofs.«01_k».proof.Proof.AdRetValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_AdRetRefIdeal : Cert.quiescent_AdRetRefIdeal (hAdRetRefIdeal := Cert.AdRetRefIdeal.Gen.facts) := by
  exact fun m g _ => (θ_run _ _ _).mono
    (fun r h => ⟨fun c => (h c).2.2.2, sem_eq_zero_of_no_sems (by decide) r.2⟩) (Cert.AdRetRefIdeal.Value.run (F := Ideal) m g)

/-- The step of the optimiser is that of the reference. -/
theorem value_AdRet : Cert.algebraic_AdRetIdeal_AdRetRefIdeal (hAdRetIdeal := Cert.AdRetIdeal.Gen.facts) (hAdRetRefIdeal := Cert.AdRetRefIdeal.Gen.facts) := by
  intro m g m' g' _ hm
  refine ⟨fun c => Cert.AdRetRefIdeal.Read.val_main_v23 (F := Ideal) (m ((c : Thread Cert.AdRetIdeal.nD Cert.AdRetIdeal.τ).loc Cert.AdRetIdeal.main_arg0)) (m ((c : Thread Cert.AdRetIdeal.nD Cert.AdRetIdeal.τ).loc Cert.AdRetIdeal.main_arg1)) (m ((c : Thread Cert.AdRetIdeal.nD Cert.AdRetIdeal.τ).loc Cert.AdRetIdeal.main_arg2)) (m ((c : Thread Cert.AdRetIdeal.nD Cert.AdRetIdeal.τ).loc Cert.AdRetIdeal.main_arg3)), fun c => Cert.AdRetRefIdeal.Read.val_main_v4 (F := Ideal) (m ((c : Thread Cert.AdRetIdeal.nD Cert.AdRetIdeal.τ).loc Cert.AdRetIdeal.main_arg1)) (m ((c : Thread Cert.AdRetIdeal.nD Cert.AdRetIdeal.τ).loc Cert.AdRetIdeal.main_arg2)), fun c => Cert.AdRetRefIdeal.Read.val_main_v10 (F := Ideal) (m ((c : Thread Cert.AdRetIdeal.nD Cert.AdRetIdeal.τ).loc Cert.AdRetIdeal.main_arg1)) (m ((c : Thread Cert.AdRetIdeal.nD Cert.AdRetIdeal.τ).loc Cert.AdRetIdeal.main_arg3)),
    (θ_run _ _ _).mono (fun r h c => ⟨((h c).1).trans (Cert.AdRetIdeal.Value.step4 m c), ((h c).2.1).trans (Cert.AdRetIdeal.Value.step5 m c), ((h c).2.2.1).trans (Cert.AdRetIdeal.Value.step6 m c), (h c).2.2.2⟩) (Cert.AdRetIdeal.Value.run_blocks (F := Ideal) m g),
    (θ_run _ _ _).mono (fun r h c => ?_) (Cert.AdRetRefIdeal.Value.run (F := Ideal) m' g')⟩
  obtain ⟨e0, e1, e2, e3⟩ := hm c
  exact ⟨(((h c).1).trans (Cert.AdRetRefIdeal.Read.val_main_v23_eq (F := Ideal) _ _ _ _)).trans (by rw [e0, e1, e2, e3]),
    (((h c).2.1).trans (Cert.AdRetRefIdeal.Read.val_main_v4_eq (F := Ideal) _ _)).trans (by rw [e1, e2]),
    (((h c).2.2.1).trans (Cert.AdRetRefIdeal.Read.val_main_v10_eq (F := Ideal) _ _)).trans (by rw [e1, e3]),
    (h c).2.2.2⟩

end Cert.Proof
end
-- ==== Proof.AdDilValue.lean ====
module
public import proofs.«01_k».proof.Proof.Gen.AdDilIdeal.Value
public import proofs.«01_k».proof.Proof.Gen.AdDilRefIdeal.Read
public import Idealize.ShloMosaic.Lib.Pipeline.ValueKit
public import Idealize.ShloMosaic.Lib.Pipeline.ReadBack
@[expose] public section
set_option maxRecDepth 16384
noncomputable section
namespace Cert.AdDilIdeal.Value
open Idealize.ShloMosaic Idealize.ShloMosaic.TcCoe Idealize.SL.Sem
open Idealize.ShloMosaic.Pipeline (Dat)
open Cert.AdDilIdeal Cert.AdDilIdeal.Gen
open Cert.AdDilRefIdeal.Read
variable (m : (ℓ : Loc nD τ sig) → Buf (Elt Ideal) ℓ)

/-- The block of each array at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- Output 4 ends as the change of the weight. -/
theorem step4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 5 ends as the first moment. -/
theorem step5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 6 ends as the second moment. -/
theorem step6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

end Cert.AdDilIdeal.Value
end
-- ==== Proof.AdDilClaim.lean ====
module
public import proofs.«01_k».proof.Defs
public import proofs.«01_k».proof.Proof.Gen.AdDilIdeal.Value
public import proofs.«01_k».proof.Proof.Gen.AdDilRefIdeal.Run
public import proofs.«01_k».proof.Proof.Gen.AdDilRefIdeal.Read
public import proofs.«01_k».proof.Proof.AdDilValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_AdDilRefIdeal : Cert.quiescent_AdDilRefIdeal (hAdDilRefIdeal := Cert.AdDilRefIdeal.Gen.facts) := by
  exact fun m g _ => (θ_run _ _ _).mono
    (fun r h => ⟨fun c => (h c).2.2.2, sem_eq_zero_of_no_sems (by decide) r.2⟩) (Cert.AdDilRefIdeal.Value.run (F := Ideal) m g)

/-- The step of the optimiser is that of the reference. -/
theorem value_AdDil : Cert.algebraic_AdDilIdeal_AdDilRefIdeal (hAdDilIdeal := Cert.AdDilIdeal.Gen.facts) (hAdDilRefIdeal := Cert.AdDilRefIdeal.Gen.facts) := by
  intro m g m' g' _ hm
  refine ⟨fun c => Cert.AdDilRefIdeal.Read.val_main_v23 (F := Ideal) (m ((c : Thread Cert.AdDilIdeal.nD Cert.AdDilIdeal.τ).loc Cert.AdDilIdeal.main_arg0)) (m ((c : Thread Cert.AdDilIdeal.nD Cert.AdDilIdeal.τ).loc Cert.AdDilIdeal.main_arg1)) (m ((c : Thread Cert.AdDilIdeal.nD Cert.AdDilIdeal.τ).loc Cert.AdDilIdeal.main_arg2)) (m ((c : Thread Cert.AdDilIdeal.nD Cert.AdDilIdeal.τ).loc Cert.AdDilIdeal.main_arg3)), fun c => Cert.AdDilRefIdeal.Read.val_main_v4 (F := Ideal) (m ((c : Thread Cert.AdDilIdeal.nD Cert.AdDilIdeal.τ).loc Cert.AdDilIdeal.main_arg1)) (m ((c : Thread Cert.AdDilIdeal.nD Cert.AdDilIdeal.τ).loc Cert.AdDilIdeal.main_arg2)), fun c => Cert.AdDilRefIdeal.Read.val_main_v10 (F := Ideal) (m ((c : Thread Cert.AdDilIdeal.nD Cert.AdDilIdeal.τ).loc Cert.AdDilIdeal.main_arg1)) (m ((c : Thread Cert.AdDilIdeal.nD Cert.AdDilIdeal.τ).loc Cert.AdDilIdeal.main_arg3)),
    (θ_run _ _ _).mono (fun r h c => ⟨((h c).1).trans (Cert.AdDilIdeal.Value.step4 m c), ((h c).2.1).trans (Cert.AdDilIdeal.Value.step5 m c), ((h c).2.2.1).trans (Cert.AdDilIdeal.Value.step6 m c), (h c).2.2.2⟩) (Cert.AdDilIdeal.Value.run_blocks (F := Ideal) m g),
    (θ_run _ _ _).mono (fun r h c => ?_) (Cert.AdDilRefIdeal.Value.run (F := Ideal) m' g')⟩
  obtain ⟨e0, e1, e2, e3⟩ := hm c
  exact ⟨(((h c).1).trans (Cert.AdDilRefIdeal.Read.val_main_v23_eq (F := Ideal) _ _ _ _)).trans (by rw [e0, e1, e2, e3]),
    (((h c).2.1).trans (Cert.AdDilRefIdeal.Read.val_main_v4_eq (F := Ideal) _ _)).trans (by rw [e1, e2]),
    (((h c).2.2.1).trans (Cert.AdDilRefIdeal.Read.val_main_v10_eq (F := Ideal) _ _)).trans (by rw [e1, e3]),
    (h c).2.2.2⟩

end Cert.Proof
end
-- ==== Proof.AdMixValue.lean ====
module
public import proofs.«01_k».proof.Proof.Gen.AdMixIdeal.Value
public import proofs.«01_k».proof.Proof.Gen.AdMixRefIdeal.Read
public import Idealize.ShloMosaic.Lib.Pipeline.ValueKit
public import Idealize.ShloMosaic.Lib.Pipeline.ReadBack
@[expose] public section
set_option maxRecDepth 16384
noncomputable section
namespace Cert.AdMixIdeal.Value
open Idealize.ShloMosaic Idealize.ShloMosaic.TcCoe Idealize.SL.Sem
open Idealize.ShloMosaic.Pipeline (Dat)
open Cert.AdMixIdeal Cert.AdMixIdeal.Gen
open Cert.AdMixRefIdeal.Read
variable (m : (ℓ : Loc nD τ sig) → Buf (Elt Ideal) ℓ)

/-- The block of each array at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- Output 4 ends as the change of the weight. -/
theorem step4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 5 ends as the first moment. -/
theorem step5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 6 ends as the second moment. -/
theorem step6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

end Cert.AdMixIdeal.Value
end
-- ==== Proof.AdMixClaim.lean ====
module
public import proofs.«01_k».proof.Defs
public import proofs.«01_k».proof.Proof.Gen.AdMixIdeal.Value
public import proofs.«01_k».proof.Proof.Gen.AdMixRefIdeal.Run
public import proofs.«01_k».proof.Proof.Gen.AdMixRefIdeal.Read
public import proofs.«01_k».proof.Proof.AdMixValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_AdMixRefIdeal : Cert.quiescent_AdMixRefIdeal (hAdMixRefIdeal := Cert.AdMixRefIdeal.Gen.facts) := by
  exact fun m g _ => (θ_run _ _ _).mono
    (fun r h => ⟨fun c => (h c).2.2.2, sem_eq_zero_of_no_sems (by decide) r.2⟩) (Cert.AdMixRefIdeal.Value.run (F := Ideal) m g)

/-- The step of the optimiser is that of the reference. -/
theorem value_AdMix : Cert.algebraic_AdMixIdeal_AdMixRefIdeal (hAdMixIdeal := Cert.AdMixIdeal.Gen.facts) (hAdMixRefIdeal := Cert.AdMixRefIdeal.Gen.facts) := by
  intro m g m' g' _ hm
  refine ⟨fun c => Cert.AdMixRefIdeal.Read.val_main_v23 (F := Ideal) (m ((c : Thread Cert.AdMixIdeal.nD Cert.AdMixIdeal.τ).loc Cert.AdMixIdeal.main_arg0)) (m ((c : Thread Cert.AdMixIdeal.nD Cert.AdMixIdeal.τ).loc Cert.AdMixIdeal.main_arg1)) (m ((c : Thread Cert.AdMixIdeal.nD Cert.AdMixIdeal.τ).loc Cert.AdMixIdeal.main_arg2)) (m ((c : Thread Cert.AdMixIdeal.nD Cert.AdMixIdeal.τ).loc Cert.AdMixIdeal.main_arg3)), fun c => Cert.AdMixRefIdeal.Read.val_main_v4 (F := Ideal) (m ((c : Thread Cert.AdMixIdeal.nD Cert.AdMixIdeal.τ).loc Cert.AdMixIdeal.main_arg1)) (m ((c : Thread Cert.AdMixIdeal.nD Cert.AdMixIdeal.τ).loc Cert.AdMixIdeal.main_arg2)), fun c => Cert.AdMixRefIdeal.Read.val_main_v10 (F := Ideal) (m ((c : Thread Cert.AdMixIdeal.nD Cert.AdMixIdeal.τ).loc Cert.AdMixIdeal.main_arg1)) (m ((c : Thread Cert.AdMixIdeal.nD Cert.AdMixIdeal.τ).loc Cert.AdMixIdeal.main_arg3)),
    (θ_run _ _ _).mono (fun r h c => ⟨((h c).1).trans (Cert.AdMixIdeal.Value.step4 m c), ((h c).2.1).trans (Cert.AdMixIdeal.Value.step5 m c), ((h c).2.2.1).trans (Cert.AdMixIdeal.Value.step6 m c), (h c).2.2.2⟩) (Cert.AdMixIdeal.Value.run_blocks (F := Ideal) m g),
    (θ_run _ _ _).mono (fun r h c => ?_) (Cert.AdMixRefIdeal.Value.run (F := Ideal) m' g')⟩
  obtain ⟨e0, e1, e2, e3⟩ := hm c
  exact ⟨(((h c).1).trans (Cert.AdMixRefIdeal.Read.val_main_v23_eq (F := Ideal) _ _ _ _)).trans (by rw [e0, e1, e2, e3]),
    (((h c).2.1).trans (Cert.AdMixRefIdeal.Read.val_main_v4_eq (F := Ideal) _ _)).trans (by rw [e1, e2]),
    (((h c).2.2.1).trans (Cert.AdMixRefIdeal.Read.val_main_v10_eq (F := Ideal) _ _)).trans (by rw [e1, e3]),
    (h c).2.2.2⟩

end Cert.Proof
end
-- ==== Proof.AdOutValue.lean ====
module
public import proofs.«01_k».proof.Proof.Gen.AdOutIdeal.Value
public import proofs.«01_k».proof.Proof.Gen.AdOutRefIdeal.Read
public import Idealize.ShloMosaic.Lib.Pipeline.ValueKit
public import Idealize.ShloMosaic.Lib.Pipeline.ReadBack
@[expose] public section
set_option maxRecDepth 16384
noncomputable section
namespace Cert.AdOutIdeal.Value
open Idealize.ShloMosaic Idealize.ShloMosaic.TcCoe Idealize.SL.Sem
open Idealize.ShloMosaic.Pipeline (Dat)
open Cert.AdOutIdeal Cert.AdOutIdeal.Gen
open Cert.AdOutRefIdeal.Read
variable (m : (ℓ : Loc nD τ sig) → Buf (Elt Ideal) ℓ)

/-- The block of each array at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- Output 4 ends as the change of the weight. -/
theorem step4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 5 ends as the first moment. -/
theorem step5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 6 ends as the second moment. -/
theorem step6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

end Cert.AdOutIdeal.Value
end
-- ==== Proof.AdOutClaim.lean ====
module
public import proofs.«01_k».proof.Defs
public import proofs.«01_k».proof.Proof.Gen.AdOutIdeal.Value
public import proofs.«01_k».proof.Proof.Gen.AdOutRefIdeal.Run
public import proofs.«01_k».proof.Proof.Gen.AdOutRefIdeal.Read
public import proofs.«01_k».proof.Proof.AdOutValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_AdOutRefIdeal : Cert.quiescent_AdOutRefIdeal (hAdOutRefIdeal := Cert.AdOutRefIdeal.Gen.facts) := by
  exact fun m g _ => (θ_run _ _ _).mono
    (fun r h => ⟨fun c => (h c).2.2.2, sem_eq_zero_of_no_sems (by decide) r.2⟩) (Cert.AdOutRefIdeal.Value.run (F := Ideal) m g)

/-- The step of the optimiser is that of the reference. -/
theorem value_AdOut : Cert.algebraic_AdOutIdeal_AdOutRefIdeal (hAdOutIdeal := Cert.AdOutIdeal.Gen.facts) (hAdOutRefIdeal := Cert.AdOutRefIdeal.Gen.facts) := by
  intro m g m' g' _ hm
  refine ⟨fun c => Cert.AdOutRefIdeal.Read.val_main_v23 (F := Ideal) (m ((c : Thread Cert.AdOutIdeal.nD Cert.AdOutIdeal.τ).loc Cert.AdOutIdeal.main_arg0)) (m ((c : Thread Cert.AdOutIdeal.nD Cert.AdOutIdeal.τ).loc Cert.AdOutIdeal.main_arg1)) (m ((c : Thread Cert.AdOutIdeal.nD Cert.AdOutIdeal.τ).loc Cert.AdOutIdeal.main_arg2)) (m ((c : Thread Cert.AdOutIdeal.nD Cert.AdOutIdeal.τ).loc Cert.AdOutIdeal.main_arg3)), fun c => Cert.AdOutRefIdeal.Read.val_main_v4 (F := Ideal) (m ((c : Thread Cert.AdOutIdeal.nD Cert.AdOutIdeal.τ).loc Cert.AdOutIdeal.main_arg1)) (m ((c : Thread Cert.AdOutIdeal.nD Cert.AdOutIdeal.τ).loc Cert.AdOutIdeal.main_arg2)), fun c => Cert.AdOutRefIdeal.Read.val_main_v10 (F := Ideal) (m ((c : Thread Cert.AdOutIdeal.nD Cert.AdOutIdeal.τ).loc Cert.AdOutIdeal.main_arg1)) (m ((c : Thread Cert.AdOutIdeal.nD Cert.AdOutIdeal.τ).loc Cert.AdOutIdeal.main_arg3)),
    (θ_run _ _ _).mono (fun r h c => ⟨((h c).1).trans (Cert.AdOutIdeal.Value.step4 m c), ((h c).2.1).trans (Cert.AdOutIdeal.Value.step5 m c), ((h c).2.2.1).trans (Cert.AdOutIdeal.Value.step6 m c), (h c).2.2.2⟩) (Cert.AdOutIdeal.Value.run_blocks (F := Ideal) m g),
    (θ_run _ _ _).mono (fun r h c => ?_) (Cert.AdOutRefIdeal.Value.run (F := Ideal) m' g')⟩
  obtain ⟨e0, e1, e2, e3⟩ := hm c
  exact ⟨(((h c).1).trans (Cert.AdOutRefIdeal.Read.val_main_v23_eq (F := Ideal) _ _ _ _)).trans (by rw [e0, e1, e2, e3]),
    (((h c).2.1).trans (Cert.AdOutRefIdeal.Read.val_main_v4_eq (F := Ideal) _ _)).trans (by rw [e1, e2]),
    (((h c).2.2.1).trans (Cert.AdOutRefIdeal.Read.val_main_v10_eq (F := Ideal) _ _)).trans (by rw [e1, e3]),
    (h c).2.2.2⟩

end Cert.Proof
end
-- ==== Proof.AdUpValue.lean ====
module
public import proofs.«01_k».proof.Proof.Gen.AdUpIdeal.Value
public import proofs.«01_k».proof.Proof.Gen.AdUpRefIdeal.Read
public import Idealize.ShloMosaic.Lib.Pipeline.ValueKit
public import Idealize.ShloMosaic.Lib.Pipeline.ReadBack
@[expose] public section
set_option maxRecDepth 16384
noncomputable section
namespace Cert.AdUpIdeal.Value
open Idealize.ShloMosaic Idealize.ShloMosaic.TcCoe Idealize.SL.Sem
open Idealize.ShloMosaic.Pipeline (Dat)
open Cert.AdUpIdeal Cert.AdUpIdeal.Gen
open Cert.AdUpRefIdeal.Read
variable (m : (ℓ : Loc nD τ sig) → Buf (Elt Ideal) ℓ)

/-- The block of each array at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- Output 4 ends as the change of the weight. -/
theorem step4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 5 ends as the first moment. -/
theorem step5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 6 ends as the second moment. -/
theorem step6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

end Cert.AdUpIdeal.Value
end
-- ==== Proof.AdUpClaim.lean ====
module
public import proofs.«01_k».proof.Defs
public import proofs.«01_k».proof.Proof.Gen.AdUpIdeal.Value
public import proofs.«01_k».proof.Proof.Gen.AdUpRefIdeal.Run
public import proofs.«01_k».proof.Proof.Gen.AdUpRefIdeal.Read
public import proofs.«01_k».proof.Proof.AdUpValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_AdUpRefIdeal : Cert.quiescent_AdUpRefIdeal (hAdUpRefIdeal := Cert.AdUpRefIdeal.Gen.facts) := by
  exact fun m g _ => (θ_run _ _ _).mono
    (fun r h => ⟨fun c => (h c).2.2.2, sem_eq_zero_of_no_sems (by decide) r.2⟩) (Cert.AdUpRefIdeal.Value.run (F := Ideal) m g)

/-- The step of the optimiser is that of the reference. -/
theorem value_AdUp : Cert.algebraic_AdUpIdeal_AdUpRefIdeal (hAdUpIdeal := Cert.AdUpIdeal.Gen.facts) (hAdUpRefIdeal := Cert.AdUpRefIdeal.Gen.facts) := by
  intro m g m' g' _ hm
  refine ⟨fun c => Cert.AdUpRefIdeal.Read.val_main_v23 (F := Ideal) (m ((c : Thread Cert.AdUpIdeal.nD Cert.AdUpIdeal.τ).loc Cert.AdUpIdeal.main_arg0)) (m ((c : Thread Cert.AdUpIdeal.nD Cert.AdUpIdeal.τ).loc Cert.AdUpIdeal.main_arg1)) (m ((c : Thread Cert.AdUpIdeal.nD Cert.AdUpIdeal.τ).loc Cert.AdUpIdeal.main_arg2)) (m ((c : Thread Cert.AdUpIdeal.nD Cert.AdUpIdeal.τ).loc Cert.AdUpIdeal.main_arg3)), fun c => Cert.AdUpRefIdeal.Read.val_main_v4 (F := Ideal) (m ((c : Thread Cert.AdUpIdeal.nD Cert.AdUpIdeal.τ).loc Cert.AdUpIdeal.main_arg1)) (m ((c : Thread Cert.AdUpIdeal.nD Cert.AdUpIdeal.τ).loc Cert.AdUpIdeal.main_arg2)), fun c => Cert.AdUpRefIdeal.Read.val_main_v10 (F := Ideal) (m ((c : Thread Cert.AdUpIdeal.nD Cert.AdUpIdeal.τ).loc Cert.AdUpIdeal.main_arg1)) (m ((c : Thread Cert.AdUpIdeal.nD Cert.AdUpIdeal.τ).loc Cert.AdUpIdeal.main_arg3)),
    (θ_run _ _ _).mono (fun r h c => ⟨((h c).1).trans (Cert.AdUpIdeal.Value.step4 m c), ((h c).2.1).trans (Cert.AdUpIdeal.Value.step5 m c), ((h c).2.2.1).trans (Cert.AdUpIdeal.Value.step6 m c), (h c).2.2.2⟩) (Cert.AdUpIdeal.Value.run_blocks (F := Ideal) m g),
    (θ_run _ _ _).mono (fun r h c => ?_) (Cert.AdUpRefIdeal.Value.run (F := Ideal) m' g')⟩
  obtain ⟨e0, e1, e2, e3⟩ := hm c
  exact ⟨(((h c).1).trans (Cert.AdUpRefIdeal.Read.val_main_v23_eq (F := Ideal) _ _ _ _)).trans (by rw [e0, e1, e2, e3]),
    (((h c).2.1).trans (Cert.AdUpRefIdeal.Read.val_main_v4_eq (F := Ideal) _ _)).trans (by rw [e1, e2]),
    (((h c).2.2.1).trans (Cert.AdUpRefIdeal.Read.val_main_v10_eq (F := Ideal) _ _)).trans (by rw [e1, e3]),
    (h c).2.2.2⟩

end Cert.Proof
end
-- ==== Proof.AdTapsValue.lean ====
module
public import proofs.«01_k».proof.Proof.Gen.AdTapsIdeal.Value
public import proofs.«01_k».proof.Proof.Gen.AdTapsRefIdeal.Read
public import Idealize.ShloMosaic.Lib.Pipeline.ValueKit
public import Idealize.ShloMosaic.Lib.Pipeline.ReadBack
@[expose] public section
set_option maxRecDepth 16384
noncomputable section
namespace Cert.AdTapsIdeal.Value
open Idealize.ShloMosaic Idealize.ShloMosaic.TcCoe Idealize.SL.Sem
open Idealize.ShloMosaic.Pipeline (Dat)
open Cert.AdTapsIdeal Cert.AdTapsIdeal.Gen
open Cert.AdTapsRefIdeal.Read
variable (m : (ℓ : Loc nD τ sig) → Buf (Elt Ideal) ℓ)

/-- The block of each array at a grid point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- Output 4 ends as the change of the weight. -/
theorem step4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 5 ends as the first moment. -/
theorem step5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 6 ends as the second moment. -/
theorem step6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

end Cert.AdTapsIdeal.Value
end
-- ==== Proof.AdTapsClaim.lean ====
module
public import proofs.«01_k».proof.Defs
public import proofs.«01_k».proof.Proof.Gen.AdTapsIdeal.Value
public import proofs.«01_k».proof.Proof.Gen.AdTapsRefIdeal.Run
public import proofs.«01_k».proof.Proof.Gen.AdTapsRefIdeal.Read
public import proofs.«01_k».proof.Proof.AdTapsValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_AdTapsRefIdeal : Cert.quiescent_AdTapsRefIdeal (hAdTapsRefIdeal := Cert.AdTapsRefIdeal.Gen.facts) := by
  exact fun m g _ => (θ_run _ _ _).mono
    (fun r h => ⟨fun c => (h c).2.2.2, sem_eq_zero_of_no_sems (by decide) r.2⟩) (Cert.AdTapsRefIdeal.Value.run (F := Ideal) m g)

/-- The step of the optimiser is that of the reference. -/
theorem value_AdTaps : Cert.algebraic_AdTapsIdeal_AdTapsRefIdeal (hAdTapsIdeal := Cert.AdTapsIdeal.Gen.facts) (hAdTapsRefIdeal := Cert.AdTapsRefIdeal.Gen.facts) := by
  intro m g m' g' _ hm
  refine ⟨fun c => Cert.AdTapsRefIdeal.Read.val_main_v23 (F := Ideal) (m ((c : Thread Cert.AdTapsIdeal.nD Cert.AdTapsIdeal.τ).loc Cert.AdTapsIdeal.main_arg0)) (m ((c : Thread Cert.AdTapsIdeal.nD Cert.AdTapsIdeal.τ).loc Cert.AdTapsIdeal.main_arg1)) (m ((c : Thread Cert.AdTapsIdeal.nD Cert.AdTapsIdeal.τ).loc Cert.AdTapsIdeal.main_arg2)) (m ((c : Thread Cert.AdTapsIdeal.nD Cert.AdTapsIdeal.τ).loc Cert.AdTapsIdeal.main_arg3)), fun c => Cert.AdTapsRefIdeal.Read.val_main_v4 (F := Ideal) (m ((c : Thread Cert.AdTapsIdeal.nD Cert.AdTapsIdeal.τ).loc Cert.AdTapsIdeal.main_arg1)) (m ((c : Thread Cert.AdTapsIdeal.nD Cert.AdTapsIdeal.τ).loc Cert.AdTapsIdeal.main_arg2)), fun c => Cert.AdTapsRefIdeal.Read.val_main_v10 (F := Ideal) (m ((c : Thread Cert.AdTapsIdeal.nD Cert.AdTapsIdeal.τ).loc Cert.AdTapsIdeal.main_arg1)) (m ((c : Thread Cert.AdTapsIdeal.nD Cert.AdTapsIdeal.τ).loc Cert.AdTapsIdeal.main_arg3)),
    (θ_run _ _ _).mono (fun r h c => ⟨((h c).1).trans (Cert.AdTapsIdeal.Value.step4 m c), ((h c).2.1).trans (Cert.AdTapsIdeal.Value.step5 m c), ((h c).2.2.1).trans (Cert.AdTapsIdeal.Value.step6 m c), (h c).2.2.2⟩) (Cert.AdTapsIdeal.Value.run_blocks (F := Ideal) m g),
    (θ_run _ _ _).mono (fun r h c => ?_) (Cert.AdTapsRefIdeal.Value.run (F := Ideal) m' g')⟩
  obtain ⟨e0, e1, e2, e3⟩ := hm c
  exact ⟨(((h c).1).trans (Cert.AdTapsRefIdeal.Read.val_main_v23_eq (F := Ideal) _ _ _ _)).trans (by rw [e0, e1, e2, e3]),
    (((h c).2.1).trans (Cert.AdTapsRefIdeal.Read.val_main_v4_eq (F := Ideal) _ _)).trans (by rw [e1, e2]),
    (((h c).2.2.1).trans (Cert.AdTapsRefIdeal.Read.val_main_v10_eq (F := Ideal) _ _)).trans (by rw [e1, e3]),
    (h c).2.2.2⟩

end Cert.Proof
end
-- ==== Proof.AdConvValue.lean ====
module
public import proofs.«01_k».proof.Proof.Gen.AdConvIdeal.Value
public import proofs.«01_k».proof.Proof.Gen.AdConvRefIdeal.Read
public import Idealize.ShloMosaic.Lib.Pipeline.ValueKit
public import Idealize.ShloMosaic.Lib.Pipeline.ReadBack
@[expose] public section
set_option maxRecDepth 16384
noncomputable section
namespace Cert.AdConvIdeal.Value
open Idealize.ShloMosaic Idealize.ShloMosaic.TcCoe Idealize.SL.Sem
open Idealize.ShloMosaic.Pipeline (Dat)
open Cert.AdConvIdeal Cert.AdConvIdeal.Gen
open Cert.AdConvRefIdeal.Read
variable (m : (ℓ : Loc nD τ sig) → Buf (Elt Ideal) ℓ)

/-- The block of each array at a grid point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- Output 4 ends as the change of the weight. -/
theorem step4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 5 ends as the first moment. -/
theorem step5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 6 ends as the second moment. -/
theorem step6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

end Cert.AdConvIdeal.Value
end
-- ==== Proof.AdConvClaim.lean ====
module
public import proofs.«01_k».proof.Defs
public import proofs.«01_k».proof.Proof.Gen.AdConvIdeal.Value
public import proofs.«01_k».proof.Proof.Gen.AdConvRefIdeal.Run
public import proofs.«01_k».proof.Proof.Gen.AdConvRefIdeal.Read
public import proofs.«01_k».proof.Proof.AdConvValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_AdConvRefIdeal : Cert.quiescent_AdConvRefIdeal (hAdConvRefIdeal := Cert.AdConvRefIdeal.Gen.facts) := by
  exact fun m g _ => (θ_run _ _ _).mono
    (fun r h => ⟨fun c => (h c).2.2.2, sem_eq_zero_of_no_sems (by decide) r.2⟩) (Cert.AdConvRefIdeal.Value.run (F := Ideal) m g)

/-- The step of the optimiser is that of the reference. -/
theorem value_AdConv : Cert.algebraic_AdConvIdeal_AdConvRefIdeal (hAdConvIdeal := Cert.AdConvIdeal.Gen.facts) (hAdConvRefIdeal := Cert.AdConvRefIdeal.Gen.facts) := by
  intro m g m' g' _ hm
  refine ⟨fun c => Cert.AdConvRefIdeal.Read.val_main_v23 (F := Ideal) (m ((c : Thread Cert.AdConvIdeal.nD Cert.AdConvIdeal.τ).loc Cert.AdConvIdeal.main_arg0)) (m ((c : Thread Cert.AdConvIdeal.nD Cert.AdConvIdeal.τ).loc Cert.AdConvIdeal.main_arg1)) (m ((c : Thread Cert.AdConvIdeal.nD Cert.AdConvIdeal.τ).loc Cert.AdConvIdeal.main_arg2)) (m ((c : Thread Cert.AdConvIdeal.nD Cert.AdConvIdeal.τ).loc Cert.AdConvIdeal.main_arg3)), fun c => Cert.AdConvRefIdeal.Read.val_main_v4 (F := Ideal) (m ((c : Thread Cert.AdConvIdeal.nD Cert.AdConvIdeal.τ).loc Cert.AdConvIdeal.main_arg1)) (m ((c : Thread Cert.AdConvIdeal.nD Cert.AdConvIdeal.τ).loc Cert.AdConvIdeal.main_arg2)), fun c => Cert.AdConvRefIdeal.Read.val_main_v10 (F := Ideal) (m ((c : Thread Cert.AdConvIdeal.nD Cert.AdConvIdeal.τ).loc Cert.AdConvIdeal.main_arg1)) (m ((c : Thread Cert.AdConvIdeal.nD Cert.AdConvIdeal.τ).loc Cert.AdConvIdeal.main_arg3)),
    (θ_run _ _ _).mono (fun r h c => ⟨((h c).1).trans (Cert.AdConvIdeal.Value.step4 m c), ((h c).2.1).trans (Cert.AdConvIdeal.Value.step5 m c), ((h c).2.2.1).trans (Cert.AdConvIdeal.Value.step6 m c), (h c).2.2.2⟩) (Cert.AdConvIdeal.Value.run_blocks (F := Ideal) m g),
    (θ_run _ _ _).mono (fun r h c => ?_) (Cert.AdConvRefIdeal.Value.run (F := Ideal) m' g')⟩
  obtain ⟨e0, e1, e2, e3⟩ := hm c
  exact ⟨(((h c).1).trans (Cert.AdConvRefIdeal.Read.val_main_v23_eq (F := Ideal) _ _ _ _)).trans (by rw [e0, e1, e2, e3]),
    (((h c).2.1).trans (Cert.AdConvRefIdeal.Read.val_main_v4_eq (F := Ideal) _ _)).trans (by rw [e1, e2]),
    (((h c).2.2.1).trans (Cert.AdConvRefIdeal.Read.val_main_v10_eq (F := Ideal) _ _)).trans (by rw [e1, e3]),
    (h c).2.2.2⟩

end Cert.Proof
end
-- ==== Proof.AdDownValue.lean ====
module
public import proofs.«01_k».proof.Proof.Gen.AdDownIdeal.Value
public import proofs.«01_k».proof.Proof.Gen.AdDownRefIdeal.Read
public import Idealize.ShloMosaic.Lib.Pipeline.ValueKit
public import Idealize.ShloMosaic.Lib.Pipeline.ReadBack
@[expose] public section
set_option maxRecDepth 16384
noncomputable section
namespace Cert.AdDownIdeal.Value
open Idealize.ShloMosaic Idealize.ShloMosaic.TcCoe Idealize.SL.Sem
open Idealize.ShloMosaic.Pipeline (Dat)
open Cert.AdDownIdeal Cert.AdDownIdeal.Gen
open Cert.AdDownRefIdeal.Read
variable (m : (ℓ : Loc nD τ sig) → Buf (Elt Ideal) ℓ)

/-- The block of each array at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- Output 4 ends as the change of the weight. -/
theorem step4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 5 ends as the first moment. -/
theorem step5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 6 ends as the second moment. -/
theorem step6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

end Cert.AdDownIdeal.Value
end
-- ==== Proof.AdDownClaim.lean ====
module
public import proofs.«01_k».proof.Defs
public import proofs.«01_k».proof.Proof.Gen.AdDownIdeal.Value
public import proofs.«01_k».proof.Proof.Gen.AdDownRefIdeal.Run
public import proofs.«01_k».proof.Proof.Gen.AdDownRefIdeal.Read
public import proofs.«01_k».proof.Proof.AdDownValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_AdDownRefIdeal : Cert.quiescent_AdDownRefIdeal (hAdDownRefIdeal := Cert.AdDownRefIdeal.Gen.facts) := by
  exact fun m g _ => (θ_run _ _ _).mono
    (fun r h => ⟨fun c => (h c).2.2.2, sem_eq_zero_of_no_sems (by decide) r.2⟩) (Cert.AdDownRefIdeal.Value.run (F := Ideal) m g)

/-- The step of the optimiser is that of the reference. -/
theorem value_AdDown : Cert.algebraic_AdDownIdeal_AdDownRefIdeal (hAdDownIdeal := Cert.AdDownIdeal.Gen.facts) (hAdDownRefIdeal := Cert.AdDownRefIdeal.Gen.facts) := by
  intro m g m' g' _ hm
  refine ⟨fun c => Cert.AdDownRefIdeal.Read.val_main_v23 (F := Ideal) (m ((c : Thread Cert.AdDownIdeal.nD Cert.AdDownIdeal.τ).loc Cert.AdDownIdeal.main_arg0)) (m ((c : Thread Cert.AdDownIdeal.nD Cert.AdDownIdeal.τ).loc Cert.AdDownIdeal.main_arg1)) (m ((c : Thread Cert.AdDownIdeal.nD Cert.AdDownIdeal.τ).loc Cert.AdDownIdeal.main_arg2)) (m ((c : Thread Cert.AdDownIdeal.nD Cert.AdDownIdeal.τ).loc Cert.AdDownIdeal.main_arg3)), fun c => Cert.AdDownRefIdeal.Read.val_main_v4 (F := Ideal) (m ((c : Thread Cert.AdDownIdeal.nD Cert.AdDownIdeal.τ).loc Cert.AdDownIdeal.main_arg1)) (m ((c : Thread Cert.AdDownIdeal.nD Cert.AdDownIdeal.τ).loc Cert.AdDownIdeal.main_arg2)), fun c => Cert.AdDownRefIdeal.Read.val_main_v10 (F := Ideal) (m ((c : Thread Cert.AdDownIdeal.nD Cert.AdDownIdeal.τ).loc Cert.AdDownIdeal.main_arg1)) (m ((c : Thread Cert.AdDownIdeal.nD Cert.AdDownIdeal.τ).loc Cert.AdDownIdeal.main_arg3)),
    (θ_run _ _ _).mono (fun r h c => ⟨((h c).1).trans (Cert.AdDownIdeal.Value.step4 m c), ((h c).2.1).trans (Cert.AdDownIdeal.Value.step5 m c), ((h c).2.2.1).trans (Cert.AdDownIdeal.Value.step6 m c), (h c).2.2.2⟩) (Cert.AdDownIdeal.Value.run_blocks (F := Ideal) m g),
    (θ_run _ _ _).mono (fun r h c => ?_) (Cert.AdDownRefIdeal.Value.run (F := Ideal) m' g')⟩
  obtain ⟨e0, e1, e2, e3⟩ := hm c
  exact ⟨(((h c).1).trans (Cert.AdDownRefIdeal.Read.val_main_v23_eq (F := Ideal) _ _ _ _)).trans (by rw [e0, e1, e2, e3]),
    (((h c).2.1).trans (Cert.AdDownRefIdeal.Read.val_main_v4_eq (F := Ideal) _ _)).trans (by rw [e1, e2]),
    (((h c).2.2.1).trans (Cert.AdDownRefIdeal.Read.val_main_v10_eq (F := Ideal) _ _)).trans (by rw [e1, e3]),
    (h c).2.2.2⟩

end Cert.Proof
end
-- ==== Proof.AdFinalValue.lean ====
module
public import proofs.«01_k».proof.Proof.Gen.AdFinalIdeal.Value
public import proofs.«01_k».proof.Proof.Gen.AdFinalRefIdeal.Read
public import Idealize.ShloMosaic.Lib.Pipeline.ValueKit
public import Idealize.ShloMosaic.Lib.Pipeline.ReadBack
@[expose] public section
set_option maxRecDepth 16384
noncomputable section
namespace Cert.AdFinalIdeal.Value
open Idealize.ShloMosaic Idealize.ShloMosaic.TcCoe Idealize.SL.Sem
open Idealize.ShloMosaic.Pipeline (Dat)
open Cert.AdFinalIdeal Cert.AdFinalIdeal.Gen
open Cert.AdFinalRefIdeal.Read
variable (m : (ℓ : Loc nD τ sig) → Buf (Elt Ideal) ℓ)

/-- The block of each array at a grid point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- Output 4 ends as the change of the weight. -/
theorem step4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 5 ends as the first moment. -/
theorem step5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

/-- Output 6 ends as the second moment. -/
theorem step6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

end Cert.AdFinalIdeal.Value
end
-- ==== Proof.AdFinalClaim.lean ====
module
public import proofs.«01_k».proof.Defs
public import proofs.«01_k».proof.Proof.Gen.AdFinalIdeal.Value
public import proofs.«01_k».proof.Proof.Gen.AdFinalRefIdeal.Run
public import proofs.«01_k».proof.Proof.Gen.AdFinalRefIdeal.Read
public import proofs.«01_k».proof.Proof.AdFinalValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_AdFinalRefIdeal : Cert.quiescent_AdFinalRefIdeal (hAdFinalRefIdeal := Cert.AdFinalRefIdeal.Gen.facts) := by
  exact fun m g _ => (θ_run _ _ _).mono
    (fun r h => ⟨fun c => (h c).2.2.2, sem_eq_zero_of_no_sems (by decide) r.2⟩) (Cert.AdFinalRefIdeal.Value.run (F := Ideal) m g)

/-- The step of the optimiser is that of the reference. -/
theorem value_AdFinal : Cert.algebraic_AdFinalIdeal_AdFinalRefIdeal (hAdFinalIdeal := Cert.AdFinalIdeal.Gen.facts) (hAdFinalRefIdeal := Cert.AdFinalRefIdeal.Gen.facts) := by
  intro m g m' g' _ hm
  refine ⟨fun c => Cert.AdFinalRefIdeal.Read.val_main_v23 (F := Ideal) (m ((c : Thread Cert.AdFinalIdeal.nD Cert.AdFinalIdeal.τ).loc Cert.AdFinalIdeal.main_arg0)) (m ((c : Thread Cert.AdFinalIdeal.nD Cert.AdFinalIdeal.τ).loc Cert.AdFinalIdeal.main_arg1)) (m ((c : Thread Cert.AdFinalIdeal.nD Cert.AdFinalIdeal.τ).loc Cert.AdFinalIdeal.main_arg2)) (m ((c : Thread Cert.AdFinalIdeal.nD Cert.AdFinalIdeal.τ).loc Cert.AdFinalIdeal.main_arg3)), fun c => Cert.AdFinalRefIdeal.Read.val_main_v4 (F := Ideal) (m ((c : Thread Cert.AdFinalIdeal.nD Cert.AdFinalIdeal.τ).loc Cert.AdFinalIdeal.main_arg1)) (m ((c : Thread Cert.AdFinalIdeal.nD Cert.AdFinalIdeal.τ).loc Cert.AdFinalIdeal.main_arg2)), fun c => Cert.AdFinalRefIdeal.Read.val_main_v10 (F := Ideal) (m ((c : Thread Cert.AdFinalIdeal.nD Cert.AdFinalIdeal.τ).loc Cert.AdFinalIdeal.main_arg1)) (m ((c : Thread Cert.AdFinalIdeal.nD Cert.AdFinalIdeal.τ).loc Cert.AdFinalIdeal.main_arg3)),
    (θ_run _ _ _).mono (fun r h c => ⟨((h c).1).trans (Cert.AdFinalIdeal.Value.step4 m c), ((h c).2.1).trans (Cert.AdFinalIdeal.Value.step5 m c), ((h c).2.2.1).trans (Cert.AdFinalIdeal.Value.step6 m c), (h c).2.2.2⟩) (Cert.AdFinalIdeal.Value.run_blocks (F := Ideal) m g),
    (θ_run _ _ _).mono (fun r h c => ?_) (Cert.AdFinalRefIdeal.Value.run (F := Ideal) m' g')⟩
  obtain ⟨e0, e1, e2, e3⟩ := hm c
  exact ⟨(((h c).1).trans (Cert.AdFinalRefIdeal.Read.val_main_v23_eq (F := Ideal) _ _ _ _)).trans (by rw [e0, e1, e2, e3]),
    (((h c).2.1).trans (Cert.AdFinalRefIdeal.Read.val_main_v4_eq (F := Ideal) _ _)).trans (by rw [e1, e2]),
    (((h c).2.2.1).trans (Cert.AdFinalRefIdeal.Read.val_main_v10_eq (F := Ideal) _ _)).trans (by rw [e1, e3]),
    (h c).2.2.2⟩

end Cert.Proof
end
-- ==== Proof.SumBigValue.lean ====
module
public import proofs.«01_k».proof.Proof.Gen.SumBigIdeal.Value
public import proofs.«01_k».proof.Proof.Gen.SumBigRefIdeal.Read
public import Idealize.ShloMosaic.Lib.Pipeline.ValueKit
public import Idealize.ShloMosaic.Lib.Pipeline.ReadBack
@[expose] public section
set_option maxRecDepth 16384
noncomputable section
namespace Cert.SumBigIdeal.Value
open Idealize.ShloMosaic Idealize.ShloMosaic.TcCoe Idealize.SL.Sem
open Idealize.ShloMosaic.Pipeline (Dat)
open Cert.SumBigIdeal Cert.SumBigIdeal.Gen
open Cert.SumBigRefIdeal.Read
variable (m : (ℓ : Loc nD τ sig) → Buf (Elt Ideal) ℓ)

/-- The block of each array at a grid point. -/
theorem idx : ∀ t : Fin cfg0.N, win0_0.index t = ![0, t.val, 0] ∧ win0_1.index t = ![t.val, 0] :=
  (by decide +kernel : ∀ t : Fin grid0.N, _)

/-- The result ends as the sum over the devices. -/
theorem total (c : Dev nD) : (dats m 0 c).arrAt 1 cfg0.N = val_main_v1 (F := Ideal) (m ((c : Thread nD τ).loc main_arg0)) := by
  refine (dats m 0 c).arrAt_eq_of_covers 1 _ (by decide +kernel) fun t _ y => ?_
  blk_simp
  rw [after0_1]
  frame_out
  unfold_payloads
  pointwise [val_main_v0, val_main_cst, val_main_v1]
  refine Eq.trans (α := EReal) ?_ (Fin.sum_univ_eight (M := EReal) _).symm
  blk_point [iblk, V, idx t]

end Cert.SumBigIdeal.Value
end
-- ==== Proof.SumBigClaim.lean ====
module
public import proofs.«01_k».proof.Defs
public import proofs.«01_k».proof.Proof.Gen.SumBigIdeal.Value
public import proofs.«01_k».proof.Proof.Gen.SumBigRefIdeal.Run
public import proofs.«01_k».proof.Proof.Gen.SumBigRefIdeal.Read
public import proofs.«01_k».proof.Proof.SumBigValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_SumBigRefIdeal : Cert.quiescent_SumBigRefIdeal (hSumBigRefIdeal := Cert.SumBigRefIdeal.Gen.facts) := by
  exact fun m g _ => (θ_run _ _ _).mono
    (fun r h => ⟨fun c => (h c).2, sem_eq_zero_of_no_sems (by decide) r.2⟩) (Cert.SumBigRefIdeal.Value.run (F := Ideal) m g)

/-- The sum over the devices is that of the reference. -/
theorem value_SumBig : Cert.algebraic_SumBigIdeal_SumBigRefIdeal (hSumBigIdeal := Cert.SumBigIdeal.Gen.facts) (hSumBigRefIdeal := Cert.SumBigRefIdeal.Gen.facts) := by
  intro m g m' g' _ hm
  refine ⟨fun c => Cert.SumBigRefIdeal.Read.val_main_v1 (F := Ideal) (m ((c : Thread Cert.SumBigIdeal.nD Cert.SumBigIdeal.τ).loc Cert.SumBigIdeal.main_arg0)),
    (θ_run _ _ _).mono (fun r h c => ⟨((h c).1).trans (Cert.SumBigIdeal.Value.total m c), (h c).2⟩) (Cert.SumBigIdeal.Value.run_blocks (F := Ideal) m g),
    (θ_run _ _ _).mono (fun r h c => ?_) (Cert.SumBigRefIdeal.Value.run (F := Ideal) m' g')⟩
  have e0 := hm c
  exact ⟨(((h c).1).trans (Cert.SumBigRefIdeal.Read.val_main_v1_eq (F := Ideal) _)).trans (by rw [e0]),
    (h c).2⟩

end Cert.Proof
end
-- ==== Proof.SumSmallValue.lean ====
module
public import proofs.«01_k».proof.Proof.Gen.SumSmallIdeal.Value
public import proofs.«01_k».proof.Proof.Gen.SumSmallRefIdeal.Read
public import Idealize.ShloMosaic.Lib.Pipeline.ValueKit
public import Idealize.ShloMosaic.Lib.Pipeline.ReadBack
@[expose] public section
set_option maxRecDepth 16384
noncomputable section
namespace Cert.SumSmallIdeal.Value
open Idealize.ShloMosaic Idealize.ShloMosaic.TcCoe Idealize.SL.Sem
open Idealize.ShloMosaic.Pipeline (Dat)
open Cert.SumSmallIdeal Cert.SumSmallIdeal.Gen
open Cert.SumSmallRefIdeal.Read
variable (m : (ℓ : Loc nD τ sig) → Buf (Elt Ideal) ℓ)

/-- The block of each array at a grid point. -/
theorem idx : ∀ t : Fin cfg0.N, win0_0.index t = ![0, t.val, 0] ∧ win0_1.index t = ![t.val, 0] :=
  (by decide +kernel : ∀ t : Fin grid0.N, _)

/-- The result ends as the sum over the devices. -/
theorem total (c : Dev nD) : (dats m 0 c).arrAt 1 cfg0.N = val_main_v0 (F := Ideal) (m ((c : Thread nD τ).loc main_arg0)) := by
  refine (dats m 0 c).arrAt_eq_of_covers 1 _ (by decide +kernel) fun t _ y => ?_
  blk_simp
  rw [after0_1]
  frame_out
  unfold_payloads
  pointwise [val_main_cst, val_main_v0]
  refine Eq.trans (α := EReal) ?_ (Fin.sum_univ_eight (M := EReal) _).symm
  blk_point [iblk, V, idx t]

end Cert.SumSmallIdeal.Value
end
-- ==== Proof.SumSmallClaim.lean ====
module
public import proofs.«01_k».proof.Defs
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.SumSmallValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_SumSmallRefIdeal : Cert.quiescent_SumSmallRefIdeal (hSumSmallRefIdeal := Cert.SumSmallRefIdeal.Gen.facts) := by
  exact fun m g _ => (θ_run _ _ _).mono
    (fun r h => ⟨fun c => (h c).2, sem_eq_zero_of_no_sems (by decide) r.2⟩) (Cert.SumSmallRefIdeal.Value.run (F := Ideal) m g)

/-- The sum over the devices is that of the reference. -/
theorem value_SumSmall : Cert.algebraic_SumSmallIdeal_SumSmallRefIdeal (hSumSmallIdeal := Cert.SumSmallIdeal.Gen.facts) (hSumSmallRefIdeal := Cert.SumSmallRefIdeal.Gen.facts) := by
  intro m g m' g' _ hm
  refine ⟨fun c => Cert.SumSmallRefIdeal.Read.val_main_v0 (F := Ideal) (m ((c : Thread Cert.SumSmallIdeal.nD Cert.SumSmallIdeal.τ).loc Cert.SumSmallIdeal.main_arg0)),
    (θ_run _ _ _).mono (fun r h c => ⟨((h c).1).trans (Cert.SumSmallIdeal.Value.total m c), (h c).2⟩) (Cert.SumSmallIdeal.Value.run_blocks (F := Ideal) m g),
    (θ_run _ _ _).mono (fun r h c => ?_) (Cert.SumSmallRefIdeal.Value.run (F := Ideal) m' g')⟩
  have e0 := hm c
  exact ⟨(((h c).1).trans (Cert.SumSmallRefIdeal.Read.val_main_v0_eq (F := Ideal) _)).trans (by rw [e0]),
    (h c).2⟩

end Cert.Proof
end
-- ==== Proof.RmsValue.lean ====
module
public import proofs.«01_k».proof.Proof.Gen.RmsIdeal.Value
public import proofs.«01_k».proof.Proof.Gen.RmsRefIdeal.Read
public import Idealize.ShloMosaic.Lib.Pipeline.ValueKit
public import Idealize.ShloMosaic.Lib.Pipeline.ReadBack
@[expose] public section
set_option maxRecDepth 16384
noncomputable section
namespace Cert.RmsIdeal.Value
open Idealize.ShloMosaic Idealize.ShloMosaic.TcCoe Idealize.SL.Sem
open Idealize.ShloMosaic.Pipeline (Dat)
open Cert.RmsIdeal Cert.RmsIdeal.Gen
open Cert.RmsRefIdeal.Read
variable (m : (ℓ : Loc nD τ sig) → Buf (Elt Ideal) ℓ)

/-- The block of each array at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The weight's block is the weight. -/
theorem weight (c : Dev nD) (t : Fin cfg0.N) (k : Fin 1024) : iblk m c 1 t (ix2 0 k) = (m ((c : Thread nD τ).loc main_arg1)) (ix1 k) := by
  have e : iblk m c 1 t (ix2 0 k) = V m c main_v0 (ix2 0 k) := by blk_point [iblk, idx t]
  rw [e]
  entry_read
  pointwise

/-- Output 4 ends as the gradient of the rows. -/
theorem rows (c : Dev nD) : (dats m 0 c).arrAt 4 cfg0.N = val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h0 : t.val % 32 = 0
  · rw [outsAt0_A m c t h0]
    frame_out
    unfold_payloads
    pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_cst_6, val_main_v28, val_main_v29, val_main_cst_7, val_main_v30, val_main_v31, val_main_v32, val_main_v33, val_main_v34, val_main_v35, val_main_v36, val_main_v37]
    simp only [weight]
    blk_point [iblk, V, idx t]
  · rw [outsAt0_B m c t h0]
    frame_out
    unfold_payloads
    pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_cst_6, val_main_v28, val_main_v29, val_main_cst_7, val_main_v30, val_main_v31, val_main_v32, val_main_v33, val_main_v34, val_main_v35, val_main_v36, val_main_v37]
    simp only [weight]
    blk_point [iblk, V, idx t]

/-- The first step starts the sums over the rows at its own rows. -/
theorem weight_first (c : Dev nD) (t : Fin cfg0.N) (h0 : t.val % 32 = 0) (y : S1x1024.Idx) :
    (outsAt0 m c t.val t.isLt).2 y = ∑ r : Fin 512, val_main_v16 (F := Ideal) (m ((c : Thread nD τ).loc main_arg0)) (m ((c : Thread nD τ).loc main_arg2)) (ix2 ⟨512 * t.val + r.val, by have := lt_of_lt_of_eq t.isLt N_0; omega⟩ (y 1)) := by
  have hN : t.val < 32 := lt_of_lt_of_eq t.isLt N_0
  rw [outsAt0_A m c t h0]
  frame_out
  unfold_payloads
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_cst_6, val_main_v28, val_main_v29, val_main_cst_7, val_main_v30, val_main_v31, val_main_v32, val_main_v33, val_main_v34, val_main_v35, val_main_v36, val_main_v37]
  refine Finset.sum_congr rfl fun r _ => ?_
  blk_point [iblk, V, idx t]

/-- A later step adds its own rows to the sums. -/
theorem weight_next (c : Dev nD) (t : Fin cfg0.N) (h0 : ¬ t.val % 32 = 0) (y : S1x1024.Idx) :
    (outsAt0 m c t.val t.isLt).2 y = (outsAt0 m c (t.val - 1) (Nat.lt_of_le_of_lt (Nat.sub_le _ _) t.isLt)).2 y + ∑ r : Fin 512, val_main_v16 (F := Ideal) (m ((c : Thread nD τ).loc main_arg0)) (m ((c : Thread nD τ).loc main_arg2)) (ix2 ⟨512 * t.val + r.val, by have := lt_of_lt_of_eq t.isLt N_0; omega⟩ (y 1)) := by
  have hN : t.val < 32 := lt_of_lt_of_eq t.isLt N_0
  rw [outsAt0_B m c t h0]
  frame_out
  unfold_payloads
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_cst_6, val_main_v28, val_main_v29, val_main_cst_7, val_main_v30, val_main_v31, val_main_v32, val_main_v33, val_main_v34, val_main_v35, val_main_v36, val_main_v37]
  refine congrArg₂ (fun a b : EReal => a + b) (congrArg _ (by blk_ext [idx t])) (Finset.sum_congr rfl fun r _ => ?_)
  blk_point [iblk, V, idx t]

/-- Output 5 ends as the gradient of the weight. -/
theorem weights (c : Dev nD) : (dats m 0 c).arrAt 5 cfg0.N = val_main_v37 (F := Ideal) (m ((c : Thread nD τ).loc main_arg0)) (m ((c : Thread nD τ).loc main_arg2)) := by
  refine (dats m 0 c).arrAt_eq_of_covers 5 _ (by decide +kernel) fun t hf y => ?_
  blk_simp
  rw [after0_5]
  rw [Pipeline.eq_sum_fin_of_reset_step_apply_of_flush (fun n h => (outsAt0 m c n h).2) 32 (fun _ => 0)
    (fun t y => ∑ r : Fin 512, val_main_v16 (F := Ideal) (m ((c : Thread nD τ).loc main_arg0)) (m ((c : Thread nD τ).loc main_arg2)) (ix2 ⟨512 * t.val + r.val, by have := lt_of_lt_of_eq t.isLt N_0; omega⟩ (y 1)))
    (fun t h y => (weight_first m c t h y).trans (zero_add _).symm) (fun t h y => weight_next m c t h y) t ((flush0_5 t).mp hf) y]
  have hq : 32 * (t.val / 32) = 0 := by have := lt_of_lt_of_eq t.isLt N_0; omega
  pointwise [val_main_v37, val_main_v21, val_main_v18, val_main_v17, val_main_cst_3, val_main_cst_4]
  refine Eq.trans (α := EReal) ?_ (Fin.sum_univ_one (M := EReal) _).symm
  refine Fin.sum_mul_add_congr (S := 32) (n := 512) (fun s k hl => ?_)
  refine congrArg (val_main_v16 (F := Ideal) (m ((c : Thread nD τ).loc main_arg0)) (m ((c : Thread nD τ).loc main_arg2))) ?_
  blk_ext [idx t]

end Cert.RmsIdeal.Value
end
-- ==== Proof.RmsClaim.lean ====
module
public import proofs.«01_k».proof.Defs
public import proofs.«01_k».proof.Proof.Gen.RmsIdeal.Value
public import proofs.«01_k».proof.Proof.Gen.RmsRefIdeal.Run
public import proofs.«01_k».proof.Proof.Gen.RmsRefIdeal.Read
public import proofs.«01_k».proof.Proof.RmsValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_RmsRefIdeal : Cert.quiescent_RmsRefIdeal (hRmsRefIdeal := Cert.RmsRefIdeal.Gen.facts) := by
  exact fun m g _ => (θ_run _ _ _).mono
    (fun r h => ⟨fun c => (h c).2.2, sem_eq_zero_of_no_sems (by decide) r.2⟩) (Cert.RmsRefIdeal.Value.run (F := Ideal) m g)

/-- The gradients of the norm are those of the reference. -/
theorem value_Rms : Cert.algebraic_RmsIdeal_RmsRefIdeal (hRmsIdeal := Cert.RmsIdeal.Gen.facts) (hRmsRefIdeal := Cert.RmsRefIdeal.Gen.facts) := by
  intro m g m' g' _ hm
  refine ⟨fun c => Cert.RmsRefIdeal.Read.val_main_v36 (F := Ideal) (m ((c : Thread Cert.RmsIdeal.nD Cert.RmsIdeal.τ).loc Cert.RmsIdeal.main_arg0)) (m ((c : Thread Cert.RmsIdeal.nD Cert.RmsIdeal.τ).loc Cert.RmsIdeal.main_arg1)) (m ((c : Thread Cert.RmsIdeal.nD Cert.RmsIdeal.τ).loc Cert.RmsIdeal.main_arg2)) (m ((c : Thread Cert.RmsIdeal.nD Cert.RmsIdeal.τ).loc Cert.RmsIdeal.main_arg3)), fun c => Cert.RmsRefIdeal.Read.val_main_v37 (F := Ideal) (m ((c : Thread Cert.RmsIdeal.nD Cert.RmsIdeal.τ).loc Cert.RmsIdeal.main_arg0)) (m ((c : Thread Cert.RmsIdeal.nD Cert.RmsIdeal.τ).loc Cert.RmsIdeal.main_arg2)),
    (θ_run _ _ _).mono (fun r h c => ⟨((h c).1).trans (Cert.RmsIdeal.Value.rows m c), ((h c).2.1).trans (Cert.RmsIdeal.Value.weights m c), (h c).2.2⟩) (Cert.RmsIdeal.Value.run_blocks (F := Ideal) m g),
    (θ_run _ _ _).mono (fun r h c => ?_) (Cert.RmsRefIdeal.Value.run (F := Ideal) m' g')⟩
  obtain ⟨e0, e1, e2, e3⟩ := hm c
  exact ⟨(((h c).1).trans (Cert.RmsRefIdeal.Read.val_main_v36_eq (F := Ideal) _ _ _ _)).trans (by rw [e0, e1, e2, e3]),
    (((h c).2.1).trans (Cert.RmsRefIdeal.Read.val_main_v37_eq (F := Ideal) _ _)).trans (by rw [e0, e2]),
    (h c).2.2⟩

end Cert.Proof
end
-- ==== Proof.LossValue.lean ====
module
public import proofs.«01_k».proof.Proof.Gen.LossIdeal.Value
public import proofs.«01_k».proof.Proof.Gen.LossRefIdeal.Read
public import Idealize.ShloMosaic.Lib.Pipeline.ValueKit
public import Idealize.ShloMosaic.Lib.Pipeline.ReadBack
@[expose] public section
set_option maxRecDepth 16384
noncomputable section
namespace Cert.LossIdeal.Value
open Idealize.ShloMosaic Idealize.ShloMosaic.TcCoe Idealize.SL.Sem
open Idealize.ShloMosaic.Pipeline (Dat)
open Cert.LossIdeal Cert.LossIdeal.Gen
open Cert.LossRefIdeal.Read
variable (m : (ℓ : Loc nD τ sig) → Buf (Elt Ideal) ℓ)

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_width : Ideal.ofBits .f32 0x44800000#32 = ((1024 : ℝ) : EReal) := by
  simp [Ideal.ofBits, Ideal.ieee, -EReal.coe_mul]; norm_num

theorem ofBits_width_inv : Ideal.ofBits .f32 0x3A800000#32 = ((1 / 1024 : ℝ) : EReal) := by
  simp [Ideal.ofBits, Ideal.ieee, -EReal.coe_mul]; norm_num

/-- The derivative of half a mean square: half over the width, times twice the error, is the error over the width. -/
theorem derivative (e : EReal) :
    Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  rw [ofBits_half, ofBits_one, ofBits_width, ofBits_two, ofBits_width_inv, ← mul_assoc, mul_comm e]
  refine congrArg (· * e) ?_
  have h : Ideal.div (((1 / 2 : ℝ) : EReal) * ((1 : ℝ) : EReal)) ((1024 : ℝ) : EReal) = ((1 / 2048 : ℝ) : EReal) := by
    simp only [Ideal.div, ← EReal.coe_mul, ← EReal.coe_inv]
    norm_num [← EReal.coe_mul, ← EReal.coe_inv]
  rw [h, ← EReal.coe_mul]
  norm_num

/-- Half of a sum is the sum of the halves. -/
theorem half_sum {n : Nat} (f : Fin n → EReal) :
    Ideal.ofBits .f32 0x3F000000#32 * ∑ k : Fin n, f k = ∑ k : Fin n, Ideal.ofBits .f32 0x3F000000#32 * f k := by
  rw [ofBits_half]
  refine map_sum (⟨⟨fun x => ((1 / 2 : ℝ) : EReal) * x, mul_zero _⟩, fun x y => ?_⟩ : EReal →+ EReal) f Finset.univ
  exact EReal.left_distrib_of_nonneg_of_ne_top (by exact_mod_cast (by norm_num : (0 : ℝ) ≤ 1 / 2)) (EReal.coe_ne_top _) x y

/-- The cotangent of the rows, as the kernel multiplies it. -/
theorem cotangent (x0 x2 : (⟨S16384x1024, .f32⟩ : BufTy).Contents (Elt Ideal)) (x1 : (⟨S1024, .f32⟩ : BufTy).Contents (Elt Ideal))
    (i : S16384x1024.Idx) :
    val_main_v30 (F := Ideal) x0 x1 x2 i = val_main_v16 (F := Ideal) x0 x1 x2 i * Ideal.ofBits .f32 0x3A800000#32 := by
  refine Eq.trans ?_ (derivative _)
  pointwise [val_main_v30, val_main_v29, val_main_v28, val_main_v27, val_main_v26, val_main_v25, val_main_v19, val_main_v18, val_main_cst_3,
    val_main_cst_8, val_main_cst_9, val_main_cst_10]

/-- The block of each array at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- The weight's block is the weight. -/
theorem weight (c : Dev nD) (t : Fin cfg0.N) (k : Fin 1024) : iblk m c 1 t (ix2 0 k) = (m ((c : Thread nD τ).loc main_arg1)) (ix1 k) := by
  have e : iblk m c 1 t (ix2 0 k) = V m c main_v0 (ix2 0 k) := by blk_point [iblk, idx t]
  rw [e]
  entry_read
  pointwise

/-- The same at a column of the row of sums. -/
theorem weight_at (c : Dev nD) (t : Fin cfg0.N) (y : S1x1024.Idx) : iblk m c 1 t (ix2 0 (y 1)) = (m ((c : Thread nD τ).loc main_arg1)) (ix1 (y 1)) := weight m c t (y 1)

/-- Output 4 ends as the gradient of the rows. -/
theorem rows (c : Dev nD) : (dats m 0 c).arrAt 4 cfg0.N = val_main_v50 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  by_cases h0 : t.val % 32 = 0
  · rw [outsAt0_A m c t h0]
    frame_out
    unfold_payloads
    pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_cst_4, val_main_v20, val_main_cst_5, val_main_v21, val_main_v22, val_main_cst_6, val_main_v23, val_main_cst_7, val_main_v24, val_main_cst_8, val_main_cst_9, val_main_cst_10, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
    simp only [cotangent]
    pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_cst_4, val_main_v20, val_main_cst_5, val_main_v21, val_main_v22, val_main_cst_6, val_main_v23, val_main_cst_7, val_main_v24, val_main_cst_8, val_main_cst_9, val_main_cst_10, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
    simp only [weight]
    blk_point [iblk, V, idx t]
  · rw [outsAt0_B m c t h0]
    frame_out
    unfold_payloads
    pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_cst_4, val_main_v20, val_main_cst_5, val_main_v21, val_main_v22, val_main_cst_6, val_main_v23, val_main_cst_7, val_main_v24, val_main_cst_8, val_main_cst_9, val_main_cst_10, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
    simp only [cotangent]
    pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_cst_4, val_main_v20, val_main_cst_5, val_main_v21, val_main_v22, val_main_cst_6, val_main_v23, val_main_cst_7, val_main_v24, val_main_cst_8, val_main_cst_9, val_main_cst_10, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
    simp only [weight]
    blk_point [iblk, V, idx t]

/-- The first step starts the sums over the rows at its own rows. -/
theorem weight_first (c : Dev nD) (t : Fin cfg0.N) (h0 : t.val % 32 = 0) (y : S1x1024.Idx) :
    (outsAt0 m c t.val t.isLt).2.2 y = ∑ r : Fin 512, val_main_v31 (F := Ideal) (m ((c : Thread nD τ).loc main_arg0)) (m ((c : Thread nD τ).loc main_arg1)) (m ((c : Thread nD τ).loc main_arg2)) (ix2 ⟨512 * t.val + r.val, by have := lt_of_lt_of_eq t.isLt N_0; omega⟩ (y 1)) := by
  have hN : t.val < 32 := lt_of_lt_of_eq t.isLt N_0
  rw [outsAt0_A m c t h0]
  frame_out
  unfold_payloads
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_cst_4, val_main_v20, val_main_cst_5, val_main_v21, val_main_v22, val_main_cst_6, val_main_v23, val_main_cst_7, val_main_v24, val_main_cst_8, val_main_cst_9, val_main_cst_10, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
  simp only [cotangent]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_cst_4, val_main_v20, val_main_cst_5, val_main_v21, val_main_v22, val_main_cst_6, val_main_v23, val_main_cst_7, val_main_v24, val_main_cst_8, val_main_cst_9, val_main_cst_10, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
  refine Finset.sum_congr rfl fun r _ => ?_
  rw [weight_at]
  blk_point [iblk, V, idx t]

/-- The first step starts the loss at half the mean squares of its own rows. -/
theorem loss_first (c : Dev nD) (t : Fin cfg0.N) (h0 : t.val % 32 = 0) (y : S8x128.Idx) :
    (outsAt0 m c t.val t.isLt).1 y = Ideal.ofBits .f32 0x3F000000#32 * ∑ r : Fin 512, val_main_v22 (F := Ideal) (m ((c : Thread nD τ).loc main_arg0)) (m ((c : Thread nD τ).loc main_arg1)) (m ((c : Thread nD τ).loc main_arg2)) (ix1 ⟨512 * t.val + r.val, by have := lt_of_lt_of_eq t.isLt N_0; omega⟩) := by
  have hN : t.val < 32 := lt_of_lt_of_eq t.isLt N_0
  rw [outsAt0_A m c t h0]
  frame_out
  unfold_payloads
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_cst_4, val_main_v20, val_main_cst_5, val_main_v21, val_main_v22, val_main_cst_6, val_main_v23, val_main_cst_7, val_main_v24, val_main_cst_8, val_main_cst_9, val_main_cst_10, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
  refine congrArg (fun a : EReal => Ideal.ofBits .f32 0x3F000000#32 * a) (Finset.sum_congr rfl fun r _ => (Fin.sum_univ_one (M := EReal) _).trans ?_)
  simp only [weight]
  blk_point [iblk, V, idx t]

/-- A later step adds to the sums over the rows, its own rows. -/
theorem weight_next (c : Dev nD) (t : Fin cfg0.N) (h0 : ¬ t.val % 32 = 0) (y : S1x1024.Idx) :
    (outsAt0 m c t.val t.isLt).2.2 y = (outsAt0 m c (t.val - 1) (Nat.lt_of_le_of_lt (Nat.sub_le _ _) t.isLt)).2.2 y + ∑ r : Fin 512, val_main_v31 (F := Ideal) (m ((c : Thread nD τ).loc main_arg0)) (m ((c : Thread nD τ).loc main_arg1)) (m ((c : Thread nD τ).loc main_arg2)) (ix2 ⟨512 * t.val + r.val, by have := lt_of_lt_of_eq t.isLt N_0; omega⟩ (y 1)) := by
  have hN : t.val < 32 := lt_of_lt_of_eq t.isLt N_0
  rw [outsAt0_B m c t h0]
  frame_out
  unfold_payloads
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_cst_4, val_main_v20, val_main_cst_5, val_main_v21, val_main_v22, val_main_cst_6, val_main_v23, val_main_cst_7, val_main_v24, val_main_cst_8, val_main_cst_9, val_main_cst_10, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
  simp only [cotangent]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_cst_4, val_main_v20, val_main_cst_5, val_main_v21, val_main_v22, val_main_cst_6, val_main_v23, val_main_cst_7, val_main_v24, val_main_cst_8, val_main_cst_9, val_main_cst_10, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
  refine congrArg₂ (fun a b : EReal => a + b) (congrArg _ (by blk_ext [idx t])) (Finset.sum_congr rfl fun r _ => ?_)
  rw [weight_at]
  blk_point [iblk, V, idx t]

/-- A later step adds to the loss, half the mean squares of its own rows. -/
theorem loss_next (c : Dev nD) (t : Fin cfg0.N) (h0 : ¬ t.val % 32 = 0) (y : S8x128.Idx) :
    (outsAt0 m c t.val t.isLt).1 y = (outsAt0 m c (t.val - 1) (Nat.lt_of_le_of_lt (Nat.sub_le _ _) t.isLt)).1 y + Ideal.ofBits .f32 0x3F000000#32 * ∑ r : Fin 512, val_main_v22 (F := Ideal) (m ((c : Thread nD τ).loc main_arg0)) (m ((c : Thread nD τ).loc main_arg1)) (m ((c : Thread nD τ).loc main_arg2)) (ix1 ⟨512 * t.val + r.val, by have := lt_of_lt_of_eq t.isLt N_0; omega⟩) := by
  have hN : t.val < 32 := lt_of_lt_of_eq t.isLt N_0
  rw [outsAt0_B m c t h0]
  frame_out
  unfold_payloads
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_cst_4, val_main_v20, val_main_cst_5, val_main_v21, val_main_v22, val_main_cst_6, val_main_v23, val_main_cst_7, val_main_v24, val_main_cst_8, val_main_cst_9, val_main_cst_10, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52]
  refine congrArg₂ (fun a b : EReal => a + b) (congrArg _ (by blk_ext [idx t])) ?_
  refine congrArg (fun a : EReal => Ideal.ofBits .f32 0x3F000000#32 * a) (Finset.sum_congr rfl fun r _ => (Fin.sum_univ_one (M := EReal) _).trans ?_)
  simp only [weight]
  blk_point [iblk, V, idx t]

/-- Output 5 ends as the gradient of the weight. -/
theorem weights (c : Dev nD) : (dats m 0 c).arrAt 5 cfg0.N = val_main_v52 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  rw [Pipeline.eq_sum_fin_of_reset_step_apply_of_flush (fun n h => (outsAt0 m c n h).2.2) 32 (fun _ => 0)
    (fun t y => ∑ r : Fin 512, val_main_v31 (F := Ideal) (m ((c : Thread nD τ).loc main_arg0)) (m ((c : Thread nD τ).loc main_arg1)) (m ((c : Thread nD τ).loc main_arg2)) (ix2 ⟨512 * t.val + r.val, by have := lt_of_lt_of_eq t.isLt N_0; omega⟩ (y 1)))
    (fun t h y => (weight_first m c t h y).trans (zero_add _).symm) (fun t h y => weight_next m c t h y) t ((flush0_5 t).mp hf) y]
  have hq : 32 * (t.val / 32) = 0 := by have := lt_of_lt_of_eq t.isLt N_0; omega
  pointwise [val_main_v52, val_main_v36, val_main_v33, val_main_v32, val_main_cst_11, val_main_cst_12]
  refine Eq.trans (α := EReal) ?_ (Fin.sum_univ_one (M := EReal) _).symm
  refine Fin.sum_mul_add_congr (S := 32) (n := 512) (fun s k hl => ?_)
  refine congrArg (val_main_v31 (F := Ideal) (m ((c : Thread nD τ).loc main_arg0)) (m ((c : Thread nD τ).loc main_arg1)) (m ((c : Thread nD τ).loc main_arg2))) ?_
  blk_ext [idx t]

/-- Output 3 ends as the loss. -/
theorem tile (c : Dev nD) : (dats m 0 c).arrAt 3 cfg0.N = val_main_v51 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  rw [Pipeline.eq_sum_fin_of_reset_step_apply_of_flush (fun n h => (outsAt0 m c n h).1) 32 (fun _ => 0)
    (fun t y => Ideal.ofBits .f32 0x3F000000#32 * ∑ r : Fin 512, val_main_v22 (F := Ideal) (m ((c : Thread nD τ).loc main_arg0)) (m ((c : Thread nD τ).loc main_arg1)) (m ((c : Thread nD τ).loc main_arg2)) (ix1 ⟨512 * t.val + r.val, by have := lt_of_lt_of_eq t.isLt N_0; omega⟩))
    (fun t h y => (loss_first m c t h y).trans (zero_add _).symm) (fun t h y => loss_next m c t h y) t ((flush0_3 t).mp hf) y]
  have hq : 32 * (t.val / 32) = 0 := by have := lt_of_lt_of_eq t.isLt N_0; omega
  rw [← half_sum]
  pointwise [val_main_v51, val_main_v24, val_main_v23, val_main_cst_6, val_main_cst_7]
  refine congrArg (fun a : EReal => Ideal.ofBits .f32 0x3F000000#32 * a) ?_
  refine Fin.sum_mul_add_congr (S := 32) (n := 512) (fun s k hl => ?_)
  refine congrArg (val_main_v22 (F := Ideal) (m ((c : Thread nD τ).loc main_arg0)) (m ((c : Thread nD τ).loc main_arg1)) (m ((c : Thread nD τ).loc main_arg2))) ?_
  blk_ext [idx t]

end Cert.LossIdeal.Value
end
-- ==== Proof.LossClaim.lean ====
module
public import proofs.«01_k».proof.Defs
public import proofs.«01_k».proof.Proof.Gen.LossIdeal.Value
public import proofs.«01_k».proof.Proof.Gen.LossRefIdeal.Run
public import proofs.«01_k».proof.Proof.Gen.LossRefIdeal.Read
public import proofs.«01_k».proof.Proof.LossValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_LossRefIdeal : Cert.quiescent_LossRefIdeal (hLossRefIdeal := Cert.LossRefIdeal.Gen.facts) := by
  exact fun m g _ => (θ_run _ _ _).mono
    (fun r h => ⟨fun c => (h c).2.2.2, sem_eq_zero_of_no_sems (by decide) r.2⟩) (Cert.LossRefIdeal.Value.run (F := Ideal) m g)

/-- The loss and its gradients are those of the reference. -/
theorem value_Loss : Cert.algebraic_LossIdeal_LossRefIdeal (hLossIdeal := Cert.LossIdeal.Gen.facts) (hLossRefIdeal := Cert.LossRefIdeal.Gen.facts) := by
  intro m g m' g' _ hm
  refine ⟨fun c => Cert.LossRefIdeal.Read.val_main_v51 (F := Ideal) (m ((c : Thread Cert.LossIdeal.nD Cert.LossIdeal.τ).loc Cert.LossIdeal.main_arg0)) (m ((c : Thread Cert.LossIdeal.nD Cert.LossIdeal.τ).loc Cert.LossIdeal.main_arg1)) (m ((c : Thread Cert.LossIdeal.nD Cert.LossIdeal.τ).loc Cert.LossIdeal.main_arg2)), fun c => Cert.LossRefIdeal.Read.val_main_v50 (F := Ideal) (m ((c : Thread Cert.LossIdeal.nD Cert.LossIdeal.τ).loc Cert.LossIdeal.main_arg0)) (m ((c : Thread Cert.LossIdeal.nD Cert.LossIdeal.τ).loc Cert.LossIdeal.main_arg1)) (m ((c : Thread Cert.LossIdeal.nD Cert.LossIdeal.τ).loc Cert.LossIdeal.main_arg2)), fun c => Cert.LossRefIdeal.Read.val_main_v52 (F := Ideal) (m ((c : Thread Cert.LossIdeal.nD Cert.LossIdeal.τ).loc Cert.LossIdeal.main_arg0)) (m ((c : Thread Cert.LossIdeal.nD Cert.LossIdeal.τ).loc Cert.LossIdeal.main_arg1)) (m ((c : Thread Cert.LossIdeal.nD Cert.LossIdeal.τ).loc Cert.LossIdeal.main_arg2)),
    (θ_run _ _ _).mono (fun r h c => ⟨((h c).1).trans (Cert.LossIdeal.Value.tile m c), ((h c).2.1).trans (Cert.LossIdeal.Value.rows m c), ((h c).2.2.1).trans (Cert.LossIdeal.Value.weights m c), (h c).2.2.2⟩) (Cert.LossIdeal.Value.run_blocks (F := Ideal) m g),
    (θ_run _ _ _).mono (fun r h c => ?_) (Cert.LossRefIdeal.Value.run (F := Ideal) m' g')⟩
  obtain ⟨e0, e1, e2⟩ := hm c
  exact ⟨(((h c).1).trans (Cert.LossRefIdeal.Read.val_main_v51_eq (F := Ideal) _ _ _)).trans (by rw [e0, e1, e2]),
    (((h c).2.1).trans (Cert.LossRefIdeal.Read.val_main_v50_eq (F := Ideal) m' c)).trans (by rw [e0, e1, e2]),
    (((h c).2.2.1).trans (Cert.LossRefIdeal.Read.val_main_v52_eq (F := Ideal) _ _ _)).trans (by rw [e0, e1, e2]),
    (h c).2.2.2⟩

end Cert.Proof
end
-- ==== Proof.RmsFwdValue.lean ====
module
public import proofs.«01_k».proof.Proof.Gen.RmsFwdIdeal.Value
public import proofs.«01_k».proof.Proof.Gen.RmsFwdRefIdeal.Read
public import Idealize.ShloMosaic.Lib.Pipeline.ValueKit
public import Idealize.ShloMosaic.Lib.Pipeline.ReadBack
@[expose] public section
set_option maxRecDepth 16384
noncomputable section
namespace Cert.RmsFwdIdeal.Value
open Idealize.ShloMosaic Idealize.ShloMosaic.TcCoe Idealize.SL.Sem
open Idealize.ShloMosaic.Pipeline (Dat)
open Cert.RmsFwdIdeal Cert.RmsFwdIdeal.Gen
open Cert.RmsFwdRefIdeal.Read
variable (m : (ℓ : Loc nD τ sig) → Buf (Elt Ideal) ℓ)

/-- The block of each array at a grid point. -/
theorem idx : ∀ t : Fin cfg0.N, win0_0.index t = ![t.val, 0] ∧ win0_1.index t = ![0, 0] ∧ win0_2.index t = ![t.val, 0] :=
  (by decide +kernel : ∀ t : Fin grid0.N, _)

/-- The weight's block is the weight. -/
theorem weight (c : Dev nD) (t : Fin cfg0.N) (k : Fin 1024) : iblk m c 1 t (ix2 0 k) = (m ((c : Thread nD τ).loc main_arg1)) (ix1 k) := by
  have e : iblk m c 1 t (ix2 0 k) = V m c main_v0 (ix2 0 k) := by blk_point [iblk, idx t]
  rw [e]
  entry_read
  pointwise

/-- The same at a column of a block of rows. -/
theorem weight_at (c : Dev nD) (t : Fin cfg0.N) (y : S512x1024.Idx) : iblk m c 1 t (ix2 0 (y 1)) = (m ((c : Thread nD τ).loc main_arg1)) (ix1 (y 1)) := weight m c t (y 1)

/-- The result ends as the norm of the rows. -/
theorem rows (c : Dev nD) : (dats m 0 c).arrAt 2 cfg0.N = val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  unfold_payloads
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  rw [weight_at]
  blk_point [iblk, V, idx t]

end Cert.RmsFwdIdeal.Value
end
-- ==== Proof.RmsFwdClaim.lean ====
module
public import proofs.«01_k».proof.Defs
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.RmsFwdValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_RmsFwdRefIdeal : Cert.quiescent_RmsFwdRefIdeal (hRmsFwdRefIdeal := Cert.RmsFwdRefIdeal.Gen.facts) := by
  exact fun m g _ => (θ_run _ _ _).mono
    (fun r h => ⟨fun c => (h c).2, sem_eq_zero_of_no_sems (by decide) r.2⟩) (Cert.RmsFwdRefIdeal.Value.run (F := Ideal) m g)

/-- The norm of the rows is that of the reference. -/
theorem value_RmsFwd : Cert.algebraic_RmsFwdIdeal_RmsFwdRefIdeal (hRmsFwdIdeal := Cert.RmsFwdIdeal.Gen.facts) (hRmsFwdRefIdeal := Cert.RmsFwdRefIdeal.Gen.facts) := by
  intro m g m' g' _ hm
  refine ⟨fun c => Cert.RmsFwdRefIdeal.Read.val_main_v13 (F := Ideal) (m ((c : Thread Cert.RmsFwdIdeal.nD Cert.RmsFwdIdeal.τ).loc Cert.RmsFwdIdeal.main_arg0)) (m ((c : Thread Cert.RmsFwdIdeal.nD Cert.RmsFwdIdeal.τ).loc Cert.RmsFwdIdeal.main_arg1)),
    (θ_run _ _ _).mono (fun r h c => ⟨((h c).1).trans (Cert.RmsFwdIdeal.Value.rows m c), (h c).2⟩) (Cert.RmsFwdIdeal.Value.run_blocks (F := Ideal) m g),
    (θ_run _ _ _).mono (fun r h c => ?_) (Cert.RmsFwdRefIdeal.Value.run (F := Ideal) m' g')⟩
  obtain ⟨e0, e1⟩ := hm c
  exact ⟨(((h c).1).trans (Cert.RmsFwdRefIdeal.Read.val_main_v13_eq (F := Ideal) _ _)).trans (by rw [e0, e1]),
    (h c).2⟩

end Cert.Proof
end
-- ==== Proof.GateFwdValue.lean ====
module
public import proofs.«01_k».proof.Proof.Gen.GateFwdIdeal.Value
public import proofs.«01_k».proof.Proof.Gen.GateFwdRefIdeal.Read
public import Idealize.ShloMosaic.Lib.Pipeline.ValueKit
public import Idealize.ShloMosaic.Lib.Pipeline.ReadBack
@[expose] public section
set_option maxRecDepth 16384
noncomputable section
namespace Cert.GateFwdIdeal.Value
open Idealize.ShloMosaic Idealize.ShloMosaic.TcCoe Idealize.SL.Sem
open Idealize.ShloMosaic.Pipeline (Dat)
open Cert.GateFwdIdeal Cert.GateFwdIdeal.Gen
open Cert.GateFwdRefIdeal.Read
variable (m : (ℓ : Loc nD τ sig) → Buf (Elt Ideal) ℓ)

/-- The block of each array at a grid point. -/
theorem idx : ∀ t : Fin cfg0.N, win0_0.index t = ![t.val, 3] ∧ win0_1.index t = ![t.val, 4] ∧ win0_2.index t = ![t.val, 5] ∧ win0_3.index t = ![t.val, 6] ∧ win0_4.index t = ![t.val, 7] ∧ win0_5.index t = ![t.val, 8] ∧ win0_6.index t = ![0, 0] ∧ win0_7.index t = ![t.val, 0] ∧ win0_8.index t = ![t.val, 0] ∧ win0_9.index t = ![t.val, 0] ∧ win0_10.index t = ![t.val, 0] :=
  (by decide +kernel : ∀ t : Fin grid0.N, _)

/-- The result ends as the gated sum. -/
theorem merged (c : Dev nD) : (dats m 0 c).arrAt 10 cfg0.N = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t _ y => ?_
  blk_simp
  rw [after0_10]
  frame_out
  unfold_payloads
  pointwise [val_main_v0, val_main_v1, val_main_v2, val_main_v3, val_main_v4, val_main_v5, val_main_v6, val_main_cst, val_main_v7, val_main_v8, val_main_cst_0, val_main_v9, val_main_v10, val_main_v11, val_main_v12, val_main_v13, val_main_v14, val_main_v15, val_main_v16, val_main_v17, val_main_v18, val_main_v19, val_main_v20, val_main_v21, val_main_v22]
  unfold Ideal.logistic
  blk_point [iblk, V, idx t]

end Cert.GateFwdIdeal.Value
end
-- ==== Proof.GateFwdClaim.lean ====
module
public import proofs.«01_k».proof.Defs
public import proofs.«01_k».proof.Proof.Gen.GateFwdIdeal.Value
public import proofs.«01_k».proof.Proof.Gen.GateFwdRefIdeal.Run
public import proofs.«01_k».proof.Proof.Gen.GateFwdRefIdeal.Read
public import proofs.«01_k».proof.Proof.GateFwdValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_GateFwdRefIdeal : Cert.quiescent_GateFwdRefIdeal (hGateFwdRefIdeal := Cert.GateFwdRefIdeal.Gen.facts) := by
  exact fun m g _ => (θ_run _ _ _).mono
    (fun r h => ⟨fun c => (h c).2, sem_eq_zero_of_no_sems (by decide) r.2⟩) (Cert.GateFwdRefIdeal.Value.run (F := Ideal) m g)

/-- The gated sum is that of the reference. -/
theorem value_GateFwd : Cert.algebraic_GateFwdIdeal_GateFwdRefIdeal (hGateFwdIdeal := Cert.GateFwdIdeal.Gen.facts) (hGateFwdRefIdeal := Cert.GateFwdRefIdeal.Gen.facts) := by
  intro m g m' g' _ hm
  refine ⟨fun c => Cert.GateFwdRefIdeal.Read.val_main_v22 (F := Ideal) (m ((c : Thread Cert.GateFwdIdeal.nD Cert.GateFwdIdeal.τ).loc Cert.GateFwdIdeal.main_arg0)) (m ((c : Thread Cert.GateFwdIdeal.nD Cert.GateFwdIdeal.τ).loc Cert.GateFwdIdeal.main_arg1)) (m ((c : Thread Cert.GateFwdIdeal.nD Cert.GateFwdIdeal.τ).loc Cert.GateFwdIdeal.main_arg2)) (m ((c : Thread Cert.GateFwdIdeal.nD Cert.GateFwdIdeal.τ).loc Cert.GateFwdIdeal.main_arg3)) (m ((c : Thread Cert.GateFwdIdeal.nD Cert.GateFwdIdeal.τ).loc Cert.GateFwdIdeal.main_arg4)),
    (θ_run _ _ _).mono (fun r h c => ⟨((h c).1).trans (Cert.GateFwdIdeal.Value.merged m c), (h c).2⟩) (Cert.GateFwdIdeal.Value.run_blocks (F := Ideal) m g),
    (θ_run _ _ _).mono (fun r h c => ?_) (Cert.GateFwdRefIdeal.Value.run (F := Ideal) m' g')⟩
  obtain ⟨e0, e1, e2, e3, e4⟩ := hm c
  exact ⟨(((h c).1).trans (Cert.GateFwdRefIdeal.Read.val_main_v22_eq (F := Ideal) _ _ _ _ _)).trans (by rw [e0, e1, e2, e3, e4]),
    (h c).2⟩

end Cert.Proof
end
-- ==== Proof.FfnValue.lean ====
module
public import proofs.«01_k».proof.Proof.Gen.FfnIdeal.Value
public import proofs.«01_k».proof.Proof.Gen.FfnRefIdeal.Read
public import Idealize.ShloMosaic.Lib.Pipeline.ValueKit
public import Idealize.ShloMosaic.Lib.Pipeline.ReadBack
@[expose] public section
set_option maxRecDepth 16384
noncomputable section
namespace Cert.FfnIdeal.Value
open Idealize.ShloMosaic Idealize.ShloMosaic.TcCoe Idealize.SL.Sem
open Idealize.ShloMosaic.Pipeline (Dat)
open Cert.FfnIdeal Cert.FfnIdeal.Gen
open Cert.FfnRefIdeal.Read
variable (m : (ℓ : Loc nD τ sig) → Buf (Elt Ideal) ℓ)

/-- The block of each array at a grid point. -/
theorem idx : ∀ t : Fin cfg0.N, win0_0.index t = ![t.val, 0] ∧ win0_1.index t = ![t.val * (256 / 8) - 1, 0] ∧ win0_2.index t = ![t.val, 0]
    ∧ win0_3.index t = ![0, 0] ∧ win0_4.index t = ![0, 0] ∧ win0_5.index t = ![t.val, 0] :=
  (by decide +kernel : ∀ t : Fin grid0.N, _)

/-- The program's index of a grid point is its place. -/
theorem place : ∀ t : Fin cfg0.N, (grid0.coords t 0).val = t.val := (by decide +kernel : ∀ t : Fin grid0.N, _)

/-- A choice between two values by comparing two small numbers as words. -/
theorem pick (a b : ℕ) (ha : a < 2 ^ 32) (hb : b < 2 ^ 32) (x y : EReal) :
    Scalar.select (IntOp.cmpi CmpIPredicate.eq (BitVec.ofNat 32 a) (BitVec.ofNat 32 b)) x y = if a = b then x else y := by
  have e : IntOp.cmpi CmpIPredicate.eq (BitVec.ofNat 32 a) (BitVec.ofNat 32 b) = BitVec.ofBool (decide (a = b)) := by
    show BitVec.ofBool (BitVec.ofNat 32 a == BitVec.ofNat 32 b) = _
    refine congrArg BitVec.ofBool ?_
    rw [Bool.eq_iff_iff, beq_iff_eq, decide_eq_true_iff]
    refine ⟨fun h => ?_, fun h => h ▸ rfl⟩
    have := congrArg BitVec.toNat h
    rwa [BitVec.toNat_ofNat, BitVec.toNat_ofNat, Nat.mod_eq_of_lt ha, Nat.mod_eq_of_lt hb] at this
  rw [e]
  by_cases h : a = b
  · rw [if_pos h, decide_eq_true h]; rfl
  · rw [if_neg h, decide_eq_false h]; rfl

/-- The row `s` before a row, zero before the first. -/
def back (x : FVec Ideal S16384x2816 .f32) (n : Fin 16384) (s : ℕ) (k : Fin 2816) : EReal :=
  if h : n.val < s then 0 else x (ix2 ⟨n.val - s, by omega⟩ k)

/-- The bias's block is the bias. -/
theorem bias (c : Dev nD) (t : Fin cfg0.N) (k : Fin 2816) : iblk m c 4 t (ix2 0 k) = (m ((c : Thread nD τ).loc main_arg3)) (ix1 k) := by
  have e : iblk m c 4 t (ix2 0 k) = V m c main_v0 (ix2 0 k) := by blk_point [iblk, idx t]
  rw [e]
  entry_read
  pointwise

/-- The last rows of the block before, zero before the first block. -/
theorem prev (c : Dev nD) (t : Fin cfg0.N) (j : Fin 8) (k : Fin 2816) :
    (Scalar.select (α := EReal) (Scalar.cmpi CmpIPredicate.eq (BitVec.ofNat 32 (grid0.coords t 0).val) 0#32) 0 (iblk m c 1 t (ix2 j k))) = if h : t.val = 0 then (0 : EReal) else (m ((c : Thread nD τ).loc main_arg0)) (ix2 ⟨256 * t.val - 8 + j.val, by have := lt_of_lt_of_eq t.isLt N_0; omega⟩ k) := by
  have hN : t.val < 64 := lt_of_lt_of_eq t.isLt N_0
  rw [place]
  refine (pick t.val 0 (by omega) (by omega) _ _).trans ?_
  by_cases h : t.val = 0
  · rw [if_pos h, dif_pos h]
  · rw [if_neg h, dif_neg h]
    blk_point [iblk, V, idx t]

/-- The row before a row. -/
theorem before1 (c : Dev nD) (t : Fin cfg0.N) (r : Fin 256) (k : Fin 2816) : Scalar.select (α := EReal) (IntOp.cmpi CmpIPredicate.eq (BitVec.ofNat 32 r.val) 0#32) (Scalar.select (α := EReal) (Scalar.cmpi CmpIPredicate.eq (BitVec.ofNat 32 (grid0.coords t 0).val) 0#32) 0 (iblk m c 1 t (ix2 7 k))) (iblk m c 0 t (ix2 ⟨(r.val + 256 - 1) % 256, Nat.mod_lt _ (by omega)⟩ k)) = back (m ((c : Thread nD τ).loc main_arg0)) ⟨256 * t.val + r.val, by have := lt_of_lt_of_eq t.isLt N_0; omega⟩ 1 k := by
  have hN : t.val < 64 := lt_of_lt_of_eq t.isLt N_0
  refine (pick r.val 0 (by omega) (by omega) _ _).trans ?_
  unfold back
  by_cases h : r.val = 0
  · rw [if_pos h]
    refine (prev m c t 7 k).trans ?_
    by_cases h0 : t.val = 0
    · rw [dif_pos h0, dif_pos (by show 256 * t.val + r.val < 1; omega)]
    · rw [dif_neg h0, dif_neg (by show ¬ 256 * t.val + r.val < 1; omega)]
      refine congrArg (fun n => (m ((c : Thread nD τ).loc main_arg0)) (ix2 n k)) (Fin.ext ?_)
      show 256 * t.val - 8 + 7 = 256 * t.val + r.val - 1
      omega
  · rw [if_neg h, dif_neg (by show ¬ 256 * t.val + r.val < 1; omega)]
    blk_point [iblk, V, idx t]

/-- The second row before a row. -/
theorem before2 (c : Dev nD) (t : Fin cfg0.N) (r : Fin 256) (k : Fin 2816) : Scalar.select (α := EReal) (IntOp.cmpi CmpIPredicate.eq (BitVec.ofNat 32 r.val) 0#32) (Scalar.select (α := EReal) (Scalar.cmpi CmpIPredicate.eq (BitVec.ofNat 32 (grid0.coords t 0).val) 0#32) 0 (iblk m c 1 t (ix2 6 k))) (Scalar.select (α := EReal) (IntOp.cmpi CmpIPredicate.eq (BitVec.ofNat 32 r.val) 1#32) (Scalar.select (α := EReal) (Scalar.cmpi CmpIPredicate.eq (BitVec.ofNat 32 (grid0.coords t 0).val) 0#32) 0 (iblk m c 1 t (ix2 7 k))) (iblk m c 0 t (ix2 ⟨(r.val + 256 - 2) % 256, Nat.mod_lt _ (by omega)⟩ k))) = back (m ((c : Thread nD τ).loc main_arg0)) ⟨256 * t.val + r.val, by have := lt_of_lt_of_eq t.isLt N_0; omega⟩ 2 k := by
  have hN : t.val < 64 := lt_of_lt_of_eq t.isLt N_0
  refine (pick r.val 0 (by omega) (by omega) _ _).trans ?_
  unfold back
  by_cases h : r.val = 0
  · rw [if_pos h]
    refine (prev m c t 6 k).trans ?_
    by_cases h0 : t.val = 0
    · rw [dif_pos h0, dif_pos (by show 256 * t.val + r.val < 2; omega)]
    · rw [dif_neg h0, dif_neg (by show ¬ 256 * t.val + r.val < 2; omega)]
      refine congrArg (fun n => (m ((c : Thread nD τ).loc main_arg0)) (ix2 n k)) (Fin.ext ?_)
      show 256 * t.val - 8 + 6 = 256 * t.val + r.val - 2
      omega
  · rw [if_neg h]
    refine (pick r.val 1 (by omega) (by omega) _ _).trans ?_
    by_cases h1 : r.val = 1
    · rw [if_pos h1]
      refine (prev m c t 7 k).trans ?_
      by_cases h0 : t.val = 0
      · rw [dif_pos h0, dif_pos (by show 256 * t.val + r.val < 2; omega)]
      · rw [dif_neg h0, dif_neg (by show ¬ 256 * t.val + r.val < 2; omega)]
        refine congrArg (fun n => (m ((c : Thread nD τ).loc main_arg0)) (ix2 n k)) (Fin.ext ?_)
        show 256 * t.val - 8 + 7 = 256 * t.val + r.val - 2
        omega
    · rw [if_neg h1, dif_neg (by show ¬ 256 * t.val + r.val < 2; omega)]
      blk_point [iblk, V, idx t]

/-- Three taps and a bias. -/
def conv (a b d x y z e : EReal) : EReal := a * x + b * y + d * z + e

/-- The activation, times the gate. -/
def act (u g : EReal) : EReal :=
  Ideal.ofBits .f32 0x3F000000#32 * u * (1 + Ideal.tanh (Ideal.ofBits .f32 1061962282#32 * (u + Ideal.ofBits .f32 1027024659#32 * (u * u * u)))) * g

/-- The convolution at a place of a block. -/
theorem pre (c : Dev nD) (t : Fin cfg0.N) (y : S256x2816.Idx) :
    conv (iblk m c 3 t (ix2 0 (y 1))) (iblk m c 3 t (ix2 1 (y 1))) (iblk m c 3 t (ix2 2 (y 1))) (Scalar.select (α := EReal) (IntOp.cmpi CmpIPredicate.eq (BitVec.ofNat 32 (y 0).val) 0#32) (Scalar.select (α := EReal) (Scalar.cmpi CmpIPredicate.eq (BitVec.ofNat 32 (grid0.coords t 0).val) 0#32) 0 (iblk m c 1 t (ix2 6 (y 1)))) (Scalar.select (α := EReal) (IntOp.cmpi CmpIPredicate.eq (BitVec.ofNat 32 (y 0).val) 1#32) (Scalar.select (α := EReal) (Scalar.cmpi CmpIPredicate.eq (BitVec.ofNat 32 (grid0.coords t 0).val) 0#32) 0 (iblk m c 1 t (ix2 7 (y 1)))) (iblk m c 0 t (ix2 ⟨((y 0).val + 256 - 2) % 256, Nat.mod_lt _ (by omega)⟩ (y 1))))) (Scalar.select (α := EReal) (IntOp.cmpi CmpIPredicate.eq (BitVec.ofNat 32 (y 0).val) 0#32) (Scalar.select (α := EReal) (Scalar.cmpi CmpIPredicate.eq (BitVec.ofNat 32 (grid0.coords t 0).val) 0#32) 0 (iblk m c 1 t (ix2 7 (y 1)))) (iblk m c 0 t (ix2 ⟨((y 0).val + 256 - 1) % 256, Nat.mod_lt _ (by omega)⟩ (y 1))))
      (iblk m c 0 t y) (iblk m c 4 t (ix2 0 (y 1))) = val_main_v25 (F := Ideal) (m ((c : Thread nD τ).loc main_arg0)) (m ((c : Thread nD τ).loc main_arg2)) (m ((c : Thread nD τ).loc main_arg3)) (((View.whole main_v1).slice (win0_5.rect t)).emb y) := by
  have hN : t.val < 64 := lt_of_lt_of_eq t.isLt N_0
  have hy : (y 0).val < 256 := (y 0).isLt
  have e : ((View.whole main_v1).slice (win0_5.rect t)).emb y = ix2 ⟨256 * t.val + (y 0).val, by omega⟩ (y 1) := by blk_ext [idx t]
  rw [e]
  pointwise [val_main_v0, val_main_v1, val_main_cst, val_main_v2, val_main_v3, val_main_v4, val_main_v5, val_main_v6, val_main_v7, val_main_v8, val_main_v9, val_main_cst_0, val_main_v10, val_main_v11, val_main_v12, val_main_v13, val_main_v14, val_main_v15, val_main_v16, val_main_v17, val_main_v18, val_main_v19, val_main_v20, val_main_v21, val_main_v22, val_main_v23, val_main_v24, val_main_v25]
  unfold conv
  refine congrArg₂ (HAdd.hAdd (α := EReal) (β := EReal) (γ := EReal)) (congrArg₂ (HAdd.hAdd (α := EReal) (β := EReal) (γ := EReal))
    (congrArg₂ (HAdd.hAdd (α := EReal) (β := EReal) (γ := EReal)) (congrArg₂ (HMul.hMul (α := EReal) (β := EReal) (γ := EReal)) ?_ (before2 m c t (y 0) (y 1)))
      (congrArg₂ (HMul.hMul (α := EReal) (β := EReal) (γ := EReal)) ?_ (before1 m c t (y 0) (y 1)))) ?_) (bias m c t (y 1))
  · blk_point [iblk, V, idx t]
  · blk_point [iblk, V, idx t]
  · blk_point [iblk, V, idx t]

/-- The result ends as the gated activation of the convolution. -/
theorem mid (c : Dev nD) : (dats m 0 c).arrAt 5 cfg0.N = val_main_v40 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  unfold_payloads
  pointwise [val_main_cst, val_main_cst_0, val_main_v26, val_main_v27, val_main_cst_1, val_main_v28, val_main_v29, val_main_v30, val_main_cst_2, val_main_v31, val_main_v32, val_main_v33, val_main_cst_3, val_main_v34, val_main_v35, val_main_cst_4, val_main_v36, val_main_v37, val_main_v38, val_main_v39, val_main_v40]
  have g : iblk m c 2 t y = (m ((c : Thread nD τ).loc main_arg1)) (((View.whole main_v1).slice (win0_5.rect t)).emb y) := by blk_point [iblk, V, idx t]
  refine Eq.trans (congrArg₂ act (pre m c t y) g) ?_
  unfold act
  generalize val_main_v25 (F := Ideal) (m ((c : Thread nD τ).loc main_arg0)) (m ((c : Thread nD τ).loc main_arg2)) (m ((c : Thread nD τ).loc main_arg3)) (((View.whole main_v1).slice (win0_5.rect t)).emb y) = u
  rw [mul_comm (Ideal.ofBits .f32 0x3F000000#32) u, mul_assoc u]

end Cert.FfnIdeal.Value
end
-- ==== Proof.FfnClaim.lean ====
module
public import proofs.«01_k».proof.Defs
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_FfnRefIdeal : Cert.quiescent_FfnRefIdeal (hFfnRefIdeal := Cert.FfnRefIdeal.Gen.facts) := by
  exact fun m g _ => (θ_run _ _ _).mono
    (fun r h => ⟨fun c => (h c).2, sem_eq_zero_of_no_sems (by decide) r.2⟩) (Cert.FfnRefIdeal.Value.run (F := Ideal) m g)

/-- The gated activation is that of the reference. -/
theorem value_Ffn : Cert.algebraic_FfnIdeal_FfnRefIdeal (hFfnIdeal := Cert.FfnIdeal.Gen.facts) (hFfnRefIdeal := Cert.FfnRefIdeal.Gen.facts) := by
  intro m g m' g' _ hm
  refine ⟨fun c => Cert.FfnRefIdeal.Read.val_main_v40 (F := Ideal) (m ((c : Thread Cert.FfnIdeal.nD Cert.FfnIdeal.τ).loc Cert.FfnIdeal.main_arg0)) (m ((c : Thread Cert.FfnIdeal.nD Cert.FfnIdeal.τ).loc Cert.FfnIdeal.main_arg1)) (m ((c : Thread Cert.FfnIdeal.nD Cert.FfnIdeal.τ).loc Cert.FfnIdeal.main_arg2)) (m ((c : Thread Cert.FfnIdeal.nD Cert.FfnIdeal.τ).loc Cert.FfnIdeal.main_arg3)),
    (θ_run _ _ _).mono (fun r h c => ⟨((h c).1).trans (Cert.FfnIdeal.Value.mid m c), (h c).2⟩) (Cert.FfnIdeal.Value.run_blocks (F := Ideal) m g),
    (θ_run _ _ _).mono (fun r h c => ?_) (Cert.FfnRefIdeal.Value.run (F := Ideal) m' g')⟩
  obtain ⟨e0, e1, e2, e3⟩ := hm c
  exact ⟨(((h c).1).trans (Cert.FfnRefIdeal.Read.val_main_v40_eq (F := Ideal) m' c)).trans (by rw [e0, e1, e2, e3]),
    (h c).2⟩

end Cert.Proof
end
-- ==== Proof.ConvDxValue.lean ====
module
public import proofs.«01_k».proof.Proof.Gen.ConvDxIdeal.Value
public import proofs.«01_k».proof.Proof.Gen.ConvDxRefIdeal.Read
public import Idealize.ShloMosaic.Lib.Pipeline.ValueKit
public import Idealize.ShloMosaic.Lib.Pipeline.ReadBack
@[expose] public section
set_option maxRecDepth 16384
noncomputable section
namespace Cert.ConvDxIdeal.Value
open Idealize.ShloMosaic Idealize.ShloMosaic.TcCoe Idealize.SL.Sem
open Idealize.ShloMosaic.Pipeline (Dat)
open Cert.ConvDxIdeal Cert.ConvDxIdeal.Gen
open Cert.ConvDxRefIdeal.Read
variable (m : (ℓ : Loc nD τ sig) → Buf (Elt Ideal) ℓ)

/-- The block of each array at a grid point. -/
theorem idx : ∀ t : Fin cfg0.N, win0_0.index t = ![t.val, 0] ∧ win0_1.index t = ![min ((t.val + 1) * (256 / 8)) (16384 / 8 - 1), 0]
    ∧ win0_2.index t = ![0, 0] ∧ win0_3.index t = ![t.val, 0] :=
  (by decide +kernel : ∀ t : Fin grid0.N, _)

/-- The program's index of a grid point is its place. -/
theorem place : ∀ t : Fin cfg0.N, (grid0.coords t 0).val = t.val := (by decide +kernel : ∀ t : Fin grid0.N, _)

/-- A choice between two values by comparing two small numbers as words. -/
theorem pick (a b : ℕ) (ha : a < 2 ^ 32) (hb : b < 2 ^ 32) (x y : EReal) :
    Scalar.select (IntOp.cmpi CmpIPredicate.eq (BitVec.ofNat 32 a) (BitVec.ofNat 32 b)) x y = if a = b then x else y := by
  have e : IntOp.cmpi CmpIPredicate.eq (BitVec.ofNat 32 a) (BitVec.ofNat 32 b) = BitVec.ofBool (decide (a = b)) := by
    show BitVec.ofBool (BitVec.ofNat 32 a == BitVec.ofNat 32 b) = _
    refine congrArg BitVec.ofBool ?_
    rw [Bool.eq_iff_iff, beq_iff_eq, decide_eq_true_iff]
    refine ⟨fun h => ?_, fun h => h ▸ rfl⟩
    have := congrArg BitVec.toNat h
    rwa [BitVec.toNat_ofNat, BitVec.toNat_ofNat, Nat.mod_eq_of_lt ha, Nat.mod_eq_of_lt hb] at this
  rw [e]
  by_cases h : a = b
  · rw [if_pos h, decide_eq_true h]; rfl
  · rw [if_neg h, decide_eq_false h]; rfl

/-- A row of the cotangent, zero after the last. -/
def row (x : FVec Ideal S16384x2816 .f32) (n : ℕ) (k : Fin 2816) : EReal := if h : n < 16384 then x (ix2 ⟨n, h⟩ k) else 0

/-- The first rows of the next block, zero after the last block. -/
theorem next (c : Dev nD) (t : Fin cfg0.N) (j : Fin 8) (k : Fin 2816) :
    Scalar.select (α := EReal) (Scalar.cmpi CmpIPredicate.eq (BitVec.ofNat 32 (grid0.coords t 0).val) 63#32) 0 (iblk m c 1 t (ix2 j k))
      = row (m ((c : Thread nD τ).loc main_arg0)) (256 * t.val + 256 + j.val) k := by
  have hN : t.val < 64 := lt_of_lt_of_eq t.isLt N_0
  rw [place]
  refine (pick t.val 63 (by omega) (by omega) _ _).trans ?_
  unfold row
  by_cases h : t.val = 63
  · rw [if_pos h, dif_neg (by omega)]
  · rw [if_neg h, dif_pos (by omega)]
    blk_point [iblk, V, idx t]

/-- The row after a row. -/
theorem after1 (c : Dev nD) (t : Fin cfg0.N) (r : Fin 256) (k : Fin 2816) :
    Scalar.select (α := EReal) (IntOp.cmpi CmpIPredicate.eq (BitVec.ofNat 32 r.val) 255#32) (Scalar.select (α := EReal) (Scalar.cmpi CmpIPredicate.eq (BitVec.ofNat 32 (grid0.coords t 0).val) 63#32) 0 (iblk m c 1 t (ix2 0 k))) (iblk m c 0 t (ix2 ⟨(r.val + 256 - 255) % 256, Nat.mod_lt _ (by omega)⟩ k)) = row (m ((c : Thread nD τ).loc main_arg0)) (256 * t.val + r.val + 1) k := by
  have hN : t.val < 64 := lt_of_lt_of_eq t.isLt N_0
  refine (pick r.val 255 (by omega) (by omega) _ _).trans ?_
  by_cases h : r.val = 255
  · rw [if_pos h]
    refine (next m c t 0 k).trans (congrArg (fun n => row (m ((c : Thread nD τ).loc main_arg0)) n k) ?_)
    show 256 * t.val + 256 + 0 = _
    omega
  · rw [if_neg h]
    unfold row
    rw [dif_pos (by omega)]
    blk_point [iblk, V, idx t]

/-- The second row after a row. -/
theorem after2 (c : Dev nD) (t : Fin cfg0.N) (r : Fin 256) (k : Fin 2816) :
    Scalar.select (α := EReal) (IntOp.cmpi CmpIPredicate.eq (BitVec.ofNat 32 r.val) 255#32) (Scalar.select (α := EReal) (Scalar.cmpi CmpIPredicate.eq (BitVec.ofNat 32 (grid0.coords t 0).val) 63#32) 0 (iblk m c 1 t (ix2 1 k)))
      (Scalar.select (α := EReal) (IntOp.cmpi CmpIPredicate.eq (BitVec.ofNat 32 r.val) 254#32) (Scalar.select (α := EReal) (Scalar.cmpi CmpIPredicate.eq (BitVec.ofNat 32 (grid0.coords t 0).val) 63#32) 0 (iblk m c 1 t (ix2 0 k))) (iblk m c 0 t (ix2 ⟨(r.val + 256 - 254) % 256, Nat.mod_lt _ (by omega)⟩ k))) = row (m ((c : Thread nD τ).loc main_arg0)) (256 * t.val + r.val + 2) k := by
  have hN : t.val < 64 := lt_of_lt_of_eq t.isLt N_0
  refine (pick r.val 255 (by omega) (by omega) _ _).trans ?_
  by_cases h : r.val = 255
  · rw [if_pos h]
    refine (next m c t 1 k).trans (congrArg (fun n => row (m ((c : Thread nD τ).loc main_arg0)) n k) ?_)
    show 256 * t.val + 256 + 1 = _
    omega
  · rw [if_neg h]
    refine (pick r.val 254 (by omega) (by omega) _ _).trans ?_
    by_cases h' : r.val = 254
    · rw [if_pos h']
      refine (next m c t 0 k).trans (congrArg (fun n => row (m ((c : Thread nD τ).loc main_arg0)) n k) ?_)
      show 256 * t.val + 256 + 0 = _
      omega
    · rw [if_neg h']
      unfold row
      rw [dif_pos (by omega)]
      blk_point [iblk, V, idx t]

/-- The result ends as the gradient of the rows. -/
theorem rows (c : Dev nD) : (dats m 0 c).arrAt 3 cfg0.N = val_main_v42 (F := Ideal) (m ((c : Thread nD τ).loc main_arg0)) (m ((c : Thread nD τ).loc main_arg1)) := by
  refine (dats m 0 c).arrAt_eq_of_covers 3 _ (by decide +kernel) fun t _ y => ?_
  have hN : t.val < 64 := lt_of_lt_of_eq t.isLt N_0
  blk_simp
  rw [after0_3]
  frame_out
  unfold_payloads
  pointwise [val_main_cst, val_main_v0, val_main_v1, val_main_v2, val_main_cst_0, val_main_v3, val_main_v4, val_main_v5, val_main_cst_1, val_main_v6, val_main_v7, val_main_v8, val_main_v9, val_main_v10, val_main_v11, val_main_cst_2, val_main_v12, val_main_v13, val_main_v14, val_main_cst_3, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_4, val_main_v34, val_main_v35, val_main_v36, val_main_v37, val_main_v38, val_main_v39, val_main_cst_5, val_main_v40, val_main_v41, val_main_v42]
  have hy : (y 0).val < 256 := (y 0).isLt
  have e : ((View.whole main_v0).slice (win0_3.rect t)).emb y = ix2 ⟨256 * t.val + (y 0).val, by omega⟩ (y 1) := by blk_ext [idx t]
  have e0 : (((View.whole main_v0).slice (win0_3.rect t)).emb y 0).val = 256 * t.val + (y 0).val := congrArg (fun z => (z 0).val) e
  refine congrArg₂ (fun a b : EReal => a + b) (congrArg₂ (fun a b : EReal => a + b) ?_ ?_) ?_
  · blk_point [iblk, V, idx t]
  · refine (congrArg (HMul.hMul (α := EReal) (β := EReal) (γ := EReal) _) (after1 m c t (y 0) (y 1))).trans ?_
    unfold row
    by_cases h : 256 * t.val + (y 0).val + 1 < 16384
    · rw [dif_pos h, dif_pos (by omega)]
      blk_point [iblk, V, idx t]
    · rw [dif_neg h, dif_neg (by omega)]
      exact mul_zero _
  · refine (congrArg (HMul.hMul (α := EReal) (β := EReal) (γ := EReal) _) (after2 m c t (y 0) (y 1))).trans ?_
    unfold row
    by_cases h : 256 * t.val + (y 0).val + 2 < 16384
    · rw [dif_pos h, dif_pos (by omega)]
      blk_point [iblk, V, idx t]
    · rw [dif_neg h, dif_neg (by omega)]
      exact mul_zero _

end Cert.ConvDxIdeal.Value
end
-- ==== Proof.ConvDxClaim.lean ====
module
public import proofs.«01_k».proof.Defs
public import proofs.«01_k».proof.Proof.Gen.ConvDxIdeal.Value
public import proofs.«01_k».proof.Proof.Gen.ConvDxRefIdeal.Run
public import proofs.«01_k».proof.Proof.Gen.ConvDxRefIdeal.Read
public import proofs.«01_k».proof.Proof.ConvDxValue
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_ConvDxRefIdeal : Cert.quiescent_ConvDxRefIdeal (hConvDxRefIdeal := Cert.ConvDxRefIdeal.Gen.facts) := by
  exact fun m g _ => (θ_run _ _ _).mono
    (fun r h => ⟨fun c => (h c).2, sem_eq_zero_of_no_sems (by decide) r.2⟩) (Cert.ConvDxRefIdeal.Value.run (F := Ideal) m g)

/-- The convolution's gradient is that of the reference. -/
theorem value_ConvDx : Cert.algebraic_ConvDxIdeal_ConvDxRefIdeal (hConvDxIdeal := Cert.ConvDxIdeal.Gen.facts) (hConvDxRefIdeal := Cert.ConvDxRefIdeal.Gen.facts) := by
  intro m g m' g' _ hm
  refine ⟨fun c => Cert.ConvDxRefIdeal.Read.val_main_v42 (F := Ideal) (m ((c : Thread Cert.ConvDxIdeal.nD Cert.ConvDxIdeal.τ).loc Cert.ConvDxIdeal.main_arg0)) (m ((c : Thread Cert.ConvDxIdeal.nD Cert.ConvDxIdeal.τ).loc Cert.ConvDxIdeal.main_arg1)),
    (θ_run _ _ _).mono (fun r h c => ⟨((h c).1).trans (Cert.ConvDxIdeal.Value.rows m c), (h c).2⟩) (Cert.ConvDxIdeal.Value.run_blocks (F := Ideal) m g),
    (θ_run _ _ _).mono (fun r h c => ?_) (Cert.ConvDxRefIdeal.Value.run (F := Ideal) m' g')⟩
  obtain ⟨e0, e1⟩ := hm c
  exact ⟨(((h c).1).trans (Cert.ConvDxRefIdeal.Read.val_main_v42_eq (F := Ideal) _ _)).trans (by rw [e0, e1]),
    (h c).2⟩

end Cert.Proof
end
-- ==== Proof.FfnBackValue.lean ====
module
public import proofs.«01_k».proof.Proof.Gen.FfnBackIdeal.Value
public import proofs.«01_k».proof.Proof.Gen.FfnBackRefIdeal.Read
public import Idealize.ShloMosaic.Lib.Pipeline.ValueKit
public import Idealize.ShloMosaic.Lib.Pipeline.ReadBack
@[expose] public section
set_option maxRecDepth 16384
noncomputable section
namespace Cert.FfnBackIdeal.Value
open Idealize.ShloMosaic Idealize.ShloMosaic.TcCoe Idealize.SL.Sem
open Idealize.ShloMosaic.Pipeline (Dat)
open Cert.FfnBackIdeal Cert.FfnBackIdeal.Gen
open Cert.FfnBackRefIdeal.Read
variable (m : (ℓ : Loc nD τ sig) → Buf (Elt Ideal) ℓ)

/-- The block of each array at a grid point. -/
theorem idx : ∀ t : Fin cfg0.N, win0_0.index t = ![t.val, 0] ∧ win0_1.index t = ![t.val * (256 / 8) - 1, 0] ∧ win0_2.index t = ![t.val, 0]
    ∧ win0_3.index t = ![0, 0] ∧ win0_4.index t = ![0, 0] ∧ win0_5.index t = ![t.val, 0] ∧ win0_6.index t = ![t.val, 0] ∧ win0_7.index t = ![t.val, 0]
    ∧ win0_8.index t = ![0, 0] ∧ win0_9.index t = ![0, 0] :=
  (by decide +kernel : ∀ t : Fin grid0.N, _)

/-- The program's index of a grid point is its place. -/
theorem place : ∀ t : Fin cfg0.N, (grid0.coords t 0).val = t.val := (by decide +kernel : ∀ t : Fin grid0.N, _)

/-- A choice between two values by comparing two small numbers as words. -/
theorem pick (a b : ℕ) (ha : a < 2 ^ 32) (hb : b < 2 ^ 32) (x y : EReal) :
    Scalar.select (IntOp.cmpi CmpIPredicate.eq (BitVec.ofNat 32 a) (BitVec.ofNat 32 b)) x y = if a = b then x else y := by
  have e : IntOp.cmpi CmpIPredicate.eq (BitVec.ofNat 32 a) (BitVec.ofNat 32 b) = BitVec.ofBool (decide (a = b)) := by
    show BitVec.ofBool (BitVec.ofNat 32 a == BitVec.ofNat 32 b) = _
    refine congrArg BitVec.ofBool ?_
    rw [Bool.eq_iff_iff, beq_iff_eq, decide_eq_true_iff]
    refine ⟨fun h => ?_, fun h => h ▸ rfl⟩
    have := congrArg BitVec.toNat h
    rwa [BitVec.toNat_ofNat, BitVec.toNat_ofNat, Nat.mod_eq_of_lt ha, Nat.mod_eq_of_lt hb] at this
  rw [e]
  by_cases h : a = b
  · rw [if_pos h, decide_eq_true h]; rfl
  · rw [if_neg h, decide_eq_false h]; rfl

/-- The row `s` before a row, zero before the first. -/
def back (x : FVec Ideal S16384x2816 .f32) (n : Fin 16384) (s : ℕ) (k : Fin 2816) : EReal :=
  if h : n.val < s then 0 else x (ix2 ⟨n.val - s, by omega⟩ k)

/-- The bias's block is the bias. -/
theorem bias (c : Dev nD) (t : Fin cfg0.N) (k : Fin 2816) : iblk m c 4 t (ix2 0 k) = (m ((c : Thread nD τ).loc main_arg3)) (ix1 k) := by
  have e : iblk m c 4 t (ix2 0 k) = V m c main_v0 (ix2 0 k) := by blk_point [iblk, idx t]
  rw [e]
  entry_read
  pointwise

/-- The last rows of the block before, zero before the first block. -/
theorem prev (c : Dev nD) (t : Fin cfg0.N) (j : Fin 8) (k : Fin 2816) :
    (Scalar.select (α := EReal) (Scalar.cmpi CmpIPredicate.eq (BitVec.ofNat 32 (grid0.coords t 0).val) 0#32) 0 (iblk m c 1 t (ix2 j k))) = if h : t.val = 0 then (0 : EReal) else (m ((c : Thread nD τ).loc main_arg0)) (ix2 ⟨256 * t.val - 8 + j.val, by have := lt_of_lt_of_eq t.isLt N_0; omega⟩ k) := by
  have hN : t.val < 64 := lt_of_lt_of_eq t.isLt N_0
  rw [place]
  refine (pick t.val 0 (by omega) (by omega) _ _).trans ?_
  by_cases h : t.val = 0
  · rw [if_pos h, dif_pos h]
  · rw [if_neg h, dif_neg h]
    blk_point [iblk, V, idx t]

/-- The row before a row. -/
theorem before1 (c : Dev nD) (t : Fin cfg0.N) (r : Fin 256) (k : Fin 2816) : Scalar.select (α := EReal) (IntOp.cmpi CmpIPredicate.eq (BitVec.ofNat 32 r.val) 0#32) (Scalar.select (α := EReal) (Scalar.cmpi CmpIPredicate.eq (BitVec.ofNat 32 (grid0.coords t 0).val) 0#32) 0 (iblk m c 1 t (ix2 7 k))) (iblk m c 0 t (ix2 ⟨(r.val + 256 - 1) % 256, Nat.mod_lt _ (by omega)⟩ k)) = back (m ((c : Thread nD τ).loc main_arg0)) ⟨256 * t.val + r.val, by have := lt_of_lt_of_eq t.isLt N_0; omega⟩ 1 k := by
  have hN : t.val < 64 := lt_of_lt_of_eq t.isLt N_0
  refine (pick r.val 0 (by omega) (by omega) _ _).trans ?_
  unfold back
  by_cases h : r.val = 0
  · rw [if_pos h]
    refine (prev m c t 7 k).trans ?_
    by_cases h0 : t.val = 0
    · rw [dif_pos h0, dif_pos (by show 256 * t.val + r.val < 1; omega)]
    · rw [dif_neg h0, dif_neg (by show ¬ 256 * t.val + r.val < 1; omega)]
      refine congrArg (fun n => (m ((c : Thread nD τ).loc main_arg0)) (ix2 n k)) (Fin.ext ?_)
      show 256 * t.val - 8 + 7 = 256 * t.val + r.val - 1
      omega
  · rw [if_neg h, dif_neg (by show ¬ 256 * t.val + r.val < 1; omega)]
    blk_point [iblk, V, idx t]

/-- The second row before a row. -/
theorem before2 (c : Dev nD) (t : Fin cfg0.N) (r : Fin 256) (k : Fin 2816) : Scalar.select (α := EReal) (IntOp.cmpi CmpIPredicate.eq (BitVec.ofNat 32 r.val) 0#32) (Scalar.select (α := EReal) (Scalar.cmpi CmpIPredicate.eq (BitVec.ofNat 32 (grid0.coords t 0).val) 0#32) 0 (iblk m c 1 t (ix2 6 k))) (Scalar.select (α := EReal) (IntOp.cmpi CmpIPredicate.eq (BitVec.ofNat 32 r.val) 1#32) (Scalar.select (α := EReal) (Scalar.cmpi CmpIPredicate.eq (BitVec.ofNat 32 (grid0.coords t 0).val) 0#32) 0 (iblk m c 1 t (ix2 7 k))) (iblk m c 0 t (ix2 ⟨(r.val + 256 - 2) % 256, Nat.mod_lt _ (by omega)⟩ k))) = back (m ((c : Thread nD τ).loc main_arg0)) ⟨256 * t.val + r.val, by have := lt_of_lt_of_eq t.isLt N_0; omega⟩ 2 k := by
  have hN : t.val < 64 := lt_of_lt_of_eq t.isLt N_0
  refine (pick r.val 0 (by omega) (by omega) _ _).trans ?_
  unfold back
  by_cases h : r.val = 0
  · rw [if_pos h]
    refine (prev m c t 6 k).trans ?_
    by_cases h0 : t.val = 0
    · rw [dif_pos h0, dif_pos (by show 256 * t.val + r.val < 2; omega)]
    · rw [dif_neg h0, dif_neg (by show ¬ 256 * t.val + r.val < 2; omega)]
      refine congrArg (fun n => (m ((c : Thread nD τ).loc main_arg0)) (ix2 n k)) (Fin.ext ?_)
      show 256 * t.val - 8 + 6 = 256 * t.val + r.val - 2
      omega
  · rw [if_neg h]
    refine (pick r.val 1 (by omega) (by omega) _ _).trans ?_
    by_cases h1 : r.val = 1
    · rw [if_pos h1]
      refine (prev m c t 7 k).trans ?_
      by_cases h0 : t.val = 0
      · rw [dif_pos h0, dif_pos (by show 256 * t.val + r.val < 2; omega)]
      · rw [dif_neg h0, dif_neg (by show ¬ 256 * t.val + r.val < 2; omega)]
        refine congrArg (fun n => (m ((c : Thread nD τ).loc main_arg0)) (ix2 n k)) (Fin.ext ?_)
        show 256 * t.val - 8 + 7 = 256 * t.val + r.val - 2
        omega
    · rw [if_neg h1, dif_neg (by show ¬ 256 * t.val + r.val < 2; omega)]
      blk_point [iblk, V, idx t]

/-- Three taps and a bias. -/
def conv (a b d x y z e : EReal) : EReal := a * x + b * y + d * z + e

/-- The convolution at a place of a block. -/
theorem pre (c : Dev nD) (t : Fin cfg0.N) (y : S256x2816.Idx) :
    conv (iblk m c 3 t (ix2 0 (y 1))) (iblk m c 3 t (ix2 1 (y 1))) (iblk m c 3 t (ix2 2 (y 1))) (Scalar.select (α := EReal) (IntOp.cmpi CmpIPredicate.eq (BitVec.ofNat 32 (y 0).val) 0#32) (Scalar.select (α := EReal) (Scalar.cmpi CmpIPredicate.eq (BitVec.ofNat 32 (grid0.coords t 0).val) 0#32) 0 (iblk m c 1 t (ix2 6 (y 1)))) (Scalar.select (α := EReal) (IntOp.cmpi CmpIPredicate.eq (BitVec.ofNat 32 (y 0).val) 1#32) (Scalar.select (α := EReal) (Scalar.cmpi CmpIPredicate.eq (BitVec.ofNat 32 (grid0.coords t 0).val) 0#32) 0 (iblk m c 1 t (ix2 7 (y 1)))) (iblk m c 0 t (ix2 ⟨((y 0).val + 256 - 2) % 256, Nat.mod_lt _ (by omega)⟩ (y 1))))) (Scalar.select (α := EReal) (IntOp.cmpi CmpIPredicate.eq (BitVec.ofNat 32 (y 0).val) 0#32) (Scalar.select (α := EReal) (Scalar.cmpi CmpIPredicate.eq (BitVec.ofNat 32 (grid0.coords t 0).val) 0#32) 0 (iblk m c 1 t (ix2 7 (y 1)))) (iblk m c 0 t (ix2 ⟨((y 0).val + 256 - 1) % 256, Nat.mod_lt _ (by omega)⟩ (y 1))))
      (iblk m c 0 t y) (iblk m c 4 t (ix2 0 (y 1))) = val_main_v25 (F := Ideal) (m ((c : Thread nD τ).loc main_arg0)) (m ((c : Thread nD τ).loc main_arg2)) (m ((c : Thread nD τ).loc main_arg3)) ((ix2 ⟨256 * t.val + (y 0).val, by have := lt_of_lt_of_eq t.isLt N_0; have : (y 0).val < 256 := (y 0).isLt; omega⟩ (y 1))) := by
  have hN : t.val < 64 := lt_of_lt_of_eq t.isLt N_0
  have hy : (y 0).val < 256 := (y 0).isLt
  pointwise [val_main_v0, val_main_v1, val_main_cst, val_main_v2, val_main_v3, val_main_v4, val_main_v5, val_main_v6, val_main_v7, val_main_v8, val_main_v9, val_main_cst_0, val_main_v10, val_main_v11, val_main_v12, val_main_v13, val_main_v14, val_main_v15, val_main_v16, val_main_v17, val_main_v18, val_main_v19, val_main_v20, val_main_v21, val_main_v22, val_main_v23, val_main_v24, val_main_v25]
  unfold conv
  refine congrArg₂ (HAdd.hAdd (α := EReal) (β := EReal) (γ := EReal)) (congrArg₂ (HAdd.hAdd (α := EReal) (β := EReal) (γ := EReal))
    (congrArg₂ (HAdd.hAdd (α := EReal) (β := EReal) (γ := EReal)) (congrArg₂ (HMul.hMul (α := EReal) (β := EReal) (γ := EReal)) ?_ (before2 m c t (y 0) (y 1)))
      (congrArg₂ (HMul.hMul (α := EReal) (β := EReal) (γ := EReal)) ?_ (before1 m c t (y 0) (y 1)))) ?_) (bias m c t (y 1))
  · blk_point [iblk, V, idx t]
  · blk_point [iblk, V, idx t]
  · blk_point [iblk, V, idx t]

/-- The gradient of the activation as the program adds it up. -/
def sumOf (u d g : EReal) : EReal :=
  Ideal.ofBits .f32 1061962282#32 * (Ideal.ofBits .f32 1056964608#32 * u * (d * g) * ((1 + Ideal.tanh (Ideal.ofBits .f32 1061962282#32 * (u + Ideal.ofBits .f32 1027024659#32 * (u * u * u)))) * (1 - Ideal.tanh (Ideal.ofBits .f32 1061962282#32 * (u + Ideal.ofBits .f32 1027024659#32 * (u * u * u)))))) + u * u * (Ideal.ofBits .f32 1027024659#32 * (Ideal.ofBits .f32 1061962282#32 * (Ideal.ofBits .f32 1056964608#32 * u * (d * g) * ((1 + Ideal.tanh (Ideal.ofBits .f32 1061962282#32 * (u + Ideal.ofBits .f32 1027024659#32 * (u * u * u)))) * (1 - Ideal.tanh (Ideal.ofBits .f32 1061962282#32 * (u + Ideal.ofBits .f32 1027024659#32 * (u * u * u)))))))) + u * (Ideal.ofBits .f32 1027024659#32 * (Ideal.ofBits .f32 1061962282#32 * (Ideal.ofBits .f32 1056964608#32 * u * (d * g) * ((1 + Ideal.tanh (Ideal.ofBits .f32 1061962282#32 * (u + Ideal.ofBits .f32 1027024659#32 * (u * u * u)))) * (1 - Ideal.tanh (Ideal.ofBits .f32 1061962282#32 * (u + Ideal.ofBits .f32 1027024659#32 * (u * u * u))))))) * u) + Ideal.ofBits .f32 1027024659#32 * (Ideal.ofBits .f32 1061962282#32 * (Ideal.ofBits .f32 1056964608#32 * u * (d * g) * ((1 + Ideal.tanh (Ideal.ofBits .f32 1061962282#32 * (u + Ideal.ofBits .f32 1027024659#32 * (u * u * u)))) * (1 - Ideal.tanh (Ideal.ofBits .f32 1061962282#32 * (u + Ideal.ofBits .f32 1027024659#32 * (u * u * u))))))) * u * u + Ideal.ofBits .f32 1056964608#32 * (d * g * (1 + Ideal.tanh (Ideal.ofBits .f32 1061962282#32 * (u + Ideal.ofBits .f32 1027024659#32 * (u * u * u)))))

/-- The gated activation's derivative as the program multiplies it. -/
def gateOf (u d : EReal) : EReal := d * (Ideal.ofBits .f32 1056964608#32 * u * (1 + Ideal.tanh (Ideal.ofBits .f32 1061962282#32 * (u + Ideal.ofBits .f32 1027024659#32 * (u * u * u)))))

/-- The order of the factors does not matter. -/
theorem gateOf_eq (u d : EReal) : gateOf u d = u * (Ideal.ofBits .f32 1056964608#32 * (1 + Ideal.tanh (Ideal.ofBits .f32 1061962282#32 * (u + Ideal.ofBits .f32 1027024659#32 * (u * u * u))))) * d := by
  unfold gateOf
  rw [mul_comm (Ideal.ofBits .f32 1056964608#32) u, mul_assoc u, mul_comm]

/-- Three times a number is the number added three times. -/
theorem three (x : EReal) : Ideal.ofBits .f32 1077936128#32 * x = x + x + x := by
  have e : Ideal.ofBits .f32 1077936128#32 = ((3 : ℝ) : EReal) := by
    simp [Ideal.ofBits, Ideal.ieee, -EReal.coe_mul]; norm_num
  have e3 : ((3 : ℝ) : EReal) = 1 + 1 + 1 := by
    rw [← EReal.coe_one, ← EReal.coe_add, ← EReal.coe_add]
    norm_num
  rw [e, e3, EReal.right_distrib_of_nonneg (add_nonneg zero_le_one zero_le_one) zero_le_one, EReal.right_distrib_of_nonneg zero_le_one zero_le_one, one_mul]

/-- The program's sum is the derivative of the activation times the gate. -/
theorem sumOf_eq (u d g : EReal) : sumOf u d g = d * g * (Ideal.ofBits .f32 1056964608#32 * (1 + Ideal.tanh (Ideal.ofBits .f32 1061962282#32 * (u + Ideal.ofBits .f32 1027024659#32 * (u * u * u))))) + Ideal.ofBits .f32 1061962282#32 * (Ideal.ofBits .f32 1056964608#32 * (u * (d * g)) * ((1 + Ideal.tanh (Ideal.ofBits .f32 1061962282#32 * (u + Ideal.ofBits .f32 1027024659#32 * (u * u * u)))) * (1 - Ideal.tanh (Ideal.ofBits .f32 1061962282#32 * (u + Ideal.ofBits .f32 1027024659#32 * (u * u * u)))))) + Ideal.ofBits .f32 1027024659#32 * (Ideal.ofBits .f32 1061962282#32 * (Ideal.ofBits .f32 1056964608#32 * (u * (d * g)) * ((1 + Ideal.tanh (Ideal.ofBits .f32 1061962282#32 * (u + Ideal.ofBits .f32 1027024659#32 * (u * u * u)))) * (1 - Ideal.tanh (Ideal.ofBits .f32 1061962282#32 * (u + Ideal.ofBits .f32 1027024659#32 * (u * u * u))))))) * (Ideal.ofBits .f32 1077936128#32 * (u * u)) := by
  unfold sumOf
  generalize Ideal.tanh (Ideal.ofBits .f32 1061962282#32 * (u + Ideal.ofBits .f32 1027024659#32 * (u * u * u))) = w
  rw [mul_assoc (Ideal.ofBits .f32 1056964608#32) u (d * g)]
  generalize Ideal.ofBits .f32 1061962282#32 * (Ideal.ofBits .f32 1056964608#32 * (u * (d * g)) * ((1 + w) * (1 - w))) = p
  rw [mul_left_comm (Ideal.ofBits .f32 1056964608#32) (d * g)]
  generalize d * g * (Ideal.ofBits .f32 1056964608#32 * (1 + w)) = s
  rw [mul_left_comm (Ideal.ofBits .f32 1027024659#32 * p) _ (u * u), three]
  generalize Ideal.ofBits .f32 1027024659#32 * p = q
  have e1 : u * u * q = q * (u * u) := mul_comm _ _
  have e2 : u * (q * u) = q * (u * u) := mul_left_comm _ _ _
  have e3 : q * u * u = q * (u * u) := mul_assoc _ _ _
  rw [e1, e2, e3]
  abel

/-- A row before, in the program's block. -/
theorem near1 (c : Dev nD) (t : Fin cfg0.N) : k0_pay8 (grid0.coords t) (iblk m c 0 t) (iblk m c 1 t)
    = fun y : S256x2816.Idx => back (m ((c : Thread nD τ).loc main_arg0)) ⟨256 * t.val + (y 0).val, by have := lt_of_lt_of_eq t.isLt N_0; have : (y 0).val < 256 := (y 0).isLt; omega⟩ 1 (y 1) := by
  funext y
  unfold_payloads
  pointwise
  exact before1 m c t (y 0) (y 1)

/-- A second row before, in the program's block. -/
theorem near2 (c : Dev nD) (t : Fin cfg0.N) : k0_pay9 (grid0.coords t) (iblk m c 0 t) (iblk m c 1 t)
    = fun y : S256x2816.Idx => back (m ((c : Thread nD τ).loc main_arg0)) ⟨256 * t.val + (y 0).val, by have := lt_of_lt_of_eq t.isLt N_0; have : (y 0).val < 256 := (y 0).isLt; omega⟩ 2 (y 1) := by
  funext y
  unfold_payloads
  pointwise
  exact before2 m c t (y 0) (y 1)

/-- The program's block of the convolution. -/
theorem inner (c : Dev nD) (t : Fin cfg0.N) : k0_pay10 (grid0.coords t) (iblk m c 0 t) (iblk m c 1 t) (iblk m c 3 t) (iblk m c 4 t)
    = fun y : S256x2816.Idx => val_main_v25 (F := Ideal) (m ((c : Thread nD τ).loc main_arg0)) (m ((c : Thread nD τ).loc main_arg2)) (m ((c : Thread nD τ).loc main_arg3)) (ix2 ⟨256 * t.val + (y 0).val, by have := lt_of_lt_of_eq t.isLt N_0; have : (y 0).val < 256 := (y 0).isLt; omega⟩ (y 1)) := by
  funext y
  refine Eq.trans ?_ (pre m c t y)
  unfold_payloads
  pointwise
  rfl

/-- The program's block of the activation's gradient. -/
theorem slope (c : Dev nD) (t : Fin cfg0.N) : k0_pay17 (k0_pay10 (grid0.coords t) (iblk m c 0 t) (iblk m c 1 t) (iblk m c 3 t) (iblk m c 4 t)) k0_pay11 (iblk m c 5 t) (iblk m c 2 t)
    = fun y : S256x2816.Idx => val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨256 * t.val + (y 0).val, by have := lt_of_lt_of_eq t.isLt N_0; have : (y 0).val < 256 := (y 0).isLt; omega⟩ (y 1)) := by
  have hN : t.val < 64 := lt_of_lt_of_eq t.isLt N_0
  funext y
  rw [inner]
  unfold_payloads
  pointwise [val_main_v26, val_main_v27, val_main_v28, val_main_cst_1, val_main_v29, val_main_v30, val_main_cst_2, val_main_v31, val_main_v32, val_main_v33, val_main_cst_3, val_main_v34, val_main_v35, val_main_v36, val_main_cst_4, val_main_v37, val_main_v38, val_main_cst_5, val_main_v39, val_main_v40, val_main_v41, val_main_cst_6, val_main_v42, val_main_v43, val_main_cst_7, val_main_v44, val_main_v45, val_main_v46, val_main_v47, val_main_v48, val_main_v49, val_main_v50, val_main_v51, val_main_cst_8, val_main_v52, val_main_v53, val_main_v54, val_main_cst_9, val_main_v55, val_main_v56, val_main_v57, val_main_cst_10, val_main_v58, val_main_v59, val_main_v60, val_main_v61, val_main_v85]
  have d : iblk m c 5 t y = (m ((c : Thread nD τ).loc main_arg4)) (ix2 ⟨256 * t.val + (y 0).val, by have := lt_of_lt_of_eq t.isLt N_0; have : (y 0).val < 256 := (y 0).isLt; omega⟩ (y 1)) := by blk_point [iblk, V, idx t]
  have g : iblk m c 2 t y = (m ((c : Thread nD τ).loc main_arg1)) (ix2 ⟨256 * t.val + (y 0).val, by have := lt_of_lt_of_eq t.isLt N_0; have : (y 0).val < 256 := (y 0).isLt; omega⟩ (y 1)) := by blk_point [iblk, V, idx t]
  rw [d, g]
  exact sumOf_eq _ _ _

/-- Output 6 ends as the gradient of the activation. -/
theorem rows (c : Dev nD) : (dats m 0 c).arrAt 6 cfg0.N = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  by_cases h0 : t.val % 64 = 0
  · rw [outsAt0_A m c t h0]
    frame_out
    rw [slope]
    exact congrArg (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (by blk_ext [idx t])
  · rw [outsAt0_B m c t h0]
    frame_out
    rw [slope]
    exact congrArg (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (by blk_ext [idx t])

/-- Output 7 ends as the gradient of the gate. -/
theorem gates (c : Dev nD) : (dats m 0 c).arrAt 7 cfg0.N = val_main_v85 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 7 _ (by decide +kernel) fun t _ y => ?_
  have hN : t.val < 64 := lt_of_lt_of_eq t.isLt N_0
  have d : iblk m c 5 t y = (m ((c : Thread nD τ).loc main_arg4)) (ix2 ⟨256 * t.val + (y 0).val, by have := lt_of_lt_of_eq t.isLt N_0; have : (y 0).val < 256 := (y 0).isLt; omega⟩ (y 1)) := by blk_point [iblk, V, idx t]
  have e : (((View.whole main_v1_1).slice (win0_7.rect t)).emb y) = (ix2 ⟨256 * t.val + (y 0).val, by have := lt_of_lt_of_eq t.isLt N_0; have : (y 0).val < 256 := (y 0).isLt; omega⟩ (y 1)) := by blk_ext [idx t]
  blk_simp
  rw [after0_7]
  by_cases h0 : t.val % 64 = 0
  · rw [outsAt0_A m c t h0]
    frame_out
    rw [inner]
    unfold_payloads
    pointwise [val_main_v26, val_main_v27, val_main_v28, val_main_cst_1, val_main_v29, val_main_v30, val_main_cst_2, val_main_v31, val_main_v32, val_main_v33, val_main_cst_3, val_main_v34, val_main_v35, val_main_v36, val_main_cst_4, val_main_v37, val_main_v38, val_main_cst_5, val_main_v39, val_main_v40, val_main_v41, val_main_cst_6, val_main_v42, val_main_v43, val_main_cst_7, val_main_v44, val_main_v45, val_main_v46, val_main_v47, val_main_v48, val_main_v49, val_main_v50, val_main_v51, val_main_cst_8, val_main_v52, val_main_v53, val_main_v54, val_main_cst_9, val_main_v55, val_main_v56, val_main_v57, val_main_cst_10, val_main_v58, val_main_v59, val_main_v60, val_main_v61, val_main_v85]
    rw [d, e]
    exact gateOf_eq _ _
  · rw [outsAt0_B m c t h0]
    frame_out
    rw [inner]
    unfold_payloads
    pointwise [val_main_v26, val_main_v27, val_main_v28, val_main_cst_1, val_main_v29, val_main_v30, val_main_cst_2, val_main_v31, val_main_v32, val_main_v33, val_main_cst_3, val_main_v34, val_main_v35, val_main_v36, val_main_cst_4, val_main_v37, val_main_v38, val_main_cst_5, val_main_v39, val_main_v40, val_main_v41, val_main_cst_6, val_main_v42, val_main_v43, val_main_cst_7, val_main_v44, val_main_v45, val_main_v46, val_main_v47, val_main_v48, val_main_v49, val_main_v50, val_main_v51, val_main_cst_8, val_main_v52, val_main_v53, val_main_v54, val_main_cst_9, val_main_v55, val_main_v56, val_main_v57, val_main_cst_10, val_main_v58, val_main_v59, val_main_v60, val_main_v61, val_main_v85]
    rw [d, e]
    exact gateOf_eq _ _

end Cert.FfnBackIdeal.Value
end
-- ==== Proof.FfnBackBias.lean ====
module
public import proofs.«01_k».proof.Proof.Gen.FfnBackIdeal.Value
public import proofs.«01_k».proof.Proof.Gen.FfnBackRefIdeal.Read
public import Idealize.ShloMosaic.Lib.Pipeline.ValueKit
public import Idealize.ShloMosaic.Lib.Pipeline.ReadBack
public import proofs.«01_k».proof.Proof.FfnBackValue
@[expose] public section
set_option maxRecDepth 16384
noncomputable section
namespace Cert.FfnBackIdeal.Value
open Idealize.ShloMosaic Idealize.ShloMosaic.TcCoe Idealize.SL.Sem
open Idealize.ShloMosaic.Pipeline (Dat)
open Cert.FfnBackIdeal Cert.FfnBackIdeal.Gen
open Cert.FfnBackRefIdeal.Read
variable (m : (ℓ : Loc nD τ sig) → Buf (Elt Ideal) ℓ)

/-- The first step starts the sum over the rows at its own rows. -/
theorem bias_first (c : Dev nD) (t : Fin cfg0.N) (h0 : t.val % 64 = 0) (y : S1x2816.Idx) :
    (outsAt0 m c t.val t.isLt).2.2.2 y = ∑ r : Fin 256, val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨256 * t.val + r.val, by have := lt_of_lt_of_eq t.isLt N_0; omega⟩ (y 1)) := by
  rw [outsAt0_A m c t h0]
  frame_out
  rw [slope]
  unfold_payloads
  pointwise

/-- A later step adds its own rows to the sum. -/
theorem bias_next (c : Dev nD) (t : Fin cfg0.N) (h0 : ¬ t.val % 64 = 0) (y : S1x2816.Idx) :
    (outsAt0 m c t.val t.isLt).2.2.2 y = (outsAt0 m c (t.val - 1) (Nat.lt_of_le_of_lt (Nat.sub_le _ _) t.isLt)).2.2.2 y + ∑ r : Fin 256, val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨256 * t.val + r.val, by have := lt_of_lt_of_eq t.isLt N_0; omega⟩ (y 1)) := by
  rw [outsAt0_B m c t h0]
  frame_out
  rw [slope]
  unfold_payloads
  pointwise

/-- Output 9 ends as the gradient of the bias. -/
theorem biases (c : Dev nD) : (dats m 0 c).arrAt 9 cfg0.N = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  rw [Pipeline.eq_sum_fin_of_reset_step_apply_of_flush (fun n h => (outsAt0 m c n h).2.2.2) 64 (fun _ => 0)
    (fun t y => ∑ r : Fin 256, val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨256 * t.val + r.val, by have := lt_of_lt_of_eq t.isLt N_0; omega⟩ (y 1)))
    (fun t h y => (bias_first m c t h y).trans (zero_add _).symm) (fun t h y => bias_next m c t h y) t ((flush0_9 t).mp hf) y]
  have hq : 64 * (t.val / 64) = 0 := by have := lt_of_lt_of_eq t.isLt N_0; omega
  pointwise [val_main_v86, val_main_v64, val_main_v63, val_main_v62, val_main_cst_11, val_main_cst_12]
  refine Eq.trans (α := EReal) ?_ (Fin.sum_univ_one (M := EReal) _).symm
  refine Fin.sum_mul_add_congr (S := 64) (n := 256) (fun s k hl => ?_)
  refine congrArg (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4))) ?_
  blk_ext [idx t]

end Cert.FfnBackIdeal.Value
end
-- ==== Proof.FfnBackTaps.lean ====
module
public import proofs.«01_k».proof.Proof.Gen.FfnBackIdeal.Value
public import proofs.«01_k».proof.Proof.Gen.FfnBackRefIdeal.Read
public import Idealize.ShloMosaic.Lib.Pipeline.ValueKit
public import Idealize.ShloMosaic.Lib.Pipeline.ReadBack
public import proofs.«01_k».proof.Proof.FfnBackValue
@[expose] public section
set_option maxRecDepth 16384
noncomputable section
namespace Cert.FfnBackIdeal.Value
open Idealize.ShloMosaic Idealize.ShloMosaic.TcCoe Idealize.SL.Sem
open Idealize.ShloMosaic.Pipeline (Dat)
open Cert.FfnBackIdeal Cert.FfnBackIdeal.Gen
open Cert.FfnBackRefIdeal.Read
variable (m : (ℓ : Loc nD τ sig) → Buf (Elt Ideal) ℓ)

/-- No rows before is the row. -/
theorem back_zero (x : FVec Ideal S16384x2816 .f32) (n : Fin 16384) (k : Fin 2816) : x (ix2 n k) = back x n 0 k := by
  unfold back
  rw [dif_neg (by omega)]
  rfl

/-- The same row and lane. -/
theorem back_congr (x : FVec Ideal S16384x2816 .f32) (n : Fin 16384) {s s' : ℕ} {k k' : Fin 2816} (hs : s = s') (hk : k.val = k'.val) : back x n s k = back x n s' k' := by
  rw [hs, Fin.ext hk]

/-- The reference's rows, one later. -/
theorem ref1 (x : FVec Ideal S16384x2816 .f32) (n : Fin 16384) (k : Fin 2816) : val_main_v12 (F := Ideal) x (ix2 n k) = back x n 1 k := by
  unfold back
  pointwise [val_main_v0, val_main_v1, val_main_cst, val_main_v2, val_main_v3, val_main_v4, val_main_v5, val_main_v6, val_main_v7, val_main_v8, val_main_v9, val_main_cst_0, val_main_v10, val_main_v11, val_main_v12, val_main_v13, val_main_v14, val_main_v15, val_main_v16, val_main_v17, val_main_v18, val_main_v19, val_main_v20, val_main_v21, val_main_v22, val_main_v23, val_main_v24, val_main_v25]

/-- The reference's rows, two later. -/
theorem ref2 (x : FVec Ideal S16384x2816 .f32) (n : Fin 16384) (k : Fin 2816) : val_main_v4 (F := Ideal) x (ix2 n k) = back x n 2 k := by
  unfold back
  pointwise [val_main_v0, val_main_v1, val_main_cst, val_main_v2, val_main_v3, val_main_v4, val_main_v5, val_main_v6, val_main_v7, val_main_v8, val_main_v9, val_main_cst_0, val_main_v10, val_main_v11, val_main_v12, val_main_v13, val_main_v14, val_main_v15, val_main_v16, val_main_v17, val_main_v18, val_main_v19, val_main_v20, val_main_v21, val_main_v22, val_main_v23, val_main_v24, val_main_v25]

/-- The first step starts the three sums over the rows at its own rows. -/
theorem tap_first (c : Dev nD) (t : Fin cfg0.N) (h0 : t.val % 64 = 0) (y : S3x2816.Idx) :
    (outsAt0 m c t.val t.isLt).2.2.1 y = ∑ r : Fin 256, HMul.hMul (α := EReal) (β := EReal) (γ := EReal) (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨256 * t.val + r.val, by have := lt_of_lt_of_eq t.isLt N_0; omega⟩ (y 1))) (back (m ((c : Thread nD τ).loc main_arg0)) ⟨256 * t.val + r.val, by have := lt_of_lt_of_eq t.isLt N_0; omega⟩ (2 - (y 0).val) (y 1)) := by
  have hN : t.val < 64 := lt_of_lt_of_eq t.isLt N_0
  rw [outsAt0_A m c t h0]
  frame_open
  simp (disch := decide) only [↓ View.readCov_skip, ↓ View.readCov_cons_toLoadRect, ↓ View.readCov_fill]
  frame_out
  refine View.canon_append_of_piecesOf (Val := Elt Ideal) (e := .f32) (fun y : S3x2816.Idx => ∑ r : Fin 256, HMul.hMul (α := EReal) (β := EReal) (γ := EReal) (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨256 * t.val + r.val, by have := lt_of_lt_of_eq t.isLt N_0; omega⟩ (y 1))) (back (m ((c : Thread nD τ).loc main_arg0)) ⟨256 * t.val + r.val, by have := lt_of_lt_of_eq t.isLt N_0; omega⟩ (2 - (y 0).val) (y 1))) [_] [_, _, _] ⟨?_, ?_, ?_, trivial⟩ y ?_
  · intro x
    dsimp only
    rw [slope]
    unfold_payloads
    pointwise
    refine Finset.sum_congr rfl fun r _ => ?_
    refine congrArg₂ (HMul.hMul (α := EReal) (β := EReal) (γ := EReal)) (congrArg (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (by blk_ext [idx t])) ?_
    refine Eq.trans (Eq.trans (by blk_point [iblk, V, idx t]) (back_zero (m ((c : Thread nD τ).loc main_arg0)) ⟨256 * t.val + r.val, by have := lt_of_lt_of_eq t.isLt N_0; omega⟩ (x 1))) (back_congr _ _ ?_ ?_)
    · rw [ValueKit.rect_emb_unit_val]
      show 0 = 2 - (2 + (x 0).val)
      have : (x 0).val < 1 := (x 0).isLt
      omega
    · rw [ValueKit.rect_emb_unit_val]
      exact (Nat.zero_add _).symm
  · intro x
    dsimp only
    rw [slope]
    rw [near1]
    unfold_payloads
    pointwise
    refine Finset.sum_congr rfl fun r _ => ?_
    refine congrArg₂ (HMul.hMul (α := EReal) (β := EReal) (γ := EReal)) (congrArg (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (by blk_ext [idx t])) ?_
    refine Eq.trans rfl (back_congr _ _ ?_ ?_)
    · rw [ValueKit.rect_emb_unit_val]
      show 1 = 2 - (1 + (x 0).val)
      have : (x 0).val < 1 := (x 0).isLt
      omega
    · rw [ValueKit.rect_emb_unit_val]
      exact (Nat.zero_add _).symm
  · intro x
    dsimp only
    rw [slope]
    rw [near2]
    unfold_payloads
    pointwise
    refine Finset.sum_congr rfl fun r _ => ?_
    refine congrArg₂ (HMul.hMul (α := EReal) (β := EReal) (γ := EReal)) (congrArg (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (by blk_ext [idx t])) ?_
    refine Eq.trans rfl (back_congr _ _ ?_ ?_)
    · rw [ValueKit.rect_emb_unit_val]
      show 2 = 2 - (0 + (x 0).val)
      have : (x 0).val < 1 := (x 0).isLt
      omega
    · rw [ValueKit.rect_emb_unit_val]
      exact (Nat.zero_add _).symm
  · exact View.cover_of_tiledL _ ![1, 2816] (by sl_kernel_rfl) y

/-- A later step adds its own rows to the three sums. -/
theorem tap_next (c : Dev nD) (t : Fin cfg0.N) (h0 : ¬ t.val % 64 = 0) (y : S3x2816.Idx) :
    (outsAt0 m c t.val t.isLt).2.2.1 y = (outsAt0 m c (t.val - 1) (Nat.lt_of_le_of_lt (Nat.sub_le _ _) t.isLt)).2.2.1 y + ∑ r : Fin 256, HMul.hMul (α := EReal) (β := EReal) (γ := EReal) (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨256 * t.val + r.val, by have := lt_of_lt_of_eq t.isLt N_0; omega⟩ (y 1))) (back (m ((c : Thread nD τ).loc main_arg0)) ⟨256 * t.val + r.val, by have := lt_of_lt_of_eq t.isLt N_0; omega⟩ (2 - (y 0).val) (y 1)) := by
  have hN : t.val < 64 := lt_of_lt_of_eq t.isLt N_0
  rw [outsAt0_B m c t h0]
  frame_open
  simp (disch := decide) only [↓ View.readCov_skip, ↓ View.readCov_cons_toLoadRect, ↓ View.readCov_fill]
  frame_out
  refine View.canon_append_of_piecesOf (Val := Elt Ideal) (e := .f32) (fun y : S3x2816.Idx => HAdd.hAdd (α := EReal) (β := EReal) (γ := EReal) ((outsAt0 m c (t.val - 1) (Nat.lt_of_le_of_lt (Nat.sub_le _ _) t.isLt)).2.2.1 y) (∑ r : Fin 256, HMul.hMul (α := EReal) (β := EReal) (γ := EReal) (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨256 * t.val + r.val, by have := lt_of_lt_of_eq t.isLt N_0; omega⟩ (y 1))) (back (m ((c : Thread nD τ).loc main_arg0)) ⟨256 * t.val + r.val, by have := lt_of_lt_of_eq t.isLt N_0; omega⟩ (2 - (y 0).val) (y 1)))) [] [_, _, _] ⟨?_, ?_, ?_, trivial⟩ y ?_
  · intro x
    dsimp only
    rw [slope]
    unfold_payloads
    pointwise
    refine congrArg₂ (fun a b : EReal => a + b) (congrArg _ (by blk_ext [idx t])) ?_
    refine Finset.sum_congr rfl fun r _ => ?_
    refine congrArg₂ (HMul.hMul (α := EReal) (β := EReal) (γ := EReal)) (congrArg (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (by blk_ext [idx t])) ?_
    refine Eq.trans (Eq.trans (by blk_point [iblk, V, idx t]) (back_zero (m ((c : Thread nD τ).loc main_arg0)) ⟨256 * t.val + r.val, by have := lt_of_lt_of_eq t.isLt N_0; omega⟩ (x 1))) (back_congr _ _ ?_ ?_)
    · rw [ValueKit.rect_emb_unit_val]
      show 0 = 2 - (2 + (x 0).val)
      have : (x 0).val < 1 := (x 0).isLt
      omega
    · rw [ValueKit.rect_emb_unit_val]
      exact (Nat.zero_add _).symm
  · intro x
    dsimp only
    rw [slope]
    rw [near1]
    unfold_payloads
    pointwise
    refine congrArg₂ (fun a b : EReal => a + b) (congrArg _ (by blk_ext [idx t])) ?_
    refine Finset.sum_congr rfl fun r _ => ?_
    refine congrArg₂ (HMul.hMul (α := EReal) (β := EReal) (γ := EReal)) (congrArg (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (by blk_ext [idx t])) ?_
    refine Eq.trans rfl (back_congr _ _ ?_ ?_)
    · rw [ValueKit.rect_emb_unit_val]
      show 1 = 2 - (1 + (x 0).val)
      have : (x 0).val < 1 := (x 0).isLt
      omega
    · rw [ValueKit.rect_emb_unit_val]
      exact (Nat.zero_add _).symm
  · intro x
    dsimp only
    rw [slope]
    rw [near2]
    unfold_payloads
    pointwise
    refine congrArg₂ (fun a b : EReal => a + b) (congrArg _ (by blk_ext [idx t])) ?_
    refine Finset.sum_congr rfl fun r _ => ?_
    refine congrArg₂ (HMul.hMul (α := EReal) (β := EReal) (γ := EReal)) (congrArg (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (by blk_ext [idx t])) ?_
    refine Eq.trans rfl (back_congr _ _ ?_ ?_)
    · rw [ValueKit.rect_emb_unit_val]
      show 2 = 2 - (0 + (x 0).val)
      have : (x 0).val < 1 := (x 0).isLt
      omega
    · rw [ValueKit.rect_emb_unit_val]
      exact (Nat.zero_add _).symm
  · exact View.cover_of_tiledL _ ![1, 2816] (by sl_kernel_rfl) y
/-- A tap's sum over all rows. -/
theorem tap_sum (y : S3x2816.Idx) (c : Dev nD) : val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) y = ∑ n : Fin 16384, HMul.hMul (α := EReal) (β := EReal) (γ := EReal) (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 n (y 1))) (back (m ((c : Thread nD τ).loc main_arg0)) n (2 - (y 0).val) (y 1)) := by
  have hy : (y 0).val < 3 := (y 0).isLt
  pointwise [val_main_v65, val_main_cst_11, val_main_v62, val_main_v63, val_main_cst_12, val_main_v64, val_main_cst_13, val_main_v66, val_main_v67, val_main_cst_14, val_main_v68, val_main_v69, val_main_cst_15, val_main_v70, val_main_v71, val_main_cst_16, val_main_v72, val_main_v73, val_main_cst_17, val_main_v74, val_main_v75, val_main_cst_18, val_main_v76, val_main_v77, val_main_v78, val_main_cst_19, val_main_v79, val_main_v80, val_main_cst_20, val_main_v81, val_main_v82, val_main_cst_21, val_main_v83, val_main_v84]
  obtain h | h | h : (y 0).val = 0 ∨ (y 0).val = 1 ∨ (y 0).val = 2 := by omega
  · rw [dif_neg (by omega), dif_neg (by omega), dif_pos (by omega), zero_add, zero_add, h]
    refine (Fin.sum_univ_one (M := EReal) _).trans (Finset.sum_congr rfl fun n _ => ?_)
    exact congrArg _ (ref2 _ n (y 1))
  · rw [dif_neg (by omega), dif_pos (by omega), dif_neg (by omega), zero_add, add_zero, h]
    refine (Fin.sum_univ_one (M := EReal) _).trans (Finset.sum_congr rfl fun n _ => ?_)
    exact congrArg _ (ref1 _ n (y 1))
  · rw [dif_pos (by omega), dif_neg (by omega), dif_neg (by omega), add_zero, add_zero, h]
    refine (Fin.sum_univ_one (M := EReal) _).trans (Finset.sum_congr rfl fun n _ => ?_)
    exact congrArg _ (back_zero _ n (y 1))

/-- Output 8 ends as the gradient of the taps. -/
theorem taps (c : Dev nD) : (dats m 0 c).arrAt 8 cfg0.N = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  rw [Pipeline.eq_sum_fin_of_reset_step_apply_of_flush (fun n h => (outsAt0 m c n h).2.2.1) 64 (fun _ => 0)
    (fun t y => ∑ r : Fin 256, HMul.hMul (α := EReal) (β := EReal) (γ := EReal) (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨256 * t.val + r.val, by have := lt_of_lt_of_eq t.isLt N_0; omega⟩ (y 1))) (back (m ((c : Thread nD τ).loc main_arg0)) ⟨256 * t.val + r.val, by have := lt_of_lt_of_eq t.isLt N_0; omega⟩ (2 - (y 0).val) (y 1)))
    (fun t h y => (tap_first m c t h y).trans (zero_add _).symm) (fun t h y => tap_next m c t h y) t ((flush0_8 t).mp hf) y]
  have hq : 64 * (t.val / 64) = 0 := by have := lt_of_lt_of_eq t.isLt N_0; omega
  have e : ((View.whole main_v1_2).slice (win0_8.rect t)).emb y = y := by blk_ext [idx t]
  rw [e, tap_sum]
  refine (zero_add (M := EReal) _).trans (Fin.sum_mul_add_congr (S := 64) (n := 256) (fun s k hl => ?_))
  refine congrArg (fun n => HMul.hMul (α := EReal) (β := EReal) (γ := EReal) (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 n (y 1))) (back (m ((c : Thread nD τ).loc main_arg0)) n (2 - (y 0).val) (y 1))) (Fin.ext ?_)
  dsimp only
  omega

end Cert.FfnBackIdeal.Value
end
-- ==== Proof.FfnBackClaim.lean ====
module
public import proofs.«01_k».proof.Defs
public import proofs.«01_k».proof.Proof.Gen.FfnBackIdeal.Value
public import proofs.«01_k».proof.Proof.Gen.FfnBackRefIdeal.Run
public import proofs.«01_k».proof.Proof.Gen.FfnBackRefIdeal.Read
public import proofs.«01_k».proof.Proof.FfnBackValue
public import proofs.«01_k».proof.Proof.FfnBackBias
public import proofs.«01_k».proof.Proof.FfnBackTaps
public import Idealize.ShloMosaic.Adequacy
public import Idealize.ShloMosaic.Init
@[expose] public section
set_option maxRecDepth 16384
noncomputable section
namespace Cert.Proof
open Idealize.ShloMosaic Idealize.ShloMosaic.TcCoe Idealize.SL.Sem

/-- The reference runs, keeps its arguments and ends quiet. -/
theorem frame_FfnBackRefIdeal : Cert.quiescent_FfnBackRefIdeal (hFfnBackRefIdeal := Cert.FfnBackRefIdeal.Gen.facts) := by
  exact fun m g _ => (θ_run _ _ _).mono
    (fun r h => ⟨fun c => (h c).2.2.2.2, sem_eq_zero_of_no_sems (by decide) r.2⟩) (Cert.FfnBackRefIdeal.Value.run (F := Ideal) m g)

/-- The gradients of the gated activation, of the gate, of the taps and of the bias are those of the reference. -/
theorem value_FfnBack : Cert.algebraic_FfnBackIdeal_FfnBackRefIdeal (hFfnBackIdeal := Cert.FfnBackIdeal.Gen.facts) (hFfnBackRefIdeal := Cert.FfnBackRefIdeal.Gen.facts) := by
  intro m g m' g' _ hm
  refine ⟨fun c => Cert.FfnBackRefIdeal.Read.val_main_v61 (F := Ideal) (m ((c : Thread Cert.FfnBackIdeal.nD Cert.FfnBackIdeal.τ).loc Cert.FfnBackIdeal.main_arg0)) (m ((c : Thread Cert.FfnBackIdeal.nD Cert.FfnBackIdeal.τ).loc Cert.FfnBackIdeal.main_arg1)) (m ((c : Thread Cert.FfnBackIdeal.nD Cert.FfnBackIdeal.τ).loc Cert.FfnBackIdeal.main_arg2)) (m ((c : Thread Cert.FfnBackIdeal.nD Cert.FfnBackIdeal.τ).loc Cert.FfnBackIdeal.main_arg3)) (m ((c : Thread Cert.FfnBackIdeal.nD Cert.FfnBackIdeal.τ).loc Cert.FfnBackIdeal.main_arg4)), fun c => Cert.FfnBackRefIdeal.Read.val_main_v85 (F := Ideal) (m ((c : Thread Cert.FfnBackIdeal.nD Cert.FfnBackIdeal.τ).loc Cert.FfnBackIdeal.main_arg0)) (m ((c : Thread Cert.FfnBackIdeal.nD Cert.FfnBackIdeal.τ).loc Cert.FfnBackIdeal.main_arg2)) (m ((c : Thread Cert.FfnBackIdeal.nD Cert.FfnBackIdeal.τ).loc Cert.FfnBackIdeal.main_arg3)) (m ((c : Thread Cert.FfnBackIdeal.nD Cert.FfnBackIdeal.τ).loc Cert.FfnBackIdeal.main_arg4)), fun c => Cert.FfnBackRefIdeal.Read.val_main_v84 (F := Ideal) (m ((c : Thread Cert.FfnBackIdeal.nD Cert.FfnBackIdeal.τ).loc Cert.FfnBackIdeal.main_arg0)) (m ((c : Thread Cert.FfnBackIdeal.nD Cert.FfnBackIdeal.τ).loc Cert.FfnBackIdeal.main_arg1)) (m ((c : Thread Cert.FfnBackIdeal.nD Cert.FfnBackIdeal.τ).loc Cert.FfnBackIdeal.main_arg2)) (m ((c : Thread Cert.FfnBackIdeal.nD Cert.FfnBackIdeal.τ).loc Cert.FfnBackIdeal.main_arg3)) (m ((c : Thread Cert.FfnBackIdeal.nD Cert.FfnBackIdeal.τ).loc Cert.FfnBackIdeal.main_arg4)), fun c => Cert.FfnBackRefIdeal.Read.val_main_v86 (F := Ideal) (m ((c : Thread Cert.FfnBackIdeal.nD Cert.FfnBackIdeal.τ).loc Cert.FfnBackIdeal.main_arg0)) (m ((c : Thread Cert.FfnBackIdeal.nD Cert.FfnBackIdeal.τ).loc Cert.FfnBackIdeal.main_arg1)) (m ((c : Thread Cert.FfnBackIdeal.nD Cert.FfnBackIdeal.τ).loc Cert.FfnBackIdeal.main_arg2)) (m ((c : Thread Cert.FfnBackIdeal.nD Cert.FfnBackIdeal.τ).loc Cert.FfnBackIdeal.main_arg3)) (m ((c : Thread Cert.FfnBackIdeal.nD Cert.FfnBackIdeal.τ).loc Cert.FfnBackIdeal.main_arg4)),
    (θ_run _ _ _).mono (fun r h c => ⟨((h c).1).trans (Cert.FfnBackIdeal.Value.rows m c), ((h c).2.1).trans (Cert.FfnBackIdeal.Value.gates m c), ((h c).2.2.1).trans (Cert.FfnBackIdeal.Value.taps m c), ((h c).2.2.2.1).trans (Cert.FfnBackIdeal.Value.biases m c), (h c).2.2.2.2⟩) (Cert.FfnBackIdeal.Value.run_blocks (F := Ideal) m g),
    (θ_run _ _ _).mono (fun r h c => ?_) (Cert.FfnBackRefIdeal.Value.run (F := Ideal) m' g')⟩
  obtain ⟨e0, e1, e2, e3, e4⟩ := hm c
  have g0 : StableHlo.launchContents m' c (Proc.devRef .tc Cert.FfnBackRefIdeal.main_arg0) = m ((c : Thread Cert.FfnBackIdeal.nD Cert.FfnBackIdeal.τ).loc Cert.FfnBackIdeal.main_arg0) := e0
  have g1 : StableHlo.launchContents m' c (Proc.devRef .tc Cert.FfnBackRefIdeal.main_arg1) = m ((c : Thread Cert.FfnBackIdeal.nD Cert.FfnBackIdeal.τ).loc Cert.FfnBackIdeal.main_arg1) := e1
  have g2 : StableHlo.launchContents m' c (Proc.devRef .tc Cert.FfnBackRefIdeal.main_arg2) = m ((c : Thread Cert.FfnBackIdeal.nD Cert.FfnBackIdeal.τ).loc Cert.FfnBackIdeal.main_arg2) := e2
  have g3 : StableHlo.launchContents m' c (Proc.devRef .tc Cert.FfnBackRefIdeal.main_arg3) = m ((c : Thread Cert.FfnBackIdeal.nD Cert.FfnBackIdeal.τ).loc Cert.FfnBackIdeal.main_arg3) := e3
  have g4 : StableHlo.launchContents m' c (Proc.devRef .tc Cert.FfnBackRefIdeal.main_arg4) = m ((c : Thread Cert.FfnBackIdeal.nD Cert.FfnBackIdeal.τ).loc Cert.FfnBackIdeal.main_arg4) := e4
  exact ⟨(((h c).1).trans (Cert.FfnBackRefIdeal.Read.val_main_v61_eq (F := Ideal) _)).trans (by rw [g0, g1, g2, g3, g4]),
    (((h c).2.1).trans (Cert.FfnBackRefIdeal.Read.val_main_v85_eq (F := Ideal) _)).trans (by rw [g0, g2, g3, g4]),
    (((h c).2.2.1).trans (Cert.FfnBackRefIdeal.Read.val_main_v84_eq (F := Ideal) _)).trans (by rw [g0, g1, g2, g3, g4]),
    (((h c).2.2.2.1).trans (Cert.FfnBackRefIdeal.Read.val_main_v86_eq (F := Ideal) _)).trans (by rw [g0, g1, g2, g3, g4]),
    (h c).2.2.2.2⟩

end Cert.Proof
end
-- ==== Proof.lean ====
module

public import proofs.«01_k».proof.Defs
public import proofs.«01_k».proof.Proof.Gen.Gate.Frame
public import proofs.«01_k».proof.Proof.Gen.GateIdeal.Frame
public import proofs.«01_k».proof.Proof.GateClaim
public import proofs.«01_k».proof.Proof.Gen.DownDx.Frame
public import proofs.«01_k».proof.Proof.Gen.DownDxIdeal.Frame
public import proofs.«01_k».proof.Proof.DownDxClaim
public import proofs.«01_k».proof.Proof.Gen.DownDw.Frame
public import proofs.«01_k».proof.Proof.Gen.DownDwIdeal.Frame
public import proofs.«01_k».proof.Proof.DownDwClaim
public import proofs.«01_k».proof.Proof.Gen.UpDx.Frame
public import proofs.«01_k».proof.Proof.Gen.UpDxIdeal.Frame
public import proofs.«01_k».proof.Proof.UpDxClaim
public import proofs.«01_k».proof.Proof.Gen.GateDx.Frame
public import proofs.«01_k».proof.Proof.Gen.GateDxIdeal.Frame
public import proofs.«01_k».proof.Proof.GateDxClaim
public import proofs.«01_k».proof.Proof.Gen.UpDw.Frame
public import proofs.«01_k».proof.Proof.Gen.UpDwIdeal.Frame
public import proofs.«01_k».proof.Proof.UpDwClaim
public import proofs.«01_k».proof.Proof.Gen.LoDx.Frame
public import proofs.«01_k».proof.Proof.Gen.LoDxIdeal.Frame
public import proofs.«01_k».proof.Proof.LoDxClaim
public import proofs.«01_k».proof.Proof.Gen.HiDx.Frame
public import proofs.«01_k».proof.Proof.Gen.HiDxIdeal.Frame
public import proofs.«01_k».proof.Proof.HiDxClaim
public import proofs.«01_k».proof.Proof.Gen.LoDw.Frame
public import proofs.«01_k».proof.Proof.Gen.LoDwIdeal.Frame
public import proofs.«01_k».proof.Proof.LoDwClaim
public import proofs.«01_k».proof.Proof.Gen.HiDw.Frame
public import proofs.«01_k».proof.Proof.Gen.HiDwIdeal.Frame
public import proofs.«01_k».proof.Proof.HiDwClaim
public import proofs.«01_k».proof.Proof.Gen.OutDx.Frame
public import proofs.«01_k».proof.Proof.Gen.OutDxIdeal.Frame
public import proofs.«01_k».proof.Proof.OutDxClaim
public import proofs.«01_k».proof.Proof.Gen.OutDw.Frame
public import proofs.«01_k».proof.Proof.Gen.OutDwIdeal.Frame
public import proofs.«01_k».proof.Proof.OutDwClaim
public import proofs.«01_k».proof.Proof.Gen.DilDx.Frame
public import proofs.«01_k».proof.Proof.Gen.DilDxIdeal.Frame
public import proofs.«01_k».proof.Proof.DilDxClaim
public import proofs.«01_k».proof.Proof.Gen.DilDw.Frame
public import proofs.«01_k».proof.Proof.Gen.DilDwIdeal.Frame
public import proofs.«01_k».proof.Proof.DilDwClaim
public import proofs.«01_k».proof.Proof.Gen.MixDx.Frame
public import proofs.«01_k».proof.Proof.Gen.MixDxIdeal.Frame
public import proofs.«01_k».proof.Proof.MixDxClaim
public import proofs.«01_k».proof.Proof.Gen.StickDw.Frame
public import proofs.«01_k».proof.Proof.Gen.StickDwIdeal.Frame
public import proofs.«01_k».proof.Proof.StickDwClaim
public import proofs.«01_k».proof.Proof.Gen.RetDw.Frame
public import proofs.«01_k».proof.Proof.Gen.RetDwIdeal.Frame
public import proofs.«01_k».proof.Proof.RetDwClaim
public import proofs.«01_k».proof.Proof.Gen.Lo.Frame
public import proofs.«01_k».proof.Proof.Gen.LoIdeal.Frame
public import proofs.«01_k».proof.Proof.LoClaim
public import proofs.«01_k».proof.Proof.Gen.Hi.Frame
public import proofs.«01_k».proof.Proof.Gen.HiIdeal.Frame
public import proofs.«01_k».proof.Proof.HiClaim
public import proofs.«01_k».proof.Proof.Gen.Up.Frame
public import proofs.«01_k».proof.Proof.Gen.UpIdeal.Frame
public import proofs.«01_k».proof.Proof.UpClaim
public import proofs.«01_k».proof.Proof.Gen.Down.Frame
public import proofs.«01_k».proof.Proof.Gen.DownIdeal.Frame
public import proofs.«01_k».proof.Proof.DownClaim
public import proofs.«01_k».proof.Proof.Gen.Out.Frame
public import proofs.«01_k».proof.Proof.Gen.OutIdeal.Frame
public import proofs.«01_k».proof.Proof.OutClaim
public import proofs.«01_k».proof.Proof.Gen.Dil.Frame
public import proofs.«01_k».proof.Proof.Gen.DilIdeal.Frame
public import proofs.«01_k».proof.Proof.DilClaim
public import proofs.«01_k».proof.Proof.Gen.Stick.Frame
public import proofs.«01_k».proof.Proof.Gen.StickIdeal.Frame
public import proofs.«01_k».proof.Proof.StickClaim
public import proofs.«01_k».proof.Proof.Gen.Ret.Frame
public import proofs.«01_k».proof.Proof.Gen.RetIdeal.Frame
public import proofs.«01_k».proof.Proof.RetClaim
public import proofs.«01_k».proof.Proof.Gen.Sbf.Frame
public import proofs.«01_k».proof.Proof.Gen.SbfIdeal.Frame
public import proofs.«01_k».proof.Proof.SbfClaim
public import proofs.«01_k».proof.Proof.Gen.AdRel.Frame
public import proofs.«01_k».proof.Proof.Gen.AdRelIdeal.Frame
public import proofs.«01_k».proof.Proof.AdRelClaim
public import proofs.«01_k».proof.Proof.Gen.AdNorm.Frame
public import proofs.«01_k».proof.Proof.Gen.AdNormIdeal.Frame
public import proofs.«01_k».proof.Proof.AdNormClaim
public import proofs.«01_k».proof.Proof.Gen.AdIn.Frame
public import proofs.«01_k».proof.Proof.Gen.AdInIdeal.Frame
public import proofs.«01_k».proof.Proof.AdInClaim
public import proofs.«01_k».proof.Proof.Gen.AdGate.Frame
public import proofs.«01_k».proof.Proof.Gen.AdGateIdeal.Frame
public import proofs.«01_k».proof.Proof.AdGateClaim
public import proofs.«01_k».proof.Proof.Gen.AdRet.Frame
public import proofs.«01_k».proof.Proof.Gen.AdRetIdeal.Frame
public import proofs.«01_k».proof.Proof.AdRetClaim
public import proofs.«01_k».proof.Proof.Gen.AdDil.Frame
public import proofs.«01_k».proof.Proof.Gen.AdDilIdeal.Frame
public import proofs.«01_k».proof.Proof.AdDilClaim
public import proofs.«01_k».proof.Proof.Gen.AdMix.Frame
public import proofs.«01_k».proof.Proof.Gen.AdMixIdeal.Frame
public import proofs.«01_k».proof.Proof.AdMixClaim
public import proofs.«01_k».proof.Proof.Gen.AdOut.Frame
public import proofs.«01_k».proof.Proof.Gen.AdOutIdeal.Frame
public import proofs.«01_k».proof.Proof.AdOutClaim
public import proofs.«01_k».proof.Proof.Gen.AdUp.Frame
public import proofs.«01_k».proof.Proof.Gen.AdUpIdeal.Frame
public import proofs.«01_k».proof.Proof.AdUpClaim
public import proofs.«01_k».proof.Proof.Gen.AdTaps.Frame
public import proofs.«01_k».proof.Proof.Gen.AdTapsIdeal.Frame
public import proofs.«01_k».proof.Proof.AdTapsClaim
public import proofs.«01_k».proof.Proof.Gen.AdConv.Frame
public import proofs.«01_k».proof.Proof.Gen.AdConvIdeal.Frame
public import proofs.«01_k».proof.Proof.AdConvClaim
public import proofs.«01_k».proof.Proof.Gen.AdDown.Frame
public import proofs.«01_k».proof.Proof.Gen.AdDownIdeal.Frame
public import proofs.«01_k».proof.Proof.AdDownClaim
public import proofs.«01_k».proof.Proof.Gen.AdFinal.Frame
public import proofs.«01_k».proof.Proof.Gen.AdFinalIdeal.Frame
public import proofs.«01_k».proof.Proof.AdFinalClaim
public import proofs.«01_k».proof.Proof.Gen.SumBig.Frame
public import proofs.«01_k».proof.Proof.Gen.SumBigIdeal.Frame
public import proofs.«01_k».proof.Proof.SumBigClaim
public import proofs.«01_k».proof.Proof.Gen.SumSmall.Frame
public import proofs.«01_k».proof.Proof.Gen.SumSmallIdeal.Frame
public import proofs.«01_k».proof.Proof.SumSmallClaim
public import proofs.«01_k».proof.Proof.Gen.Rms.Frame
public import proofs.«01_k».proof.Proof.Gen.RmsIdeal.Frame
public import proofs.«01_k».proof.Proof.RmsClaim
public import proofs.«01_k».proof.Proof.Gen.Loss.Frame
public import proofs.«01_k».proof.Proof.Gen.LossIdeal.Frame
public import proofs.«01_k».proof.Proof.LossClaim
public import proofs.«01_k».proof.Proof.Gen.RmsFwd.Frame
public import proofs.«01_k».proof.Proof.Gen.RmsFwdIdeal.Frame
public import proofs.«01_k».proof.Proof.RmsFwdClaim
public import proofs.«01_k».proof.Proof.Gen.GateFwd.Frame
public import proofs.«01_k».proof.Proof.Gen.GateFwdIdeal.Frame
public import proofs.«01_k».proof.Proof.GateFwdClaim
public import proofs.«01_k».proof.Proof.Gen.Ffn.Frame
public import proofs.«01_k».proof.Proof.Gen.FfnIdeal.Frame
public import proofs.«01_k».proof.Proof.FfnClaim
public import proofs.«01_k».proof.Proof.Gen.ConvDx.Frame
public import proofs.«01_k».proof.Proof.Gen.ConvDxIdeal.Frame
public import proofs.«01_k».proof.Proof.ConvDxClaim
public import proofs.«01_k».proof.Proof.Gen.FfnBack.Frame
public import proofs.«01_k».proof.Proof.Gen.FfnBackIdeal.Frame
public import proofs.«01_k».proof.Proof.FfnBackClaim

@[expose] public section

noncomputable section

namespace Cert.Proof

open Idealize.ShloMosaic Idealize.SL.Sem Cert.Gate

/-- Every claim. -/
theorem claim : Cert.Claim := ⟨Cert.Gate.Gen.facts,
  Cert.GateIdeal.Gen.facts,
  Cert.GateRefIdeal.Gen.facts,
  Cert.DownDx.Gen.facts,
  Cert.DownDxIdeal.Gen.facts,
  Cert.DownDxRefIdeal.Gen.facts,
  Cert.DownDw.Gen.facts,
  Cert.DownDwIdeal.Gen.facts,
  Cert.DownDwRefIdeal.Gen.facts,
  Cert.UpDx.Gen.facts,
  Cert.UpDxIdeal.Gen.facts,
  Cert.UpDxRefIdeal.Gen.facts,
  Cert.GateDx.Gen.facts,
  Cert.GateDxIdeal.Gen.facts,
  Cert.GateDxRefIdeal.Gen.facts,
  Cert.UpDw.Gen.facts,
  Cert.UpDwIdeal.Gen.facts,
  Cert.UpDwRefIdeal.Gen.facts,
  Cert.LoDx.Gen.facts,
  Cert.LoDxIdeal.Gen.facts,
  Cert.LoDxRefIdeal.Gen.facts,
  Cert.HiDx.Gen.facts,
  Cert.HiDxIdeal.Gen.facts,
  Cert.HiDxRefIdeal.Gen.facts,
  Cert.LoDw.Gen.facts,
  Cert.LoDwIdeal.Gen.facts,
  Cert.LoDwRefIdeal.Gen.facts,
  Cert.HiDw.Gen.facts,
  Cert.HiDwIdeal.Gen.facts,
  Cert.HiDwRefIdeal.Gen.facts,
  Cert.OutDx.Gen.facts,
  Cert.OutDxIdeal.Gen.facts,
  Cert.OutDxRefIdeal.Gen.facts,
  Cert.OutDw.Gen.facts,
  Cert.OutDwIdeal.Gen.facts,
  Cert.OutDwRefIdeal.Gen.facts,
  Cert.DilDx.Gen.facts,
  Cert.DilDxIdeal.Gen.facts,
  Cert.DilDxRefIdeal.Gen.facts,
  Cert.DilDw.Gen.facts,
  Cert.DilDwIdeal.Gen.facts,
  Cert.DilDwRefIdeal.Gen.facts,
  Cert.MixDx.Gen.facts,
  Cert.MixDxIdeal.Gen.facts,
  Cert.MixDxRefIdeal.Gen.facts,
  Cert.StickDw.Gen.facts,
  Cert.StickDwIdeal.Gen.facts,
  Cert.StickDwRefIdeal.Gen.facts,
  Cert.RetDw.Gen.facts,
  Cert.RetDwIdeal.Gen.facts,
  Cert.RetDwRefIdeal.Gen.facts,
  Cert.Lo.Gen.facts,
  Cert.LoIdeal.Gen.facts,
  Cert.LoRefIdeal.Gen.facts,
  Cert.Hi.Gen.facts,
  Cert.HiIdeal.Gen.facts,
  Cert.HiRefIdeal.Gen.facts,
  Cert.Up.Gen.facts,
  Cert.UpIdeal.Gen.facts,
  Cert.UpRefIdeal.Gen.facts,
  Cert.Down.Gen.facts,
  Cert.DownIdeal.Gen.facts,
  Cert.DownRefIdeal.Gen.facts,
  Cert.Out.Gen.facts,
  Cert.OutIdeal.Gen.facts,
  Cert.OutRefIdeal.Gen.facts,
  Cert.Dil.Gen.facts,
  Cert.DilIdeal.Gen.facts,
  Cert.DilRefIdeal.Gen.facts,
  Cert.Stick.Gen.facts,
  Cert.StickIdeal.Gen.facts,
  Cert.StickRefIdeal.Gen.facts,
  Cert.Ret.Gen.facts,
  Cert.RetIdeal.Gen.facts,
  Cert.RetRefIdeal.Gen.facts,
  Cert.Sbf.Gen.facts,
  Cert.SbfIdeal.Gen.facts,
  Cert.SbfRefIdeal.Gen.facts,
  Cert.AdRel.Gen.facts,
  Cert.AdRelIdeal.Gen.facts,
  Cert.AdRelRefIdeal.Gen.facts,
  Cert.AdNorm.Gen.facts,
  Cert.AdNormIdeal.Gen.facts,
  Cert.AdNormRefIdeal.Gen.facts,
  Cert.AdIn.Gen.facts,
  Cert.AdInIdeal.Gen.facts,
  Cert.AdInRefIdeal.Gen.facts,
  Cert.AdGate.Gen.facts,
  Cert.AdGateIdeal.Gen.facts,
  Cert.AdGateRefIdeal.Gen.facts,
  Cert.AdRet.Gen.facts,
  Cert.AdRetIdeal.Gen.facts,
  Cert.AdRetRefIdeal.Gen.facts,
  Cert.AdDil.Gen.facts,
  Cert.AdDilIdeal.Gen.facts,
  Cert.AdDilRefIdeal.Gen.facts,
  Cert.AdMix.Gen.facts,
  Cert.AdMixIdeal.Gen.facts,
  Cert.AdMixRefIdeal.Gen.facts,
  Cert.AdOut.Gen.facts,
  Cert.AdOutIdeal.Gen.facts,
  Cert.AdOutRefIdeal.Gen.facts,
  Cert.AdUp.Gen.facts,
  Cert.AdUpIdeal.Gen.facts,
  Cert.AdUpRefIdeal.Gen.facts,
  Cert.AdTaps.Gen.facts,
  Cert.AdTapsIdeal.Gen.facts,
  Cert.AdTapsRefIdeal.Gen.facts,
  Cert.AdConv.Gen.facts,
  Cert.AdConvIdeal.Gen.facts,
  Cert.AdConvRefIdeal.Gen.facts,
  Cert.AdDown.Gen.facts,
  Cert.AdDownIdeal.Gen.facts,
  Cert.AdDownRefIdeal.Gen.facts,
  Cert.AdFinal.Gen.facts,
  Cert.AdFinalIdeal.Gen.facts,
  Cert.AdFinalRefIdeal.Gen.facts,
  Cert.SumBig.Gen.facts,
  Cert.SumBigIdeal.Gen.facts,
  Cert.SumBigRefIdeal.Gen.facts,
  Cert.SumSmall.Gen.facts,
  Cert.SumSmallIdeal.Gen.facts,
  Cert.SumSmallRefIdeal.Gen.facts,
  Cert.Rms.Gen.facts,
  Cert.RmsIdeal.Gen.facts,
  Cert.RmsRefIdeal.Gen.facts,
  Cert.Loss.Gen.facts,
  Cert.LossIdeal.Gen.facts,
  Cert.LossRefIdeal.Gen.facts,
  Cert.RmsFwd.Gen.facts,
  Cert.RmsFwdIdeal.Gen.facts,
  Cert.RmsFwdRefIdeal.Gen.facts,
  Cert.GateFwd.Gen.facts,
  Cert.GateFwdIdeal.Gen.facts,
  Cert.GateFwdRefIdeal.Gen.facts,
  Cert.Ffn.Gen.facts,
  Cert.FfnIdeal.Gen.facts,
  Cert.FfnRefIdeal.Gen.facts,
  Cert.ConvDx.Gen.facts,
  Cert.ConvDxIdeal.Gen.facts,
  Cert.ConvDxRefIdeal.Gen.facts,
  Cert.FfnBack.Gen.facts,
  Cert.FfnBackIdeal.Gen.facts,
  Cert.FfnBackRefIdeal.Gen.facts,
  fun m g _ => Cert.Gate.Gen.frame m g,
  fun m g _ => Cert.GateIdeal.Gen.frame m g,
  frame_GateRefIdeal,
  fun m g _ => Cert.DownDx.Gen.frame m g,
  fun m g _ => Cert.DownDxIdeal.Gen.frame m g,
  frame_DownDxRefIdeal,
  fun m g _ => Cert.DownDw.Gen.frame m g,
  fun m g _ => Cert.DownDwIdeal.Gen.frame m g,
  frame_DownDwRefIdeal,
  fun m g _ => Cert.UpDx.Gen.frame m g,
  fun m g _ => Cert.UpDxIdeal.Gen.frame m g,
  frame_UpDxRefIdeal,
  fun m g _ => Cert.GateDx.Gen.frame m g,
  fun m g _ => Cert.GateDxIdeal.Gen.frame m g,
  frame_GateDxRefIdeal,
  fun m g _ => Cert.UpDw.Gen.frame m g,
  fun m g _ => Cert.UpDwIdeal.Gen.frame m g,
  frame_UpDwRefIdeal,
  fun m g _ => Cert.LoDx.Gen.frame m g,
  fun m g _ => Cert.LoDxIdeal.Gen.frame m g,
  frame_LoDxRefIdeal,
  fun m g _ => Cert.HiDx.Gen.frame m g,
  fun m g _ => Cert.HiDxIdeal.Gen.frame m g,
  frame_HiDxRefIdeal,
  fun m g _ => Cert.LoDw.Gen.frame m g,
  fun m g _ => Cert.LoDwIdeal.Gen.frame m g,
  frame_LoDwRefIdeal,
  fun m g _ => Cert.HiDw.Gen.frame m g,
  fun m g _ => Cert.HiDwIdeal.Gen.frame m g,
  frame_HiDwRefIdeal,
  fun m g _ => Cert.OutDx.Gen.frame m g,
  fun m g _ => Cert.OutDxIdeal.Gen.frame m g,
  frame_OutDxRefIdeal,
  fun m g _ => Cert.OutDw.Gen.frame m g,
  fun m g _ => Cert.OutDwIdeal.Gen.frame m g,
  frame_OutDwRefIdeal,
  fun m g _ => Cert.DilDx.Gen.frame m g,
  fun m g _ => Cert.DilDxIdeal.Gen.frame m g,
  frame_DilDxRefIdeal,
  fun m g _ => Cert.DilDw.Gen.frame m g,
  fun m g _ => Cert.DilDwIdeal.Gen.frame m g,
  frame_DilDwRefIdeal,
  fun m g _ => Cert.MixDx.Gen.frame m g,
  fun m g _ => Cert.MixDxIdeal.Gen.frame m g,
  frame_MixDxRefIdeal,
  fun m g _ => Cert.StickDw.Gen.frame m g,
  fun m g _ => Cert.StickDwIdeal.Gen.frame m g,
  frame_StickDwRefIdeal,
  fun m g _ => Cert.RetDw.Gen.frame m g,
  fun m g _ => Cert.RetDwIdeal.Gen.frame m g,
  frame_RetDwRefIdeal,
  fun m g _ => Cert.Lo.Gen.frame m g,
  fun m g _ => Cert.LoIdeal.Gen.frame m g,
  frame_LoRefIdeal,
  fun m g _ => Cert.Hi.Gen.frame m g,
  fun m g _ => Cert.HiIdeal.Gen.frame m g,
  frame_HiRefIdeal,
  fun m g _ => Cert.Up.Gen.frame m g,
  fun m g _ => Cert.UpIdeal.Gen.frame m g,
  frame_UpRefIdeal,
  fun m g _ => Cert.Down.Gen.frame m g,
  fun m g _ => Cert.DownIdeal.Gen.frame m g,
  frame_DownRefIdeal,
  fun m g _ => Cert.Out.Gen.frame m g,
  fun m g _ => Cert.OutIdeal.Gen.frame m g,
  frame_OutRefIdeal,
  fun m g _ => Cert.Dil.Gen.frame m g,
  fun m g _ => Cert.DilIdeal.Gen.frame m g,
  frame_DilRefIdeal,
  fun m g _ => Cert.Stick.Gen.frame m g,
  fun m g _ => Cert.StickIdeal.Gen.frame m g,
  frame_StickRefIdeal,
  fun m g _ => Cert.Ret.Gen.frame m g,
  fun m g _ => Cert.RetIdeal.Gen.frame m g,
  frame_RetRefIdeal,
  fun m g _ => Cert.Sbf.Gen.frame m g,
  fun m g _ => Cert.SbfIdeal.Gen.frame m g,
  frame_SbfRefIdeal,
  fun m g _ => Cert.AdRel.Gen.frame m g,
  fun m g _ => Cert.AdRelIdeal.Gen.frame m g,
  frame_AdRelRefIdeal,
  fun m g _ => Cert.AdNorm.Gen.frame m g,
  fun m g _ => Cert.AdNormIdeal.Gen.frame m g,
  frame_AdNormRefIdeal,
  fun m g _ => Cert.AdIn.Gen.frame m g,
  fun m g _ => Cert.AdInIdeal.Gen.frame m g,
  frame_AdInRefIdeal,
  fun m g _ => Cert.AdGate.Gen.frame m g,
  fun m g _ => Cert.AdGateIdeal.Gen.frame m g,
  frame_AdGateRefIdeal,
  fun m g _ => Cert.AdRet.Gen.frame m g,
  fun m g _ => Cert.AdRetIdeal.Gen.frame m g,
  frame_AdRetRefIdeal,
  fun m g _ => Cert.AdDil.Gen.frame m g,
  fun m g _ => Cert.AdDilIdeal.Gen.frame m g,
  frame_AdDilRefIdeal,
  fun m g _ => Cert.AdMix.Gen.frame m g,
  fun m g _ => Cert.AdMixIdeal.Gen.frame m g,
  frame_AdMixRefIdeal,
  fun m g _ => Cert.AdOut.Gen.frame m g,
  fun m g _ => Cert.AdOutIdeal.Gen.frame m g,
  frame_AdOutRefIdeal,
  fun m g _ => Cert.AdUp.Gen.frame m g,
  fun m g _ => Cert.AdUpIdeal.Gen.frame m g,
  frame_AdUpRefIdeal,
  fun m g _ => Cert.AdTaps.Gen.frame m g,
  fun m g _ => Cert.AdTapsIdeal.Gen.frame m g,
  frame_AdTapsRefIdeal,
  fun m g _ => Cert.AdConv.Gen.frame m g,
  fun m g _ => Cert.AdConvIdeal.Gen.frame m g,
  frame_AdConvRefIdeal,
  fun m g _ => Cert.AdDown.Gen.frame m g,
  fun m g _ => Cert.AdDownIdeal.Gen.frame m g,
  frame_AdDownRefIdeal,
  fun m g _ => Cert.AdFinal.Gen.frame m g,
  fun m g _ => Cert.AdFinalIdeal.Gen.frame m g,
  frame_AdFinalRefIdeal,
  fun m g _ => Cert.SumBig.Gen.frame m g,
  fun m g _ => Cert.SumBigIdeal.Gen.frame m g,
  frame_SumBigRefIdeal,
  fun m g _ => Cert.SumSmall.Gen.frame m g,
  fun m g _ => Cert.SumSmallIdeal.Gen.frame m g,
  frame_SumSmallRefIdeal,
  fun m g _ => Cert.Rms.Gen.frame m g,
  fun m g _ => Cert.RmsIdeal.Gen.frame m g,
  frame_RmsRefIdeal,
  fun m g _ => Cert.Loss.Gen.frame m g,
  fun m g _ => Cert.LossIdeal.Gen.frame m g,
  frame_LossRefIdeal,
  fun m g _ => Cert.RmsFwd.Gen.frame m g,
  fun m g _ => Cert.RmsFwdIdeal.Gen.frame m g,
  frame_RmsFwdRefIdeal,
  fun m g _ => Cert.GateFwd.Gen.frame m g,
  fun m g _ => Cert.GateFwdIdeal.Gen.frame m g,
  frame_GateFwdRefIdeal,
  fun m g _ => Cert.Ffn.Gen.frame m g,
  fun m g _ => Cert.FfnIdeal.Gen.frame m g,
  frame_FfnRefIdeal,
  fun m g _ => Cert.ConvDx.Gen.frame m g,
  fun m g _ => Cert.ConvDxIdeal.Gen.frame m g,
  frame_ConvDxRefIdeal,
  fun m g _ => Cert.FfnBack.Gen.frame m g,
  fun m g _ => Cert.FfnBackIdeal.Gen.frame m g,
  frame_FfnBackRefIdeal,
  trivial,
  value_Gate,
  trivial,
  value_DownDx,
  trivial,
  value_DownDw,
  trivial,
  value_UpDx,
  trivial,
  value_GateDx,
  trivial,
  value_UpDw,
  trivial,
  value_LoDx,
  trivial,
  value_HiDx,
  trivial,
  value_LoDw,
  trivial,
  value_HiDw,
  trivial,
  value_OutDx,
  trivial,
  value_OutDw,
  trivial,
  value_DilDx,
  trivial,
  value_DilDw,
  trivial,
  value_MixDx,
  trivial,
  value_StickDw,
  trivial,
  value_RetDw,
  trivial,
  value_Lo,
  trivial,
  value_Hi,
  trivial,
  value_Up,
  trivial,
  value_Down,
  trivial,
  value_Out,
  trivial,
  value_Dil,
  trivial,
  value_Stick,
  trivial,
  value_Ret,
  preserves_Sbf,
  value_Sbf,
  trivial,
  value_AdRel,
  trivial,
  value_AdNorm,
  trivial,
  value_AdIn,
  trivial,
  value_AdGate,
  trivial,
  value_AdRet,
  trivial,
  value_AdDil,
  trivial,
  value_AdMix,
  trivial,
  value_AdOut,
  trivial,
  value_AdUp,
  trivial,
  value_AdTaps,
  trivial,
  value_AdConv,
  trivial,
  value_AdDown,
  trivial,
  value_AdFinal,
  trivial,
  value_SumBig,
  trivial,
  value_SumSmall,
  trivial,
  value_Rms,
  trivial,
  value_Loss,
  trivial,
  value_RmsFwd,
  trivial,
  value_GateFwd,
  trivial,
  value_Ffn,
  trivial,
  value_ConvDx,
  trivial,
  value_FfnBack⟩

end Cert.Proof

end
